-- ==== Defs.lean ====
def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4))) = (fun _ => 1#1)

def Pre_InprojBwd (m : (ℓ : Loc Cert.InprojBwd.nD Cert.InprojBwd.τ Cert.InprojBwd.sig) → Buf (Elt Bits) ℓ) : Prop :=
  True

def Pre_InprojBwdIdeal (m : (ℓ : Loc Cert.InprojBwdIdeal.nD Cert.InprojBwdIdeal.τ Cert.InprojBwdIdeal.sig) → Buf (Elt Ideal) ℓ) : Prop :=
  True

def Pre_InprojBwdIdeal_inproj_finite [hPre_inproj_finite : Cert.Pre_inproj_finite.Facts] (m : (ℓ : Loc Cert.InprojBwdIdeal.nD Cert.InprojBwdIdeal.τ Cert.InprojBwdIdeal.sig) → Buf (Elt Ideal) ℓ) : Prop :=
  ∀ c : Dev Cert.InprojBwdIdeal.nD,
    (Cert.Pre_inproj_finite.fn (F := Ideal) (m ((c.tc : Thread Cert.InprojBwdIdeal.nD Cert.InprojBwdIdeal.τ).loc Cert.InprojBwdIdeal.main_arg0)) (m ((c.tc : Thread Cert.InprojBwdIdeal.nD Cert.InprojBwdIdeal.τ).loc Cert.InprojBwdIdeal.main_arg1)) (m ((c.tc : Thread Cert.InprojBwdIdeal.nD Cert.InprojBwdIdeal.τ).loc Cert.InprojBwdIdeal.main_arg2)) (m ((c.tc : Thread Cert.InprojBwdIdeal.nD Cert.InprojBwdIdeal.τ).loc Cert.InprojBwdIdeal.main_arg3)) (m ((c.tc : Thread Cert.InprojBwdIdeal.nD Cert.InprojBwdIdeal.τ).loc Cert.InprojBwdIdeal.main_arg4)) (m ((c.tc : Thread Cert.InprojBwdIdeal.nD Cert.InprojBwdIdeal.τ).loc Cert.InprojBwdIdeal.main_arg5))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_inproj_finite [hPre_inproj_finite : Cert.Pre_inproj_finite.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_inproj_finite.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5))) = (fun _ => 1#1)

def Pre_FfninBwd (m : (ℓ : Loc Cert.FfninBwd.nD Cert.FfninBwd.τ Cert.FfninBwd.sig) → Buf (Elt Bits) ℓ) : Prop :=
  True

def Pre_FfninBwdIdeal (m : (ℓ : Loc Cert.FfninBwdIdeal.nD Cert.FfninBwdIdeal.τ Cert.FfninBwdIdeal.sig) → Buf (Elt Ideal) ℓ) : Prop :=
  True

def Pre_FfninBwdIdeal_ffnin_finite [hPre_ffnin_finite : Cert.Pre_ffnin_finite.Facts] (m : (ℓ : Loc Cert.FfninBwdIdeal.nD Cert.FfninBwdIdeal.τ Cert.FfninBwdIdeal.sig) → Buf (Elt Ideal) ℓ) : Prop :=
  ∀ c : Dev Cert.FfninBwdIdeal.nD,
    (Cert.Pre_ffnin_finite.fn (F := Ideal) (m ((c.tc : Thread Cert.FfninBwdIdeal.nD Cert.FfninBwdIdeal.τ).loc Cert.FfninBwdIdeal.main_arg0)) (m ((c.tc : Thread Cert.FfninBwdIdeal.nD Cert.FfninBwdIdeal.τ).loc Cert.FfninBwdIdeal.main_arg1)) (m ((c.tc : Thread Cert.FfninBwdIdeal.nD Cert.FfninBwdIdeal.τ).loc Cert.FfninBwdIdeal.main_arg2)) (m ((c.tc : Thread Cert.FfninBwdIdeal.nD Cert.FfninBwdIdeal.τ).loc Cert.FfninBwdIdeal.main_arg3)) (m ((c.tc : Thread Cert.FfninBwdIdeal.nD Cert.FfninBwdIdeal.τ).loc Cert.FfninBwdIdeal.main_arg4)) (m ((c.tc : Thread Cert.FfninBwdIdeal.nD Cert.FfninBwdIdeal.τ).loc Cert.FfninBwdIdeal.main_arg5))) = (fun _ => 1#1)

def Pre_FfninRefIdeal (m : (ℓ : Loc Cert.FfninRefIdeal.nD Cert.FfninRefIdeal.τ Cert.FfninRefIdeal.sig) → Buf (Elt Ideal) ℓ) : Prop :=
  True

def Pre_FfninRefIdeal_ffnin_finite [hPre_ffnin_finite : Cert.Pre_ffnin_finite.Facts] (m : (ℓ : Loc Cert.FfninRefIdeal.nD Cert.FfninRefIdeal.τ Cert.FfninRefIdeal.sig) → Buf (Elt Ideal) ℓ) : Prop :=
  ∀ c : Dev Cert.FfninRefIdeal.nD,
    (Cert.Pre_ffnin_finite.fn (F := Ideal) (m ((c.tc : Thread Cert.FfninRefIdeal.nD Cert.FfninRefIdeal.τ).loc Cert.FfninRefIdeal.main_arg0)) (m ((c.tc : Thread Cert.FfninRefIdeal.nD Cert.FfninRefIdeal.τ).loc Cert.FfninRefIdeal.main_arg1)) (m ((c.tc : Thread Cert.FfninRefIdeal.nD Cert.FfninRefIdeal.τ).loc Cert.FfninRefIdeal.main_arg2)) (m ((c.tc : Thread Cert.FfninRefIdeal.nD Cert.FfninRefIdeal.τ).loc Cert.FfninRefIdeal.main_arg3)) (m ((c.tc : Thread Cert.FfninRefIdeal.nD Cert.FfninRefIdeal.τ).loc Cert.FfninRefIdeal.main_arg4)) (m ((c.tc : Thread Cert.FfninRefIdeal.nD Cert.FfninRefIdeal.τ).loc Cert.FfninRefIdeal.main_arg5))) = (fun _ => 1#1)

def Pre_OutprojBwd (m : (ℓ : Loc Cert.OutprojBwd.nD Cert.OutprojBwd.τ Cert.OutprojBwd.sig) → Buf (Elt Bits) ℓ) : Prop :=
  True

def Pre_OutprojBwdIdeal (m : (ℓ : Loc Cert.OutprojBwdIdeal.nD Cert.OutprojBwdIdeal.τ Cert.OutprojBwdIdeal.sig) → Buf (Elt Ideal) ℓ) : Prop :=
  True

def Pre_OutprojBwdIdeal_outproj_finite [hPre_outproj_finite : Cert.Pre_outproj_finite.Facts] (m : (ℓ : Loc Cert.OutprojBwdIdeal.nD Cert.OutprojBwdIdeal.τ Cert.OutprojBwdIdeal.sig) → Buf (Elt Ideal) ℓ) : Prop :=
  ∀ c : Dev Cert.OutprojBwdIdeal.nD,
    (Cert.Pre_outproj_finite.fn (F := Ideal) (m ((c.tc : Thread Cert.OutprojBwdIdeal.nD Cert.OutprojBwdIdeal.τ).loc Cert.OutprojBwdIdeal.main_arg0)) (m ((c.tc : Thread Cert.OutprojBwdIdeal.nD Cert.OutprojBwdIdeal.τ).loc Cert.OutprojBwdIdeal.main_arg1)) (m ((c.tc : Thread Cert.OutprojBwdIdeal.nD Cert.OutprojBwdIdeal.τ).loc Cert.OutprojBwdIdeal.main_arg2)) (m ((c.tc : Thread Cert.OutprojBwdIdeal.nD Cert.OutprojBwdIdeal.τ).loc Cert.OutprojBwdIdeal.main_arg3)) (m ((c.tc : Thread Cert.OutprojBwdIdeal.nD Cert.OutprojBwdIdeal.τ).loc Cert.OutprojBwdIdeal.main_arg4)) (m ((c.tc : Thread Cert.OutprojBwdIdeal.nD Cert.OutprojBwdIdeal.τ).loc Cert.OutprojBwdIdeal.main_arg5)) (m ((c.tc : Thread Cert.OutprojBwdIdeal.nD Cert.OutprojBwdIdeal.τ).loc Cert.OutprojBwdIdeal.main_arg6)) (m ((c.tc : Thread Cert.OutprojBwdIdeal.nD Cert.OutprojBwdIdeal.τ).loc Cert.OutprojBwdIdeal.main_arg7))) = (fun _ => 1#1)

def Pre_OutprojRefIdeal (m : (ℓ : Loc Cert.OutprojRefIdeal.nD Cert.OutprojRefIdeal.τ Cert.OutprojRefIdeal.sig) → Buf (Elt Ideal) ℓ) : Prop :=
  True

def Pre_OutprojRefIdeal_outproj_finite [hPre_outproj_finite : Cert.Pre_outproj_finite.Facts] (m : (ℓ : Loc Cert.OutprojRefIdeal.nD Cert.OutprojRefIdeal.τ Cert.OutprojRefIdeal.sig) → Buf (Elt Ideal) ℓ) : Prop :=
  ∀ c : Dev Cert.OutprojRefIdeal.nD,
    (Cert.Pre_outproj_finite.fn (F := Ideal) (m ((c.tc : Thread Cert.OutprojRefIdeal.nD Cert.OutprojRefIdeal.τ).loc Cert.OutprojRefIdeal.main_arg0)) (m ((c.tc : Thread Cert.OutprojRefIdeal.nD Cert.OutprojRefIdeal.τ).loc Cert.OutprojRefIdeal.main_arg1)) (m ((c.tc : Thread Cert.OutprojRefIdeal.nD Cert.OutprojRefIdeal.τ).loc Cert.OutprojRefIdeal.main_arg2)) (m ((c.tc : Thread Cert.OutprojRefIdeal.nD Cert.OutprojRefIdeal.τ).loc Cert.OutprojRefIdeal.main_arg3)) (m ((c.tc : Thread Cert.OutprojRefIdeal.nD Cert.OutprojRefIdeal.τ).loc Cert.OutprojRefIdeal.main_arg4)) (m ((c.tc : Thread Cert.OutprojRefIdeal.nD Cert.OutprojRefIdeal.τ).loc Cert.OutprojRefIdeal.main_arg5)) (m ((c.tc : Thread Cert.OutprojRefIdeal.nD Cert.OutprojRefIdeal.τ).loc Cert.OutprojRefIdeal.main_arg6)) (m ((c.tc : Thread Cert.OutprojRefIdeal.nD Cert.OutprojRefIdeal.τ).loc Cert.OutprojRefIdeal.main_arg7))) = (fun _ => 1#1)

def Pre_Stage2Bwd (m : (ℓ : Loc Cert.Stage2Bwd.nD Cert.Stage2Bwd.τ Cert.Stage2Bwd.sig) → Buf (Elt Bits) ℓ) : Prop :=
  True

def Pre_Stage2BwdIdeal (m : (ℓ : Loc Cert.Stage2BwdIdeal.nD Cert.Stage2BwdIdeal.τ Cert.Stage2BwdIdeal.sig) → Buf (Elt Ideal) ℓ) : Prop :=
  True

def Pre_Stage2BwdIdeal_stage2_finite [hPre_stage2_finite : Cert.Pre_stage2_finite.Facts] (m : (ℓ : Loc Cert.Stage2BwdIdeal.nD Cert.Stage2BwdIdeal.τ Cert.Stage2BwdIdeal.sig) → Buf (Elt Ideal) ℓ) : Prop :=
  ∀ c : Dev Cert.Stage2BwdIdeal.nD,
    (Cert.Pre_stage2_finite.fn (F := Ideal) (m ((c.tc : Thread Cert.Stage2BwdIdeal.nD Cert.Stage2BwdIdeal.τ).loc Cert.Stage2BwdIdeal.main_arg0)) (m ((c.tc : Thread Cert.Stage2BwdIdeal.nD Cert.Stage2BwdIdeal.τ).loc Cert.Stage2BwdIdeal.main_arg1)) (m ((c.tc : Thread Cert.Stage2BwdIdeal.nD Cert.Stage2BwdIdeal.τ).loc Cert.Stage2BwdIdeal.main_arg2)) (m ((c.tc : Thread Cert.Stage2BwdIdeal.nD Cert.Stage2BwdIdeal.τ).loc Cert.Stage2BwdIdeal.main_arg3)) (m ((c.tc : Thread Cert.Stage2BwdIdeal.nD Cert.Stage2BwdIdeal.τ).loc Cert.Stage2BwdIdeal.main_arg4)) (m ((c.tc : Thread Cert.Stage2BwdIdeal.nD Cert.Stage2BwdIdeal.τ).loc Cert.Stage2BwdIdeal.main_arg5)) (m ((c.tc : Thread Cert.Stage2BwdIdeal.nD Cert.Stage2BwdIdeal.τ).loc Cert.Stage2BwdIdeal.main_arg6)) (m ((c.tc : Thread Cert.Stage2BwdIdeal.nD Cert.Stage2BwdIdeal.τ).loc Cert.Stage2BwdIdeal.main_arg7)) (m ((c.tc : Thread Cert.Stage2BwdIdeal.nD Cert.Stage2BwdIdeal.τ).loc Cert.Stage2BwdIdeal.main_arg8)) (m ((c.tc : Thread Cert.Stage2BwdIdeal.nD Cert.Stage2BwdIdeal.τ).loc Cert.Stage2BwdIdeal.main_arg9)) (m ((c.tc : Thread Cert.Stage2BwdIdeal.nD Cert.Stage2BwdIdeal.τ).loc Cert.Stage2BwdIdeal.main_arg10)) (m ((c.tc : Thread Cert.Stage2BwdIdeal.nD Cert.Stage2BwdIdeal.τ).loc Cert.Stage2BwdIdeal.main_arg11)) (m ((c.tc : Thread Cert.Stage2BwdIdeal.nD Cert.Stage2BwdIdeal.τ).loc Cert.Stage2BwdIdeal.main_arg12))) = (fun _ => 1#1)

def Pre_Stage2RefIdeal (m : (ℓ : Loc Cert.Stage2RefIdeal.nD Cert.Stage2RefIdeal.τ Cert.Stage2RefIdeal.sig) → Buf (Elt Ideal) ℓ) : Prop :=
  True

def Pre_Stage2RefIdeal_stage2_finite [hPre_stage2_finite : Cert.Pre_stage2_finite.Facts] (m : (ℓ : Loc Cert.Stage2RefIdeal.nD Cert.Stage2RefIdeal.τ Cert.Stage2RefIdeal.sig) → Buf (Elt Ideal) ℓ) : Prop :=
  ∀ c : Dev Cert.Stage2RefIdeal.nD,
    (Cert.Pre_stage2_finite.fn (F := Ideal) (m ((c.tc : Thread Cert.Stage2RefIdeal.nD Cert.Stage2RefIdeal.τ).loc Cert.Stage2RefIdeal.main_arg0)) (m ((c.tc : Thread Cert.Stage2RefIdeal.nD Cert.Stage2RefIdeal.τ).loc Cert.Stage2RefIdeal.main_arg1)) (m ((c.tc : Thread Cert.Stage2RefIdeal.nD Cert.Stage2RefIdeal.τ).loc Cert.Stage2RefIdeal.main_arg2)) (m ((c.tc : Thread Cert.Stage2RefIdeal.nD Cert.Stage2RefIdeal.τ).loc Cert.Stage2RefIdeal.main_arg3)) (m ((c.tc : Thread Cert.Stage2RefIdeal.nD Cert.Stage2RefIdeal.τ).loc Cert.Stage2RefIdeal.main_arg4)) (m ((c.tc : Thread Cert.Stage2RefIdeal.nD Cert.Stage2RefIdeal.τ).loc Cert.Stage2RefIdeal.main_arg5)) (m ((c.tc : Thread Cert.Stage2RefIdeal.nD Cert.Stage2RefIdeal.τ).loc Cert.Stage2RefIdeal.main_arg6)) (m ((c.tc : Thread Cert.Stage2RefIdeal.nD Cert.Stage2RefIdeal.τ).loc Cert.Stage2RefIdeal.main_arg7)) (m ((c.tc : Thread Cert.Stage2RefIdeal.nD Cert.Stage2RefIdeal.τ).loc Cert.Stage2RefIdeal.main_arg8)) (m ((c.tc : Thread Cert.Stage2RefIdeal.nD Cert.Stage2RefIdeal.τ).loc Cert.Stage2RefIdeal.main_arg9)) (m ((c.tc : Thread Cert.Stage2RefIdeal.nD Cert.Stage2RefIdeal.τ).loc Cert.Stage2RefIdeal.main_arg10)) (m ((c.tc : Thread Cert.Stage2RefIdeal.nD Cert.Stage2RefIdeal.τ).loc Cert.Stage2RefIdeal.main_arg11)) (m ((c.tc : Thread Cert.Stage2RefIdeal.nD Cert.Stage2RefIdeal.τ).loc Cert.Stage2RefIdeal.main_arg12))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormFf (m : (ℓ : Loc Cert.NormFf.nD Cert.NormFf.τ Cert.NormFf.sig) → Buf (Elt Bits) ℓ) : Prop :=
  True

def Pre_NormFfIdeal (m : (ℓ : Loc Cert.NormFfIdeal.nD Cert.NormFfIdeal.τ Cert.NormFfIdeal.sig) → Buf (Elt Ideal) ℓ) : Prop :=
  True

def Pre_NormFfRefIdeal (m : (ℓ : Loc Cert.NormFfRefIdeal.nD Cert.NormFfRefIdeal.τ Cert.NormFfRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_MixerRefIdeal (m : (ℓ : Loc Cert.MixerRefIdeal.nD Cert.MixerRefIdeal.τ Cert.MixerRefIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamLayer (m : (ℓ : Loc Cert.AdamLayer.nD Cert.AdamLayer.τ Cert.AdamLayer.sig) → Buf (Elt Bits) ℓ) : Prop :=
  True

def Pre_AdamLayerIdeal (m : (ℓ : Loc Cert.AdamLayerIdeal.nD Cert.AdamLayerIdeal.τ Cert.AdamLayerIdeal.sig) → Buf (Elt Ideal) ℓ) : Prop :=
  True

def Pre_AdamLayerRefIdeal (m : (ℓ : Loc Cert.AdamLayerRefIdeal.nD Cert.AdamLayerRefIdeal.τ Cert.AdamLayerRefIdeal.sig) → Buf (Elt Ideal) ℓ) : Prop :=
  True

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_Wgin (m : (ℓ : Loc Cert.Wgin.nD Cert.Wgin.τ Cert.Wgin.sig) → Buf (Elt Bits) ℓ) : Prop :=
  True

def Pre_WginIdeal (m : (ℓ : Loc Cert.WginIdeal.nD Cert.WginIdeal.τ Cert.WginIdeal.sig) → Buf (Elt Ideal) ℓ) : Prop :=
  True

def Pre_WginRefIdeal (m : (ℓ : Loc Cert.WginRefIdeal.nD Cert.WginRefIdeal.τ Cert.WginRefIdeal.sig) → Buf (Elt Ideal) ℓ) : Prop :=
  True

def Pre_ReduceSum (m : (ℓ : Loc Cert.ReduceSum.nD Cert.ReduceSum.τ Cert.ReduceSum.sig) → Buf (Elt Bits) ℓ) : Prop :=
  True

def Pre_ReduceSumIdeal (m : (ℓ : Loc Cert.ReduceSumIdeal.nD Cert.ReduceSumIdeal.τ Cert.ReduceSumIdeal.sig) → Buf (Elt Ideal) ℓ) : Prop :=
  True

def Pre_ReduceSumRefIdeal (m : (ℓ : Loc Cert.ReduceSumRefIdeal.nD Cert.ReduceSumRefIdeal.τ Cert.ReduceSumRefIdeal.sig) → Buf (Elt Ideal) ℓ) : Prop :=
  True

def Pre_PairAdd (m : (ℓ : Loc Cert.PairAdd.nD Cert.PairAdd.τ Cert.PairAdd.sig) → Buf (Elt Bits) ℓ) : Prop :=
  True

def Pre_PairAddIdeal (m : (ℓ : Loc Cert.PairAddIdeal.nD Cert.PairAddIdeal.τ Cert.PairAddIdeal.sig) → Buf (Elt Ideal) ℓ) : Prop :=
  True

def Pre_PairAddRefIdeal (m : (ℓ : Loc Cert.PairAddRefIdeal.nD Cert.PairAddRefIdeal.τ Cert.PairAddRefIdeal.sig) → Buf (Elt Ideal) ℓ) : Prop :=
  True

def Pre_ReduceAdam (m : (ℓ : Loc Cert.ReduceAdam.nD Cert.ReduceAdam.τ Cert.ReduceAdam.sig) → Buf (Elt Bits) ℓ) : Prop :=
  True

def Pre_ReduceAdamIdeal (m : (ℓ : Loc Cert.ReduceAdamIdeal.nD Cert.ReduceAdamIdeal.τ Cert.ReduceAdamIdeal.sig) → Buf (Elt Ideal) ℓ) : Prop :=
  True

def Pre_ReduceAdamRefIdeal (m : (ℓ : Loc Cert.ReduceAdamRefIdeal.nD Cert.ReduceAdamRefIdeal.τ Cert.ReduceAdamRefIdeal.sig) → Buf (Elt Ideal) ℓ) : Prop :=
  True

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_InprojBwd [hInprojBwd : Cert.InprojBwd.Facts] : Prop :=
  ∀ (m : (ℓ : Loc Cert.InprojBwd.nD Cert.InprojBwd.τ Cert.InprojBwd.sig) → Buf (Elt Bits) ℓ) (g : Dev Cert.InprojBwd.nD → PrngReg), Pre_InprojBwd m →
    θ_run (Cert.InprojBwd.defs (F := Bits)) (onTc (τ := Cert.InprojBwd.τ) (Cert.InprojBwd.main (F := Bits))) ⟨m, fun _ => 0, g⟩ (fun r => (∀ c : Dev Cert.InprojBwd.nD,
      r.2.mem ((c.tc : Thread Cert.InprojBwd.nD Cert.InprojBwd.τ).loc Cert.InprojBwd.main_arg0) = m ((c.tc : Thread Cert.InprojBwd.nD Cert.InprojBwd.τ).loc Cert.InprojBwd.main_arg0)
      ∧ r.2.mem ((c.tc : Thread Cert.InprojBwd.nD Cert.InprojBwd.τ).loc Cert.InprojBwd.main_arg1) = m ((c.tc : Thread Cert.InprojBwd.nD Cert.InprojBwd.τ).loc Cert.InprojBwd.main_arg1)
      ∧ r.2.mem ((c.tc : Thread Cert.InprojBwd.nD Cert.InprojBwd.τ).loc Cert.InprojBwd.main_arg2) = m ((c.tc : Thread Cert.InprojBwd.nD Cert.InprojBwd.τ).loc Cert.InprojBwd.main_arg2)
      ∧ r.2.mem ((c.tc : Thread Cert.InprojBwd.nD Cert.InprojBwd.τ).loc Cert.InprojBwd.main_arg3) = m ((c.tc : Thread Cert.InprojBwd.nD Cert.InprojBwd.τ).loc Cert.InprojBwd.main_arg3)
      ∧ r.2.mem ((c.tc : Thread Cert.InprojBwd.nD Cert.InprojBwd.τ).loc Cert.InprojBwd.main_arg4) = m ((c.tc : Thread Cert.InprojBwd.nD Cert.InprojBwd.τ).loc Cert.InprojBwd.main_arg4)
      ∧ r.2.mem ((c.tc : Thread Cert.InprojBwd.nD Cert.InprojBwd.τ).loc Cert.InprojBwd.main_arg5) = m ((c.tc : Thread Cert.InprojBwd.nD Cert.InprojBwd.τ).loc Cert.InprojBwd.main_arg5))
      ∧ r.2.sem = fun _ => 0)

def quiescent_InprojBwdIdeal [hInprojBwdIdeal : Cert.InprojBwdIdeal.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5))
      ∧ r.2.sem = fun _ => 0)

def quiescent_InprojBwdIdeal_pre_inproj_finite [hInprojBwdIdeal : Cert.InprojBwdIdeal.Facts] [hPre_inproj_finite : Cert.Pre_inproj_finite.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg), Pre_InprojBwdIdeal_inproj_finite m →
    θ_run (Cert.InprojBwdIdeal.defs (F := Ideal)) (onTc (τ := Cert.InprojBwdIdeal.τ) (Cert.InprojBwdIdeal.main (F := Ideal))) ⟨m, fun _ => 0, g⟩ (fun r => (∀ c : Dev Cert.InprojBwdIdeal.nD,
      r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
      ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
      ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
      ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
      ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
      ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_InprojRefIdeal_pre_inproj_finite [hInprojRefIdeal : Cert.InprojRefIdeal.Facts] [hPre_inproj_finite : Cert.Pre_inproj_finite.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_inproj_finite m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_FfninBwd [hFfninBwd : Cert.FfninBwd.Facts] : Prop :=
  ∀ (m : (ℓ : Loc Cert.FfninBwd.nD Cert.FfninBwd.τ Cert.FfninBwd.sig) → Buf (Elt Bits) ℓ) (g : Dev Cert.FfninBwd.nD → PrngReg), Pre_FfninBwd m →
    θ_run (Cert.FfninBwd.defs (F := Bits)) (onTc (τ := Cert.FfninBwd.τ) (Cert.FfninBwd.main (F := Bits))) ⟨m, fun _ => 0, g⟩ (fun r => (∀ c : Dev Cert.FfninBwd.nD,
      r.2.mem ((c.tc : Thread Cert.FfninBwd.nD Cert.FfninBwd.τ).loc Cert.FfninBwd.main_arg0) = m ((c.tc : Thread Cert.FfninBwd.nD Cert.FfninBwd.τ).loc Cert.FfninBwd.main_arg0)
      ∧ r.2.mem ((c.tc : Thread Cert.FfninBwd.nD Cert.FfninBwd.τ).loc Cert.FfninBwd.main_arg1) = m ((c.tc : Thread Cert.FfninBwd.nD Cert.FfninBwd.τ).loc Cert.FfninBwd.main_arg1)
      ∧ r.2.mem ((c.tc : Thread Cert.FfninBwd.nD Cert.FfninBwd.τ).loc Cert.FfninBwd.main_arg2) = m ((c.tc : Thread Cert.FfninBwd.nD Cert.FfninBwd.τ).loc Cert.FfninBwd.main_arg2)
      ∧ r.2.mem ((c.tc : Thread Cert.FfninBwd.nD Cert.FfninBwd.τ).loc Cert.FfninBwd.main_arg3) = m ((c.tc : Thread Cert.FfninBwd.nD Cert.FfninBwd.τ).loc Cert.FfninBwd.main_arg3)
      ∧ r.2.mem ((c.tc : Thread Cert.FfninBwd.nD Cert.FfninBwd.τ).loc Cert.FfninBwd.main_arg4) = m ((c.tc : Thread Cert.FfninBwd.nD Cert.FfninBwd.τ).loc Cert.FfninBwd.main_arg4)
      ∧ r.2.mem ((c.tc : Thread Cert.FfninBwd.nD Cert.FfninBwd.τ).loc Cert.FfninBwd.main_arg5) = m ((c.tc : Thread Cert.FfninBwd.nD Cert.FfninBwd.τ).loc Cert.FfninBwd.main_arg5))
      ∧ r.2.sem = fun _ => 0)

def quiescent_FfninBwdIdeal [hFfninBwdIdeal : Cert.FfninBwdIdeal.Facts] : Prop :=
  ∀ (m : (ℓ : Loc Cert.FfninBwdIdeal.nD Cert.FfninBwdIdeal.τ Cert.FfninBwdIdeal.sig) → Buf (Elt Ideal) ℓ) (g : Dev Cert.FfninBwdIdeal.nD → PrngReg), Pre_FfninBwdIdeal m →
    θ_run (Cert.FfninBwdIdeal.defs (F := Ideal)) (onTc (τ := Cert.FfninBwdIdeal.τ) (Cert.FfninBwdIdeal.main (F := Ideal))) ⟨m, fun _ => 0, g⟩ (fun r => (∀ c : Dev Cert.FfninBwdIdeal.nD,
      r.2.mem ((c.tc : Thread Cert.FfninBwdIdeal.nD Cert.FfninBwdIdeal.τ).loc Cert.FfninBwdIdeal.main_arg0) = m ((c.tc : Thread Cert.FfninBwdIdeal.nD Cert.FfninBwdIdeal.τ).loc Cert.FfninBwdIdeal.main_arg0)
      ∧ r.2.mem ((c.tc : Thread Cert.FfninBwdIdeal.nD Cert.FfninBwdIdeal.τ).loc Cert.FfninBwdIdeal.main_arg1) = m ((c.tc : Thread Cert.FfninBwdIdeal.nD Cert.FfninBwdIdeal.τ).loc Cert.FfninBwdIdeal.main_arg1)
      ∧ r.2.mem ((c.tc : Thread Cert.FfninBwdIdeal.nD Cert.FfninBwdIdeal.τ).loc Cert.FfninBwdIdeal.main_arg2) = m ((c.tc : Thread Cert.FfninBwdIdeal.nD Cert.FfninBwdIdeal.τ).loc Cert.FfninBwdIdeal.main_arg2)
      ∧ r.2.mem ((c.tc : Thread Cert.FfninBwdIdeal.nD Cert.FfninBwdIdeal.τ).loc Cert.FfninBwdIdeal.main_arg3) = m ((c.tc : Thread Cert.FfninBwdIdeal.nD Cert.FfninBwdIdeal.τ).loc Cert.FfninBwdIdeal.main_arg3)
      ∧ r.2.mem ((c.tc : Thread Cert.FfninBwdIdeal.nD Cert.FfninBwdIdeal.τ).loc Cert.FfninBwdIdeal.main_arg4) = m ((c.tc : Thread Cert.FfninBwdIdeal.nD Cert.FfninBwdIdeal.τ).loc Cert.FfninBwdIdeal.main_arg4)
      ∧ r.2.mem ((c.tc : Thread Cert.FfninBwdIdeal.nD Cert.FfninBwdIdeal.τ).loc Cert.FfninBwdIdeal.main_arg5) = m ((c.tc : Thread Cert.FfninBwdIdeal.nD Cert.FfninBwdIdeal.τ).loc Cert.FfninBwdIdeal.main_arg5))
      ∧ r.2.sem = fun _ => 0)

def quiescent_FfninBwdIdeal_pre_ffnin_finite [hFfninBwdIdeal : Cert.FfninBwdIdeal.Facts] [hPre_ffnin_finite : Cert.Pre_ffnin_finite.Facts] : Prop :=
  ∀ (m : (ℓ : Loc Cert.FfninBwdIdeal.nD Cert.FfninBwdIdeal.τ Cert.FfninBwdIdeal.sig) → Buf (Elt Ideal) ℓ) (g : Dev Cert.FfninBwdIdeal.nD → PrngReg), Pre_FfninBwdIdeal_ffnin_finite m →
    θ_run (Cert.FfninBwdIdeal.defs (F := Ideal)) (onTc (τ := Cert.FfninBwdIdeal.τ) (Cert.FfninBwdIdeal.main (F := Ideal))) ⟨m, fun _ => 0, g⟩ (fun r => (∀ c : Dev Cert.FfninBwdIdeal.nD,
      r.2.mem ((c.tc : Thread Cert.FfninBwdIdeal.nD Cert.FfninBwdIdeal.τ).loc Cert.FfninBwdIdeal.main_arg0) = m ((c.tc : Thread Cert.FfninBwdIdeal.nD Cert.FfninBwdIdeal.τ).loc Cert.FfninBwdIdeal.main_arg0)
      ∧ r.2.mem ((c.tc : Thread Cert.FfninBwdIdeal.nD Cert.FfninBwdIdeal.τ).loc Cert.FfninBwdIdeal.main_arg1) = m ((c.tc : Thread Cert.FfninBwdIdeal.nD Cert.FfninBwdIdeal.τ).loc Cert.FfninBwdIdeal.main_arg1)
      ∧ r.2.mem ((c.tc : Thread Cert.FfninBwdIdeal.nD Cert.FfninBwdIdeal.τ).loc Cert.FfninBwdIdeal.main_arg2) = m ((c.tc : Thread Cert.FfninBwdIdeal.nD Cert.FfninBwdIdeal.τ).loc Cert.FfninBwdIdeal.main_arg2)
      ∧ r.2.mem ((c.tc : Thread Cert.FfninBwdIdeal.nD Cert.FfninBwdIdeal.τ).loc Cert.FfninBwdIdeal.main_arg3) = m ((c.tc : Thread Cert.FfninBwdIdeal.nD Cert.FfninBwdIdeal.τ).loc Cert.FfninBwdIdeal.main_arg3)
      ∧ r.2.mem ((c.tc : Thread Cert.FfninBwdIdeal.nD Cert.FfninBwdIdeal.τ).loc Cert.FfninBwdIdeal.main_arg4) = m ((c.tc : Thread Cert.FfninBwdIdeal.nD Cert.FfninBwdIdeal.τ).loc Cert.FfninBwdIdeal.main_arg4)
      ∧ r.2.mem ((c.tc : Thread Cert.FfninBwdIdeal.nD Cert.FfninBwdIdeal.τ).loc Cert.FfninBwdIdeal.main_arg5) = m ((c.tc : Thread Cert.FfninBwdIdeal.nD Cert.FfninBwdIdeal.τ).loc Cert.FfninBwdIdeal.main_arg5))
      ∧ r.2.sem = fun _ => 0)

def quiescent_FfninRefIdeal [hFfninRefIdeal : Cert.FfninRefIdeal.Facts] : Prop :=
  ∀ (m : (ℓ : Loc Cert.FfninRefIdeal.nD Cert.FfninRefIdeal.τ Cert.FfninRefIdeal.sig) → Buf (Elt Ideal) ℓ) (g : Dev Cert.FfninRefIdeal.nD → PrngReg), Pre_FfninRefIdeal m →
    θ_run (Cert.FfninRefIdeal.defs (F := Ideal)) (onTc (τ := Cert.FfninRefIdeal.τ) (Cert.FfninRefIdeal.main (F := Ideal))) ⟨m, fun _ => 0, g⟩ (fun r => (∀ c : Dev Cert.FfninRefIdeal.nD,
      r.2.mem ((c.tc : Thread Cert.FfninRefIdeal.nD Cert.FfninRefIdeal.τ).loc Cert.FfninRefIdeal.main_arg0) = m ((c.tc : Thread Cert.FfninRefIdeal.nD Cert.FfninRefIdeal.τ).loc Cert.FfninRefIdeal.main_arg0)
      ∧ r.2.mem ((c.tc : Thread Cert.FfninRefIdeal.nD Cert.FfninRefIdeal.τ).loc Cert.FfninRefIdeal.main_arg1) = m ((c.tc : Thread Cert.FfninRefIdeal.nD Cert.FfninRefIdeal.τ).loc Cert.FfninRefIdeal.main_arg1)
      ∧ r.2.mem ((c.tc : Thread Cert.FfninRefIdeal.nD Cert.FfninRefIdeal.τ).loc Cert.FfninRefIdeal.main_arg2) = m ((c.tc : Thread Cert.FfninRefIdeal.nD Cert.FfninRefIdeal.τ).loc Cert.FfninRefIdeal.main_arg2)
      ∧ r.2.mem ((c.tc : Thread Cert.FfninRefIdeal.nD Cert.FfninRefIdeal.τ).loc Cert.FfninRefIdeal.main_arg3) = m ((c.tc : Thread Cert.FfninRefIdeal.nD Cert.FfninRefIdeal.τ).loc Cert.FfninRefIdeal.main_arg3)
      ∧ r.2.mem ((c.tc : Thread Cert.FfninRefIdeal.nD Cert.FfninRefIdeal.τ).loc Cert.FfninRefIdeal.main_arg4) = m ((c.tc : Thread Cert.FfninRefIdeal.nD Cert.FfninRefIdeal.τ).loc Cert.FfninRefIdeal.main_arg4)
      ∧ r.2.mem ((c.tc : Thread Cert.FfninRefIdeal.nD Cert.FfninRefIdeal.τ).loc Cert.FfninRefIdeal.main_arg5) = m ((c.tc : Thread Cert.FfninRefIdeal.nD Cert.FfninRefIdeal.τ).loc Cert.FfninRefIdeal.main_arg5))
      ∧ r.2.sem = fun _ => 0)

def quiescent_FfninRefIdeal_pre_ffnin_finite [hFfninRefIdeal : Cert.FfninRefIdeal.Facts] [hPre_ffnin_finite : Cert.Pre_ffnin_finite.Facts] : Prop :=
  ∀ (m : (ℓ : Loc Cert.FfninRefIdeal.nD Cert.FfninRefIdeal.τ Cert.FfninRefIdeal.sig) → Buf (Elt Ideal) ℓ) (g : Dev Cert.FfninRefIdeal.nD → PrngReg), Pre_FfninRefIdeal_ffnin_finite m →
    θ_run (Cert.FfninRefIdeal.defs (F := Ideal)) (onTc (τ := Cert.FfninRefIdeal.τ) (Cert.FfninRefIdeal.main (F := Ideal))) ⟨m, fun _ => 0, g⟩ (fun r => (∀ c : Dev Cert.FfninRefIdeal.nD,
      r.2.mem ((c.tc : Thread Cert.FfninRefIdeal.nD Cert.FfninRefIdeal.τ).loc Cert.FfninRefIdeal.main_arg0) = m ((c.tc : Thread Cert.FfninRefIdeal.nD Cert.FfninRefIdeal.τ).loc Cert.FfninRefIdeal.main_arg0)
      ∧ r.2.mem ((c.tc : Thread Cert.FfninRefIdeal.nD Cert.FfninRefIdeal.τ).loc Cert.FfninRefIdeal.main_arg1) = m ((c.tc : Thread Cert.FfninRefIdeal.nD Cert.FfninRefIdeal.τ).loc Cert.FfninRefIdeal.main_arg1)
      ∧ r.2.mem ((c.tc : Thread Cert.FfninRefIdeal.nD Cert.FfninRefIdeal.τ).loc Cert.FfninRefIdeal.main_arg2) = m ((c.tc : Thread Cert.FfninRefIdeal.nD Cert.FfninRefIdeal.τ).loc Cert.FfninRefIdeal.main_arg2)
      ∧ r.2.mem ((c.tc : Thread Cert.FfninRefIdeal.nD Cert.FfninRefIdeal.τ).loc Cert.FfninRefIdeal.main_arg3) = m ((c.tc : Thread Cert.FfninRefIdeal.nD Cert.FfninRefIdeal.τ).loc Cert.FfninRefIdeal.main_arg3)
      ∧ r.2.mem ((c.tc : Thread Cert.FfninRefIdeal.nD Cert.FfninRefIdeal.τ).loc Cert.FfninRefIdeal.main_arg4) = m ((c.tc : Thread Cert.FfninRefIdeal.nD Cert.FfninRefIdeal.τ).loc Cert.FfninRefIdeal.main_arg4)
      ∧ r.2.mem ((c.tc : Thread Cert.FfninRefIdeal.nD Cert.FfninRefIdeal.τ).loc Cert.FfninRefIdeal.main_arg5) = m ((c.tc : Thread Cert.FfninRefIdeal.nD Cert.FfninRefIdeal.τ).loc Cert.FfninRefIdeal.main_arg5))
      ∧ r.2.sem = fun _ => 0)

def quiescent_OutprojBwd [hOutprojBwd : Cert.OutprojBwd.Facts] : Prop :=
  ∀ (m : (ℓ : Loc Cert.OutprojBwd.nD Cert.OutprojBwd.τ Cert.OutprojBwd.sig) → Buf (Elt Bits) ℓ) (g : Dev Cert.OutprojBwd.nD → PrngReg), Pre_OutprojBwd m →
    θ_run (Cert.OutprojBwd.defs (F := Bits)) (onTc (τ := Cert.OutprojBwd.τ) (Cert.OutprojBwd.main (F := Bits))) ⟨m, fun _ => 0, g⟩ (fun r => (∀ c : Dev Cert.OutprojBwd.nD,
      r.2.mem ((c.tc : Thread Cert.OutprojBwd.nD Cert.OutprojBwd.τ).loc Cert.OutprojBwd.main_arg0) = m ((c.tc : Thread Cert.OutprojBwd.nD Cert.OutprojBwd.τ).loc Cert.OutprojBwd.main_arg0)
      ∧ r.2.mem ((c.tc : Thread Cert.OutprojBwd.nD Cert.OutprojBwd.τ).loc Cert.OutprojBwd.main_arg1) = m ((c.tc : Thread Cert.OutprojBwd.nD Cert.OutprojBwd.τ).loc Cert.OutprojBwd.main_arg1)
      ∧ r.2.mem ((c.tc : Thread Cert.OutprojBwd.nD Cert.OutprojBwd.τ).loc Cert.OutprojBwd.main_arg2) = m ((c.tc : Thread Cert.OutprojBwd.nD Cert.OutprojBwd.τ).loc Cert.OutprojBwd.main_arg2)
      ∧ r.2.mem ((c.tc : Thread Cert.OutprojBwd.nD Cert.OutprojBwd.τ).loc Cert.OutprojBwd.main_arg3) = m ((c.tc : Thread Cert.OutprojBwd.nD Cert.OutprojBwd.τ).loc Cert.OutprojBwd.main_arg3)
      ∧ r.2.mem ((c.tc : Thread Cert.OutprojBwd.nD Cert.OutprojBwd.τ).loc Cert.OutprojBwd.main_arg4) = m ((c.tc : Thread Cert.OutprojBwd.nD Cert.OutprojBwd.τ).loc Cert.OutprojBwd.main_arg4)
      ∧ r.2.mem ((c.tc : Thread Cert.OutprojBwd.nD Cert.OutprojBwd.τ).loc Cert.OutprojBwd.main_arg5) = m ((c.tc : Thread Cert.OutprojBwd.nD Cert.OutprojBwd.τ).loc Cert.OutprojBwd.main_arg5)
      ∧ r.2.mem ((c.tc : Thread Cert.OutprojBwd.nD Cert.OutprojBwd.τ).loc Cert.OutprojBwd.main_arg6) = m ((c.tc : Thread Cert.OutprojBwd.nD Cert.OutprojBwd.τ).loc Cert.OutprojBwd.main_arg6)
      ∧ r.2.mem ((c.tc : Thread Cert.OutprojBwd.nD Cert.OutprojBwd.τ).loc Cert.OutprojBwd.main_arg7) = m ((c.tc : Thread Cert.OutprojBwd.nD Cert.OutprojBwd.τ).loc Cert.OutprojBwd.main_arg7))
      ∧ r.2.sem = fun _ => 0)

def quiescent_OutprojBwdIdeal [hOutprojBwdIdeal : Cert.OutprojBwdIdeal.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg), Pre_OutprojBwdIdeal m →
    θ_run (Cert.OutprojBwdIdeal.defs (F := Ideal)) (onTc (τ := Cert.OutprojBwdIdeal.τ) (Cert.OutprojBwdIdeal.main (F := Ideal))) ⟨m, fun _ => 0, g⟩ (fun r => (∀ c : Dev Cert.OutprojBwdIdeal.nD,
      r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
      ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1)
      ∧ r.2.mem ((c.tc : Thread Cert.OutprojBwdIdeal.nD Cert.OutprojBwdIdeal.τ).loc Cert.OutprojBwdIdeal.main_arg2) = m ((c.tc : Thread Cert.OutprojBwdIdeal.nD Cert.OutprojBwdIdeal.τ).loc Cert.OutprojBwdIdeal.main_arg2)
      ∧ r.2.mem ((c.tc : Thread Cert.OutprojBwdIdeal.nD Cert.OutprojBwdIdeal.τ).loc Cert.OutprojBwdIdeal.main_arg3) = m ((c.tc : Thread Cert.OutprojBwdIdeal.nD Cert.OutprojBwdIdeal.τ).loc Cert.OutprojBwdIdeal.main_arg3)
      ∧ r.2.mem ((c.tc : Thread Cert.OutprojBwdIdeal.nD Cert.OutprojBwdIdeal.τ).loc Cert.OutprojBwdIdeal.main_arg4) = m ((c.tc : Thread Cert.OutprojBwdIdeal.nD Cert.OutprojBwdIdeal.τ).loc Cert.OutprojBwdIdeal.main_arg4)
      ∧ r.2.mem ((c.tc : Thread Cert.OutprojBwdIdeal.nD Cert.OutprojBwdIdeal.τ).loc Cert.OutprojBwdIdeal.main_arg5) = m ((c.tc : Thread Cert.OutprojBwdIdeal.nD Cert.OutprojBwdIdeal.τ).loc Cert.OutprojBwdIdeal.main_arg5)
      ∧ r.2.mem ((c.tc : Thread Cert.OutprojBwdIdeal.nD Cert.OutprojBwdIdeal.τ).loc Cert.OutprojBwdIdeal.main_arg6) = m ((c.tc : Thread Cert.OutprojBwdIdeal.nD Cert.OutprojBwdIdeal.τ).loc Cert.OutprojBwdIdeal.main_arg6)
      ∧ r.2.mem ((c.tc : Thread Cert.OutprojBwdIdeal.nD Cert.OutprojBwdIdeal.τ).loc Cert.OutprojBwdIdeal.main_arg7) = m ((c.tc : Thread Cert.OutprojBwdIdeal.nD Cert.OutprojBwdIdeal.τ).loc Cert.OutprojBwdIdeal.main_arg7))
      ∧ r.2.sem = fun _ => 0)

def quiescent_OutprojBwdIdeal_pre_outproj_finite [hOutprojBwdIdeal : Cert.OutprojBwdIdeal.Facts] [hPre_outproj_finite : Cert.Pre_outproj_finite.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg), Pre_OutprojBwdIdeal_outproj_finite m →
    θ_run (Cert.OutprojBwdIdeal.defs (F := Ideal)) (onTc (τ := Cert.OutprojBwdIdeal.τ) (Cert.OutprojBwdIdeal.main (F := Ideal))) ⟨m, fun _ => 0, g⟩ (fun r => (∀ c : Dev Cert.OutprojBwdIdeal.nD,
      r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
      ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1)
      ∧ r.2.mem ((c.tc : Thread Cert.OutprojBwdIdeal.nD Cert.OutprojBwdIdeal.τ).loc Cert.OutprojBwdIdeal.main_arg2) = m ((c.tc : Thread Cert.OutprojBwdIdeal.nD Cert.OutprojBwdIdeal.τ).loc Cert.OutprojBwdIdeal.main_arg2)
      ∧ r.2.mem ((c.tc : Thread Cert.OutprojBwdIdeal.nD Cert.OutprojBwdIdeal.τ).loc Cert.OutprojBwdIdeal.main_arg3) = m ((c.tc : Thread Cert.OutprojBwdIdeal.nD Cert.OutprojBwdIdeal.τ).loc Cert.OutprojBwdIdeal.main_arg3)
      ∧ r.2.mem ((c.tc : Thread Cert.OutprojBwdIdeal.nD Cert.OutprojBwdIdeal.τ).loc Cert.OutprojBwdIdeal.main_arg4) = m ((c.tc : Thread Cert.OutprojBwdIdeal.nD Cert.OutprojBwdIdeal.τ).loc Cert.OutprojBwdIdeal.main_arg4)
      ∧ r.2.mem ((c.tc : Thread Cert.OutprojBwdIdeal.nD Cert.OutprojBwdIdeal.τ).loc Cert.OutprojBwdIdeal.main_arg5) = m ((c.tc : Thread Cert.OutprojBwdIdeal.nD Cert.OutprojBwdIdeal.τ).loc Cert.OutprojBwdIdeal.main_arg5)
      ∧ r.2.mem ((c.tc : Thread Cert.OutprojBwdIdeal.nD Cert.OutprojBwdIdeal.τ).loc Cert.OutprojBwdIdeal.main_arg6) = m ((c.tc : Thread Cert.OutprojBwdIdeal.nD Cert.OutprojBwdIdeal.τ).loc Cert.OutprojBwdIdeal.main_arg6)
      ∧ r.2.mem ((c.tc : Thread Cert.OutprojBwdIdeal.nD Cert.OutprojBwdIdeal.τ).loc Cert.OutprojBwdIdeal.main_arg7) = m ((c.tc : Thread Cert.OutprojBwdIdeal.nD Cert.OutprojBwdIdeal.τ).loc Cert.OutprojBwdIdeal.main_arg7))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7))
      ∧ r.2.sem = fun _ => 0)

def quiescent_OutprojRefIdeal_pre_outproj_finite [hOutprojRefIdeal : Cert.OutprojRefIdeal.Facts] [hPre_outproj_finite : Cert.Pre_outproj_finite.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal_outproj_finite m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4)
      ∧ r.2.mem ((c.tc : Thread Cert.OutprojRefIdeal.nD Cert.OutprojRefIdeal.τ).loc Cert.OutprojRefIdeal.main_arg5) = m ((c.tc : Thread Cert.OutprojRefIdeal.nD Cert.OutprojRefIdeal.τ).loc Cert.OutprojRefIdeal.main_arg5)
      ∧ r.2.mem ((c.tc : Thread Cert.OutprojRefIdeal.nD Cert.OutprojRefIdeal.τ).loc Cert.OutprojRefIdeal.main_arg6) = m ((c.tc : Thread Cert.OutprojRefIdeal.nD Cert.OutprojRefIdeal.τ).loc Cert.OutprojRefIdeal.main_arg6)
      ∧ r.2.mem ((c.tc : Thread Cert.OutprojRefIdeal.nD Cert.OutprojRefIdeal.τ).loc Cert.OutprojRefIdeal.main_arg7) = m ((c.tc : Thread Cert.OutprojRefIdeal.nD Cert.OutprojRefIdeal.τ).loc Cert.OutprojRefIdeal.main_arg7))
      ∧ r.2.sem = fun _ => 0)

def quiescent_Stage2Bwd [hStage2Bwd : Cert.Stage2Bwd.Facts] : Prop :=
  ∀ (m : (ℓ : Loc Cert.Stage2Bwd.nD Cert.Stage2Bwd.τ Cert.Stage2Bwd.sig) → Buf (Elt Bits) ℓ) (g : Dev Cert.Stage2Bwd.nD → PrngReg), Pre_Stage2Bwd m →
    θ_run (Cert.Stage2Bwd.defs (F := Bits)) (onTc (τ := Cert.Stage2Bwd.τ) (Cert.Stage2Bwd.main (F := Bits))) ⟨m, fun _ => 0, g⟩ (fun r => (∀ c : Dev Cert.Stage2Bwd.nD,
      r.2.mem ((c.tc : Thread Cert.Stage2Bwd.nD Cert.Stage2Bwd.τ).loc Cert.Stage2Bwd.main_arg0) = m ((c.tc : Thread Cert.Stage2Bwd.nD Cert.Stage2Bwd.τ).loc Cert.Stage2Bwd.main_arg0)
      ∧ r.2.mem ((c.tc : Thread Cert.Stage2Bwd.nD Cert.Stage2Bwd.τ).loc Cert.Stage2Bwd.main_arg1) = m ((c.tc : Thread Cert.Stage2Bwd.nD Cert.Stage2Bwd.τ).loc Cert.Stage2Bwd.main_arg1)
      ∧ r.2.mem ((c.tc : Thread Cert.Stage2Bwd.nD Cert.Stage2Bwd.τ).loc Cert.Stage2Bwd.main_arg2) = m ((c.tc : Thread Cert.Stage2Bwd.nD Cert.Stage2Bwd.τ).loc Cert.Stage2Bwd.main_arg2)
      ∧ r.2.mem ((c.tc : Thread Cert.Stage2Bwd.nD Cert.Stage2Bwd.τ).loc Cert.Stage2Bwd.main_arg3) = m ((c.tc : Thread Cert.Stage2Bwd.nD Cert.Stage2Bwd.τ).loc Cert.Stage2Bwd.main_arg3)
      ∧ r.2.mem ((c.tc : Thread Cert.Stage2Bwd.nD Cert.Stage2Bwd.τ).loc Cert.Stage2Bwd.main_arg4) = m ((c.tc : Thread Cert.Stage2Bwd.nD Cert.Stage2Bwd.τ).loc Cert.Stage2Bwd.main_arg4)
      ∧ r.2.mem ((c.tc : Thread Cert.Stage2Bwd.nD Cert.Stage2Bwd.τ).loc Cert.Stage2Bwd.main_arg5) = m ((c.tc : Thread Cert.Stage2Bwd.nD Cert.Stage2Bwd.τ).loc Cert.Stage2Bwd.main_arg5)
      ∧ r.2.mem ((c.tc : Thread Cert.Stage2Bwd.nD Cert.Stage2Bwd.τ).loc Cert.Stage2Bwd.main_arg6) = m ((c.tc : Thread Cert.Stage2Bwd.nD Cert.Stage2Bwd.τ).loc Cert.Stage2Bwd.main_arg6)
      ∧ r.2.mem ((c.tc : Thread Cert.Stage2Bwd.nD Cert.Stage2Bwd.τ).loc Cert.Stage2Bwd.main_arg7) = m ((c.tc : Thread Cert.Stage2Bwd.nD Cert.Stage2Bwd.τ).loc Cert.Stage2Bwd.main_arg7)
      ∧ r.2.mem ((c.tc : Thread Cert.Stage2Bwd.nD Cert.Stage2Bwd.τ).loc Cert.Stage2Bwd.main_arg8) = m ((c.tc : Thread Cert.Stage2Bwd.nD Cert.Stage2Bwd.τ).loc Cert.Stage2Bwd.main_arg8)
      ∧ r.2.mem ((c.tc : Thread Cert.Stage2Bwd.nD Cert.Stage2Bwd.τ).loc Cert.Stage2Bwd.main_arg9) = m ((c.tc : Thread Cert.Stage2Bwd.nD Cert.Stage2Bwd.τ).loc Cert.Stage2Bwd.main_arg9)
      ∧ r.2.mem ((c.tc : Thread Cert.Stage2Bwd.nD Cert.Stage2Bwd.τ).loc Cert.Stage2Bwd.main_arg10) = m ((c.tc : Thread Cert.Stage2Bwd.nD Cert.Stage2Bwd.τ).loc Cert.Stage2Bwd.main_arg10)
      ∧ r.2.mem ((c.tc : Thread Cert.Stage2Bwd.nD Cert.Stage2Bwd.τ).loc Cert.Stage2Bwd.main_arg11) = m ((c.tc : Thread Cert.Stage2Bwd.nD Cert.Stage2Bwd.τ).loc Cert.Stage2Bwd.main_arg11)
      ∧ r.2.mem ((c.tc : Thread Cert.Stage2Bwd.nD Cert.Stage2Bwd.τ).loc Cert.Stage2Bwd.main_arg12) = m ((c.tc : Thread Cert.Stage2Bwd.nD Cert.Stage2Bwd.τ).loc Cert.Stage2Bwd.main_arg12))
      ∧ r.2.sem = fun _ => 0)

def quiescent_Stage2BwdIdeal [hStage2BwdIdeal : Cert.Stage2BwdIdeal.Facts] : Prop :=
  ∀ (m : (ℓ : Loc Cert.Stage2BwdIdeal.nD Cert.Stage2BwdIdeal.τ Cert.Stage2BwdIdeal.sig) → Buf (Elt Ideal) ℓ) (g : Dev Cert.Stage2BwdIdeal.nD → PrngReg), Pre_Stage2BwdIdeal m →
    θ_run (Cert.Stage2BwdIdeal.defs (F := Ideal)) (onTc (τ := Cert.Stage2BwdIdeal.τ) (Cert.Stage2BwdIdeal.main (F := Ideal))) ⟨m, fun _ => 0, g⟩ (fun r => (∀ c : Dev Cert.Stage2BwdIdeal.nD,
      r.2.mem ((c.tc : Thread Cert.Stage2BwdIdeal.nD Cert.Stage2BwdIdeal.τ).loc Cert.Stage2BwdIdeal.main_arg0) = m ((c.tc : Thread Cert.Stage2BwdIdeal.nD Cert.Stage2BwdIdeal.τ).loc Cert.Stage2BwdIdeal.main_arg0)
      ∧ r.2.mem ((c.tc : Thread Cert.Stage2BwdIdeal.nD Cert.Stage2BwdIdeal.τ).loc Cert.Stage2BwdIdeal.main_arg1) = m ((c.tc : Thread Cert.Stage2BwdIdeal.nD Cert.Stage2BwdIdeal.τ).loc Cert.Stage2BwdIdeal.main_arg1)
      ∧ r.2.mem ((c.tc : Thread Cert.Stage2BwdIdeal.nD Cert.Stage2BwdIdeal.τ).loc Cert.Stage2BwdIdeal.main_arg2) = m ((c.tc : Thread Cert.Stage2BwdIdeal.nD Cert.Stage2BwdIdeal.τ).loc Cert.Stage2BwdIdeal.main_arg2)
      ∧ r.2.mem ((c.tc : Thread Cert.Stage2BwdIdeal.nD Cert.Stage2BwdIdeal.τ).loc Cert.Stage2BwdIdeal.main_arg3) = m ((c.tc : Thread Cert.Stage2BwdIdeal.nD Cert.Stage2BwdIdeal.τ).loc Cert.Stage2BwdIdeal.main_arg3)
      ∧ r.2.mem ((c.tc : Thread Cert.Stage2BwdIdeal.nD Cert.Stage2BwdIdeal.τ).loc Cert.Stage2BwdIdeal.main_arg4) = m ((c.tc : Thread Cert.Stage2BwdIdeal.nD Cert.Stage2BwdIdeal.τ).loc Cert.Stage2BwdIdeal.main_arg4)
      ∧ r.2.mem ((c.tc : Thread Cert.Stage2BwdIdeal.nD Cert.Stage2BwdIdeal.τ).loc Cert.Stage2BwdIdeal.main_arg5) = m ((c.tc : Thread Cert.Stage2BwdIdeal.nD Cert.Stage2BwdIdeal.τ).loc Cert.Stage2BwdIdeal.main_arg5)
      ∧ r.2.mem ((c.tc : Thread Cert.Stage2BwdIdeal.nD Cert.Stage2BwdIdeal.τ).loc Cert.Stage2BwdIdeal.main_arg6) = m ((c.tc : Thread Cert.Stage2BwdIdeal.nD Cert.Stage2BwdIdeal.τ).loc Cert.Stage2BwdIdeal.main_arg6)
      ∧ r.2.mem ((c.tc : Thread Cert.Stage2BwdIdeal.nD Cert.Stage2BwdIdeal.τ).loc Cert.Stage2BwdIdeal.main_arg7) = m ((c.tc : Thread Cert.Stage2BwdIdeal.nD Cert.Stage2BwdIdeal.τ).loc Cert.Stage2BwdIdeal.main_arg7)
      ∧ r.2.mem ((c.tc : Thread Cert.Stage2BwdIdeal.nD Cert.Stage2BwdIdeal.τ).loc Cert.Stage2BwdIdeal.main_arg8) = m ((c.tc : Thread Cert.Stage2BwdIdeal.nD Cert.Stage2BwdIdeal.τ).loc Cert.Stage2BwdIdeal.main_arg8)
      ∧ r.2.mem ((c.tc : Thread Cert.Stage2BwdIdeal.nD Cert.Stage2BwdIdeal.τ).loc Cert.Stage2BwdIdeal.main_arg9) = m ((c.tc : Thread Cert.Stage2BwdIdeal.nD Cert.Stage2BwdIdeal.τ).loc Cert.Stage2BwdIdeal.main_arg9)
      ∧ r.2.mem ((c.tc : Thread Cert.Stage2BwdIdeal.nD Cert.Stage2BwdIdeal.τ).loc Cert.Stage2BwdIdeal.main_arg10) = m ((c.tc : Thread Cert.Stage2BwdIdeal.nD Cert.Stage2BwdIdeal.τ).loc Cert.Stage2BwdIdeal.main_arg10)
      ∧ r.2.mem ((c.tc : Thread Cert.Stage2BwdIdeal.nD Cert.Stage2BwdIdeal.τ).loc Cert.Stage2BwdIdeal.main_arg11) = m ((c.tc : Thread Cert.Stage2BwdIdeal.nD Cert.Stage2BwdIdeal.τ).loc Cert.Stage2BwdIdeal.main_arg11)
      ∧ r.2.mem ((c.tc : Thread Cert.Stage2BwdIdeal.nD Cert.Stage2BwdIdeal.τ).loc Cert.Stage2BwdIdeal.main_arg12) = m ((c.tc : Thread Cert.Stage2BwdIdeal.nD Cert.Stage2BwdIdeal.τ).loc Cert.Stage2BwdIdeal.main_arg12))
      ∧ r.2.sem = fun _ => 0)

def quiescent_Stage2BwdIdeal_pre_stage2_finite [hStage2BwdIdeal : Cert.Stage2BwdIdeal.Facts] [hPre_stage2_finite : Cert.Pre_stage2_finite.Facts] : Prop :=
  ∀ (m : (ℓ : Loc Cert.Stage2BwdIdeal.nD Cert.Stage2BwdIdeal.τ Cert.Stage2BwdIdeal.sig) → Buf (Elt Ideal) ℓ) (g : Dev Cert.Stage2BwdIdeal.nD → PrngReg), Pre_Stage2BwdIdeal_stage2_finite m →
    θ_run (Cert.Stage2BwdIdeal.defs (F := Ideal)) (onTc (τ := Cert.Stage2BwdIdeal.τ) (Cert.Stage2BwdIdeal.main (F := Ideal))) ⟨m, fun _ => 0, g⟩ (fun r => (∀ c : Dev Cert.Stage2BwdIdeal.nD,
      r.2.mem ((c.tc : Thread Cert.Stage2BwdIdeal.nD Cert.Stage2BwdIdeal.τ).loc Cert.Stage2BwdIdeal.main_arg0) = m ((c.tc : Thread Cert.Stage2BwdIdeal.nD Cert.Stage2BwdIdeal.τ).loc Cert.Stage2BwdIdeal.main_arg0)
      ∧ r.2.mem ((c.tc : Thread Cert.Stage2BwdIdeal.nD Cert.Stage2BwdIdeal.τ).loc Cert.Stage2BwdIdeal.main_arg1) = m ((c.tc : Thread Cert.Stage2BwdIdeal.nD Cert.Stage2BwdIdeal.τ).loc Cert.Stage2BwdIdeal.main_arg1)
      ∧ r.2.mem ((c.tc : Thread Cert.Stage2BwdIdeal.nD Cert.Stage2BwdIdeal.τ).loc Cert.Stage2BwdIdeal.main_arg2) = m ((c.tc : Thread Cert.Stage2BwdIdeal.nD Cert.Stage2BwdIdeal.τ).loc Cert.Stage2BwdIdeal.main_arg2)
      ∧ r.2.mem ((c.tc : Thread Cert.Stage2BwdIdeal.nD Cert.Stage2BwdIdeal.τ).loc Cert.Stage2BwdIdeal.main_arg3) = m ((c.tc : Thread Cert.Stage2BwdIdeal.nD Cert.Stage2BwdIdeal.τ).loc Cert.Stage2BwdIdeal.main_arg3)
      ∧ r.2.mem ((c.tc : Thread Cert.Stage2BwdIdeal.nD Cert.Stage2BwdIdeal.τ).loc Cert.Stage2BwdIdeal.main_arg4) = m ((c.tc : Thread Cert.Stage2BwdIdeal.nD Cert.Stage2BwdIdeal.τ).loc Cert.Stage2BwdIdeal.main_arg4)
      ∧ r.2.mem ((c.tc : Thread Cert.Stage2BwdIdeal.nD Cert.Stage2BwdIdeal.τ).loc Cert.Stage2BwdIdeal.main_arg5) = m ((c.tc : Thread Cert.Stage2BwdIdeal.nD Cert.Stage2BwdIdeal.τ).loc Cert.Stage2BwdIdeal.main_arg5)
      ∧ r.2.mem ((c.tc : Thread Cert.Stage2BwdIdeal.nD Cert.Stage2BwdIdeal.τ).loc Cert.Stage2BwdIdeal.main_arg6) = m ((c.tc : Thread Cert.Stage2BwdIdeal.nD Cert.Stage2BwdIdeal.τ).loc Cert.Stage2BwdIdeal.main_arg6)
      ∧ r.2.mem ((c.tc : Thread Cert.Stage2BwdIdeal.nD Cert.Stage2BwdIdeal.τ).loc Cert.Stage2BwdIdeal.main_arg7) = m ((c.tc : Thread Cert.Stage2BwdIdeal.nD Cert.Stage2BwdIdeal.τ).loc Cert.Stage2BwdIdeal.main_arg7)
      ∧ r.2.mem ((c.tc : Thread Cert.Stage2BwdIdeal.nD Cert.Stage2BwdIdeal.τ).loc Cert.Stage2BwdIdeal.main_arg8) = m ((c.tc : Thread Cert.Stage2BwdIdeal.nD Cert.Stage2BwdIdeal.τ).loc Cert.Stage2BwdIdeal.main_arg8)
      ∧ r.2.mem ((c.tc : Thread Cert.Stage2BwdIdeal.nD Cert.Stage2BwdIdeal.τ).loc Cert.Stage2BwdIdeal.main_arg9) = m ((c.tc : Thread Cert.Stage2BwdIdeal.nD Cert.Stage2BwdIdeal.τ).loc Cert.Stage2BwdIdeal.main_arg9)
      ∧ r.2.mem ((c.tc : Thread Cert.Stage2BwdIdeal.nD Cert.Stage2BwdIdeal.τ).loc Cert.Stage2BwdIdeal.main_arg10) = m ((c.tc : Thread Cert.Stage2BwdIdeal.nD Cert.Stage2BwdIdeal.τ).loc Cert.Stage2BwdIdeal.main_arg10)
      ∧ r.2.mem ((c.tc : Thread Cert.Stage2BwdIdeal.nD Cert.Stage2BwdIdeal.τ).loc Cert.Stage2BwdIdeal.main_arg11) = m ((c.tc : Thread Cert.Stage2BwdIdeal.nD Cert.Stage2BwdIdeal.τ).loc Cert.Stage2BwdIdeal.main_arg11)
      ∧ r.2.mem ((c.tc : Thread Cert.Stage2BwdIdeal.nD Cert.Stage2BwdIdeal.τ).loc Cert.Stage2BwdIdeal.main_arg12) = m ((c.tc : Thread Cert.Stage2BwdIdeal.nD Cert.Stage2BwdIdeal.τ).loc Cert.Stage2BwdIdeal.main_arg12))
      ∧ r.2.sem = fun _ => 0)

def quiescent_Stage2RefIdeal [hStage2RefIdeal : Cert.Stage2RefIdeal.Facts] : Prop :=
  ∀ (m : (ℓ : Loc Cert.Stage2RefIdeal.nD Cert.Stage2RefIdeal.τ Cert.Stage2RefIdeal.sig) → Buf (Elt Ideal) ℓ) (g : Dev Cert.Stage2RefIdeal.nD → PrngReg), Pre_Stage2RefIdeal m →
    θ_run (Cert.Stage2RefIdeal.defs (F := Ideal)) (onTc (τ := Cert.Stage2RefIdeal.τ) (Cert.Stage2RefIdeal.main (F := Ideal))) ⟨m, fun _ => 0, g⟩ (fun r => (∀ c : Dev Cert.Stage2RefIdeal.nD,
      r.2.mem ((c.tc : Thread Cert.Stage2RefIdeal.nD Cert.Stage2RefIdeal.τ).loc Cert.Stage2RefIdeal.main_arg0) = m ((c.tc : Thread Cert.Stage2RefIdeal.nD Cert.Stage2RefIdeal.τ).loc Cert.Stage2RefIdeal.main_arg0)
      ∧ r.2.mem ((c.tc : Thread Cert.Stage2RefIdeal.nD Cert.Stage2RefIdeal.τ).loc Cert.Stage2RefIdeal.main_arg1) = m ((c.tc : Thread Cert.Stage2RefIdeal.nD Cert.Stage2RefIdeal.τ).loc Cert.Stage2RefIdeal.main_arg1)
      ∧ r.2.mem ((c.tc : Thread Cert.Stage2RefIdeal.nD Cert.Stage2RefIdeal.τ).loc Cert.Stage2RefIdeal.main_arg2) = m ((c.tc : Thread Cert.Stage2RefIdeal.nD Cert.Stage2RefIdeal.τ).loc Cert.Stage2RefIdeal.main_arg2)
      ∧ r.2.mem ((c.tc : Thread Cert.Stage2RefIdeal.nD Cert.Stage2RefIdeal.τ).loc Cert.Stage2RefIdeal.main_arg3) = m ((c.tc : Thread Cert.Stage2RefIdeal.nD Cert.Stage2RefIdeal.τ).loc Cert.Stage2RefIdeal.main_arg3)
      ∧ r.2.mem ((c.tc : Thread Cert.Stage2RefIdeal.nD Cert.Stage2RefIdeal.τ).loc Cert.Stage2RefIdeal.main_arg4) = m ((c.tc : Thread Cert.Stage2RefIdeal.nD Cert.Stage2RefIdeal.τ).loc Cert.Stage2RefIdeal.main_arg4)
      ∧ r.2.mem ((c.tc : Thread Cert.Stage2RefIdeal.nD Cert.Stage2RefIdeal.τ).loc Cert.Stage2RefIdeal.main_arg5) = m ((c.tc : Thread Cert.Stage2RefIdeal.nD Cert.Stage2RefIdeal.τ).loc Cert.Stage2RefIdeal.main_arg5)
      ∧ r.2.mem ((c.tc : Thread Cert.Stage2RefIdeal.nD Cert.Stage2RefIdeal.τ).loc Cert.Stage2RefIdeal.main_arg6) = m ((c.tc : Thread Cert.Stage2RefIdeal.nD Cert.Stage2RefIdeal.τ).loc Cert.Stage2RefIdeal.main_arg6)
      ∧ r.2.mem ((c.tc : Thread Cert.Stage2RefIdeal.nD Cert.Stage2RefIdeal.τ).loc Cert.Stage2RefIdeal.main_arg7) = m ((c.tc : Thread Cert.Stage2RefIdeal.nD Cert.Stage2RefIdeal.τ).loc Cert.Stage2RefIdeal.main_arg7)
      ∧ r.2.mem ((c.tc : Thread Cert.Stage2RefIdeal.nD Cert.Stage2RefIdeal.τ).loc Cert.Stage2RefIdeal.main_arg8) = m ((c.tc : Thread Cert.Stage2RefIdeal.nD Cert.Stage2RefIdeal.τ).loc Cert.Stage2RefIdeal.main_arg8)
      ∧ r.2.mem ((c.tc : Thread Cert.Stage2RefIdeal.nD Cert.Stage2RefIdeal.τ).loc Cert.Stage2RefIdeal.main_arg9) = m ((c.tc : Thread Cert.Stage2RefIdeal.nD Cert.Stage2RefIdeal.τ).loc Cert.Stage2RefIdeal.main_arg9)
      ∧ r.2.mem ((c.tc : Thread Cert.Stage2RefIdeal.nD Cert.Stage2RefIdeal.τ).loc Cert.Stage2RefIdeal.main_arg10) = m ((c.tc : Thread Cert.Stage2RefIdeal.nD Cert.Stage2RefIdeal.τ).loc Cert.Stage2RefIdeal.main_arg10)
      ∧ r.2.mem ((c.tc : Thread Cert.Stage2RefIdeal.nD Cert.Stage2RefIdeal.τ).loc Cert.Stage2RefIdeal.main_arg11) = m ((c.tc : Thread Cert.Stage2RefIdeal.nD Cert.Stage2RefIdeal.τ).loc Cert.Stage2RefIdeal.main_arg11)
      ∧ r.2.mem ((c.tc : Thread Cert.Stage2RefIdeal.nD Cert.Stage2RefIdeal.τ).loc Cert.Stage2RefIdeal.main_arg12) = m ((c.tc : Thread Cert.Stage2RefIdeal.nD Cert.Stage2RefIdeal.τ).loc Cert.Stage2RefIdeal.main_arg12))
      ∧ r.2.sem = fun _ => 0)

def quiescent_Stage2RefIdeal_pre_stage2_finite [hStage2RefIdeal : Cert.Stage2RefIdeal.Facts] [hPre_stage2_finite : Cert.Pre_stage2_finite.Facts] : Prop :=
  ∀ (m : (ℓ : Loc Cert.Stage2RefIdeal.nD Cert.Stage2RefIdeal.τ Cert.Stage2RefIdeal.sig) → Buf (Elt Ideal) ℓ) (g : Dev Cert.Stage2RefIdeal.nD → PrngReg), Pre_Stage2RefIdeal_stage2_finite m →
    θ_run (Cert.Stage2RefIdeal.defs (F := Ideal)) (onTc (τ := Cert.Stage2RefIdeal.τ) (Cert.Stage2RefIdeal.main (F := Ideal))) ⟨m, fun _ => 0, g⟩ (fun r => (∀ c : Dev Cert.Stage2RefIdeal.nD,
      r.2.mem ((c.tc : Thread Cert.Stage2RefIdeal.nD Cert.Stage2RefIdeal.τ).loc Cert.Stage2RefIdeal.main_arg0) = m ((c.tc : Thread Cert.Stage2RefIdeal.nD Cert.Stage2RefIdeal.τ).loc Cert.Stage2RefIdeal.main_arg0)
      ∧ r.2.mem ((c.tc : Thread Cert.Stage2RefIdeal.nD Cert.Stage2RefIdeal.τ).loc Cert.Stage2RefIdeal.main_arg1) = m ((c.tc : Thread Cert.Stage2RefIdeal.nD Cert.Stage2RefIdeal.τ).loc Cert.Stage2RefIdeal.main_arg1)
      ∧ r.2.mem ((c.tc : Thread Cert.Stage2RefIdeal.nD Cert.Stage2RefIdeal.τ).loc Cert.Stage2RefIdeal.main_arg2) = m ((c.tc : Thread Cert.Stage2RefIdeal.nD Cert.Stage2RefIdeal.τ).loc Cert.Stage2RefIdeal.main_arg2)
      ∧ r.2.mem ((c.tc : Thread Cert.Stage2RefIdeal.nD Cert.Stage2RefIdeal.τ).loc Cert.Stage2RefIdeal.main_arg3) = m ((c.tc : Thread Cert.Stage2RefIdeal.nD Cert.Stage2RefIdeal.τ).loc Cert.Stage2RefIdeal.main_arg3)
      ∧ r.2.mem ((c.tc : Thread Cert.Stage2RefIdeal.nD Cert.Stage2RefIdeal.τ).loc Cert.Stage2RefIdeal.main_arg4) = m ((c.tc : Thread Cert.Stage2RefIdeal.nD Cert.Stage2RefIdeal.τ).loc Cert.Stage2RefIdeal.main_arg4)
      ∧ r.2.mem ((c.tc : Thread Cert.Stage2RefIdeal.nD Cert.Stage2RefIdeal.τ).loc Cert.Stage2RefIdeal.main_arg5) = m ((c.tc : Thread Cert.Stage2RefIdeal.nD Cert.Stage2RefIdeal.τ).loc Cert.Stage2RefIdeal.main_arg5)
      ∧ r.2.mem ((c.tc : Thread Cert.Stage2RefIdeal.nD Cert.Stage2RefIdeal.τ).loc Cert.Stage2RefIdeal.main_arg6) = m ((c.tc : Thread Cert.Stage2RefIdeal.nD Cert.Stage2RefIdeal.τ).loc Cert.Stage2RefIdeal.main_arg6)
      ∧ r.2.mem ((c.tc : Thread Cert.Stage2RefIdeal.nD Cert.Stage2RefIdeal.τ).loc Cert.Stage2RefIdeal.main_arg7) = m ((c.tc : Thread Cert.Stage2RefIdeal.nD Cert.Stage2RefIdeal.τ).loc Cert.Stage2RefIdeal.main_arg7)
      ∧ r.2.mem ((c.tc : Thread Cert.Stage2RefIdeal.nD Cert.Stage2RefIdeal.τ).loc Cert.Stage2RefIdeal.main_arg8) = m ((c.tc : Thread Cert.Stage2RefIdeal.nD Cert.Stage2RefIdeal.τ).loc Cert.Stage2RefIdeal.main_arg8)
      ∧ r.2.mem ((c.tc : Thread Cert.Stage2RefIdeal.nD Cert.Stage2RefIdeal.τ).loc Cert.Stage2RefIdeal.main_arg9) = m ((c.tc : Thread Cert.Stage2RefIdeal.nD Cert.Stage2RefIdeal.τ).loc Cert.Stage2RefIdeal.main_arg9)
      ∧ r.2.mem ((c.tc : Thread Cert.Stage2RefIdeal.nD Cert.Stage2RefIdeal.τ).loc Cert.Stage2RefIdeal.main_arg10) = m ((c.tc : Thread Cert.Stage2RefIdeal.nD Cert.Stage2RefIdeal.τ).loc Cert.Stage2RefIdeal.main_arg10)
      ∧ r.2.mem ((c.tc : Thread Cert.Stage2RefIdeal.nD Cert.Stage2RefIdeal.τ).loc Cert.Stage2RefIdeal.main_arg11) = m ((c.tc : Thread Cert.Stage2RefIdeal.nD Cert.Stage2RefIdeal.τ).loc Cert.Stage2RefIdeal.main_arg11)
      ∧ r.2.mem ((c.tc : Thread Cert.Stage2RefIdeal.nD Cert.Stage2RefIdeal.τ).loc Cert.Stage2RefIdeal.main_arg12) = m ((c.tc : Thread Cert.Stage2RefIdeal.nD Cert.Stage2RefIdeal.τ).loc Cert.Stage2RefIdeal.main_arg12))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5)
      ∧ r.2.mem ((c.tc : Thread Cert.ConvBwd.nD Cert.ConvBwd.τ).loc Cert.ConvBwd.main_arg6) = m ((c.tc : Thread Cert.ConvBwd.nD Cert.ConvBwd.τ).loc Cert.ConvBwd.main_arg6)
      ∧ r.2.mem ((c.tc : Thread Cert.ConvBwd.nD Cert.ConvBwd.τ).loc Cert.ConvBwd.main_arg7) = m ((c.tc : Thread Cert.ConvBwd.nD Cert.ConvBwd.τ).loc Cert.ConvBwd.main_arg7))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5)
      ∧ r.2.mem ((c.tc : Thread Cert.ConvBwdIdeal.nD Cert.ConvBwdIdeal.τ).loc Cert.ConvBwdIdeal.main_arg6) = m ((c.tc : Thread Cert.ConvBwdIdeal.nD Cert.ConvBwdIdeal.τ).loc Cert.ConvBwdIdeal.main_arg6)
      ∧ r.2.mem ((c.tc : Thread Cert.ConvBwdIdeal.nD Cert.ConvBwdIdeal.τ).loc Cert.ConvBwdIdeal.main_arg7) = m ((c.tc : Thread Cert.ConvBwdIdeal.nD Cert.ConvBwdIdeal.τ).loc Cert.ConvBwdIdeal.main_arg7))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2)
      ∧ r.2.mem ((c.tc : Thread Cert.NormIn.nD Cert.NormIn.τ).loc Cert.NormIn.main_arg3) = m ((c.tc : Thread Cert.NormIn.nD Cert.NormIn.τ).loc Cert.NormIn.main_arg3)
      ∧ r.2.mem ((c.tc : Thread Cert.NormIn.nD Cert.NormIn.τ).loc Cert.NormIn.main_arg4) = m ((c.tc : Thread Cert.NormIn.nD Cert.NormIn.τ).loc Cert.NormIn.main_arg4))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
      ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
      ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2)
      ∧ r.2.mem ((c.tc : Thread Cert.NormInRefIdeal.nD Cert.NormInRefIdeal.τ).loc Cert.NormInRefIdeal.main_arg3) = m ((c.tc : Thread Cert.NormInRefIdeal.nD Cert.NormInRefIdeal.τ).loc Cert.NormInRefIdeal.main_arg3)
      ∧ r.2.mem ((c.tc : Thread Cert.NormInRefIdeal.nD Cert.NormInRefIdeal.τ).loc Cert.NormInRefIdeal.main_arg4) = m ((c.tc : Thread Cert.NormInRefIdeal.nD Cert.NormInRefIdeal.τ).loc Cert.NormInRefIdeal.main_arg4))
      ∧ r.2.sem = fun _ => 0)

def quiescent_NormFf [hNormFf : Cert.NormFf.Facts] : Prop :=
  ∀ (m : (ℓ : Loc Cert.NormFf.nD Cert.NormFf.τ Cert.NormFf.sig) → Buf (Elt Bits) ℓ) (g : Dev Cert.NormFf.nD → PrngReg), Pre_NormFf m →
    θ_run (Cert.NormFf.defs (F := Bits)) (onTc (τ := Cert.NormFf.τ) (Cert.NormFf.main (F := Bits))) ⟨m, fun _ => 0, g⟩ (fun r => (∀ c : Dev Cert.NormFf.nD,
      r.2.mem ((c.tc : Thread Cert.NormFf.nD Cert.NormFf.τ).loc Cert.NormFf.main_arg0) = m ((c.tc : Thread Cert.NormFf.nD Cert.NormFf.τ).loc Cert.NormFf.main_arg0)
      ∧ r.2.mem ((c.tc : Thread Cert.NormFf.nD Cert.NormFf.τ).loc Cert.NormFf.main_arg1) = m ((c.tc : Thread Cert.NormFf.nD Cert.NormFf.τ).loc Cert.NormFf.main_arg1)
      ∧ r.2.mem ((c.tc : Thread Cert.NormFf.nD Cert.NormFf.τ).loc Cert.NormFf.main_arg2) = m ((c.tc : Thread Cert.NormFf.nD Cert.NormFf.τ).loc Cert.NormFf.main_arg2)
      ∧ r.2.mem ((c.tc : Thread Cert.NormFf.nD Cert.NormFf.τ).loc Cert.NormFf.main_arg3) = m ((c.tc : Thread Cert.NormFf.nD Cert.NormFf.τ).loc Cert.NormFf.main_arg3)
      ∧ r.2.mem ((c.tc : Thread Cert.NormFf.nD Cert.NormFf.τ).loc Cert.NormFf.main_arg4) = m ((c.tc : Thread Cert.NormFf.nD Cert.NormFf.τ).loc Cert.NormFf.main_arg4))
      ∧ r.2.sem = fun _ => 0)

def quiescent_NormFfIdeal [hNormFfIdeal : Cert.NormFfIdeal.Facts] : Prop :=
  ∀ (m : (ℓ : Loc Cert.NormFfIdeal.nD Cert.NormFfIdeal.τ Cert.NormFfIdeal.sig) → Buf (Elt Ideal) ℓ) (g : Dev Cert.NormFfIdeal.nD → PrngReg), Pre_NormFfIdeal m →
    θ_run (Cert.NormFfIdeal.defs (F := Ideal)) (onTc (τ := Cert.NormFfIdeal.τ) (Cert.NormFfIdeal.main (F := Ideal))) ⟨m, fun _ => 0, g⟩ (fun r => (∀ c : Dev Cert.NormFfIdeal.nD,
      r.2.mem ((c.tc : Thread Cert.NormFfIdeal.nD Cert.NormFfIdeal.τ).loc Cert.NormFfIdeal.main_arg0) = m ((c.tc : Thread Cert.NormFfIdeal.nD Cert.NormFfIdeal.τ).loc Cert.NormFfIdeal.main_arg0)
      ∧ r.2.mem ((c.tc : Thread Cert.NormFfIdeal.nD Cert.NormFfIdeal.τ).loc Cert.NormFfIdeal.main_arg1) = m ((c.tc : Thread Cert.NormFfIdeal.nD Cert.NormFfIdeal.τ).loc Cert.NormFfIdeal.main_arg1)
      ∧ r.2.mem ((c.tc : Thread Cert.NormFfIdeal.nD Cert.NormFfIdeal.τ).loc Cert.NormFfIdeal.main_arg2) = m ((c.tc : Thread Cert.NormFfIdeal.nD Cert.NormFfIdeal.τ).loc Cert.NormFfIdeal.main_arg2)
      ∧ r.2.mem ((c.tc : Thread Cert.NormFfIdeal.nD Cert.NormFfIdeal.τ).loc Cert.NormFfIdeal.main_arg3) = m ((c.tc : Thread Cert.NormFfIdeal.nD Cert.NormFfIdeal.τ).loc Cert.NormFfIdeal.main_arg3)
      ∧ r.2.mem ((c.tc : Thread Cert.NormFfIdeal.nD Cert.NormFfIdeal.τ).loc Cert.NormFfIdeal.main_arg4) = m ((c.tc : Thread Cert.NormFfIdeal.nD Cert.NormFfIdeal.τ).loc Cert.NormFfIdeal.main_arg4))
      ∧ r.2.sem = fun _ => 0)

def quiescent_NormFfRefIdeal [hNormFfRefIdeal : Cert.NormFfRefIdeal.Facts] : Prop :=
  ∀ (m : (ℓ : Loc Cert.NormFfRefIdeal.nD Cert.NormFfRefIdeal.τ Cert.NormFfRefIdeal.sig) → Buf (Elt Ideal) ℓ) (g : Dev Cert.NormFfRefIdeal.nD → PrngReg), Pre_NormFfRefIdeal m →
    θ_run (Cert.NormFfRefIdeal.defs (F := Ideal)) (onTc (τ := Cert.NormFfRefIdeal.τ) (Cert.NormFfRefIdeal.main (F := Ideal))) ⟨m, fun _ => 0, g⟩ (fun r => (∀ c : Dev Cert.NormFfRefIdeal.nD,
      r.2.mem ((c.tc : Thread Cert.NormFfRefIdeal.nD Cert.NormFfRefIdeal.τ).loc Cert.NormFfRefIdeal.main_arg0) = m ((c.tc : Thread Cert.NormFfRefIdeal.nD Cert.NormFfRefIdeal.τ).loc Cert.NormFfRefIdeal.main_arg0)
      ∧ r.2.mem ((c.tc : Thread Cert.NormFfRefIdeal.nD Cert.NormFfRefIdeal.τ).loc Cert.NormFfRefIdeal.main_arg1) = m ((c.tc : Thread Cert.NormFfRefIdeal.nD Cert.NormFfRefIdeal.τ).loc Cert.NormFfRefIdeal.main_arg1)
      ∧ r.2.mem ((c.tc : Thread Cert.NormFfRefIdeal.nD Cert.NormFfRefIdeal.τ).loc Cert.NormFfRefIdeal.main_arg2) = m ((c.tc : Thread Cert.NormFfRefIdeal.nD Cert.NormFfRefIdeal.τ).loc Cert.NormFfRefIdeal.main_arg2)
      ∧ r.2.mem ((c.tc : Thread Cert.NormFfRefIdeal.nD Cert.NormFfRefIdeal.τ).loc Cert.NormFfRefIdeal.main_arg3) = m ((c.tc : Thread Cert.NormFfRefIdeal.nD Cert.NormFfRefIdeal.τ).loc Cert.NormFfRefIdeal.main_arg3)
      ∧ r.2.mem ((c.tc : Thread Cert.NormFfRefIdeal.nD Cert.NormFfRefIdeal.τ).loc Cert.NormFfRefIdeal.main_arg4) = m ((c.tc : Thread Cert.NormFfRefIdeal.nD Cert.NormFfRefIdeal.τ).loc Cert.NormFfRefIdeal.main_arg4))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2)
      ∧ r.2.mem ((c.tc : Thread Cert.FfnOut.nD Cert.FfnOut.τ).loc Cert.FfnOut.main_arg3) = m ((c.tc : Thread Cert.FfnOut.nD Cert.FfnOut.τ).loc Cert.FfnOut.main_arg3))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
      ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2)
      ∧ r.2.mem ((c.tc : Thread Cert.FfnOutRefIdeal.nD Cert.FfnOutRefIdeal.τ).loc Cert.FfnOutRefIdeal.main_arg3) = m ((c.tc : Thread Cert.FfnOutRefIdeal.nD Cert.FfnOutRefIdeal.τ).loc Cert.FfnOutRefIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ r.2.sem = fun _ => 0)

def quiescent_MixerRefIdeal [hMixerRefIdeal : Cert.MixerRefIdeal.Facts] : Prop :=
  ∀ (m : (ℓ : Loc Cert.MixerRefIdeal.nD Cert.MixerRefIdeal.τ Cert.MixerRefIdeal.sig) → Buf (Elt Ideal) ℓ) (g : Dev Cert.MixerRefIdeal.nD → PrngReg), Pre_MixerRefIdeal m →
    θ_run (Cert.MixerRefIdeal.defs (F := Ideal)) (onTc (τ := Cert.MixerRefIdeal.τ) (Cert.MixerRefIdeal.main (F := Ideal))) ⟨m, fun _ => 0, g⟩ (fun r => (∀ c : Dev Cert.MixerRefIdeal.nD,
      r.2.mem ((c.tc : Thread Cert.MixerRefIdeal.nD Cert.MixerRefIdeal.τ).loc Cert.MixerRefIdeal.main_arg0) = m ((c.tc : Thread Cert.MixerRefIdeal.nD Cert.MixerRefIdeal.τ).loc Cert.MixerRefIdeal.main_arg0)
      ∧ r.2.mem ((c.tc : Thread Cert.MixerRefIdeal.nD Cert.MixerRefIdeal.τ).loc Cert.MixerRefIdeal.main_arg1) = m ((c.tc : Thread Cert.MixerRefIdeal.nD Cert.MixerRefIdeal.τ).loc Cert.MixerRefIdeal.main_arg1)
      ∧ r.2.mem ((c.tc : Thread Cert.MixerRefIdeal.nD Cert.MixerRefIdeal.τ).loc Cert.MixerRefIdeal.main_arg2) = m ((c.tc : Thread Cert.MixerRefIdeal.nD Cert.MixerRefIdeal.τ).loc Cert.MixerRefIdeal.main_arg2)
      ∧ r.2.mem ((c.tc : Thread Cert.MixerRefIdeal.nD Cert.MixerRefIdeal.τ).loc Cert.MixerRefIdeal.main_arg3) = m ((c.tc : Thread Cert.MixerRefIdeal.nD Cert.MixerRefIdeal.τ).loc Cert.MixerRefIdeal.main_arg3)
      ∧ r.2.mem ((c.tc : Thread Cert.MixerRefIdeal.nD Cert.MixerRefIdeal.τ).loc Cert.MixerRefIdeal.main_arg4) = m ((c.tc : Thread Cert.MixerRefIdeal.nD Cert.MixerRefIdeal.τ).loc Cert.MixerRefIdeal.main_arg4)
      ∧ r.2.mem ((c.tc : Thread Cert.MixerRefIdeal.nD Cert.MixerRefIdeal.τ).loc Cert.MixerRefIdeal.main_arg5) = m ((c.tc : Thread Cert.MixerRefIdeal.nD Cert.MixerRefIdeal.τ).loc Cert.MixerRefIdeal.main_arg5)
      ∧ r.2.mem ((c.tc : Thread Cert.MixerRefIdeal.nD Cert.MixerRefIdeal.τ).loc Cert.MixerRefIdeal.main_arg6) = m ((c.tc : Thread Cert.MixerRefIdeal.nD Cert.MixerRefIdeal.τ).loc Cert.MixerRefIdeal.main_arg6))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5)
      ∧ r.2.mem ((c.tc : Thread Cert.Gates.nD Cert.Gates.τ).loc Cert.Gates.main_arg6) = m ((c.tc : Thread Cert.Gates.nD Cert.Gates.τ).loc Cert.Gates.main_arg6))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
      ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5)
      ∧ r.2.mem ((c.tc : Thread Cert.GatesRefIdeal.nD Cert.GatesRefIdeal.τ).loc Cert.GatesRefIdeal.main_arg6) = m ((c.tc : Thread Cert.GatesRefIdeal.nD Cert.GatesRefIdeal.τ).loc Cert.GatesRefIdeal.main_arg6))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamLayer [hAdamLayer : Cert.AdamLayer.Facts] : Prop :=
  ∀ (m : (ℓ : Loc Cert.AdamLayer.nD Cert.AdamLayer.τ Cert.AdamLayer.sig) → Buf (Elt Bits) ℓ) (g : Dev Cert.AdamLayer.nD → PrngReg), Pre_AdamLayer m →
    θ_run (Cert.AdamLayer.defs (F := Bits)) (onTc (τ := Cert.AdamLayer.τ) (Cert.AdamLayer.main (F := Bits))) ⟨m, fun _ => 0, g⟩ (fun r => (∀ c : Dev Cert.AdamLayer.nD,
      r.2.mem ((c.tc : Thread Cert.AdamLayer.nD Cert.AdamLayer.τ).loc Cert.AdamLayer.main_arg0) = m ((c.tc : Thread Cert.AdamLayer.nD Cert.AdamLayer.τ).loc Cert.AdamLayer.main_arg0)
      ∧ r.2.mem ((c.tc : Thread Cert.AdamLayer.nD Cert.AdamLayer.τ).loc Cert.AdamLayer.main_arg1) = m ((c.tc : Thread Cert.AdamLayer.nD Cert.AdamLayer.τ).loc Cert.AdamLayer.main_arg1)
      ∧ r.2.mem ((c.tc : Thread Cert.AdamLayer.nD Cert.AdamLayer.τ).loc Cert.AdamLayer.main_arg2) = m ((c.tc : Thread Cert.AdamLayer.nD Cert.AdamLayer.τ).loc Cert.AdamLayer.main_arg2)
      ∧ r.2.mem ((c.tc : Thread Cert.AdamLayer.nD Cert.AdamLayer.τ).loc Cert.AdamLayer.main_arg3) = m ((c.tc : Thread Cert.AdamLayer.nD Cert.AdamLayer.τ).loc Cert.AdamLayer.main_arg3)
      ∧ r.2.mem ((c.tc : Thread Cert.AdamLayer.nD Cert.AdamLayer.τ).loc Cert.AdamLayer.main_arg4) = m ((c.tc : Thread Cert.AdamLayer.nD Cert.AdamLayer.τ).loc Cert.AdamLayer.main_arg4)
      ∧ r.2.mem ((c.tc : Thread Cert.AdamLayer.nD Cert.AdamLayer.τ).loc Cert.AdamLayer.main_arg5) = m ((c.tc : Thread Cert.AdamLayer.nD Cert.AdamLayer.τ).loc Cert.AdamLayer.main_arg5)
      ∧ r.2.mem ((c.tc : Thread Cert.AdamLayer.nD Cert.AdamLayer.τ).loc Cert.AdamLayer.main_arg6) = m ((c.tc : Thread Cert.AdamLayer.nD Cert.AdamLayer.τ).loc Cert.AdamLayer.main_arg6)
      ∧ r.2.mem ((c.tc : Thread Cert.AdamLayer.nD Cert.AdamLayer.τ).loc Cert.AdamLayer.main_arg7) = m ((c.tc : Thread Cert.AdamLayer.nD Cert.AdamLayer.τ).loc Cert.AdamLayer.main_arg7))
      ∧ r.2.sem = fun _ => 0)

def quiescent_AdamLayerIdeal [hAdamLayerIdeal : Cert.AdamLayerIdeal.Facts] : Prop :=
  ∀ (m : (ℓ : Loc Cert.AdamLayerIdeal.nD Cert.AdamLayerIdeal.τ Cert.AdamLayerIdeal.sig) → Buf (Elt Ideal) ℓ) (g : Dev Cert.AdamLayerIdeal.nD → PrngReg), Pre_AdamLayerIdeal m →
    θ_run (Cert.AdamLayerIdeal.defs (F := Ideal)) (onTc (τ := Cert.AdamLayerIdeal.τ) (Cert.AdamLayerIdeal.main (F := Ideal))) ⟨m, fun _ => 0, g⟩ (fun r => (∀ c : Dev Cert.AdamLayerIdeal.nD,
      r.2.mem ((c.tc : Thread Cert.AdamLayerIdeal.nD Cert.AdamLayerIdeal.τ).loc Cert.AdamLayerIdeal.main_arg0) = m ((c.tc : Thread Cert.AdamLayerIdeal.nD Cert.AdamLayerIdeal.τ).loc Cert.AdamLayerIdeal.main_arg0)
      ∧ r.2.mem ((c.tc : Thread Cert.AdamLayerIdeal.nD Cert.AdamLayerIdeal.τ).loc Cert.AdamLayerIdeal.main_arg1) = m ((c.tc : Thread Cert.AdamLayerIdeal.nD Cert.AdamLayerIdeal.τ).loc Cert.AdamLayerIdeal.main_arg1)
      ∧ r.2.mem ((c.tc : Thread Cert.AdamLayerIdeal.nD Cert.AdamLayerIdeal.τ).loc Cert.AdamLayerIdeal.main_arg2) = m ((c.tc : Thread Cert.AdamLayerIdeal.nD Cert.AdamLayerIdeal.τ).loc Cert.AdamLayerIdeal.main_arg2)
      ∧ r.2.mem ((c.tc : Thread Cert.AdamLayerIdeal.nD Cert.AdamLayerIdeal.τ).loc Cert.AdamLayerIdeal.main_arg3) = m ((c.tc : Thread Cert.AdamLayerIdeal.nD Cert.AdamLayerIdeal.τ).loc Cert.AdamLayerIdeal.main_arg3)
      ∧ r.2.mem ((c.tc : Thread Cert.AdamLayerIdeal.nD Cert.AdamLayerIdeal.τ).loc Cert.AdamLayerIdeal.main_arg4) = m ((c.tc : Thread Cert.AdamLayerIdeal.nD Cert.AdamLayerIdeal.τ).loc Cert.AdamLayerIdeal.main_arg4)
      ∧ r.2.mem ((c.tc : Thread Cert.AdamLayerIdeal.nD Cert.AdamLayerIdeal.τ).loc Cert.AdamLayerIdeal.main_arg5) = m ((c.tc : Thread Cert.AdamLayerIdeal.nD Cert.AdamLayerIdeal.τ).loc Cert.AdamLayerIdeal.main_arg5)
      ∧ r.2.mem ((c.tc : Thread Cert.AdamLayerIdeal.nD Cert.AdamLayerIdeal.τ).loc Cert.AdamLayerIdeal.main_arg6) = m ((c.tc : Thread Cert.AdamLayerIdeal.nD Cert.AdamLayerIdeal.τ).loc Cert.AdamLayerIdeal.main_arg6)
      ∧ r.2.mem ((c.tc : Thread Cert.AdamLayerIdeal.nD Cert.AdamLayerIdeal.τ).loc Cert.AdamLayerIdeal.main_arg7) = m ((c.tc : Thread Cert.AdamLayerIdeal.nD Cert.AdamLayerIdeal.τ).loc Cert.AdamLayerIdeal.main_arg7))
      ∧ r.2.sem = fun _ => 0)

def quiescent_AdamLayerRefIdeal [hAdamLayerRefIdeal : Cert.AdamLayerRefIdeal.Facts] : Prop :=
  ∀ (m : (ℓ : Loc Cert.AdamLayerRefIdeal.nD Cert.AdamLayerRefIdeal.τ Cert.AdamLayerRefIdeal.sig) → Buf (Elt Ideal) ℓ) (g : Dev Cert.AdamLayerRefIdeal.nD → PrngReg), Pre_AdamLayerRefIdeal m →
    θ_run (Cert.AdamLayerRefIdeal.defs (F := Ideal)) (onTc (τ := Cert.AdamLayerRefIdeal.τ) (Cert.AdamLayerRefIdeal.main (F := Ideal))) ⟨m, fun _ => 0, g⟩ (fun r => (∀ c : Dev Cert.AdamLayerRefIdeal.nD,
      r.2.mem ((c.tc : Thread Cert.AdamLayerRefIdeal.nD Cert.AdamLayerRefIdeal.τ).loc Cert.AdamLayerRefIdeal.main_arg0) = m ((c.tc : Thread Cert.AdamLayerRefIdeal.nD Cert.AdamLayerRefIdeal.τ).loc Cert.AdamLayerRefIdeal.main_arg0)
      ∧ r.2.mem ((c.tc : Thread Cert.AdamLayerRefIdeal.nD Cert.AdamLayerRefIdeal.τ).loc Cert.AdamLayerRefIdeal.main_arg1) = m ((c.tc : Thread Cert.AdamLayerRefIdeal.nD Cert.AdamLayerRefIdeal.τ).loc Cert.AdamLayerRefIdeal.main_arg1)
      ∧ r.2.mem ((c.tc : Thread Cert.AdamLayerRefIdeal.nD Cert.AdamLayerRefIdeal.τ).loc Cert.AdamLayerRefIdeal.main_arg2) = m ((c.tc : Thread Cert.AdamLayerRefIdeal.nD Cert.AdamLayerRefIdeal.τ).loc Cert.AdamLayerRefIdeal.main_arg2)
      ∧ r.2.mem ((c.tc : Thread Cert.AdamLayerRefIdeal.nD Cert.AdamLayerRefIdeal.τ).loc Cert.AdamLayerRefIdeal.main_arg3) = m ((c.tc : Thread Cert.AdamLayerRefIdeal.nD Cert.AdamLayerRefIdeal.τ).loc Cert.AdamLayerRefIdeal.main_arg3)
      ∧ r.2.mem ((c.tc : Thread Cert.AdamLayerRefIdeal.nD Cert.AdamLayerRefIdeal.τ).loc Cert.AdamLayerRefIdeal.main_arg4) = m ((c.tc : Thread Cert.AdamLayerRefIdeal.nD Cert.AdamLayerRefIdeal.τ).loc Cert.AdamLayerRefIdeal.main_arg4)
      ∧ r.2.mem ((c.tc : Thread Cert.AdamLayerRefIdeal.nD Cert.AdamLayerRefIdeal.τ).loc Cert.AdamLayerRefIdeal.main_arg5) = m ((c.tc : Thread Cert.AdamLayerRefIdeal.nD Cert.AdamLayerRefIdeal.τ).loc Cert.AdamLayerRefIdeal.main_arg5)
      ∧ r.2.mem ((c.tc : Thread Cert.AdamLayerRefIdeal.nD Cert.AdamLayerRefIdeal.τ).loc Cert.AdamLayerRefIdeal.main_arg6) = m ((c.tc : Thread Cert.AdamLayerRefIdeal.nD Cert.AdamLayerRefIdeal.τ).loc Cert.AdamLayerRefIdeal.main_arg6)
      ∧ r.2.mem ((c.tc : Thread Cert.AdamLayerRefIdeal.nD Cert.AdamLayerRefIdeal.τ).loc Cert.AdamLayerRefIdeal.main_arg7) = m ((c.tc : Thread Cert.AdamLayerRefIdeal.nD Cert.AdamLayerRefIdeal.τ).loc Cert.AdamLayerRefIdeal.main_arg7))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_Wgin [hWgin : Cert.Wgin.Facts] : Prop :=
  ∀ (m : (ℓ : Loc Cert.Wgin.nD Cert.Wgin.τ Cert.Wgin.sig) → Buf (Elt Bits) ℓ) (g : Dev Cert.Wgin.nD → PrngReg), Pre_Wgin m →
    θ_run (Cert.Wgin.defs (F := Bits)) (onTc (τ := Cert.Wgin.τ) (Cert.Wgin.main (F := Bits))) ⟨m, fun _ => 0, g⟩ (fun r => (∀ c : Dev Cert.Wgin.nD,
      r.2.mem ((c.tc : Thread Cert.Wgin.nD Cert.Wgin.τ).loc Cert.Wgin.main_arg0) = m ((c.tc : Thread Cert.Wgin.nD Cert.Wgin.τ).loc Cert.Wgin.main_arg0)
      ∧ r.2.mem ((c.tc : Thread Cert.Wgin.nD Cert.Wgin.τ).loc Cert.Wgin.main_arg1) = m ((c.tc : Thread Cert.Wgin.nD Cert.Wgin.τ).loc Cert.Wgin.main_arg1))
      ∧ r.2.sem = fun _ => 0)

def quiescent_WginIdeal [hWginIdeal : Cert.WginIdeal.Facts] : Prop :=
  ∀ (m : (ℓ : Loc Cert.WginIdeal.nD Cert.WginIdeal.τ Cert.WginIdeal.sig) → Buf (Elt Ideal) ℓ) (g : Dev Cert.WginIdeal.nD → PrngReg), Pre_WginIdeal m →
    θ_run (Cert.WginIdeal.defs (F := Ideal)) (onTc (τ := Cert.WginIdeal.τ) (Cert.WginIdeal.main (F := Ideal))) ⟨m, fun _ => 0, g⟩ (fun r => (∀ c : Dev Cert.WginIdeal.nD,
      r.2.mem ((c.tc : Thread Cert.WginIdeal.nD Cert.WginIdeal.τ).loc Cert.WginIdeal.main_arg0) = m ((c.tc : Thread Cert.WginIdeal.nD Cert.WginIdeal.τ).loc Cert.WginIdeal.main_arg0)
      ∧ r.2.mem ((c.tc : Thread Cert.WginIdeal.nD Cert.WginIdeal.τ).loc Cert.WginIdeal.main_arg1) = m ((c.tc : Thread Cert.WginIdeal.nD Cert.WginIdeal.τ).loc Cert.WginIdeal.main_arg1))
      ∧ r.2.sem = fun _ => 0)

def quiescent_WginRefIdeal [hWginRefIdeal : Cert.WginRefIdeal.Facts] : Prop :=
  ∀ (m : (ℓ : Loc Cert.WginRefIdeal.nD Cert.WginRefIdeal.τ Cert.WginRefIdeal.sig) → Buf (Elt Ideal) ℓ) (g : Dev Cert.WginRefIdeal.nD → PrngReg), Pre_WginRefIdeal m →
    θ_run (Cert.WginRefIdeal.defs (F := Ideal)) (onTc (τ := Cert.WginRefIdeal.τ) (Cert.WginRefIdeal.main (F := Ideal))) ⟨m, fun _ => 0, g⟩ (fun r => (∀ c : Dev Cert.WginRefIdeal.nD,
      r.2.mem ((c.tc : Thread Cert.WginRefIdeal.nD Cert.WginRefIdeal.τ).loc Cert.WginRefIdeal.main_arg0) = m ((c.tc : Thread Cert.WginRefIdeal.nD Cert.WginRefIdeal.τ).loc Cert.WginRefIdeal.main_arg0)
      ∧ r.2.mem ((c.tc : Thread Cert.WginRefIdeal.nD Cert.WginRefIdeal.τ).loc Cert.WginRefIdeal.main_arg1) = m ((c.tc : Thread Cert.WginRefIdeal.nD Cert.WginRefIdeal.τ).loc Cert.WginRefIdeal.main_arg1))
      ∧ r.2.sem = fun _ => 0)

def quiescent_ReduceSum [hReduceSum : Cert.ReduceSum.Facts] : Prop :=
  ∀ (m : (ℓ : Loc Cert.ReduceSum.nD Cert.ReduceSum.τ Cert.ReduceSum.sig) → Buf (Elt Bits) ℓ) (g : Dev Cert.ReduceSum.nD → PrngReg), Pre_ReduceSum m →
    θ_run (Cert.ReduceSum.defs (F := Bits)) (onTc (τ := Cert.ReduceSum.τ) (Cert.ReduceSum.main (F := Bits))) ⟨m, fun _ => 0, g⟩ (fun r => (∀ c : Dev Cert.ReduceSum.nD,
      r.2.mem ((c.tc : Thread Cert.ReduceSum.nD Cert.ReduceSum.τ).loc Cert.ReduceSum.main_arg0) = m ((c.tc : Thread Cert.ReduceSum.nD Cert.ReduceSum.τ).loc Cert.ReduceSum.main_arg0)
      ∧ r.2.mem ((c.tc : Thread Cert.ReduceSum.nD Cert.ReduceSum.τ).loc Cert.ReduceSum.main_arg1) = m ((c.tc : Thread Cert.ReduceSum.nD Cert.ReduceSum.τ).loc Cert.ReduceSum.main_arg1)
      ∧ r.2.mem ((c.tc : Thread Cert.ReduceSum.nD Cert.ReduceSum.τ).loc Cert.ReduceSum.main_arg2) = m ((c.tc : Thread Cert.ReduceSum.nD Cert.ReduceSum.τ).loc Cert.ReduceSum.main_arg2)
      ∧ r.2.mem ((c.tc : Thread Cert.ReduceSum.nD Cert.ReduceSum.τ).loc Cert.ReduceSum.main_arg3) = m ((c.tc : Thread Cert.ReduceSum.nD Cert.ReduceSum.τ).loc Cert.ReduceSum.main_arg3)
      ∧ r.2.mem ((c.tc : Thread Cert.ReduceSum.nD Cert.ReduceSum.τ).loc Cert.ReduceSum.main_arg4) = m ((c.tc : Thread Cert.ReduceSum.nD Cert.ReduceSum.τ).loc Cert.ReduceSum.main_arg4)
      ∧ r.2.mem ((c.tc : Thread Cert.ReduceSum.nD Cert.ReduceSum.τ).loc Cert.ReduceSum.main_arg5) = m ((c.tc : Thread Cert.ReduceSum.nD Cert.ReduceSum.τ).loc Cert.ReduceSum.main_arg5))
      ∧ r.2.sem = fun _ => 0)

def quiescent_ReduceSumIdeal [hReduceSumIdeal : Cert.ReduceSumIdeal.Facts] : Prop :=
  ∀ (m : (ℓ : Loc Cert.ReduceSumIdeal.nD Cert.ReduceSumIdeal.τ Cert.ReduceSumIdeal.sig) → Buf (Elt Ideal) ℓ) (g : Dev Cert.ReduceSumIdeal.nD → PrngReg), Pre_ReduceSumIdeal m →
    θ_run (Cert.ReduceSumIdeal.defs (F := Ideal)) (onTc (τ := Cert.ReduceSumIdeal.τ) (Cert.ReduceSumIdeal.main (F := Ideal))) ⟨m, fun _ => 0, g⟩ (fun r => (∀ c : Dev Cert.ReduceSumIdeal.nD,
      r.2.mem ((c.tc : Thread Cert.ReduceSumIdeal.nD Cert.ReduceSumIdeal.τ).loc Cert.ReduceSumIdeal.main_arg0) = m ((c.tc : Thread Cert.ReduceSumIdeal.nD Cert.ReduceSumIdeal.τ).loc Cert.ReduceSumIdeal.main_arg0)
      ∧ r.2.mem ((c.tc : Thread Cert.ReduceSumIdeal.nD Cert.ReduceSumIdeal.τ).loc Cert.ReduceSumIdeal.main_arg1) = m ((c.tc : Thread Cert.ReduceSumIdeal.nD Cert.ReduceSumIdeal.τ).loc Cert.ReduceSumIdeal.main_arg1)
      ∧ r.2.mem ((c.tc : Thread Cert.ReduceSumIdeal.nD Cert.ReduceSumIdeal.τ).loc Cert.ReduceSumIdeal.main_arg2) = m ((c.tc : Thread Cert.ReduceSumIdeal.nD Cert.ReduceSumIdeal.τ).loc Cert.ReduceSumIdeal.main_arg2)
      ∧ r.2.mem ((c.tc : Thread Cert.ReduceSumIdeal.nD Cert.ReduceSumIdeal.τ).loc Cert.ReduceSumIdeal.main_arg3) = m ((c.tc : Thread Cert.ReduceSumIdeal.nD Cert.ReduceSumIdeal.τ).loc Cert.ReduceSumIdeal.main_arg3)
      ∧ r.2.mem ((c.tc : Thread Cert.ReduceSumIdeal.nD Cert.ReduceSumIdeal.τ).loc Cert.ReduceSumIdeal.main_arg4) = m ((c.tc : Thread Cert.ReduceSumIdeal.nD Cert.ReduceSumIdeal.τ).loc Cert.ReduceSumIdeal.main_arg4)
      ∧ r.2.mem ((c.tc : Thread Cert.ReduceSumIdeal.nD Cert.ReduceSumIdeal.τ).loc Cert.ReduceSumIdeal.main_arg5) = m ((c.tc : Thread Cert.ReduceSumIdeal.nD Cert.ReduceSumIdeal.τ).loc Cert.ReduceSumIdeal.main_arg5))
      ∧ r.2.sem = fun _ => 0)

def quiescent_ReduceSumRefIdeal [hReduceSumRefIdeal : Cert.ReduceSumRefIdeal.Facts] : Prop :=
  ∀ (m : (ℓ : Loc Cert.ReduceSumRefIdeal.nD Cert.ReduceSumRefIdeal.τ Cert.ReduceSumRefIdeal.sig) → Buf (Elt Ideal) ℓ) (g : Dev Cert.ReduceSumRefIdeal.nD → PrngReg), Pre_ReduceSumRefIdeal m →
    θ_run (Cert.ReduceSumRefIdeal.defs (F := Ideal)) (onTc (τ := Cert.ReduceSumRefIdeal.τ) (Cert.ReduceSumRefIdeal.main (F := Ideal))) ⟨m, fun _ => 0, g⟩ (fun r => (∀ c : Dev Cert.ReduceSumRefIdeal.nD,
      r.2.mem ((c.tc : Thread Cert.ReduceSumRefIdeal.nD Cert.ReduceSumRefIdeal.τ).loc Cert.ReduceSumRefIdeal.main_arg0) = m ((c.tc : Thread Cert.ReduceSumRefIdeal.nD Cert.ReduceSumRefIdeal.τ).loc Cert.ReduceSumRefIdeal.main_arg0)
      ∧ r.2.mem ((c.tc : Thread Cert.ReduceSumRefIdeal.nD Cert.ReduceSumRefIdeal.τ).loc Cert.ReduceSumRefIdeal.main_arg1) = m ((c.tc : Thread Cert.ReduceSumRefIdeal.nD Cert.ReduceSumRefIdeal.τ).loc Cert.ReduceSumRefIdeal.main_arg1)
      ∧ r.2.mem ((c.tc : Thread Cert.ReduceSumRefIdeal.nD Cert.ReduceSumRefIdeal.τ).loc Cert.ReduceSumRefIdeal.main_arg2) = m ((c.tc : Thread Cert.ReduceSumRefIdeal.nD Cert.ReduceSumRefIdeal.τ).loc Cert.ReduceSumRefIdeal.main_arg2)
      ∧ r.2.mem ((c.tc : Thread Cert.ReduceSumRefIdeal.nD Cert.ReduceSumRefIdeal.τ).loc Cert.ReduceSumRefIdeal.main_arg3) = m ((c.tc : Thread Cert.ReduceSumRefIdeal.nD Cert.ReduceSumRefIdeal.τ).loc Cert.ReduceSumRefIdeal.main_arg3)
      ∧ r.2.mem ((c.tc : Thread Cert.ReduceSumRefIdeal.nD Cert.ReduceSumRefIdeal.τ).loc Cert.ReduceSumRefIdeal.main_arg4) = m ((c.tc : Thread Cert.ReduceSumRefIdeal.nD Cert.ReduceSumRefIdeal.τ).loc Cert.ReduceSumRefIdeal.main_arg4)
      ∧ r.2.mem ((c.tc : Thread Cert.ReduceSumRefIdeal.nD Cert.ReduceSumRefIdeal.τ).loc Cert.ReduceSumRefIdeal.main_arg5) = m ((c.tc : Thread Cert.ReduceSumRefIdeal.nD Cert.ReduceSumRefIdeal.τ).loc Cert.ReduceSumRefIdeal.main_arg5))
      ∧ r.2.sem = fun _ => 0)

def quiescent_PairAdd [hPairAdd : Cert.PairAdd.Facts] : Prop :=
  ∀ (m : (ℓ : Loc Cert.PairAdd.nD Cert.PairAdd.τ Cert.PairAdd.sig) → Buf (Elt Bits) ℓ) (g : Dev Cert.PairAdd.nD → PrngReg), Pre_PairAdd m →
    θ_run (Cert.PairAdd.defs (F := Bits)) (onTc (τ := Cert.PairAdd.τ) (Cert.PairAdd.main (F := Bits))) ⟨m, fun _ => 0, g⟩ (fun r => (∀ c : Dev Cert.PairAdd.nD,
      r.2.mem ((c.tc : Thread Cert.PairAdd.nD Cert.PairAdd.τ).loc Cert.PairAdd.main_arg0) = m ((c.tc : Thread Cert.PairAdd.nD Cert.PairAdd.τ).loc Cert.PairAdd.main_arg0)
      ∧ r.2.mem ((c.tc : Thread Cert.PairAdd.nD Cert.PairAdd.τ).loc Cert.PairAdd.main_arg1) = m ((c.tc : Thread Cert.PairAdd.nD Cert.PairAdd.τ).loc Cert.PairAdd.main_arg1)
      ∧ r.2.mem ((c.tc : Thread Cert.PairAdd.nD Cert.PairAdd.τ).loc Cert.PairAdd.main_arg2) = m ((c.tc : Thread Cert.PairAdd.nD Cert.PairAdd.τ).loc Cert.PairAdd.main_arg2))
      ∧ r.2.sem = fun _ => 0)

def quiescent_PairAddIdeal [hPairAddIdeal : Cert.PairAddIdeal.Facts] : Prop :=
  ∀ (m : (ℓ : Loc Cert.PairAddIdeal.nD Cert.PairAddIdeal.τ Cert.PairAddIdeal.sig) → Buf (Elt Ideal) ℓ) (g : Dev Cert.PairAddIdeal.nD → PrngReg), Pre_PairAddIdeal m →
    θ_run (Cert.PairAddIdeal.defs (F := Ideal)) (onTc (τ := Cert.PairAddIdeal.τ) (Cert.PairAddIdeal.main (F := Ideal))) ⟨m, fun _ => 0, g⟩ (fun r => (∀ c : Dev Cert.PairAddIdeal.nD,
      r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
      ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1)
      ∧ r.2.mem ((c.tc : Thread Cert.PairAddIdeal.nD Cert.PairAddIdeal.τ).loc Cert.PairAddIdeal.main_arg2) = m ((c.tc : Thread Cert.PairAddIdeal.nD Cert.PairAddIdeal.τ).loc Cert.PairAddIdeal.main_arg2))
      ∧ r.2.sem = fun _ => 0)

def quiescent_PairAddRefIdeal [hPairAddRefIdeal : Cert.PairAddRefIdeal.Facts] : Prop :=
  ∀ (m : (ℓ : Loc Cert.PairAddRefIdeal.nD Cert.PairAddRefIdeal.τ Cert.PairAddRefIdeal.sig) → Buf (Elt Ideal) ℓ) (g : Dev Cert.PairAddRefIdeal.nD → PrngReg), Pre_PairAddRefIdeal m →
    θ_run (Cert.PairAddRefIdeal.defs (F := Ideal)) (onTc (τ := Cert.PairAddRefIdeal.τ) (Cert.PairAddRefIdeal.main (F := Ideal))) ⟨m, fun _ => 0, g⟩ (fun r => (∀ c : Dev Cert.PairAddRefIdeal.nD,
      r.2.mem ((c.tc : Thread Cert.PairAddRefIdeal.nD Cert.PairAddRefIdeal.τ).loc Cert.PairAddRefIdeal.main_arg0) = m ((c.tc : Thread Cert.PairAddRefIdeal.nD Cert.PairAddRefIdeal.τ).loc Cert.PairAddRefIdeal.main_arg0)
      ∧ r.2.mem ((c.tc : Thread Cert.PairAddRefIdeal.nD Cert.PairAddRefIdeal.τ).loc Cert.PairAddRefIdeal.main_arg1) = m ((c.tc : Thread Cert.PairAddRefIdeal.nD Cert.PairAddRefIdeal.τ).loc Cert.PairAddRefIdeal.main_arg1)
      ∧ r.2.mem ((c.tc : Thread Cert.PairAddRefIdeal.nD Cert.PairAddRefIdeal.τ).loc Cert.PairAddRefIdeal.main_arg2) = m ((c.tc : Thread Cert.PairAddRefIdeal.nD Cert.PairAddRefIdeal.τ).loc Cert.PairAddRefIdeal.main_arg2))
      ∧ r.2.sem = fun _ => 0)

def quiescent_ReduceAdam [hReduceAdam : Cert.ReduceAdam.Facts] : Prop :=
  ∀ (m : (ℓ : Loc Cert.ReduceAdam.nD Cert.ReduceAdam.τ Cert.ReduceAdam.sig) → Buf (Elt Bits) ℓ) (g : Dev Cert.ReduceAdam.nD → PrngReg), Pre_ReduceAdam m →
    θ_run (Cert.ReduceAdam.defs (F := Bits)) (onTc (τ := Cert.ReduceAdam.τ) (Cert.ReduceAdam.main (F := Bits))) ⟨m, fun _ => 0, g⟩ (fun r => (∀ c : Dev Cert.ReduceAdam.nD,
      r.2.mem ((c.tc : Thread Cert.ReduceAdam.nD Cert.ReduceAdam.τ).loc Cert.ReduceAdam.main_arg0) = m ((c.tc : Thread Cert.ReduceAdam.nD Cert.ReduceAdam.τ).loc Cert.ReduceAdam.main_arg0)
      ∧ r.2.mem ((c.tc : Thread Cert.ReduceAdam.nD Cert.ReduceAdam.τ).loc Cert.ReduceAdam.main_arg1) = m ((c.tc : Thread Cert.ReduceAdam.nD Cert.ReduceAdam.τ).loc Cert.ReduceAdam.main_arg1)
      ∧ r.2.mem ((c.tc : Thread Cert.ReduceAdam.nD Cert.ReduceAdam.τ).loc Cert.ReduceAdam.main_arg2) = m ((c.tc : Thread Cert.ReduceAdam.nD Cert.ReduceAdam.τ).loc Cert.ReduceAdam.main_arg2)
      ∧ r.2.mem ((c.tc : Thread Cert.ReduceAdam.nD Cert.ReduceAdam.τ).loc Cert.ReduceAdam.main_arg3) = m ((c.tc : Thread Cert.ReduceAdam.nD Cert.ReduceAdam.τ).loc Cert.ReduceAdam.main_arg3)
      ∧ r.2.mem ((c.tc : Thread Cert.ReduceAdam.nD Cert.ReduceAdam.τ).loc Cert.ReduceAdam.main_arg4) = m ((c.tc : Thread Cert.ReduceAdam.nD Cert.ReduceAdam.τ).loc Cert.ReduceAdam.main_arg4)
      ∧ r.2.mem ((c.tc : Thread Cert.ReduceAdam.nD Cert.ReduceAdam.τ).loc Cert.ReduceAdam.main_arg5) = m ((c.tc : Thread Cert.ReduceAdam.nD Cert.ReduceAdam.τ).loc Cert.ReduceAdam.main_arg5)
      ∧ r.2.mem ((c.tc : Thread Cert.ReduceAdam.nD Cert.ReduceAdam.τ).loc Cert.ReduceAdam.main_arg6) = m ((c.tc : Thread Cert.ReduceAdam.nD Cert.ReduceAdam.τ).loc Cert.ReduceAdam.main_arg6)
      ∧ r.2.mem ((c.tc : Thread Cert.ReduceAdam.nD Cert.ReduceAdam.τ).loc Cert.ReduceAdam.main_arg7) = m ((c.tc : Thread Cert.ReduceAdam.nD Cert.ReduceAdam.τ).loc Cert.ReduceAdam.main_arg7)
      ∧ r.2.mem ((c.tc : Thread Cert.ReduceAdam.nD Cert.ReduceAdam.τ).loc Cert.ReduceAdam.main_arg8) = m ((c.tc : Thread Cert.ReduceAdam.nD Cert.ReduceAdam.τ).loc Cert.ReduceAdam.main_arg8)
      ∧ r.2.mem ((c.tc : Thread Cert.ReduceAdam.nD Cert.ReduceAdam.τ).loc Cert.ReduceAdam.main_arg9) = m ((c.tc : Thread Cert.ReduceAdam.nD Cert.ReduceAdam.τ).loc Cert.ReduceAdam.main_arg9)
      ∧ r.2.mem ((c.tc : Thread Cert.ReduceAdam.nD Cert.ReduceAdam.τ).loc Cert.ReduceAdam.main_arg10) = m ((c.tc : Thread Cert.ReduceAdam.nD Cert.ReduceAdam.τ).loc Cert.ReduceAdam.main_arg10)
      ∧ r.2.mem ((c.tc : Thread Cert.ReduceAdam.nD Cert.ReduceAdam.τ).loc Cert.ReduceAdam.main_arg11) = m ((c.tc : Thread Cert.ReduceAdam.nD Cert.ReduceAdam.τ).loc Cert.ReduceAdam.main_arg11)
      ∧ r.2.mem ((c.tc : Thread Cert.ReduceAdam.nD Cert.ReduceAdam.τ).loc Cert.ReduceAdam.main_arg12) = m ((c.tc : Thread Cert.ReduceAdam.nD Cert.ReduceAdam.τ).loc Cert.ReduceAdam.main_arg12))
      ∧ r.2.sem = fun _ => 0)

def quiescent_ReduceAdamIdeal [hReduceAdamIdeal : Cert.ReduceAdamIdeal.Facts] : Prop :=
  ∀ (m : (ℓ : Loc Cert.ReduceAdamIdeal.nD Cert.ReduceAdamIdeal.τ Cert.ReduceAdamIdeal.sig) → Buf (Elt Ideal) ℓ) (g : Dev Cert.ReduceAdamIdeal.nD → PrngReg), Pre_ReduceAdamIdeal m →
    θ_run (Cert.ReduceAdamIdeal.defs (F := Ideal)) (onTc (τ := Cert.ReduceAdamIdeal.τ) (Cert.ReduceAdamIdeal.main (F := Ideal))) ⟨m, fun _ => 0, g⟩ (fun r => (∀ c : Dev Cert.ReduceAdamIdeal.nD,
      r.2.mem ((c.tc : Thread Cert.ReduceAdamIdeal.nD Cert.ReduceAdamIdeal.τ).loc Cert.ReduceAdamIdeal.main_arg0) = m ((c.tc : Thread Cert.ReduceAdamIdeal.nD Cert.ReduceAdamIdeal.τ).loc Cert.ReduceAdamIdeal.main_arg0)
      ∧ r.2.mem ((c.tc : Thread Cert.ReduceAdamIdeal.nD Cert.ReduceAdamIdeal.τ).loc Cert.ReduceAdamIdeal.main_arg1) = m ((c.tc : Thread Cert.ReduceAdamIdeal.nD Cert.ReduceAdamIdeal.τ).loc Cert.ReduceAdamIdeal.main_arg1)
      ∧ r.2.mem ((c.tc : Thread Cert.ReduceAdamIdeal.nD Cert.ReduceAdamIdeal.τ).loc Cert.ReduceAdamIdeal.main_arg2) = m ((c.tc : Thread Cert.ReduceAdamIdeal.nD Cert.ReduceAdamIdeal.τ).loc Cert.ReduceAdamIdeal.main_arg2)
      ∧ r.2.mem ((c.tc : Thread Cert.ReduceAdamIdeal.nD Cert.ReduceAdamIdeal.τ).loc Cert.ReduceAdamIdeal.main_arg3) = m ((c.tc : Thread Cert.ReduceAdamIdeal.nD Cert.ReduceAdamIdeal.τ).loc Cert.ReduceAdamIdeal.main_arg3)
      ∧ r.2.mem ((c.tc : Thread Cert.ReduceAdamIdeal.nD Cert.ReduceAdamIdeal.τ).loc Cert.ReduceAdamIdeal.main_arg4) = m ((c.tc : Thread Cert.ReduceAdamIdeal.nD Cert.ReduceAdamIdeal.τ).loc Cert.ReduceAdamIdeal.main_arg4)
      ∧ r.2.mem ((c.tc : Thread Cert.ReduceAdamIdeal.nD Cert.ReduceAdamIdeal.τ).loc Cert.ReduceAdamIdeal.main_arg5) = m ((c.tc : Thread Cert.ReduceAdamIdeal.nD Cert.ReduceAdamIdeal.τ).loc Cert.ReduceAdamIdeal.main_arg5)
      ∧ r.2.mem ((c.tc : Thread Cert.ReduceAdamIdeal.nD Cert.ReduceAdamIdeal.τ).loc Cert.ReduceAdamIdeal.main_arg6) = m ((c.tc : Thread Cert.ReduceAdamIdeal.nD Cert.ReduceAdamIdeal.τ).loc Cert.ReduceAdamIdeal.main_arg6)
      ∧ r.2.mem ((c.tc : Thread Cert.ReduceAdamIdeal.nD Cert.ReduceAdamIdeal.τ).loc Cert.ReduceAdamIdeal.main_arg7) = m ((c.tc : Thread Cert.ReduceAdamIdeal.nD Cert.ReduceAdamIdeal.τ).loc Cert.ReduceAdamIdeal.main_arg7)
      ∧ r.2.mem ((c.tc : Thread Cert.ReduceAdamIdeal.nD Cert.ReduceAdamIdeal.τ).loc Cert.ReduceAdamIdeal.main_arg8) = m ((c.tc : Thread Cert.ReduceAdamIdeal.nD Cert.ReduceAdamIdeal.τ).loc Cert.ReduceAdamIdeal.main_arg8)
      ∧ r.2.mem ((c.tc : Thread Cert.ReduceAdamIdeal.nD Cert.ReduceAdamIdeal.τ).loc Cert.ReduceAdamIdeal.main_arg9) = m ((c.tc : Thread Cert.ReduceAdamIdeal.nD Cert.ReduceAdamIdeal.τ).loc Cert.ReduceAdamIdeal.main_arg9)
      ∧ r.2.mem ((c.tc : Thread Cert.ReduceAdamIdeal.nD Cert.ReduceAdamIdeal.τ).loc Cert.ReduceAdamIdeal.main_arg10) = m ((c.tc : Thread Cert.ReduceAdamIdeal.nD Cert.ReduceAdamIdeal.τ).loc Cert.ReduceAdamIdeal.main_arg10)
      ∧ r.2.mem ((c.tc : Thread Cert.ReduceAdamIdeal.nD Cert.ReduceAdamIdeal.τ).loc Cert.ReduceAdamIdeal.main_arg11) = m ((c.tc : Thread Cert.ReduceAdamIdeal.nD Cert.ReduceAdamIdeal.τ).loc Cert.ReduceAdamIdeal.main_arg11)
      ∧ r.2.mem ((c.tc : Thread Cert.ReduceAdamIdeal.nD Cert.ReduceAdamIdeal.τ).loc Cert.ReduceAdamIdeal.main_arg12) = m ((c.tc : Thread Cert.ReduceAdamIdeal.nD Cert.ReduceAdamIdeal.τ).loc Cert.ReduceAdamIdeal.main_arg12))
      ∧ r.2.sem = fun _ => 0)

def quiescent_ReduceAdamRefIdeal [hReduceAdamRefIdeal : Cert.ReduceAdamRefIdeal.Facts] : Prop :=
  ∀ (m : (ℓ : Loc Cert.ReduceAdamRefIdeal.nD Cert.ReduceAdamRefIdeal.τ Cert.ReduceAdamRefIdeal.sig) → Buf (Elt Ideal) ℓ) (g : Dev Cert.ReduceAdamRefIdeal.nD → PrngReg), Pre_ReduceAdamRefIdeal m →
    θ_run (Cert.ReduceAdamRefIdeal.defs (F := Ideal)) (onTc (τ := Cert.ReduceAdamRefIdeal.τ) (Cert.ReduceAdamRefIdeal.main (F := Ideal))) ⟨m, fun _ => 0, g⟩ (fun r => (∀ c : Dev Cert.ReduceAdamRefIdeal.nD,
      r.2.mem ((c.tc : Thread Cert.ReduceAdamRefIdeal.nD Cert.ReduceAdamRefIdeal.τ).loc Cert.ReduceAdamRefIdeal.main_arg0) = m ((c.tc : Thread Cert.ReduceAdamRefIdeal.nD Cert.ReduceAdamRefIdeal.τ).loc Cert.ReduceAdamRefIdeal.main_arg0)
      ∧ r.2.mem ((c.tc : Thread Cert.ReduceAdamRefIdeal.nD Cert.ReduceAdamRefIdeal.τ).loc Cert.ReduceAdamRefIdeal.main_arg1) = m ((c.tc : Thread Cert.ReduceAdamRefIdeal.nD Cert.ReduceAdamRefIdeal.τ).loc Cert.ReduceAdamRefIdeal.main_arg1)
      ∧ r.2.mem ((c.tc : Thread Cert.ReduceAdamRefIdeal.nD Cert.ReduceAdamRefIdeal.τ).loc Cert.ReduceAdamRefIdeal.main_arg2) = m ((c.tc : Thread Cert.ReduceAdamRefIdeal.nD Cert.ReduceAdamRefIdeal.τ).loc Cert.ReduceAdamRefIdeal.main_arg2)
      ∧ r.2.mem ((c.tc : Thread Cert.ReduceAdamRefIdeal.nD Cert.ReduceAdamRefIdeal.τ).loc Cert.ReduceAdamRefIdeal.main_arg3) = m ((c.tc : Thread Cert.ReduceAdamRefIdeal.nD Cert.ReduceAdamRefIdeal.τ).loc Cert.ReduceAdamRefIdeal.main_arg3)
      ∧ r.2.mem ((c.tc : Thread Cert.ReduceAdamRefIdeal.nD Cert.ReduceAdamRefIdeal.τ).loc Cert.ReduceAdamRefIdeal.main_arg4) = m ((c.tc : Thread Cert.ReduceAdamRefIdeal.nD Cert.ReduceAdamRefIdeal.τ).loc Cert.ReduceAdamRefIdeal.main_arg4)
      ∧ r.2.mem ((c.tc : Thread Cert.ReduceAdamRefIdeal.nD Cert.ReduceAdamRefIdeal.τ).loc Cert.ReduceAdamRefIdeal.main_arg5) = m ((c.tc : Thread Cert.ReduceAdamRefIdeal.nD Cert.ReduceAdamRefIdeal.τ).loc Cert.ReduceAdamRefIdeal.main_arg5)
      ∧ r.2.mem ((c.tc : Thread Cert.ReduceAdamRefIdeal.nD Cert.ReduceAdamRefIdeal.τ).loc Cert.ReduceAdamRefIdeal.main_arg6) = m ((c.tc : Thread Cert.ReduceAdamRefIdeal.nD Cert.ReduceAdamRefIdeal.τ).loc Cert.ReduceAdamRefIdeal.main_arg6)
      ∧ r.2.mem ((c.tc : Thread Cert.ReduceAdamRefIdeal.nD Cert.ReduceAdamRefIdeal.τ).loc Cert.ReduceAdamRefIdeal.main_arg7) = m ((c.tc : Thread Cert.ReduceAdamRefIdeal.nD Cert.ReduceAdamRefIdeal.τ).loc Cert.ReduceAdamRefIdeal.main_arg7)
      ∧ r.2.mem ((c.tc : Thread Cert.ReduceAdamRefIdeal.nD Cert.ReduceAdamRefIdeal.τ).loc Cert.ReduceAdamRefIdeal.main_arg8) = m ((c.tc : Thread Cert.ReduceAdamRefIdeal.nD Cert.ReduceAdamRefIdeal.τ).loc Cert.ReduceAdamRefIdeal.main_arg8)
      ∧ r.2.mem ((c.tc : Thread Cert.ReduceAdamRefIdeal.nD Cert.ReduceAdamRefIdeal.τ).loc Cert.ReduceAdamRefIdeal.main_arg9) = m ((c.tc : Thread Cert.ReduceAdamRefIdeal.nD Cert.ReduceAdamRefIdeal.τ).loc Cert.ReduceAdamRefIdeal.main_arg9)
      ∧ r.2.mem ((c.tc : Thread Cert.ReduceAdamRefIdeal.nD Cert.ReduceAdamRefIdeal.τ).loc Cert.ReduceAdamRefIdeal.main_arg10) = m ((c.tc : Thread Cert.ReduceAdamRefIdeal.nD Cert.ReduceAdamRefIdeal.τ).loc Cert.ReduceAdamRefIdeal.main_arg10)
      ∧ r.2.mem ((c.tc : Thread Cert.ReduceAdamRefIdeal.nD Cert.ReduceAdamRefIdeal.τ).loc Cert.ReduceAdamRefIdeal.main_arg11) = m ((c.tc : Thread Cert.ReduceAdamRefIdeal.nD Cert.ReduceAdamRefIdeal.τ).loc Cert.ReduceAdamRefIdeal.main_arg11)
      ∧ r.2.mem ((c.tc : Thread Cert.ReduceAdamRefIdeal.nD Cert.ReduceAdamRefIdeal.τ).loc Cert.ReduceAdamRefIdeal.main_arg12) = m ((c.tc : Thread Cert.ReduceAdamRefIdeal.nD Cert.ReduceAdamRefIdeal.τ).loc Cert.ReduceAdamRefIdeal.main_arg12))
      ∧ r.2.sem = fun _ => 0)

def preserves_LossBwd_LossBwdIdeal : Prop :=
  True

def algebraic_LossBwdIdeal_LossRefIdeal_pre_loss_finite [hLossBwdIdeal : Cert.LossBwdIdeal.Facts] [hLossRefIdeal : Cert.LossRefIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal_loss_finite m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)) →
    ∃ (v0 : (c : Dev Cert.LossBwdIdeal.nD) → Buf (Elt Ideal) ((c.tc : Thread Cert.LossBwdIdeal.nD Cert.LossBwdIdeal.τ).loc Cert.LossBwdIdeal.main_v1_0)) (v1 : (c : Dev Cert.LossBwdIdeal.nD) → Buf (Elt Ideal) ((c.tc : Thread Cert.LossBwdIdeal.nD Cert.LossBwdIdeal.τ).loc Cert.LossBwdIdeal.main_v1_1)) (v2 : (c : Dev Cert.LossBwdIdeal.nD) → Buf (Elt Ideal) ((c.tc : Thread Cert.LossBwdIdeal.nD Cert.LossBwdIdeal.τ).loc Cert.LossBwdIdeal.main_v1_2)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v1_0) = v0 c
          ∧ r.2.mem ((c.tc : Thread Cert.LossBwdIdeal.nD Cert.LossBwdIdeal.τ).loc Cert.LossBwdIdeal.main_v1_1) = v1 c
          ∧ r.2.mem ((c.tc : Thread Cert.LossBwdIdeal.nD Cert.LossBwdIdeal.τ).loc Cert.LossBwdIdeal.main_v1_2) = v2 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v50) = v0 c
          ∧ r.2.mem ((c.tc : Thread Cert.LossRefIdeal.nD Cert.LossRefIdeal.τ).loc Cert.LossRefIdeal.main_v51) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)
      ∧ m' ((c.tc : Thread Cert.FfnRefIdeal.nD Cert.FfnRefIdeal.τ).loc Cert.FfnRefIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v5_0)) (v1 : (c : Dev Cert.FfnBwdIdeal.nD) → Buf (Elt Ideal) ((c.tc : Thread Cert.FfnBwdIdeal.nD Cert.FfnBwdIdeal.τ).loc Cert.FfnBwdIdeal.main_v5_1)) (v2 : (c : Dev Cert.FfnBwdIdeal.nD) → Buf (Elt Ideal) ((c.tc : Thread Cert.FfnBwdIdeal.nD Cert.FfnBwdIdeal.τ).loc Cert.FfnBwdIdeal.main_v5_2)) (v3 : (c : Dev Cert.FfnBwdIdeal.nD) → Buf (Elt Ideal) ((c.tc : Thread Cert.FfnBwdIdeal.nD Cert.FfnBwdIdeal.τ).loc Cert.FfnBwdIdeal.main_v5_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v5_0) = v0 c
          ∧ r.2.mem ((c.tc : Thread Cert.FfnBwdIdeal.nD Cert.FfnBwdIdeal.τ).loc Cert.FfnBwdIdeal.main_v5_1) = v1 c
          ∧ r.2.mem ((c.tc : Thread Cert.FfnBwdIdeal.nD Cert.FfnBwdIdeal.τ).loc Cert.FfnBwdIdeal.main_v5_2) = v2 c
          ∧ r.2.mem ((c.tc : Thread Cert.FfnBwdIdeal.nD Cert.FfnBwdIdeal.τ).loc Cert.FfnBwdIdeal.main_v5_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_v21) = v1 c
          ∧ r.2.mem ((c.tc : Thread Cert.FfnRefIdeal.nD Cert.FfnRefIdeal.τ).loc Cert.FfnRefIdeal.main_v22) = v2 c
          ∧ r.2.mem ((c.tc : Thread Cert.FfnRefIdeal.nD Cert.FfnRefIdeal.τ).loc Cert.FfnRefIdeal.main_v23) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_InprojBwd_InprojBwdIdeal : Prop :=
  True

def algebraic_InprojBwdIdeal_InprojRefIdeal_pre_inproj_finite [hInprojBwdIdeal : Cert.InprojBwdIdeal.Facts] [hInprojRefIdeal : Cert.InprojRefIdeal.Facts] [hPre_inproj_finite : Cert.Pre_inproj_finite.Facts] : Prop :=
  ∀ (m : (ℓ : Loc Cert.InprojBwdIdeal.nD Cert.InprojBwdIdeal.τ Cert.InprojBwdIdeal.sig) → Buf (Elt Ideal) ℓ) (g : Dev Cert.InprojBwdIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojBwdIdeal_inproj_finite m →
    (∀ c : Dev Cert.InprojBwdIdeal.nD,
      m' ((c.tc : Thread Cert.InprojRefIdeal.nD Cert.InprojRefIdeal.τ).loc Cert.InprojRefIdeal.main_arg0) = m ((c.tc : Thread Cert.InprojBwdIdeal.nD Cert.InprojBwdIdeal.τ).loc Cert.InprojBwdIdeal.main_arg0)
      ∧ m' ((c.tc : Thread Cert.InprojRefIdeal.nD Cert.InprojRefIdeal.τ).loc Cert.InprojRefIdeal.main_arg1) = m ((c.tc : Thread Cert.InprojBwdIdeal.nD Cert.InprojBwdIdeal.τ).loc Cert.InprojBwdIdeal.main_arg1)
      ∧ m' ((c.tc : Thread Cert.InprojRefIdeal.nD Cert.InprojRefIdeal.τ).loc Cert.InprojRefIdeal.main_arg2) = m ((c.tc : Thread Cert.InprojBwdIdeal.nD Cert.InprojBwdIdeal.τ).loc Cert.InprojBwdIdeal.main_arg2)
      ∧ m' ((c.tc : Thread Cert.InprojRefIdeal.nD Cert.InprojRefIdeal.τ).loc Cert.InprojRefIdeal.main_arg3) = m ((c.tc : Thread Cert.InprojBwdIdeal.nD Cert.InprojBwdIdeal.τ).loc Cert.InprojBwdIdeal.main_arg3)
      ∧ m' ((c.tc : Thread Cert.InprojRefIdeal.nD Cert.InprojRefIdeal.τ).loc Cert.InprojRefIdeal.main_arg4) = m ((c.tc : Thread Cert.InprojBwdIdeal.nD Cert.InprojBwdIdeal.τ).loc Cert.InprojBwdIdeal.main_arg4)
      ∧ m' ((c.tc : Thread Cert.InprojRefIdeal.nD Cert.InprojRefIdeal.τ).loc Cert.InprojRefIdeal.main_arg5) = m ((c.tc : Thread Cert.InprojBwdIdeal.nD Cert.InprojBwdIdeal.τ).loc Cert.InprojBwdIdeal.main_arg5)) →
    ∃ (v0 : (c : Dev Cert.InprojBwdIdeal.nD) → Buf (Elt Ideal) ((c.tc : Thread Cert.InprojBwdIdeal.nD Cert.InprojBwdIdeal.τ).loc Cert.InprojBwdIdeal.main_v6_0)) (v1 : (c : Dev Cert.InprojBwdIdeal.nD) → Buf (Elt Ideal) ((c.tc : Thread Cert.InprojBwdIdeal.nD Cert.InprojBwdIdeal.τ).loc Cert.InprojBwdIdeal.main_v6_1)) (v2 : (c : Dev Cert.InprojBwdIdeal.nD) → Buf (Elt Ideal) ((c.tc : Thread Cert.InprojBwdIdeal.nD Cert.InprojBwdIdeal.τ).loc Cert.InprojBwdIdeal.main_v6_2)) (v3 : (c : Dev Cert.InprojBwdIdeal.nD) → Buf (Elt Ideal) ((c.tc : Thread Cert.InprojBwdIdeal.nD Cert.InprojBwdIdeal.τ).loc Cert.InprojBwdIdeal.main_v6_3)),
      θ_run (Cert.InprojBwdIdeal.defs (F := Ideal)) (onTc (τ := Cert.InprojBwdIdeal.τ) (Cert.InprojBwdIdeal.main (F := Ideal))) ⟨m, fun _ => 0, g⟩ (fun r => ∀ c : Dev Cert.InprojBwdIdeal.nD,
          r.2.mem ((c.tc : Thread Cert.InprojBwdIdeal.nD Cert.InprojBwdIdeal.τ).loc Cert.InprojBwdIdeal.main_v6_0) = v0 c
          ∧ r.2.mem ((c.tc : Thread Cert.InprojBwdIdeal.nD Cert.InprojBwdIdeal.τ).loc Cert.InprojBwdIdeal.main_v6_1) = v1 c
          ∧ r.2.mem ((c.tc : Thread Cert.InprojBwdIdeal.nD Cert.InprojBwdIdeal.τ).loc Cert.InprojBwdIdeal.main_v6_2) = v2 c
          ∧ r.2.mem ((c.tc : Thread Cert.InprojBwdIdeal.nD Cert.InprojBwdIdeal.τ).loc Cert.InprojBwdIdeal.main_v6_3) = v3 c
          ∧ r.2.mem ((c.tc : Thread Cert.InprojBwdIdeal.nD Cert.InprojBwdIdeal.τ).loc Cert.InprojBwdIdeal.main_arg0) = m ((c.tc : Thread Cert.InprojBwdIdeal.nD Cert.InprojBwdIdeal.τ).loc Cert.InprojBwdIdeal.main_arg0)
          ∧ r.2.mem ((c.tc : Thread Cert.InprojBwdIdeal.nD Cert.InprojBwdIdeal.τ).loc Cert.InprojBwdIdeal.main_arg1) = m ((c.tc : Thread Cert.InprojBwdIdeal.nD Cert.InprojBwdIdeal.τ).loc Cert.InprojBwdIdeal.main_arg1)
          ∧ r.2.mem ((c.tc : Thread Cert.InprojBwdIdeal.nD Cert.InprojBwdIdeal.τ).loc Cert.InprojBwdIdeal.main_arg2) = m ((c.tc : Thread Cert.InprojBwdIdeal.nD Cert.InprojBwdIdeal.τ).loc Cert.InprojBwdIdeal.main_arg2)
          ∧ r.2.mem ((c.tc : Thread Cert.InprojBwdIdeal.nD Cert.InprojBwdIdeal.τ).loc Cert.InprojBwdIdeal.main_arg3) = m ((c.tc : Thread Cert.InprojBwdIdeal.nD Cert.InprojBwdIdeal.τ).loc Cert.InprojBwdIdeal.main_arg3)
          ∧ r.2.mem ((c.tc : Thread Cert.InprojBwdIdeal.nD Cert.InprojBwdIdeal.τ).loc Cert.InprojBwdIdeal.main_arg4) = m ((c.tc : Thread Cert.InprojBwdIdeal.nD Cert.InprojBwdIdeal.τ).loc Cert.InprojBwdIdeal.main_arg4)
          ∧ r.2.mem ((c.tc : Thread Cert.InprojBwdIdeal.nD Cert.InprojBwdIdeal.τ).loc Cert.InprojBwdIdeal.main_arg5) = m ((c.tc : Thread Cert.InprojBwdIdeal.nD Cert.InprojBwdIdeal.τ).loc Cert.InprojBwdIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v56) = v0 c
          ∧ r.2.mem ((c.tc : Thread Cert.InprojRefIdeal.nD Cert.InprojRefIdeal.τ).loc Cert.InprojRefIdeal.main_v57) = v1 c
          ∧ r.2.mem ((c.tc : Thread Cert.InprojRefIdeal.nD Cert.InprojRefIdeal.τ).loc Cert.InprojRefIdeal.main_v58) = v2 c
          ∧ r.2.mem ((c.tc : Thread Cert.InprojRefIdeal.nD Cert.InprojRefIdeal.τ).loc Cert.InprojRefIdeal.main_v59) = v3 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def preserves_FfninBwd_FfninBwdIdeal : Prop :=
  True

def algebraic_FfninBwdIdeal_FfninRefIdeal_pre_ffnin_finite [hFfninBwdIdeal : Cert.FfninBwdIdeal.Facts] [hFfninRefIdeal : Cert.FfninRefIdeal.Facts] [hPre_ffnin_finite : Cert.Pre_ffnin_finite.Facts] : Prop :=
  ∀ (m : (ℓ : Loc Cert.FfninBwdIdeal.nD Cert.FfninBwdIdeal.τ Cert.FfninBwdIdeal.sig) → Buf (Elt Ideal) ℓ) (g : Dev Cert.FfninBwdIdeal.nD → PrngReg)
    (m' : (ℓ : Loc Cert.FfninRefIdeal.nD Cert.FfninRefIdeal.τ Cert.FfninRefIdeal.sig) → Buf (Elt Ideal) ℓ) (g' : Dev Cert.FfninRefIdeal.nD → PrngReg), Pre_FfninBwdIdeal_ffnin_finite m →
    (∀ c : Dev Cert.FfninBwdIdeal.nD,
      m' ((c.tc : Thread Cert.FfninRefIdeal.nD Cert.FfninRefIdeal.τ).loc Cert.FfninRefIdeal.main_arg0) = m ((c.tc : Thread Cert.FfninBwdIdeal.nD Cert.FfninBwdIdeal.τ).loc Cert.FfninBwdIdeal.main_arg0)
      ∧ m' ((c.tc : Thread Cert.FfninRefIdeal.nD Cert.FfninRefIdeal.τ).loc Cert.FfninRefIdeal.main_arg1) = m ((c.tc : Thread Cert.FfninBwdIdeal.nD Cert.FfninBwdIdeal.τ).loc Cert.FfninBwdIdeal.main_arg1)
      ∧ m' ((c.tc : Thread Cert.FfninRefIdeal.nD Cert.FfninRefIdeal.τ).loc Cert.FfninRefIdeal.main_arg2) = m ((c.tc : Thread Cert.FfninBwdIdeal.nD Cert.FfninBwdIdeal.τ).loc Cert.FfninBwdIdeal.main_arg2)
      ∧ m' ((c.tc : Thread Cert.FfninRefIdeal.nD Cert.FfninRefIdeal.τ).loc Cert.FfninRefIdeal.main_arg3) = m ((c.tc : Thread Cert.FfninBwdIdeal.nD Cert.FfninBwdIdeal.τ).loc Cert.FfninBwdIdeal.main_arg3)
      ∧ m' ((c.tc : Thread Cert.FfninRefIdeal.nD Cert.FfninRefIdeal.τ).loc Cert.FfninRefIdeal.main_arg4) = m ((c.tc : Thread Cert.FfninBwdIdeal.nD Cert.FfninBwdIdeal.τ).loc Cert.FfninBwdIdeal.main_arg4)
      ∧ m' ((c.tc : Thread Cert.FfninRefIdeal.nD Cert.FfninRefIdeal.τ).loc Cert.FfninRefIdeal.main_arg5) = m ((c.tc : Thread Cert.FfninBwdIdeal.nD Cert.FfninBwdIdeal.τ).loc Cert.FfninBwdIdeal.main_arg5)) →
    ∃ (v0 : (c : Dev Cert.FfninBwdIdeal.nD) → Buf (Elt Ideal) ((c.tc : Thread Cert.FfninBwdIdeal.nD Cert.FfninBwdIdeal.τ).loc Cert.FfninBwdIdeal.main_v5_0)) (v1 : (c : Dev Cert.FfninBwdIdeal.nD) → Buf (Elt Ideal) ((c.tc : Thread Cert.FfninBwdIdeal.nD Cert.FfninBwdIdeal.τ).loc Cert.FfninBwdIdeal.main_v5_1)) (v2 : (c : Dev Cert.FfninBwdIdeal.nD) → Buf (Elt Ideal) ((c.tc : Thread Cert.FfninBwdIdeal.nD Cert.FfninBwdIdeal.τ).loc Cert.FfninBwdIdeal.main_v5_2)) (v3 : (c : Dev Cert.FfninBwdIdeal.nD) → Buf (Elt Ideal) ((c.tc : Thread Cert.FfninBwdIdeal.nD Cert.FfninBwdIdeal.τ).loc Cert.FfninBwdIdeal.main_v5_3)),
      θ_run (Cert.FfninBwdIdeal.defs (F := Ideal)) (onTc (τ := Cert.FfninBwdIdeal.τ) (Cert.FfninBwdIdeal.main (F := Ideal))) ⟨m, fun _ => 0, g⟩ (fun r => ∀ c : Dev Cert.FfninBwdIdeal.nD,
          r.2.mem ((c.tc : Thread Cert.FfninBwdIdeal.nD Cert.FfninBwdIdeal.τ).loc Cert.FfninBwdIdeal.main_v5_0) = v0 c
          ∧ r.2.mem ((c.tc : Thread Cert.FfninBwdIdeal.nD Cert.FfninBwdIdeal.τ).loc Cert.FfninBwdIdeal.main_v5_1) = v1 c
          ∧ r.2.mem ((c.tc : Thread Cert.FfninBwdIdeal.nD Cert.FfninBwdIdeal.τ).loc Cert.FfninBwdIdeal.main_v5_2) = v2 c
          ∧ r.2.mem ((c.tc : Thread Cert.FfninBwdIdeal.nD Cert.FfninBwdIdeal.τ).loc Cert.FfninBwdIdeal.main_v5_3) = v3 c
          ∧ r.2.mem ((c.tc : Thread Cert.FfninBwdIdeal.nD Cert.FfninBwdIdeal.τ).loc Cert.FfninBwdIdeal.main_arg0) = m ((c.tc : Thread Cert.FfninBwdIdeal.nD Cert.FfninBwdIdeal.τ).loc Cert.FfninBwdIdeal.main_arg0)
          ∧ r.2.mem ((c.tc : Thread Cert.FfninBwdIdeal.nD Cert.FfninBwdIdeal.τ).loc Cert.FfninBwdIdeal.main_arg1) = m ((c.tc : Thread Cert.FfninBwdIdeal.nD Cert.FfninBwdIdeal.τ).loc Cert.FfninBwdIdeal.main_arg1)
          ∧ r.2.mem ((c.tc : Thread Cert.FfninBwdIdeal.nD Cert.FfninBwdIdeal.τ).loc Cert.FfninBwdIdeal.main_arg2) = m ((c.tc : Thread Cert.FfninBwdIdeal.nD Cert.FfninBwdIdeal.τ).loc Cert.FfninBwdIdeal.main_arg2)
          ∧ r.2.mem ((c.tc : Thread Cert.FfninBwdIdeal.nD Cert.FfninBwdIdeal.τ).loc Cert.FfninBwdIdeal.main_arg3) = m ((c.tc : Thread Cert.FfninBwdIdeal.nD Cert.FfninBwdIdeal.τ).loc Cert.FfninBwdIdeal.main_arg3)
          ∧ r.2.mem ((c.tc : Thread Cert.FfninBwdIdeal.nD Cert.FfninBwdIdeal.τ).loc Cert.FfninBwdIdeal.main_arg4) = m ((c.tc : Thread Cert.FfninBwdIdeal.nD Cert.FfninBwdIdeal.τ).loc Cert.FfninBwdIdeal.main_arg4)
          ∧ r.2.mem ((c.tc : Thread Cert.FfninBwdIdeal.nD Cert.FfninBwdIdeal.τ).loc Cert.FfninBwdIdeal.main_arg5) = m ((c.tc : Thread Cert.FfninBwdIdeal.nD Cert.FfninBwdIdeal.τ).loc Cert.FfninBwdIdeal.main_arg5))
      ∧ θ_run (Cert.FfninRefIdeal.defs (F := Ideal)) (onTc (τ := Cert.FfninRefIdeal.τ) (Cert.FfninRefIdeal.main (F := Ideal))) ⟨m', fun _ => 0, g'⟩ (fun r => ∀ c : Dev Cert.FfninRefIdeal.nD,
          r.2.mem ((c.tc : Thread Cert.FfninRefIdeal.nD Cert.FfninRefIdeal.τ).loc Cert.FfninRefIdeal.main_v56) = v0 c
          ∧ r.2.mem ((c.tc : Thread Cert.FfninRefIdeal.nD Cert.FfninRefIdeal.τ).loc Cert.FfninRefIdeal.main_v57) = v1 c
          ∧ r.2.mem ((c.tc : Thread Cert.FfninRefIdeal.nD Cert.FfninRefIdeal.τ).loc Cert.FfninRefIdeal.main_v58) = v2 c
          ∧ r.2.mem ((c.tc : Thread Cert.FfninRefIdeal.nD Cert.FfninRefIdeal.τ).loc Cert.FfninRefIdeal.main_v59) = v3 c
          ∧ r.2.mem ((c.tc : Thread Cert.FfninRefIdeal.nD Cert.FfninRefIdeal.τ).loc Cert.FfninRefIdeal.main_arg0) = m' ((c.tc : Thread Cert.FfninRefIdeal.nD Cert.FfninRefIdeal.τ).loc Cert.FfninRefIdeal.main_arg0)
          ∧ r.2.mem ((c.tc : Thread Cert.FfninRefIdeal.nD Cert.FfninRefIdeal.τ).loc Cert.FfninRefIdeal.main_arg1) = m' ((c.tc : Thread Cert.FfninRefIdeal.nD Cert.FfninRefIdeal.τ).loc Cert.FfninRefIdeal.main_arg1)
          ∧ r.2.mem ((c.tc : Thread Cert.FfninRefIdeal.nD Cert.FfninRefIdeal.τ).loc Cert.FfninRefIdeal.main_arg2) = m' ((c.tc : Thread Cert.FfninRefIdeal.nD Cert.FfninRefIdeal.τ).loc Cert.FfninRefIdeal.main_arg2)
          ∧ r.2.mem ((c.tc : Thread Cert.FfninRefIdeal.nD Cert.FfninRefIdeal.τ).loc Cert.FfninRefIdeal.main_arg3) = m' ((c.tc : Thread Cert.FfninRefIdeal.nD Cert.FfninRefIdeal.τ).loc Cert.FfninRefIdeal.main_arg3)
          ∧ r.2.mem ((c.tc : Thread Cert.FfninRefIdeal.nD Cert.FfninRefIdeal.τ).loc Cert.FfninRefIdeal.main_arg4) = m' ((c.tc : Thread Cert.FfninRefIdeal.nD Cert.FfninRefIdeal.τ).loc Cert.FfninRefIdeal.main_arg4)
          ∧ r.2.mem ((c.tc : Thread Cert.FfninRefIdeal.nD Cert.FfninRefIdeal.τ).loc Cert.FfninRefIdeal.main_arg5) = m' ((c.tc : Thread Cert.FfninRefIdeal.nD Cert.FfninRefIdeal.τ).loc Cert.FfninRefIdeal.main_arg5))

def preserves_OutprojBwd_OutprojBwdIdeal : Prop :=
  True

def algebraic_OutprojBwdIdeal_OutprojRefIdeal_pre_outproj_finite [hOutprojBwdIdeal : Cert.OutprojBwdIdeal.Facts] [hOutprojRefIdeal : Cert.OutprojRefIdeal.Facts] [hPre_outproj_finite : Cert.Pre_outproj_finite.Facts] : Prop :=
  ∀ (m : (ℓ : Loc Cert.OutprojBwdIdeal.nD Cert.OutprojBwdIdeal.τ Cert.OutprojBwdIdeal.sig) → Buf (Elt Ideal) ℓ) (g : Dev Cert.OutprojBwdIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojBwdIdeal_outproj_finite m →
    (∀ c : Dev Cert.OutprojBwdIdeal.nD,
      m' ((c.tc : Thread Cert.OutprojRefIdeal.nD Cert.OutprojRefIdeal.τ).loc Cert.OutprojRefIdeal.main_arg0) = m ((c.tc : Thread Cert.OutprojBwdIdeal.nD Cert.OutprojBwdIdeal.τ).loc Cert.OutprojBwdIdeal.main_arg0)
      ∧ m' ((c.tc : Thread Cert.OutprojRefIdeal.nD Cert.OutprojRefIdeal.τ).loc Cert.OutprojRefIdeal.main_arg1) = m ((c.tc : Thread Cert.OutprojBwdIdeal.nD Cert.OutprojBwdIdeal.τ).loc Cert.OutprojBwdIdeal.main_arg1)
      ∧ m' ((c.tc : Thread Cert.OutprojRefIdeal.nD Cert.OutprojRefIdeal.τ).loc Cert.OutprojRefIdeal.main_arg2) = m ((c.tc : Thread Cert.OutprojBwdIdeal.nD Cert.OutprojBwdIdeal.τ).loc Cert.OutprojBwdIdeal.main_arg2)
      ∧ m' ((c.tc : Thread Cert.OutprojRefIdeal.nD Cert.OutprojRefIdeal.τ).loc Cert.OutprojRefIdeal.main_arg3) = m ((c.tc : Thread Cert.OutprojBwdIdeal.nD Cert.OutprojBwdIdeal.τ).loc Cert.OutprojBwdIdeal.main_arg3)
      ∧ m' ((c.tc : Thread Cert.OutprojRefIdeal.nD Cert.OutprojRefIdeal.τ).loc Cert.OutprojRefIdeal.main_arg4) = m ((c.tc : Thread Cert.OutprojBwdIdeal.nD Cert.OutprojBwdIdeal.τ).loc Cert.OutprojBwdIdeal.main_arg4)
      ∧ m' ((c.tc : Thread Cert.OutprojRefIdeal.nD Cert.OutprojRefIdeal.τ).loc Cert.OutprojRefIdeal.main_arg5) = m ((c.tc : Thread Cert.OutprojBwdIdeal.nD Cert.OutprojBwdIdeal.τ).loc Cert.OutprojBwdIdeal.main_arg5)
      ∧ m' ((c.tc : Thread Cert.OutprojRefIdeal.nD Cert.OutprojRefIdeal.τ).loc Cert.OutprojRefIdeal.main_arg6) = m ((c.tc : Thread Cert.OutprojBwdIdeal.nD Cert.OutprojBwdIdeal.τ).loc Cert.OutprojBwdIdeal.main_arg6)
      ∧ m' ((c.tc : Thread Cert.OutprojRefIdeal.nD Cert.OutprojRefIdeal.τ).loc Cert.OutprojRefIdeal.main_arg7) = m ((c.tc : Thread Cert.OutprojBwdIdeal.nD Cert.OutprojBwdIdeal.τ).loc Cert.OutprojBwdIdeal.main_arg7)) →
    ∃ (v0 : (c : Dev Cert.OutprojBwdIdeal.nD) → Buf (Elt Ideal) ((c.tc : Thread Cert.OutprojBwdIdeal.nD Cert.OutprojBwdIdeal.τ).loc Cert.OutprojBwdIdeal.main_v8_0)) (v1 : (c : Dev Cert.OutprojBwdIdeal.nD) → Buf (Elt Ideal) ((c.tc : Thread Cert.OutprojBwdIdeal.nD Cert.OutprojBwdIdeal.τ).loc Cert.OutprojBwdIdeal.main_v8_1)) (v2 : (c : Dev Cert.OutprojBwdIdeal.nD) → Buf (Elt Ideal) ((c.tc : Thread Cert.OutprojBwdIdeal.nD Cert.OutprojBwdIdeal.τ).loc Cert.OutprojBwdIdeal.main_v8_2)) (v3 : (c : Dev Cert.OutprojBwdIdeal.nD) → Buf (Elt Ideal) ((c.tc : Thread Cert.OutprojBwdIdeal.nD Cert.OutprojBwdIdeal.τ).loc Cert.OutprojBwdIdeal.main_v8_3)) (v4 : (c : Dev Cert.OutprojBwdIdeal.nD) → Buf (Elt Ideal) ((c.tc : Thread Cert.OutprojBwdIdeal.nD Cert.OutprojBwdIdeal.τ).loc Cert.OutprojBwdIdeal.main_v8_4)) (v5 : (c : Dev Cert.OutprojBwdIdeal.nD) → Buf (Elt Ideal) ((c.tc : Thread Cert.OutprojBwdIdeal.nD Cert.OutprojBwdIdeal.τ).loc Cert.OutprojBwdIdeal.main_v8_5)),
      θ_run (Cert.OutprojBwdIdeal.defs (F := Ideal)) (onTc (τ := Cert.OutprojBwdIdeal.τ) (Cert.OutprojBwdIdeal.main (F := Ideal))) ⟨m, fun _ => 0, g⟩ (fun r => ∀ c : Dev Cert.OutprojBwdIdeal.nD,
          r.2.mem ((c.tc : Thread Cert.OutprojBwdIdeal.nD Cert.OutprojBwdIdeal.τ).loc Cert.OutprojBwdIdeal.main_v8_0) = v0 c
          ∧ r.2.mem ((c.tc : Thread Cert.OutprojBwdIdeal.nD Cert.OutprojBwdIdeal.τ).loc Cert.OutprojBwdIdeal.main_v8_1) = v1 c
          ∧ r.2.mem ((c.tc : Thread Cert.OutprojBwdIdeal.nD Cert.OutprojBwdIdeal.τ).loc Cert.OutprojBwdIdeal.main_v8_2) = v2 c
          ∧ r.2.mem ((c.tc : Thread Cert.OutprojBwdIdeal.nD Cert.OutprojBwdIdeal.τ).loc Cert.OutprojBwdIdeal.main_v8_3) = v3 c
          ∧ r.2.mem ((c.tc : Thread Cert.OutprojBwdIdeal.nD Cert.OutprojBwdIdeal.τ).loc Cert.OutprojBwdIdeal.main_v8_4) = v4 c
          ∧ r.2.mem ((c.tc : Thread Cert.OutprojBwdIdeal.nD Cert.OutprojBwdIdeal.τ).loc Cert.OutprojBwdIdeal.main_v8_5) = v5 c
          ∧ r.2.mem ((c.tc : Thread Cert.OutprojBwdIdeal.nD Cert.OutprojBwdIdeal.τ).loc Cert.OutprojBwdIdeal.main_arg0) = m ((c.tc : Thread Cert.OutprojBwdIdeal.nD Cert.OutprojBwdIdeal.τ).loc Cert.OutprojBwdIdeal.main_arg0)
          ∧ r.2.mem ((c.tc : Thread Cert.OutprojBwdIdeal.nD Cert.OutprojBwdIdeal.τ).loc Cert.OutprojBwdIdeal.main_arg1) = m ((c.tc : Thread Cert.OutprojBwdIdeal.nD Cert.OutprojBwdIdeal.τ).loc Cert.OutprojBwdIdeal.main_arg1)
          ∧ r.2.mem ((c.tc : Thread Cert.OutprojBwdIdeal.nD Cert.OutprojBwdIdeal.τ).loc Cert.OutprojBwdIdeal.main_arg2) = m ((c.tc : Thread Cert.OutprojBwdIdeal.nD Cert.OutprojBwdIdeal.τ).loc Cert.OutprojBwdIdeal.main_arg2)
          ∧ r.2.mem ((c.tc : Thread Cert.OutprojBwdIdeal.nD Cert.OutprojBwdIdeal.τ).loc Cert.OutprojBwdIdeal.main_arg3) = m ((c.tc : Thread Cert.OutprojBwdIdeal.nD Cert.OutprojBwdIdeal.τ).loc Cert.OutprojBwdIdeal.main_arg3)
          ∧ r.2.mem ((c.tc : Thread Cert.OutprojBwdIdeal.nD Cert.OutprojBwdIdeal.τ).loc Cert.OutprojBwdIdeal.main_arg4) = m ((c.tc : Thread Cert.OutprojBwdIdeal.nD Cert.OutprojBwdIdeal.τ).loc Cert.OutprojBwdIdeal.main_arg4)
          ∧ r.2.mem ((c.tc : Thread Cert.OutprojBwdIdeal.nD Cert.OutprojBwdIdeal.τ).loc Cert.OutprojBwdIdeal.main_arg5) = m ((c.tc : Thread Cert.OutprojBwdIdeal.nD Cert.OutprojBwdIdeal.τ).loc Cert.OutprojBwdIdeal.main_arg5)
          ∧ r.2.mem ((c.tc : Thread Cert.OutprojBwdIdeal.nD Cert.OutprojBwdIdeal.τ).loc Cert.OutprojBwdIdeal.main_arg6) = m ((c.tc : Thread Cert.OutprojBwdIdeal.nD Cert.OutprojBwdIdeal.τ).loc Cert.OutprojBwdIdeal.main_arg6)
          ∧ r.2.mem ((c.tc : Thread Cert.OutprojBwdIdeal.nD Cert.OutprojBwdIdeal.τ).loc Cert.OutprojBwdIdeal.main_arg7) = m ((c.tc : Thread Cert.OutprojBwdIdeal.nD Cert.OutprojBwdIdeal.τ).loc Cert.OutprojBwdIdeal.main_arg7))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v63) = v0 c
          ∧ r.2.mem ((c.tc : Thread Cert.OutprojRefIdeal.nD Cert.OutprojRefIdeal.τ).loc Cert.OutprojRefIdeal.main_v35) = v1 c
          ∧ r.2.mem ((c.tc : Thread Cert.OutprojRefIdeal.nD Cert.OutprojRefIdeal.τ).loc Cert.OutprojRefIdeal.main_v62) = v2 c
          ∧ r.2.mem ((c.tc : Thread Cert.OutprojRefIdeal.nD Cert.OutprojRefIdeal.τ).loc Cert.OutprojRefIdeal.main_v61) = v3 c
          ∧ r.2.mem ((c.tc : Thread Cert.OutprojRefIdeal.nD Cert.OutprojRefIdeal.τ).loc Cert.OutprojRefIdeal.main_v64) = v4 c
          ∧ r.2.mem ((c.tc : Thread Cert.OutprojRefIdeal.nD Cert.OutprojRefIdeal.τ).loc Cert.OutprojRefIdeal.main_v65) = v5 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4)
          ∧ r.2.mem ((c.tc : Thread Cert.OutprojRefIdeal.nD Cert.OutprojRefIdeal.τ).loc Cert.OutprojRefIdeal.main_arg5) = m' ((c.tc : Thread Cert.OutprojRefIdeal.nD Cert.OutprojRefIdeal.τ).loc Cert.OutprojRefIdeal.main_arg5)
          ∧ r.2.mem ((c.tc : Thread Cert.OutprojRefIdeal.nD Cert.OutprojRefIdeal.τ).loc Cert.OutprojRefIdeal.main_arg6) = m' ((c.tc : Thread Cert.OutprojRefIdeal.nD Cert.OutprojRefIdeal.τ).loc Cert.OutprojRefIdeal.main_arg6)
          ∧ r.2.mem ((c.tc : Thread Cert.OutprojRefIdeal.nD Cert.OutprojRefIdeal.τ).loc Cert.OutprojRefIdeal.main_arg7) = m' ((c.tc : Thread Cert.OutprojRefIdeal.nD Cert.OutprojRefIdeal.τ).loc Cert.OutprojRefIdeal.main_arg7))

def preserves_Stage2Bwd_Stage2BwdIdeal : Prop :=
  True

def algebraic_Stage2BwdIdeal_Stage2RefIdeal_pre_stage2_finite [hStage2BwdIdeal : Cert.Stage2BwdIdeal.Facts] [hStage2RefIdeal : Cert.Stage2RefIdeal.Facts] [hPre_stage2_finite : Cert.Pre_stage2_finite.Facts] : Prop :=
  ∀ (m : (ℓ : Loc Cert.Stage2BwdIdeal.nD Cert.Stage2BwdIdeal.τ Cert.Stage2BwdIdeal.sig) → Buf (Elt Ideal) ℓ) (g : Dev Cert.Stage2BwdIdeal.nD → PrngReg)
    (m' : (ℓ : Loc Cert.Stage2RefIdeal.nD Cert.Stage2RefIdeal.τ Cert.Stage2RefIdeal.sig) → Buf (Elt Ideal) ℓ) (g' : Dev Cert.Stage2RefIdeal.nD → PrngReg), Pre_Stage2BwdIdeal_stage2_finite m →
    (∀ c : Dev Cert.Stage2BwdIdeal.nD,
      m' ((c.tc : Thread Cert.Stage2RefIdeal.nD Cert.Stage2RefIdeal.τ).loc Cert.Stage2RefIdeal.main_arg0) = m ((c.tc : Thread Cert.Stage2BwdIdeal.nD Cert.Stage2BwdIdeal.τ).loc Cert.Stage2BwdIdeal.main_arg0)
      ∧ m' ((c.tc : Thread Cert.Stage2RefIdeal.nD Cert.Stage2RefIdeal.τ).loc Cert.Stage2RefIdeal.main_arg1) = m ((c.tc : Thread Cert.Stage2BwdIdeal.nD Cert.Stage2BwdIdeal.τ).loc Cert.Stage2BwdIdeal.main_arg1)
      ∧ m' ((c.tc : Thread Cert.Stage2RefIdeal.nD Cert.Stage2RefIdeal.τ).loc Cert.Stage2RefIdeal.main_arg2) = m ((c.tc : Thread Cert.Stage2BwdIdeal.nD Cert.Stage2BwdIdeal.τ).loc Cert.Stage2BwdIdeal.main_arg2)
      ∧ m' ((c.tc : Thread Cert.Stage2RefIdeal.nD Cert.Stage2RefIdeal.τ).loc Cert.Stage2RefIdeal.main_arg3) = m ((c.tc : Thread Cert.Stage2BwdIdeal.nD Cert.Stage2BwdIdeal.τ).loc Cert.Stage2BwdIdeal.main_arg3)
      ∧ m' ((c.tc : Thread Cert.Stage2RefIdeal.nD Cert.Stage2RefIdeal.τ).loc Cert.Stage2RefIdeal.main_arg4) = m ((c.tc : Thread Cert.Stage2BwdIdeal.nD Cert.Stage2BwdIdeal.τ).loc Cert.Stage2BwdIdeal.main_arg4)
      ∧ m' ((c.tc : Thread Cert.Stage2RefIdeal.nD Cert.Stage2RefIdeal.τ).loc Cert.Stage2RefIdeal.main_arg5) = m ((c.tc : Thread Cert.Stage2BwdIdeal.nD Cert.Stage2BwdIdeal.τ).loc Cert.Stage2BwdIdeal.main_arg5)
      ∧ m' ((c.tc : Thread Cert.Stage2RefIdeal.nD Cert.Stage2RefIdeal.τ).loc Cert.Stage2RefIdeal.main_arg6) = m ((c.tc : Thread Cert.Stage2BwdIdeal.nD Cert.Stage2BwdIdeal.τ).loc Cert.Stage2BwdIdeal.main_arg6)
      ∧ m' ((c.tc : Thread Cert.Stage2RefIdeal.nD Cert.Stage2RefIdeal.τ).loc Cert.Stage2RefIdeal.main_arg7) = m ((c.tc : Thread Cert.Stage2BwdIdeal.nD Cert.Stage2BwdIdeal.τ).loc Cert.Stage2BwdIdeal.main_arg7)
      ∧ m' ((c.tc : Thread Cert.Stage2RefIdeal.nD Cert.Stage2RefIdeal.τ).loc Cert.Stage2RefIdeal.main_arg8) = m ((c.tc : Thread Cert.Stage2BwdIdeal.nD Cert.Stage2BwdIdeal.τ).loc Cert.Stage2BwdIdeal.main_arg8)
      ∧ m' ((c.tc : Thread Cert.Stage2RefIdeal.nD Cert.Stage2RefIdeal.τ).loc Cert.Stage2RefIdeal.main_arg9) = m ((c.tc : Thread Cert.Stage2BwdIdeal.nD Cert.Stage2BwdIdeal.τ).loc Cert.Stage2BwdIdeal.main_arg9)
      ∧ m' ((c.tc : Thread Cert.Stage2RefIdeal.nD Cert.Stage2RefIdeal.τ).loc Cert.Stage2RefIdeal.main_arg10) = m ((c.tc : Thread Cert.Stage2BwdIdeal.nD Cert.Stage2BwdIdeal.τ).loc Cert.Stage2BwdIdeal.main_arg10)
      ∧ m' ((c.tc : Thread Cert.Stage2RefIdeal.nD Cert.Stage2RefIdeal.τ).loc Cert.Stage2RefIdeal.main_arg11) = m ((c.tc : Thread Cert.Stage2BwdIdeal.nD Cert.Stage2BwdIdeal.τ).loc Cert.Stage2BwdIdeal.main_arg11)
      ∧ m' ((c.tc : Thread Cert.Stage2RefIdeal.nD Cert.Stage2RefIdeal.τ).loc Cert.Stage2RefIdeal.main_arg12) = m ((c.tc : Thread Cert.Stage2BwdIdeal.nD Cert.Stage2BwdIdeal.τ).loc Cert.Stage2BwdIdeal.main_arg12)) →
    ∃ (v0 : (c : Dev Cert.Stage2BwdIdeal.nD) → Buf (Elt Ideal) ((c.tc : Thread Cert.Stage2BwdIdeal.nD Cert.Stage2BwdIdeal.τ).loc Cert.Stage2BwdIdeal.main_v11_0)) (v1 : (c : Dev Cert.Stage2BwdIdeal.nD) → Buf (Elt Ideal) ((c.tc : Thread Cert.Stage2BwdIdeal.nD Cert.Stage2BwdIdeal.τ).loc Cert.Stage2BwdIdeal.main_v11_1)) (v2 : (c : Dev Cert.Stage2BwdIdeal.nD) → Buf (Elt Ideal) ((c.tc : Thread Cert.Stage2BwdIdeal.nD Cert.Stage2BwdIdeal.τ).loc Cert.Stage2BwdIdeal.main_v11_2)) (v3 : (c : Dev Cert.Stage2BwdIdeal.nD) → Buf (Elt Ideal) ((c.tc : Thread Cert.Stage2BwdIdeal.nD Cert.Stage2BwdIdeal.τ).loc Cert.Stage2BwdIdeal.main_v11_3)) (v4 : (c : Dev Cert.Stage2BwdIdeal.nD) → Buf (Elt Ideal) ((c.tc : Thread Cert.Stage2BwdIdeal.nD Cert.Stage2BwdIdeal.τ).loc Cert.Stage2BwdIdeal.main_v11_4)) (v5 : (c : Dev Cert.Stage2BwdIdeal.nD) → Buf (Elt Ideal) ((c.tc : Thread Cert.Stage2BwdIdeal.nD Cert.Stage2BwdIdeal.τ).loc Cert.Stage2BwdIdeal.main_v11_5)) (v6 : (c : Dev Cert.Stage2BwdIdeal.nD) → Buf (Elt Ideal) ((c.tc : Thread Cert.Stage2BwdIdeal.nD Cert.Stage2BwdIdeal.τ).loc Cert.Stage2BwdIdeal.main_v11_6)) (v7 : (c : Dev Cert.Stage2BwdIdeal.nD) → Buf (Elt Ideal) ((c.tc : Thread Cert.Stage2BwdIdeal.nD Cert.Stage2BwdIdeal.τ).loc Cert.Stage2BwdIdeal.main_v11_7)),
      θ_run (Cert.Stage2BwdIdeal.defs (F := Ideal)) (onTc (τ := Cert.Stage2BwdIdeal.τ) (Cert.Stage2BwdIdeal.main (F := Ideal))) ⟨m, fun _ => 0, g⟩ (fun r => ∀ c : Dev Cert.Stage2BwdIdeal.nD,
          r.2.mem ((c.tc : Thread Cert.Stage2BwdIdeal.nD Cert.Stage2BwdIdeal.τ).loc Cert.Stage2BwdIdeal.main_v11_0) = v0 c
          ∧ r.2.mem ((c.tc : Thread Cert.Stage2BwdIdeal.nD Cert.Stage2BwdIdeal.τ).loc Cert.Stage2BwdIdeal.main_v11_1) = v1 c
          ∧ r.2.mem ((c.tc : Thread Cert.Stage2BwdIdeal.nD Cert.Stage2BwdIdeal.τ).loc Cert.Stage2BwdIdeal.main_v11_2) = v2 c
          ∧ r.2.mem ((c.tc : Thread Cert.Stage2BwdIdeal.nD Cert.Stage2BwdIdeal.τ).loc Cert.Stage2BwdIdeal.main_v11_3) = v3 c
          ∧ r.2.mem ((c.tc : Thread Cert.Stage2BwdIdeal.nD Cert.Stage2BwdIdeal.τ).loc Cert.Stage2BwdIdeal.main_v11_4) = v4 c
          ∧ r.2.mem ((c.tc : Thread Cert.Stage2BwdIdeal.nD Cert.Stage2BwdIdeal.τ).loc Cert.Stage2BwdIdeal.main_v11_5) = v5 c
          ∧ r.2.mem ((c.tc : Thread Cert.Stage2BwdIdeal.nD Cert.Stage2BwdIdeal.τ).loc Cert.Stage2BwdIdeal.main_v11_6) = v6 c
          ∧ r.2.mem ((c.tc : Thread Cert.Stage2BwdIdeal.nD Cert.Stage2BwdIdeal.τ).loc Cert.Stage2BwdIdeal.main_v11_7) = v7 c
          ∧ r.2.mem ((c.tc : Thread Cert.Stage2BwdIdeal.nD Cert.Stage2BwdIdeal.τ).loc Cert.Stage2BwdIdeal.main_arg0) = m ((c.tc : Thread Cert.Stage2BwdIdeal.nD Cert.Stage2BwdIdeal.τ).loc Cert.Stage2BwdIdeal.main_arg0)
          ∧ r.2.mem ((c.tc : Thread Cert.Stage2BwdIdeal.nD Cert.Stage2BwdIdeal.τ).loc Cert.Stage2BwdIdeal.main_arg1) = m ((c.tc : Thread Cert.Stage2BwdIdeal.nD Cert.Stage2BwdIdeal.τ).loc Cert.Stage2BwdIdeal.main_arg1)
          ∧ r.2.mem ((c.tc : Thread Cert.Stage2BwdIdeal.nD Cert.Stage2BwdIdeal.τ).loc Cert.Stage2BwdIdeal.main_arg2) = m ((c.tc : Thread Cert.Stage2BwdIdeal.nD Cert.Stage2BwdIdeal.τ).loc Cert.Stage2BwdIdeal.main_arg2)
          ∧ r.2.mem ((c.tc : Thread Cert.Stage2BwdIdeal.nD Cert.Stage2BwdIdeal.τ).loc Cert.Stage2BwdIdeal.main_arg3) = m ((c.tc : Thread Cert.Stage2BwdIdeal.nD Cert.Stage2BwdIdeal.τ).loc Cert.Stage2BwdIdeal.main_arg3)
          ∧ r.2.mem ((c.tc : Thread Cert.Stage2BwdIdeal.nD Cert.Stage2BwdIdeal.τ).loc Cert.Stage2BwdIdeal.main_arg4) = m ((c.tc : Thread Cert.Stage2BwdIdeal.nD Cert.Stage2BwdIdeal.τ).loc Cert.Stage2BwdIdeal.main_arg4)
          ∧ r.2.mem ((c.tc : Thread Cert.Stage2BwdIdeal.nD Cert.Stage2BwdIdeal.τ).loc Cert.Stage2BwdIdeal.main_arg5) = m ((c.tc : Thread Cert.Stage2BwdIdeal.nD Cert.Stage2BwdIdeal.τ).loc Cert.Stage2BwdIdeal.main_arg5)
          ∧ r.2.mem ((c.tc : Thread Cert.Stage2BwdIdeal.nD Cert.Stage2BwdIdeal.τ).loc Cert.Stage2BwdIdeal.main_arg6) = m ((c.tc : Thread Cert.Stage2BwdIdeal.nD Cert.Stage2BwdIdeal.τ).loc Cert.Stage2BwdIdeal.main_arg6)
          ∧ r.2.mem ((c.tc : Thread Cert.Stage2BwdIdeal.nD Cert.Stage2BwdIdeal.τ).loc Cert.Stage2BwdIdeal.main_arg7) = m ((c.tc : Thread Cert.Stage2BwdIdeal.nD Cert.Stage2BwdIdeal.τ).loc Cert.Stage2BwdIdeal.main_arg7)
          ∧ r.2.mem ((c.tc : Thread Cert.Stage2BwdIdeal.nD Cert.Stage2BwdIdeal.τ).loc Cert.Stage2BwdIdeal.main_arg8) = m ((c.tc : Thread Cert.Stage2BwdIdeal.nD Cert.Stage2BwdIdeal.τ).loc Cert.Stage2BwdIdeal.main_arg8)
          ∧ r.2.mem ((c.tc : Thread Cert.Stage2BwdIdeal.nD Cert.Stage2BwdIdeal.τ).loc Cert.Stage2BwdIdeal.main_arg9) = m ((c.tc : Thread Cert.Stage2BwdIdeal.nD Cert.Stage2BwdIdeal.τ).loc Cert.Stage2BwdIdeal.main_arg9)
          ∧ r.2.mem ((c.tc : Thread Cert.Stage2BwdIdeal.nD Cert.Stage2BwdIdeal.τ).loc Cert.Stage2BwdIdeal.main_arg10) = m ((c.tc : Thread Cert.Stage2BwdIdeal.nD Cert.Stage2BwdIdeal.τ).loc Cert.Stage2BwdIdeal.main_arg10)
          ∧ r.2.mem ((c.tc : Thread Cert.Stage2BwdIdeal.nD Cert.Stage2BwdIdeal.τ).loc Cert.Stage2BwdIdeal.main_arg11) = m ((c.tc : Thread Cert.Stage2BwdIdeal.nD Cert.Stage2BwdIdeal.τ).loc Cert.Stage2BwdIdeal.main_arg11)
          ∧ r.2.mem ((c.tc : Thread Cert.Stage2BwdIdeal.nD Cert.Stage2BwdIdeal.τ).loc Cert.Stage2BwdIdeal.main_arg12) = m ((c.tc : Thread Cert.Stage2BwdIdeal.nD Cert.Stage2BwdIdeal.τ).loc Cert.Stage2BwdIdeal.main_arg12))
      ∧ θ_run (Cert.Stage2RefIdeal.defs (F := Ideal)) (onTc (τ := Cert.Stage2RefIdeal.τ) (Cert.Stage2RefIdeal.main (F := Ideal))) ⟨m', fun _ => 0, g'⟩ (fun r => ∀ c : Dev Cert.Stage2RefIdeal.nD,
          r.2.mem ((c.tc : Thread Cert.Stage2RefIdeal.nD Cert.Stage2RefIdeal.τ).loc Cert.Stage2RefIdeal.main_v171) = v0 c
          ∧ r.2.mem ((c.tc : Thread Cert.Stage2RefIdeal.nD Cert.Stage2RefIdeal.τ).loc Cert.Stage2RefIdeal.main_v170) = v1 c
          ∧ r.2.mem ((c.tc : Thread Cert.Stage2RefIdeal.nD Cert.Stage2RefIdeal.τ).loc Cert.Stage2RefIdeal.main_v173) = v2 c
          ∧ r.2.mem ((c.tc : Thread Cert.Stage2RefIdeal.nD Cert.Stage2RefIdeal.τ).loc Cert.Stage2RefIdeal.main_v174) = v3 c
          ∧ r.2.mem ((c.tc : Thread Cert.Stage2RefIdeal.nD Cert.Stage2RefIdeal.τ).loc Cert.Stage2RefIdeal.main_v175) = v4 c
          ∧ r.2.mem ((c.tc : Thread Cert.Stage2RefIdeal.nD Cert.Stage2RefIdeal.τ).loc Cert.Stage2RefIdeal.main_v176) = v5 c
          ∧ r.2.mem ((c.tc : Thread Cert.Stage2RefIdeal.nD Cert.Stage2RefIdeal.τ).loc Cert.Stage2RefIdeal.main_v178) = v6 c
          ∧ r.2.mem ((c.tc : Thread Cert.Stage2RefIdeal.nD Cert.Stage2RefIdeal.τ).loc Cert.Stage2RefIdeal.main_v180) = v7 c
          ∧ r.2.mem ((c.tc : Thread Cert.Stage2RefIdeal.nD Cert.Stage2RefIdeal.τ).loc Cert.Stage2RefIdeal.main_arg0) = m' ((c.tc : Thread Cert.Stage2RefIdeal.nD Cert.Stage2RefIdeal.τ).loc Cert.Stage2RefIdeal.main_arg0)
          ∧ r.2.mem ((c.tc : Thread Cert.Stage2RefIdeal.nD Cert.Stage2RefIdeal.τ).loc Cert.Stage2RefIdeal.main_arg1) = m' ((c.tc : Thread Cert.Stage2RefIdeal.nD Cert.Stage2RefIdeal.τ).loc Cert.Stage2RefIdeal.main_arg1)
          ∧ r.2.mem ((c.tc : Thread Cert.Stage2RefIdeal.nD Cert.Stage2RefIdeal.τ).loc Cert.Stage2RefIdeal.main_arg2) = m' ((c.tc : Thread Cert.Stage2RefIdeal.nD Cert.Stage2RefIdeal.τ).loc Cert.Stage2RefIdeal.main_arg2)
          ∧ r.2.mem ((c.tc : Thread Cert.Stage2RefIdeal.nD Cert.Stage2RefIdeal.τ).loc Cert.Stage2RefIdeal.main_arg3) = m' ((c.tc : Thread Cert.Stage2RefIdeal.nD Cert.Stage2RefIdeal.τ).loc Cert.Stage2RefIdeal.main_arg3)
          ∧ r.2.mem ((c.tc : Thread Cert.Stage2RefIdeal.nD Cert.Stage2RefIdeal.τ).loc Cert.Stage2RefIdeal.main_arg4) = m' ((c.tc : Thread Cert.Stage2RefIdeal.nD Cert.Stage2RefIdeal.τ).loc Cert.Stage2RefIdeal.main_arg4)
          ∧ r.2.mem ((c.tc : Thread Cert.Stage2RefIdeal.nD Cert.Stage2RefIdeal.τ).loc Cert.Stage2RefIdeal.main_arg5) = m' ((c.tc : Thread Cert.Stage2RefIdeal.nD Cert.Stage2RefIdeal.τ).loc Cert.Stage2RefIdeal.main_arg5)
          ∧ r.2.mem ((c.tc : Thread Cert.Stage2RefIdeal.nD Cert.Stage2RefIdeal.τ).loc Cert.Stage2RefIdeal.main_arg6) = m' ((c.tc : Thread Cert.Stage2RefIdeal.nD Cert.Stage2RefIdeal.τ).loc Cert.Stage2RefIdeal.main_arg6)
          ∧ r.2.mem ((c.tc : Thread Cert.Stage2RefIdeal.nD Cert.Stage2RefIdeal.τ).loc Cert.Stage2RefIdeal.main_arg7) = m' ((c.tc : Thread Cert.Stage2RefIdeal.nD Cert.Stage2RefIdeal.τ).loc Cert.Stage2RefIdeal.main_arg7)
          ∧ r.2.mem ((c.tc : Thread Cert.Stage2RefIdeal.nD Cert.Stage2RefIdeal.τ).loc Cert.Stage2RefIdeal.main_arg8) = m' ((c.tc : Thread Cert.Stage2RefIdeal.nD Cert.Stage2RefIdeal.τ).loc Cert.Stage2RefIdeal.main_arg8)
          ∧ r.2.mem ((c.tc : Thread Cert.Stage2RefIdeal.nD Cert.Stage2RefIdeal.τ).loc Cert.Stage2RefIdeal.main_arg9) = m' ((c.tc : Thread Cert.Stage2RefIdeal.nD Cert.Stage2RefIdeal.τ).loc Cert.Stage2RefIdeal.main_arg9)
          ∧ r.2.mem ((c.tc : Thread Cert.Stage2RefIdeal.nD Cert.Stage2RefIdeal.τ).loc Cert.Stage2RefIdeal.main_arg10) = m' ((c.tc : Thread Cert.Stage2RefIdeal.nD Cert.Stage2RefIdeal.τ).loc Cert.Stage2RefIdeal.main_arg10)
          ∧ r.2.mem ((c.tc : Thread Cert.Stage2RefIdeal.nD Cert.Stage2RefIdeal.τ).loc Cert.Stage2RefIdeal.main_arg11) = m' ((c.tc : Thread Cert.Stage2RefIdeal.nD Cert.Stage2RefIdeal.τ).loc Cert.Stage2RefIdeal.main_arg11)
          ∧ r.2.mem ((c.tc : Thread Cert.Stage2RefIdeal.nD Cert.Stage2RefIdeal.τ).loc Cert.Stage2RefIdeal.main_arg12) = m' ((c.tc : Thread Cert.Stage2RefIdeal.nD Cert.Stage2RefIdeal.τ).loc Cert.Stage2RefIdeal.main_arg12))

def preserves_ConvBwd_ConvBwdIdeal : Prop :=
  True

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)
      ∧ m' ((c.tc : Thread Cert.NormInRefIdeal.nD Cert.NormInRefIdeal.τ).loc Cert.NormInRefIdeal.main_arg3) = m ((c.tc : Thread Cert.NormInIdeal.nD Cert.NormInIdeal.τ).loc Cert.NormInIdeal.main_arg3)
      ∧ m' ((c.tc : Thread Cert.NormInRefIdeal.nD Cert.NormInRefIdeal.τ).loc Cert.NormInRefIdeal.main_arg4) = m ((c.tc : Thread Cert.NormInIdeal.nD Cert.NormInIdeal.τ).loc Cert.NormInIdeal.main_arg4)) →
    ∃ (v0 : (c : Dev Cert.NormInIdeal.nD) → Buf (Elt Ideal) ((c.tc : Thread Cert.NormInIdeal.nD Cert.NormInIdeal.τ).loc Cert.NormInIdeal.main_v5_0)) (v1 : (c : Dev Cert.NormInIdeal.nD) → Buf (Elt Ideal) ((c.tc : Thread Cert.NormInIdeal.nD Cert.NormInIdeal.τ).loc Cert.NormInIdeal.main_v5_1)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v5_0) = v0 c
          ∧ r.2.mem ((c.tc : Thread Cert.NormInIdeal.nD Cert.NormInIdeal.τ).loc Cert.NormInIdeal.main_v5_1) = v1 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2)
          ∧ r.2.mem ((c.tc : Thread Cert.NormInIdeal.nD Cert.NormInIdeal.τ).loc Cert.NormInIdeal.main_arg3) = m ((c.tc : Thread Cert.NormInIdeal.nD Cert.NormInIdeal.τ).loc Cert.NormInIdeal.main_arg3)
          ∧ r.2.mem ((c.tc : Thread Cert.NormInIdeal.nD Cert.NormInIdeal.τ).loc Cert.NormInIdeal.main_arg4) = m ((c.tc : Thread Cert.NormInIdeal.nD Cert.NormInIdeal.τ).loc Cert.NormInIdeal.main_arg4))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v22) = v0 c
          ∧ r.2.mem ((c.tc : Thread Cert.NormInRefIdeal.nD Cert.NormInRefIdeal.τ).loc Cert.NormInRefIdeal.main_v23) = v1 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2)
          ∧ r.2.mem ((c.tc : Thread Cert.NormInRefIdeal.nD Cert.NormInRefIdeal.τ).loc Cert.NormInRefIdeal.main_arg3) = m' ((c.tc : Thread Cert.NormInRefIdeal.nD Cert.NormInRefIdeal.τ).loc Cert.NormInRefIdeal.main_arg3)
          ∧ r.2.mem ((c.tc : Thread Cert.NormInRefIdeal.nD Cert.NormInRefIdeal.τ).loc Cert.NormInRefIdeal.main_arg4) = m' ((c.tc : Thread Cert.NormInRefIdeal.nD Cert.NormInRefIdeal.τ).loc Cert.NormInRefIdeal.main_arg4))

def preserves_NormFf_NormFfIdeal : Prop :=
  True

def algebraic_NormFfIdeal_NormFfRefIdeal [hNormFfIdeal : Cert.NormFfIdeal.Facts] [hNormFfRefIdeal : Cert.NormFfRefIdeal.Facts] : Prop :=
  ∀ (m : (ℓ : Loc Cert.NormFfIdeal.nD Cert.NormFfIdeal.τ Cert.NormFfIdeal.sig) → Buf (Elt Ideal) ℓ) (g : Dev Cert.NormFfIdeal.nD → PrngReg)
    (m' : (ℓ : Loc Cert.NormFfRefIdeal.nD Cert.NormFfRefIdeal.τ Cert.NormFfRefIdeal.sig) → Buf (Elt Ideal) ℓ) (g' : Dev Cert.NormFfRefIdeal.nD → PrngReg), Pre_NormFfIdeal m →
    (∀ c : Dev Cert.NormFfIdeal.nD,
      m' ((c.tc : Thread Cert.NormFfRefIdeal.nD Cert.NormFfRefIdeal.τ).loc Cert.NormFfRefIdeal.main_arg0) = m ((c.tc : Thread Cert.NormFfIdeal.nD Cert.NormFfIdeal.τ).loc Cert.NormFfIdeal.main_arg0)
      ∧ m' ((c.tc : Thread Cert.NormFfRefIdeal.nD Cert.NormFfRefIdeal.τ).loc Cert.NormFfRefIdeal.main_arg1) = m ((c.tc : Thread Cert.NormFfIdeal.nD Cert.NormFfIdeal.τ).loc Cert.NormFfIdeal.main_arg1)
      ∧ m' ((c.tc : Thread Cert.NormFfRefIdeal.nD Cert.NormFfRefIdeal.τ).loc Cert.NormFfRefIdeal.main_arg2) = m ((c.tc : Thread Cert.NormFfIdeal.nD Cert.NormFfIdeal.τ).loc Cert.NormFfIdeal.main_arg2)
      ∧ m' ((c.tc : Thread Cert.NormFfRefIdeal.nD Cert.NormFfRefIdeal.τ).loc Cert.NormFfRefIdeal.main_arg3) = m ((c.tc : Thread Cert.NormFfIdeal.nD Cert.NormFfIdeal.τ).loc Cert.NormFfIdeal.main_arg3)
      ∧ m' ((c.tc : Thread Cert.NormFfRefIdeal.nD Cert.NormFfRefIdeal.τ).loc Cert.NormFfRefIdeal.main_arg4) = m ((c.tc : Thread Cert.NormFfIdeal.nD Cert.NormFfIdeal.τ).loc Cert.NormFfIdeal.main_arg4)) →
    ∃ (v0 : (c : Dev Cert.NormFfIdeal.nD) → Buf (Elt Ideal) ((c.tc : Thread Cert.NormFfIdeal.nD Cert.NormFfIdeal.τ).loc Cert.NormFfIdeal.main_v5_0)) (v1 : (c : Dev Cert.NormFfIdeal.nD) → Buf (Elt Ideal) ((c.tc : Thread Cert.NormFfIdeal.nD Cert.NormFfIdeal.τ).loc Cert.NormFfIdeal.main_v5_1)),
      θ_run (Cert.NormFfIdeal.defs (F := Ideal)) (onTc (τ := Cert.NormFfIdeal.τ) (Cert.NormFfIdeal.main (F := Ideal))) ⟨m, fun _ => 0, g⟩ (fun r => ∀ c : Dev Cert.NormFfIdeal.nD,
          r.2.mem ((c.tc : Thread Cert.NormFfIdeal.nD Cert.NormFfIdeal.τ).loc Cert.NormFfIdeal.main_v5_0) = v0 c
          ∧ r.2.mem ((c.tc : Thread Cert.NormFfIdeal.nD Cert.NormFfIdeal.τ).loc Cert.NormFfIdeal.main_v5_1) = v1 c
          ∧ r.2.mem ((c.tc : Thread Cert.NormFfIdeal.nD Cert.NormFfIdeal.τ).loc Cert.NormFfIdeal.main_arg0) = m ((c.tc : Thread Cert.NormFfIdeal.nD Cert.NormFfIdeal.τ).loc Cert.NormFfIdeal.main_arg0)
          ∧ r.2.mem ((c.tc : Thread Cert.NormFfIdeal.nD Cert.NormFfIdeal.τ).loc Cert.NormFfIdeal.main_arg1) = m ((c.tc : Thread Cert.NormFfIdeal.nD Cert.NormFfIdeal.τ).loc Cert.NormFfIdeal.main_arg1)
          ∧ r.2.mem ((c.tc : Thread Cert.NormFfIdeal.nD Cert.NormFfIdeal.τ).loc Cert.NormFfIdeal.main_arg2) = m ((c.tc : Thread Cert.NormFfIdeal.nD Cert.NormFfIdeal.τ).loc Cert.NormFfIdeal.main_arg2)
          ∧ r.2.mem ((c.tc : Thread Cert.NormFfIdeal.nD Cert.NormFfIdeal.τ).loc Cert.NormFfIdeal.main_arg3) = m ((c.tc : Thread Cert.NormFfIdeal.nD Cert.NormFfIdeal.τ).loc Cert.NormFfIdeal.main_arg3)
          ∧ r.2.mem ((c.tc : Thread Cert.NormFfIdeal.nD Cert.NormFfIdeal.τ).loc Cert.NormFfIdeal.main_arg4) = m ((c.tc : Thread Cert.NormFfIdeal.nD Cert.NormFfIdeal.τ).loc Cert.NormFfIdeal.main_arg4))
      ∧ θ_run (Cert.NormFfRefIdeal.defs (F := Ideal)) (onTc (τ := Cert.NormFfRefIdeal.τ) (Cert.NormFfRefIdeal.main (F := Ideal))) ⟨m', fun _ => 0, g'⟩ (fun r => ∀ c : Dev Cert.NormFfRefIdeal.nD,
          r.2.mem ((c.tc : Thread Cert.NormFfRefIdeal.nD Cert.NormFfRefIdeal.τ).loc Cert.NormFfRefIdeal.main_v22) = v0 c
          ∧ r.2.mem ((c.tc : Thread Cert.NormFfRefIdeal.nD Cert.NormFfRefIdeal.τ).loc Cert.NormFfRefIdeal.main_v23) = v1 c
          ∧ r.2.mem ((c.tc : Thread Cert.NormFfRefIdeal.nD Cert.NormFfRefIdeal.τ).loc Cert.NormFfRefIdeal.main_arg0) = m' ((c.tc : Thread Cert.NormFfRefIdeal.nD Cert.NormFfRefIdeal.τ).loc Cert.NormFfRefIdeal.main_arg0)
          ∧ r.2.mem ((c.tc : Thread Cert.NormFfRefIdeal.nD Cert.NormFfRefIdeal.τ).loc Cert.NormFfRefIdeal.main_arg1) = m' ((c.tc : Thread Cert.NormFfRefIdeal.nD Cert.NormFfRefIdeal.τ).loc Cert.NormFfRefIdeal.main_arg1)
          ∧ r.2.mem ((c.tc : Thread Cert.NormFfRefIdeal.nD Cert.NormFfRefIdeal.τ).loc Cert.NormFfRefIdeal.main_arg2) = m' ((c.tc : Thread Cert.NormFfRefIdeal.nD Cert.NormFfRefIdeal.τ).loc Cert.NormFfRefIdeal.main_arg2)
          ∧ r.2.mem ((c.tc : Thread Cert.NormFfRefIdeal.nD Cert.NormFfRefIdeal.τ).loc Cert.NormFfRefIdeal.main_arg3) = m' ((c.tc : Thread Cert.NormFfRefIdeal.nD Cert.NormFfRefIdeal.τ).loc Cert.NormFfRefIdeal.main_arg3)
          ∧ r.2.mem ((c.tc : Thread Cert.NormFfRefIdeal.nD Cert.NormFfRefIdeal.τ).loc Cert.NormFfRefIdeal.main_arg4) = m' ((c.tc : Thread Cert.NormFfRefIdeal.nD Cert.NormFfRefIdeal.τ).loc Cert.NormFfRefIdeal.main_arg4))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)
      ∧ m' ((c.tc : Thread Cert.FfnOutRefIdeal.nD Cert.FfnOutRefIdeal.τ).loc Cert.FfnOutRefIdeal.main_arg3) = m ((c.tc : Thread Cert.FfnOutIdeal.nD Cert.FfnOutIdeal.τ).loc Cert.FfnOutIdeal.main_arg3)) →
    ∃ (v0 : (c : Dev Cert.FfnOutIdeal.nD) → Buf (Elt Ideal) ((c.tc : Thread Cert.FfnOutIdeal.nD Cert.FfnOutIdeal.τ).loc Cert.FfnOutIdeal.main_v3_0)) (v1 : (c : Dev Cert.FfnOutIdeal.nD) → Buf (Elt Ideal) ((c.tc : Thread Cert.FfnOutIdeal.nD Cert.FfnOutIdeal.τ).loc Cert.FfnOutIdeal.main_v3_1)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v3_0) = v0 c
          ∧ r.2.mem ((c.tc : Thread Cert.FfnOutIdeal.nD Cert.FfnOutIdeal.τ).loc Cert.FfnOutIdeal.main_v3_1) = v1 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2)
          ∧ r.2.mem ((c.tc : Thread Cert.FfnOutIdeal.nD Cert.FfnOutIdeal.τ).loc Cert.FfnOutIdeal.main_arg3) = m ((c.tc : Thread Cert.FfnOutIdeal.nD Cert.FfnOutIdeal.τ).loc Cert.FfnOutIdeal.main_arg3))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v8) = v0 c
          ∧ r.2.mem ((c.tc : Thread Cert.FfnOutRefIdeal.nD Cert.FfnOutRefIdeal.τ).loc Cert.FfnOutRefIdeal.main_v4) = v1 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2)
          ∧ r.2.mem ((c.tc : Thread Cert.FfnOutRefIdeal.nD Cert.FfnOutRefIdeal.τ).loc Cert.FfnOutRefIdeal.main_arg3) = m' ((c.tc : Thread Cert.FfnOutRefIdeal.nD Cert.FfnOutRefIdeal.τ).loc Cert.FfnOutRefIdeal.main_arg3))

def preserves_Mixer_MixerIdeal : Prop :=
  True

def algebraic_MixerIdeal_MixerRefIdeal [hMixerIdeal : Cert.MixerIdeal.Facts] [hMixerRefIdeal : Cert.MixerRefIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.MixerRefIdeal.nD Cert.MixerRefIdeal.τ Cert.MixerRefIdeal.sig) → Buf (Elt Ideal) ℓ) (g' : Dev Cert.MixerRefIdeal.nD → PrngReg), Pre_MixerIdeal m →
    (∀ c : Dev Cert.MixerIdeal.nD,
      m' ((c.tc : Thread Cert.MixerRefIdeal.nD Cert.MixerRefIdeal.τ).loc Cert.MixerRefIdeal.main_arg0) = m ((c.tc : Thread Cert.MixerIdeal.nD Cert.MixerIdeal.τ).loc Cert.MixerIdeal.main_arg0)
      ∧ m' ((c.tc : Thread Cert.MixerRefIdeal.nD Cert.MixerRefIdeal.τ).loc Cert.MixerRefIdeal.main_arg1) = m ((c.tc : Thread Cert.MixerIdeal.nD Cert.MixerIdeal.τ).loc Cert.MixerIdeal.main_arg1)
      ∧ m' ((c.tc : Thread Cert.MixerRefIdeal.nD Cert.MixerRefIdeal.τ).loc Cert.MixerRefIdeal.main_arg2) = m ((c.tc : Thread Cert.MixerIdeal.nD Cert.MixerIdeal.τ).loc Cert.MixerIdeal.main_arg2)
      ∧ m' ((c.tc : Thread Cert.MixerRefIdeal.nD Cert.MixerRefIdeal.τ).loc Cert.MixerRefIdeal.main_arg3) = m ((c.tc : Thread Cert.MixerIdeal.nD Cert.MixerIdeal.τ).loc Cert.MixerIdeal.main_arg3)
      ∧ m' ((c.tc : Thread Cert.MixerRefIdeal.nD Cert.MixerRefIdeal.τ).loc Cert.MixerRefIdeal.main_arg4) = m ((c.tc : Thread Cert.MixerIdeal.nD Cert.MixerIdeal.τ).loc Cert.MixerIdeal.main_arg4)
      ∧ m' ((c.tc : Thread Cert.MixerRefIdeal.nD Cert.MixerRefIdeal.τ).loc Cert.MixerRefIdeal.main_arg5) = m ((c.tc : Thread Cert.MixerIdeal.nD Cert.MixerIdeal.τ).loc Cert.MixerIdeal.main_arg5)
      ∧ m' ((c.tc : Thread Cert.MixerRefIdeal.nD Cert.MixerRefIdeal.τ).loc Cert.MixerRefIdeal.main_arg6) = m ((c.tc : Thread Cert.MixerIdeal.nD Cert.MixerIdeal.τ).loc Cert.MixerIdeal.main_arg6)) →
    ∃ (v0 : (c : Dev Cert.MixerIdeal.nD) → Buf (Elt Ideal) ((c.tc : Thread Cert.MixerIdeal.nD Cert.MixerIdeal.τ).loc Cert.MixerIdeal.main_v5_0)) (v1 : (c : Dev Cert.MixerIdeal.nD) → Buf (Elt Ideal) ((c.tc : Thread Cert.MixerIdeal.nD Cert.MixerIdeal.τ).loc Cert.MixerIdeal.main_v5_1)) (v2 : (c : Dev Cert.MixerIdeal.nD) → Buf (Elt Ideal) ((c.tc : Thread Cert.MixerIdeal.nD Cert.MixerIdeal.τ).loc Cert.MixerIdeal.main_v5_2)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v5_0) = v0 c
          ∧ r.2.mem ((c.tc : Thread Cert.MixerIdeal.nD Cert.MixerIdeal.τ).loc Cert.MixerIdeal.main_v5_1) = v1 c
          ∧ r.2.mem ((c.tc : Thread Cert.MixerIdeal.nD Cert.MixerIdeal.τ).loc Cert.MixerIdeal.main_v5_2) = v2 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6))
      ∧ θ_run (Cert.MixerRefIdeal.defs (F := Ideal)) (onTc (τ := Cert.MixerRefIdeal.τ) (Cert.MixerRefIdeal.main (F := Ideal))) ⟨m', fun _ => 0, g'⟩ (fun r => ∀ c : Dev Cert.MixerRefIdeal.nD,
          r.2.mem ((c.tc : Thread Cert.MixerRefIdeal.nD Cert.MixerRefIdeal.τ).loc Cert.MixerRefIdeal.main_v24) = v0 c
          ∧ r.2.mem ((c.tc : Thread Cert.MixerRefIdeal.nD Cert.MixerRefIdeal.τ).loc Cert.MixerRefIdeal.main_v20) = v1 c
          ∧ r.2.mem ((c.tc : Thread Cert.MixerRefIdeal.nD Cert.MixerRefIdeal.τ).loc Cert.MixerRefIdeal.main_v25) = v2 c
          ∧ r.2.mem ((c.tc : Thread Cert.MixerRefIdeal.nD Cert.MixerRefIdeal.τ).loc Cert.MixerRefIdeal.main_arg0) = m' ((c.tc : Thread Cert.MixerRefIdeal.nD Cert.MixerRefIdeal.τ).loc Cert.MixerRefIdeal.main_arg0)
          ∧ r.2.mem ((c.tc : Thread Cert.MixerRefIdeal.nD Cert.MixerRefIdeal.τ).loc Cert.MixerRefIdeal.main_arg1) = m' ((c.tc : Thread Cert.MixerRefIdeal.nD Cert.MixerRefIdeal.τ).loc Cert.MixerRefIdeal.main_arg1)
          ∧ r.2.mem ((c.tc : Thread Cert.MixerRefIdeal.nD Cert.MixerRefIdeal.τ).loc Cert.MixerRefIdeal.main_arg2) = m' ((c.tc : Thread Cert.MixerRefIdeal.nD Cert.MixerRefIdeal.τ).loc Cert.MixerRefIdeal.main_arg2)
          ∧ r.2.mem ((c.tc : Thread Cert.MixerRefIdeal.nD Cert.MixerRefIdeal.τ).loc Cert.MixerRefIdeal.main_arg3) = m' ((c.tc : Thread Cert.MixerRefIdeal.nD Cert.MixerRefIdeal.τ).loc Cert.MixerRefIdeal.main_arg3)
          ∧ r.2.mem ((c.tc : Thread Cert.MixerRefIdeal.nD Cert.MixerRefIdeal.τ).loc Cert.MixerRefIdeal.main_arg4) = m' ((c.tc : Thread Cert.MixerRefIdeal.nD Cert.MixerRefIdeal.τ).loc Cert.MixerRefIdeal.main_arg4)
          ∧ r.2.mem ((c.tc : Thread Cert.MixerRefIdeal.nD Cert.MixerRefIdeal.τ).loc Cert.MixerRefIdeal.main_arg5) = m' ((c.tc : Thread Cert.MixerRefIdeal.nD Cert.MixerRefIdeal.τ).loc Cert.MixerRefIdeal.main_arg5)
          ∧ r.2.mem ((c.tc : Thread Cert.MixerRefIdeal.nD Cert.MixerRefIdeal.τ).loc Cert.MixerRefIdeal.main_arg6) = m' ((c.tc : Thread Cert.MixerRefIdeal.nD Cert.MixerRefIdeal.τ).loc Cert.MixerRefIdeal.main_arg6))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)
      ∧ m' ((c.tc : Thread Cert.GatesRefIdeal.nD Cert.GatesRefIdeal.τ).loc Cert.GatesRefIdeal.main_arg6) = m ((c.tc : Thread Cert.GatesIdeal.nD Cert.GatesIdeal.τ).loc Cert.GatesIdeal.main_arg6)) →
    ∃ (v0 : (c : Dev Cert.GatesIdeal.nD) → Buf (Elt Ideal) ((c.tc : Thread Cert.GatesIdeal.nD Cert.GatesIdeal.τ).loc Cert.GatesIdeal.main_v8_0)) (v1 : (c : Dev Cert.GatesIdeal.nD) → Buf (Elt Ideal) ((c.tc : Thread Cert.GatesIdeal.nD Cert.GatesIdeal.τ).loc Cert.GatesIdeal.main_v8_1)) (v2 : (c : Dev Cert.GatesIdeal.nD) → Buf (Elt Ideal) ((c.tc : Thread Cert.GatesIdeal.nD Cert.GatesIdeal.τ).loc Cert.GatesIdeal.main_v8_2)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v8_0) = v0 c
          ∧ r.2.mem ((c.tc : Thread Cert.GatesIdeal.nD Cert.GatesIdeal.τ).loc Cert.GatesIdeal.main_v8_1) = v1 c
          ∧ r.2.mem ((c.tc : Thread Cert.GatesIdeal.nD Cert.GatesIdeal.τ).loc Cert.GatesIdeal.main_v8_2) = v2 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5)
          ∧ r.2.mem ((c.tc : Thread Cert.GatesIdeal.nD Cert.GatesIdeal.τ).loc Cert.GatesIdeal.main_arg6) = m ((c.tc : Thread Cert.GatesIdeal.nD Cert.GatesIdeal.τ).loc Cert.GatesIdeal.main_arg6))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v55) = v0 c
          ∧ r.2.mem ((c.tc : Thread Cert.GatesRefIdeal.nD Cert.GatesRefIdeal.τ).loc Cert.GatesRefIdeal.main_v76) = v1 c
          ∧ r.2.mem ((c.tc : Thread Cert.GatesRefIdeal.nD Cert.GatesRefIdeal.τ).loc Cert.GatesRefIdeal.main_v78) = v2 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5)
          ∧ r.2.mem ((c.tc : Thread Cert.GatesRefIdeal.nD Cert.GatesRefIdeal.τ).loc Cert.GatesRefIdeal.main_arg6) = m' ((c.tc : Thread Cert.GatesRefIdeal.nD Cert.GatesRefIdeal.τ).loc Cert.GatesRefIdeal.main_arg6))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamLayer_AdamLayerIdeal : Prop :=
  True

def algebraic_AdamLayerIdeal_AdamLayerRefIdeal [hAdamLayerIdeal : Cert.AdamLayerIdeal.Facts] [hAdamLayerRefIdeal : Cert.AdamLayerRefIdeal.Facts] : Prop :=
  ∀ (m : (ℓ : Loc Cert.AdamLayerIdeal.nD Cert.AdamLayerIdeal.τ Cert.AdamLayerIdeal.sig) → Buf (Elt Ideal) ℓ) (g : Dev Cert.AdamLayerIdeal.nD → PrngReg)
    (m' : (ℓ : Loc Cert.AdamLayerRefIdeal.nD Cert.AdamLayerRefIdeal.τ Cert.AdamLayerRefIdeal.sig) → Buf (Elt Ideal) ℓ) (g' : Dev Cert.AdamLayerRefIdeal.nD → PrngReg), Pre_AdamLayerIdeal m →
    (∀ c : Dev Cert.AdamLayerIdeal.nD,
      m' ((c.tc : Thread Cert.AdamLayerRefIdeal.nD Cert.AdamLayerRefIdeal.τ).loc Cert.AdamLayerRefIdeal.main_arg0) = m ((c.tc : Thread Cert.AdamLayerIdeal.nD Cert.AdamLayerIdeal.τ).loc Cert.AdamLayerIdeal.main_arg0)
      ∧ m' ((c.tc : Thread Cert.AdamLayerRefIdeal.nD Cert.AdamLayerRefIdeal.τ).loc Cert.AdamLayerRefIdeal.main_arg1) = m ((c.tc : Thread Cert.AdamLayerIdeal.nD Cert.AdamLayerIdeal.τ).loc Cert.AdamLayerIdeal.main_arg1)
      ∧ m' ((c.tc : Thread Cert.AdamLayerRefIdeal.nD Cert.AdamLayerRefIdeal.τ).loc Cert.AdamLayerRefIdeal.main_arg2) = m ((c.tc : Thread Cert.AdamLayerIdeal.nD Cert.AdamLayerIdeal.τ).loc Cert.AdamLayerIdeal.main_arg2)
      ∧ m' ((c.tc : Thread Cert.AdamLayerRefIdeal.nD Cert.AdamLayerRefIdeal.τ).loc Cert.AdamLayerRefIdeal.main_arg3) = m ((c.tc : Thread Cert.AdamLayerIdeal.nD Cert.AdamLayerIdeal.τ).loc Cert.AdamLayerIdeal.main_arg3)
      ∧ m' ((c.tc : Thread Cert.AdamLayerRefIdeal.nD Cert.AdamLayerRefIdeal.τ).loc Cert.AdamLayerRefIdeal.main_arg4) = m ((c.tc : Thread Cert.AdamLayerIdeal.nD Cert.AdamLayerIdeal.τ).loc Cert.AdamLayerIdeal.main_arg4)
      ∧ m' ((c.tc : Thread Cert.AdamLayerRefIdeal.nD Cert.AdamLayerRefIdeal.τ).loc Cert.AdamLayerRefIdeal.main_arg5) = m ((c.tc : Thread Cert.AdamLayerIdeal.nD Cert.AdamLayerIdeal.τ).loc Cert.AdamLayerIdeal.main_arg5)
      ∧ m' ((c.tc : Thread Cert.AdamLayerRefIdeal.nD Cert.AdamLayerRefIdeal.τ).loc Cert.AdamLayerRefIdeal.main_arg6) = m ((c.tc : Thread Cert.AdamLayerIdeal.nD Cert.AdamLayerIdeal.τ).loc Cert.AdamLayerIdeal.main_arg6)
      ∧ m' ((c.tc : Thread Cert.AdamLayerRefIdeal.nD Cert.AdamLayerRefIdeal.τ).loc Cert.AdamLayerRefIdeal.main_arg7) = m ((c.tc : Thread Cert.AdamLayerIdeal.nD Cert.AdamLayerIdeal.τ).loc Cert.AdamLayerIdeal.main_arg7)) →
    ∃ (v0 : (c : Dev Cert.AdamLayerIdeal.nD) → Buf (Elt Ideal) ((c.tc : Thread Cert.AdamLayerIdeal.nD Cert.AdamLayerIdeal.τ).loc Cert.AdamLayerIdeal.main_v0_0)) (v1 : (c : Dev Cert.AdamLayerIdeal.nD) → Buf (Elt Ideal) ((c.tc : Thread Cert.AdamLayerIdeal.nD Cert.AdamLayerIdeal.τ).loc Cert.AdamLayerIdeal.main_v0_1)) (v2 : (c : Dev Cert.AdamLayerIdeal.nD) → Buf (Elt Ideal) ((c.tc : Thread Cert.AdamLayerIdeal.nD Cert.AdamLayerIdeal.τ).loc Cert.AdamLayerIdeal.main_v0_2)) (v3 : (c : Dev Cert.AdamLayerIdeal.nD) → Buf (Elt Ideal) ((c.tc : Thread Cert.AdamLayerIdeal.nD Cert.AdamLayerIdeal.τ).loc Cert.AdamLayerIdeal.main_v0_3)),
      θ_run (Cert.AdamLayerIdeal.defs (F := Ideal)) (onTc (τ := Cert.AdamLayerIdeal.τ) (Cert.AdamLayerIdeal.main (F := Ideal))) ⟨m, fun _ => 0, g⟩ (fun r => ∀ c : Dev Cert.AdamLayerIdeal.nD,
          r.2.mem ((c.tc : Thread Cert.AdamLayerIdeal.nD Cert.AdamLayerIdeal.τ).loc Cert.AdamLayerIdeal.main_v0_0) = v0 c
          ∧ r.2.mem ((c.tc : Thread Cert.AdamLayerIdeal.nD Cert.AdamLayerIdeal.τ).loc Cert.AdamLayerIdeal.main_v0_1) = v1 c
          ∧ r.2.mem ((c.tc : Thread Cert.AdamLayerIdeal.nD Cert.AdamLayerIdeal.τ).loc Cert.AdamLayerIdeal.main_v0_2) = v2 c
          ∧ r.2.mem ((c.tc : Thread Cert.AdamLayerIdeal.nD Cert.AdamLayerIdeal.τ).loc Cert.AdamLayerIdeal.main_v0_3) = v3 c
          ∧ r.2.mem ((c.tc : Thread Cert.AdamLayerIdeal.nD Cert.AdamLayerIdeal.τ).loc Cert.AdamLayerIdeal.main_arg0) = m ((c.tc : Thread Cert.AdamLayerIdeal.nD Cert.AdamLayerIdeal.τ).loc Cert.AdamLayerIdeal.main_arg0)
          ∧ r.2.mem ((c.tc : Thread Cert.AdamLayerIdeal.nD Cert.AdamLayerIdeal.τ).loc Cert.AdamLayerIdeal.main_arg1) = m ((c.tc : Thread Cert.AdamLayerIdeal.nD Cert.AdamLayerIdeal.τ).loc Cert.AdamLayerIdeal.main_arg1)
          ∧ r.2.mem ((c.tc : Thread Cert.AdamLayerIdeal.nD Cert.AdamLayerIdeal.τ).loc Cert.AdamLayerIdeal.main_arg2) = m ((c.tc : Thread Cert.AdamLayerIdeal.nD Cert.AdamLayerIdeal.τ).loc Cert.AdamLayerIdeal.main_arg2)
          ∧ r.2.mem ((c.tc : Thread Cert.AdamLayerIdeal.nD Cert.AdamLayerIdeal.τ).loc Cert.AdamLayerIdeal.main_arg3) = m ((c.tc : Thread Cert.AdamLayerIdeal.nD Cert.AdamLayerIdeal.τ).loc Cert.AdamLayerIdeal.main_arg3)
          ∧ r.2.mem ((c.tc : Thread Cert.AdamLayerIdeal.nD Cert.AdamLayerIdeal.τ).loc Cert.AdamLayerIdeal.main_arg4) = m ((c.tc : Thread Cert.AdamLayerIdeal.nD Cert.AdamLayerIdeal.τ).loc Cert.AdamLayerIdeal.main_arg4)
          ∧ r.2.mem ((c.tc : Thread Cert.AdamLayerIdeal.nD Cert.AdamLayerIdeal.τ).loc Cert.AdamLayerIdeal.main_arg5) = m ((c.tc : Thread Cert.AdamLayerIdeal.nD Cert.AdamLayerIdeal.τ).loc Cert.AdamLayerIdeal.main_arg5)
          ∧ r.2.mem ((c.tc : Thread Cert.AdamLayerIdeal.nD Cert.AdamLayerIdeal.τ).loc Cert.AdamLayerIdeal.main_arg6) = m ((c.tc : Thread Cert.AdamLayerIdeal.nD Cert.AdamLayerIdeal.τ).loc Cert.AdamLayerIdeal.main_arg6)
          ∧ r.2.mem ((c.tc : Thread Cert.AdamLayerIdeal.nD Cert.AdamLayerIdeal.τ).loc Cert.AdamLayerIdeal.main_arg7) = m ((c.tc : Thread Cert.AdamLayerIdeal.nD Cert.AdamLayerIdeal.τ).loc Cert.AdamLayerIdeal.main_arg7))
      ∧ θ_run (Cert.AdamLayerRefIdeal.defs (F := Ideal)) (onTc (τ := Cert.AdamLayerRefIdeal.τ) (Cert.AdamLayerRefIdeal.main (F := Ideal))) ⟨m', fun _ => 0, g'⟩ (fun r => ∀ c : Dev Cert.AdamLayerRefIdeal.nD,
          r.2.mem ((c.tc : Thread Cert.AdamLayerRefIdeal.nD Cert.AdamLayerRefIdeal.τ).loc Cert.AdamLayerRefIdeal.main_v33) = v0 c
          ∧ r.2.mem ((c.tc : Thread Cert.AdamLayerRefIdeal.nD Cert.AdamLayerRefIdeal.τ).loc Cert.AdamLayerRefIdeal.main_v37) = v1 c
          ∧ r.2.mem ((c.tc : Thread Cert.AdamLayerRefIdeal.nD Cert.AdamLayerRefIdeal.τ).loc Cert.AdamLayerRefIdeal.main_v41) = v2 c
          ∧ r.2.mem ((c.tc : Thread Cert.AdamLayerRefIdeal.nD Cert.AdamLayerRefIdeal.τ).loc Cert.AdamLayerRefIdeal.main_v45) = v3 c
          ∧ r.2.mem ((c.tc : Thread Cert.AdamLayerRefIdeal.nD Cert.AdamLayerRefIdeal.τ).loc Cert.AdamLayerRefIdeal.main_arg0) = m' ((c.tc : Thread Cert.AdamLayerRefIdeal.nD Cert.AdamLayerRefIdeal.τ).loc Cert.AdamLayerRefIdeal.main_arg0)
          ∧ r.2.mem ((c.tc : Thread Cert.AdamLayerRefIdeal.nD Cert.AdamLayerRefIdeal.τ).loc Cert.AdamLayerRefIdeal.main_arg1) = m' ((c.tc : Thread Cert.AdamLayerRefIdeal.nD Cert.AdamLayerRefIdeal.τ).loc Cert.AdamLayerRefIdeal.main_arg1)
          ∧ r.2.mem ((c.tc : Thread Cert.AdamLayerRefIdeal.nD Cert.AdamLayerRefIdeal.τ).loc Cert.AdamLayerRefIdeal.main_arg2) = m' ((c.tc : Thread Cert.AdamLayerRefIdeal.nD Cert.AdamLayerRefIdeal.τ).loc Cert.AdamLayerRefIdeal.main_arg2)
          ∧ r.2.mem ((c.tc : Thread Cert.AdamLayerRefIdeal.nD Cert.AdamLayerRefIdeal.τ).loc Cert.AdamLayerRefIdeal.main_arg3) = m' ((c.tc : Thread Cert.AdamLayerRefIdeal.nD Cert.AdamLayerRefIdeal.τ).loc Cert.AdamLayerRefIdeal.main_arg3)
          ∧ r.2.mem ((c.tc : Thread Cert.AdamLayerRefIdeal.nD Cert.AdamLayerRefIdeal.τ).loc Cert.AdamLayerRefIdeal.main_arg4) = m' ((c.tc : Thread Cert.AdamLayerRefIdeal.nD Cert.AdamLayerRefIdeal.τ).loc Cert.AdamLayerRefIdeal.main_arg4)
          ∧ r.2.mem ((c.tc : Thread Cert.AdamLayerRefIdeal.nD Cert.AdamLayerRefIdeal.τ).loc Cert.AdamLayerRefIdeal.main_arg5) = m' ((c.tc : Thread Cert.AdamLayerRefIdeal.nD Cert.AdamLayerRefIdeal.τ).loc Cert.AdamLayerRefIdeal.main_arg5)
          ∧ r.2.mem ((c.tc : Thread Cert.AdamLayerRefIdeal.nD Cert.AdamLayerRefIdeal.τ).loc Cert.AdamLayerRefIdeal.main_arg6) = m' ((c.tc : Thread Cert.AdamLayerRefIdeal.nD Cert.AdamLayerRefIdeal.τ).loc Cert.AdamLayerRefIdeal.main_arg6)
          ∧ r.2.mem ((c.tc : Thread Cert.AdamLayerRefIdeal.nD Cert.AdamLayerRefIdeal.τ).loc Cert.AdamLayerRefIdeal.main_arg7) = m' ((c.tc : Thread Cert.AdamLayerRefIdeal.nD Cert.AdamLayerRefIdeal.τ).loc Cert.AdamLayerRefIdeal.main_arg7))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v2)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v2) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v4) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_Wgin_WginIdeal : Prop :=
  True

def algebraic_WginIdeal_WginRefIdeal [hWginIdeal : Cert.WginIdeal.Facts] [hWginRefIdeal : Cert.WginRefIdeal.Facts] : Prop :=
  ∀ (m : (ℓ : Loc Cert.WginIdeal.nD Cert.WginIdeal.τ Cert.WginIdeal.sig) → Buf (Elt Ideal) ℓ) (g : Dev Cert.WginIdeal.nD → PrngReg)
    (m' : (ℓ : Loc Cert.WginRefIdeal.nD Cert.WginRefIdeal.τ Cert.WginRefIdeal.sig) → Buf (Elt Ideal) ℓ) (g' : Dev Cert.WginRefIdeal.nD → PrngReg), Pre_WginIdeal m →
    (∀ c : Dev Cert.WginIdeal.nD,
      m' ((c.tc : Thread Cert.WginRefIdeal.nD Cert.WginRefIdeal.τ).loc Cert.WginRefIdeal.main_arg0) = m ((c.tc : Thread Cert.WginIdeal.nD Cert.WginIdeal.τ).loc Cert.WginIdeal.main_arg0)
      ∧ m' ((c.tc : Thread Cert.WginRefIdeal.nD Cert.WginRefIdeal.τ).loc Cert.WginRefIdeal.main_arg1) = m ((c.tc : Thread Cert.WginIdeal.nD Cert.WginIdeal.τ).loc Cert.WginIdeal.main_arg1)) →
    ∃ (v0 : (c : Dev Cert.WginIdeal.nD) → Buf (Elt Ideal) ((c.tc : Thread Cert.WginIdeal.nD Cert.WginIdeal.τ).loc Cert.WginIdeal.main_v3)),
      θ_run (Cert.WginIdeal.defs (F := Ideal)) (onTc (τ := Cert.WginIdeal.τ) (Cert.WginIdeal.main (F := Ideal))) ⟨m, fun _ => 0, g⟩ (fun r => ∀ c : Dev Cert.WginIdeal.nD,
          r.2.mem ((c.tc : Thread Cert.WginIdeal.nD Cert.WginIdeal.τ).loc Cert.WginIdeal.main_v3) = v0 c
          ∧ r.2.mem ((c.tc : Thread Cert.WginIdeal.nD Cert.WginIdeal.τ).loc Cert.WginIdeal.main_arg0) = m ((c.tc : Thread Cert.WginIdeal.nD Cert.WginIdeal.τ).loc Cert.WginIdeal.main_arg0)
          ∧ r.2.mem ((c.tc : Thread Cert.WginIdeal.nD Cert.WginIdeal.τ).loc Cert.WginIdeal.main_arg1) = m ((c.tc : Thread Cert.WginIdeal.nD Cert.WginIdeal.τ).loc Cert.WginIdeal.main_arg1))
      ∧ θ_run (Cert.WginRefIdeal.defs (F := Ideal)) (onTc (τ := Cert.WginRefIdeal.τ) (Cert.WginRefIdeal.main (F := Ideal))) ⟨m', fun _ => 0, g'⟩ (fun r => ∀ c : Dev Cert.WginRefIdeal.nD,
          r.2.mem ((c.tc : Thread Cert.WginRefIdeal.nD Cert.WginRefIdeal.τ).loc Cert.WginRefIdeal.main_v21) = v0 c
          ∧ r.2.mem ((c.tc : Thread Cert.WginRefIdeal.nD Cert.WginRefIdeal.τ).loc Cert.WginRefIdeal.main_arg0) = m' ((c.tc : Thread Cert.WginRefIdeal.nD Cert.WginRefIdeal.τ).loc Cert.WginRefIdeal.main_arg0)
          ∧ r.2.mem ((c.tc : Thread Cert.WginRefIdeal.nD Cert.WginRefIdeal.τ).loc Cert.WginRefIdeal.main_arg1) = m' ((c.tc : Thread Cert.WginRefIdeal.nD Cert.WginRefIdeal.τ).loc Cert.WginRefIdeal.main_arg1))

def preserves_ReduceSum_ReduceSumIdeal : Prop :=
  True

def algebraic_ReduceSumIdeal_ReduceSumRefIdeal [hReduceSumIdeal : Cert.ReduceSumIdeal.Facts] [hReduceSumRefIdeal : Cert.ReduceSumRefIdeal.Facts] : Prop :=
  ∀ (m : (ℓ : Loc Cert.ReduceSumIdeal.nD Cert.ReduceSumIdeal.τ Cert.ReduceSumIdeal.sig) → Buf (Elt Ideal) ℓ) (g : Dev Cert.ReduceSumIdeal.nD → PrngReg)
    (m' : (ℓ : Loc Cert.ReduceSumRefIdeal.nD Cert.ReduceSumRefIdeal.τ Cert.ReduceSumRefIdeal.sig) → Buf (Elt Ideal) ℓ) (g' : Dev Cert.ReduceSumRefIdeal.nD → PrngReg), Pre_ReduceSumIdeal m →
    (∀ c : Dev Cert.ReduceSumIdeal.nD,
      m' ((c.tc : Thread Cert.ReduceSumRefIdeal.nD Cert.ReduceSumRefIdeal.τ).loc Cert.ReduceSumRefIdeal.main_arg0) = m ((c.tc : Thread Cert.ReduceSumIdeal.nD Cert.ReduceSumIdeal.τ).loc Cert.ReduceSumIdeal.main_arg0)
      ∧ m' ((c.tc : Thread Cert.ReduceSumRefIdeal.nD Cert.ReduceSumRefIdeal.τ).loc Cert.ReduceSumRefIdeal.main_arg1) = m ((c.tc : Thread Cert.ReduceSumIdeal.nD Cert.ReduceSumIdeal.τ).loc Cert.ReduceSumIdeal.main_arg1)
      ∧ m' ((c.tc : Thread Cert.ReduceSumRefIdeal.nD Cert.ReduceSumRefIdeal.τ).loc Cert.ReduceSumRefIdeal.main_arg2) = m ((c.tc : Thread Cert.ReduceSumIdeal.nD Cert.ReduceSumIdeal.τ).loc Cert.ReduceSumIdeal.main_arg2)
      ∧ m' ((c.tc : Thread Cert.ReduceSumRefIdeal.nD Cert.ReduceSumRefIdeal.τ).loc Cert.ReduceSumRefIdeal.main_arg3) = m ((c.tc : Thread Cert.ReduceSumIdeal.nD Cert.ReduceSumIdeal.τ).loc Cert.ReduceSumIdeal.main_arg3)
      ∧ m' ((c.tc : Thread Cert.ReduceSumRefIdeal.nD Cert.ReduceSumRefIdeal.τ).loc Cert.ReduceSumRefIdeal.main_arg4) = m ((c.tc : Thread Cert.ReduceSumIdeal.nD Cert.ReduceSumIdeal.τ).loc Cert.ReduceSumIdeal.main_arg4)
      ∧ m' ((c.tc : Thread Cert.ReduceSumRefIdeal.nD Cert.ReduceSumRefIdeal.τ).loc Cert.ReduceSumRefIdeal.main_arg5) = m ((c.tc : Thread Cert.ReduceSumIdeal.nD Cert.ReduceSumIdeal.τ).loc Cert.ReduceSumIdeal.main_arg5)) →
    ∃ (v0 : (c : Dev Cert.ReduceSumIdeal.nD) → Buf (Elt Ideal) ((c.tc : Thread Cert.ReduceSumIdeal.nD Cert.ReduceSumIdeal.τ).loc Cert.ReduceSumIdeal.main_v34)),
      θ_run (Cert.ReduceSumIdeal.defs (F := Ideal)) (onTc (τ := Cert.ReduceSumIdeal.τ) (Cert.ReduceSumIdeal.main (F := Ideal))) ⟨m, fun _ => 0, g⟩ (fun r => ∀ c : Dev Cert.ReduceSumIdeal.nD,
          r.2.mem ((c.tc : Thread Cert.ReduceSumIdeal.nD Cert.ReduceSumIdeal.τ).loc Cert.ReduceSumIdeal.main_v34) = v0 c
          ∧ r.2.mem ((c.tc : Thread Cert.ReduceSumIdeal.nD Cert.ReduceSumIdeal.τ).loc Cert.ReduceSumIdeal.main_arg0) = m ((c.tc : Thread Cert.ReduceSumIdeal.nD Cert.ReduceSumIdeal.τ).loc Cert.ReduceSumIdeal.main_arg0)
          ∧ r.2.mem ((c.tc : Thread Cert.ReduceSumIdeal.nD Cert.ReduceSumIdeal.τ).loc Cert.ReduceSumIdeal.main_arg1) = m ((c.tc : Thread Cert.ReduceSumIdeal.nD Cert.ReduceSumIdeal.τ).loc Cert.ReduceSumIdeal.main_arg1)
          ∧ r.2.mem ((c.tc : Thread Cert.ReduceSumIdeal.nD Cert.ReduceSumIdeal.τ).loc Cert.ReduceSumIdeal.main_arg2) = m ((c.tc : Thread Cert.ReduceSumIdeal.nD Cert.ReduceSumIdeal.τ).loc Cert.ReduceSumIdeal.main_arg2)
          ∧ r.2.mem ((c.tc : Thread Cert.ReduceSumIdeal.nD Cert.ReduceSumIdeal.τ).loc Cert.ReduceSumIdeal.main_arg3) = m ((c.tc : Thread Cert.ReduceSumIdeal.nD Cert.ReduceSumIdeal.τ).loc Cert.ReduceSumIdeal.main_arg3)
          ∧ r.2.mem ((c.tc : Thread Cert.ReduceSumIdeal.nD Cert.ReduceSumIdeal.τ).loc Cert.ReduceSumIdeal.main_arg4) = m ((c.tc : Thread Cert.ReduceSumIdeal.nD Cert.ReduceSumIdeal.τ).loc Cert.ReduceSumIdeal.main_arg4)
          ∧ r.2.mem ((c.tc : Thread Cert.ReduceSumIdeal.nD Cert.ReduceSumIdeal.τ).loc Cert.ReduceSumIdeal.main_arg5) = m ((c.tc : Thread Cert.ReduceSumIdeal.nD Cert.ReduceSumIdeal.τ).loc Cert.ReduceSumIdeal.main_arg5))
      ∧ θ_run (Cert.ReduceSumRefIdeal.defs (F := Ideal)) (onTc (τ := Cert.ReduceSumRefIdeal.τ) (Cert.ReduceSumRefIdeal.main (F := Ideal))) ⟨m', fun _ => 0, g'⟩ (fun r => ∀ c : Dev Cert.ReduceSumRefIdeal.nD,
          r.2.mem ((c.tc : Thread Cert.ReduceSumRefIdeal.nD Cert.ReduceSumRefIdeal.τ).loc Cert.ReduceSumRefIdeal.main_v41) = v0 c
          ∧ r.2.mem ((c.tc : Thread Cert.ReduceSumRefIdeal.nD Cert.ReduceSumRefIdeal.τ).loc Cert.ReduceSumRefIdeal.main_arg0) = m' ((c.tc : Thread Cert.ReduceSumRefIdeal.nD Cert.ReduceSumRefIdeal.τ).loc Cert.ReduceSumRefIdeal.main_arg0)
          ∧ r.2.mem ((c.tc : Thread Cert.ReduceSumRefIdeal.nD Cert.ReduceSumRefIdeal.τ).loc Cert.ReduceSumRefIdeal.main_arg1) = m' ((c.tc : Thread Cert.ReduceSumRefIdeal.nD Cert.ReduceSumRefIdeal.τ).loc Cert.ReduceSumRefIdeal.main_arg1)
          ∧ r.2.mem ((c.tc : Thread Cert.ReduceSumRefIdeal.nD Cert.ReduceSumRefIdeal.τ).loc Cert.ReduceSumRefIdeal.main_arg2) = m' ((c.tc : Thread Cert.ReduceSumRefIdeal.nD Cert.ReduceSumRefIdeal.τ).loc Cert.ReduceSumRefIdeal.main_arg2)
          ∧ r.2.mem ((c.tc : Thread Cert.ReduceSumRefIdeal.nD Cert.ReduceSumRefIdeal.τ).loc Cert.ReduceSumRefIdeal.main_arg3) = m' ((c.tc : Thread Cert.ReduceSumRefIdeal.nD Cert.ReduceSumRefIdeal.τ).loc Cert.ReduceSumRefIdeal.main_arg3)
          ∧ r.2.mem ((c.tc : Thread Cert.ReduceSumRefIdeal.nD Cert.ReduceSumRefIdeal.τ).loc Cert.ReduceSumRefIdeal.main_arg4) = m' ((c.tc : Thread Cert.ReduceSumRefIdeal.nD Cert.ReduceSumRefIdeal.τ).loc Cert.ReduceSumRefIdeal.main_arg4)
          ∧ r.2.mem ((c.tc : Thread Cert.ReduceSumRefIdeal.nD Cert.ReduceSumRefIdeal.τ).loc Cert.ReduceSumRefIdeal.main_arg5) = m' ((c.tc : Thread Cert.ReduceSumRefIdeal.nD Cert.ReduceSumRefIdeal.τ).loc Cert.ReduceSumRefIdeal.main_arg5))

def preserves_PairAdd_PairAddIdeal : Prop :=
  True

def algebraic_PairAddIdeal_PairAddRefIdeal [hPairAddIdeal : Cert.PairAddIdeal.Facts] [hPairAddRefIdeal : Cert.PairAddRefIdeal.Facts] : Prop :=
  ∀ (m : (ℓ : Loc Cert.PairAddIdeal.nD Cert.PairAddIdeal.τ Cert.PairAddIdeal.sig) → Buf (Elt Ideal) ℓ) (g : Dev Cert.PairAddIdeal.nD → PrngReg)
    (m' : (ℓ : Loc Cert.PairAddRefIdeal.nD Cert.PairAddRefIdeal.τ Cert.PairAddRefIdeal.sig) → Buf (Elt Ideal) ℓ) (g' : Dev Cert.PairAddRefIdeal.nD → PrngReg), Pre_PairAddIdeal m →
    (∀ c : Dev Cert.PairAddIdeal.nD,
      m' ((c.tc : Thread Cert.PairAddRefIdeal.nD Cert.PairAddRefIdeal.τ).loc Cert.PairAddRefIdeal.main_arg0) = m ((c.tc : Thread Cert.PairAddIdeal.nD Cert.PairAddIdeal.τ).loc Cert.PairAddIdeal.main_arg0)
      ∧ m' ((c.tc : Thread Cert.PairAddRefIdeal.nD Cert.PairAddRefIdeal.τ).loc Cert.PairAddRefIdeal.main_arg1) = m ((c.tc : Thread Cert.PairAddIdeal.nD Cert.PairAddIdeal.τ).loc Cert.PairAddIdeal.main_arg1)
      ∧ m' ((c.tc : Thread Cert.PairAddRefIdeal.nD Cert.PairAddRefIdeal.τ).loc Cert.PairAddRefIdeal.main_arg2) = m ((c.tc : Thread Cert.PairAddIdeal.nD Cert.PairAddIdeal.τ).loc Cert.PairAddIdeal.main_arg2)) →
    ∃ (v0 : (c : Dev Cert.PairAddIdeal.nD) → Buf (Elt Ideal) ((c.tc : Thread Cert.PairAddIdeal.nD Cert.PairAddIdeal.τ).loc Cert.PairAddIdeal.main_v9)),
      θ_run (Cert.PairAddIdeal.defs (F := Ideal)) (onTc (τ := Cert.PairAddIdeal.τ) (Cert.PairAddIdeal.main (F := Ideal))) ⟨m, fun _ => 0, g⟩ (fun r => ∀ c : Dev Cert.PairAddIdeal.nD,
          r.2.mem ((c.tc : Thread Cert.PairAddIdeal.nD Cert.PairAddIdeal.τ).loc Cert.PairAddIdeal.main_v9) = v0 c
          ∧ r.2.mem ((c.tc : Thread Cert.PairAddIdeal.nD Cert.PairAddIdeal.τ).loc Cert.PairAddIdeal.main_arg0) = m ((c.tc : Thread Cert.PairAddIdeal.nD Cert.PairAddIdeal.τ).loc Cert.PairAddIdeal.main_arg0)
          ∧ r.2.mem ((c.tc : Thread Cert.PairAddIdeal.nD Cert.PairAddIdeal.τ).loc Cert.PairAddIdeal.main_arg1) = m ((c.tc : Thread Cert.PairAddIdeal.nD Cert.PairAddIdeal.τ).loc Cert.PairAddIdeal.main_arg1)
          ∧ r.2.mem ((c.tc : Thread Cert.PairAddIdeal.nD Cert.PairAddIdeal.τ).loc Cert.PairAddIdeal.main_arg2) = m ((c.tc : Thread Cert.PairAddIdeal.nD Cert.PairAddIdeal.τ).loc Cert.PairAddIdeal.main_arg2))
      ∧ θ_run (Cert.PairAddRefIdeal.defs (F := Ideal)) (onTc (τ := Cert.PairAddRefIdeal.τ) (Cert.PairAddRefIdeal.main (F := Ideal))) ⟨m', fun _ => 0, g'⟩ (fun r => ∀ c : Dev Cert.PairAddRefIdeal.nD,
          r.2.mem ((c.tc : Thread Cert.PairAddRefIdeal.nD Cert.PairAddRefIdeal.τ).loc Cert.PairAddRefIdeal.main_v9) = v0 c
          ∧ r.2.mem ((c.tc : Thread Cert.PairAddRefIdeal.nD Cert.PairAddRefIdeal.τ).loc Cert.PairAddRefIdeal.main_arg0) = m' ((c.tc : Thread Cert.PairAddRefIdeal.nD Cert.PairAddRefIdeal.τ).loc Cert.PairAddRefIdeal.main_arg0)
          ∧ r.2.mem ((c.tc : Thread Cert.PairAddRefIdeal.nD Cert.PairAddRefIdeal.τ).loc Cert.PairAddRefIdeal.main_arg1) = m' ((c.tc : Thread Cert.PairAddRefIdeal.nD Cert.PairAddRefIdeal.τ).loc Cert.PairAddRefIdeal.main_arg1)
          ∧ r.2.mem ((c.tc : Thread Cert.PairAddRefIdeal.nD Cert.PairAddRefIdeal.τ).loc Cert.PairAddRefIdeal.main_arg2) = m' ((c.tc : Thread Cert.PairAddRefIdeal.nD Cert.PairAddRefIdeal.τ).loc Cert.PairAddRefIdeal.main_arg2))

def preserves_ReduceAdam_ReduceAdamIdeal : Prop :=
  True

def algebraic_ReduceAdamIdeal_ReduceAdamRefIdeal [hReduceAdamIdeal : Cert.ReduceAdamIdeal.Facts] [hReduceAdamRefIdeal : Cert.ReduceAdamRefIdeal.Facts] : Prop :=
  ∀ (m : (ℓ : Loc Cert.ReduceAdamIdeal.nD Cert.ReduceAdamIdeal.τ Cert.ReduceAdamIdeal.sig) → Buf (Elt Ideal) ℓ) (g : Dev Cert.ReduceAdamIdeal.nD → PrngReg)
    (m' : (ℓ : Loc Cert.ReduceAdamRefIdeal.nD Cert.ReduceAdamRefIdeal.τ Cert.ReduceAdamRefIdeal.sig) → Buf (Elt Ideal) ℓ) (g' : Dev Cert.ReduceAdamRefIdeal.nD → PrngReg), Pre_ReduceAdamIdeal m →
    (∀ c : Dev Cert.ReduceAdamIdeal.nD,
      m' ((c.tc : Thread Cert.ReduceAdamRefIdeal.nD Cert.ReduceAdamRefIdeal.τ).loc Cert.ReduceAdamRefIdeal.main_arg0) = m ((c.tc : Thread Cert.ReduceAdamIdeal.nD Cert.ReduceAdamIdeal.τ).loc Cert.ReduceAdamIdeal.main_arg0)
      ∧ m' ((c.tc : Thread Cert.ReduceAdamRefIdeal.nD Cert.ReduceAdamRefIdeal.τ).loc Cert.ReduceAdamRefIdeal.main_arg1) = m ((c.tc : Thread Cert.ReduceAdamIdeal.nD Cert.ReduceAdamIdeal.τ).loc Cert.ReduceAdamIdeal.main_arg1)
      ∧ m' ((c.tc : Thread Cert.ReduceAdamRefIdeal.nD Cert.ReduceAdamRefIdeal.τ).loc Cert.ReduceAdamRefIdeal.main_arg2) = m ((c.tc : Thread Cert.ReduceAdamIdeal.nD Cert.ReduceAdamIdeal.τ).loc Cert.ReduceAdamIdeal.main_arg2)
      ∧ m' ((c.tc : Thread Cert.ReduceAdamRefIdeal.nD Cert.ReduceAdamRefIdeal.τ).loc Cert.ReduceAdamRefIdeal.main_arg3) = m ((c.tc : Thread Cert.ReduceAdamIdeal.nD Cert.ReduceAdamIdeal.τ).loc Cert.ReduceAdamIdeal.main_arg3)
      ∧ m' ((c.tc : Thread Cert.ReduceAdamRefIdeal.nD Cert.ReduceAdamRefIdeal.τ).loc Cert.ReduceAdamRefIdeal.main_arg4) = m ((c.tc : Thread Cert.ReduceAdamIdeal.nD Cert.ReduceAdamIdeal.τ).loc Cert.ReduceAdamIdeal.main_arg4)
      ∧ m' ((c.tc : Thread Cert.ReduceAdamRefIdeal.nD Cert.ReduceAdamRefIdeal.τ).loc Cert.ReduceAdamRefIdeal.main_arg5) = m ((c.tc : Thread Cert.ReduceAdamIdeal.nD Cert.ReduceAdamIdeal.τ).loc Cert.ReduceAdamIdeal.main_arg5)
      ∧ m' ((c.tc : Thread Cert.ReduceAdamRefIdeal.nD Cert.ReduceAdamRefIdeal.τ).loc Cert.ReduceAdamRefIdeal.main_arg6) = m ((c.tc : Thread Cert.ReduceAdamIdeal.nD Cert.ReduceAdamIdeal.τ).loc Cert.ReduceAdamIdeal.main_arg6)
      ∧ m' ((c.tc : Thread Cert.ReduceAdamRefIdeal.nD Cert.ReduceAdamRefIdeal.τ).loc Cert.ReduceAdamRefIdeal.main_arg7) = m ((c.tc : Thread Cert.ReduceAdamIdeal.nD Cert.ReduceAdamIdeal.τ).loc Cert.ReduceAdamIdeal.main_arg7)
      ∧ m' ((c.tc : Thread Cert.ReduceAdamRefIdeal.nD Cert.ReduceAdamRefIdeal.τ).loc Cert.ReduceAdamRefIdeal.main_arg8) = m ((c.tc : Thread Cert.ReduceAdamIdeal.nD Cert.ReduceAdamIdeal.τ).loc Cert.ReduceAdamIdeal.main_arg8)
      ∧ m' ((c.tc : Thread Cert.ReduceAdamRefIdeal.nD Cert.ReduceAdamRefIdeal.τ).loc Cert.ReduceAdamRefIdeal.main_arg9) = m ((c.tc : Thread Cert.ReduceAdamIdeal.nD Cert.ReduceAdamIdeal.τ).loc Cert.ReduceAdamIdeal.main_arg9)
      ∧ m' ((c.tc : Thread Cert.ReduceAdamRefIdeal.nD Cert.ReduceAdamRefIdeal.τ).loc Cert.ReduceAdamRefIdeal.main_arg10) = m ((c.tc : Thread Cert.ReduceAdamIdeal.nD Cert.ReduceAdamIdeal.τ).loc Cert.ReduceAdamIdeal.main_arg10)
      ∧ m' ((c.tc : Thread Cert.ReduceAdamRefIdeal.nD Cert.ReduceAdamRefIdeal.τ).loc Cert.ReduceAdamRefIdeal.main_arg11) = m ((c.tc : Thread Cert.ReduceAdamIdeal.nD Cert.ReduceAdamIdeal.τ).loc Cert.ReduceAdamIdeal.main_arg11)
      ∧ m' ((c.tc : Thread Cert.ReduceAdamRefIdeal.nD Cert.ReduceAdamRefIdeal.τ).loc Cert.ReduceAdamRefIdeal.main_arg12) = m ((c.tc : Thread Cert.ReduceAdamIdeal.nD Cert.ReduceAdamIdeal.τ).loc Cert.ReduceAdamIdeal.main_arg12)) →
    ∃ (v0 : (c : Dev Cert.ReduceAdamIdeal.nD) → Buf (Elt Ideal) ((c.tc : Thread Cert.ReduceAdamIdeal.nD Cert.ReduceAdamIdeal.τ).loc Cert.ReduceAdamIdeal.main_v34_0)) (v1 : (c : Dev Cert.ReduceAdamIdeal.nD) → Buf (Elt Ideal) ((c.tc : Thread Cert.ReduceAdamIdeal.nD Cert.ReduceAdamIdeal.τ).loc Cert.ReduceAdamIdeal.main_v34_1)) (v2 : (c : Dev Cert.ReduceAdamIdeal.nD) → Buf (Elt Ideal) ((c.tc : Thread Cert.ReduceAdamIdeal.nD Cert.ReduceAdamIdeal.τ).loc Cert.ReduceAdamIdeal.main_v34_2)) (v3 : (c : Dev Cert.ReduceAdamIdeal.nD) → Buf (Elt Ideal) ((c.tc : Thread Cert.ReduceAdamIdeal.nD Cert.ReduceAdamIdeal.τ).loc Cert.ReduceAdamIdeal.main_v34_3)),
      θ_run (Cert.ReduceAdamIdeal.defs (F := Ideal)) (onTc (τ := Cert.ReduceAdamIdeal.τ) (Cert.ReduceAdamIdeal.main (F := Ideal))) ⟨m, fun _ => 0, g⟩ (fun r => ∀ c : Dev Cert.ReduceAdamIdeal.nD,
          r.2.mem ((c.tc : Thread Cert.ReduceAdamIdeal.nD Cert.ReduceAdamIdeal.τ).loc Cert.ReduceAdamIdeal.main_v34_0) = v0 c
          ∧ r.2.mem ((c.tc : Thread Cert.ReduceAdamIdeal.nD Cert.ReduceAdamIdeal.τ).loc Cert.ReduceAdamIdeal.main_v34_1) = v1 c
          ∧ r.2.mem ((c.tc : Thread Cert.ReduceAdamIdeal.nD Cert.ReduceAdamIdeal.τ).loc Cert.ReduceAdamIdeal.main_v34_2) = v2 c
          ∧ r.2.mem ((c.tc : Thread Cert.ReduceAdamIdeal.nD Cert.ReduceAdamIdeal.τ).loc Cert.ReduceAdamIdeal.main_v34_3) = v3 c
          ∧ r.2.mem ((c.tc : Thread Cert.ReduceAdamIdeal.nD Cert.ReduceAdamIdeal.τ).loc Cert.ReduceAdamIdeal.main_arg0) = m ((c.tc : Thread Cert.ReduceAdamIdeal.nD Cert.ReduceAdamIdeal.τ).loc Cert.ReduceAdamIdeal.main_arg0)
          ∧ r.2.mem ((c.tc : Thread Cert.ReduceAdamIdeal.nD Cert.ReduceAdamIdeal.τ).loc Cert.ReduceAdamIdeal.main_arg1) = m ((c.tc : Thread Cert.ReduceAdamIdeal.nD Cert.ReduceAdamIdeal.τ).loc Cert.ReduceAdamIdeal.main_arg1)
          ∧ r.2.mem ((c.tc : Thread Cert.ReduceAdamIdeal.nD Cert.ReduceAdamIdeal.τ).loc Cert.ReduceAdamIdeal.main_arg2) = m ((c.tc : Thread Cert.ReduceAdamIdeal.nD Cert.ReduceAdamIdeal.τ).loc Cert.ReduceAdamIdeal.main_arg2)
          ∧ r.2.mem ((c.tc : Thread Cert.ReduceAdamIdeal.nD Cert.ReduceAdamIdeal.τ).loc Cert.ReduceAdamIdeal.main_arg3) = m ((c.tc : Thread Cert.ReduceAdamIdeal.nD Cert.ReduceAdamIdeal.τ).loc Cert.ReduceAdamIdeal.main_arg3)
          ∧ r.2.mem ((c.tc : Thread Cert.ReduceAdamIdeal.nD Cert.ReduceAdamIdeal.τ).loc Cert.ReduceAdamIdeal.main_arg4) = m ((c.tc : Thread Cert.ReduceAdamIdeal.nD Cert.ReduceAdamIdeal.τ).loc Cert.ReduceAdamIdeal.main_arg4)
          ∧ r.2.mem ((c.tc : Thread Cert.ReduceAdamIdeal.nD Cert.ReduceAdamIdeal.τ).loc Cert.ReduceAdamIdeal.main_arg5) = m ((c.tc : Thread Cert.ReduceAdamIdeal.nD Cert.ReduceAdamIdeal.τ).loc Cert.ReduceAdamIdeal.main_arg5)
          ∧ r.2.mem ((c.tc : Thread Cert.ReduceAdamIdeal.nD Cert.ReduceAdamIdeal.τ).loc Cert.ReduceAdamIdeal.main_arg6) = m ((c.tc : Thread Cert.ReduceAdamIdeal.nD Cert.ReduceAdamIdeal.τ).loc Cert.ReduceAdamIdeal.main_arg6)
          ∧ r.2.mem ((c.tc : Thread Cert.ReduceAdamIdeal.nD Cert.ReduceAdamIdeal.τ).loc Cert.ReduceAdamIdeal.main_arg7) = m ((c.tc : Thread Cert.ReduceAdamIdeal.nD Cert.ReduceAdamIdeal.τ).loc Cert.ReduceAdamIdeal.main_arg7)
          ∧ r.2.mem ((c.tc : Thread Cert.ReduceAdamIdeal.nD Cert.ReduceAdamIdeal.τ).loc Cert.ReduceAdamIdeal.main_arg8) = m ((c.tc : Thread Cert.ReduceAdamIdeal.nD Cert.ReduceAdamIdeal.τ).loc Cert.ReduceAdamIdeal.main_arg8)
          ∧ r.2.mem ((c.tc : Thread Cert.ReduceAdamIdeal.nD Cert.ReduceAdamIdeal.τ).loc Cert.ReduceAdamIdeal.main_arg9) = m ((c.tc : Thread Cert.ReduceAdamIdeal.nD Cert.ReduceAdamIdeal.τ).loc Cert.ReduceAdamIdeal.main_arg9)
          ∧ r.2.mem ((c.tc : Thread Cert.ReduceAdamIdeal.nD Cert.ReduceAdamIdeal.τ).loc Cert.ReduceAdamIdeal.main_arg10) = m ((c.tc : Thread Cert.ReduceAdamIdeal.nD Cert.ReduceAdamIdeal.τ).loc Cert.ReduceAdamIdeal.main_arg10)
          ∧ r.2.mem ((c.tc : Thread Cert.ReduceAdamIdeal.nD Cert.ReduceAdamIdeal.τ).loc Cert.ReduceAdamIdeal.main_arg11) = m ((c.tc : Thread Cert.ReduceAdamIdeal.nD Cert.ReduceAdamIdeal.τ).loc Cert.ReduceAdamIdeal.main_arg11)
          ∧ r.2.mem ((c.tc : Thread Cert.ReduceAdamIdeal.nD Cert.ReduceAdamIdeal.τ).loc Cert.ReduceAdamIdeal.main_arg12) = m ((c.tc : Thread Cert.ReduceAdamIdeal.nD Cert.ReduceAdamIdeal.τ).loc Cert.ReduceAdamIdeal.main_arg12))
      ∧ θ_run (Cert.ReduceAdamRefIdeal.defs (F := Ideal)) (onTc (τ := Cert.ReduceAdamRefIdeal.τ) (Cert.ReduceAdamRefIdeal.main (F := Ideal))) ⟨m', fun _ => 0, g'⟩ (fun r => ∀ c : Dev Cert.ReduceAdamRefIdeal.nD,
          r.2.mem ((c.tc : Thread Cert.ReduceAdamRefIdeal.nD Cert.ReduceAdamRefIdeal.τ).loc Cert.ReduceAdamRefIdeal.main_v75) = v0 c
          ∧ r.2.mem ((c.tc : Thread Cert.ReduceAdamRefIdeal.nD Cert.ReduceAdamRefIdeal.τ).loc Cert.ReduceAdamRefIdeal.main_v79) = v1 c
          ∧ r.2.mem ((c.tc : Thread Cert.ReduceAdamRefIdeal.nD Cert.ReduceAdamRefIdeal.τ).loc Cert.ReduceAdamRefIdeal.main_v83) = v2 c
          ∧ r.2.mem ((c.tc : Thread Cert.ReduceAdamRefIdeal.nD Cert.ReduceAdamRefIdeal.τ).loc Cert.ReduceAdamRefIdeal.main_v87) = v3 c
          ∧ r.2.mem ((c.tc : Thread Cert.ReduceAdamRefIdeal.nD Cert.ReduceAdamRefIdeal.τ).loc Cert.ReduceAdamRefIdeal.main_arg0) = m' ((c.tc : Thread Cert.ReduceAdamRefIdeal.nD Cert.ReduceAdamRefIdeal.τ).loc Cert.ReduceAdamRefIdeal.main_arg0)
          ∧ r.2.mem ((c.tc : Thread Cert.ReduceAdamRefIdeal.nD Cert.ReduceAdamRefIdeal.τ).loc Cert.ReduceAdamRefIdeal.main_arg1) = m' ((c.tc : Thread Cert.ReduceAdamRefIdeal.nD Cert.ReduceAdamRefIdeal.τ).loc Cert.ReduceAdamRefIdeal.main_arg1)
          ∧ r.2.mem ((c.tc : Thread Cert.ReduceAdamRefIdeal.nD Cert.ReduceAdamRefIdeal.τ).loc Cert.ReduceAdamRefIdeal.main_arg2) = m' ((c.tc : Thread Cert.ReduceAdamRefIdeal.nD Cert.ReduceAdamRefIdeal.τ).loc Cert.ReduceAdamRefIdeal.main_arg2)
          ∧ r.2.mem ((c.tc : Thread Cert.ReduceAdamRefIdeal.nD Cert.ReduceAdamRefIdeal.τ).loc Cert.ReduceAdamRefIdeal.main_arg3) = m' ((c.tc : Thread Cert.ReduceAdamRefIdeal.nD Cert.ReduceAdamRefIdeal.τ).loc Cert.ReduceAdamRefIdeal.main_arg3)
          ∧ r.2.mem ((c.tc : Thread Cert.ReduceAdamRefIdeal.nD Cert.ReduceAdamRefIdeal.τ).loc Cert.ReduceAdamRefIdeal.main_arg4) = m' ((c.tc : Thread Cert.ReduceAdamRefIdeal.nD Cert.ReduceAdamRefIdeal.τ).loc Cert.ReduceAdamRefIdeal.main_arg4)
          ∧ r.2.mem ((c.tc : Thread Cert.ReduceAdamRefIdeal.nD Cert.ReduceAdamRefIdeal.τ).loc Cert.ReduceAdamRefIdeal.main_arg5) = m' ((c.tc : Thread Cert.ReduceAdamRefIdeal.nD Cert.ReduceAdamRefIdeal.τ).loc Cert.ReduceAdamRefIdeal.main_arg5)
          ∧ r.2.mem ((c.tc : Thread Cert.ReduceAdamRefIdeal.nD Cert.ReduceAdamRefIdeal.τ).loc Cert.ReduceAdamRefIdeal.main_arg6) = m' ((c.tc : Thread Cert.ReduceAdamRefIdeal.nD Cert.ReduceAdamRefIdeal.τ).loc Cert.ReduceAdamRefIdeal.main_arg6)
          ∧ r.2.mem ((c.tc : Thread Cert.ReduceAdamRefIdeal.nD Cert.ReduceAdamRefIdeal.τ).loc Cert.ReduceAdamRefIdeal.main_arg7) = m' ((c.tc : Thread Cert.ReduceAdamRefIdeal.nD Cert.ReduceAdamRefIdeal.τ).loc Cert.ReduceAdamRefIdeal.main_arg7)
          ∧ r.2.mem ((c.tc : Thread Cert.ReduceAdamRefIdeal.nD Cert.ReduceAdamRefIdeal.τ).loc Cert.ReduceAdamRefIdeal.main_arg8) = m' ((c.tc : Thread Cert.ReduceAdamRefIdeal.nD Cert.ReduceAdamRefIdeal.τ).loc Cert.ReduceAdamRefIdeal.main_arg8)
          ∧ r.2.mem ((c.tc : Thread Cert.ReduceAdamRefIdeal.nD Cert.ReduceAdamRefIdeal.τ).loc Cert.ReduceAdamRefIdeal.main_arg9) = m' ((c.tc : Thread Cert.ReduceAdamRefIdeal.nD Cert.ReduceAdamRefIdeal.τ).loc Cert.ReduceAdamRefIdeal.main_arg9)
          ∧ r.2.mem ((c.tc : Thread Cert.ReduceAdamRefIdeal.nD Cert.ReduceAdamRefIdeal.τ).loc Cert.ReduceAdamRefIdeal.main_arg10) = m' ((c.tc : Thread Cert.ReduceAdamRefIdeal.nD Cert.ReduceAdamRefIdeal.τ).loc Cert.ReduceAdamRefIdeal.main_arg10)
          ∧ r.2.mem ((c.tc : Thread Cert.ReduceAdamRefIdeal.nD Cert.ReduceAdamRefIdeal.τ).loc Cert.ReduceAdamRefIdeal.main_arg11) = m' ((c.tc : Thread Cert.ReduceAdamRefIdeal.nD Cert.ReduceAdamRefIdeal.τ).loc Cert.ReduceAdamRefIdeal.main_arg11)
          ∧ r.2.mem ((c.tc : Thread Cert.ReduceAdamRefIdeal.nD Cert.ReduceAdamRefIdeal.τ).loc Cert.ReduceAdamRefIdeal.main_arg12) = m' ((c.tc : Thread Cert.ReduceAdamRefIdeal.nD Cert.ReduceAdamRefIdeal.τ).loc Cert.ReduceAdamRefIdeal.main_arg12))

def Claim : Prop :=
  ∃ (hLossBwd : Cert.LossBwd.Facts) (hLossBwdIdeal : Cert.LossBwdIdeal.Facts) (hLossRefIdeal : Cert.LossRefIdeal.Facts) (hFfnBwd : Cert.FfnBwd.Facts) (hFfnBwdIdeal : Cert.FfnBwdIdeal.Facts) (hFfnRefIdeal : Cert.FfnRefIdeal.Facts) (hInprojBwd : Cert.InprojBwd.Facts) (hInprojBwdIdeal : Cert.InprojBwdIdeal.Facts) (hInprojRefIdeal : Cert.InprojRefIdeal.Facts) (hFfninBwd : Cert.FfninBwd.Facts) (hFfninBwdIdeal : Cert.FfninBwdIdeal.Facts) (hFfninRefIdeal : Cert.FfninRefIdeal.Facts) (hOutprojBwd : Cert.OutprojBwd.Facts) (hOutprojBwdIdeal : Cert.OutprojBwdIdeal.Facts) (hOutprojRefIdeal : Cert.OutprojRefIdeal.Facts) (hStage2Bwd : Cert.Stage2Bwd.Facts) (hStage2BwdIdeal : Cert.Stage2BwdIdeal.Facts) (hStage2RefIdeal : Cert.Stage2RefIdeal.Facts) (hConvBwd : Cert.ConvBwd.Facts) (hConvBwdIdeal : Cert.ConvBwdIdeal.Facts) (hConvRefIdeal : Cert.ConvRefIdeal.Facts) (hNormIn : Cert.NormIn.Facts) (hNormInIdeal : Cert.NormInIdeal.Facts) (hNormInRefIdeal : Cert.NormInRefIdeal.Facts) (hNormFf : Cert.NormFf.Facts) (hNormFfIdeal : Cert.NormFfIdeal.Facts) (hNormFfRefIdeal : Cert.NormFfRefIdeal.Facts) (hFfnOut : Cert.FfnOut.Facts) (hFfnOutIdeal : Cert.FfnOutIdeal.Facts) (hFfnOutRefIdeal : Cert.FfnOutRefIdeal.Facts) (hMixer : Cert.Mixer.Facts) (hMixerIdeal : Cert.MixerIdeal.Facts) (hMixerRefIdeal : Cert.MixerRefIdeal.Facts) (hGates : Cert.Gates.Facts) (hGatesIdeal : Cert.GatesIdeal.Facts) (hGatesRefIdeal : Cert.GatesRefIdeal.Facts) (hAdam : Cert.Adam.Facts) (hAdamIdeal : Cert.AdamIdeal.Facts) (hAdamRefIdeal : Cert.AdamRefIdeal.Facts) (hAdamLayer : Cert.AdamLayer.Facts) (hAdamLayerIdeal : Cert.AdamLayerIdeal.Facts) (hAdamLayerRefIdeal : Cert.AdamLayerRefIdeal.Facts) (hWgrad : Cert.Wgrad.Facts) (hWgradIdeal : Cert.WgradIdeal.Facts) (hWgradRefIdeal : Cert.WgradRefIdeal.Facts) (hWgin : Cert.Wgin.Facts) (hWginIdeal : Cert.WginIdeal.Facts) (hWginRefIdeal : Cert.WginRefIdeal.Facts) (hReduceSum : Cert.ReduceSum.Facts) (hReduceSumIdeal : Cert.ReduceSumIdeal.Facts) (hReduceSumRefIdeal : Cert.ReduceSumRefIdeal.Facts) (hPairAdd : Cert.PairAdd.Facts) (hPairAddIdeal : Cert.PairAddIdeal.Facts) (hPairAddRefIdeal : Cert.PairAddRefIdeal.Facts) (hReduceAdam : Cert.ReduceAdam.Facts) (hReduceAdamIdeal : Cert.ReduceAdamIdeal.Facts) (hReduceAdamRefIdeal : Cert.ReduceAdamRefIdeal.Facts) (hPre_loss_finite : Cert.Pre_loss_finite.Facts) (hPre_ffn_finite : Cert.Pre_ffn_finite.Facts) (hPre_inproj_finite : Cert.Pre_inproj_finite.Facts) (hPre_ffnin_finite : Cert.Pre_ffnin_finite.Facts) (hPre_outproj_finite : Cert.Pre_outproj_finite.Facts) (hPre_stage2_finite : Cert.Pre_stage2_finite.Facts),
    quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_InprojBwd (hInprojBwd := hInprojBwd)
    ∧ quiescent_InprojBwdIdeal (hInprojBwdIdeal := hInprojBwdIdeal)
    ∧ quiescent_InprojBwdIdeal_pre_inproj_finite (hInprojBwdIdeal := hInprojBwdIdeal) (hPre_inproj_finite := hPre_inproj_finite)
    ∧ quiescent_InprojRefIdeal (hInprojRefIdeal := hInprojRefIdeal)
    ∧ quiescent_InprojRefIdeal_pre_inproj_finite (hInprojRefIdeal := hInprojRefIdeal) (hPre_inproj_finite := hPre_inproj_finite)
    ∧ quiescent_FfninBwd (hFfninBwd := hFfninBwd)
    ∧ quiescent_FfninBwdIdeal (hFfninBwdIdeal := hFfninBwdIdeal)
    ∧ quiescent_FfninBwdIdeal_pre_ffnin_finite (hFfninBwdIdeal := hFfninBwdIdeal) (hPre_ffnin_finite := hPre_ffnin_finite)
    ∧ quiescent_FfninRefIdeal (hFfninRefIdeal := hFfninRefIdeal)
    ∧ quiescent_FfninRefIdeal_pre_ffnin_finite (hFfninRefIdeal := hFfninRefIdeal) (hPre_ffnin_finite := hPre_ffnin_finite)
    ∧ quiescent_OutprojBwd (hOutprojBwd := hOutprojBwd)
    ∧ quiescent_OutprojBwdIdeal (hOutprojBwdIdeal := hOutprojBwdIdeal)
    ∧ quiescent_OutprojBwdIdeal_pre_outproj_finite (hOutprojBwdIdeal := hOutprojBwdIdeal) (hPre_outproj_finite := hPre_outproj_finite)
    ∧ quiescent_OutprojRefIdeal (hOutprojRefIdeal := hOutprojRefIdeal)
    ∧ quiescent_OutprojRefIdeal_pre_outproj_finite (hOutprojRefIdeal := hOutprojRefIdeal) (hPre_outproj_finite := hPre_outproj_finite)
    ∧ quiescent_Stage2Bwd (hStage2Bwd := hStage2Bwd)
    ∧ quiescent_Stage2BwdIdeal (hStage2BwdIdeal := hStage2BwdIdeal)
    ∧ quiescent_Stage2BwdIdeal_pre_stage2_finite (hStage2BwdIdeal := hStage2BwdIdeal) (hPre_stage2_finite := hPre_stage2_finite)
    ∧ quiescent_Stage2RefIdeal (hStage2RefIdeal := hStage2RefIdeal)
    ∧ quiescent_Stage2RefIdeal_pre_stage2_finite (hStage2RefIdeal := hStage2RefIdeal) (hPre_stage2_finite := hPre_stage2_finite)
    ∧ quiescent_ConvBwd (hConvBwd := hConvBwd)
    ∧ quiescent_ConvBwdIdeal (hConvBwdIdeal := hConvBwdIdeal)
    ∧ quiescent_ConvRefIdeal (hConvRefIdeal := hConvRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_NormFf (hNormFf := hNormFf)
    ∧ quiescent_NormFfIdeal (hNormFfIdeal := hNormFfIdeal)
    ∧ quiescent_NormFfRefIdeal (hNormFfRefIdeal := hNormFfRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_Mixer (hMixer := hMixer)
    ∧ quiescent_MixerIdeal (hMixerIdeal := hMixerIdeal)
    ∧ quiescent_MixerRefIdeal (hMixerRefIdeal := hMixerRefIdeal)
    ∧ quiescent_Gates (hGates := hGates)
    ∧ quiescent_GatesIdeal (hGatesIdeal := hGatesIdeal)
    ∧ quiescent_GatesRefIdeal (hGatesRefIdeal := hGatesRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamLayer (hAdamLayer := hAdamLayer)
    ∧ quiescent_AdamLayerIdeal (hAdamLayerIdeal := hAdamLayerIdeal)
    ∧ quiescent_AdamLayerRefIdeal (hAdamLayerRefIdeal := hAdamLayerRefIdeal)
    ∧ quiescent_Wgrad (hWgrad := hWgrad)
    ∧ quiescent_WgradIdeal (hWgradIdeal := hWgradIdeal)
    ∧ quiescent_WgradRefIdeal (hWgradRefIdeal := hWgradRefIdeal)
    ∧ quiescent_Wgin (hWgin := hWgin)
    ∧ quiescent_WginIdeal (hWginIdeal := hWginIdeal)
    ∧ quiescent_WginRefIdeal (hWginRefIdeal := hWginRefIdeal)
    ∧ quiescent_ReduceSum (hReduceSum := hReduceSum)
    ∧ quiescent_ReduceSumIdeal (hReduceSumIdeal := hReduceSumIdeal)
    ∧ quiescent_ReduceSumRefIdeal (hReduceSumRefIdeal := hReduceSumRefIdeal)
    ∧ quiescent_PairAdd (hPairAdd := hPairAdd)
    ∧ quiescent_PairAddIdeal (hPairAddIdeal := hPairAddIdeal)
    ∧ quiescent_PairAddRefIdeal (hPairAddRefIdeal := hPairAddRefIdeal)
    ∧ quiescent_ReduceAdam (hReduceAdam := hReduceAdam)
    ∧ quiescent_ReduceAdamIdeal (hReduceAdamIdeal := hReduceAdamIdeal)
    ∧ quiescent_ReduceAdamRefIdeal (hReduceAdamRefIdeal := hReduceAdamRefIdeal)
    ∧ preserves_LossBwd_LossBwdIdeal
    ∧ algebraic_LossBwdIdeal_LossRefIdeal_pre_loss_finite (hLossBwdIdeal := hLossBwdIdeal) (hLossRefIdeal := hLossRefIdeal) (hPre_loss_finite := hPre_loss_finite)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_InprojBwd_InprojBwdIdeal
    ∧ algebraic_InprojBwdIdeal_InprojRefIdeal_pre_inproj_finite (hInprojBwdIdeal := hInprojBwdIdeal) (hInprojRefIdeal := hInprojRefIdeal) (hPre_inproj_finite := hPre_inproj_finite)
    ∧ preserves_FfninBwd_FfninBwdIdeal
    ∧ algebraic_FfninBwdIdeal_FfninRefIdeal_pre_ffnin_finite (hFfninBwdIdeal := hFfninBwdIdeal) (hFfninRefIdeal := hFfninRefIdeal) (hPre_ffnin_finite := hPre_ffnin_finite)
    ∧ preserves_OutprojBwd_OutprojBwdIdeal
    ∧ algebraic_OutprojBwdIdeal_OutprojRefIdeal_pre_outproj_finite (hOutprojBwdIdeal := hOutprojBwdIdeal) (hOutprojRefIdeal := hOutprojRefIdeal) (hPre_outproj_finite := hPre_outproj_finite)
    ∧ preserves_Stage2Bwd_Stage2BwdIdeal
    ∧ algebraic_Stage2BwdIdeal_Stage2RefIdeal_pre_stage2_finite (hStage2BwdIdeal := hStage2BwdIdeal) (hStage2RefIdeal := hStage2RefIdeal) (hPre_stage2_finite := hPre_stage2_finite)
    ∧ preserves_ConvBwd_ConvBwdIdeal
    ∧ preserves_NormIn_NormInIdeal
    ∧ algebraic_NormInIdeal_NormInRefIdeal (hNormInIdeal := hNormInIdeal) (hNormInRefIdeal := hNormInRefIdeal)
    ∧ preserves_NormFf_NormFfIdeal
    ∧ algebraic_NormFfIdeal_NormFfRefIdeal (hNormFfIdeal := hNormFfIdeal) (hNormFfRefIdeal := hNormFfRefIdeal)
    ∧ preserves_FfnOut_FfnOutIdeal
    ∧ algebraic_FfnOutIdeal_FfnOutRefIdeal (hFfnOutIdeal := hFfnOutIdeal) (hFfnOutRefIdeal := hFfnOutRefIdeal)
    ∧ preserves_Mixer_MixerIdeal
    ∧ algebraic_MixerIdeal_MixerRefIdeal (hMixerIdeal := hMixerIdeal) (hMixerRefIdeal := hMixerRefIdeal)
    ∧ preserves_Gates_GatesIdeal
    ∧ algebraic_GatesIdeal_GatesRefIdeal (hGatesIdeal := hGatesIdeal) (hGatesRefIdeal := hGatesRefIdeal)
    ∧ preserves_Adam_AdamIdeal
    ∧ algebraic_AdamIdeal_AdamRefIdeal (hAdamIdeal := hAdamIdeal) (hAdamRefIdeal := hAdamRefIdeal)
    ∧ preserves_AdamLayer_AdamLayerIdeal
    ∧ algebraic_AdamLayerIdeal_AdamLayerRefIdeal (hAdamLayerIdeal := hAdamLayerIdeal) (hAdamLayerRefIdeal := hAdamLayerRefIdeal)
    ∧ preserves_Wgrad_WgradIdeal
    ∧ algebraic_WgradIdeal_WgradRefIdeal (hWgradIdeal := hWgradIdeal) (hWgradRefIdeal := hWgradRefIdeal)
    ∧ preserves_Wgin_WginIdeal
    ∧ algebraic_WginIdeal_WginRefIdeal (hWginIdeal := hWginIdeal) (hWginRefIdeal := hWginRefIdeal)
    ∧ preserves_ReduceSum_ReduceSumIdeal
    ∧ algebraic_ReduceSumIdeal_ReduceSumRefIdeal (hReduceSumIdeal := hReduceSumIdeal) (hReduceSumRefIdeal := hReduceSumRefIdeal)
    ∧ preserves_PairAdd_PairAddIdeal
    ∧ algebraic_PairAddIdeal_PairAddRefIdeal (hPairAddIdeal := hPairAddIdeal) (hPairAddRefIdeal := hPairAddRefIdeal)
    ∧ preserves_ReduceAdam_ReduceAdamIdeal
    ∧ algebraic_ReduceAdamIdeal_ReduceAdamRefIdeal (hReduceAdamIdeal := hReduceAdamIdeal) (hReduceAdamRefIdeal := hReduceAdamRefIdeal)
-- ==== Pre_ffn_finite.lean ====
abbrev S4096x1024 : Shape := ⟨2, ![4096, 1024]⟩
abbrev S4096x5632 : Shape := ⟨2, ![4096, 5632]⟩
abbrev S1024 : Shape := ⟨1, ![1024]⟩
abbrev S2816x1024 : Shape := ⟨2, ![2816, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S1024 : S_.BroadcastsInDim S1024 (![] : Fin 0 → Fin S1024.rank)
  reducesTo_S1024_S_d0 : S1024.ReducesTo [0] S_
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  main_v18

def fn {F : FTy → Type} [FloatOps F] (main_arg0 : FVec F S4096x1024 .f32) (main_arg1 : FVec F S4096x5632 .f32) (main_arg2 : FVec F S1024 .f32) (main_arg3 : FVec F S2816x1024 .f32) (main_arg4 : FVec F S4096x1024 .f32) : IVec S_ 1 :=
  let main_v0 : FVec F S4096x5632 .f32 := Host.absf main_arg1
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S4096x1024 .f32 := Host.absf main_arg4
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_v13 main_v16
-- ==== Pre_ffnin_finite.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part1 {F : FTy → Type} [FloatOps F] (main_arg4 : FVec F S4096x5632 .f32) (main_arg5 : FVec F S4096x1024 .f32) (main_v13 : IVec S_ 1) (main_v16 : IVec S1024x5632 1) : IVec S_ 1 :=
  let main_c_5 : IVec S_ 1 := constantI S_ 1 1#1
  let main_v17 : IVec S_ 1 := (fun x v => Host.reduce IntOp.andi x v reducesTo_S1024x5632_S_d0_1 h_S_) main_v16 main_c_5
  let main_v18 : IVec S_ 1 := andi main_v13 main_v17
  let main_v19 : FVec F S4096x5632 .f32 := Host.absf main_arg4
  let main_cst_6 : FVec F S_ .f32 := constant S_ .f32 0x7F800000#32
  let main_v20 : FVec F S4096x5632 .f32 := broadcastInDim S4096x5632 ![] bcast_S_S4096x5632 main_cst_6
  let main_v21 : IVec S4096x5632 1 := cmpf .olt main_v19 main_v20
  let main_c_7 : IVec S_ 1 := constantI S_ 1 1#1
  let main_v22 : IVec S_ 1 := (fun x v => Host.reduce IntOp.andi x v reducesTo_S4096x5632_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024 .f32) (main_arg3 : FVec F S1024x5632 .f32) (main_arg4 : FVec F S4096x5632 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x5632 .f32 := Host.absf main_arg3
  let main_cst_4 : FVec F S_ .f32 := constant S_ .f32 0x7F800000#32
  let main_v15 : FVec F S1024x5632 .f32 := broadcastInDim S1024x5632 ![] bcast_S_S1024x5632 main_cst_4
  let main_v16 : IVec S1024x5632 1 := cmpf .olt main_v14 main_v15
  fn_part1 (F := F) main_arg4 main_arg5 main_v13 main_v16
-- ==== Pre_inproj_finite.lean ====
abbrev S4096x1024 : Shape := ⟨2, ![4096, 1024]⟩
abbrev S1024 : Shape := ⟨1, ![1024]⟩
abbrev S1024x3336 : Shape := ⟨2, ![1024, 3336]⟩
abbrev S4096x3336 : Shape := ⟨2, ![4096, 3336]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x3336 : S_.BroadcastsInDim S1024x3336 (![] : Fin 0 → Fin S1024x3336.rank)
  reducesTo_S1024x3336_S_d0_1 : S1024x3336.ReducesTo [0, 1] S_
  bcast_S_S4096x3336 : S_.BroadcastsInDim S4096x3336 (![] : Fin 0 → Fin S4096x3336.rank)
  reducesTo_S4096x3336_S_d0_1 : S4096x3336.ReducesTo [0, 1] S_

variable [Facts]

def fn_part1 {F : FTy → Type} [FloatOps F] (main_arg4 : FVec F S4096x3336 .f32) (main_arg5 : FVec F S4096x1024 .f32) (main_v13 : IVec S_ 1) (main_v16 : IVec S1024x3336 1) : IVec S_ 1 :=
  let main_c_5 : IVec S_ 1 := constantI S_ 1 1#1
  let main_v17 : IVec S_ 1 := (fun x v => Host.reduce IntOp.andi x v reducesTo_S1024x3336_S_d0_1 h_S_) main_v16 main_c_5
  let main_v18 : IVec S_ 1 := andi main_v13 main_v17
  let main_v19 : FVec F S4096x3336 .f32 := Host.absf main_arg4
  let main_cst_6 : FVec F S_ .f32 := constant S_ .f32 0x7F800000#32
  let main_v20 : FVec F S4096x3336 .f32 := broadcastInDim S4096x3336 ![] bcast_S_S4096x3336 main_cst_6
  let main_v21 : IVec S4096x3336 1 := cmpf .olt main_v19 main_v20
  let main_c_7 : IVec S_ 1 := constantI S_ 1 1#1
  let main_v22 : IVec S_ 1 := (fun x v => Host.reduce IntOp.andi x v reducesTo_S4096x3336_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  main_v28

def fn {F : FTy → Type} [FloatOps F] (main_arg0 : FVec F S4096x1024 .f32) (main_arg1 : FVec F S1024 .f32) (main_arg2 : FVec F S1024 .f32) (main_arg3 : FVec F S1024x3336 .f32) (main_arg4 : FVec F S4096x3336 .f32) (main_arg5 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x3336 .f32 := Host.absf main_arg3
  let main_cst_4 : FVec F S_ .f32 := constant S_ .f32 0x7F800000#32
  let main_v15 : FVec F S1024x3336 .f32 := broadcastInDim S1024x3336 ![] bcast_S_S1024x3336 main_cst_4
  let main_v16 : IVec S1024x3336 1 := cmpf .olt main_v14 main_v15
  fn_part1 (F := F) main_arg4 main_arg5 main_v13 main_v16
-- ==== Pre_loss_finite.lean ====
abbrev S4096x1024 : Shape := ⟨2, ![4096, 1024]⟩
abbrev S1024 : Shape := ⟨1, ![1024]⟩
abbrev S_ : Shape := ⟨0, ![]⟩
abbrev S1x1024 : Shape := ⟨2, ![1, 1024]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)

variable [Facts]

def fn {F : FTy → Type} [FloatOps F] (main_arg0 : FVec F S4096x1024 .f32) (main_arg1 : FVec F S4096x1024 .f32) (main_arg2 : FVec F S1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : IVec S4096x1024 1 := andi main_v2 main_v5
  let main_v7 : FVec F S1024 .f32 := Host.absf main_arg2
  let main_cst_1 : FVec F S_ .f32 := constant S_ .f32 0x7F800000#32
  let main_v8 : FVec F S1024 .f32 := broadcastInDim S1024 ![] bcast_S_S1024 main_cst_1
  let main_v9 : IVec S1024 1 := cmpf .olt main_v7 main_v8
  let main_v10 : IVec S1x1024 1 := broadcastInDim S1x1024 ![1] bcast_S1024_S1x1024_1 main_v9
  let main_v11 : IVec S4096x1024 1 := broadcastInDim S4096x1024 ![0, 1] bcast_S1x1024_S4096x1024_0_1 main_v10
  let main_v12 : IVec S4096x1024 1 := andi main_v6 main_v11
  main_v12
-- ==== Pre_outproj_finite.lean ====
abbrev S4096x1024 : Shape := ⟨2, ![4096, 1024]⟩
abbrev S4096x512 : Shape := ⟨2, ![4096, 512]⟩
abbrev S4096x3336 : Shape := ⟨2, ![4096, 3336]⟩
abbrev S1024 : Shape := ⟨1, ![1024]⟩
abbrev S128 : Shape := ⟨1, ![128]⟩
abbrev S1024x1024 : Shape := ⟨2, ![1024, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x3336 : S_.BroadcastsInDim S4096x3336 (![] : Fin 0 → Fin S4096x3336.rank)
  reducesTo_S4096x3336_S_d0_1 : S4096x3336.ReducesTo [0, 1] S_
  bcast_S_S1024 : S_.BroadcastsInDim S1024 (![] : Fin 0 → Fin S1024.rank)
  reducesTo_S1024_S_d0 : S1024.ReducesTo [0] S_
  bcast_S_S128 : S_.BroadcastsInDim S128 (![] : Fin 0 → Fin S128.rank)
  reducesTo_S128_S_d0 : S128.ReducesTo [0] S_
  bcast_S_S1024x1024 : S_.BroadcastsInDim S1024x1024 (![] : Fin 0 → Fin S1024x1024.rank)
  reducesTo_S1024x1024_S_d0_1 : S1024x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg5 : FVec F S128 .f32) (main_arg6 : FVec F S1024x1024 .f32) (main_arg7 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S4096x1024 .f32 := Host.absf main_arg7
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S4096x512 .f32) (main_arg2 : FVec F S4096x3336 .f32) (main_arg3 : FVec F S4096x512 .f32) (main_arg4 : FVec F S1024 .f32) (main_arg5 : FVec F S128 .f32) (main_arg6 : FVec F S1024x1024 .f32) (main_arg7 : FVec F S4096x1024 .f32) : IVec S_ 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x3336 .f32 := Host.absf main_arg2
  let main_cst_0 : FVec F S_ .f32 := constant S_ .f32 0x7F800000#32
  let main_v5 : FVec F S4096x3336 .f32 := broadcastInDim S4096x3336 ![] bcast_S_S4096x3336 main_cst_0
  let main_v6 : IVec S4096x3336 1 := cmpf .olt main_v4 main_v5
  let main_c_1 : IVec S_ 1 := constantI S_ 1 1#1
  let main_v7 : IVec S_ 1 := (fun x v => Host.reduce IntOp.andi x v reducesTo_S4096x3336_S_d0_1 h_S_) main_v6 main_c_1
  let main_v8 : IVec S_ 1 := andi main_v3 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_v13 main_v16
-- ==== Pre_stage2_finite.lean ====
abbrev S4096x3336 : Shape := ⟨2, ![4096, 3336]⟩
abbrev S4096x2048 : Shape := ⟨2, ![4096, 2048]⟩
abbrev S256 : Shape := ⟨1, ![256]⟩
abbrev S4 : Shape := ⟨1, ![4]⟩
abbrev S4096x512 : Shape := ⟨2, ![4096, 512]⟩
abbrev S4096x4 : Shape := ⟨2, ![4096, 4]⟩
abbrev S_ : Shape := ⟨0, ![]⟩
abbrev S1x4 : Shape := ⟨2, ![1, 4]⟩

class Facts : Prop where
  bcast_S_S4096x3336 : S_.BroadcastsInDim S4096x3336 (![] : Fin 0 → Fin S4096x3336.rank)
  reducesTo_S4096x3336_S_d0_1 : S4096x3336.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S256 : S_.BroadcastsInDim S256 (![] : Fin 0 → Fin S256.rank)
  reducesTo_S256_S_d0 : S256.ReducesTo [0] S_
  bcast_S_S4 : S_.BroadcastsInDim S4 (![] : Fin 0 → Fin S4.rank)
  reducesTo_S4_S_d0 : S4.ReducesTo [0] S_
  bcast_S_S4096x512 : S_.BroadcastsInDim S4096x512 (![] : Fin 0 → Fin S4096x512.rank)
  reducesTo_S4096x512_S_d0_1 : S4096x512.ReducesTo [0, 1] S_
  bcast_S_S4096x4 : S_.BroadcastsInDim S4096x4 (![] : Fin 0 → Fin S4096x4.rank)
  reducesTo_S4096x4_S_d0_1 : S4096x4.ReducesTo [0, 1] S_
  slices_S4096x3336_S4096x4_0_3328 : S4096x3336.Slices ![0, 3328] S4096x4
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)

variable [Facts]

def fn_part4 {F : FTy → Type} [FloatOps F] (main_v63 : IVec S_ 1) (main_v67 : FVec F S4096x4 .f32) (main_v68 : FVec F S4096x4 .f32) : IVec S_ 1 :=
  let main_v69 : IVec S4096x4 1 := cmpf .une main_v67 main_v68
  let main_c_25 : IVec S_ 1 := constantI S_ 1 1#1
  let main_v70 : IVec S_ 1 := (fun x v => Host.reduce IntOp.andi x v reducesTo_S4096x4_S_d0_1 h_S_) main_v69 main_c_25
  let main_v71 : IVec S_ 1 := andi main_v63 main_v70
  main_v71

def fn_part3 {F : FTy → Type} [FloatOps F] (main_arg0 : FVec F S4096x3336 .f32) (main_arg6 : FVec F S4 .f32) (main_arg11 : FVec F S4096x4 .f32) (main_arg12 : FVec F S4096x4 .f32) (main_v48 : IVec S_ 1) (main_v49 : FVec F S4096x512 .f32) (main_v50 : FVec F S4096x512 .f32) : IVec S_ 1 :=
  let main_v51 : IVec S4096x512 1 := cmpf .olt main_v49 main_v50
  let main_c_19 : IVec S_ 1 := constantI S_ 1 1#1
  let main_v52 : IVec S_ 1 := (fun x v => Host.reduce IntOp.andi x v reducesTo_S4096x512_S_d0_1 h_S_) main_v51 main_c_19
  let main_v53 : IVec S_ 1 := andi main_v48 main_v52
  let main_v54 : FVec F S4096x4 .f32 := Host.absf main_arg11
  let main_cst_20 : FVec F S_ .f32 := constant S_ .f32 0x7F800000#32
  let main_v55 : FVec F S4096x4 .f32 := broadcastInDim S4096x4 ![] bcast_S_S4096x4 main_cst_20
  let main_v56 : IVec S4096x4 1 := cmpf .olt main_v54 main_v55
  let main_c_21 : IVec S_ 1 := constantI S_ 1 1#1
  let main_v57 : IVec S_ 1 := (fun x v => Host.reduce IntOp.andi x v reducesTo_S4096x4_S_d0_1 h_S_) main_v56 main_c_21
  let main_v58 : IVec S_ 1 := andi main_v53 main_v57
  let main_v59 : FVec F S4096x4 .f32 := Host.absf main_arg12
  let main_cst_22 : FVec F S_ .f32 := constant S_ .f32 0x7F800000#32
  let main_v60 : FVec F S4096x4 .f32 := broadcastInDim S4096x4 ![] bcast_S_S4096x4 main_cst_22
  let main_v61 : IVec S4096x4 1 := cmpf .olt main_v59 main_v60
  let main_c_23 : IVec S_ 1 := constantI S_ 1 1#1
  let main_v62 : IVec S_ 1 := (fun x v => Host.reduce IntOp.andi x v reducesTo_S4096x4_S_d0_1 h_S_) main_v61 main_c_23
  let main_v63 : IVec S_ 1 := andi main_v58 main_v62
  let main_v64 : FVec F S4096x4 .f32 := (extractStridedSlice S4096x4 ![0, 3328] · slices_S4096x3336_S4096x4_0_3328) main_arg0
  let main_v65 : FVec F S1x4 .f32 := broadcastInDim S1x4 ![1] bcast_S4_S1x4_1 main_arg6
  let main_v66 : FVec F S4096x4 .f32 := broadcastInDim S4096x4 ![0, 1] bcast_S1x4_S4096x4_0_1 main_v65
  let main_v67 : FVec F S4096x4 .f32 := addf main_v64 main_v66
  let main_cst_24 : FVec F S_ .f32 := constant S_ .f32 0x00000000#32
  let main_v68 : FVec F S4096x4 .f32 := broadcastInDim S4096x4 ![] bcast_S_S4096x4 main_cst_24
  fn_part4 (F := F) main_v63 main_v67 main_v68

def fn_part2 {F : FTy → Type} [FloatOps F] (main_arg0 : FVec F S4096x3336 .f32) (main_arg6 : FVec F S4 .f32) (main_arg7 : FVec F S4096x512 .f32) (main_arg8 : FVec F S4096x512 .f32) (main_arg9 : FVec F S4096x512 .f32) (main_arg10 : FVec F S4096x512 .f32) (main_arg11 : FVec F S4096x4 .f32) (main_arg12 : FVec F S4096x4 .f32) (main_v33 : IVec S_ 1) : IVec S_ 1 :=
  let main_v34 : FVec F S4096x512 .f32 := Host.absf main_arg7
  let main_cst_12 : FVec F S_ .f32 := constant S_ .f32 0x7F800000#32
  let main_v35 : FVec F S4096x512 .f32 := broadcastInDim S4096x512 ![] bcast_S_S4096x512 main_cst_12
  let main_v36 : IVec S4096x512 1 := cmpf .olt main_v34 main_v35
  let main_c_13 : IVec S_ 1 := constantI S_ 1 1#1
  let main_v37 : IVec S_ 1 := (fun x v => Host.reduce IntOp.andi x v reducesTo_S4096x512_S_d0_1 h_S_) main_v36 main_c_13
  let main_v38 : IVec S_ 1 := andi main_v33 main_v37
  let main_v39 : FVec F S4096x512 .f32 := Host.absf main_arg8
  let main_cst_14 : FVec F S_ .f32 := constant S_ .f32 0x7F800000#32
  let main_v40 : FVec F S4096x512 .f32 := broadcastInDim S4096x512 ![] bcast_S_S4096x512 main_cst_14
  let main_v41 : IVec S4096x512 1 := cmpf .olt main_v39 main_v40
  let main_c_15 : IVec S_ 1 := constantI S_ 1 1#1
  let main_v42 : IVec S_ 1 := (fun x v => Host.reduce IntOp.andi x v reducesTo_S4096x512_S_d0_1 h_S_) main_v41 main_c_15
  let main_v43 : IVec S_ 1 := andi main_v38 main_v42
  let main_v44 : FVec F S4096x512 .f32 := Host.absf main_arg9
  let main_cst_16 : FVec F S_ .f32 := constant S_ .f32 0x7F800000#32
  let main_v45 : FVec F S4096x512 .f32 := broadcastInDim S4096x512 ![] bcast_S_S4096x512 main_cst_16
  let main_v46 : IVec S4096x512 1 := cmpf .olt main_v44 main_v45
  let main_c_17 : IVec S_ 1 := constantI S_ 1 1#1
  let main_v47 : IVec S_ 1 := (fun x v => Host.reduce IntOp.andi x v reducesTo_S4096x512_S_d0_1 h_S_) main_v46 main_c_17
  let main_v48 : IVec S_ 1 := andi main_v43 main_v47
  let main_v49 : FVec F S4096x512 .f32 := Host.absf main_arg10
  let main_cst_18 : FVec F S_ .f32 := constant S_ .f32 0x7F800000#32
  let main_v50 : FVec F S4096x512 .f32 := broadcastInDim S4096x512 ![] bcast_S_S4096x512 main_cst_18
  fn_part3 (F := F) main_arg0 main_arg6 main_arg11 main_arg12 main_v48 main_v49 main_v50

def fn_part1 {F : FTy → Type} [FloatOps F] (main_arg0 : FVec F S4096x3336 .f32) (main_arg4 : FVec F S256 .f32) (main_arg5 : FVec F S4 .f32) (main_arg6 : FVec F S4 .f32) (main_arg7 : FVec F S4096x512 .f32) (main_arg8 : FVec F S4096x512 .f32) (main_arg9 : FVec F S4096x512 .f32) (main_arg10 : FVec F S4096x512 .f32) (main_arg11 : FVec F S4096x4 .f32) (main_arg12 : FVec F S4096x4 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  let main_v29 : FVec F S4 .f32 := Host.absf main_arg6
  let main_cst_10 : FVec F S_ .f32 := constant S_ .f32 0x7F800000#32
  let main_v30 : FVec F S4 .f32 := broadcastInDim S4 ![] bcast_S_S4 main_cst_10
  let main_v31 : IVec S4 1 := cmpf .olt main_v29 main_v30
  let main_c_11 : IVec S_ 1 := constantI S_ 1 1#1
  let main_v32 : IVec S_ 1 := (fun x v => Host.reduce IntOp.andi x v reducesTo_S4_S_d0 h_S_) main_v31 main_c_11
  let main_v33 : IVec S_ 1 := andi main_v28 main_v32
  fn_part2 (F := F) main_arg0 main_arg6 main_arg7 main_arg8 main_arg9 main_arg10 main_arg11 main_arg12 main_v33

def fn {F : FTy → Type} [FloatOps F] (main_arg0 : FVec F S4096x3336 .f32) (main_arg1 : FVec F S4096x2048 .f32) (main_arg2 : FVec F S256 .f32) (main_arg3 : FVec F S256 .f32) (main_arg4 : FVec F S256 .f32) (main_arg5 : FVec F S4 .f32) (main_arg6 : FVec F S4 .f32) (main_arg7 : FVec F S4096x512 .f32) (main_arg8 : FVec F S4096x512 .f32) (main_arg9 : FVec F S4096x512 .f32) (main_arg10 : FVec F S4096x512 .f32) (main_arg11 : FVec F S4096x4 .f32) (main_arg12 : FVec F S4096x4 .f32) : IVec S_ 1 :=
  let main_v0 : FVec F S4096x3336 .f32 := Host.absf main_arg0
  let main_cst : FVec F S_ .f32 := constant S_ .f32 0x7F800000#32
  let main_v1 : FVec F S4096x3336 .f32 := broadcastInDim S4096x3336 ![] bcast_S_S4096x3336 main_cst
  let main_v2 : IVec S4096x3336 1 := cmpf .olt main_v0 main_v1
  let main_c : IVec S_ 1 := constantI S_ 1 1#1
  let main_v3 : IVec S_ 1 := (fun x v => Host.reduce IntOp.andi x v reducesTo_S4096x3336_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_arg4 main_arg5 main_arg6 main_arg7 main_arg8 main_arg9 main_arg10 main_arg11 main_arg12 main_v13 main_v16
-- ==== LossBwd.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S1x128, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x128, .f32⟩
  | .hbm, ⟨72, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== FfnBwd.lean ====
abbrev S4096x1024 : Shape := ⟨2, ![4096, 1024]⟩
abbrev S4096x5632 : Shape := ⟨2, ![4096, 5632]⟩
abbrev S1024 : Shape := ⟨1, ![1024]⟩
abbrev S2816x1024 : Shape := ⟨2, ![2816, 1024]⟩
abbrev S1x1024 : Shape := ⟨2, ![1, 1024]⟩
abbrev S256x1024 : Shape := ⟨2, ![256, 1024]⟩
abbrev S256x5632 : Shape := ⟨2, ![256, 5632]⟩
abbrev S256x2816 : Shape := ⟨2, ![256, 2816]⟩
abbrev S4096x2816 : Shape := ⟨2, ![4096, 2816]⟩

abbrev nBuf : Space → Nat
  | .hbm => 15
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024, .f32⟩
  | .hbm, ⟨3, _⟩ => ⟨S2816x1024, .f32⟩
  | .hbm, ⟨4, _⟩ => ⟨S4096x1024, .f32⟩
  | .hbm, ⟨5, _⟩ => ⟨S4096x5632, .bf16⟩
  | .hbm, ⟨6, _⟩ => ⟨S2816x1024, .bf16⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x5632, .bf16⟩
  | .hbm, ⟨12, _⟩ => ⟨S4096x2816, .bf16⟩
  | .hbm, ⟨13, _⟩ => ⟨S4096x1024, .bf16⟩
  | .hbm, ⟨14, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S1x1024, .f32⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x5632, .bf16⟩
  | .local _ .vmem, ⟨13, _⟩ => ⟨S256x5632, .bf16⟩
  | .local _ .vmem, ⟨14, _⟩ => ⟨S256x1024, .f32⟩
  | .local _ .vmem, ⟨15, _⟩ => ⟨S256x1024, .f32⟩
  | .local _ .vmem, ⟨16, _⟩ => ⟨S1x1024, .f32⟩
  | .local _ .vmem, ⟨17, _⟩ => ⟨S2816x1024, .bf16⟩
  | .local _ .vmem, ⟨18, _⟩ => ⟨S256x5632, .bf16⟩
  | .local _ .vmem, ⟨19, _⟩ => ⟨S256x5632, .bf16⟩
  | .local _ .vmem, ⟨20, _⟩ => ⟨S256x2816, .bf16⟩
  | .local _ .vmem, ⟨21, _⟩ => ⟨S256x2816, .bf16⟩
  | .local _ .vmem, ⟨22, _⟩ => ⟨S256x1024, .bf16⟩
  | .local _ .vmem, ⟨23, _⟩ => ⟨S256x1024, .bf16⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x5632 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2816x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x5632 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2816 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== FfnRefIdeal.lean ====
abbrev S4096x1024 : Shape := ⟨2, ![4096, 1024]⟩
abbrev S4096x5632 : Shape := ⟨2, ![4096, 5632]⟩
abbrev S1024 : Shape := ⟨1, ![1024]⟩
abbrev S2816x1024 : Shape := ⟨2, ![2816, 1024]⟩
abbrev S4096x2816 : Shape := ⟨2, ![4096, 2816]⟩
abbrev S_ : Shape := ⟨0, ![]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S_, .f32⟩
  | .hbm, ⟨33, _⟩ => ⟨S1024, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x5632, .f32⟩
  | .hbm, ⟨42, _⟩ => ⟨S4096x5632, .bf16⟩
  | .hbm, ⟨43, _⟩ => ⟨S4096x2816, .bf16⟩
  | .hbm, ⟨44, _⟩ => ⟨S4096x1024, .bf16⟩
  | .hbm, ⟨45, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]
-- ==== InprojBwd.lean ====
abbrev S4096x1024 : Shape := ⟨2, ![4096, 1024]⟩
abbrev S1024 : Shape := ⟨1, ![1024]⟩
abbrev S1024x3336 : Shape := ⟨2, ![1024, 3336]⟩
abbrev S4096x3336 : Shape := ⟨2, ![4096, 3336]⟩
abbrev S_ : Shape := ⟨0, ![]⟩
abbrev S4096x3456 : Shape := ⟨2, ![4096, 3456]⟩
abbrev S1x1024 : Shape := ⟨2, ![1, 1024]⟩
abbrev S1024x3456 : Shape := ⟨2, ![1024, 3456]⟩
abbrev S512x1024 : Shape := ⟨2, ![512, 1024]⟩
abbrev S512x3456 : Shape := ⟨2, ![512, 3456]⟩
abbrev S512 : Shape := ⟨1, ![512]⟩
abbrev S512x1 : Shape := ⟨2, ![512, 1]⟩

abbrev nBuf : Space → Nat
  | .hbm => 20
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x3336, .f32⟩
  | .hbm, ⟨4, _⟩ => ⟨S4096x3336, .f32⟩
  | .hbm, ⟨5, _⟩ => ⟨S4096x1024, .f32⟩
  | .hbm, ⟨6, _⟩ => ⟨S_, .i32⟩
  | .hbm, ⟨7, _⟩ => ⟨S_, .f32⟩
  | .hbm, ⟨8, _⟩ => ⟨S4096x3456, .f32⟩
  | .hbm, ⟨9, _⟩ => ⟨S4096x3456, .bf16⟩
  | .hbm, ⟨10, _⟩ => ⟨S1x1024, .f32⟩
  | .hbm, ⟨11, _⟩ => ⟨S1x1024, .f32⟩
  | .hbm, ⟨12, _⟩ => ⟨S_, .i32⟩
  | .hbm, ⟨13, _⟩ => ⟨S_, .f32⟩
  | .hbm, ⟨14, _⟩ => ⟨S1024x3456, .f32⟩
  | .hbm, ⟨15, _⟩ => ⟨S1024x3456, .bf16⟩
  | .hbm, ⟨16, _⟩ => ⟨S4096x1024, .f32⟩
  | .hbm, ⟨17, _⟩ => ⟨S1x1024, .f32⟩
  | .hbm, ⟨18, _⟩ => ⟨S1x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x3456, .bf16⟩
  | .local _ .vmem, ⟨3, _⟩ => ⟨S512x3456, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1024x3456, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3456 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InprojRefIdeal.lean ====
abbrev S4096x1024 : Shape := ⟨2, ![4096, 1024]⟩
abbrev S1024 : Shape := ⟨1, ![1024]⟩
abbrev S1024x3336 : Shape := ⟨2, ![1024, 3336]⟩
abbrev S4096x3336 : Shape := ⟨2, ![4096, 3336]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x3336, .f32⟩
  | .hbm, ⟨4, _⟩ => ⟨S4096x3336, .f32⟩
  | .hbm, ⟨5, _⟩ => ⟨S4096x1024, .f32⟩
  | .hbm, ⟨6, _⟩ => ⟨S_, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x3336, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S1x1024, .f32⟩
  | .hbm, ⟨80, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== FfninBwd.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S1x1024 : Shape := ⟨2, ![1, 1024]⟩
abbrev S5632x1024 : Shape := ⟨2, ![5632, 1024]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩

abbrev nBuf : Space → Nat
  | .hbm => 15
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S4096x5632, .f32⟩
  | .hbm, ⟨5, _⟩ => ⟨S4096x1024, .f32⟩
  | .hbm, ⟨6, _⟩ => ⟨S4096x5632, .bf16⟩
  | .hbm, ⟨7, _⟩ => ⟨S1x1024, .f32⟩
  | .hbm, ⟨8, _⟩ => ⟨S1x1024, .f32⟩
  | .hbm, ⟨9, _⟩ => ⟨S5632x1024, .f32⟩
  | .hbm, ⟨10, _⟩ => ⟨S5632x1024, .bf16⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x5632, .bf16⟩
  | .local _ .vmem, ⟨3, _⟩ => ⟨S512x5632, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S5632x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FfninRefIdeal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x5632, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S_, .f32⟩
  | .hbm, ⟨43, _⟩ => ⟨S1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x1024, .f32⟩
  | .hbm, ⟨79, _⟩ => ⟨S1x1024, .f32⟩
  | .hbm, ⟨80, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== OutprojBwd.lean ====
abbrev S4096x1024 : Shape := ⟨2, ![4096, 1024]⟩
abbrev S4096x512 : Shape := ⟨2, ![4096, 512]⟩
abbrev S4096x3336 : Shape := ⟨2, ![4096, 3336]⟩
abbrev S1024 : Shape := ⟨1, ![1024]⟩
abbrev S128 : Shape := ⟨1, ![128]⟩
abbrev S1024x1024 : Shape := ⟨2, ![1024, 1024]⟩
abbrev S_ : Shape := ⟨0, ![]⟩
abbrev S4096x3456 : Shape := ⟨2, ![4096, 3456]⟩
abbrev S1x1024 : Shape := ⟨2, ![1, 1024]⟩
abbrev S1x128 : Shape := ⟨2, ![1, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 26
  | .vmem => 50
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x3336, .f32⟩
  | .hbm, ⟨3, _⟩ => ⟨S4096x512, .f32⟩
  | .hbm, ⟨4, _⟩ => ⟨S1024, .f32⟩
  | .hbm, ⟨5, _⟩ => ⟨S128, .f32⟩
  | .hbm, ⟨6, _⟩ => ⟨S1024x1024, .f32⟩
  | .hbm, ⟨7, _⟩ => ⟨S4096x1024, .f32⟩
  | .hbm, ⟨8, _⟩ => ⟨S_, .i32⟩
  | .hbm, ⟨9, _⟩ => ⟨S_, .f32⟩
  | .hbm, ⟨10, _⟩ => ⟨S4096x3456, .f32⟩
  | .hbm, ⟨11, _⟩ => ⟨S1024x1024, .bf16⟩
  | .hbm, ⟨12, _⟩ => ⟨S4096x512, .bf16⟩
  | .hbm, ⟨13, _⟩ => ⟨S1x1024, .f32⟩
  | .hbm, ⟨14, _⟩ => ⟨S1x128, .f32⟩
  | .hbm, ⟨15, _⟩ => ⟨S4096x1024, .f32⟩
  | .hbm, ⟨16, _⟩ => ⟨S4096x1024, .f32⟩
  | .hbm, ⟨17, _⟩ => ⟨S4096x1024, .bf16⟩
  | .hbm, ⟨18, _⟩ => ⟨S1x1024, .f32⟩
  | .hbm, ⟨19, _⟩ => ⟨S1x128, .f32⟩
  | .hbm, ⟨20, _⟩ => ⟨S4096x1024, .bf16⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S1x1024, .f32⟩
  | .hbm, ⟨25, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S1x1024, .f32⟩
  | .local _ .vmem, ⟨15, _⟩ => ⟨S1x128, .f32⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x512, .f32⟩
  | .local _ .vmem, ⟨28, _⟩ => ⟨S512x512, .f32⟩
  | .local _ .vmem, ⟨29, _⟩ => ⟨S512x128, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S1x1024, .f32⟩
  | .local _ .vmem, ⟨38, _⟩ => ⟨S1x128, .f32⟩
  | .local _ .vmem, ⟨39, _⟩ => ⟨S1024x1024, .bf16⟩
  | .local _ .vmem, ⟨40, _⟩ => ⟨S512x1024, .bf16⟩
  | .local _ .vmem, ⟨41, _⟩ => ⟨S512x1024, .bf16⟩
  | .local _ .vmem, ⟨42, _⟩ => ⟨S512x512, .f32⟩
  | .local _ .vmem, ⟨43, _⟩ => ⟨S512x512, .f32⟩
  | .local _ .vmem, ⟨44, _⟩ => ⟨S512x512, .f32⟩
  | .local _ .vmem, ⟨45, _⟩ => ⟨S512x512, .f32⟩
  | .local _ .vmem, ⟨46, _⟩ => ⟨S512x512, .f32⟩
  | .local _ .vmem, ⟨47, _⟩ => ⟨S512x512, .f32⟩
  | .local _ .vmem, ⟨48, _⟩ => ⟨S1x1024, .f32⟩
  | .local _ .vmem, ⟨49, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev main_v8_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc1_stg0_0 : Ref sig .tc := ⟨.vmem, 23, rfl⟩
abbrev cc1_stg0_1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg4_1 : Ref sig .tc := ⟨.vmem, 32, rfl⟩
abbrev cc1_stg5_0 : Ref sig .tc := ⟨.vmem, 33, rfl⟩
abbrev cc1_stg5_1 : Ref sig .tc := ⟨.vmem, 34, rfl⟩
abbrev cc1_stg6_0 : Ref sig .tc := ⟨.vmem, 35, rfl⟩
abbrev cc1_stg6_1 : Ref sig .tc := ⟨.vmem, 36, rfl⟩
abbrev cc1_stg7_0 : Ref sig .tc := ⟨.vmem, 37, rfl⟩
abbrev cc1_stg8_0 : Ref sig .tc := ⟨.vmem, 38, rfl⟩
abbrev cc1_stg9_0 : Ref sig .tc := ⟨.vmem, 39, rfl⟩
abbrev cc1_stg10_0 : Ref sig .tc := ⟨.vmem, 40, rfl⟩
abbrev cc1_stg10_1 : Ref sig .tc := ⟨.vmem, 41, rfl⟩
abbrev cc1_stg11_0 : Ref sig .tc := ⟨.vmem, 42, rfl⟩
abbrev cc1_stg11_1 : Ref sig .tc := ⟨.vmem, 43, rfl⟩
abbrev cc1_stg12_0 : Ref sig .tc := ⟨.vmem, 44, rfl⟩
abbrev cc1_stg12_1 : Ref sig .tc := ⟨.vmem, 45, rfl⟩
abbrev cc1_stg13_0 : Ref sig .tc := ⟨.vmem, 46, rfl⟩
abbrev cc1_stg13_1 : Ref sig .tc := ⟨.vmem, 47, rfl⟩
abbrev cc1_stg14_0 : Ref sig .tc := ⟨.vmem, 48, rfl⟩
abbrev cc1_stg15_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc1_sem0_0 : DmaSem sig := 23
abbrev cc1_sem0_1 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem4_1 : DmaSem sig := 32
abbrev cc1_sem5_0 : DmaSem sig := 33
abbrev cc1_sem5_1 : DmaSem sig := 34
abbrev cc1_sem6_0 : DmaSem sig := 35
abbrev cc1_sem6_1 : DmaSem sig := 36
abbrev cc1_sem7_0 : DmaSem sig := 37
abbrev cc1_sem8_0 : DmaSem sig := 38
abbrev cc1_sem9_0 : DmaSem sig := 39
abbrev cc1_sem10_0 : DmaSem sig := 40
abbrev cc1_sem10_1 : DmaSem sig := 41
abbrev cc1_sem11_0 : DmaSem sig := 42
abbrev cc1_sem11_1 : DmaSem sig := 43
abbrev cc1_sem12_0 : DmaSem sig := 44
abbrev cc1_sem12_1 : DmaSem sig := 45
abbrev cc1_sem13_0 : DmaSem sig := 46
abbrev cc1_sem13_1 : DmaSem sig := 47
abbrev cc1_sem14_0 : DmaSem sig := 48
abbrev cc1_sem15_0 : DmaSem sig := 49

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c22_i32 : BitVec 32 := 22#32
  let c0_i32_0 : BitVec 32 := 0#32
  ![v0.toNat, c22_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c23_i32 : BitVec 32 := 23#32
  let c0_i32_0 : BitVec 32 := 0#32
  ![v0.toNat, c23_i32.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c24_i32 : BitVec 32 := 24#32
  let c0_i32_0 : BitVec 32 := 0#32
  ![v0.toNat, c24_i32.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c25_i32 : BitVec 32 := 25#32
  let c0_i32_0 : BitVec 32 := 0#32
  ![v0.toNat, c25_i32.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_1 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc1_transform_3 (i : grid1.Coords) : Fin 2 → Nat :=
  let arg0 : BitVec 32 := BitVec.ofNat 32 (i 0).val
  let c0_i32 : BitVec 32 := 0#32
  let v0 : BitVec 32 := Scalar.addi arg0 c0_i32
  let c22_i32 : BitVec 32 := 22#32
  let c0_i32_0 : BitVec 32 := 0#32
  ![v0.toNat, c22_i32.toNat]

def cc1_transform_4 (i : grid1.Coords) : Fin 2 → Nat :=
  let arg0 : BitVec 32 := BitVec.ofNat 32 (i 0).val
  let c0_i32 : BitVec 32 := 0#32
  let v0 : BitVec 32 := Scalar.addi arg0 c0_i32
  let c23_i32 : BitVec 32 := 23#32
  let c0_i32_0 : BitVec 32 := 0#32
  ![v0.toNat, c23_i32.toNat]

def cc1_transform_5 (i : grid1.Coords) : Fin 2 → Nat :=
  let arg0 : BitVec 32 := BitVec.ofNat 32 (i 0).val
  let c0_i32 : BitVec 32 := 0#32
  let v0 : BitVec 32 := Scalar.addi arg0 c0_i32
  let c24_i32 : BitVec 32 := 24#32
  let c0_i32_0 : BitVec 32 := 0#32
  ![v0.toNat, c24_i32.toNat]

def cc1_transform_6 (i : grid1.Coords) : Fin 2 → Nat :=
  let arg0 : BitVec 32 := BitVec.ofNat 32 (i 0).val
  let c0_i32 : BitVec 32 := 0#32
  let v0 : BitVec 32 := Scalar.addi arg0 c0_i32
  let c25_i32 : BitVec 32 := 25#32
  let c0_i32_0 : BitVec 32 := 0#32
  ![v0.toNat, c25_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1024x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S512x512 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 1 → Memref sig .tc .vmem S1x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x128 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]
-- ==== OutprojRefIdeal.lean ====
abbrev S4096x1024 : Shape := ⟨2, ![4096, 1024]⟩
abbrev S4096x512 : Shape := ⟨2, ![4096, 512]⟩
abbrev S4096x3336 : Shape := ⟨2, ![4096, 3336]⟩
abbrev S1024 : Shape := ⟨1, ![1024]⟩
abbrev S128 : Shape := ⟨1, ![128]⟩
abbrev S1024x1024 : Shape := ⟨2, ![1024, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S1x1024 : Shape := ⟨2, ![1, 1024]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x3336, .f32⟩
  | .hbm, ⟨3, _⟩ => ⟨S4096x512, .f32⟩
  | .hbm, ⟨4, _⟩ => ⟨S1024, .f32⟩
  | .hbm, ⟨5, _⟩ => ⟨S128, .f32⟩
  | .hbm, ⟨6, _⟩ => ⟨S1024x1024, .f32⟩
  | .hbm, ⟨7, _⟩ => ⟨S4096x1024, .f32⟩
  | .hbm, ⟨8, _⟩ => ⟨S4096x512, .f32⟩
  | .hbm, ⟨9, _⟩ => ⟨S4096x4x128, .f32⟩
  | .hbm, ⟨10, _⟩ => ⟨S4096x4x128, .f32⟩
  | .hbm, ⟨11, _⟩ => ⟨S4096x4x128, .f32⟩
  | .hbm, ⟨12, _⟩ => ⟨S_, .f32⟩
  | .hbm, ⟨13, _⟩ => ⟨S4096x4, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S4096x4x1, .f32⟩
  | .hbm, ⟨22, _⟩ => ⟨S4096x4x1, .f32⟩
  | .hbm, ⟨23, _⟩ => ⟨S_, .f32⟩
  | .hbm, ⟨24, _⟩ => ⟨S4096x4x1, .f32⟩
  | .hbm, ⟨25, _⟩ => ⟨S4096x4x1, .f32⟩
  | .hbm, ⟨26, _⟩ => ⟨S4096x4x128, .f32⟩
  | .hbm, ⟨27, _⟩ => ⟨S4096x4x128, .f32⟩
  | .hbm, ⟨28, _⟩ => ⟨S1x1x128, .f32⟩
  | .hbm, ⟨29, _⟩ => ⟨S4096x4x128, .f32⟩
  | .hbm, ⟨30, _⟩ => ⟨S4096x4x128, .f32⟩
  | .hbm, ⟨31, _⟩ => ⟨S4096x4x128, .f32⟩
  | .hbm, ⟨32, _⟩ => ⟨S4096x4x128, .f32⟩
  | .hbm, ⟨33, _⟩ => ⟨S_, .f32⟩
  | .hbm, ⟨34, _⟩ => ⟨S4096x4x128, .f32⟩
  | .hbm, ⟨35, _⟩ => ⟨S4096x4x128, .f32⟩
  | .hbm, ⟨36, _⟩ => ⟨S_, .f32⟩
  | .hbm, ⟨37, _⟩ => ⟨S4096x4x128, .f32⟩
  | .hbm, ⟨38, _⟩ => ⟨S4096x4x128, .f32⟩
  | .hbm, ⟨39, _⟩ => ⟨S_, .f32⟩
  | .hbm, ⟨40, _⟩ => ⟨S4096x4x128, .f32⟩
  | .hbm, ⟨41, _⟩ => ⟨S4096x4x128, .f32⟩
  | .hbm, ⟨42, _⟩ => ⟨S4096x4x128, .f32⟩
  | .hbm, ⟨43, _⟩ => ⟨S4096x4x128, .f32⟩
  | .hbm, ⟨44, _⟩ => ⟨S4096x4x128, .f32⟩
  | .hbm, ⟨45, _⟩ => ⟨S4096x512, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S4096x512, .f32⟩
  | .hbm, ⟨62, _⟩ => ⟨S4096x512, .f32⟩
  | .hbm, ⟨63, _⟩ => ⟨S4096x4x128, .f32⟩
  | .hbm, ⟨64, _⟩ => ⟨S4096x4x128, .f32⟩
  | .hbm, ⟨65, _⟩ => ⟨S4096x4x128, .f32⟩
  | .hbm, ⟨66, _⟩ => ⟨S4096x4x128, .f32⟩
  | .hbm, ⟨67, _⟩ => ⟨S4096x4x128, .f32⟩
  | .hbm, ⟨68, _⟩ => ⟨S4096x4x128, .f32⟩
  | .hbm, ⟨69, _⟩ => ⟨S4096x4x128, .f32⟩
  | .hbm, ⟨70, _⟩ => ⟨S4096x4x128, .f32⟩
  | .hbm, ⟨71, _⟩ => ⟨S_, .f32⟩
  | .hbm, ⟨72, _⟩ => ⟨S128, .f32⟩
  | .hbm, ⟨73, _⟩ => ⟨S1x1x128, .f32⟩
  | .hbm, ⟨74, _⟩ => ⟨S4096x4x128, .f32⟩
  | .hbm, ⟨75, _⟩ => ⟨S4096x4x128, .f32⟩
  | .hbm, ⟨76, _⟩ => ⟨S_, .f32⟩
  | .hbm, ⟨77, _⟩ => ⟨S128, .f32⟩
  | .hbm, ⟨78, _⟩ => ⟨S4096x4x128, .f32⟩
  | .hbm, ⟨79, _⟩ => ⟨S_, .f32⟩
  | .hbm, ⟨80, _⟩ => ⟨S4096x4, .f32⟩
  | .hbm, ⟨81, _⟩ => ⟨S4096x4x1, .f32⟩
  | .hbm, ⟨82, _⟩ => ⟨S4096x4x128, .f32⟩
  | .hbm, ⟨83, _⟩ => ⟨S4096x4x128, .f32⟩
  | .hbm, ⟨84, _⟩ => ⟨S4096x4x1, .f32⟩
  | .hbm, ⟨85, _⟩ => ⟨S_, .f32⟩
  | .hbm, ⟨86, _⟩ => ⟨S4096x4x1, .f32⟩
  | .hbm, ⟨87, _⟩ => ⟨S4096x4x1, .f32⟩
  | .hbm, ⟨88, _⟩ => ⟨S_, .f32⟩
  | .hbm, ⟨89, _⟩ => ⟨S4096x4, .f32⟩
  | .hbm, ⟨90, _⟩ => ⟨S4096x4x128, .f32⟩
  | .hbm, ⟨91, _⟩ => ⟨S4096x4x128, .f32⟩
  | .hbm, ⟨92, _⟩ => ⟨S4096x4x128, .f32⟩
  | .hbm, ⟨93, _⟩ => ⟨S4096x4x128, .f32⟩
  | .hbm, ⟨94, _⟩ => ⟨S4096x4x128, .f32⟩
  | .hbm, ⟨95, _⟩ => ⟨S4096x512, .f32⟩
  | .hbm, ⟨96, _⟩ => ⟨S4096x512, .f32⟩
  | .hbm, ⟨97, _⟩ => ⟨S4096x1024, .bf16⟩
  | .hbm, ⟨98, _⟩ => ⟨S1x1024, .f32⟩
  | .hbm, ⟨99, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v19_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v19_1 : Ref sig .tc := ⟨.hbm, 42, rfl⟩
abbrev main_v19_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_3 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v40 : Ref sig .tc := ⟨.hbm, 69, rfl⟩
abbrev main_v41 : Ref sig .tc := ⟨.hbm, 70, rfl⟩
abbrev main_cst_5 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_6 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_cst_9 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩

abbrev nD : Nat := 1
abbrev τ : Topo := Topo.v7x

variable {F : FTy → Type} [FloatOps F]
-- ==== Stage2Bwd.lean ====
abbrev S4096x3336 : Shape := ⟨2, ![4096, 3336]⟩
abbrev S4096x2048 : Shape := ⟨2, ![4096, 2048]⟩
abbrev S256 : Shape := ⟨1, ![256]⟩
abbrev S4 : Shape := ⟨1, ![4]⟩
abbrev S4096x512 : Shape := ⟨2, ![4096, 512]⟩
abbrev S4096x4 : Shape := ⟨2, ![4096, 4]⟩
abbrev S4096x8 : Shape := ⟨2, ![4096, 8]⟩
abbrev S_ : Shape := ⟨0, ![]⟩
abbrev S4096x128 : Shape := ⟨2, ![4096, 128]⟩
abbrev S4096x1664 : Shape := ⟨2, ![4096, 1664]⟩
abbrev S4096x3456 : Shape := ⟨2, ![4096, 3456]⟩
abbrev S1x256 : Shape := ⟨2, ![1, 256]⟩
abbrev S1x4 : Shape := ⟨2, ![1, 4]⟩
abbrev S1x128 : Shape := ⟨2, ![1, 128]⟩
abbrev S4096x256 : Shape := ⟨2, ![4096, 256]⟩
abbrev S512x256 : Shape := ⟨2, ![512, 256]⟩
abbrev S512x128 : Shape := ⟨2, ![512, 128]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S128 : Shape := ⟨1, ![128]⟩

abbrev nBuf : Space → Nat
  | .hbm => 40
  | .vmem => 32
  | .smem => 0
  | _ => 0

abbrev bufTy : (tb : Table) → Fin (tcTables nBuf tb) → BufTy
  | .hbm, ⟨0, _⟩ => ⟨S4096x3336, .f32⟩
  | .hbm, ⟨1, _⟩ => ⟨S4096x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S4, .f32⟩
  | .hbm, ⟨6, _⟩ => ⟨S4, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x4, .f32⟩
  | .hbm, ⟨12, _⟩ => ⟨S4096x4, .f32⟩
  | .hbm, ⟨13, _⟩ => ⟨S4096x8, .f32⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S4096x1664, .f32⟩
  | .hbm, ⟨18, _⟩ => ⟨S_, .i32⟩
  | .hbm, ⟨19, _⟩ => ⟨S_, .f32⟩
  | .hbm, ⟨20, _⟩ => ⟨S4096x3456, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x4, .f32⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S1x4, .f32⟩
  | .hbm, ⟨29, _⟩ => ⟨S_, .i32⟩
  | .hbm, ⟨30, _⟩ => ⟨S_, .f32⟩
  | .hbm, ⟨31, _⟩ => ⟨S1x128, .f32⟩
  | .hbm, ⟨32, _⟩ => ⟨S4096x2048, .f32⟩
  | .hbm, ⟨33, _⟩ => ⟨S4096x256, .f32⟩
  | .hbm, ⟨34, _⟩ => ⟨S4096x128, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x128, .f32⟩
  | .hbm, ⟨39, _⟩ => ⟨S1x128, .f32⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x2048, .f32⟩
  | .local _ .vmem, ⟨5, _⟩ => ⟨S512x2048, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x128, .f32⟩
  | .local _ .vmem, ⟨15, _⟩ => ⟨S512x128, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x128, .f32⟩
  | .local _ .vmem, ⟨20, _⟩ => ⟨S1x128, .f32⟩
  | .local _ .vmem, ⟨21, _⟩ => ⟨S512x2048, .f32⟩
  | .local _ .vmem, ⟨22, _⟩ => ⟨S512x2048, .f32⟩
  | .local _ .vmem, ⟨23, _⟩ => ⟨S512x256, .f32⟩
  | .local _ .vmem, ⟨24, _⟩ => ⟨S512x256, .f32⟩
  | .local _ .vmem, ⟨25, _⟩ => ⟨S512x128, .f32⟩
  | .local _ .vmem, ⟨26, _⟩ => ⟨S512x128, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1x128, .f32⟩
  | .local _ .vmem, ⟨31, _⟩ => ⟨S1x128, .f32⟩
  | _, _ => ⟨S4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_call1_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c_1 : Ref sig .tc := ⟨.hbm, 25, rfl⟩
abbrev main_call2_v0 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_call3_v0 : Ref sig .tc := ⟨.hbm, 30, rfl⟩
abbrev main_v10 : Ref sig .tc := ⟨.hbm, 31, rfl⟩
abbrev main_v11_0 : Ref sig .tc := ⟨.hbm, 32, rfl⟩
abbrev main_v11_1 : Ref sig .tc := ⟨.hbm, 33, rfl⟩
abbrev main_v11_2 : Ref sig .tc := ⟨.hbm, 34, rfl⟩
abbrev main_v11_3 : Ref sig .tc := ⟨.hbm, 35, rfl⟩
abbrev main_v11_4 : Ref sig .tc := ⟨.hbm, 36, rfl⟩
abbrev main_v11_5 : Ref sig .tc := ⟨.hbm, 37, rfl⟩
abbrev main_v11_6 : Ref sig .tc := ⟨.hbm, 38, rfl⟩
abbrev main_v11_7 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c26_i32 : BitVec 32 := 26#32
  let c0_i32_0 : BitVec 32 := 0#32
  ![v0.toNat, c26_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c12_i32 : BitVec 32 := 12#32
  let c0_i32_0 : BitVec 32 := 0#32
  ![v0.toNat, c12_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== Stage2RefIdeal.lean ====
abbrev S4096x3336 : Shape := ⟨2, ![4096, 3336]⟩
abbrev S4096x2048 : Shape := ⟨2, ![4096, 2048]⟩
abbrev S256 : Shape := ⟨1, ![256]⟩
abbrev S4 : Shape := ⟨1, ![4]⟩
abbrev S4096x512 : Shape := ⟨2, ![4096, 512]⟩
abbrev S4096x4 : Shape := ⟨2, ![4096, 4]⟩
abbrev S4096x256 : Shape := ⟨2, ![4096, 256]⟩
abbrev S4096x1536 : Shape := ⟨2, ![4096, 1536]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S4096x4x128 : Shape := ⟨3, ![4096, 4, 128]⟩
abbrev S4096x4x1 : Shape := ⟨3, ![4096, 4, 1]⟩
abbrev S1x4 : Shape := ⟨2, ![1, 4]⟩
abbrev S4096x8 : Shape := ⟨2, ![4096, 8]⟩
abbrev S4096x128 : Shape := ⟨2, ![4096, 128]⟩
abbrev S1x128 : Shape := ⟨2, ![1, 128]⟩

abbrev nBuf : Space → Nat
  | .hbm => 312
  | .vmem => 0
  | .smem => 0
  | _ => 0

abbrev hbmTy0_0 (i : Nat) : BufTy := match i % 128 with
  | 0 => ⟨S4096x3336, .f32⟩
  | 1 => ⟨S4096x2048, .f32⟩
  | 2 => ⟨S256, .f32⟩
  | 3 => ⟨S256, .f32⟩
  | 4 => ⟨S256, .f32⟩
  | 5 => ⟨S4, .f32⟩
  | 6 => ⟨S4, .f32⟩
  | 7 => ⟨S4096x512, .f32⟩
  | 8 => ⟨S4096x512, .f32⟩
  | 9 => ⟨S4096x512, .f32⟩
  | 10 => ⟨S4096x512, .f32⟩
  | 11 => ⟨S4096x4, .f32⟩
  | 12 => ⟨S4096x4, .f32⟩
  | 13 => ⟨S4096x256, .f32⟩
  | 14 => ⟨S4096x4, .f32⟩
  | 15 => ⟨S4096x4, .f32⟩
  | 16 => ⟨S4096x256, .f32⟩
  | 17 => ⟨S4096x256, .f32⟩
  | 18 => ⟨S4096x1536, .f32⟩
  | 19 => ⟨S4096x256, .f32⟩
  | 20 => ⟨S1x256, .f32⟩
  | 21 => ⟨S4096x256, .f32⟩
  | 22 => ⟨S4096x256, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x256, .f32⟩
  | 30 => ⟨S4096x256, .f32⟩
  | 31 => ⟨S4096x256, .f32⟩
  | 32 => ⟨S_, .f32⟩
  | 33 => ⟨S4096x256, .f32⟩
  | 34 => ⟨S4096x256, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S4096x256, .f32⟩
  | 42 => ⟨S4096x256, .f32⟩
  | 43 => ⟨S_, .f32⟩
  | 44 => ⟨S4096x1, .f32⟩
  | 45 => ⟨S4096x1, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x256, .f32⟩
  | 52 => ⟨S4096x256, .f32⟩
  | 53 => ⟨S1x256, .f32⟩
  | 54 => ⟨S4096x256, .f32⟩
  | 55 => ⟨S4096x256, .f32⟩
  | 56 => ⟨S1x256, .f32⟩
  | 57 => ⟨S4096x256, .f32⟩
  | 58 => ⟨S4096x256, .f32⟩
  | 59 => ⟨S4096x256, .f32⟩
  | 60 => ⟨S4096x256, .f32⟩
  | 61 => ⟨S_, .f32⟩
  | 62 => ⟨S4096x256, .f32⟩
  | 63 => ⟨S4096x256, .f32⟩
  | 64 => ⟨S_, .f32⟩
  | 65 => ⟨S4096x256, .f32⟩
  | 66 => ⟨S4096x256, .f32⟩
  | 67 => ⟨S_, .f32⟩
  | 68 => ⟨S4096x256, .f32⟩
  | 69 => ⟨S4096x256, .f32⟩
  | 70 => ⟨S4096x256, .f32⟩
  | 71 => ⟨S4096x256, .f32⟩
  | 72 => ⟨S4096x1536, .f32⟩
  | 73 => ⟨S4096x1536, .f32⟩
  | 74 => ⟨S_, .f32⟩
  | 75 => ⟨S4096x1536, .f32⟩
  | 76 => ⟨S4096x1536, .f32⟩
  | 77 => ⟨S_, .f32⟩
  | 78 => ⟨S4096x1536, .f32⟩
  | 79 => ⟨S4096x1536, .f32⟩
  | 80 => ⟨S_, .f32⟩
  | 81 => ⟨S4096x1536, .f32⟩
  | 82 => ⟨S4096x1536, .f32⟩
  | 83 => ⟨S4096x1536, .f32⟩
  | 84 => ⟨S4096x1536, .f32⟩
  | 85 => ⟨S4096x512, .f32⟩
  | 86 => ⟨S4096x512, .f32⟩
  | 87 => ⟨S4096x512, .f32⟩
  | 88 => ⟨S4096x4x128, .f32⟩
  | 89 => ⟨S4096x4x128, .f32⟩
  | 90 => ⟨S_, .f32⟩
  | 91 => ⟨S4096x4, .f32⟩
  | 92 => ⟨S4096x4x1, .f32⟩
  | 93 => ⟨S_, .f32⟩
  | 94 => ⟨S4096x4x1, .f32⟩
  | 95 => ⟨S4096x4x1, .f32⟩
  | 96 => ⟨S4096x4x1, .f32⟩
  | 97 => ⟨S4096x4x1, .f32⟩
  | 98 => ⟨S_, .f32⟩
  | 99 => ⟨S4096x4x1, .f32⟩
  | 100 => ⟨S4096x4x1, .f32⟩
  | 101 => ⟨S4096x4x128, .f32⟩
  | 102 => ⟨S4096x4x128, .f32⟩
  | 103 => ⟨S4096x4x128, .f32⟩
  | 104 => ⟨S4096x4x128, .f32⟩
  | 105 => ⟨S_, .f32⟩
  | 106 => ⟨S4096x4, .f32⟩
  | 107 => ⟨S4096x4x1, .f32⟩
  | 108 => ⟨S_, .f32⟩
  | 109 => ⟨S4096x4x1, .f32⟩
  | 110 => ⟨S4096x4x1, .f32⟩
  | 111 => ⟨S4096x4x1, .f32⟩
  | 112 => ⟨S4096x4x1, .f32⟩
  | 113 => ⟨S_, .f32⟩
  | 114 => ⟨S4096x4x1, .f32⟩
  | 115 => ⟨S4096x4x1, .f32⟩
  | 116 => ⟨S4096x4x128, .f32⟩
  | 117 => ⟨S4096x4x128, .f32⟩
  | 118 => ⟨S4, .f32⟩
  | 119 => ⟨S4, .f32⟩
  | 120 => ⟨S1x4, .f32⟩
  | 121 => ⟨S4096x4, .f32⟩
  | 122 => ⟨S4096x4, .f32⟩
  | 123 => ⟨S_, .f32⟩
  | 124 => ⟨S4096x4, .f32⟩
  | 125 => ⟨S4096x4, .f32⟩
  | 126 => ⟨S4096x4, .f32⟩
  | 127 => ⟨S4096x4, .f32⟩
  | _ => ⟨S4096x3336, .f32⟩

abbrev hbmTy0_1 (i : Nat) : BufTy := match i % 128 with
  | 0 => ⟨S4096x4, .i1⟩
  | 1 => ⟨S4096x4, .f32⟩
  | 2 => ⟨S4096x4, .f32⟩
  | 3 => ⟨S4096x4, .f32⟩
  | 4 => ⟨S4096x4, .f32⟩
  | 5 => ⟨S4096x4, .f32⟩
  | 6 => ⟨S4096x4, .f32⟩
  | 7 => ⟨S4096x4, .f32⟩
  | 8 => ⟨S4096x4, .f32⟩
  | 9 => ⟨S_, .f32⟩
  | 10 => ⟨S4096x4, .f32⟩
  | 11 => ⟨S4096x4, .i1⟩
  | 12 => ⟨S_, .f32⟩
  | 13 => ⟨S4096x4, .f32⟩
  | 14 => ⟨S4096x4, .f32⟩
  | 15 => ⟨S_, .f32⟩
  | 16 => ⟨S4096x4, .f32⟩
  | 17 => ⟨S4096x4, .i1⟩
  | 18 => ⟨S_, .f32⟩
  | 19 => ⟨S4096x4, .f32⟩
  | 20 => ⟨S4096x4, .f32⟩
  | 21 => ⟨S4096x4, .f32⟩
  | 22 => ⟨S4096x4, .f32⟩
  | 23 => ⟨S_, .f32⟩
  | 24 => ⟨S_, .f32⟩
  | 25 => ⟨S_, .i1⟩
  | 26 => ⟨S_, .f32⟩
  | 27 => ⟨S_, .f32⟩
  | 28 => ⟨S_, .f32⟩
  | 29 => ⟨S_, .f32⟩
  | 30 => ⟨S4096x4, .f32⟩
  | 31 => ⟨S4096x4, .i1⟩
  | 32 => ⟨S_, .f32⟩
  | 33 => ⟨S4096x4, .f32⟩
  | 34 => ⟨S4096x4, .f32⟩
  | 35 => ⟨S4096x4, .f32⟩
  | 36 => ⟨S4096x4, .f32⟩
  | 37 => ⟨S4096x4, .f32⟩
  | 38 => ⟨S_, .f32⟩
  | 39 => ⟨S4096x4, .f32⟩
  | 40 => ⟨S4096x4, .f32⟩
  | 41 => ⟨S1x4, .f32⟩
  | 42 => ⟨S4096x4, .f32⟩
  | 43 => ⟨S4096x4, .f32⟩
  | 44 => ⟨S4096x4, .f32⟩
  | 45 => ⟨S4096x4, .f32⟩
  | 46 => ⟨S_, .f32⟩
  | 47 => ⟨S4096x4, .f32⟩
  | 48 => ⟨S4096x4, .f32⟩
  | 49 => ⟨S_, .f32⟩
  | 50 => ⟨S4096x4, .f32⟩
  | 51 => ⟨S4096x4, .f32⟩
  | 52 => ⟨S_, .f32⟩
  | 53 => ⟨S4096x4, .f32⟩
  | 54 => ⟨S4096x4, .f32⟩
  | 55 => ⟨S4096x4, .f32⟩
  | 56 => ⟨S4096x512, .f32⟩
  | 57 => ⟨S4096x4x128, .f32⟩
  | 58 => ⟨S4096x4x128, .f32⟩
  | 59 => ⟨S4096x256, .f32⟩
  | 60 => ⟨S4096x256, .f32⟩
  | 61 => ⟨S4096x4, .f32⟩
  | 62 => ⟨S4096x4, .f32⟩
  | 63 => ⟨S4096x4, .f32⟩
  | 64 => ⟨S4096x4, .f32⟩
  | 65 => ⟨S_, .f32⟩
  | 66 => ⟨S4, .f32⟩
  | 67 => ⟨S1x4, .f32⟩
  | 68 => ⟨S_, .f32⟩
  | 69 => ⟨S4, .f32⟩
  | 70 => ⟨S4096x4, .f32⟩
  | 71 => ⟨S_, .f32⟩
  | 72 => ⟨S4, .f32⟩
  | 73 => ⟨S1x4, .f32⟩
  | 74 => ⟨S_, .f32⟩
  | 75 => ⟨S4, .f32⟩
  | 76 => ⟨S4, .f32⟩
  | 77 => ⟨S4, .f32⟩
  | 78 => ⟨S4096x4x128, .f32⟩
  | 79 => ⟨S_, .f32⟩
  | 80 => ⟨S4096x4, .f32⟩
  | 81 => ⟨S4096x4x1, .f32⟩
  | 82 => ⟨S4096x4x128, .f32⟩
  | 83 => ⟨S4096x4x128, .f32⟩
  | 84 => ⟨S4096x4x1, .f32⟩
  | 85 => ⟨S_, .f32⟩
  | 86 => ⟨S4096x4, .f32⟩
  | 87 => ⟨S4096x4x128, .f32⟩
  | 88 => ⟨S4096x4x128, .f32⟩
  | 89 => ⟨S4096x4x128, .f32⟩
  | 90 => ⟨S4096x4x128, .f32⟩
  | 91 => ⟨S4096x4x128, .f32⟩
  | 92 => ⟨S4096x512, .f32⟩
  | 93 => ⟨S4096x4x128, .f32⟩
  | 94 => ⟨S_, .f32⟩
  | 95 => ⟨S4096x4, .f32⟩
  | 96 => ⟨S4096x4x1, .f32⟩
  | 97 => ⟨S4096x4x128, .f32⟩
  | 98 => ⟨S4096x4x128, .f32⟩
  | 99 => ⟨S4096x4x1, .f32⟩
  | 100 => ⟨S_, .f32⟩
  | 101 => ⟨S4096x4, .f32⟩
  | 102 => ⟨S4096x4x128, .f32⟩
  | 103 => ⟨S4096x4x128, .f32⟩
  | 104 => ⟨S4096x4x128, .f32⟩
  | 105 => ⟨S4096x4x128, .f32⟩
  | 106 => ⟨S4096x4x128, .f32⟩
  | 107 => ⟨S4096x512, .f32⟩
  | 108 => ⟨S4096x1536, .f32⟩
  | 109 => ⟨S4096x1536, .f32⟩
  | 110 => ⟨S4096x1536, .f32⟩
  | 111 => ⟨S4096x1536, .f32⟩
  | 112 => ⟨S4096x1536, .f32⟩
  | 113 => ⟨S4096x256, .f32⟩
  | 114 => ⟨S4096x256, .f32⟩
  | 115 => ⟨S4096x256, .f32⟩
  | 116 => ⟨S4096x256, .f32⟩
  | 117 => ⟨S_, .f32⟩
  | 118 => ⟨S256, .f32⟩
  | 119 => ⟨S1x256, .f32⟩
  | 120 => ⟨S_, .f32⟩
  | 121 => ⟨S256, .f32⟩
  | 122 => ⟨S4096x256, .f32⟩
  | 123 => ⟨S_, .f32⟩
  | 124 => ⟨S256, .f32⟩
  | 125 => ⟨S1x256, .f32⟩
  | 126 => ⟨S4096x256, .f32⟩
  | 127 => ⟨S4096x256, .f32⟩
  | _ => ⟨S4096x3336, .f32⟩

abbrev hbmTy0_2 (i : Nat) : BufTy := match i % 128 with
  | 0 => ⟨S_, .f32⟩
  | 1 => ⟨S256, .f32⟩
  | 2 => ⟨S4096x256, .f32⟩
  | 3 => ⟨S_, .f32⟩
  | 4 => ⟨S4096, .f32⟩
  | 5 => ⟨S4096x1, .f32⟩
  | 6 => ⟨S4096x256, .f32⟩
  | 7 => ⟨S4096x256, .f32⟩
  | 8 => ⟨S4096x1, .f32⟩
  | 9 => ⟨S4096x256, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096, .f32⟩
  | 18 => ⟨S4096x256, .f32⟩
  | 19 => ⟨S4096x256, .f32⟩
  | 20 => ⟨S4096x256, .f32⟩
  | 21 => ⟨S_, .f32⟩
  | 22 => ⟨S4096, .f32⟩
  | 23 => ⟨S4096x1, .f32⟩
  | 24 => ⟨S4096x256, .f32⟩
  | 25 => ⟨S4096x1, .f32⟩
  | 26 => ⟨S_, .f32⟩
  | 27 => ⟨S4096x1, .f32⟩
  | 28 => ⟨S4096x1, .f32⟩
  | 29 => ⟨S_, .f32⟩
  | 30 => ⟨S4096, .f32⟩
  | 31 => ⟨S4096x256, .f32⟩
  | 32 => ⟨S4096x256, .f32⟩
  | 33 => ⟨S_, .f32⟩
  | 34 => ⟨S256, .f32⟩
  | 35 => ⟨S1x256, .f32⟩
  | 36 => ⟨S_, .f32⟩
  | 37 => ⟨S256, .f32⟩
  | 38 => ⟨S4096x256, .f32⟩
  | 39 => ⟨S4096x256, .f32⟩
  | 40 => ⟨S4096x2048, .f32⟩
  | 41 => ⟨S4096x8, .f32⟩
  | 42 => ⟨S_, .i32⟩
  | 43 => ⟨S_, .f32⟩
  | 44 => ⟨S4096x128, .f32⟩
  | 45 => ⟨S1x256, .f32⟩
  | 46 => ⟨S1x256, .f32⟩
  | 47 => ⟨S1x256, .f32⟩
  | 48 => ⟨S1x4, .f32⟩
  | 49 => ⟨S_, .i32⟩
  | 50 => ⟨S_, .f32⟩
  | 51 => ⟨S1x128, .f32⟩
  | 52 => ⟨S1x4, .f32⟩
  | 53 => ⟨S_, .i32⟩
  | 54 => ⟨S_, .f32⟩
  | 55 => ⟨S1x128, .f32⟩
  | _ => ⟨S4096x3336, .f32⟩

abbrev hbmTy (i : Nat) : BufTy := match i / 128 with
  | 0 => hbmTy0_0 i
  | 1 => hbmTy0_1 i
  | 2 => hbmTy0_2 i
  | _ => ⟨S4096x3336, .f32⟩

abbrev bufTy : (tb : Table) → Fin (tcTables nBuf tb) → BufTy
  | .hbm, ⟨i, _⟩ => hbmTy i
  | _, _ => ⟨S4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v39_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v39_1 : Ref sig .tc := ⟨.hbm, 70, rfl⟩
abbrev main_v39_0 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_v40_2 : Ref sig .tc := ⟨.hbm, 79, rfl⟩
abbrev main_call1_cst_1 : Ref sig .tc := ⟨.hbm, 80, rfl⟩
abbrev main_call1_v6 : Ref sig .tc := ⟨.hbm, 81, rfl⟩
abbrev main_call1_v7 : Ref sig .tc := ⟨.hbm, 82, rfl⟩
abbrev main_v40_1 : Ref sig .tc := ⟨.hbm, 83, rfl⟩
abbrev main_v40_0 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_6 : Ref sig .tc := ⟨.hbm, 90, rfl⟩
abbrev main_v46 : Ref sig .tc := ⟨.hbm, 91, rfl⟩
abbrev main_v47 : Ref sig .tc := ⟨.hbm, 92, rfl⟩
abbrev main_cst_7 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_8 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_cst_9 : Ref sig .tc := ⟨.hbm, 105, rfl⟩
abbrev main_v58 : Ref sig .tc := ⟨.hbm, 106, rfl⟩
abbrev main_v59 : Ref sig .tc := ⟨.hbm, 107, rfl⟩
abbrev main_cst_10 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_11 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_v7 : Ref sig .tc := ⟨.hbm, 131, rfl⟩
abbrev main_call2_v8 : Ref sig .tc := ⟨.hbm, 132, rfl⟩
abbrev main_call2_v9 : Ref sig .tc := ⟨.hbm, 133, rfl⟩
abbrev main_call2_v10 : Ref sig .tc := ⟨.hbm, 134, rfl⟩
abbrev main_call2_v11 : Ref sig .tc := ⟨.hbm, 135, rfl⟩
abbrev main_v73_0 : Ref sig .tc := ⟨.hbm, 136, rfl⟩
abbrev main_call2_cst_0 : Ref sig .tc := ⟨.hbm, 137, rfl⟩
abbrev main_call2_v13 : Ref sig .tc := ⟨.hbm, 138, rfl⟩
abbrev main_call2_v14 : Ref sig .tc := ⟨.hbm, 139, rfl⟩
abbrev main_call2_cst_1 : Ref sig .tc := ⟨.hbm, 140, rfl⟩
abbrev main_call2_v15 : Ref sig .tc := ⟨.hbm, 141, rfl⟩
abbrev main_call2_v16 : Ref sig .tc := ⟨.hbm, 142, rfl⟩
abbrev main_call2_cst_2 : Ref sig .tc := ⟨.hbm, 143, rfl⟩
abbrev main_call2_v17 : Ref sig .tc := ⟨.hbm, 144, rfl⟩
abbrev main_call2_v18 : Ref sig .tc := ⟨.hbm, 145, rfl⟩
abbrev main_call2_cst_3 : Ref sig .tc := ⟨.hbm, 146, rfl⟩
abbrev main_call2_v19 : Ref sig .tc := ⟨.hbm, 147, rfl⟩
abbrev main_call2_v20 : Ref sig .tc := ⟨.hbm, 148, rfl⟩
abbrev main_call2_v21 : Ref sig .tc := ⟨.hbm, 149, rfl⟩
abbrev main_v73_1 : Ref sig .tc := ⟨.hbm, 150, rfl⟩
abbrev main_call2_cst_4 : Ref sig .tc := ⟨.hbm, 151, rfl⟩
abbrev main_call2_cst_5 : Ref sig .tc := ⟨.hbm, 152, rfl⟩
abbrev main_call2_v23 : Ref sig .tc := ⟨.hbm, 153, rfl⟩
abbrev main_call2_cst_6 : Ref sig .tc := ⟨.hbm, 154, rfl⟩
abbrev main_call2_cst_7 : Ref sig .tc := ⟨.hbm, 155, rfl⟩
abbrev main_call2_v24 : Ref sig .tc := ⟨.hbm, 156, rfl⟩
abbrev main_call2_cst_8 : Ref sig .tc := ⟨.hbm, 157, rfl⟩
abbrev main_call2_v25 : Ref sig .tc := ⟨.hbm, 158, rfl⟩
abbrev main_call2_v26 : Ref sig .tc := ⟨.hbm, 159, rfl⟩
abbrev main_call2_cst_9 : Ref sig .tc := ⟨.hbm, 160, rfl⟩
abbrev main_call2_v27 : Ref sig .tc := ⟨.hbm, 161, rfl⟩
abbrev main_call2_v28 : Ref sig .tc := ⟨.hbm, 162, rfl⟩
abbrev main_call2_v29 : Ref sig .tc := ⟨.hbm, 163, rfl⟩
abbrev main_call2_v30 : Ref sig .tc := ⟨.hbm, 164, rfl⟩
abbrev main_call2_v31 : Ref sig .tc := ⟨.hbm, 165, rfl⟩
abbrev main_call2_cst_10 : Ref sig .tc := ⟨.hbm, 166, rfl⟩
abbrev main_call2_v32 : Ref sig .tc := ⟨.hbm, 167, rfl⟩
abbrev main_v73_2 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_cst_12 : Ref sig .tc := ⟨.hbm, 174, rfl⟩
abbrev main_v79 : Ref sig .tc := ⟨.hbm, 175, rfl⟩
abbrev main_v80 : Ref sig .tc := ⟨.hbm, 176, rfl⟩
abbrev main_cst_13 : Ref sig .tc := ⟨.hbm, 177, rfl⟩
abbrev main_v81 : Ref sig .tc := ⟨.hbm, 178, rfl⟩
abbrev main_v82 : Ref sig .tc := ⟨.hbm, 179, rfl⟩
abbrev main_cst_14 : Ref sig .tc := ⟨.hbm, 180, rfl⟩
abbrev main_v83 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_cst_15 : Ref sig .tc := ⟨.hbm, 193, rfl⟩
abbrev main_v95 : Ref sig .tc := ⟨.hbm, 194, rfl⟩
abbrev main_v96 : Ref sig .tc := ⟨.hbm, 195, rfl⟩
abbrev main_cst_16 : Ref sig .tc := ⟨.hbm, 196, rfl⟩
abbrev main_v97 : Ref sig .tc := ⟨.hbm, 197, rfl⟩
abbrev main_v98 : Ref sig .tc := ⟨.hbm, 198, rfl⟩
abbrev main_cst_17 : Ref sig .tc := ⟨.hbm, 199, rfl⟩
abbrev main_v99 : Ref sig .tc := ⟨.hbm, 200, rfl⟩
abbrev main_v100 : Ref sig .tc := ⟨.hbm, 201, rfl⟩
abbrev main_cst_18 : Ref sig .tc := ⟨.hbm, 202, rfl⟩
abbrev main_v101 : Ref sig .tc := ⟨.hbm, 203, rfl⟩
abbrev main_v102 : Ref sig .tc := ⟨.hbm, 204, rfl⟩
abbrev main_v103 : Ref sig .tc := ⟨.hbm, 205, rfl⟩
abbrev main_v104 : Ref sig .tc := ⟨.hbm, 206, rfl⟩
abbrev main_cst_19 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_cst_20 : Ref sig .tc := ⟨.hbm, 213, rfl⟩
abbrev main_v110 : Ref sig .tc := ⟨.hbm, 214, rfl⟩
abbrev main_v111 : Ref sig .tc := ⟨.hbm, 215, rfl⟩
abbrev main_v112 : Ref sig .tc := ⟨.hbm, 216, rfl⟩
abbrev main_v113 : Ref sig .tc := ⟨.hbm, 217, rfl⟩
abbrev main_v114 : Ref sig .tc := ⟨.hbm, 218, rfl⟩
abbrev main_v115 : Ref sig .tc := ⟨.hbm, 219, rfl⟩
abbrev main_v116 : Ref sig .tc := ⟨.hbm, 220, rfl⟩
abbrev main_v117 : Ref sig .tc := ⟨.hbm, 221, rfl⟩
abbrev main_cst_21 : Ref sig .tc := ⟨.hbm, 222, rfl⟩
abbrev main_v118 : Ref sig .tc := ⟨.hbm, 223, rfl⟩
abbrev main_v119 : Ref sig .tc := ⟨.hbm, 224, rfl⟩
abbrev main_v120 : Ref sig .tc := ⟨.hbm, 225, rfl⟩
abbrev main_v121 : Ref sig .tc := ⟨.hbm, 226, rfl⟩
abbrev main_v122 : Ref sig .tc := ⟨.hbm, 227, rfl⟩
abbrev main_cst_22 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_call4_v0 : Ref sig .tc := ⟨.hbm, 237, rfl⟩
abbrev main_call4_v1 : Ref sig .tc := ⟨.hbm, 238, rfl⟩
abbrev main_call4_v2 : Ref sig .tc := ⟨.hbm, 239, rfl⟩
abbrev main_v131 : Ref sig .tc := ⟨.hbm, 240, rfl⟩
abbrev main_call5_v0 : Ref sig .tc := ⟨.hbm, 241, rfl⟩
abbrev main_call5_v1 : Ref sig .tc := ⟨.hbm, 242, rfl⟩
abbrev main_call5_v2 : Ref sig .tc := ⟨.hbm, 243, rfl⟩
abbrev main_v132 : Ref sig .tc := ⟨.hbm, 244, rfl⟩
abbrev main_cst_23 : Ref sig .tc := ⟨.hbm, 245, rfl⟩
abbrev main_v133 : Ref sig .tc := ⟨.hbm, 246, rfl⟩
abbrev main_v134 : Ref sig .tc := ⟨.hbm, 247, rfl⟩
abbrev main_cst_24 : Ref sig .tc := ⟨.hbm, 248, rfl⟩
abbrev main_v135 : Ref sig .tc := ⟨.hbm, 249, rfl⟩
abbrev main_v136 : Ref sig .tc := ⟨.hbm, 250, rfl⟩
abbrev main_cst_25 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_cst_26 : Ref sig .tc := ⟨.hbm, 256, rfl⟩
abbrev main_v141 : Ref sig .tc := ⟨.hbm, 257, rfl⟩
abbrev main_v142 : Ref sig .tc := ⟨.hbm, 258, rfl⟩
abbrev main_cst_27 : Ref sig .tc := ⟨.hbm, 259, rfl⟩
abbrev main_v143 : Ref sig .tc := ⟨.hbm, 260, rfl⟩
abbrev main_v144 : Ref sig .tc := ⟨.hbm, 261, rfl⟩
abbrev main_v145 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_cst_28 : Ref sig .tc := ⟨.hbm, 266, rfl⟩
abbrev main_v149 : Ref sig .tc := ⟨.hbm, 267, rfl⟩
abbrev main_v150 : Ref sig .tc := ⟨.hbm, 268, rfl⟩
abbrev main_cst_29 : Ref sig .tc := ⟨.hbm, 269, rfl⟩
abbrev main_v151 : Ref sig .tc := ⟨.hbm, 270, rfl⟩
abbrev main_v152 : Ref sig .tc := ⟨.hbm, 271, rfl⟩
abbrev main_cst_30 : Ref sig .tc := ⟨.hbm, 272, rfl⟩
abbrev main_v153 : Ref sig .tc := ⟨.hbm, 273, rfl⟩
abbrev main_v154 : Ref sig .tc := ⟨.hbm, 274, rfl⟩
abbrev main_v155 : Ref sig .tc := ⟨.hbm, 275, rfl⟩
abbrev main_v156 : Ref sig .tc := ⟨.hbm, 276, rfl⟩
abbrev main_cst_31 : Ref sig .tc := ⟨.hbm, 277, rfl⟩
abbrev main_v157 : Ref sig .tc := ⟨.hbm, 278, rfl⟩
abbrev main_v158 : Ref sig .tc := ⟨.hbm, 279, rfl⟩
abbrev main_v159 : Ref sig .tc := ⟨.hbm, 280, rfl⟩
abbrev main_v160 : Ref sig .tc := ⟨.hbm, 281, rfl⟩
abbrev main_cst_32 : Ref sig .tc := ⟨.hbm, 282, rfl⟩
abbrev main_v161 : Ref sig .tc := ⟨.hbm, 283, rfl⟩
abbrev main_v162 : Ref sig .tc := ⟨.hbm, 284, rfl⟩
abbrev main_cst_33 : Ref sig .tc := ⟨.hbm, 285, rfl⟩
abbrev main_v163 : Ref sig .tc := ⟨.hbm, 286, rfl⟩
abbrev main_v164 : Ref sig .tc := ⟨.hbm, 287, rfl⟩
abbrev main_v165 : Ref sig .tc := ⟨.hbm, 288, rfl⟩
abbrev main_cst_34 : Ref sig .tc := ⟨.hbm, 289, rfl⟩
abbrev main_v166 : Ref sig .tc := ⟨.hbm, 290, rfl⟩
abbrev main_v167 : Ref sig .tc := ⟨.hbm, 291, rfl⟩
abbrev main_cst_35 : Ref sig .tc := ⟨.hbm, 292, rfl⟩
abbrev main_v168 : Ref sig .tc := ⟨.hbm, 293, rfl⟩
abbrev main_v169 : Ref sig .tc := ⟨.hbm, 294, rfl⟩
abbrev main_v170 : Ref sig .tc := ⟨.hbm, 295, rfl⟩
abbrev main_v171 : Ref sig .tc := ⟨.hbm, 296, rfl⟩
abbrev main_v172 : Ref sig .tc := ⟨.hbm, 297, rfl⟩
abbrev main_c : Ref sig .tc := ⟨.hbm, 298, rfl⟩
abbrev main_call6_v0 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_c_36 : Ref sig .tc := ⟨.hbm, 305, rfl⟩
abbrev main_call7_v0 : Ref sig .tc := ⟨.hbm, 306, rfl⟩
abbrev main_v178 : Ref sig .tc := ⟨.hbm, 307, rfl⟩
abbrev main_v179 : Ref sig .tc := ⟨.hbm, 308, rfl⟩
abbrev main_c_37 : Ref sig .tc := ⟨.hbm, 309, rfl⟩
abbrev main_call8_v0 : Ref sig .tc := ⟨.hbm, 310, rfl⟩
abbrev main_v180 : Ref sig .tc := ⟨.hbm, 311, rfl⟩

abbrev nD : Nat := 1
abbrev τ : Topo := Topo.v7x

variable {F : FTy → Type} [FloatOps F]
-- ==== ConvBwd.lean ====
abbrev S4096x3336 : Shape := ⟨2, ![4096, 3336]⟩
abbrev S3x256 : Shape := ⟨2, ![3, 256]⟩
abbrev S31x256 : Shape := ⟨2, ![31, 256]⟩
abbrev S4x1536 : Shape := ⟨2, ![4, 1536]⟩
abbrev S4096x256 : Shape := ⟨2, ![4096, 256]⟩
abbrev S4096x2048 : Shape := ⟨2, ![4096, 2048]⟩
abbrev S4096x512 : Shape := ⟨2, ![4096, 512]⟩
abbrev S4096x8 : Shape := ⟨2, ![4096, 8]⟩
abbrev S_ : Shape := ⟨0, ![]⟩
abbrev S4096x3456 : Shape := ⟨2, ![4096, 3456]⟩
abbrev S4096x128 : Shape := ⟨2, ![4096, 128]⟩
abbrev S1x3x256 : Shape := ⟨3, ![1, 3, 256]⟩
abbrev S1x8x256 : Shape := ⟨3, ![1, 8, 256]⟩
abbrev S8x256 : Shape := ⟨2, ![8, 256]⟩
abbrev S1x31x256 : Shape := ⟨3, ![1, 31, 256]⟩
abbrev S1x32x256 : Shape := ⟨3, ![1, 32, 256]⟩
abbrev S32x256 : Shape := ⟨2, ![32, 256]⟩
abbrev S1x4x1536 : Shape := ⟨3, ![1, 4, 1536]⟩
abbrev S1x8x1536 : Shape := ⟨3, ![1, 8, 1536]⟩
abbrev S8x1536 : Shape := ⟨2, ![8, 1536]⟩
abbrev S512x3456 : Shape := ⟨2, ![512, 3456]⟩
abbrev S512x2048 : Shape := ⟨2, ![512, 2048]⟩
abbrev S512x256 : Shape := ⟨2, ![512, 256]⟩
abbrev S512x512 : Shape := ⟨2, ![512, 512]⟩
abbrev S512x128 : Shape := ⟨2, ![512, 128]⟩
abbrev S544x2048 : Shape := ⟨2, ![544, 2048]⟩
abbrev S24x256 : Shape := ⟨2, ![24, 256]⟩
abbrev S248x256 : Shape := ⟨2, ![248, 256]⟩
abbrev S32x1536 : Shape := ⟨2, ![32, 1536]⟩
abbrev S7x536x256 : Shape := ⟨3, ![7, 536, 256]⟩
abbrev S32x2048 : Shape := ⟨2, ![32, 2048]⟩
abbrev S536x256 : Shape := ⟨2, ![536, 256]⟩
abbrev S1x536x256 : Shape := ⟨3, ![1, 536, 256]⟩
abbrev S1x256 : Shape := ⟨2, ![1, 256]⟩
abbrev S256 : Shape := ⟨1, ![256]⟩
abbrev S1536 : Shape := ⟨1, ![1536]⟩
abbrev S1x1536 : Shape := ⟨2, ![1, 1536]⟩

abbrev nBuf : Space → Nat
  | .hbm => 33
  | .vmem => 23
  | .smem => 0
  | _ => 0

abbrev bufTy : (tb : Table) → Fin (tcTables nBuf tb) → BufTy
  | .hbm, ⟨0, _⟩ => ⟨S4096x3336, .f32⟩
  | .hbm, ⟨1, _⟩ => ⟨S3x256, .f32⟩
  | .hbm, ⟨2, _⟩ => ⟨S31x256, .f32⟩
  | .hbm, ⟨3, _⟩ => ⟨S4x1536, .f32⟩
  | .hbm, ⟨4, _⟩ => ⟨S4096x256, .f32⟩
  | .hbm, ⟨5, _⟩ => ⟨S4096x2048, .f32⟩
  | .hbm, ⟨6, _⟩ => ⟨S4096x512, .f32⟩
  | .hbm, ⟨7, _⟩ => ⟨S4096x8, .f32⟩
  | .hbm, ⟨8, _⟩ => ⟨S_, .i32⟩
  | .hbm, ⟨9, _⟩ => ⟨S_, .f32⟩
  | .hbm, ⟨10, _⟩ => ⟨S4096x3456, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S1x3x256, .f32⟩
  | .hbm, ⟨15, _⟩ => ⟨S_, .i32⟩
  | .hbm, ⟨16, _⟩ => ⟨S_, .f32⟩
  | .hbm, ⟨17, _⟩ => ⟨S1x8x256, .f32⟩
  | .hbm, ⟨18, _⟩ => ⟨S8x256, .f32⟩
  | .hbm, ⟨19, _⟩ => ⟨S1x31x256, .f32⟩
  | .hbm, ⟨20, _⟩ => ⟨S_, .i32⟩
  | .hbm, ⟨21, _⟩ => ⟨S_, .f32⟩
  | .hbm, ⟨22, _⟩ => ⟨S1x32x256, .f32⟩
  | .hbm, ⟨23, _⟩ => ⟨S32x256, .f32⟩
  | .hbm, ⟨24, _⟩ => ⟨S1x4x1536, .f32⟩
  | .hbm, ⟨25, _⟩ => ⟨S_, .i32⟩
  | .hbm, ⟨26, _⟩ => ⟨S_, .f32⟩
  | .hbm, ⟨27, _⟩ => ⟨S1x8x1536, .f32⟩
  | .hbm, ⟨28, _⟩ => ⟨S8x1536, .f32⟩
  | .hbm, ⟨29, _⟩ => ⟨S4096x3456, .bf16⟩
  | .hbm, ⟨30, _⟩ => ⟨S8x256, .f32⟩
  | .hbm, ⟨31, _⟩ => ⟨S32x256, .f32⟩
  | .hbm, ⟨32, _⟩ => ⟨S8x1536, .f32⟩
  | .local _ .vmem, ⟨0, _⟩ => ⟨S512x3456, .f32⟩
  | .local _ .vmem, ⟨1, _⟩ => ⟨S512x3456, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S8x256, .f32⟩
  | .local _ .vmem, ⟨11, _⟩ => ⟨S32x256, .f32⟩
  | .local _ .vmem, ⟨12, _⟩ => ⟨S8x1536, .f32⟩
  | .local _ .vmem, ⟨13, _⟩ => ⟨S512x3456, .bf16⟩
  | .local _ .vmem, ⟨14, _⟩ => ⟨S512x3456, .bf16⟩
  | .local _ .vmem, ⟨15, _⟩ => ⟨S8x256, .f32⟩
  | .local _ .vmem, ⟨16, _⟩ => ⟨S32x256, .f32⟩
  | .local _ .vmem, ⟨17, _⟩ => ⟨S8x1536, .f32⟩
  | .local _ .vmem, ⟨18, _⟩ => ⟨S544x2048, .f32⟩
  | .local _ .vmem, ⟨19, _⟩ => ⟨S24x256, .f32⟩
  | .local _ .vmem, ⟨20, _⟩ => ⟨S248x256, .f32⟩
  | .local _ .vmem, ⟨21, _⟩ => ⟨S32x1536, .f32⟩
  | .local _ .vmem, ⟨22, _⟩ => ⟨S7x536x256, .f32⟩
  | _, _ => ⟨S4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_c_1 : Ref sig .tc := ⟨.hbm, 15, rfl⟩
abbrev main_call2_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_call3_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_call4_v0 : Ref sig .tc := ⟨.hbm, 26, rfl⟩
abbrev main_v9 : Ref sig .tc := ⟨.hbm, 27, rfl⟩
abbrev main_v10 : Ref sig .tc := ⟨.hbm, 28, rfl⟩
abbrev main_v11_0 : Ref sig .tc := ⟨.hbm, 29, rfl⟩
abbrev main_v11_1 : Ref sig .tc := ⟨.hbm, 30, rfl⟩
abbrev main_v11_2 : Ref sig .tc := ⟨.hbm, 31, rfl⟩
abbrev main_v11_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19153 : BitVec 1 := Scalar.cmpi .eq arg0 c7_i32
  let v19154 : BitVec 32 := Scalar.extui v19153
  let c0_i32_8596 : BitVec 32 := 0#32
  let v19155 : BitVec 1 := Scalar.cmpi .ne v19154 c0_i32_8596
  v19155

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3456 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x3456 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ConvRefIdeal.lean ====
abbrev S4096x3336 : Shape := ⟨2, ![4096, 3336]⟩
abbrev S3x256 : Shape := ⟨2, ![3, 256]⟩
abbrev S31x256 : Shape := ⟨2, ![31, 256]⟩
abbrev S4x1536 : Shape := ⟨2, ![4, 1536]⟩
abbrev S4096x256 : Shape := ⟨2, ![4096, 256]⟩
abbrev S4096x2048 : Shape := ⟨2, ![4096, 2048]⟩
abbrev S4096x512 : Shape := ⟨2, ![4096, 512]⟩
abbrev S4096x8 : Shape := ⟨2, ![4096, 8]⟩
abbrev S4096x4 : Shape := ⟨2, ![4096, 4]⟩
abbrev S_ : Shape := ⟨0, ![]⟩
abbrev S2x256 : Shape := ⟨2, ![2, 256]⟩
abbrev S4098x256 : Shape := ⟨2, ![4098, 256]⟩
abbrev S1x256 : Shape := ⟨2, ![1, 256]⟩
abbrev S256 : Shape := ⟨1, ![256]⟩
abbrev S30x256 : Shape := ⟨2, ![30, 256]⟩
abbrev S4126x256 : Shape := ⟨2, ![4126, 256]⟩
abbrev S4096x1536 : Shape := ⟨2, ![4096, 1536]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S4096x3456 : Shape := ⟨2, ![4096, 3456]⟩
abbrev S8x256 : Shape := ⟨2, ![8, 256]⟩
abbrev S32x256 : Shape := ⟨2, ![32, 256]⟩
abbrev S8x1536 : Shape := ⟨2, ![8, 1536]⟩

abbrev nBuf : Space → Nat
  | .hbm => 920
  | .vmem => 0
  | .smem => 0
  | _ => 0

abbrev hbmTy0_0 (i : Nat) : BufTy := match i % 128 with
  | 0 => ⟨S4096x3336, .f32⟩
  | 1 => ⟨S3x256, .f32⟩
  | 2 => ⟨S31x256, .f32⟩
  | 3 => ⟨S4x1536, .f32⟩
  | 4 => ⟨S4096x256, .f32⟩
  | 5 => ⟨S4096x2048, .f32⟩
  | 6 => ⟨S4096x512, .f32⟩
  | 7 => ⟨S4096x8, .f32⟩
  | 8 => ⟨S4096x256, .f32⟩
  | 9 => ⟨S4096x256, .f32⟩
  | 10 => ⟨S4096x256, .f32⟩
  | 11 => ⟨S4096x256, .f32⟩
  | 12 => ⟨S4096x256, .f32⟩
  | 13 => ⟨S4096x512, .f32⟩
  | 14 => ⟨S4096x512, .f32⟩
  | 15 => ⟨S4096x512, .f32⟩
  | 16 => ⟨S4096x512, .f32⟩
  | 17 => ⟨S4096x4, .f32⟩
  | 18 => ⟨S4096x4, .f32⟩
  | 19 => ⟨S4096x256, .f32⟩
  | 20 => ⟨S_, .f32⟩
  | 21 => ⟨S2x256, .f32⟩
  | 22 => ⟨S4098x256, .f32⟩
  | 23 => ⟨S_, .f32⟩
  | 24 => ⟨S2x256, .f32⟩
  | 25 => ⟨S1x256, .f32⟩
  | 26 => ⟨S256, .f32⟩
  | 27 => ⟨S4096x256, .f32⟩
  | 28 => ⟨S1x256, .f32⟩
  | 29 => ⟨S4096x256, .f32⟩
  | 30 => ⟨S4096x256, .f32⟩
  | 31 => ⟨S_, .f32⟩
  | 32 => ⟨S4096x256, .f32⟩
  | 33 => ⟨S4096x256, .f32⟩
  | 34 => ⟨S1x256, .f32⟩
  | 35 => ⟨S256, .f32⟩
  | 36 => ⟨S4096x256, .f32⟩
  | 37 => ⟨S1x256, .f32⟩
  | 38 => ⟨S4096x256, .f32⟩
  | 39 => ⟨S4096x256, .f32⟩
  | 40 => ⟨S4096x256, .f32⟩
  | 41 => ⟨S1x256, .f32⟩
  | 42 => ⟨S256, .f32⟩
  | 43 => ⟨S4096x256, .f32⟩
  | 44 => ⟨S1x256, .f32⟩
  | 45 => ⟨S4096x256, .f32⟩
  | 46 => ⟨S4096x256, .f32⟩
  | 47 => ⟨S4096x256, .f32⟩
  | 48 => ⟨S4096x256, .f32⟩
  | 49 => ⟨S4096x256, .f32⟩
  | 50 => ⟨S_, .f32⟩
  | 51 => ⟨S4096x256, .f32⟩
  | 52 => ⟨S4096x256, .f32⟩
  | 53 => ⟨S_, .f32⟩
  | 54 => ⟨S4096x256, .f32⟩
  | 55 => ⟨S4096x256, .f32⟩
  | 56 => ⟨S_, .f32⟩
  | 57 => ⟨S4096x256, .f32⟩
  | 58 => ⟨S4096x256, .f32⟩
  | 59 => ⟨S4096x256, .f32⟩
  | 60 => ⟨S4096x256, .f32⟩
  | 61 => ⟨S_, .f32⟩
  | 62 => ⟨S30x256, .f32⟩
  | 63 => ⟨S4126x256, .f32⟩
  | 64 => ⟨S_, .f32⟩
  | 65 => ⟨S30x256, .f32⟩
  | 66 => ⟨S1x256, .f32⟩
  | 67 => ⟨S256, .f32⟩
  | 68 => ⟨S4096x256, .f32⟩
  | 69 => ⟨S1x256, .f32⟩
  | 70 => ⟨S4096x256, .f32⟩
  | 71 => ⟨S4096x256, .f32⟩
  | 72 => ⟨S_, .f32⟩
  | 73 => ⟨S4096x256, .f32⟩
  | 74 => ⟨S4096x256, .f32⟩
  | 75 => ⟨S1x256, .f32⟩
  | 76 => ⟨S256, .f32⟩
  | 77 => ⟨S4096x256, .f32⟩
  | 78 => ⟨S1x256, .f32⟩
  | 79 => ⟨S4096x256, .f32⟩
  | 80 => ⟨S4096x256, .f32⟩
  | 81 => ⟨S4096x256, .f32⟩
  | 82 => ⟨S1x256, .f32⟩
  | 83 => ⟨S256, .f32⟩
  | 84 => ⟨S4096x256, .f32⟩
  | 85 => ⟨S1x256, .f32⟩
  | 86 => ⟨S4096x256, .f32⟩
  | 87 => ⟨S4096x256, .f32⟩
  | 88 => ⟨S4096x256, .f32⟩
  | 89 => ⟨S1x256, .f32⟩
  | 90 => ⟨S256, .f32⟩
  | 91 => ⟨S4096x256, .f32⟩
  | 92 => ⟨S1x256, .f32⟩
  | 93 => ⟨S4096x256, .f32⟩
  | 94 => ⟨S4096x256, .f32⟩
  | 95 => ⟨S4096x256, .f32⟩
  | 96 => ⟨S1x256, .f32⟩
  | 97 => ⟨S256, .f32⟩
  | 98 => ⟨S4096x256, .f32⟩
  | 99 => ⟨S1x256, .f32⟩
  | 100 => ⟨S4096x256, .f32⟩
  | 101 => ⟨S4096x256, .f32⟩
  | 102 => ⟨S4096x256, .f32⟩
  | 103 => ⟨S1x256, .f32⟩
  | 104 => ⟨S256, .f32⟩
  | 105 => ⟨S4096x256, .f32⟩
  | 106 => ⟨S1x256, .f32⟩
  | 107 => ⟨S4096x256, .f32⟩
  | 108 => ⟨S4096x256, .f32⟩
  | 109 => ⟨S4096x256, .f32⟩
  | 110 => ⟨S1x256, .f32⟩
  | 111 => ⟨S256, .f32⟩
  | 112 => ⟨S4096x256, .f32⟩
  | 113 => ⟨S1x256, .f32⟩
  | 114 => ⟨S4096x256, .f32⟩
  | 115 => ⟨S4096x256, .f32⟩
  | 116 => ⟨S4096x256, .f32⟩
  | 117 => ⟨S1x256, .f32⟩
  | 118 => ⟨S256, .f32⟩
  | 119 => ⟨S4096x256, .f32⟩
  | 120 => ⟨S1x256, .f32⟩
  | 121 => ⟨S4096x256, .f32⟩
  | 122 => ⟨S4096x256, .f32⟩
  | 123 => ⟨S4096x256, .f32⟩
  | 124 => ⟨S1x256, .f32⟩
  | 125 => ⟨S256, .f32⟩
  | 126 => ⟨S4096x256, .f32⟩
  | 127 => ⟨S1x256, .f32⟩
  | _ => ⟨S4096x3336, .f32⟩

abbrev hbmTy0_1 (i : Nat) : BufTy := match i % 128 with
  | 0 => ⟨S4096x256, .f32⟩
  | 1 => ⟨S4096x256, .f32⟩
  | 2 => ⟨S4096x256, .f32⟩
  | 3 => ⟨S1x256, .f32⟩
  | 4 => ⟨S256, .f32⟩
  | 5 => ⟨S4096x256, .f32⟩
  | 6 => ⟨S1x256, .f32⟩
  | 7 => ⟨S4096x256, .f32⟩
  | 8 => ⟨S4096x256, .f32⟩
  | 9 => ⟨S4096x256, .f32⟩
  | 10 => ⟨S1x256, .f32⟩
  | 11 => ⟨S256, .f32⟩
  | 12 => ⟨S4096x256, .f32⟩
  | 13 => ⟨S1x256, .f32⟩
  | 14 => ⟨S4096x256, .f32⟩
  | 15 => ⟨S4096x256, .f32⟩
  | 16 => ⟨S4096x256, .f32⟩
  | 17 => ⟨S1x256, .f32⟩
  | 18 => ⟨S256, .f32⟩
  | 19 => ⟨S4096x256, .f32⟩
  | 20 => ⟨S1x256, .f32⟩
  | 21 => ⟨S4096x256, .f32⟩
  | 22 => ⟨S4096x256, .f32⟩
  | 23 => ⟨S4096x256, .f32⟩
  | 24 => ⟨S1x256, .f32⟩
  | 25 => ⟨S256, .f32⟩
  | 26 => ⟨S4096x256, .f32⟩
  | 27 => ⟨S1x256, .f32⟩
  | 28 => ⟨S4096x256, .f32⟩
  | 29 => ⟨S4096x256, .f32⟩
  | 30 => ⟨S4096x256, .f32⟩
  | 31 => ⟨S1x256, .f32⟩
  | 32 => ⟨S256, .f32⟩
  | 33 => ⟨S4096x256, .f32⟩
  | 34 => ⟨S1x256, .f32⟩
  | 35 => ⟨S4096x256, .f32⟩
  | 36 => ⟨S4096x256, .f32⟩
  | 37 => ⟨S4096x256, .f32⟩
  | 38 => ⟨S1x256, .f32⟩
  | 39 => ⟨S256, .f32⟩
  | 40 => ⟨S4096x256, .f32⟩
  | 41 => ⟨S1x256, .f32⟩
  | 42 => ⟨S4096x256, .f32⟩
  | 43 => ⟨S4096x256, .f32⟩
  | 44 => ⟨S4096x256, .f32⟩
  | 45 => ⟨S1x256, .f32⟩
  | 46 => ⟨S256, .f32⟩
  | 47 => ⟨S4096x256, .f32⟩
  | 48 => ⟨S1x256, .f32⟩
  | 49 => ⟨S4096x256, .f32⟩
  | 50 => ⟨S4096x256, .f32⟩
  | 51 => ⟨S4096x256, .f32⟩
  | 52 => ⟨S1x256, .f32⟩
  | 53 => ⟨S256, .f32⟩
  | 54 => ⟨S4096x256, .f32⟩
  | 55 => ⟨S1x256, .f32⟩
  | 56 => ⟨S4096x256, .f32⟩
  | 57 => ⟨S4096x256, .f32⟩
  | 58 => ⟨S4096x256, .f32⟩
  | 59 => ⟨S1x256, .f32⟩
  | 60 => ⟨S256, .f32⟩
  | 61 => ⟨S4096x256, .f32⟩
  | 62 => ⟨S1x256, .f32⟩
  | 63 => ⟨S4096x256, .f32⟩
  | 64 => ⟨S4096x256, .f32⟩
  | 65 => ⟨S4096x256, .f32⟩
  | 66 => ⟨S1x256, .f32⟩
  | 67 => ⟨S256, .f32⟩
  | 68 => ⟨S4096x256, .f32⟩
  | 69 => ⟨S1x256, .f32⟩
  | 70 => ⟨S4096x256, .f32⟩
  | 71 => ⟨S4096x256, .f32⟩
  | 72 => ⟨S4096x256, .f32⟩
  | 73 => ⟨S1x256, .f32⟩
  | 74 => ⟨S256, .f32⟩
  | 75 => ⟨S4096x256, .f32⟩
  | 76 => ⟨S1x256, .f32⟩
  | 77 => ⟨S4096x256, .f32⟩
  | 78 => ⟨S4096x256, .f32⟩
  | 79 => ⟨S4096x256, .f32⟩
  | 80 => ⟨S1x256, .f32⟩
  | 81 => ⟨S256, .f32⟩
  | 82 => ⟨S4096x256, .f32⟩
  | 83 => ⟨S1x256, .f32⟩
  | 84 => ⟨S4096x256, .f32⟩
  | 85 => ⟨S4096x256, .f32⟩
  | 86 => ⟨S4096x256, .f32⟩
  | 87 => ⟨S1x256, .f32⟩
  | 88 => ⟨S256, .f32⟩
  | 89 => ⟨S4096x256, .f32⟩
  | 90 => ⟨S1x256, .f32⟩
  | 91 => ⟨S4096x256, .f32⟩
  | 92 => ⟨S4096x256, .f32⟩
  | 93 => ⟨S4096x256, .f32⟩
  | 94 => ⟨S1x256, .f32⟩
  | 95 => ⟨S256, .f32⟩
  | 96 => ⟨S4096x256, .f32⟩
  | 97 => ⟨S1x256, .f32⟩
  | 98 => ⟨S4096x256, .f32⟩
  | 99 => ⟨S4096x256, .f32⟩
  | 100 => ⟨S4096x256, .f32⟩
  | 101 => ⟨S1x256, .f32⟩
  | 102 => ⟨S256, .f32⟩
  | 103 => ⟨S4096x256, .f32⟩
  | 104 => ⟨S1x256, .f32⟩
  | 105 => ⟨S4096x256, .f32⟩
  | 106 => ⟨S4096x256, .f32⟩
  | 107 => ⟨S4096x256, .f32⟩
  | 108 => ⟨S1x256, .f32⟩
  | 109 => ⟨S256, .f32⟩
  | 110 => ⟨S4096x256, .f32⟩
  | 111 => ⟨S1x256, .f32⟩
  | 112 => ⟨S4096x256, .f32⟩
  | 113 => ⟨S4096x256, .f32⟩
  | 114 => ⟨S4096x256, .f32⟩
  | 115 => ⟨S1x256, .f32⟩
  | 116 => ⟨S256, .f32⟩
  | 117 => ⟨S4096x256, .f32⟩
  | 118 => ⟨S1x256, .f32⟩
  | 119 => ⟨S4096x256, .f32⟩
  | 120 => ⟨S4096x256, .f32⟩
  | 121 => ⟨S4096x256, .f32⟩
  | 122 => ⟨S1x256, .f32⟩
  | 123 => ⟨S256, .f32⟩
  | 124 => ⟨S4096x256, .f32⟩
  | 125 => ⟨S1x256, .f32⟩
  | 126 => ⟨S4096x256, .f32⟩
  | 127 => ⟨S4096x256, .f32⟩
  | _ => ⟨S4096x3336, .f32⟩

abbrev hbmTy0_2 (i : Nat) : BufTy := match i % 128 with
  | 0 => ⟨S4096x256, .f32⟩
  | 1 => ⟨S1x256, .f32⟩
  | 2 => ⟨S256, .f32⟩
  | 3 => ⟨S4096x256, .f32⟩
  | 4 => ⟨S1x256, .f32⟩
  | 5 => ⟨S4096x256, .f32⟩
  | 6 => ⟨S4096x256, .f32⟩
  | 7 => ⟨S4096x256, .f32⟩
  | 8 => ⟨S1x256, .f32⟩
  | 9 => ⟨S256, .f32⟩
  | 10 => ⟨S4096x256, .f32⟩
  | 11 => ⟨S1x256, .f32⟩
  | 12 => ⟨S4096x256, .f32⟩
  | 13 => ⟨S4096x256, .f32⟩
  | 14 => ⟨S4096x256, .f32⟩
  | 15 => ⟨S1x256, .f32⟩
  | 16 => ⟨S256, .f32⟩
  | 17 => ⟨S4096x256, .f32⟩
  | 18 => ⟨S1x256, .f32⟩
  | 19 => ⟨S4096x256, .f32⟩
  | 20 => ⟨S4096x256, .f32⟩
  | 21 => ⟨S4096x256, .f32⟩
  | 22 => ⟨S1x256, .f32⟩
  | 23 => ⟨S256, .f32⟩
  | 24 => ⟨S4096x256, .f32⟩
  | 25 => ⟨S1x256, .f32⟩
  | 26 => ⟨S4096x256, .f32⟩
  | 27 => ⟨S4096x256, .f32⟩
  | 28 => ⟨S4096x256, .f32⟩
  | 29 => ⟨S4096x1536, .f32⟩
  | 30 => ⟨S_, .f32⟩
  | 31 => ⟨S3x1536, .f32⟩
  | 32 => ⟨S4099x1536, .f32⟩
  | 33 => ⟨S_, .f32⟩
  | 34 => ⟨S3x1536, .f32⟩
  | 35 => ⟨S1x1536, .f32⟩
  | 36 => ⟨S1536, .f32⟩
  | 37 => ⟨S4096x1536, .f32⟩
  | 38 => ⟨S1x1536, .f32⟩
  | 39 => ⟨S4096x1536, .f32⟩
  | 40 => ⟨S4096x1536, .f32⟩
  | 41 => ⟨S_, .f32⟩
  | 42 => ⟨S4096x1536, .f32⟩
  | 43 => ⟨S4096x1536, .f32⟩
  | 44 => ⟨S1x1536, .f32⟩
  | 45 => ⟨S1536, .f32⟩
  | 46 => ⟨S4096x1536, .f32⟩
  | 47 => ⟨S1x1536, .f32⟩
  | 48 => ⟨S4096x1536, .f32⟩
  | 49 => ⟨S4096x1536, .f32⟩
  | 50 => ⟨S4096x1536, .f32⟩
  | 51 => ⟨S1x1536, .f32⟩
  | 52 => ⟨S1536, .f32⟩
  | 53 => ⟨S4096x1536, .f32⟩
  | 54 => ⟨S1x1536, .f32⟩
  | 55 => ⟨S4096x1536, .f32⟩
  | 56 => ⟨S4096x1536, .f32⟩
  | 57 => ⟨S4096x1536, .f32⟩
  | 58 => ⟨S1x1536, .f32⟩
  | 59 => ⟨S1536, .f32⟩
  | 60 => ⟨S4096x1536, .f32⟩
  | 61 => ⟨S1x1536, .f32⟩
  | 62 => ⟨S4096x1536, .f32⟩
  | 63 => ⟨S4096x1536, .f32⟩
  | 64 => ⟨S4096x1536, .f32⟩
  | 65 => ⟨S4096x2048, .f32⟩
  | 66 => ⟨S4096x8, .f32⟩
  | 67 => ⟨S4096x4, .f32⟩
  | 68 => ⟨S4096x4, .f32⟩
  | 69 => ⟨S4096x256, .f32⟩
  | 70 => ⟨S4096x256, .f32⟩
  | 71 => ⟨S4096x1536, .f32⟩
  | 72 => ⟨S4096x1536, .f32⟩
  | 73 => ⟨S4096x1536, .f32⟩
  | 74 => ⟨S4096x1536, .f32⟩
  | 75 => ⟨S_, .f32⟩
  | 76 => ⟨S1536, .f32⟩
  | 77 => ⟨S1x1536, .f32⟩
  | 78 => ⟨S_, .f32⟩
  | 79 => ⟨S1536, .f32⟩
  | 80 => ⟨S_, .f32⟩
  | 81 => ⟨S4099x1536, .f32⟩
  | 82 => ⟨S1x1536, .f32⟩
  | 83 => ⟨S_, .f32⟩
  | 84 => ⟨S4x1536, .f32⟩
  | 85 => ⟨S4096x1536, .f32⟩
  | 86 => ⟨S4096x1536, .f32⟩
  | 87 => ⟨S4096x1536, .f32⟩
  | 88 => ⟨S_, .f32⟩
  | 89 => ⟨S1536, .f32⟩
  | 90 => ⟨S1x1536, .f32⟩
  | 91 => ⟨S_, .f32⟩
  | 92 => ⟨S1536, .f32⟩
  | 93 => ⟨S_, .f32⟩
  | 94 => ⟨S4099x1536, .f32⟩
  | 95 => ⟨S4099x1536, .f32⟩
  | 96 => ⟨S1x1536, .f32⟩
  | 97 => ⟨S_, .f32⟩
  | 98 => ⟨S4x1536, .f32⟩
  | 99 => ⟨S4x1536, .f32⟩
  | 100 => ⟨S4096x1536, .f32⟩
  | 101 => ⟨S4096x1536, .f32⟩
  | 102 => ⟨S4096x1536, .f32⟩
  | 103 => ⟨S_, .f32⟩
  | 104 => ⟨S1536, .f32⟩
  | 105 => ⟨S1x1536, .f32⟩
  | 106 => ⟨S_, .f32⟩
  | 107 => ⟨S1536, .f32⟩
  | 108 => ⟨S_, .f32⟩
  | 109 => ⟨S4099x1536, .f32⟩
  | 110 => ⟨S4099x1536, .f32⟩
  | 111 => ⟨S1x1536, .f32⟩
  | 112 => ⟨S_, .f32⟩
  | 113 => ⟨S4x1536, .f32⟩
  | 114 => ⟨S4x1536, .f32⟩
  | 115 => ⟨S4096x1536, .f32⟩
  | 116 => ⟨S4096x1536, .f32⟩
  | 117 => ⟨S4096x1536, .f32⟩
  | 118 => ⟨S_, .f32⟩
  | 119 => ⟨S1536, .f32⟩
  | 120 => ⟨S1x1536, .f32⟩
  | 121 => ⟨S_, .f32⟩
  | 122 => ⟨S1536, .f32⟩
  | 123 => ⟨S_, .f32⟩
  | 124 => ⟨S4099x1536, .f32⟩
  | 125 => ⟨S4099x1536, .f32⟩
  | 126 => ⟨S1x1536, .f32⟩
  | 127 => ⟨S_, .f32⟩
  | _ => ⟨S4096x3336, .f32⟩

abbrev hbmTy0_3 (i : Nat) : BufTy := match i % 128 with
  | 0 => ⟨S4x1536, .f32⟩
  | 1 => ⟨S4x1536, .f32⟩
  | 2 => ⟨S3x1536, .f32⟩
  | 3 => ⟨S4096x1536, .f32⟩
  | 4 => ⟨S4096x512, .f32⟩
  | 5 => ⟨S4096x512, .f32⟩
  | 6 => ⟨S4096x512, .f32⟩
  | 7 => ⟨S4096x256, .f32⟩
  | 8 => ⟨S4096x256, .f32⟩
  | 9 => ⟨S4096x256, .f32⟩
  | 10 => ⟨S_, .f32⟩
  | 11 => ⟨S256, .f32⟩
  | 12 => ⟨S1x256, .f32⟩
  | 13 => ⟨S_, .f32⟩
  | 14 => ⟨S256, .f32⟩
  | 15 => ⟨S_, .f32⟩
  | 16 => ⟨S4126x256, .f32⟩
  | 17 => ⟨S1x256, .f32⟩
  | 18 => ⟨S_, .f32⟩
  | 19 => ⟨S31x256, .f32⟩
  | 20 => ⟨S4096x256, .f32⟩
  | 21 => ⟨S4096x256, .f32⟩
  | 22 => ⟨S4096x256, .f32⟩
  | 23 => ⟨S_, .f32⟩
  | 24 => ⟨S256, .f32⟩
  | 25 => ⟨S1x256, .f32⟩
  | 26 => ⟨S_, .f32⟩
  | 27 => ⟨S256, .f32⟩
  | 28 => ⟨S_, .f32⟩
  | 29 => ⟨S4126x256, .f32⟩
  | 30 => ⟨S4126x256, .f32⟩
  | 31 => ⟨S1x256, .f32⟩
  | 32 => ⟨S_, .f32⟩
  | 33 => ⟨S31x256, .f32⟩
  | 34 => ⟨S31x256, .f32⟩
  | 35 => ⟨S4096x256, .f32⟩
  | 36 => ⟨S4096x256, .f32⟩
  | 37 => ⟨S4096x256, .f32⟩
  | 38 => ⟨S_, .f32⟩
  | 39 => ⟨S256, .f32⟩
  | 40 => ⟨S1x256, .f32⟩
  | 41 => ⟨S_, .f32⟩
  | 42 => ⟨S256, .f32⟩
  | 43 => ⟨S_, .f32⟩
  | 44 => ⟨S4126x256, .f32⟩
  | 45 => ⟨S4126x256, .f32⟩
  | 46 => ⟨S1x256, .f32⟩
  | 47 => ⟨S_, .f32⟩
  | 48 => ⟨S31x256, .f32⟩
  | 49 => ⟨S31x256, .f32⟩
  | 50 => ⟨S4096x256, .f32⟩
  | 51 => ⟨S4096x256, .f32⟩
  | 52 => ⟨S4096x256, .f32⟩
  | 53 => ⟨S_, .f32⟩
  | 54 => ⟨S256, .f32⟩
  | 55 => ⟨S1x256, .f32⟩
  | 56 => ⟨S_, .f32⟩
  | 57 => ⟨S256, .f32⟩
  | 58 => ⟨S_, .f32⟩
  | 59 => ⟨S4126x256, .f32⟩
  | 60 => ⟨S4126x256, .f32⟩
  | 61 => ⟨S1x256, .f32⟩
  | 62 => ⟨S_, .f32⟩
  | 63 => ⟨S31x256, .f32⟩
  | 64 => ⟨S31x256, .f32⟩
  | 65 => ⟨S4096x256, .f32⟩
  | 66 => ⟨S4096x256, .f32⟩
  | 67 => ⟨S4096x256, .f32⟩
  | 68 => ⟨S_, .f32⟩
  | 69 => ⟨S256, .f32⟩
  | 70 => ⟨S1x256, .f32⟩
  | 71 => ⟨S_, .f32⟩
  | 72 => ⟨S256, .f32⟩
  | 73 => ⟨S_, .f32⟩
  | 74 => ⟨S4126x256, .f32⟩
  | 75 => ⟨S4126x256, .f32⟩
  | 76 => ⟨S1x256, .f32⟩
  | 77 => ⟨S_, .f32⟩
  | 78 => ⟨S31x256, .f32⟩
  | 79 => ⟨S31x256, .f32⟩
  | 80 => ⟨S4096x256, .f32⟩
  | 81 => ⟨S4096x256, .f32⟩
  | 82 => ⟨S4096x256, .f32⟩
  | 83 => ⟨S_, .f32⟩
  | 84 => ⟨S256, .f32⟩
  | 85 => ⟨S1x256, .f32⟩
  | 86 => ⟨S_, .f32⟩
  | 87 => ⟨S256, .f32⟩
  | 88 => ⟨S_, .f32⟩
  | 89 => ⟨S4126x256, .f32⟩
  | 90 => ⟨S4126x256, .f32⟩
  | 91 => ⟨S1x256, .f32⟩
  | 92 => ⟨S_, .f32⟩
  | 93 => ⟨S31x256, .f32⟩
  | 94 => ⟨S31x256, .f32⟩
  | 95 => ⟨S4096x256, .f32⟩
  | 96 => ⟨S4096x256, .f32⟩
  | 97 => ⟨S4096x256, .f32⟩
  | 98 => ⟨S_, .f32⟩
  | 99 => ⟨S256, .f32⟩
  | 100 => ⟨S1x256, .f32⟩
  | 101 => ⟨S_, .f32⟩
  | 102 => ⟨S256, .f32⟩
  | 103 => ⟨S_, .f32⟩
  | 104 => ⟨S4126x256, .f32⟩
  | 105 => ⟨S4126x256, .f32⟩
  | 106 => ⟨S1x256, .f32⟩
  | 107 => ⟨S_, .f32⟩
  | 108 => ⟨S31x256, .f32⟩
  | 109 => ⟨S31x256, .f32⟩
  | 110 => ⟨S4096x256, .f32⟩
  | 111 => ⟨S4096x256, .f32⟩
  | 112 => ⟨S4096x256, .f32⟩
  | 113 => ⟨S_, .f32⟩
  | 114 => ⟨S256, .f32⟩
  | 115 => ⟨S1x256, .f32⟩
  | 116 => ⟨S_, .f32⟩
  | 117 => ⟨S256, .f32⟩
  | 118 => ⟨S_, .f32⟩
  | 119 => ⟨S4126x256, .f32⟩
  | 120 => ⟨S4126x256, .f32⟩
  | 121 => ⟨S1x256, .f32⟩
  | 122 => ⟨S_, .f32⟩
  | 123 => ⟨S31x256, .f32⟩
  | 124 => ⟨S31x256, .f32⟩
  | 125 => ⟨S4096x256, .f32⟩
  | 126 => ⟨S4096x256, .f32⟩
  | 127 => ⟨S4096x256, .f32⟩
  | _ => ⟨S4096x3336, .f32⟩

abbrev hbmTy0_4 (i : Nat) : BufTy := match i % 128 with
  | 0 => ⟨S_, .f32⟩
  | 1 => ⟨S256, .f32⟩
  | 2 => ⟨S1x256, .f32⟩
  | 3 => ⟨S_, .f32⟩
  | 4 => ⟨S256, .f32⟩
  | 5 => ⟨S_, .f32⟩
  | 6 => ⟨S4126x256, .f32⟩
  | 7 => ⟨S4126x256, .f32⟩
  | 8 => ⟨S1x256, .f32⟩
  | 9 => ⟨S_, .f32⟩
  | 10 => ⟨S31x256, .f32⟩
  | 11 => ⟨S31x256, .f32⟩
  | 12 => ⟨S4096x256, .f32⟩
  | 13 => ⟨S4096x256, .f32⟩
  | 14 => ⟨S4096x256, .f32⟩
  | 15 => ⟨S_, .f32⟩
  | 16 => ⟨S256, .f32⟩
  | 17 => ⟨S1x256, .f32⟩
  | 18 => ⟨S_, .f32⟩
  | 19 => ⟨S256, .f32⟩
  | 20 => ⟨S_, .f32⟩
  | 21 => ⟨S4126x256, .f32⟩
  | 22 => ⟨S4126x256, .f32⟩
  | 23 => ⟨S1x256, .f32⟩
  | 24 => ⟨S_, .f32⟩
  | 25 => ⟨S31x256, .f32⟩
  | 26 => ⟨S31x256, .f32⟩
  | 27 => ⟨S4096x256, .f32⟩
  | 28 => ⟨S4096x256, .f32⟩
  | 29 => ⟨S4096x256, .f32⟩
  | 30 => ⟨S_, .f32⟩
  | 31 => ⟨S256, .f32⟩
  | 32 => ⟨S1x256, .f32⟩
  | 33 => ⟨S_, .f32⟩
  | 34 => ⟨S256, .f32⟩
  | 35 => ⟨S_, .f32⟩
  | 36 => ⟨S4126x256, .f32⟩
  | 37 => ⟨S4126x256, .f32⟩
  | 38 => ⟨S1x256, .f32⟩
  | 39 => ⟨S_, .f32⟩
  | 40 => ⟨S31x256, .f32⟩
  | 41 => ⟨S31x256, .f32⟩
  | 42 => ⟨S4096x256, .f32⟩
  | 43 => ⟨S4096x256, .f32⟩
  | 44 => ⟨S4096x256, .f32⟩
  | 45 => ⟨S_, .f32⟩
  | 46 => ⟨S256, .f32⟩
  | 47 => ⟨S1x256, .f32⟩
  | 48 => ⟨S_, .f32⟩
  | 49 => ⟨S256, .f32⟩
  | 50 => ⟨S_, .f32⟩
  | 51 => ⟨S4126x256, .f32⟩
  | 52 => ⟨S4126x256, .f32⟩
  | 53 => ⟨S1x256, .f32⟩
  | 54 => ⟨S_, .f32⟩
  | 55 => ⟨S31x256, .f32⟩
  | 56 => ⟨S31x256, .f32⟩
  | 57 => ⟨S4096x256, .f32⟩
  | 58 => ⟨S4096x256, .f32⟩
  | 59 => ⟨S4096x256, .f32⟩
  | 60 => ⟨S_, .f32⟩
  | 61 => ⟨S256, .f32⟩
  | 62 => ⟨S1x256, .f32⟩
  | 63 => ⟨S_, .f32⟩
  | 64 => ⟨S256, .f32⟩
  | 65 => ⟨S_, .f32⟩
  | 66 => ⟨S4126x256, .f32⟩
  | 67 => ⟨S4126x256, .f32⟩
  | 68 => ⟨S1x256, .f32⟩
  | 69 => ⟨S_, .f32⟩
  | 70 => ⟨S31x256, .f32⟩
  | 71 => ⟨S31x256, .f32⟩
  | 72 => ⟨S4096x256, .f32⟩
  | 73 => ⟨S4096x256, .f32⟩
  | 74 => ⟨S4096x256, .f32⟩
  | 75 => ⟨S_, .f32⟩
  | 76 => ⟨S256, .f32⟩
  | 77 => ⟨S1x256, .f32⟩
  | 78 => ⟨S_, .f32⟩
  | 79 => ⟨S256, .f32⟩
  | 80 => ⟨S_, .f32⟩
  | 81 => ⟨S4126x256, .f32⟩
  | 82 => ⟨S4126x256, .f32⟩
  | 83 => ⟨S1x256, .f32⟩
  | 84 => ⟨S_, .f32⟩
  | 85 => ⟨S31x256, .f32⟩
  | 86 => ⟨S31x256, .f32⟩
  | 87 => ⟨S4096x256, .f32⟩
  | 88 => ⟨S4096x256, .f32⟩
  | 89 => ⟨S4096x256, .f32⟩
  | 90 => ⟨S_, .f32⟩
  | 91 => ⟨S256, .f32⟩
  | 92 => ⟨S1x256, .f32⟩
  | 93 => ⟨S_, .f32⟩
  | 94 => ⟨S256, .f32⟩
  | 95 => ⟨S_, .f32⟩
  | 96 => ⟨S4126x256, .f32⟩
  | 97 => ⟨S4126x256, .f32⟩
  | 98 => ⟨S1x256, .f32⟩
  | 99 => ⟨S_, .f32⟩
  | 100 => ⟨S31x256, .f32⟩
  | 101 => ⟨S31x256, .f32⟩
  | 102 => ⟨S4096x256, .f32⟩
  | 103 => ⟨S4096x256, .f32⟩
  | 104 => ⟨S4096x256, .f32⟩
  | 105 => ⟨S_, .f32⟩
  | 106 => ⟨S256, .f32⟩
  | 107 => ⟨S1x256, .f32⟩
  | 108 => ⟨S_, .f32⟩
  | 109 => ⟨S256, .f32⟩
  | 110 => ⟨S_, .f32⟩
  | 111 => ⟨S4126x256, .f32⟩
  | 112 => ⟨S4126x256, .f32⟩
  | 113 => ⟨S1x256, .f32⟩
  | 114 => ⟨S_, .f32⟩
  | 115 => ⟨S31x256, .f32⟩
  | 116 => ⟨S31x256, .f32⟩
  | 117 => ⟨S4096x256, .f32⟩
  | 118 => ⟨S4096x256, .f32⟩
  | 119 => ⟨S4096x256, .f32⟩
  | 120 => ⟨S_, .f32⟩
  | 121 => ⟨S256, .f32⟩
  | 122 => ⟨S1x256, .f32⟩
  | 123 => ⟨S_, .f32⟩
  | 124 => ⟨S256, .f32⟩
  | 125 => ⟨S_, .f32⟩
  | 126 => ⟨S4126x256, .f32⟩
  | 127 => ⟨S4126x256, .f32⟩
  | _ => ⟨S4096x3336, .f32⟩

abbrev hbmTy0_5 (i : Nat) : BufTy := match i % 128 with
  | 0 => ⟨S1x256, .f32⟩
  | 1 => ⟨S_, .f32⟩
  | 2 => ⟨S31x256, .f32⟩
  | 3 => ⟨S31x256, .f32⟩
  | 4 => ⟨S4096x256, .f32⟩
  | 5 => ⟨S4096x256, .f32⟩
  | 6 => ⟨S4096x256, .f32⟩
  | 7 => ⟨S_, .f32⟩
  | 8 => ⟨S256, .f32⟩
  | 9 => ⟨S1x256, .f32⟩
  | 10 => ⟨S_, .f32⟩
  | 11 => ⟨S256, .f32⟩
  | 12 => ⟨S_, .f32⟩
  | 13 => ⟨S4126x256, .f32⟩
  | 14 => ⟨S4126x256, .f32⟩
  | 15 => ⟨S1x256, .f32⟩
  | 16 => ⟨S_, .f32⟩
  | 17 => ⟨S31x256, .f32⟩
  | 18 => ⟨S31x256, .f32⟩
  | 19 => ⟨S4096x256, .f32⟩
  | 20 => ⟨S4096x256, .f32⟩
  | 21 => ⟨S4096x256, .f32⟩
  | 22 => ⟨S_, .f32⟩
  | 23 => ⟨S256, .f32⟩
  | 24 => ⟨S1x256, .f32⟩
  | 25 => ⟨S_, .f32⟩
  | 26 => ⟨S256, .f32⟩
  | 27 => ⟨S_, .f32⟩
  | 28 => ⟨S4126x256, .f32⟩
  | 29 => ⟨S4126x256, .f32⟩
  | 30 => ⟨S1x256, .f32⟩
  | 31 => ⟨S_, .f32⟩
  | 32 => ⟨S31x256, .f32⟩
  | 33 => ⟨S31x256, .f32⟩
  | 34 => ⟨S4096x256, .f32⟩
  | 35 => ⟨S4096x256, .f32⟩
  | 36 => ⟨S4096x256, .f32⟩
  | 37 => ⟨S_, .f32⟩
  | 38 => ⟨S256, .f32⟩
  | 39 => ⟨S1x256, .f32⟩
  | 40 => ⟨S_, .f32⟩
  | 41 => ⟨S256, .f32⟩
  | 42 => ⟨S_, .f32⟩
  | 43 => ⟨S4126x256, .f32⟩
  | 44 => ⟨S4126x256, .f32⟩
  | 45 => ⟨S1x256, .f32⟩
  | 46 => ⟨S_, .f32⟩
  | 47 => ⟨S31x256, .f32⟩
  | 48 => ⟨S31x256, .f32⟩
  | 49 => ⟨S4096x256, .f32⟩
  | 50 => ⟨S4096x256, .f32⟩
  | 51 => ⟨S4096x256, .f32⟩
  | 52 => ⟨S_, .f32⟩
  | 53 => ⟨S256, .f32⟩
  | 54 => ⟨S1x256, .f32⟩
  | 55 => ⟨S_, .f32⟩
  | 56 => ⟨S256, .f32⟩
  | 57 => ⟨S_, .f32⟩
  | 58 => ⟨S4126x256, .f32⟩
  | 59 => ⟨S4126x256, .f32⟩
  | 60 => ⟨S1x256, .f32⟩
  | 61 => ⟨S_, .f32⟩
  | 62 => ⟨S31x256, .f32⟩
  | 63 => ⟨S31x256, .f32⟩
  | 64 => ⟨S4096x256, .f32⟩
  | 65 => ⟨S4096x256, .f32⟩
  | 66 => ⟨S4096x256, .f32⟩
  | 67 => ⟨S_, .f32⟩
  | 68 => ⟨S256, .f32⟩
  | 69 => ⟨S1x256, .f32⟩
  | 70 => ⟨S_, .f32⟩
  | 71 => ⟨S256, .f32⟩
  | 72 => ⟨S_, .f32⟩
  | 73 => ⟨S4126x256, .f32⟩
  | 74 => ⟨S4126x256, .f32⟩
  | 75 => ⟨S1x256, .f32⟩
  | 76 => ⟨S_, .f32⟩
  | 77 => ⟨S31x256, .f32⟩
  | 78 => ⟨S31x256, .f32⟩
  | 79 => ⟨S4096x256, .f32⟩
  | 80 => ⟨S4096x256, .f32⟩
  | 81 => ⟨S4096x256, .f32⟩
  | 82 => ⟨S_, .f32⟩
  | 83 => ⟨S256, .f32⟩
  | 84 => ⟨S1x256, .f32⟩
  | 85 => ⟨S_, .f32⟩
  | 86 => ⟨S256, .f32⟩
  | 87 => ⟨S_, .f32⟩
  | 88 => ⟨S4126x256, .f32⟩
  | 89 => ⟨S4126x256, .f32⟩
  | 90 => ⟨S1x256, .f32⟩
  | 91 => ⟨S_, .f32⟩
  | 92 => ⟨S31x256, .f32⟩
  | 93 => ⟨S31x256, .f32⟩
  | 94 => ⟨S4096x256, .f32⟩
  | 95 => ⟨S4096x256, .f32⟩
  | 96 => ⟨S4096x256, .f32⟩
  | 97 => ⟨S_, .f32⟩
  | 98 => ⟨S256, .f32⟩
  | 99 => ⟨S1x256, .f32⟩
  | 100 => ⟨S_, .f32⟩
  | 101 => ⟨S256, .f32⟩
  | 102 => ⟨S_, .f32⟩
  | 103 => ⟨S4126x256, .f32⟩
  | 104 => ⟨S4126x256, .f32⟩
  | 105 => ⟨S1x256, .f32⟩
  | 106 => ⟨S_, .f32⟩
  | 107 => ⟨S31x256, .f32⟩
  | 108 => ⟨S31x256, .f32⟩
  | 109 => ⟨S4096x256, .f32⟩
  | 110 => ⟨S4096x256, .f32⟩
  | 111 => ⟨S4096x256, .f32⟩
  | 112 => ⟨S_, .f32⟩
  | 113 => ⟨S256, .f32⟩
  | 114 => ⟨S1x256, .f32⟩
  | 115 => ⟨S_, .f32⟩
  | 116 => ⟨S256, .f32⟩
  | 117 => ⟨S_, .f32⟩
  | 118 => ⟨S4126x256, .f32⟩
  | 119 => ⟨S4126x256, .f32⟩
  | 120 => ⟨S1x256, .f32⟩
  | 121 => ⟨S_, .f32⟩
  | 122 => ⟨S31x256, .f32⟩
  | 123 => ⟨S31x256, .f32⟩
  | 124 => ⟨S4096x256, .f32⟩
  | 125 => ⟨S4096x256, .f32⟩
  | 126 => ⟨S4096x256, .f32⟩
  | 127 => ⟨S_, .f32⟩
  | _ => ⟨S4096x3336, .f32⟩

abbrev hbmTy0_6 (i : Nat) : BufTy := match i % 128 with
  | 0 => ⟨S256, .f32⟩
  | 1 => ⟨S1x256, .f32⟩
  | 2 => ⟨S_, .f32⟩
  | 3 => ⟨S256, .f32⟩
  | 4 => ⟨S_, .f32⟩
  | 5 => ⟨S4126x256, .f32⟩
  | 6 => ⟨S4126x256, .f32⟩
  | 7 => ⟨S1x256, .f32⟩
  | 8 => ⟨S_, .f32⟩
  | 9 => ⟨S31x256, .f32⟩
  | 10 => ⟨S31x256, .f32⟩
  | 11 => ⟨S4096x256, .f32⟩
  | 12 => ⟨S4096x256, .f32⟩
  | 13 => ⟨S4096x256, .f32⟩
  | 14 => ⟨S_, .f32⟩
  | 15 => ⟨S256, .f32⟩
  | 16 => ⟨S1x256, .f32⟩
  | 17 => ⟨S_, .f32⟩
  | 18 => ⟨S256, .f32⟩
  | 19 => ⟨S_, .f32⟩
  | 20 => ⟨S4126x256, .f32⟩
  | 21 => ⟨S4126x256, .f32⟩
  | 22 => ⟨S1x256, .f32⟩
  | 23 => ⟨S_, .f32⟩
  | 24 => ⟨S31x256, .f32⟩
  | 25 => ⟨S31x256, .f32⟩
  | 26 => ⟨S4096x256, .f32⟩
  | 27 => ⟨S4096x256, .f32⟩
  | 28 => ⟨S4096x256, .f32⟩
  | 29 => ⟨S_, .f32⟩
  | 30 => ⟨S256, .f32⟩
  | 31 => ⟨S1x256, .f32⟩
  | 32 => ⟨S_, .f32⟩
  | 33 => ⟨S256, .f32⟩
  | 34 => ⟨S_, .f32⟩
  | 35 => ⟨S4126x256, .f32⟩
  | 36 => ⟨S4126x256, .f32⟩
  | 37 => ⟨S1x256, .f32⟩
  | 38 => ⟨S_, .f32⟩
  | 39 => ⟨S31x256, .f32⟩
  | 40 => ⟨S31x256, .f32⟩
  | 41 => ⟨S4096x256, .f32⟩
  | 42 => ⟨S4096x256, .f32⟩
  | 43 => ⟨S4096x256, .f32⟩
  | 44 => ⟨S_, .f32⟩
  | 45 => ⟨S256, .f32⟩
  | 46 => ⟨S1x256, .f32⟩
  | 47 => ⟨S_, .f32⟩
  | 48 => ⟨S256, .f32⟩
  | 49 => ⟨S_, .f32⟩
  | 50 => ⟨S4126x256, .f32⟩
  | 51 => ⟨S4126x256, .f32⟩
  | 52 => ⟨S1x256, .f32⟩
  | 53 => ⟨S_, .f32⟩
  | 54 => ⟨S31x256, .f32⟩
  | 55 => ⟨S31x256, .f32⟩
  | 56 => ⟨S4096x256, .f32⟩
  | 57 => ⟨S4096x256, .f32⟩
  | 58 => ⟨S4096x256, .f32⟩
  | 59 => ⟨S_, .f32⟩
  | 60 => ⟨S256, .f32⟩
  | 61 => ⟨S1x256, .f32⟩
  | 62 => ⟨S_, .f32⟩
  | 63 => ⟨S256, .f32⟩
  | 64 => ⟨S_, .f32⟩
  | 65 => ⟨S4126x256, .f32⟩
  | 66 => ⟨S4126x256, .f32⟩
  | 67 => ⟨S1x256, .f32⟩
  | 68 => ⟨S_, .f32⟩
  | 69 => ⟨S31x256, .f32⟩
  | 70 => ⟨S31x256, .f32⟩
  | 71 => ⟨S4096x256, .f32⟩
  | 72 => ⟨S4096x256, .f32⟩
  | 73 => ⟨S4096x256, .f32⟩
  | 74 => ⟨S_, .f32⟩
  | 75 => ⟨S256, .f32⟩
  | 76 => ⟨S1x256, .f32⟩
  | 77 => ⟨S_, .f32⟩
  | 78 => ⟨S256, .f32⟩
  | 79 => ⟨S_, .f32⟩
  | 80 => ⟨S4126x256, .f32⟩
  | 81 => ⟨S4126x256, .f32⟩
  | 82 => ⟨S1x256, .f32⟩
  | 83 => ⟨S_, .f32⟩
  | 84 => ⟨S31x256, .f32⟩
  | 85 => ⟨S31x256, .f32⟩
  | 86 => ⟨S30x256, .f32⟩
  | 87 => ⟨S4096x256, .f32⟩
  | 88 => ⟨S4096x256, .f32⟩
  | 89 => ⟨S4096x256, .f32⟩
  | 90 => ⟨S4096x256, .f32⟩
  | 91 => ⟨S4096x256, .f32⟩
  | 92 => ⟨S4096x256, .f32⟩
  | 93 => ⟨S4096x256, .f32⟩
  | 94 => ⟨S_, .f32⟩
  | 95 => ⟨S256, .f32⟩
  | 96 => ⟨S1x256, .f32⟩
  | 97 => ⟨S_, .f32⟩
  | 98 => ⟨S256, .f32⟩
  | 99 => ⟨S_, .f32⟩
  | 100 => ⟨S4098x256, .f32⟩
  | 101 => ⟨S1x256, .f32⟩
  | 102 => ⟨S_, .f32⟩
  | 103 => ⟨S3x256, .f32⟩
  | 104 => ⟨S4096x256, .f32⟩
  | 105 => ⟨S4096x256, .f32⟩
  | 106 => ⟨S4096x256, .f32⟩
  | 107 => ⟨S_, .f32⟩
  | 108 => ⟨S256, .f32⟩
  | 109 => ⟨S1x256, .f32⟩
  | 110 => ⟨S_, .f32⟩
  | 111 => ⟨S256, .f32⟩
  | 112 => ⟨S_, .f32⟩
  | 113 => ⟨S4098x256, .f32⟩
  | 114 => ⟨S4098x256, .f32⟩
  | 115 => ⟨S1x256, .f32⟩
  | 116 => ⟨S_, .f32⟩
  | 117 => ⟨S3x256, .f32⟩
  | 118 => ⟨S3x256, .f32⟩
  | 119 => ⟨S4096x256, .f32⟩
  | 120 => ⟨S4096x256, .f32⟩
  | 121 => ⟨S4096x256, .f32⟩
  | 122 => ⟨S_, .f32⟩
  | 123 => ⟨S256, .f32⟩
  | 124 => ⟨S1x256, .f32⟩
  | 125 => ⟨S_, .f32⟩
  | 126 => ⟨S256, .f32⟩
  | 127 => ⟨S_, .f32⟩
  | _ => ⟨S4096x3336, .f32⟩

abbrev hbmTy0_7 (i : Nat) : BufTy := match i % 128 with
  | 0 => ⟨S4098x256, .f32⟩
  | 1 => ⟨S4098x256, .f32⟩
  | 2 => ⟨S1x256, .f32⟩
  | 3 => ⟨S_, .f32⟩
  | 4 => ⟨S3x256, .f32⟩
  | 5 => ⟨S3x256, .f32⟩
  | 6 => ⟨S2x256, .f32⟩
  | 7 => ⟨S4096x256, .f32⟩
  | 8 => ⟨S4096x256, .f32⟩
  | 9 => ⟨S4096x256, .f32⟩
  | 10 => ⟨S4096x3336, .f32⟩
  | 11 => ⟨S_, .i32⟩
  | 12 => ⟨S_, .f32⟩
  | 13 => ⟨S4096x3456, .f32⟩
  | 14 => ⟨S4096x3456, .bf16⟩
  | 15 => ⟨S_, .i32⟩
  | 16 => ⟨S_, .f32⟩
  | 17 => ⟨S8x256, .f32⟩
  | 18 => ⟨S_, .i32⟩
  | 19 => ⟨S_, .f32⟩
  | 20 => ⟨S32x256, .f32⟩
  | 21 => ⟨S_, .i32⟩
  | 22 => ⟨S_, .f32⟩
  | 23 => ⟨S8x1536, .f32⟩
  | _ => ⟨S4096x3336, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S4096x3336, .f32⟩

abbrev bufTy : (tb : Table) → Fin (tcTables nBuf tb) → BufTy
  | .hbm, ⟨i, _⟩ => hbmTy i
  | _, _ => ⟨S4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_v257 : Ref sig .tc := ⟨.hbm, 274, rfl⟩
abbrev main_v258 : Ref sig .tc := ⟨.hbm, 275, rfl⟩
abbrev main_v259 : Ref sig .tc := ⟨.hbm, 276, rfl⟩
abbrev main_v260 : Ref sig .tc := ⟨.hbm, 277, rfl⟩
abbrev main_v261 : Ref sig .tc := ⟨.hbm, 278, rfl⟩
abbrev main_v262 : Ref sig .tc := ⟨.hbm, 279, rfl⟩
abbrev main_v263 : Ref sig .tc := ⟨.hbm, 280, rfl⟩
abbrev main_v264 : Ref sig .tc := ⟨.hbm, 281, rfl⟩
abbrev main_v265 : Ref sig .tc := ⟨.hbm, 282, rfl⟩
abbrev main_v266 : Ref sig .tc := ⟨.hbm, 283, rfl⟩
abbrev main_v267 : Ref sig .tc := ⟨.hbm, 284, rfl⟩
abbrev main_v268 : Ref sig .tc := ⟨.hbm, 285, rfl⟩
abbrev main_cst_8 : Ref sig .tc := ⟨.hbm, 286, rfl⟩
abbrev main_v269 : Ref sig .tc := ⟨.hbm, 287, rfl⟩
abbrev main_v270 : Ref sig .tc := ⟨.hbm, 288, rfl⟩
abbrev main_cst_9 : Ref sig .tc := ⟨.hbm, 289, rfl⟩
abbrev main_v271 : Ref sig .tc := ⟨.hbm, 290, rfl⟩
abbrev main_v272 : Ref sig .tc := ⟨.hbm, 291, rfl⟩
abbrev main_v273 : Ref sig .tc := ⟨.hbm, 292, rfl⟩
abbrev main_v274 : Ref sig .tc := ⟨.hbm, 293, rfl⟩
abbrev main_v275 : Ref sig .tc := ⟨.hbm, 294, rfl⟩
abbrev main_v276 : Ref sig .tc := ⟨.hbm, 295, rfl⟩
abbrev main_v277 : Ref sig .tc := ⟨.hbm, 296, rfl⟩
abbrev main_cst_10 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_v283 : Ref sig .tc := ⟨.hbm, 303, rfl⟩
abbrev main_v284 : Ref sig .tc := ⟨.hbm, 304, rfl⟩
abbrev main_v285 : Ref sig .tc := ⟨.hbm, 305, rfl⟩
abbrev main_v286 : Ref sig .tc := ⟨.hbm, 306, rfl⟩
abbrev main_v287 : Ref sig .tc := ⟨.hbm, 307, rfl⟩
abbrev main_v288 : Ref sig .tc := ⟨.hbm, 308, rfl⟩
abbrev main_v289 : Ref sig .tc := ⟨.hbm, 309, rfl⟩
abbrev main_v290 : Ref sig .tc := ⟨.hbm, 310, rfl⟩
abbrev main_v291 : Ref sig .tc := ⟨.hbm, 311, rfl⟩
abbrev main_v292 : Ref sig .tc := ⟨.hbm, 312, rfl⟩
abbrev main_v293 : Ref sig .tc := ⟨.hbm, 313, rfl⟩
abbrev main_v294 : Ref sig .tc := ⟨.hbm, 314, rfl⟩
abbrev main_v295 : Ref sig .tc := ⟨.hbm, 315, rfl⟩
abbrev main_v296 : Ref sig .tc := ⟨.hbm, 316, rfl⟩
abbrev main_v297 : Ref sig .tc := ⟨.hbm, 317, rfl⟩
abbrev main_v298 : Ref sig .tc := ⟨.hbm, 318, rfl⟩
abbrev main_v299 : Ref sig .tc := ⟨.hbm, 319, rfl⟩
abbrev main_v300 : Ref sig .tc := ⟨.hbm, 320, rfl⟩
abbrev main_v301 : Ref sig .tc := ⟨.hbm, 321, rfl⟩
abbrev main_v302 : Ref sig .tc := ⟨.hbm, 322, rfl⟩
abbrev main_v303 : Ref sig .tc := ⟨.hbm, 323, rfl⟩
abbrev main_v304 : Ref sig .tc := ⟨.hbm, 324, rfl⟩
abbrev main_v305 : Ref sig .tc := ⟨.hbm, 325, rfl⟩
abbrev main_v306 : Ref sig .tc := ⟨.hbm, 326, rfl⟩
abbrev main_v307 : Ref sig .tc := ⟨.hbm, 327, rfl⟩
abbrev main_v308 : Ref sig .tc := ⟨.hbm, 328, rfl⟩
abbrev main_v309 : Ref sig .tc := ⟨.hbm, 329, rfl⟩
abbrev main_v310 : Ref sig .tc := ⟨.hbm, 330, rfl⟩
abbrev main_cst_11 : Ref sig .tc := ⟨.hbm, 331, rfl⟩
abbrev main_v311 : Ref sig .tc := ⟨.hbm, 332, rfl⟩
abbrev main_v312 : Ref sig .tc := ⟨.hbm, 333, rfl⟩
abbrev main_cst_12 : Ref sig .tc := ⟨.hbm, 334, rfl⟩
abbrev main_v313 : Ref sig .tc := ⟨.hbm, 335, rfl⟩
abbrev main_cst_13 : Ref sig .tc := ⟨.hbm, 336, rfl⟩
abbrev main_v314 : Ref sig .tc := ⟨.hbm, 337, rfl⟩
abbrev main_v315 : Ref sig .tc := ⟨.hbm, 338, rfl⟩
abbrev main_cst_14 : Ref sig .tc := ⟨.hbm, 339, rfl⟩
abbrev main_v316 : Ref sig .tc := ⟨.hbm, 340, rfl⟩
abbrev main_v317 : Ref sig .tc := ⟨.hbm, 341, rfl⟩
abbrev main_v318 : Ref sig .tc := ⟨.hbm, 342, rfl⟩
abbrev main_v319 : Ref sig .tc := ⟨.hbm, 343, rfl⟩
abbrev main_cst_15 : Ref sig .tc := ⟨.hbm, 344, rfl⟩
abbrev main_v320 : Ref sig .tc := ⟨.hbm, 345, rfl⟩
abbrev main_v321 : Ref sig .tc := ⟨.hbm, 346, rfl⟩
abbrev main_cst_16 : Ref sig .tc := ⟨.hbm, 347, rfl⟩
abbrev main_v322 : Ref sig .tc := ⟨.hbm, 348, rfl⟩
abbrev main_cst_17 : Ref sig .tc := ⟨.hbm, 349, rfl⟩
abbrev main_v323 : Ref sig .tc := ⟨.hbm, 350, rfl⟩
abbrev main_v324 : Ref sig .tc := ⟨.hbm, 351, rfl⟩
abbrev main_v325 : Ref sig .tc := ⟨.hbm, 352, rfl⟩
abbrev main_cst_18 : Ref sig .tc := ⟨.hbm, 353, rfl⟩
abbrev main_v326 : Ref sig .tc := ⟨.hbm, 354, rfl⟩
abbrev main_v327 : Ref sig .tc := ⟨.hbm, 355, rfl⟩
abbrev main_v328 : Ref sig .tc := ⟨.hbm, 356, rfl⟩
abbrev main_v329 : Ref sig .tc := ⟨.hbm, 357, rfl⟩
abbrev main_v330 : Ref sig .tc := ⟨.hbm, 358, rfl⟩
abbrev main_cst_19 : Ref sig .tc := ⟨.hbm, 359, rfl⟩
abbrev main_v331 : Ref sig .tc := ⟨.hbm, 360, rfl⟩
abbrev main_v332 : Ref sig .tc := ⟨.hbm, 361, rfl⟩
abbrev main_cst_20 : Ref sig .tc := ⟨.hbm, 362, rfl⟩
abbrev main_v333 : Ref sig .tc := ⟨.hbm, 363, rfl⟩
abbrev main_cst_21 : Ref sig .tc := ⟨.hbm, 364, rfl⟩
abbrev main_v334 : Ref sig .tc := ⟨.hbm, 365, rfl⟩
abbrev main_v335 : Ref sig .tc := ⟨.hbm, 366, rfl⟩
abbrev main_v336 : Ref sig .tc := ⟨.hbm, 367, rfl⟩
abbrev main_cst_22 : Ref sig .tc := ⟨.hbm, 368, rfl⟩
abbrev main_v337 : Ref sig .tc := ⟨.hbm, 369, rfl⟩
abbrev main_v338 : Ref sig .tc := ⟨.hbm, 370, rfl⟩
abbrev main_v339 : Ref sig .tc := ⟨.hbm, 371, rfl⟩
abbrev main_v340 : Ref sig .tc := ⟨.hbm, 372, rfl⟩
abbrev main_v341 : Ref sig .tc := ⟨.hbm, 373, rfl⟩
abbrev main_cst_23 : Ref sig .tc := ⟨.hbm, 374, rfl⟩
abbrev main_v342 : Ref sig .tc := ⟨.hbm, 375, rfl⟩
abbrev main_v343 : Ref sig .tc := ⟨.hbm, 376, rfl⟩
abbrev main_cst_24 : Ref sig .tc := ⟨.hbm, 377, rfl⟩
abbrev main_v344 : Ref sig .tc := ⟨.hbm, 378, rfl⟩
abbrev main_cst_25 : Ref sig .tc := ⟨.hbm, 379, rfl⟩
abbrev main_v345 : Ref sig .tc := ⟨.hbm, 380, rfl⟩
abbrev main_v346 : Ref sig .tc := ⟨.hbm, 381, rfl⟩
abbrev main_v347 : Ref sig .tc := ⟨.hbm, 382, rfl⟩
abbrev main_cst_26 : Ref sig .tc := ⟨.hbm, 383, rfl⟩
abbrev main_v348 : Ref sig .tc := ⟨.hbm, 384, rfl⟩
abbrev main_v349 : Ref sig .tc := ⟨.hbm, 385, rfl⟩
abbrev main_v350 : Ref sig .tc := ⟨.hbm, 386, rfl⟩
abbrev main_v351 : Ref sig .tc := ⟨.hbm, 387, rfl⟩
abbrev main_v352 : Ref sig .tc := ⟨.hbm, 388, rfl⟩
abbrev main_v353 : Ref sig .tc := ⟨.hbm, 389, rfl⟩
abbrev main_v354 : Ref sig .tc := ⟨.hbm, 390, rfl⟩
abbrev main_v355 : Ref sig .tc := ⟨.hbm, 391, rfl⟩
abbrev main_v356 : Ref sig .tc := ⟨.hbm, 392, rfl⟩
abbrev main_v357 : Ref sig .tc := ⟨.hbm, 393, rfl⟩
abbrev main_cst_27 : Ref sig .tc := ⟨.hbm, 394, rfl⟩
abbrev main_v358 : Ref sig .tc := ⟨.hbm, 395, rfl⟩
abbrev main_v359 : Ref sig .tc := ⟨.hbm, 396, rfl⟩
abbrev main_cst_28 : Ref sig .tc := ⟨.hbm, 397, rfl⟩
abbrev main_v360 : Ref sig .tc := ⟨.hbm, 398, rfl⟩
abbrev main_cst_29 : Ref sig .tc := ⟨.hbm, 399, rfl⟩
abbrev main_v361 : Ref sig .tc := ⟨.hbm, 400, rfl⟩
abbrev main_v362 : Ref sig .tc := ⟨.hbm, 401, rfl⟩
abbrev main_cst_30 : Ref sig .tc := ⟨.hbm, 402, rfl⟩
abbrev main_v363 : Ref sig .tc := ⟨.hbm, 403, rfl⟩
abbrev main_v364 : Ref sig .tc := ⟨.hbm, 404, rfl⟩
abbrev main_v365 : Ref sig .tc := ⟨.hbm, 405, rfl⟩
abbrev main_v366 : Ref sig .tc := ⟨.hbm, 406, rfl⟩
abbrev main_cst_31 : Ref sig .tc := ⟨.hbm, 407, rfl⟩
abbrev main_v367 : Ref sig .tc := ⟨.hbm, 408, rfl⟩
abbrev main_v368 : Ref sig .tc := ⟨.hbm, 409, rfl⟩
abbrev main_cst_32 : Ref sig .tc := ⟨.hbm, 410, rfl⟩
abbrev main_v369 : Ref sig .tc := ⟨.hbm, 411, rfl⟩
abbrev main_cst_33 : Ref sig .tc := ⟨.hbm, 412, rfl⟩
abbrev main_v370 : Ref sig .tc := ⟨.hbm, 413, rfl⟩
abbrev main_v371 : Ref sig .tc := ⟨.hbm, 414, rfl⟩
abbrev main_v372 : Ref sig .tc := ⟨.hbm, 415, rfl⟩
abbrev main_cst_34 : Ref sig .tc := ⟨.hbm, 416, rfl⟩
abbrev main_v373 : Ref sig .tc := ⟨.hbm, 417, rfl⟩
abbrev main_v374 : Ref sig .tc := ⟨.hbm, 418, rfl⟩
abbrev main_v375 : Ref sig .tc := ⟨.hbm, 419, rfl⟩
abbrev main_v376 : Ref sig .tc := ⟨.hbm, 420, rfl⟩
abbrev main_v377 : Ref sig .tc := ⟨.hbm, 421, rfl⟩
abbrev main_cst_35 : Ref sig .tc := ⟨.hbm, 422, rfl⟩
abbrev main_v378 : Ref sig .tc := ⟨.hbm, 423, rfl⟩
abbrev main_v379 : Ref sig .tc := ⟨.hbm, 424, rfl⟩
abbrev main_cst_36 : Ref sig .tc := ⟨.hbm, 425, rfl⟩
abbrev main_v380 : Ref sig .tc := ⟨.hbm, 426, rfl⟩
abbrev main_cst_37 : Ref sig .tc := ⟨.hbm, 427, rfl⟩
abbrev main_v381 : Ref sig .tc := ⟨.hbm, 428, rfl⟩
abbrev main_v382 : Ref sig .tc := ⟨.hbm, 429, rfl⟩
abbrev main_v383 : Ref sig .tc := ⟨.hbm, 430, rfl⟩
abbrev main_cst_38 : Ref sig .tc := ⟨.hbm, 431, rfl⟩
abbrev main_v384 : Ref sig .tc := ⟨.hbm, 432, rfl⟩
abbrev main_v385 : Ref sig .tc := ⟨.hbm, 433, rfl⟩
abbrev main_v386 : Ref sig .tc := ⟨.hbm, 434, rfl⟩
abbrev main_v387 : Ref sig .tc := ⟨.hbm, 435, rfl⟩
abbrev main_v388 : Ref sig .tc := ⟨.hbm, 436, rfl⟩
abbrev main_cst_39 : Ref sig .tc := ⟨.hbm, 437, rfl⟩
abbrev main_v389 : Ref sig .tc := ⟨.hbm, 438, rfl⟩
abbrev main_v390 : Ref sig .tc := ⟨.hbm, 439, rfl⟩
abbrev main_cst_40 : Ref sig .tc := ⟨.hbm, 440, rfl⟩
abbrev main_v391 : Ref sig .tc := ⟨.hbm, 441, rfl⟩
abbrev main_cst_41 : Ref sig .tc := ⟨.hbm, 442, rfl⟩
abbrev main_v392 : Ref sig .tc := ⟨.hbm, 443, rfl⟩
abbrev main_v393 : Ref sig .tc := ⟨.hbm, 444, rfl⟩
abbrev main_v394 : Ref sig .tc := ⟨.hbm, 445, rfl⟩
abbrev main_cst_42 : Ref sig .tc := ⟨.hbm, 446, rfl⟩
abbrev main_v395 : Ref sig .tc := ⟨.hbm, 447, rfl⟩
abbrev main_v396 : Ref sig .tc := ⟨.hbm, 448, rfl⟩
abbrev main_v397 : Ref sig .tc := ⟨.hbm, 449, rfl⟩
abbrev main_v398 : Ref sig .tc := ⟨.hbm, 450, rfl⟩
abbrev main_v399 : Ref sig .tc := ⟨.hbm, 451, rfl⟩
abbrev main_cst_43 : Ref sig .tc := ⟨.hbm, 452, rfl⟩
abbrev main_v400 : Ref sig .tc := ⟨.hbm, 453, rfl⟩
abbrev main_v401 : Ref sig .tc := ⟨.hbm, 454, rfl⟩
abbrev main_cst_44 : Ref sig .tc := ⟨.hbm, 455, rfl⟩
abbrev main_v402 : Ref sig .tc := ⟨.hbm, 456, rfl⟩
abbrev main_cst_45 : Ref sig .tc := ⟨.hbm, 457, rfl⟩
abbrev main_v403 : Ref sig .tc := ⟨.hbm, 458, rfl⟩
abbrev main_v404 : Ref sig .tc := ⟨.hbm, 459, rfl⟩
abbrev main_v405 : Ref sig .tc := ⟨.hbm, 460, rfl⟩
abbrev main_cst_46 : Ref sig .tc := ⟨.hbm, 461, rfl⟩
abbrev main_v406 : Ref sig .tc := ⟨.hbm, 462, rfl⟩
abbrev main_v407 : Ref sig .tc := ⟨.hbm, 463, rfl⟩
abbrev main_v408 : Ref sig .tc := ⟨.hbm, 464, rfl⟩
abbrev main_v409 : Ref sig .tc := ⟨.hbm, 465, rfl⟩
abbrev main_v410 : Ref sig .tc := ⟨.hbm, 466, rfl⟩
abbrev main_cst_47 : Ref sig .tc := ⟨.hbm, 467, rfl⟩
abbrev main_v411 : Ref sig .tc := ⟨.hbm, 468, rfl⟩
abbrev main_v412 : Ref sig .tc := ⟨.hbm, 469, rfl⟩
abbrev main_cst_48 : Ref sig .tc := ⟨.hbm, 470, rfl⟩
abbrev main_v413 : Ref sig .tc := ⟨.hbm, 471, rfl⟩
abbrev main_cst_49 : Ref sig .tc := ⟨.hbm, 472, rfl⟩
abbrev main_v414 : Ref sig .tc := ⟨.hbm, 473, rfl⟩
abbrev main_v415 : Ref sig .tc := ⟨.hbm, 474, rfl⟩
abbrev main_v416 : Ref sig .tc := ⟨.hbm, 475, rfl⟩
abbrev main_cst_50 : Ref sig .tc := ⟨.hbm, 476, rfl⟩
abbrev main_v417 : Ref sig .tc := ⟨.hbm, 477, rfl⟩
abbrev main_v418 : Ref sig .tc := ⟨.hbm, 478, rfl⟩
abbrev main_v419 : Ref sig .tc := ⟨.hbm, 479, rfl⟩
abbrev main_v420 : Ref sig .tc := ⟨.hbm, 480, rfl⟩
abbrev main_v421 : Ref sig .tc := ⟨.hbm, 481, rfl⟩
abbrev main_cst_51 : Ref sig .tc := ⟨.hbm, 482, rfl⟩
abbrev main_v422 : Ref sig .tc := ⟨.hbm, 483, rfl⟩
abbrev main_v423 : Ref sig .tc := ⟨.hbm, 484, rfl⟩
abbrev main_cst_52 : Ref sig .tc := ⟨.hbm, 485, rfl⟩
abbrev main_v424 : Ref sig .tc := ⟨.hbm, 486, rfl⟩
abbrev main_cst_53 : Ref sig .tc := ⟨.hbm, 487, rfl⟩
abbrev main_v425 : Ref sig .tc := ⟨.hbm, 488, rfl⟩
abbrev main_v426 : Ref sig .tc := ⟨.hbm, 489, rfl⟩
abbrev main_v427 : Ref sig .tc := ⟨.hbm, 490, rfl⟩
abbrev main_cst_54 : Ref sig .tc := ⟨.hbm, 491, rfl⟩
abbrev main_v428 : Ref sig .tc := ⟨.hbm, 492, rfl⟩
abbrev main_v429 : Ref sig .tc := ⟨.hbm, 493, rfl⟩
abbrev main_v430 : Ref sig .tc := ⟨.hbm, 494, rfl⟩
abbrev main_v431 : Ref sig .tc := ⟨.hbm, 495, rfl⟩
abbrev main_v432 : Ref sig .tc := ⟨.hbm, 496, rfl⟩
abbrev main_cst_55 : Ref sig .tc := ⟨.hbm, 497, rfl⟩
abbrev main_v433 : Ref sig .tc := ⟨.hbm, 498, rfl⟩
abbrev main_v434 : Ref sig .tc := ⟨.hbm, 499, rfl⟩
abbrev main_cst_56 : Ref sig .tc := ⟨.hbm, 500, rfl⟩
abbrev main_v435 : Ref sig .tc := ⟨.hbm, 501, rfl⟩
abbrev main_cst_57 : Ref sig .tc := ⟨.hbm, 502, rfl⟩
abbrev main_v436 : Ref sig .tc := ⟨.hbm, 503, rfl⟩
abbrev main_v437 : Ref sig .tc := ⟨.hbm, 504, rfl⟩
abbrev main_v438 : Ref sig .tc := ⟨.hbm, 505, rfl⟩
abbrev main_cst_58 : Ref sig .tc := ⟨.hbm, 506, rfl⟩
abbrev main_v439 : Ref sig .tc := ⟨.hbm, 507, rfl⟩
abbrev main_v440 : Ref sig .tc := ⟨.hbm, 508, rfl⟩
abbrev main_v441 : Ref sig .tc := ⟨.hbm, 509, rfl⟩
abbrev main_v442 : Ref sig .tc := ⟨.hbm, 510, rfl⟩
abbrev main_v443 : Ref sig .tc := ⟨.hbm, 511, rfl⟩
abbrev main_cst_59 : Ref sig .tc := ⟨.hbm, 512, rfl⟩
abbrev main_v444 : Ref sig .tc := ⟨.hbm, 513, rfl⟩
abbrev main_v445 : Ref sig .tc := ⟨.hbm, 514, rfl⟩
abbrev main_cst_60 : Ref sig .tc := ⟨.hbm, 515, rfl⟩
abbrev main_v446 : Ref sig .tc := ⟨.hbm, 516, rfl⟩
abbrev main_cst_61 : Ref sig .tc := ⟨.hbm, 517, rfl⟩
abbrev main_v447 : Ref sig .tc := ⟨.hbm, 518, rfl⟩
abbrev main_v448 : Ref sig .tc := ⟨.hbm, 519, rfl⟩
abbrev main_v449 : Ref sig .tc := ⟨.hbm, 520, rfl⟩
abbrev main_cst_62 : Ref sig .tc := ⟨.hbm, 521, rfl⟩
abbrev main_v450 : Ref sig .tc := ⟨.hbm, 522, rfl⟩
abbrev main_v451 : Ref sig .tc := ⟨.hbm, 523, rfl⟩
abbrev main_v452 : Ref sig .tc := ⟨.hbm, 524, rfl⟩
abbrev main_v453 : Ref sig .tc := ⟨.hbm, 525, rfl⟩
abbrev main_v454 : Ref sig .tc := ⟨.hbm, 526, rfl⟩
abbrev main_cst_63 : Ref sig .tc := ⟨.hbm, 527, rfl⟩
abbrev main_v455 : Ref sig .tc := ⟨.hbm, 528, rfl⟩
abbrev main_v456 : Ref sig .tc := ⟨.hbm, 529, rfl⟩
abbrev main_cst_64 : Ref sig .tc := ⟨.hbm, 530, rfl⟩
abbrev main_v457 : Ref sig .tc := ⟨.hbm, 531, rfl⟩
abbrev main_cst_65 : Ref sig .tc := ⟨.hbm, 532, rfl⟩
abbrev main_v458 : Ref sig .tc := ⟨.hbm, 533, rfl⟩
abbrev main_v459 : Ref sig .tc := ⟨.hbm, 534, rfl⟩
abbrev main_v460 : Ref sig .tc := ⟨.hbm, 535, rfl⟩
abbrev main_cst_66 : Ref sig .tc := ⟨.hbm, 536, rfl⟩
abbrev main_v461 : Ref sig .tc := ⟨.hbm, 537, rfl⟩
abbrev main_v462 : Ref sig .tc := ⟨.hbm, 538, rfl⟩
abbrev main_v463 : Ref sig .tc := ⟨.hbm, 539, rfl⟩
abbrev main_v464 : Ref sig .tc := ⟨.hbm, 540, rfl⟩
abbrev main_v465 : Ref sig .tc := ⟨.hbm, 541, rfl⟩
abbrev main_cst_67 : Ref sig .tc := ⟨.hbm, 542, rfl⟩
abbrev main_v466 : Ref sig .tc := ⟨.hbm, 543, rfl⟩
abbrev main_v467 : Ref sig .tc := ⟨.hbm, 544, rfl⟩
abbrev main_cst_68 : Ref sig .tc := ⟨.hbm, 545, rfl⟩
abbrev main_v468 : Ref sig .tc := ⟨.hbm, 546, rfl⟩
abbrev main_cst_69 : Ref sig .tc := ⟨.hbm, 547, rfl⟩
abbrev main_v469 : Ref sig .tc := ⟨.hbm, 548, rfl⟩
abbrev main_v470 : Ref sig .tc := ⟨.hbm, 549, rfl⟩
abbrev main_v471 : Ref sig .tc := ⟨.hbm, 550, rfl⟩
abbrev main_cst_70 : Ref sig .tc := ⟨.hbm, 551, rfl⟩
abbrev main_v472 : Ref sig .tc := ⟨.hbm, 552, rfl⟩
abbrev main_v473 : Ref sig .tc := ⟨.hbm, 553, rfl⟩
abbrev main_v474 : Ref sig .tc := ⟨.hbm, 554, rfl⟩
abbrev main_v475 : Ref sig .tc := ⟨.hbm, 555, rfl⟩
abbrev main_v476 : Ref sig .tc := ⟨.hbm, 556, rfl⟩
abbrev main_cst_71 : Ref sig .tc := ⟨.hbm, 557, rfl⟩
abbrev main_v477 : Ref sig .tc := ⟨.hbm, 558, rfl⟩
abbrev main_v478 : Ref sig .tc := ⟨.hbm, 559, rfl⟩
abbrev main_cst_72 : Ref sig .tc := ⟨.hbm, 560, rfl⟩
abbrev main_v479 : Ref sig .tc := ⟨.hbm, 561, rfl⟩
abbrev main_cst_73 : Ref sig .tc := ⟨.hbm, 562, rfl⟩
abbrev main_v480 : Ref sig .tc := ⟨.hbm, 563, rfl⟩
abbrev main_v481 : Ref sig .tc := ⟨.hbm, 564, rfl⟩
abbrev main_v482 : Ref sig .tc := ⟨.hbm, 565, rfl⟩
abbrev main_cst_74 : Ref sig .tc := ⟨.hbm, 566, rfl⟩
abbrev main_v483 : Ref sig .tc := ⟨.hbm, 567, rfl⟩
abbrev main_v484 : Ref sig .tc := ⟨.hbm, 568, rfl⟩
abbrev main_v485 : Ref sig .tc := ⟨.hbm, 569, rfl⟩
abbrev main_v486 : Ref sig .tc := ⟨.hbm, 570, rfl⟩
abbrev main_v487 : Ref sig .tc := ⟨.hbm, 571, rfl⟩
abbrev main_cst_75 : Ref sig .tc := ⟨.hbm, 572, rfl⟩
abbrev main_v488 : Ref sig .tc := ⟨.hbm, 573, rfl⟩
abbrev main_v489 : Ref sig .tc := ⟨.hbm, 574, rfl⟩
abbrev main_cst_76 : Ref sig .tc := ⟨.hbm, 575, rfl⟩
abbrev main_v490 : Ref sig .tc := ⟨.hbm, 576, rfl⟩
abbrev main_cst_77 : Ref sig .tc := ⟨.hbm, 577, rfl⟩
abbrev main_v491 : Ref sig .tc := ⟨.hbm, 578, rfl⟩
abbrev main_v492 : Ref sig .tc := ⟨.hbm, 579, rfl⟩
abbrev main_v493 : Ref sig .tc := ⟨.hbm, 580, rfl⟩
abbrev main_cst_78 : Ref sig .tc := ⟨.hbm, 581, rfl⟩
abbrev main_v494 : Ref sig .tc := ⟨.hbm, 582, rfl⟩
abbrev main_v495 : Ref sig .tc := ⟨.hbm, 583, rfl⟩
abbrev main_v496 : Ref sig .tc := ⟨.hbm, 584, rfl⟩
abbrev main_v497 : Ref sig .tc := ⟨.hbm, 585, rfl⟩
abbrev main_v498 : Ref sig .tc := ⟨.hbm, 586, rfl⟩
abbrev main_cst_79 : Ref sig .tc := ⟨.hbm, 587, rfl⟩
abbrev main_v499 : Ref sig .tc := ⟨.hbm, 588, rfl⟩
abbrev main_v500 : Ref sig .tc := ⟨.hbm, 589, rfl⟩
abbrev main_cst_80 : Ref sig .tc := ⟨.hbm, 590, rfl⟩
abbrev main_v501 : Ref sig .tc := ⟨.hbm, 591, rfl⟩
abbrev main_cst_81 : Ref sig .tc := ⟨.hbm, 592, rfl⟩
abbrev main_v502 : Ref sig .tc := ⟨.hbm, 593, rfl⟩
abbrev main_v503 : Ref sig .tc := ⟨.hbm, 594, rfl⟩
abbrev main_v504 : Ref sig .tc := ⟨.hbm, 595, rfl⟩
abbrev main_cst_82 : Ref sig .tc := ⟨.hbm, 596, rfl⟩
abbrev main_v505 : Ref sig .tc := ⟨.hbm, 597, rfl⟩
abbrev main_v506 : Ref sig .tc := ⟨.hbm, 598, rfl⟩
abbrev main_v507 : Ref sig .tc := ⟨.hbm, 599, rfl⟩
abbrev main_v508 : Ref sig .tc := ⟨.hbm, 600, rfl⟩
abbrev main_v509 : Ref sig .tc := ⟨.hbm, 601, rfl⟩
abbrev main_cst_83 : Ref sig .tc := ⟨.hbm, 602, rfl⟩
abbrev main_v510 : Ref sig .tc := ⟨.hbm, 603, rfl⟩
abbrev main_v511 : Ref sig .tc := ⟨.hbm, 604, rfl⟩
abbrev main_cst_84 : Ref sig .tc := ⟨.hbm, 605, rfl⟩
abbrev main_v512 : Ref sig .tc := ⟨.hbm, 606, rfl⟩
abbrev main_cst_85 : Ref sig .tc := ⟨.hbm, 607, rfl⟩
abbrev main_v513 : Ref sig .tc := ⟨.hbm, 608, rfl⟩
abbrev main_v514 : Ref sig .tc := ⟨.hbm, 609, rfl⟩
abbrev main_v515 : Ref sig .tc := ⟨.hbm, 610, rfl⟩
abbrev main_cst_86 : Ref sig .tc := ⟨.hbm, 611, rfl⟩
abbrev main_v516 : Ref sig .tc := ⟨.hbm, 612, rfl⟩
abbrev main_v517 : Ref sig .tc := ⟨.hbm, 613, rfl⟩
abbrev main_v518 : Ref sig .tc := ⟨.hbm, 614, rfl⟩
abbrev main_v519 : Ref sig .tc := ⟨.hbm, 615, rfl⟩
abbrev main_v520 : Ref sig .tc := ⟨.hbm, 616, rfl⟩
abbrev main_cst_87 : Ref sig .tc := ⟨.hbm, 617, rfl⟩
abbrev main_v521 : Ref sig .tc := ⟨.hbm, 618, rfl⟩
abbrev main_v522 : Ref sig .tc := ⟨.hbm, 619, rfl⟩
abbrev main_cst_88 : Ref sig .tc := ⟨.hbm, 620, rfl⟩
abbrev main_v523 : Ref sig .tc := ⟨.hbm, 621, rfl⟩
abbrev main_cst_89 : Ref sig .tc := ⟨.hbm, 622, rfl⟩
abbrev main_v524 : Ref sig .tc := ⟨.hbm, 623, rfl⟩
abbrev main_v525 : Ref sig .tc := ⟨.hbm, 624, rfl⟩
abbrev main_v526 : Ref sig .tc := ⟨.hbm, 625, rfl⟩
abbrev main_cst_90 : Ref sig .tc := ⟨.hbm, 626, rfl⟩
abbrev main_v527 : Ref sig .tc := ⟨.hbm, 627, rfl⟩
abbrev main_v528 : Ref sig .tc := ⟨.hbm, 628, rfl⟩
abbrev main_v529 : Ref sig .tc := ⟨.hbm, 629, rfl⟩
abbrev main_v530 : Ref sig .tc := ⟨.hbm, 630, rfl⟩
abbrev main_v531 : Ref sig .tc := ⟨.hbm, 631, rfl⟩
abbrev main_cst_91 : Ref sig .tc := ⟨.hbm, 632, rfl⟩
abbrev main_v532 : Ref sig .tc := ⟨.hbm, 633, rfl⟩
abbrev main_v533 : Ref sig .tc := ⟨.hbm, 634, rfl⟩
abbrev main_cst_92 : Ref sig .tc := ⟨.hbm, 635, rfl⟩
abbrev main_v534 : Ref sig .tc := ⟨.hbm, 636, rfl⟩
abbrev main_cst_93 : Ref sig .tc := ⟨.hbm, 637, rfl⟩
abbrev main_v535 : Ref sig .tc := ⟨.hbm, 638, rfl⟩
abbrev main_v536 : Ref sig .tc := ⟨.hbm, 639, rfl⟩
abbrev main_v537 : Ref sig .tc := ⟨.hbm, 640, rfl⟩
abbrev main_cst_94 : Ref sig .tc := ⟨.hbm, 641, rfl⟩
abbrev main_v538 : Ref sig .tc := ⟨.hbm, 642, rfl⟩
abbrev main_v539 : Ref sig .tc := ⟨.hbm, 643, rfl⟩
abbrev main_v540 : Ref sig .tc := ⟨.hbm, 644, rfl⟩
abbrev main_v541 : Ref sig .tc := ⟨.hbm, 645, rfl⟩
abbrev main_v542 : Ref sig .tc := ⟨.hbm, 646, rfl⟩
abbrev main_cst_95 : Ref sig .tc := ⟨.hbm, 647, rfl⟩
abbrev main_v543 : Ref sig .tc := ⟨.hbm, 648, rfl⟩
abbrev main_v544 : Ref sig .tc := ⟨.hbm, 649, rfl⟩
abbrev main_cst_96 : Ref sig .tc := ⟨.hbm, 650, rfl⟩
abbrev main_v545 : Ref sig .tc := ⟨.hbm, 651, rfl⟩
abbrev main_cst_97 : Ref sig .tc := ⟨.hbm, 652, rfl⟩
abbrev main_v546 : Ref sig .tc := ⟨.hbm, 653, rfl⟩
abbrev main_v547 : Ref sig .tc := ⟨.hbm, 654, rfl⟩
abbrev main_v548 : Ref sig .tc := ⟨.hbm, 655, rfl⟩
abbrev main_cst_98 : Ref sig .tc := ⟨.hbm, 656, rfl⟩
abbrev main_v549 : Ref sig .tc := ⟨.hbm, 657, rfl⟩
abbrev main_v550 : Ref sig .tc := ⟨.hbm, 658, rfl⟩
abbrev main_v551 : Ref sig .tc := ⟨.hbm, 659, rfl⟩
abbrev main_v552 : Ref sig .tc := ⟨.hbm, 660, rfl⟩
abbrev main_v553 : Ref sig .tc := ⟨.hbm, 661, rfl⟩
abbrev main_cst_99 : Ref sig .tc := ⟨.hbm, 662, rfl⟩
abbrev main_v554 : Ref sig .tc := ⟨.hbm, 663, rfl⟩
abbrev main_v555 : Ref sig .tc := ⟨.hbm, 664, rfl⟩
abbrev main_cst_100 : Ref sig .tc := ⟨.hbm, 665, rfl⟩
abbrev main_v556 : Ref sig .tc := ⟨.hbm, 666, rfl⟩
abbrev main_cst_101 : Ref sig .tc := ⟨.hbm, 667, rfl⟩
abbrev main_v557 : Ref sig .tc := ⟨.hbm, 668, rfl⟩
abbrev main_v558 : Ref sig .tc := ⟨.hbm, 669, rfl⟩
abbrev main_v559 : Ref sig .tc := ⟨.hbm, 670, rfl⟩
abbrev main_cst_102 : Ref sig .tc := ⟨.hbm, 671, rfl⟩
abbrev main_v560 : Ref sig .tc := ⟨.hbm, 672, rfl⟩
abbrev main_v561 : Ref sig .tc := ⟨.hbm, 673, rfl⟩
abbrev main_v562 : Ref sig .tc := ⟨.hbm, 674, rfl⟩
abbrev main_v563 : Ref sig .tc := ⟨.hbm, 675, rfl⟩
abbrev main_v564 : Ref sig .tc := ⟨.hbm, 676, rfl⟩
abbrev main_cst_103 : Ref sig .tc := ⟨.hbm, 677, rfl⟩
abbrev main_v565 : Ref sig .tc := ⟨.hbm, 678, rfl⟩
abbrev main_v566 : Ref sig .tc := ⟨.hbm, 679, rfl⟩
abbrev main_cst_104 : Ref sig .tc := ⟨.hbm, 680, rfl⟩
abbrev main_v567 : Ref sig .tc := ⟨.hbm, 681, rfl⟩
abbrev main_cst_105 : Ref sig .tc := ⟨.hbm, 682, rfl⟩
abbrev main_v568 : Ref sig .tc := ⟨.hbm, 683, rfl⟩
abbrev main_v569 : Ref sig .tc := ⟨.hbm, 684, rfl⟩
abbrev main_v570 : Ref sig .tc := ⟨.hbm, 685, rfl⟩
abbrev main_cst_106 : Ref sig .tc := ⟨.hbm, 686, rfl⟩
abbrev main_v571 : Ref sig .tc := ⟨.hbm, 687, rfl⟩
abbrev main_v572 : Ref sig .tc := ⟨.hbm, 688, rfl⟩
abbrev main_v573 : Ref sig .tc := ⟨.hbm, 689, rfl⟩
abbrev main_v574 : Ref sig .tc := ⟨.hbm, 690, rfl⟩
abbrev main_v575 : Ref sig .tc := ⟨.hbm, 691, rfl⟩
abbrev main_cst_107 : Ref sig .tc := ⟨.hbm, 692, rfl⟩
abbrev main_v576 : Ref sig .tc := ⟨.hbm, 693, rfl⟩
abbrev main_v577 : Ref sig .tc := ⟨.hbm, 694, rfl⟩
abbrev main_cst_108 : Ref sig .tc := ⟨.hbm, 695, rfl⟩
abbrev main_v578 : Ref sig .tc := ⟨.hbm, 696, rfl⟩
abbrev main_cst_109 : Ref sig .tc := ⟨.hbm, 697, rfl⟩
abbrev main_v579 : Ref sig .tc := ⟨.hbm, 698, rfl⟩
abbrev main_v580 : Ref sig .tc := ⟨.hbm, 699, rfl⟩
abbrev main_v581 : Ref sig .tc := ⟨.hbm, 700, rfl⟩
abbrev main_cst_110 : Ref sig .tc := ⟨.hbm, 701, rfl⟩
abbrev main_v582 : Ref sig .tc := ⟨.hbm, 702, rfl⟩
abbrev main_v583 : Ref sig .tc := ⟨.hbm, 703, rfl⟩
abbrev main_v584 : Ref sig .tc := ⟨.hbm, 704, rfl⟩
abbrev main_v585 : Ref sig .tc := ⟨.hbm, 705, rfl⟩
abbrev main_v586 : Ref sig .tc := ⟨.hbm, 706, rfl⟩
abbrev main_cst_111 : Ref sig .tc := ⟨.hbm, 707, rfl⟩
abbrev main_v587 : Ref sig .tc := ⟨.hbm, 708, rfl⟩
abbrev main_v588 : Ref sig .tc := ⟨.hbm, 709, rfl⟩
abbrev main_cst_112 : Ref sig .tc := ⟨.hbm, 710, rfl⟩
abbrev main_v589 : Ref sig .tc := ⟨.hbm, 711, rfl⟩
abbrev main_cst_113 : Ref sig .tc := ⟨.hbm, 712, rfl⟩
abbrev main_v590 : Ref sig .tc := ⟨.hbm, 713, rfl⟩
abbrev main_v591 : Ref sig .tc := ⟨.hbm, 714, rfl⟩
abbrev main_v592 : Ref sig .tc := ⟨.hbm, 715, rfl⟩
abbrev main_cst_114 : Ref sig .tc := ⟨.hbm, 716, rfl⟩
abbrev main_v593 : Ref sig .tc := ⟨.hbm, 717, rfl⟩
abbrev main_v594 : Ref sig .tc := ⟨.hbm, 718, rfl⟩
abbrev main_v595 : Ref sig .tc := ⟨.hbm, 719, rfl⟩
abbrev main_v596 : Ref sig .tc := ⟨.hbm, 720, rfl⟩
abbrev main_v597 : Ref sig .tc := ⟨.hbm, 721, rfl⟩
abbrev main_cst_115 : Ref sig .tc := ⟨.hbm, 722, rfl⟩
abbrev main_v598 : Ref sig .tc := ⟨.hbm, 723, rfl⟩
abbrev main_v599 : Ref sig .tc := ⟨.hbm, 724, rfl⟩
abbrev main_cst_116 : Ref sig .tc := ⟨.hbm, 725, rfl⟩
abbrev main_v600 : Ref sig .tc := ⟨.hbm, 726, rfl⟩
abbrev main_cst_117 : Ref sig .tc := ⟨.hbm, 727, rfl⟩
abbrev main_v601 : Ref sig .tc := ⟨.hbm, 728, rfl⟩
abbrev main_v602 : Ref sig .tc := ⟨.hbm, 729, rfl⟩
abbrev main_v603 : Ref sig .tc := ⟨.hbm, 730, rfl⟩
abbrev main_cst_118 : Ref sig .tc := ⟨.hbm, 731, rfl⟩
abbrev main_v604 : Ref sig .tc := ⟨.hbm, 732, rfl⟩
abbrev main_v605 : Ref sig .tc := ⟨.hbm, 733, rfl⟩
abbrev main_v606 : Ref sig .tc := ⟨.hbm, 734, rfl⟩
abbrev main_v607 : Ref sig .tc := ⟨.hbm, 735, rfl⟩
abbrev main_v608 : Ref sig .tc := ⟨.hbm, 736, rfl⟩
abbrev main_cst_119 : Ref sig .tc := ⟨.hbm, 737, rfl⟩
abbrev main_v609 : Ref sig .tc := ⟨.hbm, 738, rfl⟩
abbrev main_v610 : Ref sig .tc := ⟨.hbm, 739, rfl⟩
abbrev main_cst_120 : Ref sig .tc := ⟨.hbm, 740, rfl⟩
abbrev main_v611 : Ref sig .tc := ⟨.hbm, 741, rfl⟩
abbrev main_cst_121 : Ref sig .tc := ⟨.hbm, 742, rfl⟩
abbrev main_v612 : Ref sig .tc := ⟨.hbm, 743, rfl⟩
abbrev main_v613 : Ref sig .tc := ⟨.hbm, 744, rfl⟩
abbrev main_v614 : Ref sig .tc := ⟨.hbm, 745, rfl⟩
abbrev main_cst_122 : Ref sig .tc := ⟨.hbm, 746, rfl⟩
abbrev main_v615 : Ref sig .tc := ⟨.hbm, 747, rfl⟩
abbrev main_v616 : Ref sig .tc := ⟨.hbm, 748, rfl⟩
abbrev main_v617 : Ref sig .tc := ⟨.hbm, 749, rfl⟩
abbrev main_v618 : Ref sig .tc := ⟨.hbm, 750, rfl⟩
abbrev main_v619 : Ref sig .tc := ⟨.hbm, 751, rfl⟩
abbrev main_cst_123 : Ref sig .tc := ⟨.hbm, 752, rfl⟩
abbrev main_v620 : Ref sig .tc := ⟨.hbm, 753, rfl⟩
abbrev main_v621 : Ref sig .tc := ⟨.hbm, 754, rfl⟩
abbrev main_cst_124 : Ref sig .tc := ⟨.hbm, 755, rfl⟩
abbrev main_v622 : Ref sig .tc := ⟨.hbm, 756, rfl⟩
abbrev main_cst_125 : Ref sig .tc := ⟨.hbm, 757, rfl⟩
abbrev main_v623 : Ref sig .tc := ⟨.hbm, 758, rfl⟩
abbrev main_v624 : Ref sig .tc := ⟨.hbm, 759, rfl⟩
abbrev main_v625 : Ref sig .tc := ⟨.hbm, 760, rfl⟩
abbrev main_cst_126 : Ref sig .tc := ⟨.hbm, 761, rfl⟩
abbrev main_v626 : Ref sig .tc := ⟨.hbm, 762, rfl⟩
abbrev main_v627 : Ref sig .tc := ⟨.hbm, 763, rfl⟩
abbrev main_v628 : Ref sig .tc := ⟨.hbm, 764, rfl⟩
abbrev main_v629 : Ref sig .tc := ⟨.hbm, 765, rfl⟩
abbrev main_v630 : Ref sig .tc := ⟨.hbm, 766, rfl⟩
abbrev main_cst_127 : Ref sig .tc := ⟨.hbm, 767, rfl⟩
abbrev main_v631 : Ref sig .tc := ⟨.hbm, 768, rfl⟩
abbrev main_v632 : Ref sig .tc := ⟨.hbm, 769, rfl⟩
abbrev main_cst_128 : Ref sig .tc := ⟨.hbm, 770, rfl⟩
abbrev main_v633 : Ref sig .tc := ⟨.hbm, 771, rfl⟩
abbrev main_cst_129 : Ref sig .tc := ⟨.hbm, 772, rfl⟩
abbrev main_v634 : Ref sig .tc := ⟨.hbm, 773, rfl⟩
abbrev main_v635 : Ref sig .tc := ⟨.hbm, 774, rfl⟩
abbrev main_v636 : Ref sig .tc := ⟨.hbm, 775, rfl⟩
abbrev main_cst_130 : Ref sig .tc := ⟨.hbm, 776, rfl⟩
abbrev main_v637 : Ref sig .tc := ⟨.hbm, 777, rfl⟩
abbrev main_v638 : Ref sig .tc := ⟨.hbm, 778, rfl⟩
abbrev main_v639 : Ref sig .tc := ⟨.hbm, 779, rfl⟩
abbrev main_v640 : Ref sig .tc := ⟨.hbm, 780, rfl⟩
abbrev main_v641 : Ref sig .tc := ⟨.hbm, 781, rfl⟩
abbrev main_cst_131 : Ref sig .tc := ⟨.hbm, 782, rfl⟩
abbrev main_v642 : Ref sig .tc := ⟨.hbm, 783, rfl⟩
abbrev main_v643 : Ref sig .tc := ⟨.hbm, 784, rfl⟩
abbrev main_cst_132 : Ref sig .tc := ⟨.hbm, 785, rfl⟩
abbrev main_v644 : Ref sig .tc := ⟨.hbm, 786, rfl⟩
abbrev main_cst_133 : Ref sig .tc := ⟨.hbm, 787, rfl⟩
abbrev main_v645 : Ref sig .tc := ⟨.hbm, 788, rfl⟩
abbrev main_v646 : Ref sig .tc := ⟨.hbm, 789, rfl⟩
abbrev main_v647 : Ref sig .tc := ⟨.hbm, 790, rfl⟩
abbrev main_cst_134 : Ref sig .tc := ⟨.hbm, 791, rfl⟩
abbrev main_v648 : Ref sig .tc := ⟨.hbm, 792, rfl⟩
abbrev main_v649 : Ref sig .tc := ⟨.hbm, 793, rfl⟩
abbrev main_v650 : Ref sig .tc := ⟨.hbm, 794, rfl⟩
abbrev main_v651 : Ref sig .tc := ⟨.hbm, 795, rfl⟩
abbrev main_v652 : Ref sig .tc := ⟨.hbm, 796, rfl⟩
abbrev main_cst_135 : Ref sig .tc := ⟨.hbm, 797, rfl⟩
abbrev main_v653 : Ref sig .tc := ⟨.hbm, 798, rfl⟩
abbrev main_v654 : Ref sig .tc := ⟨.hbm, 799, rfl⟩
abbrev main_cst_136 : Ref sig .tc := ⟨.hbm, 800, rfl⟩
abbrev main_v655 : Ref sig .tc := ⟨.hbm, 801, rfl⟩
abbrev main_cst_137 : Ref sig .tc := ⟨.hbm, 802, rfl⟩
abbrev main_v656 : Ref sig .tc := ⟨.hbm, 803, rfl⟩
abbrev main_v657 : Ref sig .tc := ⟨.hbm, 804, rfl⟩
abbrev main_v658 : Ref sig .tc := ⟨.hbm, 805, rfl⟩
abbrev main_cst_138 : Ref sig .tc := ⟨.hbm, 806, rfl⟩
abbrev main_v659 : Ref sig .tc := ⟨.hbm, 807, rfl⟩
abbrev main_v660 : Ref sig .tc := ⟨.hbm, 808, rfl⟩
abbrev main_v661 : Ref sig .tc := ⟨.hbm, 809, rfl⟩
abbrev main_v662 : Ref sig .tc := ⟨.hbm, 810, rfl⟩
abbrev main_v663 : Ref sig .tc := ⟨.hbm, 811, rfl⟩
abbrev main_cst_139 : Ref sig .tc := ⟨.hbm, 812, rfl⟩
abbrev main_v664 : Ref sig .tc := ⟨.hbm, 813, rfl⟩
abbrev main_v665 : Ref sig .tc := ⟨.hbm, 814, rfl⟩
abbrev main_cst_140 : Ref sig .tc := ⟨.hbm, 815, rfl⟩
abbrev main_v666 : Ref sig .tc := ⟨.hbm, 816, rfl⟩
abbrev main_cst_141 : Ref sig .tc := ⟨.hbm, 817, rfl⟩
abbrev main_v667 : Ref sig .tc := ⟨.hbm, 818, rfl⟩
abbrev main_v668 : Ref sig .tc := ⟨.hbm, 819, rfl⟩
abbrev main_v669 : Ref sig .tc := ⟨.hbm, 820, rfl⟩
abbrev main_cst_142 : Ref sig .tc := ⟨.hbm, 821, rfl⟩
abbrev main_v670 : Ref sig .tc := ⟨.hbm, 822, rfl⟩
abbrev main_v671 : Ref sig .tc := ⟨.hbm, 823, rfl⟩
abbrev main_v672 : Ref sig .tc := ⟨.hbm, 824, rfl⟩
abbrev main_v673 : Ref sig .tc := ⟨.hbm, 825, rfl⟩
abbrev main_v674 : Ref sig .tc := ⟨.hbm, 826, rfl⟩
abbrev main_cst_143 : Ref sig .tc := ⟨.hbm, 827, rfl⟩
abbrev main_v675 : Ref sig .tc := ⟨.hbm, 828, rfl⟩
abbrev main_v676 : Ref sig .tc := ⟨.hbm, 829, rfl⟩
abbrev main_cst_144 : Ref sig .tc := ⟨.hbm, 830, rfl⟩
abbrev main_v677 : Ref sig .tc := ⟨.hbm, 831, rfl⟩
abbrev main_cst_145 : Ref sig .tc := ⟨.hbm, 832, rfl⟩
abbrev main_v678 : Ref sig .tc := ⟨.hbm, 833, rfl⟩
abbrev main_v679 : Ref sig .tc := ⟨.hbm, 834, rfl⟩
abbrev main_v680 : Ref sig .tc := ⟨.hbm, 835, rfl⟩
abbrev main_cst_146 : Ref sig .tc := ⟨.hbm, 836, rfl⟩
abbrev main_v681 : Ref sig .tc := ⟨.hbm, 837, rfl⟩
abbrev main_v682 : Ref sig .tc := ⟨.hbm, 838, rfl⟩
abbrev main_v683 : Ref sig .tc := ⟨.hbm, 839, rfl⟩
abbrev main_v684 : Ref sig .tc := ⟨.hbm, 840, rfl⟩
abbrev main_v685 : Ref sig .tc := ⟨.hbm, 841, rfl⟩
abbrev main_cst_147 : Ref sig .tc := ⟨.hbm, 842, rfl⟩
abbrev main_v686 : Ref sig .tc := ⟨.hbm, 843, rfl⟩
abbrev main_v687 : Ref sig .tc := ⟨.hbm, 844, rfl⟩
abbrev main_cst_148 : Ref sig .tc := ⟨.hbm, 845, rfl⟩
abbrev main_v688 : Ref sig .tc := ⟨.hbm, 846, rfl⟩
abbrev main_cst_149 : Ref sig .tc := ⟨.hbm, 847, rfl⟩
abbrev main_v689 : Ref sig .tc := ⟨.hbm, 848, rfl⟩
abbrev main_v690 : Ref sig .tc := ⟨.hbm, 849, rfl⟩
abbrev main_v691 : Ref sig .tc := ⟨.hbm, 850, rfl⟩
abbrev main_cst_150 : Ref sig .tc := ⟨.hbm, 851, rfl⟩
abbrev main_v692 : Ref sig .tc := ⟨.hbm, 852, rfl⟩
abbrev main_v693 : Ref sig .tc := ⟨.hbm, 853, rfl⟩
abbrev main_v694 : Ref sig .tc := ⟨.hbm, 854, rfl⟩
abbrev main_v695 : Ref sig .tc := ⟨.hbm, 855, rfl⟩
abbrev main_v696 : Ref sig .tc := ⟨.hbm, 856, rfl⟩
abbrev main_v697 : Ref sig .tc := ⟨.hbm, 857, rfl⟩
abbrev main_v698 : Ref sig .tc := ⟨.hbm, 858, rfl⟩
abbrev main_v699 : Ref sig .tc := ⟨.hbm, 859, rfl⟩
abbrev main_v700 : Ref sig .tc := ⟨.hbm, 860, rfl⟩
abbrev main_v701 : Ref sig .tc := ⟨.hbm, 861, rfl⟩
abbrev main_cst_151 : Ref sig .tc := ⟨.hbm, 862, rfl⟩
abbrev main_v702 : Ref sig .tc := ⟨.hbm, 863, rfl⟩
abbrev main_v703 : Ref sig .tc := ⟨.hbm, 864, rfl⟩
abbrev main_cst_152 : Ref sig .tc := ⟨.hbm, 865, rfl⟩
abbrev main_v704 : Ref sig .tc := ⟨.hbm, 866, rfl⟩
abbrev main_cst_153 : Ref sig .tc := ⟨.hbm, 867, rfl⟩
abbrev main_v705 : Ref sig .tc := ⟨.hbm, 868, rfl⟩
abbrev main_v706 : Ref sig .tc := ⟨.hbm, 869, rfl⟩
abbrev main_cst_154 : Ref sig .tc := ⟨.hbm, 870, rfl⟩
abbrev main_v707 : Ref sig .tc := ⟨.hbm, 871, rfl⟩
abbrev main_v708 : Ref sig .tc := ⟨.hbm, 872, rfl⟩
abbrev main_v709 : Ref sig .tc := ⟨.hbm, 873, rfl⟩
abbrev main_v710 : Ref sig .tc := ⟨.hbm, 874, rfl⟩
abbrev main_cst_155 : Ref sig .tc := ⟨.hbm, 875, rfl⟩
abbrev main_v711 : Ref sig .tc := ⟨.hbm, 876, rfl⟩
abbrev main_v712 : Ref sig .tc := ⟨.hbm, 877, rfl⟩
abbrev main_cst_156 : Ref sig .tc := ⟨.hbm, 878, rfl⟩
abbrev main_v713 : Ref sig .tc := ⟨.hbm, 879, rfl⟩
abbrev main_cst_157 : Ref sig .tc := ⟨.hbm, 880, rfl⟩
abbrev main_v714 : Ref sig .tc := ⟨.hbm, 881, rfl⟩
abbrev main_v715 : Ref sig .tc := ⟨.hbm, 882, rfl⟩
abbrev main_v716 : Ref sig .tc := ⟨.hbm, 883, rfl⟩
abbrev main_cst_158 : Ref sig .tc := ⟨.hbm, 884, rfl⟩
abbrev main_v717 : Ref sig .tc := ⟨.hbm, 885, rfl⟩
abbrev main_v718 : Ref sig .tc := ⟨.hbm, 886, rfl⟩
abbrev main_v719 : Ref sig .tc := ⟨.hbm, 887, rfl⟩
abbrev main_v720 : Ref sig .tc := ⟨.hbm, 888, rfl⟩
abbrev main_v721 : Ref sig .tc := ⟨.hbm, 889, rfl⟩
abbrev main_cst_159 : Ref sig .tc := ⟨.hbm, 890, rfl⟩
abbrev main_v722 : Ref sig .tc := ⟨.hbm, 891, rfl⟩
abbrev main_v723 : Ref sig .tc := ⟨.hbm, 892, rfl⟩
abbrev main_cst_160 : Ref sig .tc := ⟨.hbm, 893, rfl⟩
abbrev main_v724 : Ref sig .tc := ⟨.hbm, 894, rfl⟩
abbrev main_cst_161 : Ref sig .tc := ⟨.hbm, 895, rfl⟩
abbrev main_v725 : Ref sig .tc := ⟨.hbm, 896, rfl⟩
abbrev main_v726 : Ref sig .tc := ⟨.hbm, 897, rfl⟩
abbrev main_v727 : Ref sig .tc := ⟨.hbm, 898, rfl⟩
abbrev main_cst_162 : Ref sig .tc := ⟨.hbm, 899, rfl⟩
abbrev main_v728 : Ref sig .tc := ⟨.hbm, 900, rfl⟩
abbrev main_v729 : Ref sig .tc := ⟨.hbm, 901, rfl⟩
abbrev main_v730 : Ref sig .tc := ⟨.hbm, 902, rfl⟩
abbrev main_v731 : Ref sig .tc := ⟨.hbm, 903, rfl⟩
abbrev main_v732 : Ref sig .tc := ⟨.hbm, 904, rfl⟩
abbrev main_v733 : Ref sig .tc := ⟨.hbm, 905, rfl⟩
abbrev main_v734 : Ref sig .tc := ⟨.hbm, 906, rfl⟩
abbrev main_c : Ref sig .tc := ⟨.hbm, 907, rfl⟩
abbrev main_call0_v0 : Ref sig .tc := ⟨.hbm, 908, rfl⟩
abbrev main_v735 : Ref sig .tc := ⟨.hbm, 909, rfl⟩
abbrev main_v736 : Ref sig .tc := ⟨.hbm, 910, rfl⟩
abbrev main_c_163 : Ref sig .tc := ⟨.hbm, 911, rfl⟩
abbrev main_call1_v0 : Ref sig .tc := ⟨.hbm, 912, rfl⟩
abbrev main_v737 : Ref sig .tc := ⟨.hbm, 913, rfl⟩
abbrev main_c_164 : Ref sig .tc := ⟨.hbm, 914, rfl⟩
abbrev main_call2_v0 : Ref sig .tc := ⟨.hbm, 915, rfl⟩
abbrev main_v738 : Ref sig .tc := ⟨.hbm, 916, rfl⟩
abbrev main_c_165 : Ref sig .tc := ⟨.hbm, 917, rfl⟩
abbrev main_call3_v0 : Ref sig .tc := ⟨.hbm, 918, rfl⟩
abbrev main_v739 : Ref sig .tc := ⟨.hbm, 919, rfl⟩

abbrev nD : Nat := 1
abbrev τ : Topo := Topo.v7x

variable {F : FTy → Type} [FloatOps F]
-- ==== NormIn.lean ====
abbrev S4096x1024 : Shape := ⟨2, ![4096, 1024]⟩
abbrev S1024 : Shape := ⟨1, ![1024]⟩
abbrev S1024x3336 : Shape := ⟨2, ![1024, 3336]⟩
abbrev S_ : Shape := ⟨0, ![]⟩
abbrev S1024x3456 : Shape := ⟨2, ![1024, 3456]⟩
abbrev S1x1024 : Shape := ⟨2, ![1, 1024]⟩
abbrev S4096x3456 : Shape := ⟨2, ![4096, 3456]⟩
abbrev S512x1024 : Shape := ⟨2, ![512, 1024]⟩
abbrev S512x3456 : Shape := ⟨2, ![512, 3456]⟩
abbrev S512 : Shape := ⟨1, ![512]⟩
abbrev S512x1 : Shape := ⟨2, ![512, 1]⟩

abbrev nBuf : Space → Nat
  | .hbm => 14
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3336, .f32⟩
  | .hbm, ⟨5, _⟩ => ⟨S_, .i32⟩
  | .hbm, ⟨6, _⟩ => ⟨S_, .f32⟩
  | .hbm, ⟨7, _⟩ => ⟨S1024x3456, .f32⟩
  | .hbm, ⟨8, _⟩ => ⟨S1024x3456, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x3456, .f32⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3456, .bf16⟩
  | .local _ .vmem, ⟨6, _⟩ => ⟨S512x3456, .f32⟩
  | .local _ .vmem, ⟨7, _⟩ => ⟨S512x3456, .f32⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3456 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormInRefIdeal.lean ====
abbrev S4096x1024 : Shape := ⟨2, ![4096, 1024]⟩
abbrev S1024 : Shape := ⟨1, ![1024]⟩
abbrev S1024x3336 : Shape := ⟨2, ![1024, 3336]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3336 : Shape := ⟨2, ![4096, 3336]⟩
abbrev S4096x3456 : Shape := ⟨2, ![4096, 3456]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x3336, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x3336, .f32⟩
  | .hbm, ⟨31, _⟩ => ⟨S_, .i32⟩
  | .hbm, ⟨32, _⟩ => ⟨S_, .f32⟩
  | .hbm, ⟨33, _⟩ => ⟨S4096x3456, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== NormFf.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S5632x1024 : Shape := ⟨2, ![5632, 1024]⟩
abbrev S4096x5632 : Shape := ⟨2, ![4096, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S5632x1024, .f32⟩
  | .hbm, ⟨9, _⟩ => ⟨S5632x1024, .bf16⟩
  | .hbm, ⟨10, _⟩ => ⟨S4096x5632, .bf16⟩
  | .hbm, ⟨11, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S5632x1024, .bf16⟩
  | .local _ .vmem, ⟨6, _⟩ => ⟨S512x5632, .bf16⟩
  | .local _ .vmem, ⟨7, _⟩ => ⟨S512x5632, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x5632 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormFfRefIdeal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x5632, .f32⟩
  | .hbm, ⟨31, _⟩ => ⟨S4096x5632, .bf16⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== FfnOut.lean ====
abbrev S4096x1024 : Shape := ⟨2, ![4096, 1024]⟩
abbrev S4096x5632 : Shape := ⟨2, ![4096, 5632]⟩
abbrev S1024 : Shape := ⟨1, ![1024]⟩
abbrev S2816x1024 : Shape := ⟨2, ![2816, 1024]⟩
abbrev S1x1024 : Shape := ⟨2, ![1, 1024]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024, .f32⟩
  | .hbm, ⟨3, _⟩ => ⟨S2816x1024, .f32⟩
  | .hbm, ⟨4, _⟩ => ⟨S4096x5632, .bf16⟩
  | .hbm, ⟨5, _⟩ => ⟨S1x1024, .f32⟩
  | .hbm, ⟨6, _⟩ => ⟨S2816x1024, .bf16⟩
  | .hbm, ⟨7, _⟩ => ⟨S4096x1024, .f32⟩
  | .hbm, ⟨8, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .bf16⟩
  | .local _ .vmem, ⟨3, _⟩ => ⟨S256x5632, .bf16⟩
  | .local _ .vmem, ⟨4, _⟩ => ⟨S1x1024, .f32⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnOutRefIdeal.lean ====
abbrev S4096x1024 : Shape := ⟨2, ![4096, 1024]⟩
abbrev S4096x5632 : Shape := ⟨2, ![4096, 5632]⟩
abbrev S1024 : Shape := ⟨1, ![1024]⟩
abbrev S2816x1024 : Shape := ⟨2, ![2816, 1024]⟩
abbrev S4096x2816 : Shape := ⟨2, ![4096, 2816]⟩
abbrev S_ : Shape := ⟨0, ![]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1024, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]
-- ==== Mixer.lean ====
abbrev S4096x1024 : Shape := ⟨2, ![4096, 1024]⟩
abbrev S4096x512 : Shape := ⟨2, ![4096, 512]⟩
abbrev S4096x3336 : Shape := ⟨2, ![4096, 3336]⟩
abbrev S1024 : Shape := ⟨1, ![1024]⟩
abbrev S128 : Shape := ⟨1, ![128]⟩
abbrev S1024x1024 : Shape := ⟨2, ![1024, 1024]⟩
abbrev S_ : Shape := ⟨0, ![]⟩
abbrev S4096x3456 : Shape := ⟨2, ![4096, 3456]⟩
abbrev S1x1024 : Shape := ⟨2, ![1, 1024]⟩
abbrev S1x128 : Shape := ⟨2, ![1, 128]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 17
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x3336, .f32⟩
  | .hbm, ⟨3, _⟩ => ⟨S4096x512, .f32⟩
  | .hbm, ⟨4, _⟩ => ⟨S1024, .f32⟩
  | .hbm, ⟨5, _⟩ => ⟨S128, .f32⟩
  | .hbm, ⟨6, _⟩ => ⟨S1024x1024, .f32⟩
  | .hbm, ⟨7, _⟩ => ⟨S_, .i32⟩
  | .hbm, ⟨8, _⟩ => ⟨S_, .f32⟩
  | .hbm, ⟨9, _⟩ => ⟨S4096x3456, .f32⟩
  | .hbm, ⟨10, _⟩ => ⟨S4096x512, .bf16⟩
  | .hbm, ⟨11, _⟩ => ⟨S1x1024, .f32⟩
  | .hbm, ⟨12, _⟩ => ⟨S1x128, .f32⟩
  | .hbm, ⟨13, _⟩ => ⟨S1024x1024, .bf16⟩
  | .hbm, ⟨14, _⟩ => ⟨S4096x1024, .f32⟩
  | .hbm, ⟨15, _⟩ => ⟨S4096x1024, .f32⟩
  | .hbm, ⟨16, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S1x1024, .f32⟩
  | .local _ .vmem, ⟨15, _⟩ => ⟨S1x128, .f32⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c22_i32 : BitVec 32 := 22#32
  let c0_i32_0 : BitVec 32 := 0#32
  ![v0.toNat, c22_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c23_i32 : BitVec 32 := 23#32
  let c0_i32_0 : BitVec 32 := 0#32
  ![v0.toNat, c23_i32.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c24_i32 : BitVec 32 := 24#32
  let c0_i32_0 : BitVec 32 := 0#32
  ![v0.toNat, c24_i32.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c25_i32 : BitVec 32 := 25#32
  let c0_i32_0 : BitVec 32 := 0#32
  ![v0.toNat, c25_i32.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixerRefIdeal.lean ====
abbrev S4096x1024 : Shape := ⟨2, ![4096, 1024]⟩
abbrev S4096x512 : Shape := ⟨2, ![4096, 512]⟩
abbrev S4096x3336 : Shape := ⟨2, ![4096, 3336]⟩
abbrev S1024 : Shape := ⟨1, ![1024]⟩
abbrev S128 : Shape := ⟨1, ![128]⟩
abbrev S1024x1024 : Shape := ⟨2, ![1024, 1024]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x3336, .f32⟩
  | .hbm, ⟨3, _⟩ => ⟨S4096x512, .f32⟩
  | .hbm, ⟨4, _⟩ => ⟨S1024, .f32⟩
  | .hbm, ⟨5, _⟩ => ⟨S128, .f32⟩
  | .hbm, ⟨6, _⟩ => ⟨S1024x1024, .f32⟩
  | .hbm, ⟨7, _⟩ => ⟨S4096x4x128, .f32⟩
  | .hbm, ⟨8, _⟩ => ⟨S4096x512, .f32⟩
  | .hbm, ⟨9, _⟩ => ⟨S4096x4x128, .f32⟩
  | .hbm, ⟨10, _⟩ => ⟨S4096x4x128, .f32⟩
  | .hbm, ⟨11, _⟩ => ⟨S_, .f32⟩
  | .hbm, ⟨12, _⟩ => ⟨S4096x4, .f32⟩
  | .hbm, ⟨13, _⟩ => ⟨S4096x4x1, .f32⟩
  | .hbm, ⟨14, _⟩ => ⟨S_, .f32⟩
  | .hbm, ⟨15, _⟩ => ⟨S4096x4x1, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S4096x4x1, .f32⟩
  | .hbm, ⟨21, _⟩ => ⟨S4096x4x128, .f32⟩
  | .hbm, ⟨22, _⟩ => ⟨S4096x4x128, .f32⟩
  | .hbm, ⟨23, _⟩ => ⟨S1x1x128, .f32⟩
  | .hbm, ⟨24, _⟩ => ⟨S4096x4x128, .f32⟩
  | .hbm, ⟨25, _⟩ => ⟨S4096x4x128, .f32⟩
  | .hbm, ⟨26, _⟩ => ⟨S4096x4x128, .f32⟩
  | .hbm, ⟨27, _⟩ => ⟨S4096x4x128, .f32⟩
  | .hbm, ⟨28, _⟩ => ⟨S_, .f32⟩
  | .hbm, ⟨29, _⟩ => ⟨S4096x4x128, .f32⟩
  | .hbm, ⟨30, _⟩ => ⟨S4096x4x128, .f32⟩
  | .hbm, ⟨31, _⟩ => ⟨S_, .f32⟩
  | .hbm, ⟨32, _⟩ => ⟨S4096x4x128, .f32⟩
  | .hbm, ⟨33, _⟩ => ⟨S4096x4x128, .f32⟩
  | .hbm, ⟨34, _⟩ => ⟨S4096x4x128, .f32⟩
  | .hbm, ⟨35, _⟩ => ⟨S4096x4x128, .f32⟩
  | .hbm, ⟨36, _⟩ => ⟨S4096x512, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Gates.lean ====
abbrev S4096x3336 : Shape := ⟨2, ![4096, 3336]⟩
abbrev S4096x2048 : Shape := ⟨2, ![4096, 2048]⟩
abbrev S256 : Shape := ⟨1, ![256]⟩
abbrev S4 : Shape := ⟨1, ![4]⟩
abbrev S_ : Shape := ⟨0, ![]⟩
abbrev S4096x3456 : Shape := ⟨2, ![4096, 3456]⟩
abbrev S1x256 : Shape := ⟨2, ![1, 256]⟩
abbrev S1x4 : Shape := ⟨2, ![1, 4]⟩
abbrev S1x128 : Shape := ⟨2, ![1, 128]⟩
abbrev S4096x512 : Shape := ⟨2, ![4096, 512]⟩
abbrev S4096x1536 : Shape := ⟨2, ![4096, 1536]⟩
abbrev S4096x128 : Shape := ⟨2, ![4096, 128]⟩
abbrev S512x256 : Shape := ⟨2, ![512, 256]⟩
abbrev S512x128 : Shape := ⟨2, ![512, 128]⟩
abbrev S512x2048 : Shape := ⟨2, ![512, 2048]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩

abbrev nBuf : Space → Nat
  | .hbm => 24
  | .vmem => 17
  | .smem => 0
  | _ => 0

abbrev bufTy : (tb : Table) → Fin (tcTables nBuf tb) → BufTy
  | .hbm, ⟨0, _⟩ => ⟨S4096x3336, .f32⟩
  | .hbm, ⟨1, _⟩ => ⟨S4096x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S4, .f32⟩
  | .hbm, ⟨6, _⟩ => ⟨S4, .f32⟩
  | .hbm, ⟨7, _⟩ => ⟨S_, .i32⟩
  | .hbm, ⟨8, _⟩ => ⟨S_, .f32⟩
  | .hbm, ⟨9, _⟩ => ⟨S4096x3456, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x4, .f32⟩
  | .hbm, ⟨14, _⟩ => ⟨S_, .i32⟩
  | .hbm, ⟨15, _⟩ => ⟨S_, .f32⟩
  | .hbm, ⟨16, _⟩ => ⟨S1x128, .f32⟩
  | .hbm, ⟨17, _⟩ => ⟨S1x4, .f32⟩
  | .hbm, ⟨18, _⟩ => ⟨S_, .i32⟩
  | .hbm, ⟨19, _⟩ => ⟨S_, .f32⟩
  | .hbm, ⟨20, _⟩ => ⟨S1x128, .f32⟩
  | .hbm, ⟨21, _⟩ => ⟨S4096x512, .bf16⟩
  | .hbm, ⟨22, _⟩ => ⟨S4096x1536, .f32⟩
  | .hbm, ⟨23, _⟩ => ⟨S4096x128, .f32⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S512x2048, .f32⟩
  | .local _ .vmem, ⟨5, _⟩ => ⟨S512x2048, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x128, .f32⟩
  | .local _ .vmem, ⟨10, _⟩ => ⟨S1x128, .f32⟩
  | .local _ .vmem, ⟨11, _⟩ => ⟨S512x512, .bf16⟩
  | .local _ .vmem, ⟨12, _⟩ => ⟨S512x512, .bf16⟩
  | .local _ .vmem, ⟨13, _⟩ => ⟨S512x1536, .f32⟩
  | .local _ .vmem, ⟨14, _⟩ => ⟨S512x1536, .f32⟩
  | .local _ .vmem, ⟨15, _⟩ => ⟨S512x128, .f32⟩
  | .local _ .vmem, ⟨16, _⟩ => ⟨S512x128, .f32⟩
  | _, _ => ⟨S4096x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c26_i32 : BitVec 32 := 26#32
  let c0_i32_0 : BitVec 32 := 0#32
  ![v0.toNat, c26_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GatesRefIdeal.lean ====
abbrev S4096x3336 : Shape := ⟨2, ![4096, 3336]⟩
abbrev S4096x2048 : Shape := ⟨2, ![4096, 2048]⟩
abbrev S256 : Shape := ⟨1, ![256]⟩
abbrev S4 : Shape := ⟨1, ![4]⟩
abbrev S4096x256 : Shape := ⟨2, ![4096, 256]⟩
abbrev S4096x4 : Shape := ⟨2, ![4096, 4]⟩
abbrev S4096x1536 : Shape := ⟨2, ![4096, 1536]⟩
abbrev S1x256 : Shape := ⟨2, ![1, 256]⟩
abbrev S_ : Shape := ⟨0, ![]⟩
abbrev S4096 : Shape := ⟨1, ![4096]⟩
abbrev S4096x1 : Shape := ⟨2, ![4096, 1]⟩
abbrev S4096x512 : Shape := ⟨2, ![4096, 512]⟩
abbrev S1x4 : Shape := ⟨2, ![1, 4]⟩
abbrev S4096x4x128 : Shape := ⟨3, ![4096, 4, 128]⟩
abbrev S4096x4x1 : Shape := ⟨3, ![4096, 4, 1]⟩
abbrev S4096x8 : Shape := ⟨2, ![4096, 8]⟩
abbrev S4096x128 : Shape := ⟨2, ![4096, 128]⟩

abbrev nBuf : Space → Nat
  | .hbm => 128
  | .vmem => 0
  | .smem => 0
  | _ => 0

abbrev bufTy : (tb : Table) → Fin (tcTables nBuf tb) → BufTy
  | .hbm, ⟨0, _⟩ => ⟨S4096x3336, .f32⟩
  | .hbm, ⟨1, _⟩ => ⟨S4096x2048, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S4, .f32⟩
  | .hbm, ⟨6, _⟩ => ⟨S4, .f32⟩
  | .hbm, ⟨7, _⟩ => ⟨S4096x256, .f32⟩
  | .hbm, ⟨8, _⟩ => ⟨S4096x4, .f32⟩
  | .hbm, ⟨9, _⟩ => ⟨S4096x4, .f32⟩
  | .hbm, ⟨10, _⟩ => ⟨S4096x256, .f32⟩
  | .hbm, ⟨11, _⟩ => ⟨S4096x256, .f32⟩
  | .hbm, ⟨12, _⟩ => ⟨S4096x1536, .f32⟩
  | .hbm, ⟨13, _⟩ => ⟨S4096x256, .f32⟩
  | .hbm, ⟨14, _⟩ => ⟨S1x256, .f32⟩
  | .hbm, ⟨15, _⟩ => ⟨S4096x256, .f32⟩
  | .hbm, ⟨16, _⟩ => ⟨S4096x256, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x256, .f32⟩
  | .hbm, ⟨33, _⟩ => ⟨S4096x256, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x256, .f32⟩
  | .hbm, ⟨39, _⟩ => ⟨S4096x256, .f32⟩
  | .hbm, ⟨40, _⟩ => ⟨S1x256, .f32⟩
  | .hbm, ⟨41, _⟩ => ⟨S4096x256, .f32⟩
  | .hbm, ⟨42, _⟩ => ⟨S4096x256, .f32⟩
  | .hbm, ⟨43, _⟩ => ⟨S1x256, .f32⟩
  | .hbm, ⟨44, _⟩ => ⟨S4096x256, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S_, .f32⟩
  | .hbm, ⟨49, _⟩ => ⟨S4096x256, .f32⟩
  | .hbm, ⟨50, _⟩ => ⟨S4096x256, .f32⟩
  | .hbm, ⟨51, _⟩ => ⟨S_, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S4096x1536, .f32⟩
  | .hbm, ⟨56, _⟩ => ⟨S4096x1536, .f32⟩
  | .hbm, ⟨57, _⟩ => ⟨S_, .f32⟩
  | .hbm, ⟨58, _⟩ => ⟨S4096x1536, .f32⟩
  | .hbm, ⟨59, _⟩ => ⟨S4096x1536, .f32⟩
  | .hbm, ⟨60, _⟩ => ⟨S_, .f32⟩
  | .hbm, ⟨61, _⟩ => ⟨S4096x1536, .f32⟩
  | .hbm, ⟨62, _⟩ => ⟨S4096x1536, .f32⟩
  | .hbm, ⟨63, _⟩ => ⟨S4096x1536, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S4, .f32⟩
  | .hbm, ⟨68, _⟩ => ⟨S4, .f32⟩
  | .hbm, ⟨69, _⟩ => ⟨S1x4, .f32⟩
  | .hbm, ⟨70, _⟩ => ⟨S4096x4, .f32⟩
  | .hbm, ⟨71, _⟩ => ⟨S4096x4, .f32⟩
  | .hbm, ⟨72, _⟩ => ⟨S_, .f32⟩
  | .hbm, ⟨73, _⟩ => ⟨S4096x4, .f32⟩
  | .hbm, ⟨74, _⟩ => ⟨S4096x4, .f32⟩
  | .hbm, ⟨75, _⟩ => ⟨S4096x4, .f32⟩
  | .hbm, ⟨76, _⟩ => ⟨S4096x4, .f32⟩
  | .hbm, ⟨77, _⟩ => ⟨S4096x4, .i1⟩
  | .hbm, ⟨78, _⟩ => ⟨S4096x4, .f32⟩
  | .hbm, ⟨79, _⟩ => ⟨S4096x4, .f32⟩
  | .hbm, ⟨80, _⟩ => ⟨S4096x4, .f32⟩
  | .hbm, ⟨81, _⟩ => ⟨S4096x4, .f32⟩
  | .hbm, ⟨82, _⟩ => ⟨S4096x4, .f32⟩
  | .hbm, ⟨83, _⟩ => ⟨S4096x4, .f32⟩
  | .hbm, ⟨84, _⟩ => ⟨S4096x4, .f32⟩
  | .hbm, ⟨85, _⟩ => ⟨S4096x4, .f32⟩
  | .hbm, ⟨86, _⟩ => ⟨S1x4, .f32⟩
  | .hbm, ⟨87, _⟩ => ⟨S4096x4, .f32⟩
  | .hbm, ⟨88, _⟩ => ⟨S4096x4, .f32⟩
  | .hbm, ⟨89, _⟩ => ⟨S4096x4, .f32⟩
  | .hbm, ⟨90, _⟩ => ⟨S4096x4, .f32⟩
  | .hbm, ⟨91, _⟩ => ⟨S_, .f32⟩
  | .hbm, ⟨92, _⟩ => ⟨S4096x4, .f32⟩
  | .hbm, ⟨93, _⟩ => ⟨S4096x4, .f32⟩
  | .hbm, ⟨94, _⟩ => ⟨S_, .f32⟩
  | .hbm, ⟨95, _⟩ => ⟨S4096x4, .f32⟩
  | .hbm, ⟨96, _⟩ => ⟨S4096x4, .f32⟩
  | .hbm, ⟨97, _⟩ => ⟨S4096x512, .f32⟩
  | .hbm, ⟨98, _⟩ => ⟨S4096x512, .bf16⟩
  | .hbm, ⟨99, _⟩ => ⟨S4096x4x128, .f32⟩
  | .hbm, ⟨100, _⟩ => ⟨S4096x4x128, .f32⟩
  | .hbm, ⟨101, _⟩ => ⟨S_, .f32⟩
  | .hbm, ⟨102, _⟩ => ⟨S4096x4, .f32⟩
  | .hbm, ⟨103, _⟩ => ⟨S4096x4x1, .f32⟩
  | .hbm, ⟨104, _⟩ => ⟨S_, .f32⟩
  | .hbm, ⟨105, _⟩ => ⟨S4096x4x1, .f32⟩
  | .hbm, ⟨106, _⟩ => ⟨S4096x4x1, .f32⟩
  | .hbm, ⟨107, _⟩ => ⟨S4096x4x1, .f32⟩
  | .hbm, ⟨108, _⟩ => ⟨S4096x4x128, .f32⟩
  | .hbm, ⟨109, _⟩ => ⟨S4096x4x128, .f32⟩
  | .hbm, ⟨110, _⟩ => ⟨S4096x512, .f32⟩
  | .hbm, ⟨111, _⟩ => ⟨S4096x4x128, .f32⟩
  | .hbm, ⟨112, _⟩ => ⟨S4096x4x128, .f32⟩
  | .hbm, ⟨113, _⟩ => ⟨S_, .f32⟩
  | .hbm, ⟨114, _⟩ => ⟨S4096x4, .f32⟩
  | .hbm, ⟨115, _⟩ => ⟨S4096x4x1, .f32⟩
  | .hbm, ⟨116, _⟩ => ⟨S_, .f32⟩
  | .hbm, ⟨117, _⟩ => ⟨S4096x4x1, .f32⟩
  | .hbm, ⟨118, _⟩ => ⟨S4096x4x1, .f32⟩
  | .hbm, ⟨119, _⟩ => ⟨S4096x4x1, .f32⟩
  | .hbm, ⟨120, _⟩ => ⟨S4096x4x128, .f32⟩
  | .hbm, ⟨121, _⟩ => ⟨S4096x4x128, .f32⟩
  | .hbm, ⟨122, _⟩ => ⟨S4096x512, .f32⟩
  | .hbm, ⟨123, _⟩ => ⟨S4096x1536, .f32⟩
  | .hbm, ⟨124, _⟩ => ⟨S4096x8, .f32⟩
  | .hbm, ⟨125, _⟩ => ⟨S_, .i32⟩
  | .hbm, ⟨126, _⟩ => ⟨S_, .f32⟩
  | .hbm, ⟨127, _⟩ => ⟨S4096x128, .f32⟩
  | _, _ => ⟨S4096x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v34 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_4 : Ref sig .tc := ⟨.hbm, 91, rfl⟩
abbrev main_v50 : Ref sig .tc := ⟨.hbm, 92, rfl⟩
abbrev main_v51 : Ref sig .tc := ⟨.hbm, 93, rfl⟩
abbrev main_cst_5 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_6 : Ref sig .tc := ⟨.hbm, 101, rfl⟩
abbrev main_v58 : Ref sig .tc := ⟨.hbm, 102, rfl⟩
abbrev main_v59 : Ref sig .tc := ⟨.hbm, 103, rfl⟩
abbrev main_cst_7 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_cst_8 : Ref sig .tc := ⟨.hbm, 113, rfl⟩
abbrev main_v68 : Ref sig .tc := ⟨.hbm, 114, rfl⟩
abbrev main_v69 : Ref sig .tc := ⟨.hbm, 115, rfl⟩
abbrev main_cst_9 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_c : Ref sig .tc := ⟨.hbm, 125, rfl⟩
abbrev main_call3_v0 : Ref sig .tc := ⟨.hbm, 126, rfl⟩
abbrev main_v78 : Ref sig .tc := ⟨.hbm, 127, rfl⟩

abbrev nD : Nat := 1
abbrev τ : Topo := Topo.v7x

variable {F : FTy → Type} [FloatOps F]
-- ==== Adam.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLayer.lean ====
abbrev S1024x417 : Shape := ⟨2, ![1024, 417]⟩
abbrev S4x1024x417 : Shape := ⟨3, ![4, 1024, 417]⟩
abbrev S256x417 : Shape := ⟨2, ![256, 417]⟩
abbrev S1x256x417 : Shape := ⟨3, ![1, 256, 417]⟩

abbrev nBuf : Space → Nat
  | .hbm => 12
  | .vmem => 16
  | .smem => 0
  | _ => 0

abbrev bufTy : (tb : Table) → Fin (tcTables nBuf tb) → BufTy
  | .hbm, ⟨0, _⟩ => ⟨S1024x417, .f32⟩
  | .hbm, ⟨1, _⟩ => ⟨S4x1024x417, .f32⟩
  | .hbm, ⟨2, _⟩ => ⟨S4x1024x417, .f32⟩
  | .hbm, ⟨3, _⟩ => ⟨S4x1024x417, .f32⟩
  | .hbm, ⟨4, _⟩ => ⟨S4x1024x417, .f32⟩
  | .hbm, ⟨5, _⟩ => ⟨S4x1024x417, .f32⟩
  | .hbm, ⟨6, _⟩ => ⟨S4x1024x417, .f32⟩
  | .hbm, ⟨7, _⟩ => ⟨S4x1024x417, .f32⟩
  | .hbm, ⟨8, _⟩ => ⟨S4x1024x417, .f32⟩
  | .hbm, ⟨9, _⟩ => ⟨S4x1024x417, .f32⟩
  | .hbm, ⟨10, _⟩ => ⟨S4x1024x417, .f32⟩
  | .hbm, ⟨11, _⟩ => ⟨S4x1024x417, .f32⟩
  | .local _ .vmem, ⟨0, _⟩ => ⟨S256x417, .f32⟩
  | .local _ .vmem, ⟨1, _⟩ => ⟨S256x417, .f32⟩
  | .local _ .vmem, ⟨2, _⟩ => ⟨S1x256x417, .f32⟩
  | .local _ .vmem, ⟨3, _⟩ => ⟨S1x256x417, .f32⟩
  | .local _ .vmem, ⟨4, _⟩ => ⟨S1x256x417, .f32⟩
  | .local _ .vmem, ⟨5, _⟩ => ⟨S1x256x417, .f32⟩
  | .local _ .vmem, ⟨6, _⟩ => ⟨S1x256x417, .f32⟩
  | .local _ .vmem, ⟨7, _⟩ => ⟨S1x256x417, .f32⟩
  | .local _ .vmem, ⟨8, _⟩ => ⟨S1x256x417, .f32⟩
  | .local _ .vmem, ⟨9, _⟩ => ⟨S1x256x417, .f32⟩
  | .local _ .vmem, ⟨10, _⟩ => ⟨S1x256x417, .f32⟩
  | .local _ .vmem, ⟨11, _⟩ => ⟨S1x256x417, .f32⟩
  | .local _ .vmem, ⟨12, _⟩ => ⟨S1x256x417, .f32⟩
  | .local _ .vmem, ⟨13, _⟩ => ⟨S1x256x417, .f32⟩
  | .local _ .vmem, ⟨14, _⟩ => ⟨S1x256x417, .f32⟩
  | .local _ .vmem, ⟨15, _⟩ => ⟨S1x256x417, .f32⟩
  | _, _ => ⟨S1024x417, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_2 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S256x417 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x417 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x417 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x417 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x417 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x417 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x417 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x417 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLayerRefIdeal.lean ====
abbrev S1024x417 : Shape := ⟨2, ![1024, 417]⟩
abbrev S4x1024x417 : Shape := ⟨3, ![4, 1024, 417]⟩
abbrev S1x1024x417 : Shape := ⟨3, ![1, 1024, 417]⟩
abbrev S_ : Shape := ⟨0, ![]⟩
abbrev S2x1024x417 : Shape := ⟨3, ![2, 1024, 417]⟩

abbrev nBuf : Space → Nat
  | .hbm => 63
  | .vmem => 0
  | .smem => 0
  | _ => 0

abbrev bufTy : (tb : Table) → Fin (tcTables nBuf tb) → BufTy
  | .hbm, ⟨0, _⟩ => ⟨S1024x417, .f32⟩
  | .hbm, ⟨1, _⟩ => ⟨S4x1024x417, .f32⟩
  | .hbm, ⟨2, _⟩ => ⟨S4x1024x417, .f32⟩
  | .hbm, ⟨3, _⟩ => ⟨S4x1024x417, .f32⟩
  | .hbm, ⟨4, _⟩ => ⟨S4x1024x417, .f32⟩
  | .hbm, ⟨5, _⟩ => ⟨S4x1024x417, .f32⟩
  | .hbm, ⟨6, _⟩ => ⟨S4x1024x417, .f32⟩
  | .hbm, ⟨7, _⟩ => ⟨S4x1024x417, .f32⟩
  | .hbm, ⟨8, _⟩ => ⟨S1x1024x417, .f32⟩
  | .hbm, ⟨9, _⟩ => ⟨S1024x417, .f32⟩
  | .hbm, ⟨10, _⟩ => ⟨S_, .f32⟩
  | .hbm, ⟨11, _⟩ => ⟨S1024x417, .f32⟩
  | .hbm, ⟨12, _⟩ => ⟨S1024x417, .f32⟩
  | .hbm, ⟨13, _⟩ => ⟨S_, .f32⟩
  | .hbm, ⟨14, _⟩ => ⟨S1024x417, .f32⟩
  | .hbm, ⟨15, _⟩ => ⟨S1024x417, .f32⟩
  | .hbm, ⟨16, _⟩ => ⟨S1024x417, .f32⟩
  | .hbm, ⟨17, _⟩ => ⟨S1x1024x417, .f32⟩
  | .hbm, ⟨18, _⟩ => ⟨S1024x417, .f32⟩
  | .hbm, ⟨19, _⟩ => ⟨S_, .f32⟩
  | .hbm, ⟨20, _⟩ => ⟨S1024x417, .f32⟩
  | .hbm, ⟨21, _⟩ => ⟨S1024x417, .f32⟩
  | .hbm, ⟨22, _⟩ => ⟨S1024x417, .f32⟩
  | .hbm, ⟨23, _⟩ => ⟨S_, .f32⟩
  | .hbm, ⟨24, _⟩ => ⟨S1024x417, .f32⟩
  | .hbm, ⟨25, _⟩ => ⟨S1024x417, .f32⟩
  | .hbm, ⟨26, _⟩ => ⟨S1024x417, .f32⟩
  | .hbm, ⟨27, _⟩ => ⟨S_, .f32⟩
  | .hbm, ⟨28, _⟩ => ⟨S1024x417, .f32⟩
  | .hbm, ⟨29, _⟩ => ⟨S1024x417, .f32⟩
  | .hbm, ⟨30, _⟩ => ⟨S_, .f32⟩
  | .hbm, ⟨31, _⟩ => ⟨S1024x417, .f32⟩
  | .hbm, ⟨32, _⟩ => ⟨S1024x417, .f32⟩
  | .hbm, ⟨33, _⟩ => ⟨S1024x417, .f32⟩
  | .hbm, ⟨34, _⟩ => ⟨S_, .f32⟩
  | .hbm, ⟨35, _⟩ => ⟨S1024x417, .f32⟩
  | .hbm, ⟨36, _⟩ => ⟨S1024x417, .f32⟩
  | .hbm, ⟨37, _⟩ => ⟨S1024x417, .f32⟩
  | .hbm, ⟨38, _⟩ => ⟨S1x1024x417, .f32⟩
  | .hbm, ⟨39, _⟩ => ⟨S1024x417, .f32⟩
  | .hbm, ⟨40, _⟩ => ⟨S_, .f32⟩
  | .hbm, ⟨41, _⟩ => ⟨S1024x417, .f32⟩
  | .hbm, ⟨42, _⟩ => ⟨S1024x417, .f32⟩
  | .hbm, ⟨43, _⟩ => ⟨S1024x417, .f32⟩
  | .hbm, ⟨44, _⟩ => ⟨S_, .f32⟩
  | .hbm, ⟨45, _⟩ => ⟨S1024x417, .f32⟩
  | .hbm, ⟨46, _⟩ => ⟨S1024x417, .f32⟩
  | .hbm, ⟨47, _⟩ => ⟨S1x1024x417, .f32⟩
  | .hbm, ⟨48, _⟩ => ⟨S1x1024x417, .f32⟩
  | .hbm, ⟨49, _⟩ => ⟨S2x1024x417, .f32⟩
  | .hbm, ⟨50, _⟩ => ⟨S4x1024x417, .f32⟩
  | .hbm, ⟨51, _⟩ => ⟨S1x1024x417, .f32⟩
  | .hbm, ⟨52, _⟩ => ⟨S1x1024x417, .f32⟩
  | .hbm, ⟨53, _⟩ => ⟨S2x1024x417, .f32⟩
  | .hbm, ⟨54, _⟩ => ⟨S4x1024x417, .f32⟩
  | .hbm, ⟨55, _⟩ => ⟨S1x1024x417, .f32⟩
  | .hbm, ⟨56, _⟩ => ⟨S1x1024x417, .f32⟩
  | .hbm, ⟨57, _⟩ => ⟨S2x1024x417, .f32⟩
  | .hbm, ⟨58, _⟩ => ⟨S4x1024x417, .f32⟩
  | .hbm, ⟨59, _⟩ => ⟨S1x1024x417, .f32⟩
  | .hbm, ⟨60, _⟩ => ⟨S1x1024x417, .f32⟩
  | .hbm, ⟨61, _⟩ => ⟨S2x1024x417, .f32⟩
  | .hbm, ⟨62, _⟩ => ⟨S4x1024x417, .f32⟩
  | _, _ => ⟨S1024x417, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩

abbrev nD : Nat := 1
abbrev τ : Topo := Topo.v7x

variable {F : FTy → Type} [FloatOps F]
-- ==== Wgrad.lean ====
abbrev S4096x1024 : Shape := ⟨2, ![4096, 1024]⟩
abbrev S4096x5632 : Shape := ⟨2, ![4096, 5632]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S4096x5632, .bf16⟩
  | .hbm, ⟨3, _⟩ => ⟨S4096x1024, .bf16⟩
  | .hbm, ⟨4, _⟩ => ⟨S5632x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WgradRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S_, .f32⟩
  | .hbm, ⟨3, _⟩ => ⟨S1024x5632, .f32⟩
  | .hbm, ⟨4, _⟩ => ⟨S4096x5632, .f32⟩
  | .hbm, ⟨5, _⟩ => ⟨S5632x1024, .f32⟩
  | .hbm, ⟨6, _⟩ => ⟨S1024x5632, .f32⟩
  | .hbm, ⟨7, _⟩ => ⟨S5632x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wgin.lean ====
abbrev S4096x1024 : Shape := ⟨2, ![4096, 1024]⟩
abbrev S4096x3336 : Shape := ⟨2, ![4096, 3336]⟩
abbrev S_ : Shape := ⟨0, ![]⟩
abbrev S4096x3456 : Shape := ⟨2, ![4096, 3456]⟩
abbrev S8x1024x512 : Shape := ⟨3, ![8, 1024, 512]⟩
abbrev S1024x512 : Shape := ⟨2, ![1024, 512]⟩
abbrev S1024x3456 : Shape := ⟨2, ![1024, 3456]⟩
abbrev S8x512x512 : Shape := ⟨3, ![8, 512, 512]⟩
abbrev S512x3456 : Shape := ⟨2, ![512, 3456]⟩
abbrev S512x640 : Shape := ⟨2, ![512, 640]⟩
abbrev S512x512 : Shape := ⟨2, ![512, 512]⟩
abbrev S1x512x512 : Shape := ⟨3, ![1, 512, 512]⟩

abbrev nBuf : Space → Nat
  | .hbm => 8
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x3336, .f32⟩
  | .hbm, ⟨2, _⟩ => ⟨S4096x1024, .bf16⟩
  | .hbm, ⟨3, _⟩ => ⟨S_, .i32⟩
  | .hbm, ⟨4, _⟩ => ⟨S_, .f32⟩
  | .hbm, ⟨5, _⟩ => ⟨S4096x3456, .f32⟩
  | .hbm, ⟨6, _⟩ => ⟨S4096x3456, .bf16⟩
  | .hbm, ⟨7, _⟩ => ⟨S8x1024x512, .f32⟩
  | .local _ .vmem, ⟨0, _⟩ => ⟨S1024x512, .bf16⟩
  | .local _ .vmem, ⟨1, _⟩ => ⟨S1024x512, .bf16⟩
  | .local _ .vmem, ⟨2, _⟩ => ⟨S1024x3456, .bf16⟩
  | .local _ .vmem, ⟨3, _⟩ => ⟨S1024x3456, .bf16⟩
  | .local _ .vmem, ⟨4, _⟩ => ⟨S8x512x512, .f32⟩
  | .local _ .vmem, ⟨5, _⟩ => ⟨S8x512x512, .f32⟩
  | .local _ .vmem, ⟨6, _⟩ => ⟨S512x3456, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x3456 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== WginRefIdeal.lean ====
abbrev S4096x1024 : Shape := ⟨2, ![4096, 1024]⟩
abbrev S4096x3336 : Shape := ⟨2, ![4096, 3336]⟩
abbrev S_ : Shape := ⟨0, ![]⟩
abbrev S1024x3336 : Shape := ⟨2, ![1024, 3336]⟩
abbrev S3336x1024 : Shape := ⟨2, ![3336, 1024]⟩
abbrev S1024x3456 : Shape := ⟨2, ![1024, 3456]⟩
abbrev S1024x512 : Shape := ⟨2, ![1024, 512]⟩
abbrev S1x1024x512 : Shape := ⟨3, ![1, 1024, 512]⟩
abbrev S8x1024x512 : Shape := ⟨3, ![8, 1024, 512]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3336, .f32⟩
  | .hbm, ⟨2, _⟩ => ⟨S_, .f32⟩
  | .hbm, ⟨3, _⟩ => ⟨S1024x3336, .f32⟩
  | .hbm, ⟨4, _⟩ => ⟨S4096x3336, .f32⟩
  | .hbm, ⟨5, _⟩ => ⟨S3336x1024, .f32⟩
  | .hbm, ⟨6, _⟩ => ⟨S1024x3336, .f32⟩
  | .hbm, ⟨7, _⟩ => ⟨S_, .i32⟩
  | .hbm, ⟨8, _⟩ => ⟨S_, .f32⟩
  | .hbm, ⟨9, _⟩ => ⟨S1024x3456, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1x1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S1x1024x512, .f32⟩
  | .hbm, ⟨24, _⟩ => ⟨S1x1024x512, .f32⟩
  | .hbm, ⟨25, _⟩ => ⟨S1x1024x512, .f32⟩
  | .hbm, ⟨26, _⟩ => ⟨S8x1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== ReduceSum.lean ====
abbrev S8x1024x512 : Shape := ⟨3, ![8, 1024, 512]⟩
abbrev S4x1024x512 : Shape := ⟨3, ![4, 1024, 512]⟩
abbrev S3x1024x512 : Shape := ⟨3, ![3, 1024, 512]⟩
abbrev S_ : Shape := ⟨0, ![]⟩
abbrev S2x2x2x1024x512 : Shape := ⟨5, ![2, 2, 2, 1024, 512]⟩
abbrev S1x2x2x1024x512 : Shape := ⟨5, ![1, 2, 2, 1024, 512]⟩
abbrev S2x2x1024x512 : Shape := ⟨4, ![2, 2, 1024, 512]⟩
abbrev S1x2x1024x512 : Shape := ⟨4, ![1, 2, 1024, 512]⟩
abbrev S2x1024x512 : Shape := ⟨3, ![2, 1024, 512]⟩
abbrev S1x1024x512 : Shape := ⟨3, ![1, 1024, 512]⟩
abbrev S1024x512 : Shape := ⟨2, ![1024, 512]⟩
abbrev S3072x512 : Shape := ⟨2, ![3072, 512]⟩
abbrev S256x512 : Shape := ⟨2, ![256, 512]⟩

abbrev nBuf : Space → Nat
  | .hbm => 46
  | .vmem => 12
  | .smem => 0
  | _ => 0

abbrev bufTy : (tb : Table) → Fin (tcTables nBuf tb) → BufTy
  | .hbm, ⟨0, _⟩ => ⟨S8x1024x512, .f32⟩
  | .hbm, ⟨1, _⟩ => ⟨S4x1024x512, .f32⟩
  | .hbm, ⟨2, _⟩ => ⟨S3x1024x512, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S2x2x2x1024x512, .f32⟩
  | .hbm, ⟨7, _⟩ => ⟨S_, .i32⟩
  | .hbm, ⟨8, _⟩ => ⟨S_, .i1⟩
  | .hbm, ⟨9, _⟩ => ⟨S1x2x2x1024x512, .f32⟩
  | .hbm, ⟨10, _⟩ => ⟨S2x2x1024x512, .f32⟩
  | .hbm, ⟨11, _⟩ => ⟨S1x2x2x1024x512, .f32⟩
  | .hbm, ⟨12, _⟩ => ⟨S2x2x1024x512, .f32⟩
  | .hbm, ⟨13, _⟩ => ⟨S2x2x1024x512, .f32⟩
  | .hbm, ⟨14, _⟩ => ⟨S_, .i32⟩
  | .hbm, ⟨15, _⟩ => ⟨S_, .i1⟩
  | .hbm, ⟨16, _⟩ => ⟨S1x2x1024x512, .f32⟩
  | .hbm, ⟨17, _⟩ => ⟨S2x1024x512, .f32⟩
  | .hbm, ⟨18, _⟩ => ⟨S1x2x1024x512, .f32⟩
  | .hbm, ⟨19, _⟩ => ⟨S2x1024x512, .f32⟩
  | .hbm, ⟨20, _⟩ => ⟨S2x1024x512, .f32⟩
  | .hbm, ⟨21, _⟩ => ⟨S_, .i32⟩
  | .hbm, ⟨22, _⟩ => ⟨S_, .i1⟩
  | .hbm, ⟨23, _⟩ => ⟨S1x1024x512, .f32⟩
  | .hbm, ⟨24, _⟩ => ⟨S1024x512, .f32⟩
  | .hbm, ⟨25, _⟩ => ⟨S1x1024x512, .f32⟩
  | .hbm, ⟨26, _⟩ => ⟨S1024x512, .f32⟩
  | .hbm, ⟨27, _⟩ => ⟨S1024x512, .f32⟩
  | .hbm, ⟨28, _⟩ => ⟨S2x2x1024x512, .f32⟩
  | .hbm, ⟨29, _⟩ => ⟨S_, .i32⟩
  | .hbm, ⟨30, _⟩ => ⟨S_, .i1⟩
  | .hbm, ⟨31, _⟩ => ⟨S1x2x1024x512, .f32⟩
  | .hbm, ⟨32, _⟩ => ⟨S2x1024x512, .f32⟩
  | .hbm, ⟨33, _⟩ => ⟨S1x2x1024x512, .f32⟩
  | .hbm, ⟨34, _⟩ => ⟨S2x1024x512, .f32⟩
  | .hbm, ⟨35, _⟩ => ⟨S2x1024x512, .f32⟩
  | .hbm, ⟨36, _⟩ => ⟨S_, .i32⟩
  | .hbm, ⟨37, _⟩ => ⟨S_, .i1⟩
  | .hbm, ⟨38, _⟩ => ⟨S1x1024x512, .f32⟩
  | .hbm, ⟨39, _⟩ => ⟨S1024x512, .f32⟩
  | .hbm, ⟨40, _⟩ => ⟨S1x1024x512, .f32⟩
  | .hbm, ⟨41, _⟩ => ⟨S1024x512, .f32⟩
  | .hbm, ⟨42, _⟩ => ⟨S1024x512, .f32⟩
  | .hbm, ⟨43, _⟩ => ⟨S3x1024x512, .bf16⟩
  | .hbm, ⟨44, _⟩ => ⟨S3072x512, .bf16⟩
  | .hbm, ⟨45, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReduceSumRefIdeal.lean ====
abbrev S8x1024x512 : Shape := ⟨3, ![8, 1024, 512]⟩
abbrev S4x1024x512 : Shape := ⟨3, ![4, 1024, 512]⟩
abbrev S3x1024x512 : Shape := ⟨3, ![3, 1024, 512]⟩
abbrev S_ : Shape := ⟨0, ![]⟩
abbrev S2x2x2x1024x512 : Shape := ⟨5, ![2, 2, 2, 1024, 512]⟩
abbrev S1x2x2x1024x512 : Shape := ⟨5, ![1, 2, 2, 1024, 512]⟩
abbrev S2x2x1024x512 : Shape := ⟨4, ![2, 2, 1024, 512]⟩
abbrev S1x2x1024x512 : Shape := ⟨4, ![1, 2, 1024, 512]⟩
abbrev S2x1024x512 : Shape := ⟨3, ![2, 1024, 512]⟩
abbrev S1x1024x512 : Shape := ⟨3, ![1, 1024, 512]⟩
abbrev S1024x512 : Shape := ⟨2, ![1024, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S4x1024x512, .f32⟩
  | .hbm, ⟨2, _⟩ => ⟨S3x1024x512, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S2x2x2x1024x512, .f32⟩
  | .hbm, ⟨7, _⟩ => ⟨S_, .i32⟩
  | .hbm, ⟨8, _⟩ => ⟨S_, .i1⟩
  | .hbm, ⟨9, _⟩ => ⟨S1x2x2x1024x512, .f32⟩
  | .hbm, ⟨10, _⟩ => ⟨S2x2x1024x512, .f32⟩
  | .hbm, ⟨11, _⟩ => ⟨S1x2x2x1024x512, .f32⟩
  | .hbm, ⟨12, _⟩ => ⟨S2x2x1024x512, .f32⟩
  | .hbm, ⟨13, _⟩ => ⟨S2x2x1024x512, .f32⟩
  | .hbm, ⟨14, _⟩ => ⟨S_, .i32⟩
  | .hbm, ⟨15, _⟩ => ⟨S_, .i1⟩
  | .hbm, ⟨16, _⟩ => ⟨S1x2x1024x512, .f32⟩
  | .hbm, ⟨17, _⟩ => ⟨S2x1024x512, .f32⟩
  | .hbm, ⟨18, _⟩ => ⟨S1x2x1024x512, .f32⟩
  | .hbm, ⟨19, _⟩ => ⟨S2x1024x512, .f32⟩
  | .hbm, ⟨20, _⟩ => ⟨S2x1024x512, .f32⟩
  | .hbm, ⟨21, _⟩ => ⟨S_, .i32⟩
  | .hbm, ⟨22, _⟩ => ⟨S_, .i1⟩
  | .hbm, ⟨23, _⟩ => ⟨S1x1024x512, .f32⟩
  | .hbm, ⟨24, _⟩ => ⟨S1024x512, .f32⟩
  | .hbm, ⟨25, _⟩ => ⟨S1x1024x512, .f32⟩
  | .hbm, ⟨26, _⟩ => ⟨S1024x512, .f32⟩
  | .hbm, ⟨27, _⟩ => ⟨S1024x512, .f32⟩
  | .hbm, ⟨28, _⟩ => ⟨S2x2x1024x512, .f32⟩
  | .hbm, ⟨29, _⟩ => ⟨S_, .i32⟩
  | .hbm, ⟨30, _⟩ => ⟨S_, .i1⟩
  | .hbm, ⟨31, _⟩ => ⟨S1x2x1024x512, .f32⟩
  | .hbm, ⟨32, _⟩ => ⟨S2x1024x512, .f32⟩
  | .hbm, ⟨33, _⟩ => ⟨S1x2x1024x512, .f32⟩
  | .hbm, ⟨34, _⟩ => ⟨S2x1024x512, .f32⟩
  | .hbm, ⟨35, _⟩ => ⟨S2x1024x512, .f32⟩
  | .hbm, ⟨36, _⟩ => ⟨S_, .i32⟩
  | .hbm, ⟨37, _⟩ => ⟨S_, .i1⟩
  | .hbm, ⟨38, _⟩ => ⟨S1x1024x512, .f32⟩
  | .hbm, ⟨39, _⟩ => ⟨S1024x512, .f32⟩
  | .hbm, ⟨40, _⟩ => ⟨S1x1024x512, .f32⟩
  | .hbm, ⟨41, _⟩ => ⟨S1024x512, .f32⟩
  | .hbm, ⟨42, _⟩ => ⟨S1024x512, .f32⟩
  | .hbm, ⟨43, _⟩ => ⟨S1024x512, .f32⟩
  | .hbm, ⟨44, _⟩ => ⟨S1x1024x512, .f32⟩
  | .hbm, ⟨45, _⟩ => ⟨S1024x512, .f32⟩
  | .hbm, ⟨46, _⟩ => ⟨S1024x512, .f32⟩
  | .hbm, ⟨47, _⟩ => ⟨S1x1024x512, .f32⟩
  | .hbm, ⟨48, _⟩ => ⟨S1024x512, .f32⟩
  | .hbm, ⟨49, _⟩ => ⟨S1024x512, .f32⟩
  | .hbm, ⟨50, _⟩ => ⟨S1x1024x512, .f32⟩
  | .hbm, ⟨51, _⟩ => ⟨S1024x512, .f32⟩
  | .hbm, ⟨52, _⟩ => ⟨S1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== PairAdd.lean ====
abbrev S8x1024x512 : Shape := ⟨3, ![8, 1024, 512]⟩
abbrev S4x1024x512 : Shape := ⟨3, ![4, 1024, 512]⟩
abbrev S_ : Shape := ⟨0, ![]⟩
abbrev S4x2x1024x512 : Shape := ⟨4, ![4, 2, 1024, 512]⟩
abbrev S4x1x1024x512 : Shape := ⟨4, ![4, 1, 1024, 512]⟩
abbrev S4096x512 : Shape := ⟨2, ![4096, 512]⟩
abbrev S512x512 : Shape := ⟨2, ![512, 512]⟩

abbrev nBuf : Space → Nat
  | .hbm => 14
  | .vmem => 6
  | .smem => 0
  | _ => 0

abbrev bufTy : (tb : Table) → Fin (tcTables nBuf tb) → BufTy
  | .hbm, ⟨0, _⟩ => ⟨S8x1024x512, .f32⟩
  | .hbm, ⟨1, _⟩ => ⟨S4x1024x512, .f32⟩
  | .hbm, ⟨2, _⟩ => ⟨S_, .i32⟩
  | .hbm, ⟨3, _⟩ => ⟨S4x2x1024x512, .f32⟩
  | .hbm, ⟨4, _⟩ => ⟨S_, .i32⟩
  | .hbm, ⟨5, _⟩ => ⟨S_, .i1⟩
  | .hbm, ⟨6, _⟩ => ⟨S4x1x1024x512, .f32⟩
  | .hbm, ⟨7, _⟩ => ⟨S4x1024x512, .f32⟩
  | .hbm, ⟨8, _⟩ => ⟨S4x1x1024x512, .f32⟩
  | .hbm, ⟨9, _⟩ => ⟨S4x1024x512, .f32⟩
  | .hbm, ⟨10, _⟩ => ⟨S4x1024x512, .f32⟩
  | .hbm, ⟨11, _⟩ => ⟨S4096x512, .f32⟩
  | .hbm, ⟨12, _⟩ => ⟨S4096x512, .f32⟩
  | .hbm, ⟨13, _⟩ => ⟨S4096x512, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairAddRefIdeal.lean ====
abbrev S8x1024x512 : Shape := ⟨3, ![8, 1024, 512]⟩
abbrev S4x1024x512 : Shape := ⟨3, ![4, 1024, 512]⟩
abbrev S_ : Shape := ⟨0, ![]⟩
abbrev S4x2x1024x512 : Shape := ⟨4, ![4, 2, 1024, 512]⟩
abbrev S4x1x1024x512 : Shape := ⟨4, ![4, 1, 1024, 512]⟩
abbrev S4096x512 : Shape := ⟨2, ![4096, 512]⟩

abbrev nBuf : Space → Nat
  | .hbm => 14
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S4x1024x512, .f32⟩
  | .hbm, ⟨2, _⟩ => ⟨S_, .i32⟩
  | .hbm, ⟨3, _⟩ => ⟨S4x2x1024x512, .f32⟩
  | .hbm, ⟨4, _⟩ => ⟨S_, .i32⟩
  | .hbm, ⟨5, _⟩ => ⟨S_, .i1⟩
  | .hbm, ⟨6, _⟩ => ⟨S4x1x1024x512, .f32⟩
  | .hbm, ⟨7, _⟩ => ⟨S4x1024x512, .f32⟩
  | .hbm, ⟨8, _⟩ => ⟨S4x1x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .hbm, ⟨12, _⟩ => ⟨S4x1024x512, .bf16⟩
  | .hbm, ⟨13, _⟩ => ⟨S4096x512, .bf16⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== ReduceAdam.lean ====
abbrev S8x704x1024 : Shape := ⟨3, ![8, 704, 1024]⟩
abbrev S4x704x1024 : Shape := ⟨3, ![4, 704, 1024]⟩
abbrev S3x704x1024 : Shape := ⟨3, ![3, 704, 1024]⟩
abbrev S_ : Shape := ⟨0, ![]⟩
abbrev S2x2x2x704x1024 : Shape := ⟨5, ![2, 2, 2, 704, 1024]⟩
abbrev S1x2x2x704x1024 : Shape := ⟨5, ![1, 2, 2, 704, 1024]⟩
abbrev S2x2x704x1024 : Shape := ⟨4, ![2, 2, 704, 1024]⟩
abbrev S1x2x704x1024 : Shape := ⟨4, ![1, 2, 704, 1024]⟩
abbrev S2x704x1024 : Shape := ⟨3, ![2, 704, 1024]⟩
abbrev S1x704x1024 : Shape := ⟨3, ![1, 704, 1024]⟩
abbrev S704x1024 : Shape := ⟨2, ![704, 1024]⟩
abbrev S2112x1024 : Shape := ⟨2, ![2112, 1024]⟩
abbrev S176x1024 : Shape := ⟨2, ![176, 1024]⟩
abbrev S1x176x1024 : Shape := ⟨3, ![1, 176, 1024]⟩

abbrev nBuf : Space → Nat
  | .hbm => 56
  | .vmem => 24
  | .smem => 0
  | _ => 0

abbrev bufTy : (tb : Table) → Fin (tcTables nBuf tb) → BufTy
  | .hbm, ⟨0, _⟩ => ⟨S8x704x1024, .f32⟩
  | .hbm, ⟨1, _⟩ => ⟨S4x704x1024, .f32⟩
  | .hbm, ⟨2, _⟩ => ⟨S3x704x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S2x2x2x704x1024, .f32⟩
  | .hbm, ⟨14, _⟩ => ⟨S_, .i32⟩
  | .hbm, ⟨15, _⟩ => ⟨S_, .i1⟩
  | .hbm, ⟨16, _⟩ => ⟨S1x2x2x704x1024, .f32⟩
  | .hbm, ⟨17, _⟩ => ⟨S2x2x704x1024, .f32⟩
  | .hbm, ⟨18, _⟩ => ⟨S1x2x2x704x1024, .f32⟩
  | .hbm, ⟨19, _⟩ => ⟨S2x2x704x1024, .f32⟩
  | .hbm, ⟨20, _⟩ => ⟨S2x2x704x1024, .f32⟩
  | .hbm, ⟨21, _⟩ => ⟨S_, .i32⟩
  | .hbm, ⟨22, _⟩ => ⟨S_, .i1⟩
  | .hbm, ⟨23, _⟩ => ⟨S1x2x704x1024, .f32⟩
  | .hbm, ⟨24, _⟩ => ⟨S2x704x1024, .f32⟩
  | .hbm, ⟨25, _⟩ => ⟨S1x2x704x1024, .f32⟩
  | .hbm, ⟨26, _⟩ => ⟨S2x704x1024, .f32⟩
  | .hbm, ⟨27, _⟩ => ⟨S2x704x1024, .f32⟩
  | .hbm, ⟨28, _⟩ => ⟨S_, .i32⟩
  | .hbm, ⟨29, _⟩ => ⟨S_, .i1⟩
  | .hbm, ⟨30, _⟩ => ⟨S1x704x1024, .f32⟩
  | .hbm, ⟨31, _⟩ => ⟨S704x1024, .f32⟩
  | .hbm, ⟨32, _⟩ => ⟨S1x704x1024, .f32⟩
  | .hbm, ⟨33, _⟩ => ⟨S704x1024, .f32⟩
  | .hbm, ⟨34, _⟩ => ⟨S704x1024, .f32⟩
  | .hbm, ⟨35, _⟩ => ⟨S2x2x704x1024, .f32⟩
  | .hbm, ⟨36, _⟩ => ⟨S_, .i32⟩
  | .hbm, ⟨37, _⟩ => ⟨S_, .i1⟩
  | .hbm, ⟨38, _⟩ => ⟨S1x2x704x1024, .f32⟩
  | .hbm, ⟨39, _⟩ => ⟨S2x704x1024, .f32⟩
  | .hbm, ⟨40, _⟩ => ⟨S1x2x704x1024, .f32⟩
  | .hbm, ⟨41, _⟩ => ⟨S2x704x1024, .f32⟩
  | .hbm, ⟨42, _⟩ => ⟨S2x704x1024, .f32⟩
  | .hbm, ⟨43, _⟩ => ⟨S_, .i32⟩
  | .hbm, ⟨44, _⟩ => ⟨S_, .i1⟩
  | .hbm, ⟨45, _⟩ => ⟨S1x704x1024, .f32⟩
  | .hbm, ⟨46, _⟩ => ⟨S704x1024, .f32⟩
  | .hbm, ⟨47, _⟩ => ⟨S1x704x1024, .f32⟩
  | .hbm, ⟨48, _⟩ => ⟨S704x1024, .f32⟩
  | .hbm, ⟨49, _⟩ => ⟨S704x1024, .f32⟩
  | .hbm, ⟨50, _⟩ => ⟨S3x704x1024, .bf16⟩
  | .hbm, ⟨51, _⟩ => ⟨S2112x1024, .bf16⟩
  | .hbm, ⟨52, _⟩ => ⟨S4x704x1024, .f32⟩
  | .hbm, ⟨53, _⟩ => ⟨S4x704x1024, .f32⟩
  | .hbm, ⟨54, _⟩ => ⟨S4x704x1024, .f32⟩
  | .hbm, ⟨55, _⟩ => ⟨S4x704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .bf16⟩
  | .local _ .vmem, ⟨5, _⟩ => ⟨S176x1024, .bf16⟩
  | .local _ .vmem, ⟨6, _⟩ => ⟨S176x1024, .bf16⟩
  | .local _ .vmem, ⟨7, _⟩ => ⟨S176x1024, .bf16⟩
  | .local _ .vmem, ⟨8, _⟩ => ⟨S176x1024, .bf16⟩
  | .local _ .vmem, ⟨9, _⟩ => ⟨S176x1024, .bf16⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .vmem, ⟨18, _⟩ => ⟨S1x176x1024, .f32⟩
  | .local _ .vmem, ⟨19, _⟩ => ⟨S1x176x1024, .f32⟩
  | .local _ .vmem, ⟨20, _⟩ => ⟨S1x176x1024, .f32⟩
  | .local _ .vmem, ⟨21, _⟩ => ⟨S1x176x1024, .f32⟩
  | .local _ .vmem, ⟨22, _⟩ => ⟨S1x176x1024, .f32⟩
  | .local _ .vmem, ⟨23, _⟩ => ⟨S1x176x1024, .f32⟩
  | _, _ => ⟨S8x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v34_2 : Ref sig .tc := ⟨.hbm, 54, rfl⟩
abbrev main_v34_3 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_5 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_6 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_7 (i : grid0.Coords) : Fin 3 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  let c0_i32_1 : BitVec 32 := 0#32
  ![c1_i32.toNat, v0.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_14 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x176x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReduceAdamRefIdeal.lean ====
abbrev S8x704x1024 : Shape := ⟨3, ![8, 704, 1024]⟩
abbrev S4x704x1024 : Shape := ⟨3, ![4, 704, 1024]⟩
abbrev S3x704x1024 : Shape := ⟨3, ![3, 704, 1024]⟩
abbrev S_ : Shape := ⟨0, ![]⟩
abbrev S2x2x2x704x1024 : Shape := ⟨5, ![2, 2, 2, 704, 1024]⟩
abbrev S1x2x2x704x1024 : Shape := ⟨5, ![1, 2, 2, 704, 1024]⟩
abbrev S2x2x704x1024 : Shape := ⟨4, ![2, 2, 704, 1024]⟩
abbrev S1x2x704x1024 : Shape := ⟨4, ![1, 2, 704, 1024]⟩
abbrev S2x704x1024 : Shape := ⟨3, ![2, 704, 1024]⟩
abbrev S1x704x1024 : Shape := ⟨3, ![1, 704, 1024]⟩
abbrev S704x1024 : Shape := ⟨2, ![704, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8x704x1024, .f32⟩
  | .hbm, ⟨1, _⟩ => ⟨S4x704x1024, .f32⟩
  | .hbm, ⟨2, _⟩ => ⟨S3x704x1024, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S2x2x2x704x1024, .f32⟩
  | .hbm, ⟨14, _⟩ => ⟨S_, .i32⟩
  | .hbm, ⟨15, _⟩ => ⟨S_, .i1⟩
  | .hbm, ⟨16, _⟩ => ⟨S1x2x2x704x1024, .f32⟩
  | .hbm, ⟨17, _⟩ => ⟨S2x2x704x1024, .f32⟩
  | .hbm, ⟨18, _⟩ => ⟨S1x2x2x704x1024, .f32⟩
  | .hbm, ⟨19, _⟩ => ⟨S2x2x704x1024, .f32⟩
  | .hbm, ⟨20, _⟩ => ⟨S2x2x704x1024, .f32⟩
  | .hbm, ⟨21, _⟩ => ⟨S_, .i32⟩
  | .hbm, ⟨22, _⟩ => ⟨S_, .i1⟩
  | .hbm, ⟨23, _⟩ => ⟨S1x2x704x1024, .f32⟩
  | .hbm, ⟨24, _⟩ => ⟨S2x704x1024, .f32⟩
  | .hbm, ⟨25, _⟩ => ⟨S1x2x704x1024, .f32⟩
  | .hbm, ⟨26, _⟩ => ⟨S2x704x1024, .f32⟩
  | .hbm, ⟨27, _⟩ => ⟨S2x704x1024, .f32⟩
  | .hbm, ⟨28, _⟩ => ⟨S_, .i32⟩
  | .hbm, ⟨29, _⟩ => ⟨S_, .i1⟩
  | .hbm, ⟨30, _⟩ => ⟨S1x704x1024, .f32⟩
  | .hbm, ⟨31, _⟩ => ⟨S704x1024, .f32⟩
  | .hbm, ⟨32, _⟩ => ⟨S1x704x1024, .f32⟩
  | .hbm, ⟨33, _⟩ => ⟨S704x1024, .f32⟩
  | .hbm, ⟨34, _⟩ => ⟨S704x1024, .f32⟩
  | .hbm, ⟨35, _⟩ => ⟨S2x2x704x1024, .f32⟩
  | .hbm, ⟨36, _⟩ => ⟨S_, .i32⟩
  | .hbm, ⟨37, _⟩ => ⟨S_, .i1⟩
  | .hbm, ⟨38, _⟩ => ⟨S1x2x704x1024, .f32⟩
  | .hbm, ⟨39, _⟩ => ⟨S2x704x1024, .f32⟩
  | .hbm, ⟨40, _⟩ => ⟨S1x2x704x1024, .f32⟩
  | .hbm, ⟨41, _⟩ => ⟨S2x704x1024, .f32⟩
  | .hbm, ⟨42, _⟩ => ⟨S2x704x1024, .f32⟩
  | .hbm, ⟨43, _⟩ => ⟨S_, .i32⟩
  | .hbm, ⟨44, _⟩ => ⟨S_, .i1⟩
  | .hbm, ⟨45, _⟩ => ⟨S1x704x1024, .f32⟩
  | .hbm, ⟨46, _⟩ => ⟨S704x1024, .f32⟩
  | .hbm, ⟨47, _⟩ => ⟨S1x704x1024, .f32⟩
  | .hbm, ⟨48, _⟩ => ⟨S704x1024, .f32⟩
  | .hbm, ⟨49, _⟩ => ⟨S704x1024, .f32⟩
  | .hbm, ⟨50, _⟩ => ⟨S704x1024, .f32⟩
  | .hbm, ⟨51, _⟩ => ⟨S1x704x1024, .f32⟩
  | .hbm, ⟨52, _⟩ => ⟨S704x1024, .f32⟩
  | .hbm, ⟨53, _⟩ => ⟨S704x1024, .f32⟩
  | .hbm, ⟨54, _⟩ => ⟨S1x704x1024, .f32⟩
  | .hbm, ⟨55, _⟩ => ⟨S704x1024, .f32⟩
  | .hbm, ⟨56, _⟩ => ⟨S704x1024, .f32⟩
  | .hbm, ⟨57, _⟩ => ⟨S1x704x1024, .f32⟩
  | .hbm, ⟨58, _⟩ => ⟨S704x1024, .f32⟩
  | .hbm, ⟨59, _⟩ => ⟨S704x1024, .f32⟩
  | .hbm, ⟨60, _⟩ => ⟨S1x704x1024, .f32⟩
  | .hbm, ⟨61, _⟩ => ⟨S704x1024, .f32⟩
  | .hbm, ⟨62, _⟩ => ⟨S_, .f32⟩
  | .hbm, ⟨63, _⟩ => ⟨S704x1024, .f32⟩
  | .hbm, ⟨64, _⟩ => ⟨S704x1024, .f32⟩
  | .hbm, ⟨65, _⟩ => ⟨S_, .f32⟩
  | .hbm, ⟨66, _⟩ => ⟨S704x1024, .f32⟩
  | .hbm, ⟨67, _⟩ => ⟨S704x1024, .f32⟩
  | .hbm, ⟨68, _⟩ => ⟨S704x1024, .f32⟩
  | .hbm, ⟨69, _⟩ => ⟨S1x704x1024, .f32⟩
  | .hbm, ⟨70, _⟩ => ⟨S704x1024, .f32⟩
  | .hbm, ⟨71, _⟩ => ⟨S_, .f32⟩
  | .hbm, ⟨72, _⟩ => ⟨S704x1024, .f32⟩
  | .hbm, ⟨73, _⟩ => ⟨S704x1024, .f32⟩
  | .hbm, ⟨74, _⟩ => ⟨S704x1024, .f32⟩
  | .hbm, ⟨75, _⟩ => ⟨S_, .f32⟩
  | .hbm, ⟨76, _⟩ => ⟨S704x1024, .f32⟩
  | .hbm, ⟨77, _⟩ => ⟨S704x1024, .f32⟩
  | .hbm, ⟨78, _⟩ => ⟨S704x1024, .f32⟩
  | .hbm, ⟨79, _⟩ => ⟨S_, .f32⟩
  | .hbm, ⟨80, _⟩ => ⟨S704x1024, .f32⟩
  | .hbm, ⟨81, _⟩ => ⟨S704x1024, .f32⟩
  | .hbm, ⟨82, _⟩ => ⟨S_, .f32⟩
  | .hbm, ⟨83, _⟩ => ⟨S704x1024, .f32⟩
  | .hbm, ⟨84, _⟩ => ⟨S704x1024, .f32⟩
  | .hbm, ⟨85, _⟩ => ⟨S704x1024, .f32⟩
  | .hbm, ⟨86, _⟩ => ⟨S_, .f32⟩
  | .hbm, ⟨87, _⟩ => ⟨S704x1024, .f32⟩
  | .hbm, ⟨88, _⟩ => ⟨S704x1024, .f32⟩
  | .hbm, ⟨89, _⟩ => ⟨S704x1024, .f32⟩
  | .hbm, ⟨90, _⟩ => ⟨S1x704x1024, .f32⟩
  | .hbm, ⟨91, _⟩ => ⟨S704x1024, .f32⟩
  | .hbm, ⟨92, _⟩ => ⟨S_, .f32⟩
  | .hbm, ⟨93, _⟩ => ⟨S704x1024, .f32⟩
  | .hbm, ⟨94, _⟩ => ⟨S704x1024, .f32⟩
  | .hbm, ⟨95, _⟩ => ⟨S704x1024, .f32⟩
  | .hbm, ⟨96, _⟩ => ⟨S_, .f32⟩
  | .hbm, ⟨97, _⟩ => ⟨S704x1024, .f32⟩
  | .hbm, ⟨98, _⟩ => ⟨S704x1024, .f32⟩
  | .hbm, ⟨99, _⟩ => ⟨S1x704x1024, .f32⟩
  | .hbm, ⟨100, _⟩ => ⟨S1x704x1024, .f32⟩
  | .hbm, ⟨101, _⟩ => ⟨S2x704x1024, .f32⟩
  | .hbm, ⟨102, _⟩ => ⟨S4x704x1024, .f32⟩
  | .hbm, ⟨103, _⟩ => ⟨S1x704x1024, .f32⟩
  | .hbm, ⟨104, _⟩ => ⟨S1x704x1024, .f32⟩
  | .hbm, ⟨105, _⟩ => ⟨S2x704x1024, .f32⟩
  | .hbm, ⟨106, _⟩ => ⟨S4x704x1024, .f32⟩
  | .hbm, ⟨107, _⟩ => ⟨S1x704x1024, .f32⟩
  | .hbm, ⟨108, _⟩ => ⟨S1x704x1024, .f32⟩
  | .hbm, ⟨109, _⟩ => ⟨S2x704x1024, .f32⟩
  | .hbm, ⟨110, _⟩ => ⟨S4x704x1024, .f32⟩
  | .hbm, ⟨111, _⟩ => ⟨S1x704x1024, .f32⟩
  | .hbm, ⟨112, _⟩ => ⟨S1x704x1024, .f32⟩
  | .hbm, ⟨113, _⟩ => ⟨S2x704x1024, .f32⟩
  | .hbm, ⟨114, _⟩ => ⟨S4x704x1024, .f32⟩
  | _, _ => ⟨S8x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_10 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_11 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩

abbrev nD : Nat := 1
abbrev τ : Topo := Topo.v7x

variable {F : FTy → Type} [FloatOps F]
-- ==== Proof.Reals.lean ====
/- Hand-written, untrusted: reading extended reals that are real numbers as real numbers. The operations of the ideal
   instance at real arguments, the constants the programs carry, and what a "less than infinity in absolute value"
   precondition gives. -/
module

public import Idealize.ShloMosaic.Lib.Pointwise
public import Idealize.ShloMosaic.Lib.IdealHost
public import Idealize.ShloMosaic.Lib.ReduceAll

@[expose] public section

noncomputable section

namespace Cert.Proof

open Idealize.ShloMosaic

theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem div_real {y : ℝ} (h : y ≠ 0) (x : ℝ) : Ideal.div (x : EReal) (y : EReal) = ((x / y : ℝ) : EReal) := by
  rw [Ideal.div_coe h, ← EReal.coe_mul, mul_one_div]

theorem rsqrt_real {x : ℝ} (h : 0 < x) : Ideal.rsqrt (x : EReal) = (((Real.sqrt x)⁻¹ : ℝ) : EReal) := by
  rw [Ideal.rsqrt_coe, if_neg h.le.not_gt, if_neg h.ne']

/-- The programs' `1e-6`. -/
def eps : ℝ := 8796093 * (2 : ℝ) ^ (-43 : ℤ)

theorem eps_pos : 0 < eps := by unfold eps; positivity

theorem lit_eps : Ideal.ofBits .f32 0x358637BD#32 = ((eps : ℝ) : EReal) := by
  simp [Ideal.ofBits, Ideal.ieee, eps, -EReal.coe_mul]; try norm_num
theorem lit_1024 : Ideal.ofBits .f32 0x44800000#32 = ((1024 : ℝ) : EReal) := by
  simp [Ideal.ofBits, Ideal.ieee, -EReal.coe_mul]; try norm_num
theorem lit_inv1024 : Ideal.ofBits .f32 0x3A800000#32 = ((1 / 1024 : ℝ) : EReal) := by
  simp [Ideal.ofBits, Ideal.ieee, -EReal.coe_mul]; try norm_num
theorem lit_half : Ideal.ofBits .f32 0x3F000000#32 = ((1 / 2 : ℝ) : EReal) := by
  simp [Ideal.ofBits, Ideal.ieee, -EReal.coe_mul]; try norm_num
theorem lit_neghalf : Ideal.ofBits .f32 0xBF000000#32 = ((-1 / 2 : ℝ) : EReal) := by
  simp [Ideal.ofBits, Ideal.ieee, -EReal.coe_mul]; try norm_num
theorem lit_two : Ideal.ofBits .f32 0x40000000#32 = ((2 : ℝ) : EReal) := by
  simp [Ideal.ofBits, Ideal.ieee, -EReal.coe_mul]; try norm_num
theorem lit_one : Ideal.ofBits .f32 0x3F800000#32 = ((1 : ℝ) : EReal) := by
  simp [Ideal.ofBits, Ideal.ieee, -EReal.coe_mul]; try norm_num
theorem lit_zero : Ideal.ofBits .f32 0x00000000#32 = ((0 : ℝ) : EReal) := by
  rw [Ideal.ofBits_zero_f32, EReal.coe_zero]
theorem lit_inf : Ideal.ofBits .f32 0x7F800000#32 = ⊤ := by
  simp [Ideal.ofBits, Ideal.ieee]

/-- An extended real of absolute value below infinity is a real. -/
theorem real_of_abs_lt {x : EReal} (h : max x (-x) < ⊤) : x = ((x.toReal : ℝ) : EReal) := by
  refine (EReal.coe_toReal ?_ ?_).symm
  · rintro rfl; simp at h
  · rintro rfl; simp at h

/-- … read off the compared bit of a precondition. -/
theorem real_of_bit {x : EReal}
    (h : BitVec.ofBool (decide (max x (-x) < (⊤ : EReal))) = 1#1) : x = ((x.toReal : ℝ) : EReal) := by
  apply real_of_abs_lt
  by_contra hx
  rw [decide_eq_false hx] at h
  exact absurd h (by decide)

/-- The logistic function. -/
def sigm (x : ℝ) : ℝ := 1 / (1 + Real.exp (-x))

theorem one_add_exp_ne (x : ℝ) : 1 + Real.exp (-x) ≠ 0 := (add_pos one_pos (Real.exp_pos _)).ne'

/-- One over one and an exponential, as the programs write the logistic function. -/
theorem sigm_real (x : ℝ) : Ideal.div 1 (1 + Ideal.exp (-(x : EReal))) = ((sigm x : ℝ) : EReal) := by
  rw [← EReal.coe_neg, Ideal.exp_coe, ← EReal.coe_one, ← EReal.coe_add, div_real (one_add_exp_ne x)]; rfl

theorem sigm_real' (x : ℝ) : Ideal.div 1 (1 + Ideal.exp (0 - (x : EReal))) = ((sigm x : ℝ) : EReal) := by
  rw [zero_sub, sigm_real]

theorem mean_sq_pos {ι : Type*} (s : Finset ι) (a : ι → ℝ) (n : ℝ) (hn : 0 < n) : 0 < (∑ k ∈ s, a k * a k) / n + eps :=
  add_pos_of_nonneg_of_pos (div_nonneg (Finset.sum_nonneg fun k _ => mul_self_nonneg _) hn.le) eps_pos

/-- One over the root mean square of a row of 1024 (plus `eps`). -/
def rinv (a : Fin 1024 → ℝ) : ℝ := (Real.sqrt ((∑ k, a k * a k) / 1024 + eps))⁻¹

theorem rinv_mul_self (a : Fin 1024 → ℝ) : rinv a * rinv a = 1 / ((∑ k, a k * a k) / 1024 + eps) := by
  have h := mean_sq_pos Finset.univ a 1024 (by norm_num)
  unfold rinv
  rw [← mul_inv, Real.mul_self_sqrt h.le, one_div]

/-- The same of an array, every entry of which is below infinity in absolute value. -/
theorem real_of_all {s t u v : Shape} {axes : List (Fin s.rank)} [Subsingleton t.Idx] {dims : Fin v.rank → Fin s.rank} (x : FVec Ideal s .f32)
    (hb : v.BroadcastsInDim s dims) (init : u.Idx → BitVec 1) (h : s.ReducesTo axes t) (hu : 0 < u.numel) (j : t.Idx)
    (e : Host.reduce IntOp.andi (cmpf .olt (Host.absf x) (broadcastInDim s dims hb (constant v .f32 0x7F800000#32))) init h hu j = 1#1)
    (i : s.Idx) : x i = ((x i).toReal : EReal) := by
  have k : BitVec.ofBool (decide (max (x i) (-x i) < Ideal.ofBits .f32 0x7F800000#32)) = 1#1 := Host.reduce_andi_all _ _ _ _ _ e i
  exact real_of_bit (by rwa [lit_inf] at k)

end Cert.Proof

end
-- ==== Proof.Index.lean ====
/- Hand-written, untrusted: indices of the arrays. -/
module

public import Idealize.ShloMosaic.Lib.Pointwise

@[expose] public section

noncomputable section

namespace Cert.Proof

open Idealize.ShloMosaic

/-- An index of a one-row array is a column. -/
theorem one_row {n : ℕ} (j : Shape.Idx ⟨2, ![1, n]⟩) : ∃ b : Fin n, j = ix2 (0 : Fin 1) b := by
  obtain ⟨a, b, rfl⟩ : ∃ (a : Fin 1) (b : Fin n), j = ix2 a b := ⟨j 0, j 1, eq_ix2 (n0 := 1) (n1 := n) j⟩
  exact ⟨b, by rw [Subsingleton.elim a 0]⟩

/-- A host sum over the first two of three axes. -/
theorem hostReduceAdd_two {n0 n1 n2 : ℕ} (h : (⟨3, ![n0, n1, n2]⟩ : Shape).ReducesTo [0, 1] ⟨1, ![n2]⟩)
    (x : (⟨3, ![n0, n1, n2]⟩ : Shape).Idx → EReal) (init : EReal) (l : Fin n2) :
    Ideal.hostReduceAdd h x init (ix1 l) = init + ∑ a : Fin n0, ∑ b : Fin n1, x (ix3 a b l) := by
  unfold Ideal.hostReduceAdd
  have hd (i) : h.drop i = ix1 l ↔ i 2 = l := by
    have hv : (h.drop i 0 : ℕ) = i 2 := Shape.ReducesTo.drop_apply_val h i 0
    refine ⟨fun e => Fin.ext ?_, fun e => funext fun b => ?_⟩
    · rw [← hv, e]; rfl
    · obtain rfl : b = 0 := Subsingleton.elim _ _
      exact Fin.ext (hv.trans (congrArg Fin.val e))
  rw [← Finset.sum_product' (f := fun a b => x (ix3 a b l))]
  refine congrArg (init + ·) (Finset.sum_nbij' (fun i => (i 0, i 1)) (fun p => ix3 p.1 p.2 l) ?_ ?_ ?_ ?_ ?_)
  · intro i hi; simp
  · intro p hp; simp [hd]; rfl
  · intro i hi; rw [Finset.mem_filter, hd] at hi; rw [← hi.2]; exact (eq_ix3 (n0 := n0) (n1 := n1) (n2 := n2) i).symm
  · intro p hp; rfl
  · intro i hi; rw [Finset.mem_filter, hd] at hi; rw [← hi.2]; exact congrArg x (eq_ix3 (n0 := n0) (n1 := n1) (n2 := n2) i)

end Cert.Proof

end
-- ==== Proof.Loss.lean ====
/- Hand-written, untrusted: the gradient of the loss head. -/
module

public import proofs.«01_k».proof.Proof.Reals
public import proofs.«01_k».proof.Proof.Index
public import proofs.«01_k».proof.Proof.Gen.LossBwdIdeal.Value
public import proofs.«01_k».proof.Proof.Gen.LossRefIdeal.Read
public import Idealize.ShloMosaic.Lib.Pipeline.ValueKit
public import proofs.«01_k».proof.Defs

@[expose] public section

set_option maxRecDepth 16384

noncomputable section

namespace Cert.Proof.Loss

open Idealize.ShloMosaic Idealize.ShloMosaic.TcCoe Idealize.SL.Sem Idealize.ShloMosaic.Pointwise
open Cert.LossBwdIdeal Cert.LossBwdIdeal.Gen

/-! ## One row, over the reals -/

variable (a y g : Fin 1024 → ℝ)

/-- The error of a row: the normed row less the target. -/
def err (l : Fin 1024) : ℝ := a l * rinv a * g l - y l
/-- The row's share of the loss, before the half. -/
def lossRow : ℝ := (∑ k, err a y g k * err a y g k) / 1024
/-- The row's share of the gain's gradient. -/
def dgRow (l : Fin 1024) : ℝ := err a y g l * (1 / 1024) * (a l * rinv a)
/-- The row of the input's gradient. -/
def dxRow (l : Fin 1024) : ℝ :=
  rinv a * (err a y g l * (1 / 1024) * g l - a l * rinv a * ((∑ k, err a y g k * (1 / 1024) * g k * (a k * rinv a)) / 1024))

/-! ## The kernel's payloads at real blocks -/

section
variable (v0 v1 : Vec Ideal S512x1024 .f32) (v2 : Vec Ideal S1x1024 .f32)
  (A Y : Fin 512 → Fin 1024 → ℝ)
  (h0 : ∀ r l, v0 (ix2 r l) = ((A r l : ℝ) : EReal)) (h1 : ∀ r l, v1 (ix2 r l) = ((Y r l : ℝ) : EReal))
  (h2 : ∀ l, v2 (ix2 0 l) = ((g l : ℝ) : EReal))
include h0

theorem rsqrt_apply (r : Fin 512) : k0_pay6 v0 (ix2 r 0) = ((rinv (A r) : ℝ) : EReal) := by
  pointwise [k0_pay6]
  simp only [h0, ← EReal.coe_mul, coe_sum, lit_1024, lit_eps, div_real (by norm_num : (1024 : ℝ) ≠ 0), ← EReal.coe_add]
  rw [rsqrt_real (mean_sq_pos _ _ _ (by norm_num))]; rfl

theorem xn_apply (r : Fin 512) (l : Fin 1024) : k0_pay7 v0 (ix2 r l) = ((A r l * rinv (A r) : ℝ) : EReal) := by
  pointwise [k0_pay7]
  rw [h0, rsqrt_apply v0 A h0, ← EReal.coe_mul]

include h1 h2

theorem err_apply (r : Fin 512) (l : Fin 1024) : k0_pay8 v0 v1 v2 (ix2 r l) = ((err (A r) (Y r) g l : ℝ) : EReal) := by
  pointwise [k0_pay8, k0_pay5]
  rw [xn_apply v0 A h0, h1, h2, ← EReal.coe_mul, ← EReal.coe_sub]; rfl

theorem derr_apply (r : Fin 512) (l : Fin 1024) :
    k0_pay9 v0 v1 v2 (ix2 r l) = ((err (A r) (Y r) g l * (1 / 1024) : ℝ) : EReal) := by
  pointwise [k0_pay9]
  rw [err_apply g v0 v1 v2 A Y h0 h1 h2, lit_inv1024, ← EReal.coe_mul]

theorem dx_apply (r : Fin 512) (l : Fin 1024) : k0_pay10 v0 v1 v2 (ix2 r l) = ((dxRow (A r) (Y r) g l : ℝ) : EReal) := by
  pointwise [k0_pay10, k0_pay5]
  simp only [derr_apply g v0 v1 v2 A Y h0 h1 h2, xn_apply v0 A h0, rsqrt_apply v0 A h0, h2, ← EReal.coe_mul, coe_sum, lit_1024,
    div_real (by norm_num : (1024 : ℝ) ≠ 0), ← EReal.coe_sub]
  rfl

theorem loss_apply (l : Fin 128) :
    k0_pay11 v0 v1 v2 (ix2 0 l) = ((1 / 2 * ∑ r, lossRow (A r) (Y r) g : ℝ) : EReal) := by
  pointwise [k0_pay11]
  simp only [err_apply g v0 v1 v2 A Y h0 h1 h2, ← EReal.coe_mul, coe_sum, lit_1024, lit_half,
    div_real (by norm_num : (1024 : ℝ) ≠ 0)]
  rfl

theorem dg_apply (xo : Vec Ideal S1x1024 .f32) (l : Fin 1024) :
    k0_pay4 (k0_pay12 v0 v1 v2) xo (ix2 0 l) = xo (ix2 0 l) + ((∑ r, dgRow (A r) (Y r) g l : ℝ) : EReal) := by
  pointwise [k0_pay4, k0_pay12]
  simp only [derr_apply g v0 v1 v2 A Y h0 h1 h2, xn_apply v0 A h0, ← EReal.coe_mul, coe_sum]
  rfl

end

/-! ## The kernel's arrays after the run -/

section
variable (m : (ℓ : Loc nD τ sig) → Buf (Elt Ideal) ℓ) (c : Dev nD)
  (A Y : Fin 4096 → Fin 1024 → ℝ)

/-- The three arguments are the real arrays `A`, `Y`, `g`. -/
structure Holds : Prop where
  x : ∀ r l, m ((c : Thread nD τ).loc main_arg0) (ix2 r l) = ((A r l : ℝ) : EReal)
  t : ∀ r l, m ((c : Thread nD τ).loc main_arg1) (ix2 r l) = ((Y r l : ℝ) : EReal)
  g : ∀ l, m ((c : Thread nD τ).loc main_arg2) (ix1 l) = ((g l : ℝ) : EReal)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)

/-- Row `r` of block `t` in the array. -/
def row (t : Fin cfg0.N) (r : Fin 512) : Fin 4096 :=
  ⟨t.val * 512 + r.val, by have := t.isLt; have := r.isLt; have h : cfg0.N = 8 := N_0; omega⟩

variable {g m c A Y} (H : Holds g m c A Y)
include H

theorem blk0 (t : Fin cfg0.N) (r : Fin 512) (l : Fin 1024) : iblk m c 0 t (ix2 r l) = ((A (row t r) l : ℝ) : EReal) := by
  rw [← H.x]
  blk_simp [iblk, V_main_arg0]
  refine congrArg _ ?_
  blk_ext [idx0, row]

theorem blk1 (t : Fin cfg0.N) (r : Fin 512) (l : Fin 1024) : iblk m c 1 t (ix2 r l) = ((Y (row t r) l : ℝ) : EReal) := by
  rw [← H.t]
  blk_simp [iblk, V_main_arg1]
  refine congrArg _ ?_
  blk_ext [idx1, row]

theorem blk2 (t : Fin cfg0.N) (l : Fin 1024) : iblk m c 2 t (ix2 0 l) = ((g l : ℝ) : EReal) := by
  rw [← H.g]
  blk_simp [iblk]
  have h0 : ((View.whole main_v0).slice (win0_2.rect t)).emb (ix2 0 l) = ix2 (0 : Fin 1) l := by blk_ext [idx2]
  rw [h0]
  entry_read
  pointwise

/-- What the body leaves in the first result's block. -/
theorem dx_block (t : Fin cfg0.N) (r : Fin 512) (l : Fin 1024) :
    (outsAt0 m c t.val t.isLt).1 (ix2 r l) = ((dxRow (A (row t r)) (Y (row t r)) g l : ℝ) : EReal) := by
  have := dx_apply g (iblk m c 0 t) (iblk m c 1 t) (iblk m c 2 t) _ _ (blk0 H t) (blk1 H t) (blk2 H t) r l
  by_cases h : t.val % 8 = 0
  · rw [outsAt0_A m c t h]; frame_out; exact this
  · rw [outsAt0_B m c t h]; frame_out; exact this

/-- The first result: the gradient at the input, row by row. -/
theorem dx_final (r : Fin 4096) (l : Fin 1024) :
    (dats m 0 c).arrAt 3 cfg0.N (ix2 r l) = ((dxRow (A r) (Y r) g l : ℝ) : EReal) := by
  refine congrFun ((dats m 0 c).arrAt_eq_of_covers 3
    (fun i => ((dxRow (A (i 0)) (Y (i 0)) g (i 1) : ℝ) : EReal)) (by decide +kernel) fun t hf y => ?_) (ix2 r l)
  obtain ⟨a, b, rfl⟩ : ∃ (a : Fin 512) (b : Fin 1024), y = ix2 a b := ⟨y 0, y 1, eq_ix2 (n0 := 512) (n1 := 1024) y⟩
  blk_simp
  rw [after0_3]
  have h0 : ((View.whole main_v1_0).slice (win0_3.rect t)).emb (ix2 a b) = ix2 (row t a) b := by
    blk_ext [idx3, row]
  rw [h0]
  exact dx_block H t a b

omit H in
theorem zero_apply1 (l : Fin 128) : k0_pay1 (F := Ideal) (ix2 0 l) = 0 := by pointwise [k0_pay1]

omit H in
theorem zero_apply2 (l : Fin 1024) : k0_pay2 (F := Ideal) (ix2 0 l) = 0 := by pointwise [k0_pay2]

omit H in
/-- The sum over the rows of every block is the sum over the rows of the array. -/
theorem sum_rows (f : Fin 4096 → ℝ) : ∑ t : Fin cfg0.N, ∑ r : Fin 512, f (row t r) = ∑ r, f r :=
  Fin.sum_mul_add_congr (S := cfg0.N) (n := 512) (fun t r _ => rfl) (by rw [show cfg0.N = 8 from N_0])

theorem loss_final (l : Fin 128) :
    (dats m 0 c).arrAt 4 cfg0.N (ix2 0 l) = ((1 / 2 * ∑ r, lossRow (A r) (Y r) g : ℝ) : EReal) := by
  have key (t : Fin cfg0.N) (l : Fin 128) := loss_apply g (iblk m c 0 t) (iblk m c 1 t) (iblk m c 2 t) _ _ (blk0 H t) (blk1 H t) (blk2 H t) l
  refine congrFun ((dats m 0 c).arrAt_eq_of_after_last 4 t0_7 (by decide +kernel)
    (fun _ => ((1 / 2 * ∑ r, lossRow (A r) (Y r) g : ℝ) : EReal)) fun j => ?_) (ix2 0 l)
  blk_simp
  rw [after0_4, Pipeline.eq_sum_fin_of_reset_step_apply_last (fun n h => (outsAt0 m c n h).2.1) 8 (fun _ => 0)
    (fun t _ => ((1 / 2 * ∑ r, lossRow (A (row t r)) (Y (row t r)) g : ℝ) : EReal))
    (fun t h j => ?_) (fun t h j => ?_) (le_of_eq N_0) t0_7 rfl j]
  · rw [coe_sum, zero_add, ← Finset.mul_sum, sum_rows fun r => lossRow (A r) (Y r) g]
  · obtain ⟨b, rfl⟩ : ∃ (b : Fin 128), j = ix2 0 b := one_row j
    rw [outsAt0_A m c t h]; frame_out
    pointwise [k0_pay3]
    rw [key, zero_apply1, zero_add]
  · obtain ⟨b, rfl⟩ : ∃ (b : Fin 128), j = ix2 0 b := one_row j
    rw [outsAt0_B m c t h]; frame_out
    pointwise [k0_pay3]
    rw [key]

theorem dg_final (l : Fin 1024) :
    (dats m 0 c).arrAt 5 cfg0.N (ix2 0 l) = ((∑ r, dgRow (A r) (Y r) g l : ℝ) : EReal) := by
  have key (t : Fin cfg0.N) (xo) (l : Fin 1024) := dg_apply g (iblk m c 0 t) (iblk m c 1 t) (iblk m c 2 t) _ _ (blk0 H t) (blk1 H t) (blk2 H t) xo l
  refine congrFun ((dats m 0 c).arrAt_eq_of_after_last 5 t0_7 (by decide +kernel)
    (fun i => ((∑ r, dgRow (A r) (Y r) g (i 1) : ℝ) : EReal)) fun j => ?_) (ix2 0 l)
  blk_simp
  rw [after0_5, Pipeline.eq_sum_fin_of_reset_step_apply_last (fun n h => (outsAt0 m c n h).2.2) 8 (fun _ => 0)
    (fun t i => ((∑ r, dgRow (A (row t r)) (Y (row t r)) g (i 1) : ℝ) : EReal))
    (fun t h j => ?_) (fun t h j => ?_) (le_of_eq N_0) t0_7 rfl j]
  · rw [coe_sum, zero_add, sum_rows fun r => dgRow (A r) (Y r) g (j 1)]
  · obtain ⟨b, rfl⟩ : ∃ (b : Fin 1024), j = ix2 0 b := one_row j
    rw [outsAt0_A m c t h]; frame_out
    rw [key, zero_apply2]; rfl
  · obtain ⟨b, rfl⟩ : ∃ (b : Fin 1024), j = ix2 0 b := one_row j
    rw [outsAt0_B m c t h]; frame_out
    rw [key]; rfl

end

end Cert.Proof.Loss

end
-- ==== Proof.LossRef.lean ====
/- Hand-written, untrusted: the reference of the loss head's gradient, over the reals. -/
module

public import proofs.«01_k».proof.Proof.Loss

@[expose] public section

set_option maxRecDepth 16384

noncomputable section

namespace Cert.Proof.Loss.Ref

open Idealize.ShloMosaic Idealize.ShloMosaic.TcCoe Idealize.SL.Sem Idealize.ShloMosaic.Pointwise
open Cert.LossRefIdeal Cert.LossRefIdeal.Gen Cert.LossRefIdeal.Read

variable (x0 x1 : (⟨S4096x1024, .f32⟩ : BufTy).Contents (Elt Ideal)) (x2 : (⟨S1024, .f32⟩ : BufTy).Contents (Elt Ideal))
  (A Y : Fin 4096 → Fin 1024 → ℝ) (g : Fin 1024 → ℝ)
  (h0 : ∀ r l, x0 (ix2 r l) = ((A r l : ℝ) : EReal)) (h1 : ∀ r l, x1 (ix2 r l) = ((Y r l : ℝ) : EReal))
  (h2 : ∀ l, x2 (ix1 l) = ((g l : ℝ) : EReal))
include h0

theorem ms (r : Fin 4096) :
    val_main_v6 (F := Ideal) x0 (ix2 r 0) = (((∑ k, A r k * A r k) / 1024 + eps : ℝ) : EReal) := by
  pointwise [val_main_v6, val_main_v5, val_main_v4, val_main_v3, val_main_v2, val_main_v1, val_main_v0, val_main_cst,
    val_main_cst_0, val_main_cst_1]
  simp only [h0, ← EReal.coe_mul, coe_sum, lit_1024, lit_eps, lit_zero, EReal.coe_zero, zero_add,
    div_real (by norm_num : (1024 : ℝ) ≠ 0), ← EReal.coe_add]

theorem rinv_apply (r : Fin 4096) : val_main_v7 (F := Ideal) x0 (ix2 r 0) = ((rinv (A r) : ℝ) : EReal) := by
  pointwise [val_main_v7]
  rw [ms x0 A h0, rsqrt_real (mean_sq_pos _ _ _ (by norm_num))]; rfl

theorem drinv_apply (r : Fin 4096) :
    val_main_v10 (F := Ideal) x0 (ix2 r 0) = ((-1 / 2 * (rinv (A r) * rinv (A r) * rinv (A r)) : ℝ) : EReal) := by
  pointwise [val_main_v10, val_main_v9, val_main_v8, val_main_cst_2]
  rw [ms x0 A h0, rinv_apply x0 A h0, div_real (mean_sq_pos _ _ _ (by norm_num)).ne', lit_neghalf, ← EReal.coe_mul, rinv_mul_self,
    one_div_mul_eq_div]

theorem xn_apply (r : Fin 4096) (l : Fin 1024) :
    val_main_v12 (F := Ideal) x0 (ix2 r l) = ((A r l * rinv (A r) : ℝ) : EReal) := by
  pointwise [val_main_v12, val_main_v11]
  rw [rinv_apply x0 A h0, h0, ← EReal.coe_mul]

include h1 h2

theorem err_apply (r : Fin 4096) (l : Fin 1024) :
    val_main_v16 (F := Ideal) x0 x1 x2 (ix2 r l) = ((err (A r) (Y r) g l : ℝ) : EReal) := by
  pointwise [val_main_v16, val_main_v15, val_main_v14, val_main_v13]
  rw [xn_apply x0 A h0, h1, h2, ← EReal.coe_mul, ← EReal.coe_sub]; rfl

theorem derr_apply (r : Fin 4096) (l : Fin 1024) :
    val_main_v30 (F := Ideal) x0 x1 x2 (ix2 r l) = ((err (A r) (Y r) g l * (1 / 1024) : ℝ) : EReal) := by
  pointwise [val_main_v30, val_main_v29, val_main_v28, val_main_v27, val_main_v26, val_main_v25, val_main_v19, val_main_v18,
    val_main_cst_3, val_main_cst_8, val_main_cst_9, val_main_cst_10]
  rw [err_apply x0 x1 x2 A Y g h0 h1 h2, lit_half, lit_1024, lit_two]
  simp only [← EReal.coe_mul, div_real (by norm_num : (1024 : ℝ) ≠ 0)]
  rw [EReal.coe_eq_coe_iff]; ring

theorem loss_apply (l : Fin 128) :
    val_main_v51 (F := Ideal) x0 x1 x2 (ix2 0 l) = ((1 / 2 * ∑ r, lossRow (A r) (Y r) g : ℝ) : EReal) := by
  pointwise [val_main_v51, val_main_v24, val_main_v23, val_main_v22, val_main_v21, val_main_v20, val_main_v17,
    val_main_cst_4, val_main_cst_5, val_main_cst_6, val_main_cst_7]
  simp only [err_apply x0 x1 x2 A Y g h0 h1 h2, ← EReal.coe_mul, coe_sum, lit_1024, lit_half, lit_zero, EReal.coe_zero, zero_add,
    div_real (by norm_num : (1024 : ℝ) ≠ 0)]
  rfl

theorem dg_sum (l : Fin 1024) :
    val_main_v32 (F := Ideal) x0 x1 x2 (ix1 l) = ((∑ r, dgRow (A r) (Y r) g l : ℝ) : EReal) := by
  pointwise [val_main_v32, val_main_v31, val_main_cst_11]
  simp only [derr_apply x0 x1 x2 A Y g h0 h1 h2, xn_apply x0 A h0, ← EReal.coe_mul, coe_sum, lit_zero, EReal.coe_zero, zero_add]
  exact congrArg _ (Finset.sum_congr rfl fun r _ => mul_comm _ _)

theorem dg_apply (l : Fin 1024) :
    val_main_v52 (F := Ideal) x0 x1 x2 (ix2 0 l) = ((∑ r, dgRow (A r) (Y r) g l : ℝ) : EReal) := by
  pointwise [val_main_v52, val_main_v36, val_main_v33, val_main_cst_12]
  simp only [dg_sum x0 x1 x2 A Y g h0 h1 h2, lit_zero, EReal.coe_zero, zero_add, Finset.univ_unique, Finset.sum_singleton]

theorem dx_apply (r : Fin 4096) (l : Fin 1024) :
    val_main_v50 (F := Ideal) x0 x1 x2 (ix2 r l) = ((dxRow (A r) (Y r) g l : ℝ) : EReal) := by
  pointwise [val_main_v50, val_main_v49, val_main_v48, val_main_v47, val_main_v46, val_main_v45, val_main_v44, val_main_v43,
    val_main_v42, val_main_v41, val_main_v40, val_main_v39, val_main_v38, val_main_v37, val_main_v35, val_main_v34, val_main_v13,
    val_main_cst_13, val_main_cst_14, val_main_cst_15]
  simp only [Finset.univ_unique, Finset.sum_singleton, Fin.default_eq_zero]
  simp only [derr_apply x0 x1 x2 A Y g h0 h1 h2, rinv_apply x0 A h0, drinv_apply x0 A h0, h0, h2, ← EReal.coe_mul, coe_sum,
    lit_zero, lit_1024, EReal.coe_zero, zero_add, div_real (by norm_num : (1024 : ℝ) ≠ 0), ← EReal.coe_add]
  rw [EReal.coe_eq_coe_iff]
  unfold dxRow
  have e : ∑ k, err (A r) (Y r) g k * (1 / 1024) * g k * (A r k * rinv (A r))
      = rinv (A r) * ∑ k, A r k * (err (A r) (Y r) g k * (1 / 1024) * g k) := by
    rw [Finset.mul_sum]; exact Finset.sum_congr rfl fun k _ => by ring
  rw [e]
  ring

end Cert.Proof.Loss.Ref

end
-- ==== Proof.LossClaim.lean ====
/- Hand-written, untrusted: the claims about the gradient of the loss head. -/
module

public import proofs.«01_k».proof.Defs
public import proofs.«01_k».proof.Proof.LossRef
public import proofs.«01_k».proof.Proof.Gen.LossRefIdeal.Run
public import proofs.«01_k».proof.Proof.Gen.Pre_loss_finite
public import Idealize.ShloMosaic.Lib.Claim

@[expose] public section

set_option maxRecDepth 16384

noncomputable section

namespace Cert.Proof.Loss

open Idealize.ShloMosaic Idealize.ShloMosaic.TcCoe Idealize.SL.Sem Idealize.ShloMosaic.Pointwise

/-- What the precondition says of one device's arrays. -/
theorem finite (x y : FVec Ideal Cert.Pre_loss_finite.S4096x1024 .f32) (g : FVec Ideal Cert.Pre_loss_finite.S1024 .f32)
    (h : Cert.Pre_loss_finite.fn (F := Ideal) x y g = fun _ => 1#1) :
    (∀ r l, x (ix2 r l) = ((x (ix2 r l)).toReal : EReal)) ∧ (∀ r l, y (ix2 r l) = ((y (ix2 r l)).toReal : EReal))
      ∧ ∀ l, g (ix1 l) = ((g (ix1 l)).toReal : EReal) := by
  have key (r : Fin 4096) (l : Fin 1024) := congrFun h (ix2 r l)
  pointwise [Cert.Pre_loss_finite.fn] at key
  simp only [lit_inf, IntOp.andi_eq_one] at key
  exact ⟨fun r l => real_of_bit (key r l).1.1, fun r l => real_of_bit (key r l).1.2, fun l => real_of_bit (key 0 l).2⟩

/-- The reference runs, keeps its arguments and leaves every counter at zero. -/
theorem frame_ref : Cert.quiescent_LossRefIdeal :=
  fun m ρ _ => (θ_run _ _ _).mono (fun r h => ⟨fun c => (h c).2.2.2, sem_eq_zero_of_no_sems rfl _⟩) (Cert.LossRefIdeal.Value.run (F := Ideal) m ρ)

/-- The two programs return the same arrays. -/
theorem value : Cert.algebraic_LossBwdIdeal_LossRefIdeal_pre_loss_finite := by
  intro m ρ m' ρ' hpre hag
  refine ⟨_, _, _, Cert.LossBwdIdeal.Value.run_blocks m ρ, (θ_run _ _ _).mono (fun r h c => ?_) (Cert.LossRefIdeal.Value.run (F := Ideal) m' ρ')⟩
  obtain ⟨e0, e1, e2⟩ := hag c
  obtain ⟨hx, hy, hg⟩ := finite _ _ _ (hpre c)
  obtain ⟨r0, r1, r2, k⟩ := h c
  have H : Holds (fun l => _) m c (fun r l => _) (fun r l => _) := ⟨hx, hy, hg⟩
  have hx' := hx; have hy' := hy; have hg' := hg
  rw [← e0] at hx'; rw [← e1] at hy'; rw [← e2] at hg'
  refine ⟨r0.trans ?_, r1.trans ?_, r2.trans ?_, k⟩
  · rw [Cert.LossRefIdeal.Read.val_main_v50_eq]
    funext i
    obtain ⟨a, b, rfl⟩ : ∃ (a : Fin 4096) (b : Fin 1024), i = ix2 a b := ⟨i 0, i 1, eq_ix2 (n0 := 4096) (n1 := 1024) i⟩
    rw [Ref.dx_apply _ _ _ _ _ _ hx' hy' hg', dx_final H]
    simp only [e0, e1, e2]
  · rw [Cert.LossRefIdeal.Read.val_main_v51_eq]
    funext i
    obtain ⟨b, rfl⟩ := one_row (n := 128) i
    rw [Ref.loss_apply _ _ _ _ _ _ hx' hy' hg', loss_final H]
    simp only [e0, e1, e2]
  · rw [Cert.LossRefIdeal.Read.val_main_v52_eq]
    funext i
    obtain ⟨b, rfl⟩ := one_row (n := 1024) i
    rw [Ref.dg_apply _ _ _ _ _ _ hx' hy' hg', dg_final H]
    simp only [e0, e1, e2]

end Cert.Proof.Loss

end
-- ==== Proof.FfnRow.lean ====
/- Hand-written, untrusted: the gradient of the second half of the feed-forward layer over the reals, and the kernel's and the
   reference's operations at real arguments. -/
module

public import proofs.«01_k».proof.Proof.Reals
public import proofs.«01_k».proof.Proof.Gen.FfnBwdIdeal.Skeleton
public import proofs.«01_k».proof.Proof.Gen.FfnRefIdeal.Read

@[expose] public section

set_option maxRecDepth 16384

noncomputable section

namespace Cert.Proof.Ffn

open Idealize.ShloMosaic Idealize.ShloMosaic.TcCoe Idealize.SL.Sem Idealize.ShloMosaic.Pointwise

/-- The gate's column `j`. -/
def lo (j : Fin 2816) : Fin 5632 := ⟨j.val, by omega⟩
/-- The column `j` of the other half. -/
def hi (j : Fin 2816) : Fin 5632 := ⟨2816 + j.val, by omega⟩

theorem lo_or_hi (b : Fin 5632) : (∃ j, b = lo j) ∨ ∃ j, b = hi j := by
  by_cases h : b.val < 2816
  · exact .inl ⟨⟨b.val, h⟩, rfl⟩
  · refine .inr ⟨⟨b.val - 2816, by omega⟩, Fin.ext ?_⟩
    show b.val = 2816 + (b.val - 2816)
    omega

variable (u : Fin 5632 → ℝ) (d g : Fin 1024 → ℝ) (w : Fin 2816 → Fin 1024 → ℝ)

/-- The gated activation of a row. -/
def act (j : Fin 2816) : ℝ := u (lo j) * sigm (u (lo j)) * u (hi j)
/-- The row's product with the weight. -/
def prod (l : Fin 1024) : ℝ := ∑ j, act u j * w j l
/-- The gradient at the product. -/
def dprod (l : Fin 1024) : ℝ := d l * g l
/-- The gradient at the gated activation. -/
def dact (j : Fin 2816) : ℝ := ∑ l, dprod d g l * w j l
/-- The gradient at the gate. -/
def dgate (j : Fin 2816) : ℝ :=
  dact d g w j * u (hi j) * (sigm (u (lo j)) * (1 + u (lo j) * (1 - sigm (u (lo j)))))
/-- The gradient at the other half. -/
def dup (j : Fin 2816) : ℝ := dact d g w j * (u (lo j) * sigm (u (lo j)))

/-! ## The kernel's payloads -/

section
open Cert.FfnBwdIdeal Cert.FfnBwdIdeal.Gen

variable (v0 : Vec Ideal S256x1024 .f32) (v1 : Vec Ideal S256x5632 .bf16) (v5 : Vec Ideal S1x1024 .f32)
  (v7 : Vec Ideal S2816x1024 .bf16)
  (D : Fin 256 → Fin 1024 → ℝ) (U : Fin 256 → Fin 5632 → ℝ)
  (h0 : ∀ r l, v0 (ix2 r l) = ((D r l : ℝ) : EReal)) (h1 : ∀ r l, v1 (ix2 r l) = ((U r l : ℝ) : EReal))
  (h5 : ∀ l, v5 (ix2 0 l) = ((g l : ℝ) : EReal)) (h7 : ∀ j l, v7 (ix2 j l) = ((w j l : ℝ) : EReal))

section
include h1

theorem prod_apply (h7 : ∀ j l, v7 (ix2 j l) = ((w j l : ℝ) : EReal)) (r : Fin 256) (l : Fin 1024) :
    k0_pay1 v1 v7 (ix2 r l) = ((prod (U r) w l : ℝ) : EReal) := by
  pointwise [k0_pay1]
  simp only [h1, h7, sigm_real', ← EReal.coe_mul, coe_sum]
  rfl

theorem gate_apply (r : Fin 256) (j : Fin 2816) : k1_pay5 v1 (ix2 r j) = ((U r (lo j) : ℝ) : EReal) := by
  pointwise [k1_pay5, k1_pay4]
  exact h1 _ _

theorem up_apply (r : Fin 256) (j : Fin 2816) : k1_pay6 v1 (ix2 r j) = ((U r (hi j) : ℝ) : EReal) := by
  pointwise [k1_pay6, k1_pay4]
  exact h1 _ _

theorem sg_apply (r : Fin 256) (j : Fin 2816) : k1_pay7 v1 (ix2 r j) = ((sigm (U r (lo j)) : ℝ) : EReal) := by
  pointwise [k1_pay7]
  rw [gate_apply v1 U h1, sigm_real']

theorem silu_apply (r : Fin 256) (j : Fin 2816) :
    k1_pay8 v1 (ix2 r j) = ((U r (lo j) * sigm (U r (lo j)) : ℝ) : EReal) := by
  pointwise [k1_pay8]
  rw [gate_apply v1 U h1, sg_apply v1 U h1, ← EReal.coe_mul]

theorem act_apply (r : Fin 256) (j : Fin 2816) : k1_pay1 (k1_pay11 v1) (ix2 r j) = ((act (U r) j : ℝ) : EReal) := by
  pointwise [k1_pay1, k1_pay11]
  rw [silu_apply v1 U h1, up_apply v1 U h1, ← EReal.coe_mul]; rfl

end

include h0

theorem dg2_apply (v3 : Vec Ideal S256x1024 .f32) (P : Fin 256 → Fin 1024 → ℝ) (h3 : ∀ r l, v3 (ix2 r l) = ((P r l : ℝ) : EReal))
    (xo : Vec Ideal S1x1024 .f32) (l : Fin 1024) :
    k1_pay3 (k1_pay12 v0 v3) xo (ix2 0 l) = xo (ix2 0 l) + ((∑ r, D r l * P r l : ℝ) : EReal) := by
  pointwise [k1_pay3, k1_pay12]
  simp only [h0, h3, ← EReal.coe_mul, coe_sum]

include h5

theorem dprod_apply (r : Fin 256) (l : Fin 1024) : k1_pay9 v0 v5 (ix2 r l) = ((dprod (D r) g l : ℝ) : EReal) := by
  pointwise [k1_pay9]
  rw [h0, h5, ← EReal.coe_mul]; rfl

include h1 h7

theorem dgate_apply (r : Fin 256) (j : Fin 2816) :
    k1_pay10 v0 v1 v5 v7 (ix2 r (lo j)) = ((dgate (U r) (D r) g w j : ℝ) : EReal) := by
  pointwise [k1_pay10]
  rw [dif_pos (show (lo j).val < 2816 from j.isLt)]
  simp only [dprod_apply g v0 v5 D h0 h5, h7, up_apply v1 U h1, gate_apply v1 U h1, sg_apply v1 U h1, ← EReal.coe_mul, coe_sum,
    ← EReal.coe_one, ← EReal.coe_sub, ← EReal.coe_add]
  rfl

theorem dup_apply (r : Fin 256) (j : Fin 2816) :
    k1_pay10 v0 v1 v5 v7 (ix2 r (hi j)) = ((dup (U r) (D r) g w j : ℝ) : EReal) := by
  pointwise [k1_pay10]
  have e (h) : (⟨(hi j).val - 2816, h⟩ : Fin 2816) = j := Fin.ext (by show 2816 + j.val - 2816 = j.val; omega)
  rw [dif_neg (show ¬(hi j).val < 2816 by show ¬2816 + j.val < 2816; omega)]
  simp only [e, dprod_apply g v0 v5 D h0 h5, h7, silu_apply v1 U h1, ← EReal.coe_mul, coe_sum]
  rfl

end

/-! ## The reference -/

namespace Ref
open Cert.FfnRefIdeal Cert.FfnRefIdeal.Gen Cert.FfnRefIdeal.Read

variable (x1 : (⟨S4096x5632, .f32⟩ : BufTy).Contents (Elt Ideal)) (x2 : (⟨S1024, .f32⟩ : BufTy).Contents (Elt Ideal))
  (x3 : (⟨S2816x1024, .f32⟩ : BufTy).Contents (Elt Ideal)) (x4 : (⟨S4096x1024, .f32⟩ : BufTy).Contents (Elt Ideal))
  (D : Fin 4096 → Fin 1024 → ℝ) (U : Fin 4096 → Fin 5632 → ℝ)
  (h1 : ∀ r l, x1 (ix2 r l) = ((U r l : ℝ) : EReal)) (h2 : ∀ l, x2 (ix1 l) = ((g l : ℝ) : EReal))
  (h3 : ∀ j l, x3 (ix2 j l) = ((w j l : ℝ) : EReal)) (h4 : ∀ r l, x4 (ix2 r l) = ((D r l : ℝ) : EReal))

section
include h1

theorem gate_apply (r : Fin 4096) (j : Fin 2816) : val_main_v0 x1 (ix2 r j) = ((U r (lo j) : ℝ) : EReal) := by
  pointwise [val_main_v0]
  exact h1 _ _

theorem up_apply (r : Fin 4096) (j : Fin 2816) : val_main_v1 x1 (ix2 r j) = ((U r (hi j) : ℝ) : EReal) := by
  pointwise [val_main_v1]
  exact h1 _ _

theorem sg_apply (r : Fin 4096) (j : Fin 2816) : val_main_v2_2 x1 (ix2 r j) = ((sigm (U r (lo j)) : ℝ) : EReal) := by
  pointwise [val_main_v2_2, val_main_call0_v3, val_main_call0_v4, val_main_call0_v1, val_main_call0_v2, val_main_call0_v0,
    val_main_call0_cst, val_main_call0_cst_0]
  rw [gate_apply x1 U h1, sigm_real]

theorem dsg_apply (r : Fin 4096) (j : Fin 2816) :
    val_main_v2_1 x1 (ix2 r j) = ((sigm (U r (lo j)) * (1 - sigm (U r (lo j))) : ℝ) : EReal) := by
  pointwise [val_main_v2_1, val_main_call0_v7, val_main_call0_v6, val_main_call0_cst_1]
  rw [sg_apply x1 U h1, ← EReal.coe_one, ← EReal.coe_sub, ← EReal.coe_mul]

theorem silu_apply (r : Fin 4096) (j : Fin 2816) :
    val_main_v2_0 x1 (ix2 r j) = ((U r (lo j) * sigm (U r (lo j)) : ℝ) : EReal) := by
  pointwise [val_main_v2_0]
  rw [gate_apply x1 U h1, sg_apply x1 U h1, ← EReal.coe_mul]

theorem act_apply (r : Fin 4096) (j : Fin 2816) : val_main_v3 x1 (ix2 r j) = ((act (U r) j : ℝ) : EReal) := by
  pointwise [val_main_v3]
  rw [silu_apply x1 U h1, up_apply x1 U h1, ← EReal.coe_mul]; rfl

include h3 h4

theorem dg2_apply (l : Fin 1024) :
    val_main_v23 x1 x3 x4 (ix2 0 l) = ((∑ r, D r l * prod (U r) w l : ℝ) : EReal) := by
  pointwise [val_main_v23, val_main_v14, val_main_v13, val_main_v12, val_main_v11, val_main_v4, val_main_cst, val_main_cst_0]
  simp only [Finset.univ_unique, Finset.sum_singleton, Fin.default_eq_zero]
  simp only [act_apply x1 U h1, h3, h4, ← EReal.coe_mul, coe_sum]
  rfl
end

section
include h2 h4

theorem dprod_apply (r : Fin 4096) (l : Fin 1024) : val_main_v10 x2 x4 (ix2 r l) = ((dprod (D r) g l : ℝ) : EReal) := by
  pointwise [val_main_v10, val_main_v9, val_main_v5]
  rw [h2, h4, ← EReal.coe_mul, mul_comm]; rfl

include h3
theorem dact_apply (r : Fin 4096) (j : Fin 2816) : val_main_v15 x2 x3 x4 (ix2 r j) = ((dact (D r) g w j : ℝ) : EReal) := by
  pointwise [val_main_v15]
  simp only [dprod_apply g x2 x4 D h2 h4, h3, ← EReal.coe_mul, coe_sum]
  rfl

include h1
theorem dgate_apply (r : Fin 4096) (j : Fin 2816) :
    val_main_v20 x1 x2 x3 x4 (ix2 r (lo j)) = ((dgate (U r) (D r) g w j : ℝ) : EReal) := by
  pointwise [val_main_v20, val_main_v19, val_main_v18, val_main_call1_v0, val_main_call1_v1, val_main_call1_v2, val_main_v17]
  rw [dif_pos (show (lo j).val < 2816 from j.isLt)]
  simp only [dact_apply g w x2 x3 x4 D h2 h3 h4, gate_apply x1 U h1, up_apply x1 U h1, sg_apply x1 U h1, dsg_apply x1 U h1,
    ← EReal.coe_mul, ← EReal.coe_add]
  congr 1
  unfold dgate
  show dact (D r) g w j * U r (hi j) * sigm (U r (lo j))
    + U r (lo j) * (dact (D r) g w j * U r (hi j)) * (sigm (U r (lo j)) * (1 - sigm (U r (lo j)))) = _
  ring

theorem dup_apply (r : Fin 4096) (j : Fin 2816) :
    val_main_v20 x1 x2 x3 x4 (ix2 r (hi j)) = ((dup (U r) (D r) g w j : ℝ) : EReal) := by
  pointwise [val_main_v20, val_main_v19, val_main_v16]
  have e (h) : (⟨(hi j).val - 2816, h⟩ : Fin 2816) = j := Fin.ext (by show 2816 + j.val - 2816 = j.val; omega)
  rw [dif_neg (show ¬(hi j).val < 2816 by show ¬2816 + j.val < 2816; omega)]
  simp only [e, dact_apply g w x2 x3 x4 D h2 h3 h4, silu_apply x1 U h1, ← EReal.coe_mul]
  rw [mul_comm]; rfl

end

end Ref

end Cert.Proof.Ffn

end
-- ==== Proof.FfnLaunch.lean ====
/- Hand-written, untrusted: the launch of a call together with the forward call before it, with the arrays it leaves. -/
module

public import proofs.«01_k».proof.Proof.Gen.FfnBwdIdeal.Frame

@[expose] public section

set_option maxRecDepth 16384

noncomputable section

namespace Cert.Proof.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnBwdIdeal Cert.FfnBwdIdeal.Gen

variable {F : FTy → Type} [FloatOps F] (m : (ℓ : Loc nD τ sig) → Buf (Elt F) ℓ) (ρ : Dev nD → PrngReg)

set_option backward.isDefEq.respectTransparency.types false in
/-- The run, with every array of a device afterwards named. -/
theorem run_arrays : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.Proof.Ffn

end
-- ==== Proof.Ffn.lean ====
/- Hand-written, untrusted: the gradient of the second half of the feed-forward layer, the arrays that the kernel leaves. -/
module

public import proofs.«01_k».proof.Proof.FfnRow
public import proofs.«01_k».proof.Proof.FfnLaunch
public import proofs.«01_k».proof.Proof.Index
public import Idealize.ShloMosaic.Lib.Pipeline.ValueKit

@[expose] public section

set_option maxRecDepth 16384

noncomputable section

namespace Cert.Proof.Ffn

open Idealize.ShloMosaic Idealize.ShloMosaic.TcCoe Idealize.SL.Sem Idealize.ShloMosaic.Pointwise
open Cert.FfnBwdIdeal Cert.FfnBwdIdeal.Gen

variable (V : (c : Dev nD) → (b : Ref sig .tc) → Buf (Elt Ideal) ((c : Thread nD τ).loc b)) (c : Dev nD)
  (U : Fin 4096 → Fin 5632 → ℝ) (g : Fin 1024 → ℝ) (w : Fin 2816 → Fin 1024 → ℝ) (D : Fin 4096 → Fin 1024 → ℝ)

/-! ## The forward call -/

theorem idx0_1 : ∀ t : Fin cfg0.N, win0_1.index t = ![t.val, 0] := (by decide +kernel : ∀ t : Fin grid0.N, _)
theorem idx0_3 : ∀ t : Fin cfg0.N, win0_3.index t = ![0, 0] := (by decide +kernel : ∀ t : Fin grid0.N, _)
theorem idx0_5 : ∀ t : Fin cfg0.N, win0_5.index t = ![t.val, 0] := (by decide +kernel : ∀ t : Fin grid0.N, _)

/-- Row `r` of block `t` in the array. -/
def row0 (t : Fin cfg0.N) (r : Fin 256) : Fin 4096 :=
  ⟨t.val * 256 + r.val, by have := t.isLt; have := r.isLt; have h : cfg0.N = 16 := N_0; omega⟩

/-- The product that the forward call saves, row by row. -/
theorem prod_final (hu : ∀ r l, V c main_v0 (ix2 r l) = ((U r l : ℝ) : EReal)) (hw : ∀ j l, V c main_v1 (ix2 j l) = ((w j l : ℝ) : EReal))
    (r : Fin 4096) (l : Fin 1024) : (dat0 V c).arrAt 5 cfg0.N (ix2 r l) = ((prod (U r) w l : ℝ) : EReal) := by
  have b1 (t : Fin cfg0.N) (r : Fin 256) (l : Fin 5632) : iblk0 V c 1 t (ix2 r l) = ((U (row0 t r) l : ℝ) : EReal) := by
    rw [← hu]
    blk_simp [iblk0]
    refine congrArg _ ?_
    blk_ext [idx0_1, row0]
  have b3 (t : Fin cfg0.N) (j : Fin 2816) (l : Fin 1024) : iblk0 V c 3 t (ix2 j l) = ((w j l : ℝ) : EReal) := by
    rw [← hw]
    blk_simp [iblk0]
    refine congrArg _ ?_
    blk_ext [idx0_3]
  refine congrFun ((dat0 V c).arrAt_eq_of_covers 5
    (fun i => ((prod (U (i 0)) w (i 1) : ℝ) : EReal)) (by decide +kernel) fun t hf y => ?_) (ix2 r l)
  obtain ⟨a, b, rfl⟩ : ∃ (a : Fin 256) (b : Fin 1024), y = ix2 a b := ⟨y 0, y 1, eq_ix2 (n0 := 256) (n1 := 1024) y⟩
  blk_simp
  rw [after0_5]
  have h0 : ((View.whole main_v3_1).slice (win0_5.rect t)).emb (ix2 a b) = ix2 (row0 t a) b := by
    blk_ext [idx0_5, row0]
  rw [h0]
  frame_out
  exact prod_apply w (iblk0 V c 1 t) (iblk0 V c 3 t) _ (b1 t) (b3 t) a b

/-! ## The backward call -/

theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![t.val, 0] := (by decide +kernel : ∀ t : Fin grid1.N, _)
theorem idx1_6 : ∀ t : Fin cfg1.N, win1_6.index t = ![t.val, 0] := (by decide +kernel : ∀ t : Fin grid1.N, _)
theorem idx1_7 : ∀ t : Fin cfg1.N, win1_7.index t = ![t.val, 0] := (by decide +kernel : ∀ t : Fin grid1.N, _)

/-- Row `r` of block `t` in the array. -/
def row (t : Fin cfg1.N) (r : Fin 256) : Fin 4096 :=
  ⟨t.val * 256 + r.val, by have := t.isLt; have := r.isLt; have h : cfg1.N = 16 := N_1; omega⟩

/-- The contents of the call's operands. -/
structure Holds : Prop where
  d : ∀ r l, V c main_arg4 (ix2 r l) = ((D r l : ℝ) : EReal)
  u : ∀ r l, V c main_v0 (ix2 r l) = ((U r l : ℝ) : EReal)
  f : ∀ r l, V c main_v3_1 (ix2 r l) = ((prod (U r) w l : ℝ) : EReal)
  g : ∀ l, V c main_v4 (ix2 0 l) = ((g l : ℝ) : EReal)
  w : ∀ j l, V c main_v1 (ix2 j l) = ((w j l : ℝ) : EReal)

variable {V c U g w D} (H : Holds V c U g w D)
include H

theorem blk0 (t : Fin cfg1.N) (r : Fin 256) (l : Fin 1024) : iblk1 V c 0 t (ix2 r l) = ((D (row t r) l : ℝ) : EReal) := by
  rw [← H.d]
  blk_simp [iblk1]
  refine congrArg _ ?_
  blk_ext [idx1_0, row]

theorem blk1 (t : Fin cfg1.N) (r : Fin 256) (l : Fin 5632) : iblk1 V c 1 t (ix2 r l) = ((U (row t r) l : ℝ) : EReal) := by
  rw [← H.u]
  blk_simp [iblk1]
  refine congrArg _ ?_
  blk_ext [idx1_1, row]

theorem blk2 (t : Fin cfg1.N) (r : Fin 256) (l : Fin 1024) : iblk1 V c 2 t (ix2 r l) = ((prod (U (row t r)) w l : ℝ) : EReal) := by
  rw [← H.f]
  blk_simp [iblk1]
  refine congrArg _ ?_
  blk_ext [idx1_2, row]

theorem blk3 (t : Fin cfg1.N) (l : Fin 1024) : iblk1 V c 3 t (ix2 0 l) = ((g l : ℝ) : EReal) := by
  rw [← H.g]
  blk_simp [iblk1]
  refine congrArg _ ?_
  blk_ext [idx1_3]

theorem blk4 (t : Fin cfg1.N) (j : Fin 2816) (l : Fin 1024) : iblk1 V c 4 t (ix2 j l) = ((w j l : ℝ) : EReal) := by
  rw [← H.w]
  blk_simp [iblk1]
  refine congrArg _ ?_
  blk_ext [idx1_4]

/-- The first result, of either half. -/
def dgu (u : Fin 5632 → ℝ) (d g : Fin 1024 → ℝ) (w : Fin 2816 → Fin 1024 → ℝ) (b : Fin 5632) : ℝ :=
  if h : b.val < 2816 then dgate u d g w ⟨b.val, h⟩ else dup u d g w ⟨b.val - 2816, by have := b.isLt; omega⟩

omit H in
theorem dgu_lo (u : Fin 5632 → ℝ) (d g : Fin 1024 → ℝ) (w : Fin 2816 → Fin 1024 → ℝ) (j : Fin 2816) :
    dgu u d g w (lo j) = dgate u d g w j := dif_pos j.isLt

omit H in
theorem dgu_hi (u : Fin 5632 → ℝ) (d g : Fin 1024 → ℝ) (w : Fin 2816 → Fin 1024 → ℝ) (j : Fin 2816) :
    dgu u d g w (hi j) = dup u d g w j := by
  refine (dif_neg (show ¬2816 + j.val < 2816 by omega)).trans ?_
  congr 1
  exact Fin.ext (by show 2816 + j.val - 2816 = j.val; omega)

theorem dgu_block (t : Fin cfg1.N) (r : Fin 256) (b : Fin 5632) :
    (outsAt1 V c t.val t.isLt).1 (ix2 r b) = ((dgu (U (row t r)) (D (row t r)) g w b : ℝ) : EReal) := by
  have key : k1_pay10 (iblk1 V c 0 t) (iblk1 V c 1 t) (iblk1 V c 3 t) (iblk1 V c 4 t) (ix2 r b) = ((dgu (U (row t r)) (D (row t r)) g w b : ℝ) : EReal) := by
    obtain ⟨j, rfl⟩ | ⟨j, rfl⟩ := lo_or_hi b
    · rw [dgu_lo]
      exact dgate_apply g w _ _ _ _ _ _ (blk0 H t) (blk1 H t) (blk3 H t) (blk4 H t) r j
    · rw [dgu_hi]
      exact dup_apply g w _ _ _ _ _ _ (blk0 H t) (blk1 H t) (blk3 H t) (blk4 H t) r j
  by_cases h : t.val % 16 = 0
  · rw [outsAt1_A V c t h]; frame_out; exact key
  · rw [outsAt1_B V c t h]; frame_out; exact key

theorem act_block (t : Fin cfg1.N) (r : Fin 256) (b : Fin 2816) :
    (outsAt1 V c t.val t.isLt).2.1 (ix2 r b) = ((act (U (row t r)) b : ℝ) : EReal) := by
  have key := act_apply (iblk1 V c 1 t) _ (blk1 H t) r b
  by_cases h : t.val % 16 = 0
  · rw [outsAt1_A V c t h]; frame_out; exact key
  · rw [outsAt1_B V c t h]; frame_out; exact key

theorem dprod_block (t : Fin cfg1.N) (r : Fin 256) (b : Fin 1024) :
    (outsAt1 V c t.val t.isLt).2.2.1 (ix2 r b) = ((dprod (D (row t r)) g b : ℝ) : EReal) := by
  have key := dprod_apply g (iblk1 V c 0 t) (iblk1 V c 3 t) _ (blk0 H t) (blk3 H t) r b
  by_cases h : t.val % 16 = 0
  · rw [outsAt1_A V c t h]; frame_out; exact key
  · rw [outsAt1_B V c t h]; frame_out; exact key

/-- The gradient at the gate and at the other half. -/
theorem dgu_final (r : Fin 4096) (l : Fin 5632) :
    (dat1 V c).arrAt 5 cfg1.N (ix2 r l) = ((dgu (U r) (D r) g w l : ℝ) : EReal) := by
  refine congrFun ((dat1 V c).arrAt_eq_of_covers 5
    (fun i => ((dgu (U (i 0)) (D (i 0)) g w (i 1) : ℝ) : EReal)) (by decide +kernel) fun t hf y => ?_) (ix2 r l)
  obtain ⟨a, b, rfl⟩ : ∃ (a : Fin 256) (b : Fin 5632), y = ix2 a b := ⟨y 0, y 1, eq_ix2 (n0 := 256) (n1 := 5632) y⟩
  blk_simp
  rw [after1_5]
  have h0 : ((View.whole main_v5_0).slice (win1_5.rect t)).emb (ix2 a b) = ix2 (row t a) b := by
    blk_ext [idx1_5, row]
  rw [h0]
  exact dgu_block H t a b

/-- The gated activations. -/
theorem act_final (r : Fin 4096) (l : Fin 2816) :
    (dat1 V c).arrAt 6 cfg1.N (ix2 r l) = ((act (U r) l : ℝ) : EReal) := by
  refine congrFun ((dat1 V c).arrAt_eq_of_covers 6
    (fun i => ((act (U (i 0)) (i 1) : ℝ) : EReal)) (by decide +kernel) fun t hf y => ?_) (ix2 r l)
  obtain ⟨a, b, rfl⟩ : ∃ (a : Fin 256) (b : Fin 2816), y = ix2 a b := ⟨y 0, y 1, eq_ix2 (n0 := 256) (n1 := 2816) y⟩
  blk_simp
  rw [after1_6]
  have h0 : ((View.whole main_v5_1).slice (win1_6.rect t)).emb (ix2 a b) = ix2 (row t a) b := by
    blk_ext [idx1_6, row]
  rw [h0]
  exact act_block H t a b

/-- The gradient at the product. -/
theorem dprod_final (r : Fin 4096) (l : Fin 1024) :
    (dat1 V c).arrAt 7 cfg1.N (ix2 r l) = ((dprod (D r) g l : ℝ) : EReal) := by
  refine congrFun ((dat1 V c).arrAt_eq_of_covers 7
    (fun i => ((dprod (D (i 0)) g (i 1) : ℝ) : EReal)) (by decide +kernel) fun t hf y => ?_) (ix2 r l)
  obtain ⟨a, b, rfl⟩ : ∃ (a : Fin 256) (b : Fin 1024), y = ix2 a b := ⟨y 0, y 1, eq_ix2 (n0 := 256) (n1 := 1024) y⟩
  blk_simp
  rw [after1_7]
  have h0 : ((View.whole main_v5_2).slice (win1_7.rect t)).emb (ix2 a b) = ix2 (row t a) b := by
    blk_ext [idx1_7, row]
  rw [h0]
  exact dprod_block H t a b

omit H in
theorem zero_apply (l : Fin 1024) : k1_pay2 (F := Ideal) (ix2 0 l) = 0 := by pointwise [k1_pay2]

omit H in
theorem sum_rows (f : Fin 4096 → ℝ) : ∑ t : Fin cfg1.N, ∑ r : Fin 256, f (row t r) = ∑ r, f r :=
  Fin.sum_mul_add_congr (S := cfg1.N) (n := 256) (fun t r _ => rfl) (by rw [show cfg1.N = 16 from N_1])

/-- The gradient of the residual's gain. -/
theorem dg2_final (l : Fin 1024) :
    (dat1 V c).arrAt 8 cfg1.N (ix2 0 l) = ((∑ r, D r l * prod (U r) w l : ℝ) : EReal) := by
  have key (t : Fin cfg1.N) (xo) (l : Fin 1024) := dg2_apply (iblk1 V c 0 t) _ (blk0 H t) (iblk1 V c 2 t) _ (blk2 H t) xo l
  refine congrFun ((dat1 V c).arrAt_eq_of_after_last 8 t1_15 (by decide +kernel)
    (fun i => ((∑ r, D r (i 1) * prod (U r) w (i 1) : ℝ) : EReal)) fun j => ?_) (ix2 0 l)
  blk_simp
  rw [after1_8, Pipeline.eq_sum_fin_of_reset_step_apply_last (fun n h => (outsAt1 V c n h).2.2.2) 16 (fun _ => 0)
    (fun t i => ((∑ r, D (row t r) (i 1) * prod (U (row t r)) w (i 1) : ℝ) : EReal))
    (fun t h j => ?_) (fun t h j => ?_) (le_of_eq N_1) t1_15 rfl j]
  · rw [coe_sum, zero_add, sum_rows fun r => D r (j 1) * prod (U r) w (j 1)]
  · obtain ⟨b, rfl⟩ : ∃ (b : Fin 1024), j = ix2 0 b := one_row j
    rw [outsAt1_A V c t h]; frame_out
    rw [key, zero_apply]; rfl
  · obtain ⟨b, rfl⟩ : ∃ (b : Fin 1024), j = ix2 0 b := one_row j
    rw [outsAt1_B V c t h]; frame_out
    rw [key]; rfl

end Cert.Proof.Ffn

end
-- ==== Proof.FfnClaim.lean ====
/- Hand-written, untrusted: the claims about the gradient of the second half of the feed-forward layer. -/
module

public import proofs.«01_k».proof.Proof.Ffn
public import proofs.«01_k».proof.Defs
public import proofs.«01_k».proof.Proof.Gen.FfnRefIdeal.Run
public import proofs.«01_k».proof.Proof.Gen.Pre_ffn_finite
public import Idealize.ShloMosaic.Lib.Claim
public import Idealize.ShloMosaic.Lib.ReduceAll

@[expose] public section

set_option maxRecDepth 16384

noncomputable section

namespace Cert.Proof.Ffn

open Idealize.ShloMosaic Idealize.ShloMosaic.TcCoe Idealize.SL.Sem Idealize.ShloMosaic.Pointwise
open Cert.FfnBwdIdeal Cert.FfnBwdIdeal.Gen

/-- What the precondition says of one device's arrays. -/
theorem finite (x : FVec Ideal Cert.Pre_ffn_finite.S4096x1024 .f32) (u : FVec Ideal Cert.Pre_ffn_finite.S4096x5632 .f32)
    (g : FVec Ideal Cert.Pre_ffn_finite.S1024 .f32) (w : FVec Ideal Cert.Pre_ffn_finite.S2816x1024 .f32)
    (d : FVec Ideal Cert.Pre_ffn_finite.S4096x1024 .f32)
    (h : Cert.Pre_ffn_finite.fn (F := Ideal) x u g w d = fun _ => 1#1) :
    (∀ r l, u (ix2 r l) = ((u (ix2 r l)).toReal : EReal)) ∧ (∀ l, g (ix1 l) = ((g (ix1 l)).toReal : EReal))
      ∧ (∀ r l, w (ix2 r l) = ((w (ix2 r l)).toReal : EReal)) ∧ ∀ r l, d (ix2 r l) = ((d (ix2 r l)).toReal : EReal) := by
  have key := congrFun h ix0
  simp only [Cert.Pre_ffn_finite.fn, Cert.Pre_ffn_finite.fn_part1, andi_apply, IntOp.andi_eq_one] at key
  obtain ⟨⟨⟨k1, k2⟩, k3⟩, k4⟩ := key
  exact ⟨fun r l => real_of_all _ _ _ _ _ _ k1 _, fun l => real_of_all _ _ _ _ _ _ k2 _,
    fun r l => real_of_all _ _ _ _ _ _ k3 _, fun r l => real_of_all _ _ _ _ _ _ k4 _⟩

section Arrays

variable (m : (ℓ : Loc nD τ sig) → Buf (Elt Ideal) ℓ) (ρ : Dev nD → PrngReg) (c : Dev nD)

theorem v0_eq (i : S4096x5632.Idx) : W1 m ρ c (Proc.devRef .tc main_v0) i = m ((c : Thread nD τ).loc main_arg1) i := by
  have h : W1 m ρ c (Proc.devRef .tc main_v0) = fun i : S4096x5632.Idx => m ((c : Thread nD τ).loc main_arg1) i := by
    after_results_simp <;> rfl
  rw [h]

theorem v1_eq (i : S2816x1024.Idx) : W1 m ρ c (Proc.devRef .tc main_v1) i = m ((c : Thread nD τ).loc main_arg3) i := by
  have h : W1 m ρ c (Proc.devRef .tc main_v1) = fun i : S2816x1024.Idx => m ((c : Thread nD τ).loc main_arg3) i := by
    after_results_simp <;> rfl
  rw [h]

theorem v4_eq : W3 m ρ c (Proc.devRef .tc main_v4) = (shapeCast S1x1024 (W2 m ρ c (Proc.devRef .tc main_arg2) : S1024.Idx → EReal) shapeCasts_S1024_S1x1024 : S1x1024.Idx → EReal) := by
  after_results_simp <;> rfl

variable (U : Fin 4096 → Fin 5632 → ℝ) (g : Fin 1024 → ℝ) (w : Fin 2816 → Fin 1024 → ℝ) (D : Fin 4096 → Fin 1024 → ℝ)

/-- The backward call's operands, of the arguments. -/
theorem holds (hu : ∀ r l, m ((c : Thread nD τ).loc main_arg1) (ix2 r l) = ((U r l : ℝ) : EReal))
    (hg : ∀ l, m ((c : Thread nD τ).loc main_arg2) (ix1 l) = ((g l : ℝ) : EReal))
    (hw : ∀ j l, m ((c : Thread nD τ).loc main_arg3) (ix2 j l) = ((w j l : ℝ) : EReal))
    (hd : ∀ r l, m ((c : Thread nD τ).loc main_arg4) (ix2 r l) = ((D r l : ℝ) : EReal)) : Holds (V3 m ρ) c U g w D := by
  have u1 (r : Fin 4096) (l : Fin 5632) : W1 m ρ c (Proc.devRef .tc main_v0) (ix2 r l) = ((U r l : ℝ) : EReal) := by
    rw [v0_eq, hu]
  have w1 (j : Fin 2816) (l : Fin 1024) : W1 m ρ c (Proc.devRef .tc main_v1) (ix2 j l) = ((w j l : ℝ) : EReal) := by
    rw [v1_eq, hw]
  refine ⟨fun r l => ?_, fun r l => ?_, fun r l => ?_, fun l => ?_, fun j l => ?_⟩
  · rw [← hd]; exact congrFun (W3_args m ρ c main_arg4 (by decide)) _
  · rw [← u1]; exact congrFun ((W3_of m ρ c main_v0 (by decide)).trans (W2_of m ρ c main_v0 (by decide))) _
  · rw [← prod_final (V1 m ρ) c U w u1 w1]
    exact congrFun ((W3_of m ρ c main_v3_1 (by decide)).trans (W2_arr m ρ c 5)) _
  · show W3 m ρ c (Proc.devRef .tc main_v4) (ix2 0 l) = _
    rw [v4_eq, ← hg]
    pointwise
    exact congrFun (W2_args m ρ c main_arg2 (by decide)) _
  · rw [← w1]; exact congrFun ((W3_of m ρ c main_v1 (by decide)).trans (W2_of m ρ c main_v1 (by decide))) _

end Arrays

/-- The reference runs, keeps its arguments and leaves every counter at zero. -/
theorem frame_ref : Cert.quiescent_FfnRefIdeal :=
  fun m ρ _ => (θ_run _ _ _).mono (fun r h => ⟨fun c => (h c).2.2.2.2, sem_eq_zero_of_no_sems rfl _⟩) (Cert.FfnRefIdeal.Value.run (F := Ideal) m ρ)

/-- The two programs return the same arrays. -/
theorem value : Cert.algebraic_FfnBwdIdeal_FfnRefIdeal_pre_ffn_finite := by
  intro m ρ m' ρ' hpre hag
  refine ⟨_, _, _, _, (θ_run _ _ _).mono (fun r h c => ⟨h c _ (mem_uc main_v5_0 (by decide)), h c _ (mem_uc main_v5_1 (by decide)),
      h c _ (mem_uc main_v5_2 (by decide)), h c _ (mem_uc main_v5_3 (by decide)),
      (h c _ (mem_uc main_arg0 (by decide))).trans (W4_args m ρ c main_arg0 (by decide)),
      (h c _ (mem_uc main_arg1 (by decide))).trans (W4_args m ρ c main_arg1 (by decide)),
      (h c _ (mem_uc main_arg2 (by decide))).trans (W4_args m ρ c main_arg2 (by decide)),
      (h c _ (mem_uc main_arg3 (by decide))).trans (W4_args m ρ c main_arg3 (by decide)),
      (h c _ (mem_uc main_arg4 (by decide))).trans (W4_args m ρ c main_arg4 (by decide))⟩) (run_arrays m ρ),
    (θ_run _ _ _).mono (fun r h c => ?_) (Cert.FfnRefIdeal.Value.run (F := Ideal) m' ρ')⟩
  obtain ⟨e0, e1, e2, e3, e4⟩ := hag c
  obtain ⟨hu, hg, hw, hd⟩ := finite _ _ _ _ _ (hpre c)
  obtain ⟨r0, r1, r2, r3, k⟩ := h c
  have H := holds m ρ c _ _ _ _ hu hg hw hd
  have hu' := hu; have hg' := hg; have hw' := hw; have hd' := hd
  rw [← e1] at hu'; rw [← e2] at hg'; rw [← e3] at hw'; rw [← e4] at hd'
  refine ⟨r0.trans ?_, r1.trans ?_, r2.trans ?_, r3.trans ?_, k⟩
  · rw [Cert.FfnRefIdeal.Read.val_main_v20_eq]
    funext i
    obtain ⟨a, b, rfl⟩ : ∃ (a : Fin 4096) (b : Fin 5632), i = ix2 a b := ⟨i 0, i 1, eq_ix2 (n0 := 4096) (n1 := 5632) i⟩
    refine Eq.trans ?_ ((dgu_final H a b).symm.trans (congrFun (W4_arr m ρ c 5).symm _))
    obtain ⟨j, rfl⟩ | ⟨j, rfl⟩ := lo_or_hi b
    · rw [Ref.dgate_apply _ _ _ _ _ _ _ _ hu' hg' hw' hd', dgu_lo]
      simp only [e1, e2, e3, e4]
    · rw [Ref.dup_apply _ _ _ _ _ _ _ _ hu' hg' hw' hd', dgu_hi]
      simp only [e1, e2, e3, e4]
  · rw [Cert.FfnRefIdeal.Read.val_main_v21_eq]
    funext i
    obtain ⟨a, b, rfl⟩ : ∃ (a : Fin 4096) (b : Fin 2816), i = ix2 a b := ⟨i 0, i 1, eq_ix2 (n0 := 4096) (n1 := 2816) i⟩
    refine Eq.trans ?_ ((act_final H a b).symm.trans (congrFun (W4_arr m ρ c 6).symm _))
    rw [Cert.FfnRefIdeal.Read.val_main_v21_apply]
    exact (Ref.act_apply _ _ hu' a b).trans (by simp only [e1])
  · rw [Cert.FfnRefIdeal.Read.val_main_v22_eq]
    funext i
    obtain ⟨a, b, rfl⟩ : ∃ (a : Fin 4096) (b : Fin 1024), i = ix2 a b := ⟨i 0, i 1, eq_ix2 (n0 := 4096) (n1 := 1024) i⟩
    refine Eq.trans ?_ ((dprod_final H a b).symm.trans (congrFun (W4_arr m ρ c 7).symm _))
    rw [Cert.FfnRefIdeal.Read.val_main_v22_apply]
    exact (Ref.dprod_apply _ _ _ _ hg' hd' a b).trans (by simp only [e2, e4])
  · rw [Cert.FfnRefIdeal.Read.val_main_v23_eq]
    funext i
    obtain ⟨b, rfl⟩ := one_row (n := 1024) i
    refine Eq.trans ?_ ((dg2_final H b).symm.trans (congrFun (W4_arr m ρ c 8).symm _))
    rw [Ref.dg2_apply _ _ _ _ _ _ hu' hw' hd']
    simp only [e1, e3, e4]

end Cert.Proof.Ffn

end
-- ==== Proof.Norm.lean ====
/- Hand-written, untrusted: the gradient of a modulated norm and of the product after it, one row over the reals. -/
module

public import proofs.«01_k».proof.Proof.Reals

@[expose] public section

noncomputable section

namespace Cert.Proof.Norm

/-- A row of the product with a transposed matrix: the gradient that reaches the norm's output. -/
def dot {K : ℕ} (p : Fin K → ℝ) (w : Fin 1024 → Fin K → ℝ) (l : Fin 1024) : ℝ := ∑ k, p k * w l k

/-- A row with zeros after it. -/
def wide {K L : ℕ} (p : Fin K → ℝ) (k : Fin L) : ℝ := if h : k.val < K then p ⟨k.val, h⟩ else 0

/-- The product does not see the zeros. -/
theorem dot_wide {K L : ℕ} (p : Fin K → ℝ) (w : Fin 1024 → Fin K → ℝ) (l : Fin 1024) :
    dot (wide (L := K + L) p) (fun l => wide (w l)) l = dot p w l := by
  unfold dot wide
  rw [Fin.sum_univ_add]
  simp

variable (a d sc g e : Fin 1024 → ℝ)

/-- The row of the norm's gradient, added to what reaches the input past it. -/
def dxRow (l : Fin 1024) : ℝ :=
  rinv a * (d l * (g l * (1 + sc l)) - a l * rinv a * ((∑ k, d k * (g k * (1 + sc k)) * (a k * rinv a)) / 1024)) + e l

/-- The same row as differentiating the square, the mean and the root gives it. -/
theorem dxRow_eq (l : Fin 1024) :
    e l + d l * (1 + sc l) * g l * rinv a
        + a l * ((∑ k, a k * (d k * (1 + sc k) * g k)) * (-1 / 2 * (rinv a * rinv a * rinv a)) / 1024)
        + (∑ k, a k * (d k * (1 + sc k) * g k)) * (-1 / 2 * (rinv a * rinv a * rinv a)) / 1024 * a l = dxRow a d sc g e l := by
  unfold dxRow
  have h : ∑ k, d k * (g k * (1 + sc k)) * (a k * rinv a) = rinv a * ∑ k, a k * (d k * (1 + sc k) * g k) := by
    rw [Finset.mul_sum]; exact Finset.sum_congr rfl fun k _ => by ring
  rw [h]; ring

end Cert.Proof.Norm

end
-- ==== Proof.Inproj.lean ====
/- Hand-written, untrusted: the gradient of the modulated norm and the input projection. -/
module

public import proofs.«01_k».proof.Proof.Norm
public import proofs.«01_k».proof.Proof.Index
public import proofs.«01_k».proof.Proof.Gen.InprojBwdIdeal.Value
public import Idealize.ShloMosaic.Lib.Pipeline.ValueKit

@[expose] public section

set_option maxRecDepth 16384

noncomputable section

namespace Cert.Proof.Inproj

open Idealize.ShloMosaic Idealize.ShloMosaic.TcCoe Idealize.SL.Sem Idealize.ShloMosaic.Pointwise
open Cert.InprojBwdIdeal Cert.InprojBwdIdeal.Gen Cert.Proof.Norm

/-! ## The kernel's payloads at real blocks -/

section
variable (sc g : Fin 1024 → ℝ) (v0 v3 : Vec Ideal S512x1024 .f32) (v1 : Vec Ideal S512x3456 .bf16) (v4 v6 : Vec Ideal S1x1024 .f32)
  (v8 : Vec Ideal S1024x3456 .bf16)
  (A E : Fin 512 → Fin 1024 → ℝ) (P : Fin 512 → Fin 3456 → ℝ) (w : Fin 1024 → Fin 3456 → ℝ)
  (h0 : ∀ r l, v0 (ix2 r l) = ((A r l : ℝ) : EReal)) (h1 : ∀ r k, v1 (ix2 r k) = ((P r k : ℝ) : EReal))
  (h3 : ∀ r l, v3 (ix2 r l) = ((E r l : ℝ) : EReal)) (h4 : ∀ l, v4 (ix2 0 l) = ((sc l : ℝ) : EReal))
  (h6 : ∀ l, v6 (ix2 0 l) = ((g l : ℝ) : EReal)) (h8 : ∀ l k, v8 (ix2 l k) = ((w l k : ℝ) : EReal))

include h0 in
theorem rsqrt_apply (r : Fin 512) : k0_pay10 v0 (ix2 r 0) = ((rinv (A r) : ℝ) : EReal) := by
  pointwise [k0_pay10]
  simp only [h0, ← EReal.coe_mul, coe_sum, lit_1024, lit_eps, div_real (by norm_num : (1024 : ℝ) ≠ 0), ← EReal.coe_add]
  rw [rsqrt_real (mean_sq_pos _ _ _ (by norm_num))]; rfl

include h0 in
theorem xn_apply (r : Fin 512) (l : Fin 1024) : k0_pay11 v0 (ix2 r l) = ((A r l * rinv (A r) : ℝ) : EReal) := by
  pointwise [k0_pay11]
  rw [h0, rsqrt_apply v0 A h0, ← EReal.coe_mul]

include h1 h8

theorem dh_apply (r : Fin 512) (l : Fin 1024) : k0_pay12 v1 v8 (ix2 r l) = ((dot (P r) w l : ℝ) : EReal) := by
  pointwise [k0_pay12]
  simp only [h1, h8, ← EReal.coe_mul, coe_sum]
  rfl

theorem dsh_apply (xo : Vec Ideal S1x1024 .f32) (l : Fin 1024) :
    k0_pay5 (k0_pay12 v1 v8) xo (ix2 0 l) = xo (ix2 0 l) + ((∑ r, dot (P r) w l : ℝ) : EReal) := by
  pointwise [k0_pay5]
  simp only [dh_apply v1 v8 P w h1 h8, coe_sum]

include h0

theorem da_apply (l : Fin 1024) :
    k0_pay13 v0 v1 v8 (ix2 0 l) = ((∑ r, dot (P r) w l * (A r l * rinv (A r)) : ℝ) : EReal) := by
  pointwise [k0_pay13]
  simp only [dh_apply v1 v8 P w h1 h8, xn_apply v0 A h0, ← EReal.coe_mul, coe_sum]

include h6 in
theorem dsc_apply (xo : Vec Ideal S1x1024 .f32) (l : Fin 1024) :
    k0_pay6 (k0_pay9 v6) (k0_pay13 v0 v1 v8) xo (ix2 0 l)
      = xo (ix2 0 l) + (((∑ r, dot (P r) w l * (A r l * rinv (A r))) * g l : ℝ) : EReal) := by
  pointwise [k0_pay6, k0_pay9]
  rw [da_apply v0 v1 v8 A P w h0 h1 h8, h6, ← EReal.coe_mul]

include h4

theorem dg_apply (xo : Vec Ideal S1x1024 .f32) (l : Fin 1024) :
    k0_pay7 (k0_pay8 v4) (k0_pay13 v0 v1 v8) xo (ix2 0 l)
      = xo (ix2 0 l) + (((∑ r, dot (P r) w l * (A r l * rinv (A r))) * (1 + sc l) : ℝ) : EReal) := by
  pointwise [k0_pay7, k0_pay8]
  rw [da_apply v0 v1 v8 A P w h0 h1 h8, h4, ← EReal.coe_one, ← EReal.coe_add, ← EReal.coe_mul]

include h3 h6

theorem dx_apply (r : Fin 512) (l : Fin 1024) :
    k0_pay1 v3 (k0_pay14 v0 v1 v4 v6 v8) (ix2 r l) = ((dxRow (A r) (dot (P r) w) sc g (E r) l : ℝ) : EReal) := by
  pointwise [k0_pay1, k0_pay14, k0_pay8, k0_pay9]
  simp only [dh_apply v1 v8 P w h1 h8, xn_apply v0 A h0, rsqrt_apply v0 A h0, h3, h4, h6, ← EReal.coe_one, ← EReal.coe_add,
    ← EReal.coe_mul, coe_sum, lit_1024, div_real (by norm_num : (1024 : ℝ) ≠ 0), ← EReal.coe_sub]
  rfl

end

/-! ## The kernel's arrays after the run -/

variable (m : (ℓ : Loc nD τ sig) → Buf (Elt Ideal) ℓ) (c : Dev nD)
  (A E : Fin 4096 → Fin 1024 → ℝ) (P : Fin 4096 → Fin 3336 → ℝ) (w : Fin 1024 → Fin 3336 → ℝ) (sc g : Fin 1024 → ℝ)

/-- The contents of the arguments. -/
structure Holds : Prop where
  x : ∀ r l, m ((c : Thread nD τ).loc main_arg0) (ix2 r l) = ((A r l : ℝ) : EReal)
  sc : ∀ l, m ((c : Thread nD τ).loc main_arg1) (ix1 l) = ((sc l : ℝ) : EReal)
  g : ∀ l, m ((c : Thread nD τ).loc main_arg2) (ix1 l) = ((g l : ℝ) : EReal)
  w : ∀ l k, m ((c : Thread nD τ).loc main_arg3) (ix2 l k) = ((w l k : ℝ) : EReal)
  p : ∀ r k, m ((c : Thread nD τ).loc main_arg4) (ix2 r k) = ((P r k : ℝ) : EReal)
  e : ∀ r l, m ((c : Thread nD τ).loc main_arg5) (ix2 r l) = ((E r l : ℝ) : EReal)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

/-- Row `r` of block `t` in the array. -/
def row (t : Fin cfg0.N) (r : Fin 512) : Fin 4096 :=
  ⟨t.val * 512 + r.val, by have := t.isLt; have := r.isLt; have h : cfg0.N = 8 := N_0; omega⟩

variable {m c A E P w sc g} (H : Holds m c A E P w sc g)
include H

theorem blk0 (t : Fin cfg0.N) (r : Fin 512) (l : Fin 1024) : iblk m c 0 t (ix2 r l) = ((A (row t r) l : ℝ) : EReal) := by
  rw [← H.x]
  blk_simp [iblk, V_main_arg0]
  refine congrArg _ ?_
  blk_ext [idx0, row]

theorem blk2 (t : Fin cfg0.N) (r : Fin 512) (l : Fin 1024) : iblk m c 2 t (ix2 r l) = ((E (row t r) l : ℝ) : EReal) := by
  rw [← H.e]
  blk_simp [iblk, V_main_arg5]
  refine congrArg _ ?_
  blk_ext [idx2, row]

theorem blk3 (t : Fin cfg0.N) (l : Fin 1024) : iblk m c 3 t (ix2 0 l) = ((sc l : ℝ) : EReal) := by
  rw [← H.sc]
  blk_simp [iblk]
  have h0 : ((View.whole main_v2).slice (win0_3.rect t)).emb (ix2 0 l) = ix2 (0 : Fin 1) l := by blk_ext [idx3]
  rw [h0]
  entry_read
  simp only [List.flatten_cons, List.flatten_nil, List.append_nil, List.cons_append, List.nil_append]
  after_results_simp
  pointwise

theorem blk4 (t : Fin cfg0.N) (l : Fin 1024) : iblk m c 4 t (ix2 0 l) = ((g l : ℝ) : EReal) := by
  rw [← H.g]
  blk_simp [iblk]
  have h0 : ((View.whole main_v3).slice (win0_4.rect t)).emb (ix2 0 l) = ix2 (0 : Fin 1) l := by blk_ext [idx4]
  rw [h0]
  entry_read
  simp only [List.flatten_cons, List.flatten_nil, List.append_nil, List.cons_append, List.nil_append]
  after_results_simp
  pointwise

omit H in
theorem sitofp_zero : FloatOps.sitofp (F := Ideal) FTy.f32 0#32 = ((0 : ℝ) : EReal) := by
  simp [FloatOps.sitofp]

omit H in
/-- The first host-prepared operand: the gradient with columns of zeros after it. -/
theorem v1_eq : V m c main_v1 = fun i : S4096x3456.Idx => pad S4096x3456 ![0, 0] ![0, 120] ![0, 0]
    (m ((c : Thread nD τ).loc main_arg4) : S4096x3336.Idx → EReal) (sitofp (F := Ideal) .f32 (constantI S_ 32 0#32))
    pads_S4096x3336_S4096x3456_000_01200 h_S_ i := by
  entry_read
  simp only [List.flatten_cons, List.flatten_nil, List.append_nil, List.cons_append, List.nil_append]
  after_results_simp <;> rfl

omit H in
/-- The second one: the weights with columns of zeros after them. -/
theorem v5_eq : V m c main_v5 = fun i : S1024x3456.Idx => pad S1024x3456 ![0, 0] ![0, 120] ![0, 0]
    (m ((c : Thread nD τ).loc main_arg3) : S1024x3336.Idx → EReal) (sitofp (F := Ideal) .f32 (constantI S_ 32 0#32))
    pads_S1024x3336_S1024x3456_000_01200 h_S_ i := by
  entry_read
  simp only [List.flatten_cons, List.flatten_nil, List.append_nil, List.cons_append, List.nil_append]
  after_results_simp <;> rfl

theorem blk1 (t : Fin cfg0.N) (r : Fin 512) (k : Fin 3456) : iblk m c 1 t (ix2 r k) = ((wide (P (row t r)) k : ℝ) : EReal) := by
  blk_simp [iblk]
  have h0 : ((View.whole main_v1).slice (win0_1.rect t)).emb (ix2 r k) = ix2 (row t r) k := by blk_ext [idx1, row]
  rw [h0, v1_eq]
  pointwise
  unfold wide
  by_cases hk : k.val < 3336
  · rw [dif_pos (by intro a; fin_cases a <;> simp <;> omega), dif_pos hk]
    exact H.p _ _
  · rw [dif_neg (fun h => hk (by simpa using (h 1).2.2)), dif_neg hk]
    exact sitofp_zero

theorem blk5 (t : Fin cfg0.N) (l : Fin 1024) (k : Fin 3456) : iblk m c 5 t (ix2 l k) = ((wide (w l) k : ℝ) : EReal) := by
  blk_simp [iblk]
  have h0 : ((View.whole main_v5).slice (win0_5.rect t)).emb (ix2 l k) = ix2 l k := by blk_ext [idx5]
  rw [h0, v5_eq]
  pointwise
  unfold wide
  by_cases hk : k.val < 3336
  · rw [dif_pos (by intro a; fin_cases a <;> simp <;> omega), dif_pos hk]
    exact H.w _ _
  · rw [dif_neg (fun h => hk (by simpa using (h 1).2.2)), dif_neg hk]
    exact sitofp_zero

omit H in
theorem zero_apply2 (l : Fin 1024) : k0_pay2 (F := Ideal) (ix2 0 l) = 0 := by pointwise [k0_pay2]

omit H in
theorem zero_apply3 (l : Fin 1024) : k0_pay3 (F := Ideal) (ix2 0 l) = 0 := by pointwise [k0_pay3]

omit H in
theorem zero_apply4 (l : Fin 1024) : k0_pay4 (F := Ideal) (ix2 0 l) = 0 := by pointwise [k0_pay4]

omit H in
/-- The sum over the rows of every block is the sum over the rows of the array. -/
theorem sum_rows (f : Fin 4096 → ℝ) : ∑ t : Fin cfg0.N, ∑ r : Fin 512, f (row t r) = ∑ r, f r :=
  Fin.sum_mul_add_congr (S := cfg0.N) (n := 512) (fun t r _ => rfl) (by rw [show cfg0.N = 8 from N_0])

/-- What the body leaves in the first result's block. -/
theorem dx_block (t : Fin cfg0.N) (r : Fin 512) (l : Fin 1024) :
    (outsAt0 m c t.val t.isLt).1 (ix2 r l) = ((dxRow (A (row t r)) (dot (P (row t r)) w) sc g (E (row t r)) l : ℝ) : EReal) := by
  have := dx_apply sc g (iblk m c 0 t) (iblk m c 2 t) (iblk m c 1 t) (iblk m c 3 t) (iblk m c 4 t) (iblk m c 5 t) _ _ _ _
    (blk0 H t) (blk1 H t) (blk2 H t) (blk3 H t) (blk4 H t) (blk5 H t) r l
  simp only [show dot (wide (L := 3456) (P (row t r))) (fun l => wide (w l)) = dot (P (row t r)) w from
    funext fun l => dot_wide (L := 120) _ _ l] at this
  by_cases h : t.val % 8 = 0
  · rw [outsAt0_A m c t h]; frame_out; exact this
  · rw [outsAt0_B m c t h]; frame_out; exact this

/-- The first result: the gradient at the input, row by row. -/
theorem dx_final (r : Fin 4096) (l : Fin 1024) :
    (dats m 0 c).arrAt 6 cfg0.N (ix2 r l) = ((dxRow (A r) (dot (P r) w) sc g (E r) l : ℝ) : EReal) := by
  refine congrFun ((dats m 0 c).arrAt_eq_of_covers 6
    (fun i => ((dxRow (A (i 0)) (dot (P (i 0)) w) sc g (E (i 0)) (i 1) : ℝ) : EReal)) (by decide +kernel) fun t hf y => ?_) (ix2 r l)
  obtain ⟨a, b, rfl⟩ : ∃ (a : Fin 512) (b : Fin 1024), y = ix2 a b := ⟨y 0, y 1, eq_ix2 (n0 := 512) (n1 := 1024) y⟩
  blk_simp
  rw [after0_6]
  have h0 : ((View.whole main_v6_0).slice (win0_6.rect t)).emb (ix2 a b) = ix2 (row t a) b := by
    blk_ext [idx6, row]
  rw [h0]
  exact dx_block H t a b

/-- The second result: the gradient at the shift. -/
theorem dsh_final (l : Fin 1024) :
    (dats m 0 c).arrAt 7 cfg0.N (ix2 0 l) = ((∑ r, dot (P r) w l : ℝ) : EReal) := by
  have key (t : Fin cfg0.N) (xo) (l : Fin 1024) := dsh_apply (iblk m c 1 t) (iblk m c 5 t) _ _ (blk1 H t) (blk5 H t) xo l
  simp only [dot_wide (L := 120)] at key
  refine congrFun ((dats m 0 c).arrAt_eq_of_after_last 7 t0_7 (by decide +kernel)
    (fun i => ((∑ r, dot (P r) w (i 1) : ℝ) : EReal)) fun j => ?_) (ix2 0 l)
  blk_simp
  rw [after0_7, Pipeline.eq_sum_fin_of_reset_step_apply_last (fun n h => (outsAt0 m c n h).2.1) 8 (fun _ => 0)
    (fun t i => ((∑ r, dot (P (row t r)) w (i 1) : ℝ) : EReal))
    (fun t h j => ?_) (fun t h j => ?_) (le_of_eq N_0) t0_7 rfl j]
  · rw [coe_sum, zero_add, sum_rows fun r => dot (P r) w (j 1)]
  · obtain ⟨b, rfl⟩ : ∃ (b : Fin 1024), j = ix2 0 b := one_row j
    rw [outsAt0_A m c t h]; frame_out
    rw [key, zero_apply2]; rfl
  · obtain ⟨b, rfl⟩ : ∃ (b : Fin 1024), j = ix2 0 b := one_row j
    rw [outsAt0_B m c t h]; frame_out
    rw [key]; rfl

/-- The third: the gradient at the scale. -/
theorem dsc_final (l : Fin 1024) :
    (dats m 0 c).arrAt 8 cfg0.N (ix2 0 l) = (((∑ r, dot (P r) w l * (A r l * rinv (A r))) * g l : ℝ) : EReal) := by
  have key (t : Fin cfg0.N) (xo) (l : Fin 1024) := dsc_apply g (iblk m c 0 t) (iblk m c 1 t) (iblk m c 4 t) (iblk m c 5 t) _ _ _
    (blk0 H t) (blk1 H t) (blk4 H t) (blk5 H t) xo l
  simp only [dot_wide (L := 120)] at key
  refine congrFun ((dats m 0 c).arrAt_eq_of_after_last 8 t0_7 (by decide +kernel)
    (fun i => (((∑ r, dot (P r) w (i 1) * (A r (i 1) * rinv (A r))) * g (i 1) : ℝ) : EReal)) fun j => ?_) (ix2 0 l)
  blk_simp
  rw [after0_8, Pipeline.eq_sum_fin_of_reset_step_apply_last (fun n h => (outsAt0 m c n h).2.2.1) 8 (fun _ => 0)
    (fun t i => (((∑ r, dot (P (row t r)) w (i 1) * (A (row t r) (i 1) * rinv (A (row t r)))) * g (i 1) : ℝ) : EReal))
    (fun t h j => ?_) (fun t h j => ?_) (le_of_eq N_0) t0_7 rfl j]
  · rw [coe_sum, zero_add, ← Finset.sum_mul, sum_rows fun r => dot (P r) w (j 1) * (A r (j 1) * rinv (A r))]
  · obtain ⟨b, rfl⟩ : ∃ (b : Fin 1024), j = ix2 0 b := one_row j
    rw [outsAt0_A m c t h]; frame_out
    rw [key, zero_apply3]; rfl
  · obtain ⟨b, rfl⟩ : ∃ (b : Fin 1024), j = ix2 0 b := one_row j
    rw [outsAt0_B m c t h]; frame_out
    rw [key]; rfl

/-- The fourth: the gradient at the norm's gain. -/
theorem dg_final (l : Fin 1024) :
    (dats m 0 c).arrAt 9 cfg0.N (ix2 0 l) = (((∑ r, dot (P r) w l * (A r l * rinv (A r))) * (1 + sc l) : ℝ) : EReal) := by
  have key (t : Fin cfg0.N) (xo) (l : Fin 1024) := dg_apply sc (iblk m c 0 t) (iblk m c 1 t) (iblk m c 3 t) (iblk m c 5 t) _ _ _
    (blk0 H t) (blk1 H t) (blk3 H t) (blk5 H t) xo l
  simp only [dot_wide (L := 120)] at key
  refine congrFun ((dats m 0 c).arrAt_eq_of_after_last 9 t0_7 (by decide +kernel)
    (fun i => (((∑ r, dot (P r) w (i 1) * (A r (i 1) * rinv (A r))) * (1 + sc (i 1)) : ℝ) : EReal)) fun j => ?_) (ix2 0 l)
  blk_simp
  rw [after0_9, Pipeline.eq_sum_fin_of_reset_step_apply_last (fun n h => (outsAt0 m c n h).2.2.2) 8 (fun _ => 0)
    (fun t i => (((∑ r, dot (P (row t r)) w (i 1) * (A (row t r) (i 1) * rinv (A (row t r)))) * (1 + sc (i 1)) : ℝ) : EReal))
    (fun t h j => ?_) (fun t h j => ?_) (le_of_eq N_0) t0_7 rfl j]
  · rw [coe_sum, zero_add, ← Finset.sum_mul, sum_rows fun r => dot (P r) w (j 1) * (A r (j 1) * rinv (A r))]
  · obtain ⟨b, rfl⟩ : ∃ (b : Fin 1024), j = ix2 0 b := one_row j
    rw [outsAt0_A m c t h]; frame_out
    rw [key, zero_apply4]; rfl
  · obtain ⟨b, rfl⟩ : ∃ (b : Fin 1024), j = ix2 0 b := one_row j
    rw [outsAt0_B m c t h]; frame_out
    rw [key]; rfl

end Cert.Proof.Inproj

end
-- ==== Proof.InprojRef.lean ====
/- Hand-written, untrusted: the reference of the gradient of the modulated norm and the input projection, over the reals. -/
module

public import proofs.«01_k».proof.Proof.Norm
public import proofs.«01_k».proof.Proof.Index
public import proofs.«01_k».proof.Proof.Gen.InprojRefIdeal.Read

@[expose] public section

set_option maxRecDepth 16384

noncomputable section

namespace Cert.Proof.Inproj.Ref

open Idealize.ShloMosaic Idealize.ShloMosaic.TcCoe Idealize.SL.Sem Idealize.ShloMosaic.Pointwise
open Cert.InprojRefIdeal Cert.InprojRefIdeal.Gen Cert.InprojRefIdeal.Read Cert.Proof.Norm

variable (x0 x5 : (⟨S4096x1024, .f32⟩ : BufTy).Contents (Elt Ideal)) (x1 x2 : (⟨S1024, .f32⟩ : BufTy).Contents (Elt Ideal))
  (x3 : (⟨S1024x3336, .f32⟩ : BufTy).Contents (Elt Ideal)) (x4 : (⟨S4096x3336, .f32⟩ : BufTy).Contents (Elt Ideal))
  (A E : Fin 4096 → Fin 1024 → ℝ) (sc g : Fin 1024 → ℝ) (w : Fin 1024 → Fin 3336 → ℝ) (P : Fin 4096 → Fin 3336 → ℝ)
  (h0 : ∀ r l, x0 (ix2 r l) = ((A r l : ℝ) : EReal)) (h1 : ∀ l, x1 (ix1 l) = ((sc l : ℝ) : EReal))
  (h2 : ∀ l, x2 (ix1 l) = ((g l : ℝ) : EReal)) (h3 : ∀ l k, x3 (ix2 l k) = ((w l k : ℝ) : EReal))
  (h4 : ∀ r k, x4 (ix2 r k) = ((P r k : ℝ) : EReal)) (h5 : ∀ r l, x5 (ix2 r l) = ((E r l : ℝ) : EReal))

section
include h0

theorem ms (r : Fin 4096) :
    val_main_v7 (F := Ideal) x0 (ix2 r 0) = (((∑ k, A r k * A r k) / 1024 + eps : ℝ) : EReal) := by
  pointwise [val_main_v7, val_main_v6, val_main_v5, val_main_v4, val_main_v3, val_main_v2, val_main_v1, val_main_cst_0,
    val_main_cst_1, val_main_cst_2]
  simp only [h0, ← EReal.coe_mul, coe_sum, lit_1024, lit_eps, lit_zero, EReal.coe_zero, zero_add,
    div_real (by norm_num : (1024 : ℝ) ≠ 0), ← EReal.coe_add]

theorem rinv_apply (r : Fin 4096) : val_main_v8 (F := Ideal) x0 (ix2 r 0) = ((rinv (A r) : ℝ) : EReal) := by
  pointwise [val_main_v8]
  rw [ms x0 A h0, rsqrt_real (mean_sq_pos _ _ _ (by norm_num))]; rfl

theorem drinv_apply (r : Fin 4096) :
    val_main_v11 (F := Ideal) x0 (ix2 r 0) = ((-1 / 2 * (rinv (A r) * rinv (A r) * rinv (A r)) : ℝ) : EReal) := by
  pointwise [val_main_v11, val_main_v10, val_main_v9, val_main_cst_3]
  rw [ms x0 A h0, rinv_apply x0 A h0, div_real (mean_sq_pos _ _ _ (by norm_num)).ne', lit_neghalf, ← EReal.coe_mul, rinv_mul_self,
    one_div_mul_eq_div]

theorem xn_apply (r : Fin 4096) (l : Fin 1024) :
    val_main_v13 (F := Ideal) x0 (ix2 r l) = ((A r l * rinv (A r) : ℝ) : EReal) := by
  pointwise [val_main_v13, val_main_v12]
  rw [rinv_apply x0 A h0, h0, ← EReal.coe_mul]

end

include h3 h4

theorem dh_apply (r : Fin 4096) (l : Fin 1024) : val_main_v26 (F := Ideal) x3 x4 (ix2 r l) = ((dot (P r) w l : ℝ) : EReal) := by
  pointwise [val_main_v26]
  simp only [h3, h4, ← EReal.coe_mul, coe_sum]
  rfl

theorem dsh_apply (l : Fin 1024) : val_main_v57 (F := Ideal) x3 x4 (ix2 0 l) = ((∑ r, dot (P r) w l : ℝ) : EReal) := by
  pointwise [val_main_v57, val_main_v29, val_main_v28, val_main_v27, val_main_cst_5, val_main_cst_6]
  simp only [dh_apply x3 x4 w P h3 h4, coe_sum, lit_zero, EReal.coe_zero, zero_add, Finset.univ_unique, Finset.sum_singleton]

include h0

theorem dsc_apply (h2 : ∀ l, x2 (ix1 l) = ((g l : ℝ) : EReal)) (l : Fin 1024) :
    val_main_v58 (F := Ideal) x0 x2 x3 x4 (ix2 0 l) = (((∑ r, dot (P r) w l * (A r l * rinv (A r))) * g l : ℝ) : EReal) := by
  pointwise [val_main_v58, val_main_v35, val_main_v32, val_main_v31, val_main_v30, val_main_v16, val_main_v15, val_main_v14,
    val_main_cst_7, val_main_cst_8]
  simp only [dh_apply x3 x4 w P h3 h4, xn_apply x0 A h0, h2, ← EReal.coe_mul, coe_sum, lit_zero, EReal.coe_zero, zero_add,
    Finset.univ_unique, Finset.sum_singleton]
  rw [EReal.coe_eq_coe_iff, Finset.sum_mul]
  exact Finset.sum_congr rfl fun r _ => by ring

theorem da_apply (h1 : ∀ l, x1 (ix1 l) = ((sc l : ℝ) : EReal)) (r : Fin 4096) (l : Fin 1024) :
    val_main_v34 (F := Ideal) x1 x3 x4 (ix2 r l) = ((dot (P r) w l * (1 + sc l) : ℝ) : EReal) := by
  pointwise [val_main_v34, val_main_v33, val_main_v19, val_main_v18, val_main_v17, val_main_cst_4]
  rw [dh_apply x3 x4 w P h3 h4, h1, ← EReal.coe_one, ← EReal.coe_add, ← EReal.coe_mul]

include h1

theorem dg_apply (l : Fin 1024) :
    val_main_v59 (F := Ideal) x0 x1 x3 x4 (ix2 0 l) = (((∑ r, dot (P r) w l * (A r l * rinv (A r))) * (1 + sc l) : ℝ) : EReal) := by
  pointwise [val_main_v59, val_main_v41, val_main_v38, val_main_v37, val_main_v36, val_main_cst_9, val_main_cst_10]
  simp only [da_apply x0 x1 x3 x4 A sc w P h0 h3 h4 h1, xn_apply x0 A h0, ← EReal.coe_mul, coe_sum, lit_zero, EReal.coe_zero, zero_add,
    Finset.univ_unique, Finset.sum_singleton]
  rw [EReal.coe_eq_coe_iff, Finset.sum_mul]
  exact Finset.sum_congr rfl fun r _ => by ring

include h2

theorem dn_apply (r : Fin 4096) (l : Fin 1024) :
    val_main_v40 (F := Ideal) x1 x2 x3 x4 (ix2 r l) = ((dot (P r) w l * (1 + sc l) * g l : ℝ) : EReal) := by
  pointwise [val_main_v40, val_main_v39, val_main_v14]
  rw [da_apply x0 x1 x3 x4 A sc w P h0 h3 h4 h1, h2, ← EReal.coe_mul]

/-- What reaches the entries through the square's mean. -/
theorem dms_apply (r : Fin 4096) (l : Fin 1024) :
    val_main_v52 (F := Ideal) x0 x1 x2 x3 x4 (ix2 r l)
      = (((∑ k, A r k * (dot (P r) w k * (1 + sc k) * g k)) * (-1 / 2 * (rinv (A r) * rinv (A r) * rinv (A r))) / 1024 : ℝ) : EReal) := by
  pointwise [val_main_v52, val_main_v51, val_main_v50, val_main_v49, val_main_v48, val_main_v44, val_main_v43, val_main_v42,
    val_main_cst_11, val_main_cst_12, val_main_cst_13]
  simp only [Finset.univ_unique, Finset.sum_singleton, Fin.default_eq_zero]
  simp only [dn_apply x0 x1 x2 x3 x4 A sc g w P h0 h1 h2 h3 h4, drinv_apply x0 A h0, h0, ← EReal.coe_mul, coe_sum, lit_zero, lit_1024,
    EReal.coe_zero, zero_add, div_real (by norm_num : (1024 : ℝ) ≠ 0)]

include h5

theorem dx_apply (r : Fin 4096) (l : Fin 1024) :
    val_main_v56 (F := Ideal) x0 x1 x2 x3 x4 x5 (ix2 r l) = ((dxRow (A r) (dot (P r) w) sc g (E r) l : ℝ) : EReal) := by
  pointwise [val_main_v56, val_main_v55, val_main_v54, val_main_v53, val_main_v47, val_main_v46, val_main_v45]
  simp only [dms_apply x0 x1 x2 x3 x4 A sc g w P h0 h1 h2 h3 h4, dn_apply x0 x1 x2 x3 x4 A sc g w P h0 h1 h2 h3 h4, rinv_apply x0 A h0,
    h0, h5, ← EReal.coe_mul, ← EReal.coe_add]
  rw [dxRow_eq]

end Cert.Proof.Inproj.Ref

end
-- ==== Proof.InprojClaim.lean ====
/- Hand-written, untrusted: the claims about the gradient of the modulated norm and the input projection. -/
module

public import proofs.«01_k».proof.Proof.Inproj
public import proofs.«01_k».proof.Proof.InprojRef
public import proofs.«01_k».proof.Defs
public import proofs.«01_k».proof.Proof.Gen.InprojRefIdeal.Run
public import proofs.«01_k».proof.Proof.Gen.Pre_inproj_finite
public import Idealize.ShloMosaic.Lib.Claim

@[expose] public section

set_option maxRecDepth 16384

noncomputable section

namespace Cert.Proof.Inproj

open Idealize.ShloMosaic Idealize.ShloMosaic.TcCoe Idealize.SL.Sem Idealize.ShloMosaic.Pointwise

/-- What the precondition says of one device's arrays. -/
theorem finite (x : FVec Ideal Cert.Pre_inproj_finite.S4096x1024 .f32) (sc g : FVec Ideal Cert.Pre_inproj_finite.S1024 .f32)
    (w : FVec Ideal Cert.Pre_inproj_finite.S1024x3336 .f32) (p : FVec Ideal Cert.Pre_inproj_finite.S4096x3336 .f32)
    (e : FVec Ideal Cert.Pre_inproj_finite.S4096x1024 .f32)
    (h : Cert.Pre_inproj_finite.fn (F := Ideal) x sc g w p e = fun _ => 1#1) :
    ((∀ r l, x (ix2 r l) = ((x (ix2 r l)).toReal : EReal)) ∧ (∀ l, sc (ix1 l) = ((sc (ix1 l)).toReal : EReal))
      ∧ ∀ l, g (ix1 l) = ((g (ix1 l)).toReal : EReal)) ∧ (∀ r l, w (ix2 r l) = ((w (ix2 r l)).toReal : EReal))
      ∧ (∀ r l, p (ix2 r l) = ((p (ix2 r l)).toReal : EReal)) ∧ ∀ r l, e (ix2 r l) = ((e (ix2 r l)).toReal : EReal) := by
  have key := congrFun h ix0
  simp only [Cert.Pre_inproj_finite.fn, Cert.Pre_inproj_finite.fn_part1, andi_apply, IntOp.andi_eq_one] at key
  obtain ⟨⟨⟨⟨⟨k0, k1⟩, k2⟩, k3⟩, k4⟩, k5⟩ := key
  exact ⟨⟨fun r l => real_of_all _ _ _ _ _ _ k0 _, fun l => real_of_all _ _ _ _ _ _ k1 _, fun l => real_of_all _ _ _ _ _ _ k2 _⟩,
    fun r l => real_of_all _ _ _ _ _ _ k3 _, fun r l => real_of_all _ _ _ _ _ _ k4 _, fun r l => real_of_all _ _ _ _ _ _ k5 _⟩

/-- The reference runs, keeps its arguments and leaves every counter at zero. -/
theorem frame_ref : Cert.quiescent_InprojRefIdeal :=
  fun m ρ _ => (θ_run _ _ _).mono (fun r h => ⟨fun c => (h c).2.2.2.2, sem_eq_zero_of_no_sems rfl _⟩)
    (Cert.InprojRefIdeal.Value.run (F := Ideal) m ρ)

/-- The two programs return the same arrays. -/
theorem value : Cert.algebraic_InprojBwdIdeal_InprojRefIdeal_pre_inproj_finite := by
  intro m ρ m' ρ' hpre hag
  refine ⟨_, _, _, _, Cert.InprojBwdIdeal.Value.run_blocks m ρ,
    (θ_run _ _ _).mono (fun r h c => ?_) (Cert.InprojRefIdeal.Value.run (F := Ideal) m' ρ')⟩
  obtain ⟨e0, e1, e2, e3, e4, e5⟩ := hag c
  obtain ⟨⟨h0, h1, h2⟩, h3, h4, h5⟩ := finite _ _ _ _ _ _ (hpre c)
  obtain ⟨r0, r1, r2, r3, k⟩ := h c
  have H : Holds m c (fun r l => _) (fun r l => _) (fun r l => _) (fun r l => _) (fun l => _) (fun l => _) := ⟨h0, h1, h2, h3, h4, h5⟩
  rw [← e0] at h0; rw [← e1] at h1; rw [← e2] at h2; rw [← e3] at h3; rw [← e4] at h4; rw [← e5] at h5
  refine ⟨r0.trans ?_, r1.trans ?_, r2.trans ?_, r3.trans ?_, k⟩
  · rw [Cert.InprojRefIdeal.Read.val_main_v56_eq]
    funext i
    obtain ⟨a, b, rfl⟩ : ∃ (a : Fin 4096) (b : Fin 1024), i = ix2 a b := ⟨i 0, i 1, eq_ix2 (n0 := 4096) (n1 := 1024) i⟩
    rw [Ref.dx_apply _ _ _ _ _ _ _ _ _ _ _ _ h0 h1 h2 h3 h4 h5, dx_final H]
    simp only [e0, e1, e2, e3, e4, e5]
  · rw [Cert.InprojRefIdeal.Read.val_main_v57_eq]
    funext i
    obtain ⟨b, rfl⟩ := one_row (n := 1024) i
    rw [Ref.dsh_apply _ _ _ _ h3 h4, dsh_final H]
    simp only [e3, e4]
  · rw [Cert.InprojRefIdeal.Read.val_main_v58_eq]
    funext i
    obtain ⟨b, rfl⟩ := one_row (n := 1024) i
    rw [Ref.dsc_apply _ _ _ _ _ _ _ _ h0 h3 h4 h2, dsc_final H]
    simp only [e0, e2, e3, e4]
  · rw [Cert.InprojRefIdeal.Read.val_main_v59_eq]
    funext i
    obtain ⟨b, rfl⟩ := one_row (n := 1024) i
    rw [Ref.dg_apply _ _ _ _ _ _ _ _ h0 h1 h3 h4, dg_final H]
    simp only [e0, e1, e3, e4]

end Cert.Proof.Inproj

end
-- ==== Proof.Ffnin.lean ====
/- Hand-written, untrusted: the gradient of the modulated norm and the projection to the feed-forward layer. -/
module

public import proofs.«01_k».proof.Proof.Norm
public import proofs.«01_k».proof.Proof.Index
public import proofs.«01_k».proof.Proof.Gen.FfninBwdIdeal.Value
public import Idealize.ShloMosaic.Lib.Pipeline.ValueKit

@[expose] public section

set_option maxRecDepth 16384

noncomputable section

namespace Cert.Proof.Ffnin

open Idealize.ShloMosaic Idealize.ShloMosaic.TcCoe Idealize.SL.Sem Idealize.ShloMosaic.Pointwise
open Cert.FfninBwdIdeal Cert.FfninBwdIdeal.Gen Cert.Proof.Norm

/-! ## The kernel's payloads at real blocks -/

section
variable (sc g : Fin 1024 → ℝ) (v0 v3 : Vec Ideal S512x1024 .f32) (v1 : Vec Ideal S512x5632 .bf16) (v4 v6 : Vec Ideal S1x1024 .f32)
  (v8 : Vec Ideal S5632x1024 .bf16)
  (A E : Fin 512 → Fin 1024 → ℝ) (P : Fin 512 → Fin 5632 → ℝ) (w : Fin 1024 → Fin 5632 → ℝ)
  (h0 : ∀ r l, v0 (ix2 r l) = ((A r l : ℝ) : EReal)) (h1 : ∀ r k, v1 (ix2 r k) = ((P r k : ℝ) : EReal))
  (h3 : ∀ r l, v3 (ix2 r l) = ((E r l : ℝ) : EReal)) (h4 : ∀ l, v4 (ix2 0 l) = ((sc l : ℝ) : EReal))
  (h6 : ∀ l, v6 (ix2 0 l) = ((g l : ℝ) : EReal)) (h8 : ∀ l k, v8 (ix2 k l) = ((w l k : ℝ) : EReal))

include h0 in
theorem rsqrt_apply (r : Fin 512) : k0_pay10 v0 (ix2 r 0) = ((rinv (A r) : ℝ) : EReal) := by
  pointwise [k0_pay10]
  simp only [h0, ← EReal.coe_mul, coe_sum, lit_1024, lit_eps, div_real (by norm_num : (1024 : ℝ) ≠ 0), ← EReal.coe_add]
  rw [rsqrt_real (mean_sq_pos _ _ _ (by norm_num))]; rfl

include h0 in
theorem xn_apply (r : Fin 512) (l : Fin 1024) : k0_pay11 v0 (ix2 r l) = ((A r l * rinv (A r) : ℝ) : EReal) := by
  pointwise [k0_pay11]
  rw [h0, rsqrt_apply v0 A h0, ← EReal.coe_mul]

include h1 h8

theorem dh_apply (r : Fin 512) (l : Fin 1024) : k0_pay12 v1 v8 (ix2 r l) = ((dot (P r) w l : ℝ) : EReal) := by
  pointwise [k0_pay12]
  simp only [h1, h8, ← EReal.coe_mul, coe_sum]
  rfl

theorem dsh_apply (xo : Vec Ideal S1x1024 .f32) (l : Fin 1024) :
    k0_pay5 (k0_pay12 v1 v8) xo (ix2 0 l) = xo (ix2 0 l) + ((∑ r, dot (P r) w l : ℝ) : EReal) := by
  pointwise [k0_pay5]
  simp only [dh_apply v1 v8 P w h1 h8, coe_sum]

include h0

theorem da_apply (l : Fin 1024) :
    k0_pay13 v0 v1 v8 (ix2 0 l) = ((∑ r, dot (P r) w l * (A r l * rinv (A r)) : ℝ) : EReal) := by
  pointwise [k0_pay13]
  simp only [dh_apply v1 v8 P w h1 h8, xn_apply v0 A h0, ← EReal.coe_mul, coe_sum]

include h6 in
theorem dsc_apply (xo : Vec Ideal S1x1024 .f32) (l : Fin 1024) :
    k0_pay6 (k0_pay9 v6) (k0_pay13 v0 v1 v8) xo (ix2 0 l)
      = xo (ix2 0 l) + (((∑ r, dot (P r) w l * (A r l * rinv (A r))) * g l : ℝ) : EReal) := by
  pointwise [k0_pay6, k0_pay9]
  rw [da_apply v0 v1 v8 A P w h0 h1 h8, h6, ← EReal.coe_mul]

include h4

theorem dg_apply (xo : Vec Ideal S1x1024 .f32) (l : Fin 1024) :
    k0_pay7 (k0_pay8 v4) (k0_pay13 v0 v1 v8) xo (ix2 0 l)
      = xo (ix2 0 l) + (((∑ r, dot (P r) w l * (A r l * rinv (A r))) * (1 + sc l) : ℝ) : EReal) := by
  pointwise [k0_pay7, k0_pay8]
  rw [da_apply v0 v1 v8 A P w h0 h1 h8, h4, ← EReal.coe_one, ← EReal.coe_add, ← EReal.coe_mul]

include h3 h6

theorem dx_apply (r : Fin 512) (l : Fin 1024) :
    k0_pay1 v3 (k0_pay14 v0 v1 v4 v6 v8) (ix2 r l) = ((dxRow (A r) (dot (P r) w) sc g (E r) l : ℝ) : EReal) := by
  pointwise [k0_pay1, k0_pay14, k0_pay8, k0_pay9]
  simp only [dh_apply v1 v8 P w h1 h8, xn_apply v0 A h0, rsqrt_apply v0 A h0, h3, h4, h6, ← EReal.coe_one, ← EReal.coe_add,
    ← EReal.coe_mul, coe_sum, lit_1024, div_real (by norm_num : (1024 : ℝ) ≠ 0), ← EReal.coe_sub]
  rfl

end

/-! ## The kernel's arrays after the run -/

variable (m : (ℓ : Loc nD τ sig) → Buf (Elt Ideal) ℓ) (c : Dev nD)
  (A E : Fin 4096 → Fin 1024 → ℝ) (P : Fin 4096 → Fin 5632 → ℝ) (w : Fin 1024 → Fin 5632 → ℝ) (sc g : Fin 1024 → ℝ)

/-- The contents of the arguments. -/
structure Holds : Prop where
  x : ∀ r l, m ((c : Thread nD τ).loc main_arg0) (ix2 r l) = ((A r l : ℝ) : EReal)
  sc : ∀ l, m ((c : Thread nD τ).loc main_arg1) (ix1 l) = ((sc l : ℝ) : EReal)
  g : ∀ l, m ((c : Thread nD τ).loc main_arg2) (ix1 l) = ((g l : ℝ) : EReal)
  w : ∀ l k, m ((c : Thread nD τ).loc main_arg3) (ix2 l k) = ((w l k : ℝ) : EReal)
  p : ∀ r k, m ((c : Thread nD τ).loc main_arg4) (ix2 r k) = ((P r k : ℝ) : EReal)
  e : ∀ r l, m ((c : Thread nD τ).loc main_arg5) (ix2 r l) = ((E r l : ℝ) : EReal)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![t.val, 0] := (by decide +kernel : ∀ t : Fin grid0.N, _)

/-- Row `r` of block `t` in the array. -/
def row (t : Fin cfg0.N) (r : Fin 512) : Fin 4096 :=
  ⟨t.val * 512 + r.val, by have := t.isLt; have := r.isLt; have h : cfg0.N = 8 := N_0; omega⟩

variable {m c A E P w sc g} (H : Holds m c A E P w sc g)
include H

theorem blk0 (t : Fin cfg0.N) (r : Fin 512) (l : Fin 1024) : iblk m c 0 t (ix2 r l) = ((A (row t r) l : ℝ) : EReal) := by
  rw [← H.x]
  blk_simp [iblk, V_main_arg0]
  refine congrArg _ ?_
  blk_ext [idx0, row]

theorem blk2 (t : Fin cfg0.N) (r : Fin 512) (l : Fin 1024) : iblk m c 2 t (ix2 r l) = ((E (row t r) l : ℝ) : EReal) := by
  rw [← H.e]
  blk_simp [iblk, V_main_arg5]
  refine congrArg _ ?_
  blk_ext [idx2, row]

theorem blk3 (t : Fin cfg0.N) (l : Fin 1024) : iblk m c 3 t (ix2 0 l) = ((sc l : ℝ) : EReal) := by
  rw [← H.sc]
  blk_simp [iblk]
  have h0 : ((View.whole main_v1).slice (win0_3.rect t)).emb (ix2 0 l) = ix2 (0 : Fin 1) l := by blk_ext [idx3]
  rw [h0]
  entry_read
  pointwise

theorem blk4 (t : Fin cfg0.N) (l : Fin 1024) : iblk m c 4 t (ix2 0 l) = ((g l : ℝ) : EReal) := by
  rw [← H.g]
  blk_simp [iblk]
  have h0 : ((View.whole main_v2).slice (win0_4.rect t)).emb (ix2 0 l) = ix2 (0 : Fin 1) l := by blk_ext [idx4]
  rw [h0]
  entry_read
  pointwise

theorem blk1 (t : Fin cfg0.N) (r : Fin 512) (k : Fin 5632) : iblk m c 1 t (ix2 r k) = ((P (row t r) k : ℝ) : EReal) := by
  rw [← H.p]
  blk_simp [iblk]
  have h0 : ((View.whole main_v0).slice (win0_1.rect t)).emb (ix2 r k) = ix2 (row t r) k := by blk_ext [idx1, row]
  rw [h0]
  entry_read
  pointwise

theorem blk5 (t : Fin cfg0.N) (l : Fin 1024) (k : Fin 5632) : iblk m c 5 t (ix2 k l) = ((w l k : ℝ) : EReal) := by
  rw [← H.w]
  blk_simp [iblk]
  have h0 : ((View.whole main_v4).slice (win0_5.rect t)).emb (ix2 k l) = ix2 k l := by blk_ext [idx5]
  rw [h0]
  entry_read
  pointwise

omit H in
theorem zero_apply2 (l : Fin 1024) : k0_pay2 (F := Ideal) (ix2 0 l) = 0 := by pointwise [k0_pay2]

omit H in
theorem zero_apply3 (l : Fin 1024) : k0_pay3 (F := Ideal) (ix2 0 l) = 0 := by pointwise [k0_pay3]

omit H in
theorem zero_apply4 (l : Fin 1024) : k0_pay4 (F := Ideal) (ix2 0 l) = 0 := by pointwise [k0_pay4]

omit H in
/-- The sum over the rows of every block is the sum over the rows of the array. -/
theorem sum_rows (f : Fin 4096 → ℝ) : ∑ t : Fin cfg0.N, ∑ r : Fin 512, f (row t r) = ∑ r, f r :=
  Fin.sum_mul_add_congr (S := cfg0.N) (n := 512) (fun t r _ => rfl) (by rw [show cfg0.N = 8 from N_0])

/-- What the body leaves in the first result's block. -/
theorem dx_block (t : Fin cfg0.N) (r : Fin 512) (l : Fin 1024) :
    (outsAt0 m c t.val t.isLt).1 (ix2 r l) = ((dxRow (A (row t r)) (dot (P (row t r)) w) sc g (E (row t r)) l : ℝ) : EReal) := by
  have := dx_apply sc g (iblk m c 0 t) (iblk m c 2 t) (iblk m c 1 t) (iblk m c 3 t) (iblk m c 4 t) (iblk m c 5 t) _ _ _ _
    (blk0 H t) (blk1 H t) (blk2 H t) (blk3 H t) (blk4 H t) (blk5 H t) r l
  by_cases h : t.val % 8 = 0
  · rw [outsAt0_A m c t h]; frame_out; exact this
  · rw [outsAt0_B m c t h]; frame_out; exact this

/-- The first result: the gradient at the input, row by row. -/
theorem dx_final (r : Fin 4096) (l : Fin 1024) :
    (dats m 0 c).arrAt 6 cfg0.N (ix2 r l) = ((dxRow (A r) (dot (P r) w) sc g (E r) l : ℝ) : EReal) := by
  refine congrFun ((dats m 0 c).arrAt_eq_of_covers 6
    (fun i => ((dxRow (A (i 0)) (dot (P (i 0)) w) sc g (E (i 0)) (i 1) : ℝ) : EReal)) (by decide +kernel) fun t hf y => ?_) (ix2 r l)
  obtain ⟨a, b, rfl⟩ : ∃ (a : Fin 512) (b : Fin 1024), y = ix2 a b := ⟨y 0, y 1, eq_ix2 (n0 := 512) (n1 := 1024) y⟩
  blk_simp
  rw [after0_6]
  have h0 : ((View.whole main_v5_0).slice (win0_6.rect t)).emb (ix2 a b) = ix2 (row t a) b := by
    blk_ext [idx6, row]
  rw [h0]
  exact dx_block H t a b

/-- The second result: the gradient at the shift. -/
theorem dsh_final (l : Fin 1024) :
    (dats m 0 c).arrAt 7 cfg0.N (ix2 0 l) = ((∑ r, dot (P r) w l : ℝ) : EReal) := by
  have key (t : Fin cfg0.N) (xo) (l : Fin 1024) := dsh_apply (iblk m c 1 t) (iblk m c 5 t) _ _ (blk1 H t) (blk5 H t) xo l
  refine congrFun ((dats m 0 c).arrAt_eq_of_after_last 7 t0_7 (by decide +kernel)
    (fun i => ((∑ r, dot (P r) w (i 1) : ℝ) : EReal)) fun j => ?_) (ix2 0 l)
  blk_simp
  rw [after0_7, Pipeline.eq_sum_fin_of_reset_step_apply_last (fun n h => (outsAt0 m c n h).2.1) 8 (fun _ => 0)
    (fun t i => ((∑ r, dot (P (row t r)) w (i 1) : ℝ) : EReal))
    (fun t h j => ?_) (fun t h j => ?_) (le_of_eq N_0) t0_7 rfl j]
  · rw [coe_sum, zero_add, sum_rows fun r => dot (P r) w (j 1)]
  · obtain ⟨b, rfl⟩ : ∃ (b : Fin 1024), j = ix2 0 b := one_row j
    rw [outsAt0_A m c t h]; frame_out
    rw [key, zero_apply2]; rfl
  · obtain ⟨b, rfl⟩ : ∃ (b : Fin 1024), j = ix2 0 b := one_row j
    rw [outsAt0_B m c t h]; frame_out
    rw [key]; rfl

/-- The third: the gradient at the scale. -/
theorem dsc_final (l : Fin 1024) :
    (dats m 0 c).arrAt 8 cfg0.N (ix2 0 l) = (((∑ r, dot (P r) w l * (A r l * rinv (A r))) * g l : ℝ) : EReal) := by
  have key (t : Fin cfg0.N) (xo) (l : Fin 1024) := dsc_apply g (iblk m c 0 t) (iblk m c 1 t) (iblk m c 4 t) (iblk m c 5 t) _ _ _
    (blk0 H t) (blk1 H t) (blk4 H t) (blk5 H t) xo l
  refine congrFun ((dats m 0 c).arrAt_eq_of_after_last 8 t0_7 (by decide +kernel)
    (fun i => (((∑ r, dot (P r) w (i 1) * (A r (i 1) * rinv (A r))) * g (i 1) : ℝ) : EReal)) fun j => ?_) (ix2 0 l)
  blk_simp
  rw [after0_8, Pipeline.eq_sum_fin_of_reset_step_apply_last (fun n h => (outsAt0 m c n h).2.2.1) 8 (fun _ => 0)
    (fun t i => (((∑ r, dot (P (row t r)) w (i 1) * (A (row t r) (i 1) * rinv (A (row t r)))) * g (i 1) : ℝ) : EReal))
    (fun t h j => ?_) (fun t h j => ?_) (le_of_eq N_0) t0_7 rfl j]
  · rw [coe_sum, zero_add, ← Finset.sum_mul, sum_rows fun r => dot (P r) w (j 1) * (A r (j 1) * rinv (A r))]
  · obtain ⟨b, rfl⟩ : ∃ (b : Fin 1024), j = ix2 0 b := one_row j
    rw [outsAt0_A m c t h]; frame_out
    rw [key, zero_apply3]; rfl
  · obtain ⟨b, rfl⟩ : ∃ (b : Fin 1024), j = ix2 0 b := one_row j
    rw [outsAt0_B m c t h]; frame_out
    rw [key]; rfl

/-- The fourth: the gradient at the norm's gain. -/
theorem dg_final (l : Fin 1024) :
    (dats m 0 c).arrAt 9 cfg0.N (ix2 0 l) = (((∑ r, dot (P r) w l * (A r l * rinv (A r))) * (1 + sc l) : ℝ) : EReal) := by
  have key (t : Fin cfg0.N) (xo) (l : Fin 1024) := dg_apply sc (iblk m c 0 t) (iblk m c 1 t) (iblk m c 3 t) (iblk m c 5 t) _ _ _
    (blk0 H t) (blk1 H t) (blk3 H t) (blk5 H t) xo l
  refine congrFun ((dats m 0 c).arrAt_eq_of_after_last 9 t0_7 (by decide +kernel)
    (fun i => (((∑ r, dot (P r) w (i 1) * (A r (i 1) * rinv (A r))) * (1 + sc (i 1)) : ℝ) : EReal)) fun j => ?_) (ix2 0 l)
  blk_simp
  rw [after0_9, Pipeline.eq_sum_fin_of_reset_step_apply_last (fun n h => (outsAt0 m c n h).2.2.2) 8 (fun _ => 0)
    (fun t i => (((∑ r, dot (P (row t r)) w (i 1) * (A (row t r) (i 1) * rinv (A (row t r)))) * (1 + sc (i 1)) : ℝ) : EReal))
    (fun t h j => ?_) (fun t h j => ?_) (le_of_eq N_0) t0_7 rfl j]
  · rw [coe_sum, zero_add, ← Finset.sum_mul, sum_rows fun r => dot (P r) w (j 1) * (A r (j 1) * rinv (A r))]
  · obtain ⟨b, rfl⟩ : ∃ (b : Fin 1024), j = ix2 0 b := one_row j
    rw [outsAt0_A m c t h]; frame_out
    rw [key, zero_apply4]; rfl
  · obtain ⟨b, rfl⟩ : ∃ (b : Fin 1024), j = ix2 0 b := one_row j
    rw [outsAt0_B m c t h]; frame_out
    rw [key]; rfl

end Cert.Proof.Ffnin

end
-- ==== Proof.FfninRef.lean ====
/- Hand-written, untrusted: the reference of the gradient of the modulated norm and the projection to the feed-forward layer, over the reals. -/
module

public import proofs.«01_k».proof.Proof.Norm
public import proofs.«01_k».proof.Proof.Index
public import proofs.«01_k».proof.Proof.Gen.FfninRefIdeal.Read

@[expose] public section

set_option maxRecDepth 16384

noncomputable section

namespace Cert.Proof.Ffnin.Ref

open Idealize.ShloMosaic Idealize.ShloMosaic.TcCoe Idealize.SL.Sem Idealize.ShloMosaic.Pointwise
open Cert.FfninRefIdeal Cert.FfninRefIdeal.Gen Cert.FfninRefIdeal.Read Cert.Proof.Norm

variable (x0 x5 : (⟨S4096x1024, .f32⟩ : BufTy).Contents (Elt Ideal)) (x1 x2 : (⟨S1024, .f32⟩ : BufTy).Contents (Elt Ideal))
  (x3 : (⟨S1024x5632, .f32⟩ : BufTy).Contents (Elt Ideal)) (x4 : (⟨S4096x5632, .f32⟩ : BufTy).Contents (Elt Ideal))
  (A E : Fin 4096 → Fin 1024 → ℝ) (sc g : Fin 1024 → ℝ) (w : Fin 1024 → Fin 5632 → ℝ) (P : Fin 4096 → Fin 5632 → ℝ)
  (h0 : ∀ r l, x0 (ix2 r l) = ((A r l : ℝ) : EReal)) (h1 : ∀ l, x1 (ix1 l) = ((sc l : ℝ) : EReal))
  (h2 : ∀ l, x2 (ix1 l) = ((g l : ℝ) : EReal)) (h3 : ∀ l k, x3 (ix2 l k) = ((w l k : ℝ) : EReal))
  (h4 : ∀ r k, x4 (ix2 r k) = ((P r k : ℝ) : EReal)) (h5 : ∀ r l, x5 (ix2 r l) = ((E r l : ℝ) : EReal))

section
include h0

theorem ms (r : Fin 4096) :
    val_main_v7 (F := Ideal) x0 (ix2 r 0) = (((∑ k, A r k * A r k) / 1024 + eps : ℝ) : EReal) := by
  pointwise [val_main_v7, val_main_v6, val_main_v5, val_main_v4, val_main_v3, val_main_v2, val_main_v1, val_main_cst_0,
    val_main_cst_1, val_main_cst_2]
  simp only [h0, ← EReal.coe_mul, coe_sum, lit_1024, lit_eps, lit_zero, EReal.coe_zero, zero_add,
    div_real (by norm_num : (1024 : ℝ) ≠ 0), ← EReal.coe_add]

theorem rinv_apply (r : Fin 4096) : val_main_v8 (F := Ideal) x0 (ix2 r 0) = ((rinv (A r) : ℝ) : EReal) := by
  pointwise [val_main_v8]
  rw [ms x0 A h0, rsqrt_real (mean_sq_pos _ _ _ (by norm_num))]; rfl

theorem drinv_apply (r : Fin 4096) :
    val_main_v11 (F := Ideal) x0 (ix2 r 0) = ((-1 / 2 * (rinv (A r) * rinv (A r) * rinv (A r)) : ℝ) : EReal) := by
  pointwise [val_main_v11, val_main_v10, val_main_v9, val_main_cst_3]
  rw [ms x0 A h0, rinv_apply x0 A h0, div_real (mean_sq_pos _ _ _ (by norm_num)).ne', lit_neghalf, ← EReal.coe_mul, rinv_mul_self,
    one_div_mul_eq_div]

theorem xn_apply (r : Fin 4096) (l : Fin 1024) :
    val_main_v13 (F := Ideal) x0 (ix2 r l) = ((A r l * rinv (A r) : ℝ) : EReal) := by
  pointwise [val_main_v13, val_main_v12]
  rw [rinv_apply x0 A h0, h0, ← EReal.coe_mul]

end

include h3 h4

theorem dh_apply (r : Fin 4096) (l : Fin 1024) : val_main_v26 (F := Ideal) x3 x4 (ix2 r l) = ((dot (P r) w l : ℝ) : EReal) := by
  pointwise [val_main_v26]
  simp only [h3, h4, ← EReal.coe_mul, coe_sum]
  rfl

theorem dsh_apply (l : Fin 1024) : val_main_v57 (F := Ideal) x3 x4 (ix2 0 l) = ((∑ r, dot (P r) w l : ℝ) : EReal) := by
  pointwise [val_main_v57, val_main_v29, val_main_v28, val_main_v27, val_main_cst_5, val_main_cst_6]
  simp only [dh_apply x3 x4 w P h3 h4, coe_sum, lit_zero, EReal.coe_zero, zero_add, Finset.univ_unique, Finset.sum_singleton]

include h0

theorem dsc_apply (h2 : ∀ l, x2 (ix1 l) = ((g l : ℝ) : EReal)) (l : Fin 1024) :
    val_main_v58 (F := Ideal) x0 x2 x3 x4 (ix2 0 l) = (((∑ r, dot (P r) w l * (A r l * rinv (A r))) * g l : ℝ) : EReal) := by
  pointwise [val_main_v58, val_main_v35, val_main_v32, val_main_v31, val_main_v30, val_main_v16, val_main_v15, val_main_v14,
    val_main_cst_7, val_main_cst_8]
  simp only [dh_apply x3 x4 w P h3 h4, xn_apply x0 A h0, h2, ← EReal.coe_mul, coe_sum, lit_zero, EReal.coe_zero, zero_add,
    Finset.univ_unique, Finset.sum_singleton]
  rw [EReal.coe_eq_coe_iff, Finset.sum_mul]
  exact Finset.sum_congr rfl fun r _ => by ring

theorem da_apply (h1 : ∀ l, x1 (ix1 l) = ((sc l : ℝ) : EReal)) (r : Fin 4096) (l : Fin 1024) :
    val_main_v34 (F := Ideal) x1 x3 x4 (ix2 r l) = ((dot (P r) w l * (1 + sc l) : ℝ) : EReal) := by
  pointwise [val_main_v34, val_main_v33, val_main_v19, val_main_v18, val_main_v17, val_main_cst_4]
  rw [dh_apply x3 x4 w P h3 h4, h1, ← EReal.coe_one, ← EReal.coe_add, ← EReal.coe_mul]

include h1

theorem dg_apply (l : Fin 1024) :
    val_main_v59 (F := Ideal) x0 x1 x3 x4 (ix2 0 l) = (((∑ r, dot (P r) w l * (A r l * rinv (A r))) * (1 + sc l) : ℝ) : EReal) := by
  pointwise [val_main_v59, val_main_v41, val_main_v38, val_main_v37, val_main_v36, val_main_cst_9, val_main_cst_10]
  simp only [da_apply x0 x1 x3 x4 A sc w P h0 h3 h4 h1, xn_apply x0 A h0, ← EReal.coe_mul, coe_sum, lit_zero, EReal.coe_zero, zero_add,
    Finset.univ_unique, Finset.sum_singleton]
  rw [EReal.coe_eq_coe_iff, Finset.sum_mul]
  exact Finset.sum_congr rfl fun r _ => by ring

include h2

theorem dn_apply (r : Fin 4096) (l : Fin 1024) :
    val_main_v40 (F := Ideal) x1 x2 x3 x4 (ix2 r l) = ((dot (P r) w l * (1 + sc l) * g l : ℝ) : EReal) := by
  pointwise [val_main_v40, val_main_v39, val_main_v14]
  rw [da_apply x0 x1 x3 x4 A sc w P h0 h3 h4 h1, h2, ← EReal.coe_mul]

/-- What reaches the entries through the square's mean. -/
theorem dms_apply (r : Fin 4096) (l : Fin 1024) :
    val_main_v52 (F := Ideal) x0 x1 x2 x3 x4 (ix2 r l)
      = (((∑ k, A r k * (dot (P r) w k * (1 + sc k) * g k)) * (-1 / 2 * (rinv (A r) * rinv (A r) * rinv (A r))) / 1024 : ℝ) : EReal) := by
  pointwise [val_main_v52, val_main_v51, val_main_v50, val_main_v49, val_main_v48, val_main_v44, val_main_v43, val_main_v42,
    val_main_cst_11, val_main_cst_12, val_main_cst_13]
  simp only [Finset.univ_unique, Finset.sum_singleton, Fin.default_eq_zero]
  simp only [dn_apply x0 x1 x2 x3 x4 A sc g w P h0 h1 h2 h3 h4, drinv_apply x0 A h0, h0, ← EReal.coe_mul, coe_sum, lit_zero, lit_1024,
    EReal.coe_zero, zero_add, div_real (by norm_num : (1024 : ℝ) ≠ 0)]

include h5

theorem dx_apply (r : Fin 4096) (l : Fin 1024) :
    val_main_v56 (F := Ideal) x0 x1 x2 x3 x4 x5 (ix2 r l) = ((dxRow (A r) (dot (P r) w) sc g (E r) l : ℝ) : EReal) := by
  pointwise [val_main_v56, val_main_v55, val_main_v54, val_main_v53, val_main_v47, val_main_v46, val_main_v45]
  simp only [dms_apply x0 x1 x2 x3 x4 A sc g w P h0 h1 h2 h3 h4, dn_apply x0 x1 x2 x3 x4 A sc g w P h0 h1 h2 h3 h4, rinv_apply x0 A h0,
    h0, h5, ← EReal.coe_mul, ← EReal.coe_add]
  rw [dxRow_eq]

end Cert.Proof.Ffnin.Ref

end
-- ==== Proof.FfninClaim.lean ====
/- Hand-written, untrusted: the claims about the gradient of the modulated norm and the projection to the feed-forward layer. -/
module

public import proofs.«01_k».proof.Proof.Ffnin
public import proofs.«01_k».proof.Proof.FfninRef
public import proofs.«01_k».proof.Defs
public import proofs.«01_k».proof.Proof.Gen.FfninRefIdeal.Run
public import proofs.«01_k».proof.Proof.Gen.Pre_ffnin_finite
public import Idealize.ShloMosaic.Lib.Claim

@[expose] public section

set_option maxRecDepth 16384

noncomputable section

namespace Cert.Proof.Ffnin

open Idealize.ShloMosaic Idealize.ShloMosaic.TcCoe Idealize.SL.Sem Idealize.ShloMosaic.Pointwise

/-- What the precondition says of one device's arrays. -/
theorem finite (x : FVec Ideal Cert.Pre_ffnin_finite.S4096x1024 .f32) (sc g : FVec Ideal Cert.Pre_ffnin_finite.S1024 .f32)
    (w : FVec Ideal Cert.Pre_ffnin_finite.S1024x5632 .f32) (p : FVec Ideal Cert.Pre_ffnin_finite.S4096x5632 .f32)
    (e : FVec Ideal Cert.Pre_ffnin_finite.S4096x1024 .f32)
    (h : Cert.Pre_ffnin_finite.fn (F := Ideal) x sc g w p e = fun _ => 1#1) :
    ((∀ r l, x (ix2 r l) = ((x (ix2 r l)).toReal : EReal)) ∧ (∀ l, sc (ix1 l) = ((sc (ix1 l)).toReal : EReal))
      ∧ ∀ l, g (ix1 l) = ((g (ix1 l)).toReal : EReal)) ∧ (∀ r l, w (ix2 r l) = ((w (ix2 r l)).toReal : EReal))
      ∧ (∀ r l, p (ix2 r l) = ((p (ix2 r l)).toReal : EReal)) ∧ ∀ r l, e (ix2 r l) = ((e (ix2 r l)).toReal : EReal) := by
  have key := congrFun h ix0
  simp only [Cert.Pre_ffnin_finite.fn, Cert.Pre_ffnin_finite.fn_part1, andi_apply, IntOp.andi_eq_one] at key
  obtain ⟨⟨⟨⟨⟨k0, k1⟩, k2⟩, k3⟩, k4⟩, k5⟩ := key
  exact ⟨⟨fun r l => real_of_all _ _ _ _ _ _ k0 _, fun l => real_of_all _ _ _ _ _ _ k1 _, fun l => real_of_all _ _ _ _ _ _ k2 _⟩,
    fun r l => real_of_all _ _ _ _ _ _ k3 _, fun r l => real_of_all _ _ _ _ _ _ k4 _, fun r l => real_of_all _ _ _ _ _ _ k5 _⟩

/-- The reference runs, keeps its arguments and leaves every counter at zero. -/
theorem frame_ref : Cert.quiescent_FfninRefIdeal :=
  fun m ρ _ => (θ_run _ _ _).mono (fun r h => ⟨fun c => (h c).2.2.2.2, sem_eq_zero_of_no_sems rfl _⟩)
    (Cert.FfninRefIdeal.Value.run (F := Ideal) m ρ)

/-- The two programs return the same arrays. -/
theorem value : Cert.algebraic_FfninBwdIdeal_FfninRefIdeal_pre_ffnin_finite := by
  intro m ρ m' ρ' hpre hag
  refine ⟨_, _, _, _, Cert.FfninBwdIdeal.Value.run_blocks m ρ,
    (θ_run _ _ _).mono (fun r h c => ?_) (Cert.FfninRefIdeal.Value.run (F := Ideal) m' ρ')⟩
  obtain ⟨e0, e1, e2, e3, e4, e5⟩ := hag c
  obtain ⟨⟨h0, h1, h2⟩, h3, h4, h5⟩ := finite _ _ _ _ _ _ (hpre c)
  obtain ⟨r0, r1, r2, r3, k⟩ := h c
  have H : Holds m c (fun r l => _) (fun r l => _) (fun r l => _) (fun r l => _) (fun l => _) (fun l => _) := ⟨h0, h1, h2, h3, h4, h5⟩
  rw [← e0] at h0; rw [← e1] at h1; rw [← e2] at h2; rw [← e3] at h3; rw [← e4] at h4; rw [← e5] at h5
  refine ⟨r0.trans ?_, r1.trans ?_, r2.trans ?_, r3.trans ?_, k⟩
  · rw [Cert.FfninRefIdeal.Read.val_main_v56_eq]
    funext i
    obtain ⟨a, b, rfl⟩ : ∃ (a : Fin 4096) (b : Fin 1024), i = ix2 a b := ⟨i 0, i 1, eq_ix2 (n0 := 4096) (n1 := 1024) i⟩
    rw [Ref.dx_apply _ _ _ _ _ _ _ _ _ _ _ _ h0 h1 h2 h3 h4 h5, dx_final H]
    simp only [e0, e1, e2, e3, e4, e5]
  · rw [Cert.FfninRefIdeal.Read.val_main_v57_eq]
    funext i
    obtain ⟨b, rfl⟩ := one_row (n := 1024) i
    rw [Ref.dsh_apply _ _ _ _ h3 h4, dsh_final H]
    simp only [e3, e4]
  · rw [Cert.FfninRefIdeal.Read.val_main_v58_eq]
    funext i
    obtain ⟨b, rfl⟩ := one_row (n := 1024) i
    rw [Ref.dsc_apply _ _ _ _ _ _ _ _ h0 h3 h4 h2, dsc_final H]
    simp only [e0, e2, e3, e4]
  · rw [Cert.FfninRefIdeal.Read.val_main_v59_eq]
    funext i
    obtain ⟨b, rfl⟩ := one_row (n := 1024) i
    rw [Ref.dg_apply _ _ _ _ _ _ _ _ h0 h1 h3 h4, dg_final H]
    simp only [e0, e1, e3, e4]

end Cert.Proof.Ffnin

end
-- ==== Proof.Head.lean ====
/- Hand-written, untrusted: one head's gated norm and its derivative, a row over the reals, and the columns of four heads. -/
module

public import proofs.«01_k».proof.Proof.Reals

@[expose] public section

noncomputable section

namespace Cert.Proof

open Idealize.ShloMosaic

theorem lit_128 : Ideal.ofBits .f32 0x43000000#32 = ((128 : ℝ) : EReal) := by
  simp [Ideal.ofBits, Ideal.ieee, -EReal.coe_mul]; try norm_num

namespace Head

/-- Column `l` of head `h`. -/
def col (h : Fin 4) (l : Fin 128) : Fin 512 := ⟨128 * h.val + l.val, by omega⟩

theorem exists_col (k : Fin 512) : ∃ h l, k = col h l :=
  ⟨⟨k.val / 128, by omega⟩, ⟨k.val % 128, by omega⟩, Fin.ext (by show k.val = 128 * (k.val / 128) + k.val % 128; omega)⟩

/-- Head `h` of a row. -/
def of {α : Type*} (a : Fin 512 → α) (h : Fin 4) (l : Fin 128) : α := a (col h l)

/-- Putting four heads' rows side by side. -/
def join {α : Type*} (a : Fin 4 → Fin 128 → α) (k : Fin 512) : α := a ⟨k.val / 128, by omega⟩ ⟨k.val % 128, by omega⟩

theorem join_col {α : Type*} (a : Fin 4 → Fin 128 → α) (h : Fin 4) (l : Fin 128) : join a (col h l) = a h l := by
  unfold join col
  congr 1 <;> exact Fin.ext (by simp only; omega)

variable (x z g d : Fin 128 → ℝ)

/-- The mean of a row's squares, plus `eps`. -/
def ms : ℝ := (∑ l, x l * x l) / 128 + eps
theorem ms_pos : 0 < ms x := mean_sq_pos _ _ _ (by norm_num)
/-- One over its root. -/
def ri : ℝ := (Real.sqrt (ms x))⁻¹
/-- The normalised row, times the gain. -/
def on (l : Fin 128) : ℝ := x l * ri x * g l
/-- … gated. -/
def y (l : Fin 128) : ℝ := on x g l * (z l * sigm (z l))
/-- The gradient past the gate. -/
def e (l : Fin 128) : ℝ := d l * (z l * sigm (z l))
/-- The gain's gradient. -/
def dg (l : Fin 128) : ℝ := x l * ri x * e z d l
/-- What the row's root passes on to each of its entries. -/
def c : ℝ := (∑ l, x l * (e z d l * g l)) * (-1 / 2 * (ri x / ms x)) / 128
/-- The gradient at the row. -/
def dx (l : Fin 128) : ℝ := e z d l * g l * ri x + x l * c x z g d + c x z g d * x l
/-- The gradient at the gate. -/
def dz (l : Fin 128) : ℝ := on x g l * d l * sigm (z l) + z l * (on x g l * d l) * (sigm (z l) * (1 - sigm (z l)))

/-- The gate's derivative as one over a square. -/
theorem dsigm (a p : ℝ) : p * sigm a + -(-(a * p * (1 / ((1 + Real.exp (-a)) * (1 + Real.exp (-a))))) * Real.exp (-a))
    = p * sigm a + a * p * (sigm a * (1 - sigm a)) := by
  have h := one_add_exp_ne a
  have k : 1 - sigm a = Real.exp (-a) / (1 + Real.exp (-a)) := by unfold sigm; field_simp; ring
  rw [k]; unfold sigm; field_simp

end Head

namespace Outproj

/-- The product's operand: half a row beside the four heads. -/
def ycat {α : Type*} (a : Fin 512 → α) (b : Fin 4 → Fin 128 → α) (k : Fin 1024) : α :=
  if h : k.val < 512 then a ⟨k.val, h⟩ else Head.join b ⟨k.val - 512, by omega⟩
/-- The gates among the columns of the input projection. -/
def gates {α : Type*} (p : Fin 3336 → α) (k : Fin 512) : α := p ⟨2816 + k.val, by omega⟩

/-- The operand's columns: of the half row, and of the heads. -/
theorem lo_or_col (k : Fin 1024) : (∃ j : Fin 512, k = ⟨j.val, by omega⟩) ∨ ∃ h l, k = ⟨512 + (Head.col h l).val, by omega⟩ := by
  by_cases h : k.val < 512
  · exact .inl ⟨⟨k.val, h⟩, rfl⟩
  · obtain ⟨a, l, e⟩ := Head.exists_col ⟨k.val - 512, by omega⟩
    refine .inr ⟨a, l, Fin.ext ?_⟩
    have e := congrArg Fin.val e
    dsimp only at e ⊢; omega

theorem ycat_lo {α : Type*} (a : Fin 512 → α) (b : Fin 4 → Fin 128 → α) (j : Fin 512) : ycat a b ⟨j.val, by omega⟩ = a j := dif_pos j.isLt

theorem ycat_col {α : Type*} (a : Fin 512 → α) (b : Fin 4 → Fin 128 → α) (h : Fin 4) (l : Fin 128) :
    ycat a b ⟨512 + (Head.col h l).val, by omega⟩ = b h l := by
  refine (dif_neg (by dsimp only; omega)).trans ((congrArg (Head.join b) (Fin.ext ?_)).trans (Head.join_col b h l))
  dsimp only; omega

open Pointwise

/-- The shapes of a half row's block, of a head's, and of all of it. -/
abbrev sA : Shape := ⟨2, ![512, 512]⟩
abbrev sH : Shape := ⟨2, ![512, 128]⟩
abbrev sY : Shape := ⟨2, ![512, 1024]⟩

/-- A half row beside four heads, read in the half row. -/
theorem concat5_lo (a : sA.Idx → EReal) (a0 a1 a2 a3 : sH.Idx → EReal)
    (hc : Shape.Concatenates [sA, sH, sH, sH, sH] sY 1) (r : Fin 512) (j : Fin 512) :
    concatenate sY 1 [⟨sA, a⟩, ⟨sH, a0⟩, ⟨sH, a1⟩, ⟨sH, a2⟩, ⟨sH, a3⟩] hc (ix2 r ⟨j.val, by omega⟩) = a (ix2 r j) := by
  pointwise

/-- … and in a head. -/
theorem concat5_col (a : sA.Idx → EReal) (a0 a1 a2 a3 : sH.Idx → EReal)
    (hc : Shape.Concatenates [sA, sH, sH, sH, sH] sY 1) (v : Fin 4 → EReal) (r : Fin 512) (l : Fin 128)
    (h0 : a0 (ix2 r l) = v 0) (h1 : a1 (ix2 r l) = v 1) (h2 : a2 (ix2 r l) = v 2) (h3 : a3 (ix2 r l) = v 3) (h : Fin 4) :
    concatenate sY 1 [⟨sA, a⟩, ⟨sH, a0⟩, ⟨sH, a1⟩, ⟨sH, a2⟩, ⟨sH, a3⟩] hc (ix2 r ⟨512 + (Head.col h l).val, by omega⟩) = v h := by
  have hl := l.isLt
  pointwise [Head.col]
  obtain ⟨h, hh⟩ := h
  interval_cases h <;> dsimp only <;> split_ifs <;>
    first
      | omega
      | refine Eq.trans (congrArg _ (congrArg (ix2 r) (Fin.ext (by dsimp only; omega)))) h0
      | refine Eq.trans (congrArg _ (congrArg (ix2 r) (Fin.ext (by dsimp only; omega)))) h1
      | refine Eq.trans (congrArg _ (congrArg (ix2 r) (Fin.ext (by dsimp only; omega)))) h2
      | refine Eq.trans (congrArg _ (congrArg (ix2 r) (Fin.ext (by dsimp only; omega)))) h3

end Outproj

end Cert.Proof

end
-- ==== Proof.OutprojRow.lean ====
/- Hand-written, untrusted: the kernel's operations of the gated norm of the heads and the output projection, at real blocks. -/
module

public import proofs.«01_k».proof.Proof.Head
public import proofs.«01_k».proof.Proof.Gen.OutprojBwdIdeal.Skeleton

@[expose] public section

set_option maxRecDepth 16384

noncomputable section

namespace Cert.Proof.Outproj

open Idealize.ShloMosaic Idealize.ShloMosaic.TcCoe Idealize.SL.Sem Idealize.ShloMosaic.Pointwise
open Cert.OutprojBwdIdeal Cert.OutprojBwdIdeal.Gen

/-- A block of four heads side by side, read at one of them. -/
theorem concat_apply (a0 a1 a2 a3 : Vec Ideal S512x128 .f32) (v : Fin 4 → EReal) (r : Fin 512) (l : Fin 128)
    (h0 : a0 (ix2 r l) = v 0) (h1 : a1 (ix2 r l) = v 1) (h2 : a2 (ix2 r l) = v 2) (h3 : a3 (ix2 r l) = v 3) (h : Fin 4) :
    concatenate S512x512 1 [⟨S512x128, a0⟩, ⟨S512x128, a1⟩, ⟨S512x128, a2⟩, ⟨S512x128, a3⟩]
      concatenates_S512x128_S512x128_S512x128_S512x128_S512x512_d1 (ix2 r (Head.col h l)) = v h := by
  have hl := l.isLt
  pointwise [Head.col]
  obtain ⟨h, hh⟩ := h
  interval_cases h <;> dsimp only <;> split_ifs <;>
    first
      | omega
      | refine Eq.trans (congrArg _ (congrArg (ix2 r) (Fin.ext (by dsimp only; omega)))) h0
      | refine Eq.trans (congrArg _ (congrArg (ix2 r) (Fin.ext (by dsimp only; omega)))) h1
      | refine Eq.trans (congrArg _ (congrArg (ix2 r) (Fin.ext (by dsimp only; omega)))) h2
      | refine Eq.trans (congrArg _ (congrArg (ix2 r) (Fin.ext (by dsimp only; omega)))) h3

/-! ## One head -/

section
variable (x z d : Vec Ideal S512x128 .f32) (g : Vec Ideal S1x128 .f32)
  (X Z D : Fin 512 → Fin 128 → ℝ) (G : Fin 128 → ℝ)
  (hx : ∀ r l, x (ix2 r l) = ((X r l : ℝ) : EReal)) (hz : ∀ r l, z (ix2 r l) = ((Z r l : ℝ) : EReal))
  (hd : ∀ r l, d (ix2 r l) = ((D r l : ℝ) : EReal)) (hg : ∀ l, g (ix2 0 l) = ((G l : ℝ) : EReal))

include hx in
theorem ms_apply (r : Fin 512) : k1_pay28 (F := Ideal) x (ix2 r 0) = ((Head.ms (X r) : ℝ) : EReal) := by
  pointwise [k1_pay28]
  simp only [hx, ← EReal.coe_mul, coe_sum, lit_128, lit_eps, div_real (by norm_num : (128 : ℝ) ≠ 0), ← EReal.coe_add]
  rfl

include hx in
theorem ri_apply (r : Fin 512) : k1_pay29 (F := Ideal) x (ix2 r 0) = ((Head.ri (X r) : ℝ) : EReal) := by
  pointwise [k1_pay29]
  rw [ms_apply x X hx, rsqrt_real (Head.ms_pos _)]; rfl

include hx in
theorem dri_apply (r : Fin 512) : k1_pay30 (F := Ideal) x (ix2 r 0) = ((-1 / 2 * (Head.ri (X r) / Head.ms (X r)) : ℝ) : EReal) := by
  pointwise [k1_pay30]
  rw [ms_apply x X hx, ri_apply x X hx, div_real (Head.ms_pos _).ne', lit_neghalf, ← EReal.coe_mul]

include hx in
theorem n_apply (r : Fin 512) (l : Fin 128) : k1_pay31 (F := Ideal) x (ix2 r l) = ((X r l * Head.ri (X r) : ℝ) : EReal) := by
  pointwise [k1_pay31]
  rw [ri_apply x X hx, hx, ← EReal.coe_mul]

include hx hg in
theorem on_apply (r : Fin 512) (l : Fin 128) : k1_pay32 (F := Ideal) g x (ix2 r l) = ((Head.on (X r) G l : ℝ) : EReal) := by
  pointwise [k1_pay32]
  rw [n_apply x X hx, hg, ← EReal.coe_mul]; rfl

include hz in
theorem sg_apply (r : Fin 512) (l : Fin 128) : k1_pay35 (F := Ideal) z (ix2 r l) = ((sigm (Z r l) : ℝ) : EReal) := by
  pointwise [k1_pay35, k1_pay34, k1_pay33]
  rw [hz, sigm_real']

include hz in
theorem silu_apply (r : Fin 512) (l : Fin 128) : k1_pay37 (F := Ideal) z (ix2 r l) = ((Z r l * sigm (Z r l) : ℝ) : EReal) := by
  pointwise [k1_pay37]
  rw [hz, sg_apply z Z hz, ← EReal.coe_mul]

include hz hd in
theorem e_apply (r : Fin 512) (l : Fin 128) : k1_pay72 (F := Ideal) (k1_pay37 z) d (ix2 r l) = ((Head.e (Z r) (D r) l : ℝ) : EReal) := by
  pointwise [k1_pay72]
  rw [hd, silu_apply z Z hz, ← EReal.coe_mul]; rfl

include hx hz hd hg in
theorem dz_apply (r : Fin 512) (l : Fin 128) :
    k1_pay73 (F := Ideal) z (k1_pay32 g x) (k1_pay33 z) (k1_pay35 z) (k1_pay36 z) d (ix2 r l) = ((Head.dz (X r) (Z r) G (D r) l : ℝ) : EReal) := by
  pointwise [k1_pay73, k1_pay36, k1_pay34, k1_pay33]
  rw [on_apply x g X G hx hg, sg_apply z Z hz, hz, hd, zero_sub, zero_sub, zero_sub, ← EReal.coe_neg, Ideal.exp_coe, ← EReal.coe_one,
    ← EReal.coe_add, ← EReal.coe_mul (1 + _), div_real (mul_ne_zero (one_add_exp_ne _) (one_add_exp_ne _))]
  simp only [← EReal.coe_mul, ← EReal.coe_neg, ← EReal.coe_add]
  exact congrArg _ (Head.dsigm (Z r l) _)

include hx hz hd hg in
theorem dx_apply (r : Fin 512) (l : Fin 128) :
    k1_pay71 (F := Ideal) g x (k1_pay29 x) (k1_pay30 x) (k1_pay72 (k1_pay37 z) d) (ix2 r l) = ((Head.dx (X r) (Z r) G (D r) l : ℝ) : EReal) := by
  pointwise [k1_pay71]
  simp only [Finset.univ_unique, Finset.sum_singleton, Fin.default_eq_zero]
  simp only [e_apply z d Z D hz hd, hx, hg, ri_apply x X hx, dri_apply x X hx, lit_128, ← EReal.coe_mul, coe_sum,
    div_real (by norm_num : (128 : ℝ) ≠ 0), ← EReal.coe_add]
  rfl

end

/-! ## The backward call's results -/

section
variable (v0 : Vec Ideal S512x1024 .f32) (v3 : Vec Ideal S512x512 .f32) (v4 v6 v8 v10 : Vec Ideal S512x128 .f32)
  (v12 : Vec Ideal S1x1024 .f32) (v14 : Vec Ideal S1x128 .f32) (v16 : Vec Ideal S1024x1024 .bf16)
  (D : Fin 512 → Fin 1024 → ℝ) (O Z : Fin 512 → Fin 512 → ℝ) (g1 : Fin 1024 → ℝ) (G : Fin 128 → ℝ) (w : Fin 1024 → Fin 1024 → ℝ)
  (h0 : ∀ r l, v0 (ix2 r l) = ((D r l : ℝ) : EReal)) (h3 : ∀ r l, v3 (ix2 r l) = ((O r l : ℝ) : EReal))
  (h4 : ∀ r l, v4 (ix2 r l) = ((Z r (Head.col 0 l) : ℝ) : EReal)) (h6 : ∀ r l, v6 (ix2 r l) = ((Z r (Head.col 1 l) : ℝ) : EReal))
  (h8 : ∀ r l, v8 (ix2 r l) = ((Z r (Head.col 2 l) : ℝ) : EReal)) (h10 : ∀ r l, v10 (ix2 r l) = ((Z r (Head.col 3 l) : ℝ) : EReal))
  (h12 : ∀ l, v12 (ix2 0 l) = ((g1 l : ℝ) : EReal)) (h14 : ∀ l, v14 (ix2 0 l) = ((G l : ℝ) : EReal))
  (h16 : ∀ k l, v16 (ix2 k l) = ((w k l : ℝ) : EReal))

/-- The gradient at the product. -/
def dmix (d g1 : Fin 1024 → ℝ) (l : Fin 1024) : ℝ := d l * g1 l
/-- The gradient at the product's operand. -/
def dycat (d g1 : Fin 1024 → ℝ) (w : Fin 1024 → Fin 1024 → ℝ) (k : Fin 1024) : ℝ := ∑ l, dmix d g1 l * w k l
/-- Its columns of the first half, and of the heads. -/
def dlo (d g1 : Fin 1024 → ℝ) (w : Fin 1024 → Fin 1024 → ℝ) (k : Fin 512) : ℝ := dycat d g1 w ⟨k.val, by omega⟩
def dhi (d g1 : Fin 1024 → ℝ) (w : Fin 1024 → Fin 1024 → ℝ) (k : Fin 512) : ℝ := dycat d g1 w ⟨512 + k.val, by omega⟩

include h0 h12 in
theorem dmix_apply (r : Fin 512) (l : Fin 1024) : k1_pay11 v0 v12 (ix2 r l) = ((dmix (D r) g1 l : ℝ) : EReal) := by
  pointwise [k1_pay11]
  rw [h0, h12, ← EReal.coe_mul]; rfl

include h0 h12 h16

theorem dycat_apply (r : Fin 512) (k : Fin 1024) : k1_pay12 v0 v12 v16 (ix2 r k) = ((dycat (D r) g1 w k : ℝ) : EReal) := by
  pointwise [k1_pay12]
  simp only [dmix_apply v0 v12 D g1 h0 h12, h16, ← EReal.coe_mul, coe_sum]
  rfl

theorem dlo_apply (r : Fin 512) (k : Fin 512) : k1_pay80 (k1_pay12 v0 v12 v16) (ix2 r k) = ((dlo (D r) g1 w k : ℝ) : EReal) := by
  pointwise [k1_pay80]
  exact dycat_apply v0 v12 v16 D g1 w h0 h12 h16 _ _

/-- The heads' columns of the gradient at the product's operand. -/
theorem dhi_apply (r : Fin 512) (l : Fin 128) :
    k1_pay58 (k1_pay12 v0 v12 v16) (ix2 r l) = ((Head.of (dhi (D r) g1 w) 0 l : ℝ) : EReal)
    ∧ k1_pay59 (k1_pay12 v0 v12 v16) (ix2 r l) = ((Head.of (dhi (D r) g1 w) 1 l : ℝ) : EReal)
    ∧ k1_pay60 (k1_pay12 v0 v12 v16) (ix2 r l) = ((Head.of (dhi (D r) g1 w) 2 l : ℝ) : EReal)
    ∧ k1_pay61 (k1_pay12 v0 v12 v16) (ix2 r l) = ((Head.of (dhi (D r) g1 w) 3 l : ℝ) : EReal) := by
  refine ⟨?_, ?_, ?_, ?_⟩ <;> pointwise [k1_pay58, k1_pay59, k1_pay60, k1_pay61] <;>
    refine (dycat_apply v0 v12 v16 D g1 w h0 h12 h16 _ _).trans (congrArg _ ?_) <;> refine congrArg _ (Fin.ext ?_) <;>
    simp [Head.col] <;> omega

omit h0 h12 h16 in
include h3 in
theorem o_apply (r : Fin 512) (l : Fin 128) :
    k1_pay13 v3 (ix2 r l) = ((Head.of (O r) 0 l : ℝ) : EReal) ∧ k1_pay14 v3 (ix2 r l) = ((Head.of (O r) 1 l : ℝ) : EReal)
    ∧ k1_pay15 v3 (ix2 r l) = ((Head.of (O r) 2 l : ℝ) : EReal) ∧ k1_pay16 v3 (ix2 r l) = ((Head.of (O r) 3 l : ℝ) : EReal) := by
  refine ⟨?_, ?_, ?_, ?_⟩ <;> pointwise [k1_pay13, k1_pay14, k1_pay15, k1_pay16] <;>
    refine (h3 _ _).trans (congrArg _ ?_) <;> refine congrArg _ (Fin.ext ?_) <;> simp [Head.col]

/-- The blocks of the four heads: the recurrence's outputs, the gates, the gradients. -/
def ob : Fin 4 → Vec Ideal S512x128 .f32 := ![k1_pay13 v3, k1_pay14 v3, k1_pay15 v3, k1_pay16 v3]
def zb : Fin 4 → Vec Ideal S512x128 .f32 := ![k1_pay6 v4, k1_pay7 v6, k1_pay8 v8, k1_pay9 v10]
def db (v21 : Vec Ideal S512x1024 .f32) : Fin 4 → Vec Ideal S512x128 .f32 := ![k1_pay58 (F := Ideal) v21, k1_pay59 (F := Ideal) v21, k1_pay60 (F := Ideal) v21, k1_pay61 (F := Ideal) v21]

omit h0 h12 h16 in
include h3 in
theorem ob_apply (h : Fin 4) (r : Fin 512) (l : Fin 128) : ob v3 h (ix2 r l) = ((Head.of (O r) h l : ℝ) : EReal) := by
  obtain ⟨a, b, c, d⟩ := o_apply v3 O h3 r l
  fin_cases h
  exacts [a, b, c, d]

omit h0 h12 h16 in
include h4 h6 h8 h10 in
theorem zb_apply (h : Fin 4) (r : Fin 512) (l : Fin 128) : zb v4 v6 v8 v10 h (ix2 r l) = ((Head.of (Z r) h l : ℝ) : EReal) := by
  fin_cases h
  · show k1_pay6 v4 (ix2 r l) = _
    pointwise [k1_pay6]; exact h4 r l
  · show k1_pay7 v6 (ix2 r l) = _
    pointwise [k1_pay7]; exact h6 r l
  · show k1_pay8 v8 (ix2 r l) = _
    pointwise [k1_pay8]; exact h8 r l
  · show k1_pay9 v10 (ix2 r l) = _
    pointwise [k1_pay9]; exact h10 r l

theorem db_apply (h : Fin 4) (r : Fin 512) (l : Fin 128) :
    db (k1_pay12 v0 v12 v16) h (ix2 r l) = ((Head.of (dhi (D r) g1 w) h l : ℝ) : EReal) := by
  obtain ⟨a, b, c, d⟩ := dhi_apply v0 v12 v16 D g1 w h0 h12 h16 r l
  fin_cases h
  exacts [a, b, c, d]

omit h0 h12 h16 in
include h14 in
theorem gain_apply (l : Fin 128) : k1_pay10 v14 (ix2 0 l) = ((G l : ℝ) : EReal) := by
  pointwise [k1_pay10]; exact h14 l

include h3 h4 h6 h8 h10 h14

/-- The gradient at the gates. -/
theorem dzs_apply (r : Fin 512) (h : Fin 4) (l : Fin 128) :
    k1_pay82 (k1_pay6 v4) (k1_pay22 (k1_pay10 v14) (k1_pay13 v3) (k1_pay18 v3)) (k1_pay23 (k1_pay6 v4)) (k1_pay25 (k1_pay6 v4))
      (k1_pay26 (k1_pay6 v4)) (k1_pay58 (k1_pay12 v0 v12 v16))
      (k1_pay63 (k1_pay9 v10) (k1_pay12 v0 v12 v16) (k1_pay53 (k1_pay10 v14) (k1_pay16 v3)) (k1_pay54 (k1_pay9 v10)) (k1_pay56 (k1_pay9 v10))
        (k1_pay57 (k1_pay9 v10)))
      (k1_pay70 (k1_pay68 (k1_pay12 v0 v12 v16) (k1_pay43 (k1_pay10 v14) (k1_pay15 v3) (k1_pay38 (k1_pay15 v3))) (k1_pay46 (k1_pay8 v8)))
        (k1_pay69 (k1_pay8 v8) (k1_pay12 v0 v12 v16) (k1_pay43 (k1_pay10 v14) (k1_pay15 v3) (k1_pay38 (k1_pay15 v3))) (k1_pay44 (k1_pay8 v8))
          (k1_pay47 (k1_pay8 v8))))
      (k1_pay73 (k1_pay7 v6) (k1_pay32 (k1_pay10 v14) (k1_pay14 v3)) (k1_pay33 (k1_pay7 v6)) (k1_pay35 (k1_pay7 v6)) (k1_pay36 (k1_pay7 v6))
        (k1_pay59 (k1_pay12 v0 v12 v16))) (ix2 r (Head.col h l))
      = ((Head.dz (Head.of (O r) h) (Head.of (Z r) h) G (Head.of (dhi (D r) g1 w) h) l : ℝ) : EReal) := by
  have key (h : Fin 4) := dz_apply (ob v3 h) (zb v4 v6 v8 v10 h) (db (k1_pay12 v0 v12 v16) h) (k1_pay10 v14) (fun r => Head.of (O r) h)
    (fun r => Head.of (Z r) h) (fun r => Head.of (dhi (D r) g1 w) h) G
    (ob_apply v3 O h3 h) (zb_apply v4 v6 v8 v10 Z h4 h6 h8 h10 h) (db_apply v0 v12 v16 D g1 w h0 h12 h16 h) (gain_apply v14 G h14) r l
  unfold k1_pay82
  refine concat_apply _ _ _ _ (fun h => ((Head.dz (Head.of (O r) h) (Head.of (Z r) h) G (Head.of (dhi (D r) g1 w) h) l : ℝ) : EReal)) r l
    ?_ ?_ ?_ ?_ h
  · exact key 0
  · exact key 1
  · exact key 2
  · exact key 3

/-- The gradient at the recurrence's outputs. -/
theorem dos_apply (r : Fin 512) (h : Fin 4) (l : Fin 128) :
    k1_pay81 (k1_pay10 v14) (k1_pay13 v3) (k1_pay14 v3) (k1_pay18 v3) (k1_pay20 (k1_pay19 v3)) (k1_pay27 (k1_pay6 v4))
      (k1_pay58 (k1_pay12 v0 v12 v16))
      (k1_pay65 (k1_pay9 v10) (k1_pay10 v14) (k1_pay12 v0 v12 v16) (k1_pay16 v3) (k1_pay50 (k1_pay16 v3)) (k1_pay51 (k1_pay16 v3))
        (k1_pay56 (k1_pay9 v10)))
      (k1_pay71 (k1_pay10 v14) (k1_pay15 v3) (k1_pay40 (k1_pay38 (k1_pay15 v3))) (k1_pay41 (k1_pay38 (k1_pay15 v3)))
        (k1_pay67 (k1_pay12 v0 v12 v16) (k1_pay48 (k1_pay8 v8))))
      (k1_pay76 (k1_pay10 v14) (k1_pay29 (k1_pay14 v3)) (k1_pay37 (k1_pay7 v6)) (k1_pay59 (k1_pay12 v0 v12 v16)))
      (k1_pay77 (k1_pay10 v14) (k1_pay14 v3) (k1_pay30 (k1_pay14 v3)) (k1_pay37 (k1_pay7 v6)) (k1_pay59 (k1_pay12 v0 v12 v16)))
      (Scalar.ofBits .f32 0x43000000#32) (ix2 r (Head.col h l))
      = ((Head.dx (Head.of (O r) h) (Head.of (Z r) h) G (Head.of (dhi (D r) g1 w) h) l : ℝ) : EReal) := by
  have key (h : Fin 4) := dx_apply (ob v3 h) (zb v4 v6 v8 v10 h) (db (k1_pay12 v0 v12 v16) h) (k1_pay10 v14) (fun r => Head.of (O r) h)
    (fun r => Head.of (Z r) h) (fun r => Head.of (dhi (D r) g1 w) h) G
    (ob_apply v3 O h3 h) (zb_apply v4 v6 v8 v10 Z h4 h6 h8 h10 h) (db_apply v0 v12 v16 D g1 w h0 h12 h16 h) (gain_apply v14 G h14) r l
  unfold k1_pay81
  refine concat_apply _ _ _ _ (fun h => ((Head.dx (Head.of (O r) h) (Head.of (Z r) h) G (Head.of (dhi (D r) g1 w) h) l : ℝ) : EReal)) r l
    ?_ ?_ ?_ ?_ h
  · exact key 0
  · exact key 1
  · exact key 2
  · exact key 3

omit h14 in
/-- The gradient of the norm's gain, of one block's rows. -/
theorem dgain_apply (xo : Vec Ideal S1x128 .f32) (l : Fin 128) :
    k1_pay4 (k1_pay79 (k1_pay21 (k1_pay13 v3) (k1_pay18 v3)) (k1_pay27 (k1_pay6 v4)) (k1_pay58 (k1_pay12 v0 v12 v16))
      (k1_pay74 (k1_pay31 (k1_pay14 v3)) (k1_pay37 (k1_pay7 v6)) (k1_pay42 (k1_pay15 v3) (k1_pay38 (k1_pay15 v3)))
        (k1_pay59 (k1_pay12 v0 v12 v16))
        (k1_pay64 (k1_pay9 v10) (k1_pay12 v0 v12 v16) (k1_pay52 (k1_pay16 v3)) (k1_pay56 (k1_pay9 v10)))
        (k1_pay67 (k1_pay12 v0 v12 v16) (k1_pay48 (k1_pay8 v8))))) xo (ix2 0 l)
      = xo (ix2 0 l) + ((∑ r, ∑ h, Head.dg (Head.of (O r) h) (Head.of (Z r) h) (Head.of (dhi (D r) g1 w) h) l : ℝ) : EReal) := by
  have key (h : Fin 4) (r : Fin 512) : k1_pay31 (F := Ideal) (ob v3 h) (ix2 r l)
        * k1_pay72 (F := Ideal) (k1_pay37 (zb v4 v6 v8 v10 h)) (db (k1_pay12 v0 v12 v16) h) (ix2 r l)
      = ((Head.dg (Head.of (O r) h) (Head.of (Z r) h) (Head.of (dhi (D r) g1 w) h) l : ℝ) : EReal) := by
    rw [n_apply (ob v3 h) (fun r => Head.of (O r) h) (ob_apply v3 O h3 h),
      e_apply (zb v4 v6 v8 v10 h) (db (k1_pay12 v0 v12 v16) h) (fun r => Head.of (Z r) h) (fun r => Head.of (dhi (D r) g1 w) h)
        (zb_apply v4 v6 v8 v10 Z h4 h6 h8 h10 h) (db_apply v0 v12 v16 D g1 w h0 h12 h16 h), ← EReal.coe_mul]; rfl
  pointwise [k1_pay4, k1_pay79, k1_pay74, k1_pay64]
  have s3 := Finset.sum_congr (rfl : (Finset.univ : Finset (Fin 512)) = _) fun r _ => key 3 r
  have s2 := Finset.sum_congr (rfl : (Finset.univ : Finset (Fin 512)) = _) fun r _ => key 2 r
  have s1 := Finset.sum_congr (rfl : (Finset.univ : Finset (Fin 512)) = _) fun r _ => key 1 r
  have s0 := Finset.sum_congr (rfl : (Finset.univ : Finset (Fin 512)) = _) fun r _ => key 0 r
  refine congrArg (xo (ix2 0 l) + ·) ?_
  refine (congrArg₂ (· + ·) (congrArg₂ (· + ·) (congrArg₂ (· + ·) s3 s2) s1) s0).trans ?_
  simp only [coe_sum, ← EReal.coe_add, Fin.sum_univ_four, Finset.sum_add_distrib]
  exact congrArg _ (by ring)

omit h3 h4 h6 h8 h10 h14 h12 h16 in
include h0 in
/-- The gradient of the residual's gain, of one block's rows. -/
theorem dg1_apply (v2 : Vec Ideal S512x1024 .f32) (P : Fin 512 → Fin 1024 → ℝ) (h2 : ∀ r l, v2 (ix2 r l) = ((P r l : ℝ) : EReal))
    (xo : Vec Ideal S1x1024 .f32) (l : Fin 1024) :
    k1_pay3 (k1_pay83 v0 (k1_pay5 v2)) xo (ix2 0 l) = xo (ix2 0 l) + ((∑ r, D r l * P r l : ℝ) : EReal) := by
  pointwise [k1_pay3, k1_pay83, k1_pay5]
  simp only [h0, h2, ← EReal.coe_mul, coe_sum]

end

end Cert.Proof.Outproj

end
-- ==== Proof.OutprojFwd.lean ====
/- Hand-written, untrusted: the forward call of the gated norm of the heads and the output projection, the product that it saves. -/
module

public import proofs.«01_k».proof.Proof.OutprojRow

@[expose] public section

set_option maxRecDepth 16384

noncomputable section

namespace Cert.Proof.Outproj

/-- A row of the product. -/
def prod (a : Fin 512 → ℝ) (b : Fin 4 → Fin 128 → ℝ) (w : Fin 1024 → Fin 1024 → ℝ) (l : Fin 1024) : ℝ := ∑ k, ycat a b k * w k l
/-- A row's gated heads. -/
def heads (o z : Fin 512 → ℝ) (g : Fin 128 → ℝ) (h : Fin 4) (l : Fin 128) : ℝ := Head.y (Head.of o h) (Head.of z h) g l

open Idealize.ShloMosaic Idealize.ShloMosaic.TcCoe Idealize.SL.Sem Idealize.ShloMosaic.Pointwise
open Cert.OutprojBwdIdeal Cert.OutprojBwdIdeal.Gen

section
variable (x z : Vec Ideal S512x128 .f32) (g : Vec Ideal S1x128 .f32) (X Z : Fin 512 → Fin 128 → ℝ) (G : Fin 128 → ℝ)
  (hx : ∀ r l, x (ix2 r l) = ((X r l : ℝ) : EReal)) (hz : ∀ r l, z (ix2 r l) = ((Z r l : ℝ) : EReal))
  (hg : ∀ l, g (ix2 0 l) = ((G l : ℝ) : EReal))

include hx hz hg in
/-- One gated head. -/
theorem head_apply (r : Fin 512) (l : Fin 128) : k0_pay18 (F := Ideal) z g x (ix2 r l) = ((Head.y (X r) (Z r) G l : ℝ) : EReal) := by
  refine (show k0_pay18 (F := Ideal) z g x (ix2 r l) = k1_pay32 g x (ix2 r l) * k1_pay37 z (ix2 r l) from rfl).trans ?_
  rw [on_apply x g X G hx hg, silu_apply z Z hz, ← EReal.coe_mul]; rfl

end

variable (v1 : Vec Ideal S512x512 .f32) (v2 v4 v6 v8 : Vec Ideal S512x128 .f32) (v10 : Vec Ideal S512x512 .bf16)
  (v14 : Vec Ideal S1x128 .f32) (v16 : Vec Ideal S1024x1024 .bf16)
  (O Z Y : Fin 512 → Fin 512 → ℝ) (G : Fin 128 → ℝ) (w : Fin 1024 → Fin 1024 → ℝ)
  (h1 : ∀ r l, v1 (ix2 r l) = ((O r l : ℝ) : EReal))
  (h2 : ∀ r l, v2 (ix2 r l) = ((Z r (Head.col 0 l) : ℝ) : EReal)) (h4 : ∀ r l, v4 (ix2 r l) = ((Z r (Head.col 1 l) : ℝ) : EReal))
  (h6 : ∀ r l, v6 (ix2 r l) = ((Z r (Head.col 2 l) : ℝ) : EReal)) (h8 : ∀ r l, v8 (ix2 r l) = ((Z r (Head.col 3 l) : ℝ) : EReal))
  (h10 : ∀ r l, v10 (ix2 r l) = ((Y r l : ℝ) : EReal)) (h14 : ∀ l, v14 (ix2 0 l) = ((G l : ℝ) : EReal))
  (h16 : ∀ k l, v16 (ix2 k l) = ((w k l : ℝ) : EReal))

include h1 h2 h4 h6 h8 h10 h14

theorem fwd_ycat_apply (r : Fin 512) (k : Fin 1024) :
    k0_pay1 (k0_pay6 v6) (k0_pay7 v8) (k0_pay8 v10) (k0_pay10 v14) (k0_pay14 v1) (k0_pay17 (k0_pay4 v2) (k0_pay15 v1 v14) (k0_pay16 (F := Ideal)))
      (k0_pay18 (k0_pay5 v4) (k0_pay10 v14) (k0_pay12 v1)) (k0_pay19 (k0_pay10 v14) (k0_pay13 v1)) (k0_pay20 (k0_pay6 v6))
      (Scalar.ofBits .f32 0x3F800000#32) (ix2 r k) = ((ycat (Y r) (heads (O r) (Z r) G) k : ℝ) : EReal) := by
  unfold k0_pay1
  obtain ⟨j, rfl⟩ | ⟨h, l, rfl⟩ := lo_or_col k
  · rw [ycat_lo]
    refine (concat5_lo _ _ _ _ _ _ r j).trans ?_
    pointwise [k0_pay8]
    exact h10 r j
  · rw [ycat_col]
    have key (h : Fin 4) := head_apply (ob v1 h) (zb v2 v4 v6 v8 h) (k1_pay10 v14) (fun r => Head.of (O r) h) (fun r => Head.of (Z r) h) G
      (ob_apply v1 O h1 h) (zb_apply v2 v4 v6 v8 Z h2 h4 h6 h8 h) (gain_apply v14 G h14) r l
    refine concat5_col _ _ _ _ _ _ (fun h => ((heads (O r) (Z r) G h l : ℝ) : EReal)) r l ?_ ?_ ?_ ?_ h
    · exact key 0
    · exact key 1
    · exact key 2
    · exact key 3

include h16

/-- The product that the forward call saves. -/
theorem fwd_prod_apply (r : Fin 512) (l : Fin 1024) :
    k0_pay2 (k0_pay6 v6) (k0_pay7 v8) (k0_pay8 v10) (k0_pay10 v14) (k0_pay11 v16) (k0_pay14 v1)
      (k0_pay17 (k0_pay4 v2) (k0_pay15 v1 v14) (k0_pay16 (F := Ideal)))
      (k0_pay18 (k0_pay5 v4) (k0_pay10 v14) (k0_pay12 v1)) (k0_pay19 (k0_pay10 v14) (k0_pay13 v1)) (k0_pay20 (k0_pay6 v6))
      (Scalar.ofBits .f32 0x3F800000#32) (ix2 r l) = ((prod (Y r) (heads (O r) (Z r) G) w l : ℝ) : EReal) := by
  have hk := fwd_ycat_apply v1 v2 v4 v6 v8 v10 v14 O Z Y G h1 h2 h4 h6 h8 h10 h14 r
  unfold k0_pay2
  generalize k0_pay1 (F := Ideal) _ _ _ _ _ _ _ _ _ _ = y at hk ⊢
  pointwise [k0_pay11]
  simp only [hk, h16, ← EReal.coe_mul, coe_sum]
  rfl

end Cert.Proof.Outproj

end
-- ==== Proof.OutprojLaunch.lean ====
/- Hand-written, untrusted: the launch of a call together with the forward call before it, with the arrays it leaves. -/
module

public import proofs.«01_k».proof.Proof.Gen.OutprojBwdIdeal.Frame

@[expose] public section

set_option maxRecDepth 16384

noncomputable section

namespace Cert.Proof.Outproj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.OutprojBwdIdeal Cert.OutprojBwdIdeal.Gen

variable {F : FTy → Type} [FloatOps F] (m : (ℓ : Loc nD τ sig) → Buf (Elt F) ℓ) (ρ : Dev nD → PrngReg)

set_option backward.isDefEq.respectTransparency.types false in
/-- The run, with every array of a device afterwards named. -/
theorem run_arrays : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Cert.Proof.Outproj

end
-- ==== Proof.Outproj.lean ====
/- Hand-written, untrusted: the gated norm of the heads with the output projection, the arrays that the backward call leaves. -/
module

public import proofs.«01_k».proof.Proof.OutprojFwd
public import proofs.«01_k».proof.Proof.OutprojLaunch
public import proofs.«01_k».proof.Proof.Index
public import Idealize.ShloMosaic.Lib.Pipeline.ValueKit

@[expose] public section

set_option maxRecDepth 16384

noncomputable section

namespace Cert.Proof.Outproj

open Idealize.ShloMosaic Idealize.ShloMosaic.TcCoe Idealize.SL.Sem Idealize.ShloMosaic.Pointwise
open Cert.OutprojBwdIdeal Cert.OutprojBwdIdeal.Gen

variable (V : (c : Dev nD) → (b : Ref sig .tc) → Buf (Elt Ideal) ((c : Thread nD τ).loc b)) (c : Dev nD)
  (O Z Y : Fin 4096 → Fin 512 → ℝ) (g1 : Fin 1024 → ℝ) (G : Fin 128 → ℝ) (w : Fin 1024 → Fin 1024 → ℝ) (D : Fin 4096 → Fin 1024 → ℝ)

/-! ## The forward call -/

theorem idx0_1 : ∀ t : Fin cfg0.N, win0_1.index t = ![t.val, 0] := (by decide +kernel : ∀ t : Fin grid0.N, _)
theorem idx0_2 : ∀ t : Fin cfg0.N, win0_2.index t = ![t.val, 22] := (by decide +kernel : ∀ t : Fin grid0.N, _)
theorem idx0_3 : ∀ t : Fin cfg0.N, win0_3.index t = ![t.val, 23] := (by decide +kernel : ∀ t : Fin grid0.N, _)
theorem idx0_4 : ∀ t : Fin cfg0.N, win0_4.index t = ![t.val, 24] := (by decide +kernel : ∀ t : Fin grid0.N, _)
theorem idx0_5 : ∀ t : Fin cfg0.N, win0_5.index t = ![t.val, 25] := (by decide +kernel : ∀ t : Fin grid0.N, _)
theorem idx0_6 : ∀ t : Fin cfg0.N, win0_6.index t = ![t.val, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![0, 0] := (by decide +kernel : ∀ t : Fin grid0.N, _)
theorem idx0_11 : ∀ t : Fin cfg0.N, win0_11.index t = ![t.val, 0] := (by decide +kernel : ∀ t : Fin grid0.N, _)

/-- Row `r` of block `t` in the array. -/
def row0 (t : Fin cfg0.N) (r : Fin 512) : Fin 4096 :=
  ⟨t.val * 512 + r.val, by have := t.isLt; have := r.isLt; have h : cfg0.N = 8 := N_0; omega⟩

/-- The contents of the forward call's operands. -/
structure Holds0 : Prop where
  o : ∀ r l, V c main_arg1 (ix2 r l) = ((O r l : ℝ) : EReal)
  z : ∀ r (k : Fin 512), V c main_v0 (ix2 r ⟨2816 + k.val, by omega⟩) = ((Z r k : ℝ) : EReal)
  y : ∀ r l, V c main_v2 (ix2 r l) = ((Y r l : ℝ) : EReal)
  g : ∀ l, V c main_v4 (ix2 0 l) = ((G l : ℝ) : EReal)
  w : ∀ k l, V c main_v1 (ix2 k l) = ((w k l : ℝ) : EReal)

variable {V c O Z Y g1 G w D}

/-- The product that the forward call saves, row by row. -/
theorem prod_final (H : Holds0 V c O Z Y G w) (r : Fin 4096) (l : Fin 1024) :
    (dat0 V c).arrAt 11 cfg0.N (ix2 r l) = ((prod (Y r) (heads (O r) (Z r) G) w l : ℝ) : EReal) := by
  have b1 (t : Fin cfg0.N) (r : Fin 512) (l : Fin 512) : iblk0 V c 1 t (ix2 r l) = ((O (row0 t r) l : ℝ) : EReal) := by
    rw [← H.o]
    blk_simp [iblk0]
    refine congrArg _ ?_
    blk_ext [idx0_1, row0, Head.col]
  have b2 (t : Fin cfg0.N) (r : Fin 512) (l : Fin 128) : iblk0 V c 2 t (ix2 r l) = ((Z (row0 t r) (Head.col 0 l) : ℝ) : EReal) := by
    rw [← H.z]
    blk_simp [iblk0]
    refine congrArg _ ?_
    blk_ext [idx0_2, row0, Head.col]
  have b3 (t : Fin cfg0.N) (r : Fin 512) (l : Fin 128) : iblk0 V c 3 t (ix2 r l) = ((Z (row0 t r) (Head.col 1 l) : ℝ) : EReal) := by
    rw [← H.z]
    blk_simp [iblk0]
    refine congrArg _ ?_
    blk_ext [idx0_3, row0, Head.col]
  have b4 (t : Fin cfg0.N) (r : Fin 512) (l : Fin 128) : iblk0 V c 4 t (ix2 r l) = ((Z (row0 t r) (Head.col 2 l) : ℝ) : EReal) := by
    rw [← H.z]
    blk_simp [iblk0]
    refine congrArg _ ?_
    blk_ext [idx0_4, row0, Head.col]
  have b5 (t : Fin cfg0.N) (r : Fin 512) (l : Fin 128) : iblk0 V c 5 t (ix2 r l) = ((Z (row0 t r) (Head.col 3 l) : ℝ) : EReal) := by
    rw [← H.z]
    blk_simp [iblk0]
    refine congrArg _ ?_
    blk_ext [idx0_5, row0, Head.col]
  have b6 (t : Fin cfg0.N) (r : Fin 512) (l : Fin 512) : iblk0 V c 6 t (ix2 r l) = ((Y (row0 t r) l : ℝ) : EReal) := by
    rw [← H.y]
    blk_simp [iblk0]
    refine congrArg _ ?_
    blk_ext [idx0_6, row0, Head.col]
  have b8 (t : Fin cfg0.N) (l : Fin 128) : iblk0 V c 8 t (ix2 0 l) = ((G l : ℝ) : EReal) := by
    rw [← H.g]
    blk_simp [iblk0]
    refine congrArg _ ?_
    blk_ext [idx0_8, row0, Head.col]
  have b9 (t : Fin cfg0.N) (k l : Fin 1024) : iblk0 V c 9 t (ix2 k l) = ((w k l : ℝ) : EReal) := by
    rw [← H.w]
    blk_simp [iblk0]
    refine congrArg _ ?_
    blk_ext [idx0_9, row0, Head.col]
  refine congrFun ((dat0 V c).arrAt_eq_of_covers 11
    (fun i => ((prod (Y (i 0)) (heads (O (i 0)) (Z (i 0)) G) w (i 1) : ℝ) : EReal)) (by decide +kernel) fun t hf y => ?_) (ix2 r l)
  obtain ⟨a, b, rfl⟩ : ∃ (a : Fin 512) (b : Fin 1024), y = ix2 a b := ⟨y 0, y 1, eq_ix2 (n0 := 512) (n1 := 1024) y⟩
  blk_simp
  rw [after0_11]
  have h0 : ((View.whole main_v5_1).slice (win0_11.rect t)).emb (ix2 a b) = ix2 (row0 t a) b := by
    blk_ext [idx0_11, row0]
  rw [h0]
  unfold_out out0_11
  frame_out
  exact fwd_prod_apply (iblk0 V c 1 t) (iblk0 V c 2 t) (iblk0 V c 3 t) (iblk0 V c 4 t) (iblk0 V c 5 t) (iblk0 V c 6 t) (iblk0 V c 8 t) (iblk0 V c 9 t)
    (fun r => O (row0 t r)) (fun r => Z (row0 t r)) (fun r => Y (row0 t r)) G w
    (b1 t) (b2 t) (b3 t) (b4 t) (b5 t) (b6 t) (b8 t) (b9 t) a b

/-! ## The backward call -/

theorem idx1_0 : ∀ t : Fin cfg1.N, win1_0.index t = ![t.val, 0] := (by decide +kernel : ∀ t : Fin grid1.N, _)
theorem idx1_1 : ∀ t : Fin cfg1.N, win1_1.index t = ![t.val, 0] := (by decide +kernel : ∀ t : Fin grid1.N, _)
theorem idx1_2 : ∀ t : Fin cfg1.N, win1_2.index t = ![t.val, 0] := (by decide +kernel : ∀ t : Fin grid1.N, _)
theorem idx1_3 : ∀ t : Fin cfg1.N, win1_3.index t = ![t.val, 22] := (by decide +kernel : ∀ t : Fin grid1.N, _)
theorem idx1_4 : ∀ t : Fin cfg1.N, win1_4.index t = ![t.val, 23] := (by decide +kernel : ∀ t : Fin grid1.N, _)
theorem idx1_5 : ∀ t : Fin cfg1.N, win1_5.index t = ![t.val, 24] := (by decide +kernel : ∀ t : Fin grid1.N, _)
theorem idx1_6 : ∀ t : Fin cfg1.N, win1_6.index t = ![t.val, 25] := (by decide +kernel : ∀ t : Fin grid1.N, _)
theorem idx1_7 : ∀ t : Fin cfg1.N, win1_7.index t = ![0, 0] := (by decide +kernel : ∀ t : Fin grid1.N, _)
theorem idx1_8 : ∀ t : Fin cfg1.N, win1_8.index t = ![0, 0] := (by decide +kernel : ∀ t : Fin grid1.N, _)
theorem idx1_9 : ∀ t : Fin cfg1.N, win1_9.index t = ![0, 0] := (by decide +kernel : ∀ t : Fin grid1.N, _)
theorem idx1_10 : ∀ t : Fin cfg1.N, win1_10.index t = ![t.val, 0] := (by decide +kernel : ∀ t : Fin grid1.N, _)
theorem idx1_11 : ∀ t : Fin cfg1.N, win1_11.index t = ![t.val, 0] := (by decide +kernel : ∀ t : Fin grid1.N, _)
theorem idx1_12 : ∀ t : Fin cfg1.N, win1_12.index t = ![t.val, 0] := (by decide +kernel : ∀ t : Fin grid1.N, _)
theorem idx1_13 : ∀ t : Fin cfg1.N, win1_13.index t = ![t.val, 0] := (by decide +kernel : ∀ t : Fin grid1.N, _)

/-- Row `r` of block `t` in the array. -/
def row (t : Fin cfg1.N) (r : Fin 512) : Fin 4096 :=
  ⟨t.val * 512 + r.val, by have := t.isLt; have := r.isLt; have h : cfg1.N = 8 := N_1; omega⟩

variable (V c O Z Y g1 G w D) in
/-- The contents of the backward call's operands. -/
structure Holds : Prop where
  d : ∀ r l, V c main_arg7 (ix2 r l) = ((D r l : ℝ) : EReal)
  p : ∀ r l, V c main_v5_1 (ix2 r l) = ((prod (Y r) (heads (O r) (Z r) G) w l : ℝ) : EReal)
  o : ∀ r l, V c main_arg1 (ix2 r l) = ((O r l : ℝ) : EReal)
  z : ∀ r (k : Fin 512), V c main_v0 (ix2 r ⟨2816 + k.val, by omega⟩) = ((Z r k : ℝ) : EReal)
  g1 : ∀ l, V c main_v6 (ix2 0 l) = ((g1 l : ℝ) : EReal)
  g : ∀ l, V c main_v7 (ix2 0 l) = ((G l : ℝ) : EReal)
  w : ∀ k l, V c main_v1 (ix2 k l) = ((w k l : ℝ) : EReal)

variable (H : Holds V c O Z Y g1 G w D)
include H

theorem blk0 (t : Fin cfg1.N) (r : Fin 512) (l : Fin 1024) : iblk1 V c 0 t (ix2 r l) = ((D (row t r) l : ℝ) : EReal) := by
  rw [← H.d]
  blk_simp [iblk1]
  refine congrArg _ ?_
  blk_ext [idx1_0, row, Head.col]

theorem blk1 (t : Fin cfg1.N) (r : Fin 512) (l : Fin 1024) : iblk1 V c 1 t (ix2 r l) = ((prod (Y (row t r)) (heads (O (row t r)) (Z (row t r)) G) w l : ℝ) : EReal) := by
  rw [← H.p]
  blk_simp [iblk1]
  refine congrArg _ ?_
  blk_ext [idx1_1, row, Head.col]

theorem blk2 (t : Fin cfg1.N) (r : Fin 512) (l : Fin 512) : iblk1 V c 2 t (ix2 r l) = ((O (row t r) l : ℝ) : EReal) := by
  rw [← H.o]
  blk_simp [iblk1]
  refine congrArg _ ?_
  blk_ext [idx1_2, row, Head.col]

theorem blk3 (t : Fin cfg1.N) (r : Fin 512) (l : Fin 128) : iblk1 V c 3 t (ix2 r l) = ((Z (row t r) (Head.col 0 l) : ℝ) : EReal) := by
  rw [← H.z]
  blk_simp [iblk1]
  refine congrArg _ ?_
  blk_ext [idx1_3, row, Head.col]

theorem blk4 (t : Fin cfg1.N) (r : Fin 512) (l : Fin 128) : iblk1 V c 4 t (ix2 r l) = ((Z (row t r) (Head.col 1 l) : ℝ) : EReal) := by
  rw [← H.z]
  blk_simp [iblk1]
  refine congrArg _ ?_
  blk_ext [idx1_4, row, Head.col]

theorem blk5 (t : Fin cfg1.N) (r : Fin 512) (l : Fin 128) : iblk1 V c 5 t (ix2 r l) = ((Z (row t r) (Head.col 2 l) : ℝ) : EReal) := by
  rw [← H.z]
  blk_simp [iblk1]
  refine congrArg _ ?_
  blk_ext [idx1_5, row, Head.col]

theorem blk6 (t : Fin cfg1.N) (r : Fin 512) (l : Fin 128) : iblk1 V c 6 t (ix2 r l) = ((Z (row t r) (Head.col 3 l) : ℝ) : EReal) := by
  rw [← H.z]
  blk_simp [iblk1]
  refine congrArg _ ?_
  blk_ext [idx1_6, row, Head.col]

theorem blk7 (t : Fin cfg1.N) (l : Fin 1024) : iblk1 V c 7 t (ix2 0 l) = ((g1 l : ℝ) : EReal) := by
  rw [← H.g1]
  blk_simp [iblk1]
  refine congrArg _ ?_
  blk_ext [idx1_7, row, Head.col]

theorem blk8 (t : Fin cfg1.N) (l : Fin 128) : iblk1 V c 8 t (ix2 0 l) = ((G l : ℝ) : EReal) := by
  rw [← H.g]
  blk_simp [iblk1]
  refine congrArg _ ?_
  blk_ext [idx1_8, row, Head.col]

theorem blk9 (t : Fin cfg1.N) (k l : Fin 1024) : iblk1 V c 9 t (ix2 k l) = ((w k l : ℝ) : EReal) := by
  rw [← H.w]
  blk_simp [iblk1]
  refine congrArg _ ?_
  blk_ext [idx1_9, row, Head.col]

theorem dmix_block (t : Fin cfg1.N) (r : Fin 512) (l : Fin 1024) :
    (outsAt1 V c t.val t.isLt).1 (ix2 r l) = ((dmix (D (row t r)) g1 l : ℝ) : EReal) := by
  have key := dmix_apply _ _ (fun r => D (row t r)) g1 (blk0 H t) (blk7 H t) r l
  by_cases h : t.val % 8 = 0
  · rw [outsAt1_A V c t h]; frame_out; exact key
  · rw [outsAt1_B V c t h]; frame_out; exact key

theorem dlo_block (t : Fin cfg1.N) (r k : Fin 512) :
    (outsAt1 V c t.val t.isLt).2.1 (ix2 r k) = ((dlo (D (row t r)) g1 w k : ℝ) : EReal) := by
  have key := dlo_apply _ _ _ (fun r => D (row t r)) g1 w (blk0 H t) (blk7 H t) (blk9 H t) r k
  by_cases h : t.val % 8 = 0
  · rw [outsAt1_A V c t h]; frame_out; exact key
  · rw [outsAt1_B V c t h]; frame_out; exact key

/-- The gradient at a row of the recurrence's outputs, of all heads. -/
def ddos (o z : Fin 512 → ℝ) (G : Fin 128 → ℝ) (d g1 : Fin 1024 → ℝ) (w : Fin 1024 → Fin 1024 → ℝ) : Fin 512 → ℝ :=
  Head.join fun h => Head.dx (Head.of o h) (Head.of z h) G (Head.of (dhi d g1 w) h)
/-- … and at a row of the gates. -/
def ddzs (o z : Fin 512 → ℝ) (G : Fin 128 → ℝ) (d g1 : Fin 1024 → ℝ) (w : Fin 1024 → Fin 1024 → ℝ) : Fin 512 → ℝ :=
  Head.join fun h => Head.dz (Head.of o h) (Head.of z h) G (Head.of (dhi d g1 w) h)

omit H in
theorem ddos_col (o z : Fin 512 → ℝ) (G : Fin 128 → ℝ) (d g1 : Fin 1024 → ℝ) (w : Fin 1024 → Fin 1024 → ℝ) (h : Fin 4) (l : Fin 128) :
    ddos o z G d g1 w (Head.col h l) = Head.dx (Head.of o h) (Head.of z h) G (Head.of (dhi d g1 w) h) l := Head.join_col _ h l
omit H in
theorem ddzs_col (o z : Fin 512 → ℝ) (G : Fin 128 → ℝ) (d g1 : Fin 1024 → ℝ) (w : Fin 1024 → Fin 1024 → ℝ) (h : Fin 4) (l : Fin 128) :
    ddzs o z G d g1 w (Head.col h l) = Head.dz (Head.of o h) (Head.of z h) G (Head.of (dhi d g1 w) h) l := Head.join_col _ h l

theorem do_block (t : Fin cfg1.N) (r : Fin 512) (h : Fin 4) (l : Fin 128) :
    (outsAt1 V c t.val t.isLt).2.2.1 (ix2 r (Head.col h l)) = ((Head.dx (Head.of (O (row t r)) h) (Head.of (Z (row t r)) h) G (Head.of (dhi (D (row t r)) g1 w) h) l : ℝ) : EReal) := by
  have key := dos_apply _ _ _ _ _ _ _ _ _ (fun r => D (row t r)) (fun r => O (row t r)) (fun r => Z (row t r)) g1 G w
    (blk0 H t) (blk2 H t) (blk3 H t) (blk4 H t) (blk5 H t) (blk6 H t) (blk7 H t) (blk8 H t) (blk9 H t) r h l
  by_cases h0 : t.val % 8 = 0
  · rw [outsAt1_A V c t h0]; frame_out; exact key
  · rw [outsAt1_B V c t h0]; frame_out; exact key

theorem dz_block (t : Fin cfg1.N) (r : Fin 512) (h : Fin 4) (l : Fin 128) :
    (outsAt1 V c t.val t.isLt).2.2.2.1 (ix2 r (Head.col h l)) = ((Head.dz (Head.of (O (row t r)) h) (Head.of (Z (row t r)) h) G (Head.of (dhi (D (row t r)) g1 w) h) l : ℝ) : EReal) := by
  have key := dzs_apply _ _ _ _ _ _ _ _ _ (fun r => D (row t r)) (fun r => O (row t r)) (fun r => Z (row t r)) g1 G w
    (blk0 H t) (blk2 H t) (blk3 H t) (blk4 H t) (blk5 H t) (blk6 H t) (blk7 H t) (blk8 H t) (blk9 H t) r h l
  by_cases h0 : t.val % 8 = 0
  · rw [outsAt1_A V c t h0]; frame_out; exact key
  · rw [outsAt1_B V c t h0]; frame_out; exact key

/-- The gradient at the product. -/
theorem dmix_final (r : Fin 4096) (l : Fin 1024) : (dat1 V c).arrAt 10 cfg1.N (ix2 r l) = ((dmix (D r) g1 l : ℝ) : EReal) := by
  refine congrFun ((dat1 V c).arrAt_eq_of_covers 10
    (fun i => ((dmix (D (i 0)) g1 (i 1) : ℝ) : EReal)) (by decide +kernel) fun t hf y => ?_) (ix2 r l)
  obtain ⟨a, b, rfl⟩ : ∃ (a : Fin 512) (b : Fin 1024), y = ix2 a b := ⟨y 0, y 1, eq_ix2 (n0 := 512) (n1 := 1024) y⟩
  blk_simp
  rw [after1_10]
  have h0 : ((View.whole main_v8_0).slice (win1_10.rect t)).emb (ix2 a b) = ix2 (row t a) b := by
    blk_ext [idx1_10, row]
  rw [h0]
  exact dmix_block H t a b

/-- The gradient at the half row. -/
theorem dlo_final (r : Fin 4096) (l : Fin 512) : (dat1 V c).arrAt 11 cfg1.N (ix2 r l) = ((dlo (D r) g1 w l : ℝ) : EReal) := by
  refine congrFun ((dat1 V c).arrAt_eq_of_covers 11
    (fun i => ((dlo (D (i 0)) g1 w (i 1) : ℝ) : EReal)) (by decide +kernel) fun t hf y => ?_) (ix2 r l)
  obtain ⟨a, b, rfl⟩ : ∃ (a : Fin 512) (b : Fin 512), y = ix2 a b := ⟨y 0, y 1, eq_ix2 (n0 := 512) (n1 := 512) y⟩
  blk_simp
  rw [after1_11]
  have h0 : ((View.whole main_v8_1).slice (win1_11.rect t)).emb (ix2 a b) = ix2 (row t a) b := by
    blk_ext [idx1_11, row]
  rw [h0]
  exact dlo_block H t a b

/-- The gradient at the recurrence's outputs. -/
theorem do_final (r : Fin 4096) (l : Fin 512) : (dat1 V c).arrAt 12 cfg1.N (ix2 r l) = ((ddos (O r) (Z r) G (D r) g1 w l : ℝ) : EReal) := by
  refine congrFun ((dat1 V c).arrAt_eq_of_covers 12
    (fun i => ((ddos (O (i 0)) (Z (i 0)) G (D (i 0)) g1 w (i 1) : ℝ) : EReal)) (by decide +kernel) fun t hf y => ?_) (ix2 r l)
  obtain ⟨a, b, rfl⟩ : ∃ (a : Fin 512) (b : Fin 512), y = ix2 a b := ⟨y 0, y 1, eq_ix2 (n0 := 512) (n1 := 512) y⟩
  blk_simp
  rw [after1_12]
  have h0 : ((View.whole main_v8_2).slice (win1_12.rect t)).emb (ix2 a b) = ix2 (row t a) b := by
    blk_ext [idx1_12, row]
  rw [h0]
  obtain ⟨h, l, rfl⟩ := Head.exists_col b
  exact (do_block H t a h l).trans (congrArg _ (ddos_col _ _ _ _ _ _ h l).symm)

/-- The gradient at the gates. -/
theorem dz_final (r : Fin 4096) (l : Fin 512) : (dat1 V c).arrAt 13 cfg1.N (ix2 r l) = ((ddzs (O r) (Z r) G (D r) g1 w l : ℝ) : EReal) := by
  refine congrFun ((dat1 V c).arrAt_eq_of_covers 13
    (fun i => ((ddzs (O (i 0)) (Z (i 0)) G (D (i 0)) g1 w (i 1) : ℝ) : EReal)) (by decide +kernel) fun t hf y => ?_) (ix2 r l)
  obtain ⟨a, b, rfl⟩ : ∃ (a : Fin 512) (b : Fin 512), y = ix2 a b := ⟨y 0, y 1, eq_ix2 (n0 := 512) (n1 := 512) y⟩
  blk_simp
  rw [after1_13]
  have h0 : ((View.whole main_v8_3).slice (win1_13.rect t)).emb (ix2 a b) = ix2 (row t a) b := by
    blk_ext [idx1_13, row]
  rw [h0]
  obtain ⟨h, l, rfl⟩ := Head.exists_col b
  exact (dz_block H t a h l).trans (congrArg _ (ddzs_col _ _ _ _ _ _ h l).symm)

omit H in
theorem sum_rows (f : Fin 4096 → ℝ) : ∑ t : Fin cfg1.N, ∑ r : Fin 512, f (row t r) = ∑ r, f r :=
  Fin.sum_mul_add_congr (S := cfg1.N) (n := 512) (fun t r _ => rfl) (by rw [show cfg1.N = 8 from N_1])

omit H in
theorem zero1024_apply (l : Fin 1024) : k1_pay1 (F := Ideal) (ix2 0 l) = 0 := by pointwise [k1_pay1]
omit H in
theorem zero128_apply (l : Fin 128) : k1_pay2 (F := Ideal) (ix2 0 l) = 0 := by pointwise [k1_pay2]

/-- The gradient of the residual's gain. -/
theorem dg1_final (l : Fin 1024) : (dat1 V c).arrAt 14 cfg1.N (ix2 0 l) = ((∑ r, D r l * prod (Y r) (heads (O r) (Z r) G) w l : ℝ) : EReal) := by
  have key (t : Fin cfg1.N) (xo) (l : Fin 1024) := dg1_apply _ (fun r => D (row t r)) (blk0 H t) (iblk1 V c 1 t) (fun r l => prod (Y (row t r)) (heads (O (row t r)) (Z (row t r)) G) w l) (blk1 H t) xo l
  refine congrFun ((dat1 V c).arrAt_eq_of_after_last 14 t1_7 (by decide +kernel)
    (fun i => ((∑ r, D r (i 1) * prod (Y r) (heads (O r) (Z r) G) w (i 1) : ℝ) : EReal)) fun j => ?_) (ix2 0 l)
  blk_simp
  rw [after1_14, Pipeline.eq_sum_fin_of_reset_step_apply_last (fun n h => (outsAt1 V c n h).2.2.2.2.1) 8 (fun _ => 0)
    (fun t i => ((∑ r, D (row t r) (i 1) * prod (Y (row t r)) (heads (O (row t r)) (Z (row t r)) G) w (i 1) : ℝ) : EReal))
    (fun t h j => ?_) (fun t h j => ?_) (le_of_eq N_1) t1_7 rfl j]
  · rw [coe_sum, zero_add, sum_rows fun r => D r (j 1) * prod (Y r) (heads (O r) (Z r) G) w (j 1)]
  · obtain ⟨b, rfl⟩ : ∃ (b : Fin 1024), j = ix2 0 b := one_row j
    rw [outsAt1_A V c t h]; frame_out
    refine (key t _ b).trans ?_
    rw [zero1024_apply]; rfl
  · obtain ⟨b, rfl⟩ : ∃ (b : Fin 1024), j = ix2 0 b := one_row j
    rw [outsAt1_B V c t h]; frame_out
    exact key t _ b

/-- The gradient of the norm's gain. -/
theorem dgain_final (l : Fin 128) : (dat1 V c).arrAt 15 cfg1.N (ix2 0 l) = ((∑ r, ∑ h, Head.dg (Head.of (O r) h) (Head.of (Z r) h) (Head.of (dhi (D r) g1 w) h) l : ℝ) : EReal) := by
  have key (t : Fin cfg1.N) (xo) (l : Fin 128) := dgain_apply _ _ _ _ _ _ _ _ (fun r => D (row t r)) (fun r => O (row t r)) (fun r => Z (row t r)) g1 w (blk0 H t) (blk2 H t) (blk3 H t) (blk4 H t) (blk5 H t) (blk6 H t) (blk7 H t) (blk9 H t) xo l
  refine congrFun ((dat1 V c).arrAt_eq_of_after_last 15 t1_7 (by decide +kernel)
    (fun i => ((∑ r, ∑ h, Head.dg (Head.of (O r) h) (Head.of (Z r) h) (Head.of (dhi (D r) g1 w) h) (i 1) : ℝ) : EReal)) fun j => ?_) (ix2 0 l)
  blk_simp
  rw [after1_15, Pipeline.eq_sum_fin_of_reset_step_apply_last (fun n h => (outsAt1 V c n h).2.2.2.2.2) 8 (fun _ => 0)
    (fun t i => ((∑ r, ∑ h, Head.dg (Head.of (O (row t r)) h) (Head.of (Z (row t r)) h) (Head.of (dhi (D (row t r)) g1 w) h) (i 1) : ℝ) : EReal))
    (fun t h j => ?_) (fun t h j => ?_) (le_of_eq N_1) t1_7 rfl j]
  · rw [coe_sum, zero_add, sum_rows fun r => ∑ h, Head.dg (Head.of (O r) h) (Head.of (Z r) h) (Head.of (dhi (D r) g1 w) h) (j 1)]
  · obtain ⟨b, rfl⟩ : ∃ (b : Fin 128), j = ix2 0 b := one_row j
    rw [outsAt1_A V c t h]; frame_out
    refine (key t _ b).trans ?_
    rw [zero128_apply]; rfl
  · obtain ⟨b, rfl⟩ : ∃ (b : Fin 128), j = ix2 0 b := one_row j
    rw [outsAt1_B V c t h]; frame_out
    exact key t _ b

end Cert.Proof.Outproj

end
-- ==== Proof.OutprojRef.lean ====
/- Hand-written, untrusted: the reference of the gated norm of the heads and the output projection, at real arrays. -/
module

public import proofs.«01_k».proof.Proof.Index
public import proofs.«01_k».proof.Proof.OutprojFwd
public import proofs.«01_k».proof.Proof.Gen.OutprojRefIdeal.Read

@[expose] public section

set_option maxRecDepth 16384

noncomputable section

namespace Cert.Proof.Outproj

namespace Ref
open Idealize.ShloMosaic Idealize.ShloMosaic.TcCoe Idealize.SL.Sem Idealize.ShloMosaic.Pointwise
open Cert.OutprojRefIdeal Cert.OutprojRefIdeal.Gen Cert.OutprojRefIdeal.Read

variable (x1 : (⟨S4096x512, .f32⟩ : BufTy).Contents (Elt Ideal)) (x2 : (⟨S4096x3336, .f32⟩ : BufTy).Contents (Elt Ideal))
  (x3 : (⟨S4096x512, .f32⟩ : BufTy).Contents (Elt Ideal)) (x4 : (⟨S1024, .f32⟩ : BufTy).Contents (Elt Ideal))
  (x5 : (⟨S128, .f32⟩ : BufTy).Contents (Elt Ideal)) (x6 : (⟨S1024x1024, .f32⟩ : BufTy).Contents (Elt Ideal))
  (x7 : (⟨S4096x1024, .f32⟩ : BufTy).Contents (Elt Ideal))
  (O Y : Fin 4096 → Fin 512 → ℝ) (P : Fin 4096 → Fin 3336 → ℝ) (g1 : Fin 1024 → ℝ) (G : Fin 128 → ℝ) (w : Fin 1024 → Fin 1024 → ℝ)
  (D : Fin 4096 → Fin 1024 → ℝ)
  (h1 : ∀ r l, x1 (ix2 r l) = ((O r l : ℝ) : EReal)) (h2 : ∀ r l, x2 (ix2 r l) = ((P r l : ℝ) : EReal))
  (h3 : ∀ r l, x3 (ix2 r l) = ((Y r l : ℝ) : EReal)) (h4 : ∀ l, x4 (ix1 l) = ((g1 l : ℝ) : EReal))
  (h5 : ∀ l, x5 (ix1 l) = ((G l : ℝ) : EReal)) (h6 : ∀ k l, x6 (ix2 k l) = ((w k l : ℝ) : EReal))
  (h7 : ∀ r l, x7 (ix2 r l) = ((D r l : ℝ) : EReal))

/-- Column `l` of head `h`, counted from the head's first. -/
theorem col_eq (h : Fin 4) (l : Fin 128) (p : h.val * 128 + l.val < 512) : (⟨h.val * 128 + l.val, p⟩ : Fin 512) = Head.col h l :=
  Fin.ext (by show h.val * 128 + l.val = 128 * h.val + l.val; omega)

section
include h1

theorem o_apply (r : Fin 4096) (h : Fin 4) (l : Fin 128) : val_main_v1 x1 (ix3 r h l) = ((Head.of (O r) h l : ℝ) : EReal) := by
  pointwise [val_main_v1]
  rw [h1, col_eq]; rfl

theorem ms_apply (r : Fin 4096) (h : Fin 4) : val_main_v9 x1 (ix3 r h 0) = ((Head.ms (Head.of (O r) h) : ℝ) : EReal) := by
  pointwise [val_main_v9, val_main_v8, val_main_v7, val_main_v6, val_main_v5, val_main_v4, val_main_v3, val_main_cst, val_main_cst_0, val_main_cst_1]
  simp only [o_apply x1 O h1, ← EReal.coe_mul, coe_sum, lit_128, lit_eps, div_real (by norm_num : (128 : ℝ) ≠ 0), ← EReal.coe_add]
  rfl

theorem ri_apply (r : Fin 4096) (h : Fin 4) : val_main_v10 x1 (ix3 r h 0) = ((Head.ri (Head.of (O r) h) : ℝ) : EReal) := by
  pointwise [val_main_v10]
  rw [ms_apply x1 O h1, rsqrt_real (Head.ms_pos _)]; rfl

theorem dri_apply (r : Fin 4096) (h : Fin 4) : val_main_v13 x1 (ix3 r h 0)
    = ((-1 / 2 * (Head.ri (Head.of (O r) h) / Head.ms (Head.of (O r) h)) : ℝ) : EReal) := by
  pointwise [val_main_v13, val_main_v12, val_main_v11, val_main_cst_2]
  rw [ms_apply x1 O h1, ri_apply x1 O h1, div_real (Head.ms_pos _).ne', lit_neghalf, ← EReal.coe_mul]

theorem n_apply (r : Fin 4096) (h : Fin 4) (l : Fin 128) : val_main_v15 x1 (ix3 r h l)
    = ((Head.of (O r) h l * Head.ri (Head.of (O r) h) : ℝ) : EReal) := by
  pointwise [val_main_v15, val_main_v14]
  rw [o_apply x1 O h1, ri_apply x1 O h1, ← EReal.coe_mul]

include h5

theorem on_apply (r : Fin 4096) (h : Fin 4) (l : Fin 128) : val_main_v18 x1 x5 (ix3 r h l) = ((Head.on (Head.of (O r) h) G l : ℝ) : EReal) := by
  pointwise [val_main_v18, val_main_v17, val_main_v16]
  rw [n_apply x1 O h1, h5, ← EReal.coe_mul]; rfl

end

section
include h2

theorem z_apply (r : Fin 4096) (h : Fin 4) (l : Fin 128) : val_main_v2 x2 (ix3 r h l) = ((Head.of (gates (P r)) h l : ℝ) : EReal) := by
  pointwise [val_main_v2, val_main_v0]
  rw [h2]
  exact congrArg _ (congrArg (P r) (Fin.ext (by simp [Head.col]; omega)))

theorem sg_apply (r : Fin 4096) (h : Fin 4) (l : Fin 128) : val_main_v19_2 x2 (ix3 r h l) = ((sigm (Head.of (gates (P r)) h l) : ℝ) : EReal) := by
  pointwise [val_main_v19_2, val_main_call0_v4, val_main_call0_cst_0, val_main_call0_v3, val_main_call0_v2, val_main_call0_cst,
    val_main_call0_v1, val_main_call0_v0]
  rw [z_apply x2 P h2, sigm_real]

theorem silu_apply (r : Fin 4096) (h : Fin 4) (l : Fin 128) : val_main_v19_0 x2 (ix3 r h l)
    = ((Head.of (gates (P r)) h l * sigm (Head.of (gates (P r)) h l) : ℝ) : EReal) := by
  pointwise [val_main_v19_0]
  rw [z_apply x2 P h2, sg_apply x2 P h2, ← EReal.coe_mul]

theorem dsg_apply (r : Fin 4096) (h : Fin 4) (l : Fin 128) : val_main_v19_1 x2 (ix3 r h l)
    = ((sigm (Head.of (gates (P r)) h l) * (1 - sigm (Head.of (gates (P r)) h l)) : ℝ) : EReal) := by
  pointwise [val_main_v19_1, val_main_call0_v7, val_main_call0_v6, val_main_call0_cst_1]
  rw [sg_apply x2 P h2, ← EReal.coe_one, ← EReal.coe_sub, ← EReal.coe_mul]

end

section
include h4 h7

theorem dmix_apply (r : Fin 4096) (l : Fin 1024) : val_main_v29 x4 x7 (ix2 r l) = ((dmix (D r) g1 l : ℝ) : EReal) := by
  pointwise [val_main_v29, val_main_v28, val_main_v24]
  rw [h4, h7, ← EReal.coe_mul, mul_comm]; rfl

include h6

theorem dycat_apply (r : Fin 4096) (k : Fin 1024) : val_main_v34 x4 x6 x7 (ix2 r k) = ((dycat (D r) g1 w k : ℝ) : EReal) := by
  pointwise [val_main_v34]
  simp only [dmix_apply x4 x7 g1 D h4 h7, h6, ← EReal.coe_mul, coe_sum]
  rfl

theorem dlo_apply (r : Fin 4096) (k : Fin 512) : val_main_v35 x4 x6 x7 (ix2 r k) = ((dlo (D r) g1 w k : ℝ) : EReal) := by
  pointwise [val_main_v35]
  exact dycat_apply x4 x6 x7 g1 w D h4 h6 h7 _ _

theorem dhi_apply (r : Fin 4096) (h : Fin 4) (l : Fin 128) : val_main_v37 x4 x6 x7 (ix3 r h l)
    = ((Head.of (dhi (D r) g1 w) h l : ℝ) : EReal) := by
  pointwise [val_main_v37, val_main_v36]
  rw [dycat_apply x4 x6 x7 g1 w D h4 h6 h7]
  exact congrArg _ (congrArg _ (Fin.ext (by simp [Head.col]; omega)))

include h2

theorem e_apply (r : Fin 4096) (h : Fin 4) (l : Fin 128) : val_main_v39 x2 x4 x6 x7 (ix3 r h l)
    = ((Head.e (Head.of (gates (P r)) h) (Head.of (dhi (D r) g1 w) h) l : ℝ) : EReal) := by
  pointwise [val_main_v39]
  rw [dhi_apply x4 x6 x7 g1 w D h4 h6 h7, silu_apply x2 P h2, ← EReal.coe_mul]; rfl

include h1

theorem dg_apply (r : Fin 4096) (h : Fin 4) (l : Fin 128) : val_main_v41 x1 x2 x4 x6 x7 (ix3 r h l)
    = ((Head.dg (Head.of (O r) h) (Head.of (gates (P r)) h) (Head.of (dhi (D r) g1 w) h) l : ℝ) : EReal) := by
  pointwise [val_main_v41]
  rw [n_apply x1 O h1, e_apply x2 x4 x6 x7 P g1 w D h2 h4 h6 h7, ← EReal.coe_mul]; rfl

/-- The gradient of the norm's gain. -/
theorem dgain_apply (l : Fin 128) : val_main_v65 x1 x2 x4 x6 x7 (ix2 0 l)
    = ((∑ r, ∑ h, Head.dg (Head.of (O r) h) (Head.of (gates (P r)) h) (Head.of (dhi (D r) g1 w) h) l : ℝ) : EReal) := by
  have h42 (l : Fin 128) : val_main_v42 x1 x2 x4 x6 x7 (ix1 l)
      = ((∑ r, ∑ h, Head.dg (Head.of (O r) h) (Head.of (gates (P r)) h) (Head.of (dhi (D r) g1 w) h) l : ℝ) : EReal) := by
    refine (hostReduceAdd_two _ (val_main_v41 x1 x2 x4 x6 x7) _ l).trans ?_
    simp only [dg_apply x1 x2 x4 x6 x7 O P g1 w D h1 h2 h4 h6 h7, coe_sum]
    pointwise [val_main_cst_5]
  have h46 : val_main_v46 x1 x2 x4 x6 x7 (ix1 l) = val_main_v42 x1 x2 x4 x6 x7 (ix1 l) := by
    refine (hostReduceAdd_two _ (val_main_v43 x1 x2 x4 x6 x7) _ l).trans ?_
    simp only [Finset.univ_unique, Finset.sum_singleton, Fin.default_eq_zero]
    pointwise [val_main_v43, val_main_cst_6]
  pointwise [val_main_v65]
  rw [h46, h42]

include h5

/-- The gradient at the gates. -/
theorem dz_apply (r : Fin 4096) (h : Fin 4) (l : Fin 128) : val_main_v61 x1 x2 x4 x5 x6 x7 (ix2 r (Head.col h l))
    = ((Head.dz (Head.of (O r) h) (Head.of (gates (P r)) h) G (Head.of (dhi (D r) g1 w) h) l : ℝ) : EReal) := by
  have key : val_main_v40 x1 x2 x4 x5 x6 x7 (ix3 r h l)
      = ((Head.dz (Head.of (O r) h) (Head.of (gates (P r)) h) G (Head.of (dhi (D r) g1 w) h) l : ℝ) : EReal) := by
    pointwise [val_main_v40, val_main_call1_v0, val_main_call1_v1, val_main_call1_v2, val_main_v38]
    rw [on_apply x1 x5 O G h1 h5, dhi_apply x4 x6 x7 g1 w D h4 h6 h7, sg_apply x2 P h2, z_apply x2 P h2, dsg_apply x2 P h2]
    simp only [← EReal.coe_mul, ← EReal.coe_add]; rfl
  refine Eq.trans ?_ key
  have hl := l.isLt
  pointwise [val_main_v61, Head.col]

/-- The gradient at the recurrence's outputs. -/
theorem do_apply (r : Fin 4096) (h : Fin 4) (l : Fin 128) : val_main_v62 x1 x2 x4 x5 x6 x7 (ix2 r (Head.col h l))
    = ((Head.dx (Head.of (O r) h) (Head.of (gates (P r)) h) G (Head.of (dhi (D r) g1 w) h) l : ℝ) : EReal) := by
  have k45 (l : Fin 128) : val_main_v45 x2 x4 x5 x6 x7 (ix3 r h l)
      = ((Head.e (Head.of (gates (P r)) h) (Head.of (dhi (D r) g1 w) h) l * G l : ℝ) : EReal) := by
    pointwise [val_main_v45, val_main_v44, val_main_v16]
    rw [e_apply x2 x4 x6 x7 P g1 w D h2 h4 h6 h7, h5, ← EReal.coe_mul]
  have kc : val_main_v55 x1 x2 x4 x5 x6 x7 (ix2 r h)
      = ((Head.c (Head.of (O r) h) (Head.of (gates (P r)) h) G (Head.of (dhi (D r) g1 w) h) : ℝ) : EReal) := by
    pointwise [val_main_v55, val_main_cst_9, val_main_v54, val_main_v53, val_main_cst_8, val_main_v52, val_main_v49, val_main_v48,
      val_main_cst_7, val_main_v47]
    simp only [Finset.univ_unique, Finset.sum_singleton, Fin.default_eq_zero]
    simp only [k45, o_apply x1 O h1, dri_apply x1 O h1, lit_128, ← EReal.coe_mul, coe_sum, div_real (by norm_num : (128 : ℝ) ≠ 0)]
    rfl
  have key : val_main_v60 x1 x2 x4 x5 x6 x7 (ix3 r h l)
      = ((Head.dx (Head.of (O r) h) (Head.of (gates (P r)) h) G (Head.of (dhi (D r) g1 w) h) l : ℝ) : EReal) := by
    pointwise [val_main_v60, val_main_v59, val_main_v58, val_main_v57, val_main_v56, val_main_v51, val_main_v50]
    rw [k45, kc, o_apply x1 O h1, ri_apply x1 O h1]
    simp only [← EReal.coe_mul, ← EReal.coe_add]; rfl
  refine Eq.trans ?_ key
  have hl := l.isLt
  pointwise [val_main_v62, Head.col]

end

section
include h1 h2 h3 h5

theorem ycat_apply (r : Fin 4096) (k : Fin 1024) : val_main_v22 x1 x2 x3 x5 (ix2 r k)
    = ((ycat (Y r) (heads (O r) (gates (P r)) G) k : ℝ) : EReal) := by
  have key (h : Fin 4) (l : Fin 128) : val_main_v20 x1 x2 x5 (ix3 r h l) = ((heads (O r) (gates (P r)) G h l : ℝ) : EReal) := by
    pointwise [val_main_v20]
    rw [on_apply x1 x5 O G h1 h5, silu_apply x2 P h2, ← EReal.coe_mul]; rfl
  unfold ycat
  pointwise [val_main_v22, val_main_v21]
  split_ifs with h
  · exact h3 _ _
  · exact key _ _
  · exact key _ _

include h6

theorem prod_apply (r : Fin 4096) (l : Fin 1024) : val_main_v23 x1 x2 x3 x5 x6 (ix2 r l)
    = ((prod (Y r) (heads (O r) (gates (P r)) G) w l : ℝ) : EReal) := by
  pointwise [val_main_v23]
  simp only [ycat_apply x1 x2 x3 x5 O Y P G h1 h2 h3 h5, h6, ← EReal.coe_mul, coe_sum]
  rfl

include h7

/-- The gradient of the residual's gain. -/
theorem dg1_apply (l : Fin 1024) : val_main_v64 x1 x2 x3 x5 x6 x7 (ix2 0 l)
    = ((∑ r, D r l * prod (Y r) (heads (O r) (gates (P r)) G) w l : ℝ) : EReal) := by
  pointwise [val_main_v64, val_main_v33, val_main_v32, val_main_v31, val_main_v30, val_main_cst_3, val_main_cst_4]
  simp only [Finset.univ_unique, Finset.sum_singleton, Fin.default_eq_zero]
  simp only [prod_apply x1 x2 x3 x5 x6 O Y P G w h1 h2 h3 h5 h6, h7, ← EReal.coe_mul, coe_sum]

end

end Ref

end Cert.Proof.Outproj

end
-- ==== Proof.OutprojClaim.lean ====
/- Hand-written, untrusted: the claims about the gradient of the gated norm of the heads and the output projection. -/
module

public import proofs.«01_k».proof.Proof.Outproj
public import proofs.«01_k».proof.Proof.OutprojRef
public import proofs.«01_k».proof.Defs
public import proofs.«01_k».proof.Proof.Gen.OutprojRefIdeal.Run
public import proofs.«01_k».proof.Proof.Gen.Pre_outproj_finite
public import Idealize.ShloMosaic.Lib.Claim
public import Idealize.ShloMosaic.Lib.ReduceAll

@[expose] public section

set_option maxRecDepth 16384

noncomputable section

namespace Cert.Proof.Outproj

open Idealize.ShloMosaic Idealize.ShloMosaic.TcCoe Idealize.SL.Sem Idealize.ShloMosaic.Pointwise
open Cert.OutprojBwdIdeal Cert.OutprojBwdIdeal.Gen

/-- What the precondition says of one device's arrays. -/
theorem finite (x : FVec Ideal Cert.Pre_outproj_finite.S4096x1024 .f32) (o : FVec Ideal Cert.Pre_outproj_finite.S4096x512 .f32)
    (p : FVec Ideal Cert.Pre_outproj_finite.S4096x3336 .f32) (y : FVec Ideal Cert.Pre_outproj_finite.S4096x512 .f32)
    (g1 : FVec Ideal Cert.Pre_outproj_finite.S1024 .f32) (g : FVec Ideal Cert.Pre_outproj_finite.S128 .f32)
    (w : FVec Ideal Cert.Pre_outproj_finite.S1024x1024 .f32) (d : FVec Ideal Cert.Pre_outproj_finite.S4096x1024 .f32)
    (h : Cert.Pre_outproj_finite.fn (F := Ideal) x o p y g1 g w d = fun _ => 1#1) :
    (∀ r l, o (ix2 r l) = ((o (ix2 r l)).toReal : EReal)) ∧ (∀ r l, p (ix2 r l) = ((p (ix2 r l)).toReal : EReal))
      ∧ (∀ r l, y (ix2 r l) = ((y (ix2 r l)).toReal : EReal)) ∧ (∀ l, g1 (ix1 l) = ((g1 (ix1 l)).toReal : EReal))
      ∧ (∀ l, g (ix1 l) = ((g (ix1 l)).toReal : EReal)) ∧ (∀ r l, w (ix2 r l) = ((w (ix2 r l)).toReal : EReal))
      ∧ ∀ r l, d (ix2 r l) = ((d (ix2 r l)).toReal : EReal) := by
  have key := congrFun h ix0
  simp only [Cert.Pre_outproj_finite.fn, Cert.Pre_outproj_finite.fn_part1, andi_apply, IntOp.andi_eq_one] at key
  obtain ⟨⟨⟨⟨⟨⟨k1, k2⟩, k3⟩, k4⟩, k5⟩, k6⟩, k7⟩ := key
  exact ⟨fun r l => real_of_all _ _ _ _ _ _ k1 _, fun r l => real_of_all _ _ _ _ _ _ k2 _, fun r l => real_of_all _ _ _ _ _ _ k3 _,
    fun l => real_of_all _ _ _ _ _ _ k4 _, fun l => real_of_all _ _ _ _ _ _ k5 _, fun r l => real_of_all _ _ _ _ _ _ k6 _,
    fun r l => real_of_all _ _ _ _ _ _ k7 _⟩

section Arrays

variable (m : (ℓ : Loc nD τ sig) → Buf (Elt Ideal) ℓ) (ρ : Dev nD → PrngReg) (c : Dev nD)

theorem v0_eq : W2 m ρ c (Proc.devRef .tc main_v0) = fun i => pad S4096x3456 ![0, 0] ![0, 120] ![0, 0]
    (m ((c : Thread nD τ).loc main_arg2) : S4096x3336.Idx → EReal) (sitofp (F := Ideal) .f32 (constantI S_ 32 0#32))
    pads_S4096x3336_S4096x3456_000_01200 h_S_ i := by
  after_results_simp <;> rfl

theorem v1_eq : W3 m ρ c (Proc.devRef .tc main_v1) = fun i : S1024x1024.Idx => m ((c : Thread nD τ).loc main_arg6) i := by
  after_results_simp <;> rfl

theorem v2_eq : W3 m ρ c (Proc.devRef .tc main_v2) = fun i : S4096x512.Idx => m ((c : Thread nD τ).loc main_arg3) i := by
  after_results_simp <;> rfl

theorem v4_eq : W3 m ρ c (Proc.devRef .tc main_v4) = (shapeCast S1x128 (m ((c : Thread nD τ).loc main_arg5) : S128.Idx → EReal) shapeCasts_S128_S1x128 : S1x128.Idx → EReal) := by
  after_results_simp <;> rfl

theorem v6_eq : W5 m ρ c (Proc.devRef .tc main_v6) = (shapeCast S1x1024 (W4 m ρ c (Proc.devRef .tc main_arg4) : S1024.Idx → EReal) shapeCasts_S1024_S1x1024 : S1x1024.Idx → EReal) := by
  after_results_simp <;> rfl

theorem v7_eq : W5 m ρ c (Proc.devRef .tc main_v7) = (shapeCast S1x128 (W4 m ρ c (Proc.devRef .tc main_arg5) : S128.Idx → EReal) shapeCasts_S128_S1x128 : S1x128.Idx → EReal) := by
  after_results_simp <;> rfl

variable (O Y : Fin 4096 → Fin 512 → ℝ) (P : Fin 4096 → Fin 3336 → ℝ) (g1 : Fin 1024 → ℝ) (G : Fin 128 → ℝ) (w : Fin 1024 → Fin 1024 → ℝ)
  (D : Fin 4096 → Fin 1024 → ℝ)
  (h1 : ∀ r l, m ((c : Thread nD τ).loc main_arg1) (ix2 r l) = ((O r l : ℝ) : EReal))
  (h2 : ∀ r l, m ((c : Thread nD τ).loc main_arg2) (ix2 r l) = ((P r l : ℝ) : EReal))
  (h3 : ∀ r l, m ((c : Thread nD τ).loc main_arg3) (ix2 r l) = ((Y r l : ℝ) : EReal))
  (h4 : ∀ l, m ((c : Thread nD τ).loc main_arg4) (ix1 l) = ((g1 l : ℝ) : EReal))
  (h5 : ∀ l, m ((c : Thread nD τ).loc main_arg5) (ix1 l) = ((G l : ℝ) : EReal))
  (h6 : ∀ k l, m ((c : Thread nD τ).loc main_arg6) (ix2 k l) = ((w k l : ℝ) : EReal))
  (h7 : ∀ r l, m ((c : Thread nD τ).loc main_arg7) (ix2 r l) = ((D r l : ℝ) : EReal))

include h1 h2 h3 h5 h6

/-- The forward call's operands, of the arguments. -/
theorem holds0 : Holds0 (V3 m ρ) c O (fun r => gates (P r)) Y G w := by
  refine ⟨fun r l => ?_, fun r k => ?_, fun r l => ?_, fun l => ?_, fun k l => ?_⟩
  · rw [← h1]; exact congrFun (W3_args m ρ c main_arg1 (by decide)) _
  · refine (congrFun (W3_of m ρ c main_v0 (by decide)) _).trans ?_
    rw [v0_eq]
    pointwise
    rw [dif_pos (by intro a; fin_cases a <;> simp <;> omega)]
    exact h2 _ _
  · show W3 m ρ c (Proc.devRef .tc main_v2) (ix2 r l) = _
    rw [v2_eq]; exact h3 r l
  · show W3 m ρ c (Proc.devRef .tc main_v4) (ix2 0 l) = _
    rw [v4_eq, ← h5]
    pointwise
  · show W3 m ρ c (Proc.devRef .tc main_v1) (ix2 k l) = _
    rw [v1_eq]; exact h6 k l

include h4 h7

/-- The backward call's operands, of the arguments. -/
theorem holds : Holds (V5 m ρ) c O (fun r => gates (P r)) Y g1 G w D := by
  have H := holds0 m ρ c O Y P G w h1 h2 h3 h5 h6
  refine ⟨fun r l => ?_, fun r l => ?_, fun r l => ?_, fun r k => ?_, fun l => ?_, fun l => ?_, fun k l => ?_⟩
  · rw [← h7]; exact congrFun (W5_args m ρ c main_arg7 (by decide)) _
  · rw [← prod_final H]
    exact congrFun ((W5_of m ρ c main_v5_1 (by decide)).trans (W4_arr m ρ c 11)) _
  · rw [← h1]; exact congrFun (W5_args m ρ c main_arg1 (by decide)) _
  · rw [← H.z]; exact congrFun ((W5_of m ρ c main_v0 (by decide)).trans (W4_of m ρ c main_v0 (by decide))) _
  · show W5 m ρ c (Proc.devRef .tc main_v6) (ix2 0 l) = _
    rw [v6_eq, ← h4]
    pointwise
    exact congrFun (W4_args m ρ c main_arg4 (by decide)) _
  · show W5 m ρ c (Proc.devRef .tc main_v7) (ix2 0 l) = _
    rw [v7_eq, ← h5]
    pointwise
    exact congrFun (W4_args m ρ c main_arg5 (by decide)) _
  · rw [← H.w]; exact congrFun ((W5_of m ρ c main_v1 (by decide)).trans (W4_of m ρ c main_v1 (by decide))) _

end Arrays

/-- The reference runs, keeps its arguments and leaves every counter at zero. -/
theorem frame_ref : Cert.quiescent_OutprojRefIdeal :=
  fun m ρ _ => (θ_run _ _ _).mono (fun r h => ⟨fun c => (h c).2.2.2.2.2.2, sem_eq_zero_of_no_sems rfl _⟩) (Cert.OutprojRefIdeal.Value.run (F := Ideal) m ρ)

/-- The two programs return the same arrays. -/
theorem value : Cert.algebraic_OutprojBwdIdeal_OutprojRefIdeal_pre_outproj_finite := by
  intro m ρ m' ρ' hpre hag
  refine ⟨_, _, _, _, _, _, (θ_run _ _ _).mono (fun r h c => ⟨h c _ (mem_uc main_v8_0 (by decide)),
      h c _ (mem_uc main_v8_1 (by decide)),
      h c _ (mem_uc main_v8_2 (by decide)),
      h c _ (mem_uc main_v8_3 (by decide)),
      h c _ (mem_uc main_v8_4 (by decide)),
      h c _ (mem_uc main_v8_5 (by decide)),
      (h c _ (mem_uc main_arg0 (by decide))).trans (W6_args m ρ c main_arg0 (by decide)),
      (h c _ (mem_uc main_arg1 (by decide))).trans (W6_args m ρ c main_arg1 (by decide)),
      (h c _ (mem_uc main_arg2 (by decide))).trans (W6_args m ρ c main_arg2 (by decide)),
      (h c _ (mem_uc main_arg3 (by decide))).trans (W6_args m ρ c main_arg3 (by decide)),
      (h c _ (mem_uc main_arg4 (by decide))).trans (W6_args m ρ c main_arg4 (by decide)),
      (h c _ (mem_uc main_arg5 (by decide))).trans (W6_args m ρ c main_arg5 (by decide)),
      (h c _ (mem_uc main_arg6 (by decide))).trans (W6_args m ρ c main_arg6 (by decide)),
      (h c _ (mem_uc main_arg7 (by decide))).trans (W6_args m ρ c main_arg7 (by decide))⟩) (run_arrays m ρ),
    (θ_run _ _ _).mono (fun r h c => ?_) (Cert.OutprojRefIdeal.Value.run (F := Ideal) m' ρ')⟩
  obtain ⟨e0, e1, e2, e3, e4, e5, e6, e7⟩ := hag c
  obtain ⟨h1, h2, h3, h4, h5, h6, h7⟩ := finite _ _ _ _ _ _ _ _ (hpre c)
  obtain ⟨r0, r1, r2, r3, r4, r5, k⟩ := h c
  have H := holds m ρ c _ _ _ _ _ _ _ h1 h2 h3 h4 h5 h6 h7
  rw [← e1] at h1; rw [← e2] at h2; rw [← e3] at h3; rw [← e4] at h4; rw [← e5] at h5; rw [← e6] at h6; rw [← e7] at h7
  refine ⟨r0.trans ?_, r1.trans ?_, r2.trans ?_, r3.trans ?_, r4.trans ?_, r5.trans ?_, k⟩
  · rw [Cert.OutprojRefIdeal.Read.val_main_v63_eq]
    funext i
    obtain ⟨a, b, rfl⟩ : ∃ (a : Fin 4096) (b : Fin 1024), i = ix2 a b := ⟨i 0, i 1, eq_ix2 (n0 := 4096) (n1 := 1024) i⟩
    refine Eq.trans ?_ ((dmix_final H a b).symm.trans (congrFun (W6_arr m ρ c 10).symm _))
    rw [Cert.OutprojRefIdeal.Read.val_main_v63_apply]
    exact (Ref.dmix_apply _ _ _ _ h4 h7 a b).trans (by simp only [e4, e7])
  · rw [Cert.OutprojRefIdeal.Read.val_main_v35_eq]
    funext i
    obtain ⟨a, b, rfl⟩ : ∃ (a : Fin 4096) (b : Fin 512), i = ix2 a b := ⟨i 0, i 1, eq_ix2 (n0 := 4096) (n1 := 512) i⟩
    refine Eq.trans ?_ ((dlo_final H a b).symm.trans (congrFun (W6_arr m ρ c 11).symm _))
    rw [Ref.dlo_apply _ _ _ _ _ _ h4 h6 h7]
    simp only [e4, e6, e7]
  · rw [Cert.OutprojRefIdeal.Read.val_main_v62_eq]
    funext i
    obtain ⟨a, b, rfl⟩ : ∃ (a : Fin 4096) (b : Fin 512), i = ix2 a b := ⟨i 0, i 1, eq_ix2 (n0 := 4096) (n1 := 512) i⟩
    refine Eq.trans ?_ ((do_final H a b).symm.trans (congrFun (W6_arr m ρ c 12).symm _))
    obtain ⟨h, l, rfl⟩ := Head.exists_col b
    rw [Ref.do_apply _ _ _ _ _ _ _ _ _ _ _ _ h1 h2 h4 h5 h6 h7, ddos_col]
    simp only [e1, e2, e4, e5, e6, e7]
  · rw [Cert.OutprojRefIdeal.Read.val_main_v61_eq]
    funext i
    obtain ⟨a, b, rfl⟩ : ∃ (a : Fin 4096) (b : Fin 512), i = ix2 a b := ⟨i 0, i 1, eq_ix2 (n0 := 4096) (n1 := 512) i⟩
    refine Eq.trans ?_ ((dz_final H a b).symm.trans (congrFun (W6_arr m ρ c 13).symm _))
    obtain ⟨h, l, rfl⟩ := Head.exists_col b
    rw [Ref.dz_apply _ _ _ _ _ _ _ _ _ _ _ _ h1 h2 h4 h5 h6 h7, ddzs_col]
    simp only [e1, e2, e4, e5, e6, e7]
  · rw [Cert.OutprojRefIdeal.Read.val_main_v64_eq]
    funext i
    obtain ⟨b, rfl⟩ := one_row (n := 1024) i
    refine Eq.trans ?_ ((dg1_final H b).symm.trans (congrFun (W6_arr m ρ c 14).symm _))
    rw [Ref.dg1_apply _ _ _ _ _ _ _ _ _ _ _ _ h1 h2 h3 h5 h6 h7]
    simp only [e1, e2, e3, e5, e6, e7]
  · rw [Cert.OutprojRefIdeal.Read.val_main_v65_eq]
    funext i
    obtain ⟨b, rfl⟩ := one_row (n := 128) i
    refine Eq.trans ?_ ((dgain_final H b).symm.trans (congrFun (W6_arr m ρ c 15).symm _))
    rw [Ref.dgain_apply _ _ _ _ _ _ _ _ _ _ h1 h2 h4 h6 h7]
    simp only [e1, e2, e4, e6, e7]

end Cert.Proof.Outproj

end
-- ==== Proof.Gate.lean ====
/- Hand-written, untrusted: the gates around the recurrence and their derivatives, a row over the reals. -/
module

public import proofs.«01_k».proof.Proof.Head

@[expose] public section

noncomputable section

namespace Cert.Proof

open Idealize.ShloMosaic

/-- The layernorm's `1e-5`. -/
def leps : ℝ := 10995116 * (2 : ℝ) ^ (-40 : ℤ)

theorem lit_leps : Ideal.ofBits .f32 0x3727C5AC#32 = ((leps : ℝ) : EReal) := by
  simp [Ideal.ofBits, Ideal.ieee, leps, -EReal.coe_mul]; try norm_num
theorem lit_256 : Ideal.ofBits .f32 0x43800000#32 = ((256 : ℝ) : EReal) := by
  simp [Ideal.ofBits, Ideal.ieee, -EReal.coe_mul]; try norm_num

namespace Gate

/-- The derivative of `x * sigm x`, times `d`. -/
def silud (x d : ℝ) : ℝ := d * sigm x + x * d * (sigm x * (1 - sigm x))

/-! ### A head's projection: gated by itself, divided by its length -/

section
variable (x d : Fin 128 → ℝ)

/-- The gated row. -/
def s (l : Fin 128) : ℝ := x l * sigm (x l)
/-- The sum of its squares, plus `eps`. -/
def sq : ℝ := (∑ l, s x l * s x l) + eps
theorem sq_pos : 0 < sq x := add_pos_of_nonneg_of_pos (Finset.sum_nonneg fun _ _ => mul_self_nonneg _) eps_pos
/-- One over its length. -/
def rl : ℝ := (Real.sqrt (sq x))⁻¹
/-- What the length passes on to each entry. -/
def cl : ℝ := (∑ l, s x l * d l) * (-1 / 2 * (rl x / sq x))
/-- The gradient at the gated row. -/
def ds (l : Fin 128) : ℝ := d l * rl x + s x l * cl x d + cl x d * s x l
/-- The gradient at the row. -/
def dhead (l : Fin 128) : ℝ := silud (x l) (ds x d l)

end

/-! ### The layernorm and its gate -/

section
variable (u lg lb d : Fin 256 → ℝ)

/-- The row less its mean. -/
def uc (l : Fin 256) : ℝ := u l - (∑ k, u k) / 256
/-- Its mean square, plus the layernorm's `1e-5`. -/
def vr : ℝ := (∑ l, uc u l * uc u l) / 256 + leps
theorem vr_pos : 0 < vr u :=
  add_pos_of_nonneg_of_pos (div_nonneg (Finset.sum_nonneg fun _ _ => mul_self_nonneg _) (by norm_num)) (by unfold leps; positivity)
/-- One over the root. -/
def rv : ℝ := (Real.sqrt (vr u))⁻¹
/-- The normalised row. -/
def nrm (l : Fin 256) : ℝ := uc u l * rv u
/-- … with gain and shift. -/
def z (l : Fin 256) : ℝ := nrm u l * lg l + lb l
/-- The gradient past the gate. -/
def e (l : Fin 256) : ℝ := silud (z u lg lb l) (d l)
/-- … and past the gain. -/
def eg (l : Fin 256) : ℝ := e u lg lb d l * lg l
/-- What the root passes on to each entry. -/
def cv : ℝ := (∑ l, uc u l * eg u lg lb d l) * (-1 / 2 * (rv u / vr u)) / 256
/-- The gradient at the row less its mean. -/
def duc (l : Fin 256) : ℝ := eg u lg lb d l * rv u + uc u l * cv u lg lb d + cv u lg lb d * uc u l
/-- The gradient at the row. -/
def du (l : Fin 256) : ℝ := duc u lg lb d l + (∑ k, -duc u lg lb d k) / 256

/-- The same with the square differentiated as twice the entry and the mean's part in two sums. -/
theorem du_eq (l : Fin 256) :
    eg u lg lb d l * rv u + cv u lg lb d * (2 * uc u l)
      + ((∑ k, -(eg u lg lb d k * rv u)) + ∑ k, -(cv u lg lb d * (2 * uc u k))) / 256 = du u lg lb d l := by
  unfold du
  rw [← Finset.sum_add_distrib]
  refine congrArg₂ (· + ·) (by unfold duc; ring) (congrArg (· / 256) (Finset.sum_congr rfl fun k _ => ?_))
  unfold duc; ring

end

/-! ### Softplus -/

/-- `log (1 + exp x)`, as the programs write it. -/
def sp (x : ℝ) : ℝ := max x 0 + Real.log (1 + Real.exp (-|x|))

/-- Its derivative as the exponential of a difference. -/
theorem exp_sub_sp (x : ℝ) : Real.exp (x - sp x) = sigm x := by
  have p (y : ℝ) : 0 < 1 + Real.exp y := add_pos one_pos (Real.exp_pos _)
  unfold sp sigm
  rcases le_total 0 x with h | h
  · rw [max_eq_left h, abs_of_nonneg h, show x - (x + Real.log (1 + Real.exp (-x))) = -Real.log (1 + Real.exp (-x)) by ring, Real.exp_neg,
      Real.exp_log (p _), one_div]
  · rw [max_eq_right h, abs_of_nonpos h, neg_neg, zero_add, Real.exp_sub, Real.exp_log (p _), Real.exp_neg]
    have := Real.exp_pos x
    field_simp; ring

/-- Its derivative as the maximum's and the absolute value's, where they have one. -/
theorem dsp {x : ℝ} (h : x ≠ 0) (t : ℝ) :
    (if 0 ≤ x then -(t / (1 + Real.exp (-|x|)) * Real.exp (-|x|)) else 0)
        + -(if 0 ≤ x then 0 else -(t / (1 + Real.exp (-|x|)) * Real.exp (-|x|)))
        + t * (if 0 < x then 1 else if x = 0 then 1 / 2 else 0) = t * sigm x := by
  unfold sigm
  rcases lt_or_gt_of_ne h with k | k
  · rw [if_neg k.not_ge, if_neg k.not_ge, if_neg k.not_gt, if_neg h, abs_of_neg k, neg_neg, Real.exp_neg]
    have := Real.exp_pos x
    field_simp; ring
  · rw [if_pos k.le, if_pos k.le, if_pos k, abs_of_pos k]
    have := one_add_exp_ne x
    field_simp; ring

theorem one_add_exp_ne' (y : ℝ) : 1 + Real.exp y ≠ 0 := (add_pos one_pos (Real.exp_pos _)).ne'

/-- A real logarithm of one and an exponential. -/
theorem log_real (y : ℝ) : Ideal.log ((1 + Real.exp y : ℝ) : EReal) = ((Real.log (1 + Real.exp y) : ℝ) : EReal) := by
  show (if 1 + Real.exp y ≤ 0 then (⊥ : EReal) else _) = _
  rw [if_neg (add_pos one_pos (Real.exp_pos _)).not_ge]

theorem absf_real (x : ℝ) : FloatOps.absf (F := Ideal) (φ := .f32) (x : EReal) = ((|x| : ℝ) : EReal) := by
  show max (x : EReal) (-(x : EReal)) = _
  rw [← EReal.coe_neg, abs_eq_max_neg]
  exact (EReal.coe_strictMono.monotone.map_max).symm

/-- The derivative of softplus as the kernel writes it, at real arguments. -/
theorem dsp_real {x t : ℝ} (h : x ≠ 0 ∨ t = 0) :
    (((if (0 : EReal) ≤ (x : EReal) then 0 - Ideal.div (t : EReal) (1 + Ideal.exp (0 - ((|x| : ℝ) : EReal))) * Ideal.exp (0 - ((|x| : ℝ) : EReal))
        else 0) + (0 - if (0 : EReal) ≤ (x : EReal) then 0
          else 0 - Ideal.div (t : EReal) (1 + Ideal.exp (0 - ((|x| : ℝ) : EReal))) * Ideal.exp (0 - ((|x| : ℝ) : EReal))))
      + (t : EReal) * (if (0 : EReal) < (x : EReal) then 1 else if (x : EReal) = 0 then Ideal.ofBits FTy.f32 1056964608#32 else 0) : EReal)
      = ((t * sigm x : ℝ) : EReal) := by
  simp only [zero_sub, ← EReal.coe_neg, Ideal.exp_coe, ← EReal.coe_one, ← EReal.coe_add, lit_half]
  simp only [← EReal.coe_zero, div_real (one_add_exp_ne' _), ← EReal.coe_mul, EReal.coe_le_coe_iff, EReal.coe_lt_coe_iff, EReal.coe_eq_coe_iff, ← apply_ite Real.toEReal, ← EReal.coe_neg,
    ← EReal.coe_add]
  rcases h with h | h
  · exact dsp h t
  · subst h; simp

/-- The value of softplus. -/
theorem sp_real (x : ℝ) : (max (x : EReal) 0 + Ideal.log (1 + ((Real.exp (-|x|) : ℝ) : EReal)) : EReal) = ((sp x : ℝ) : EReal) := by
  rw [← EReal.coe_one, ← EReal.coe_add, log_real, ← EReal.coe_zero, ← EReal.coe_strictMono.monotone.map_max, ← EReal.coe_add]
  rfl

end Gate

end Cert.Proof

end
-- ==== Proof.Stage2Row.lean ====
/- Hand-written, untrusted: the operations of the gates' gradient at real blocks. -/
module

public import Idealize.ShloMosaic.Lib.WordCmp
public import proofs.«01_k».proof.Proof.Gate
public import proofs.«01_k».proof.Proof.Gen.Stage2BwdIdeal.Skeleton

@[expose] public section

set_option maxRecDepth 16384

noncomputable section

namespace Cert.Proof.Stage2

open Idealize.ShloMosaic Idealize.ShloMosaic.TcCoe Idealize.SL.Sem Idealize.ShloMosaic.Pointwise
open Cert.Stage2BwdIdeal Cert.Stage2BwdIdeal.Gen

/-! ## Columns of the convolutions' outputs: a factor, the layernorm's row, eight heads, the values -/

def cA (k : Fin 256) : Fin 2048 := ⟨k.val, by omega⟩
def cU (k : Fin 256) : Fin 2048 := ⟨256 + k.val, by omega⟩
def cH (h : Fin 8) (l : Fin 128) : Fin 2048 := ⟨512 + 128 * h.val + l.val, by omega⟩
def cV (k : Fin 512) : Fin 2048 := ⟨1536 + k.val, by omega⟩

theorem exists_c (k : Fin 2048) : (∃ a, k = cA a) ∨ (∃ a, k = cU a) ∨ (∃ h l, k = cH h l) ∨ ∃ a, k = cV a := by
  obtain ⟨k, hk⟩ := k
  rcases Nat.lt_or_ge k 256 with h0 | h0
  · exact .inl ⟨⟨k, h0⟩, rfl⟩
  rcases Nat.lt_or_ge k 512 with h1 | h1
  · exact .inr (.inl ⟨⟨k - 256, by omega⟩, Fin.ext (by simp only [cU]; omega)⟩)
  rcases Nat.lt_or_ge k 1536 with h2 | h2
  · exact .inr (.inr (.inl ⟨⟨(k - 512) / 128, by omega⟩, ⟨(k - 512) % 128, by omega⟩, Fin.ext (by simp only [cH]; omega)⟩))
  · exact .inr (.inr (.inr ⟨⟨k - 1536, by omega⟩, Fin.ext (by simp only [cV]; omega)⟩))

/-- The two projections' heads, one after the other. -/
def heads {α : Type*} (q k : Fin 512 → α) (h : Fin 8) (l : Fin 128) : α :=
  if p : h.val < 4 then q (Head.col ⟨h.val, p⟩ l) else k (Head.col ⟨h.val - 4, by omega⟩ l)

section
variable (a0 a1 : Vec Ideal S512x256 .f32) (b : Fin 8 → Vec Ideal S512x128 .f32) (e : Vec Ideal S512x512 .f32) (r : Fin 512)

/-- The parts of a block, side by side. -/
def pieces : List ((s : Shape) × (s.Idx → EReal)) := [⟨S512x256, a0⟩, ⟨S512x256, a1⟩, ⟨S512x128, b 0⟩, ⟨S512x128, b 1⟩, ⟨S512x128, b 2⟩,
  ⟨S512x128, b 3⟩, ⟨S512x128, b 4⟩, ⟨S512x128, b 5⟩, ⟨S512x128, b 6⟩, ⟨S512x128, b 7⟩, ⟨S512x512, e⟩]

/-- The block put together of them. -/
def parts : Vec Ideal S512x2048 .f32 := concatenate S512x2048 1 (pieces a0 a1 b e)
  concatenates_S512x256_S512x256_S512x128_S512x128_S512x128_S512x128_S512x128_S512x128_S512x128_S512x128_S512x512_S512x2048_d1

/-- Reading the block where one part's columns are. -/
theorem parts_apply (i n : ℕ) (hi : i < (pieces a0 a1 b e).length) (x : (⟨2, ![512, n]⟩ : Shape).Idx → EReal)
    (hx : (pieces a0 a1 b e)[i] = ⟨⟨2, ![512, n]⟩, x⟩) (pre : ℕ)
    (hp : ((((pieces a0 a1 b e).take i).map (·.1)).map fun s => if h : s.rank = S512x2048.rank then s.size ((1 : Fin 2).cast h.symm) else 0).sum = pre)
    (k : Fin n) (c : Fin 2048) (hc : pre + k.val = c.val) : parts a0 a1 b e (ix2 r c) = x (ix2 r k) :=
  concatenate_apply_piece (t := S512x2048) 1 (pieces a0 a1 b e) _ (ix2 r c) i hi _ x hx rfl pre hp (ix2 r k)
    (by intro a ha; fin_cases a; · rfl
        · exact absurd rfl ha) hc

theorem parts_A (k : Fin 256) : parts a0 a1 b e (ix2 r (cA k)) = a0 (ix2 r k) :=
  parts_apply a0 a1 b e r 0 256 (Nat.lt_of_sub_eq_succ rfl) a0 rfl 0 rfl k _ (Nat.zero_add _)

theorem parts_U (k : Fin 256) : parts a0 a1 b e (ix2 r (cU k)) = a1 (ix2 r k) :=
  parts_apply a0 a1 b e r 1 256 (Nat.lt_of_sub_eq_succ rfl) a1 rfl 256 rfl k _ rfl

theorem parts_V (k : Fin 512) : parts a0 a1 b e (ix2 r (cV k)) = e (ix2 r k) :=
  parts_apply a0 a1 b e r 10 512 (Nat.lt_of_sub_eq_succ rfl) e rfl 1536 rfl k _ rfl

theorem parts_H (h : Fin 8) (l : Fin 128) : parts a0 a1 b e (ix2 r (cH h l)) = b h (ix2 r l) := by
  refine parts_apply a0 a1 b e r (2 + h.val) 128 ?_ (b h) ?_ (512 + 128 * h.val) ?_ l _ rfl
  · show 2 + h.val < 11; omega
  · fin_cases h <;> rfl
  · fin_cases h <;> rfl

end

/-! ## One head -/

section
variable (x d : Vec Ideal S512x128 .f32) (X D : Fin 512 → Fin 128 → ℝ)
  (hx : ∀ r l, x (ix2 r l) = ((X r l : ℝ) : EReal)) (hd : ∀ r l, d (ix2 r l) = ((D r l : ℝ) : EReal))

include hx

theorem sg_apply (r : Fin 512) (l : Fin 128) : k0_pay39 (F := Ideal) x (ix2 r l) = ((sigm (X r l) : ℝ) : EReal) := by
  pointwise [k0_pay39, k0_pay38, k0_pay37]
  rw [hx, sigm_real']

theorem s_apply (r : Fin 512) (l : Fin 128) : k0_pay43 (F := Ideal) x (k0_pay39 x) (ix2 r l) = ((Gate.s (X r) l : ℝ) : EReal) := by
  pointwise [k0_pay43]
  rw [hx, sg_apply x X hx, ← EReal.coe_mul]; rfl

theorem sq_apply (r : Fin 512) : k0_pay44 (F := Ideal) x (k0_pay39 x) (ix2 r 0) = ((Gate.sq (X r) : ℝ) : EReal) := by
  pointwise [k0_pay44]
  simp only [s_apply x X hx, ← EReal.coe_mul, coe_sum, lit_eps, ← EReal.coe_add]
  rfl

theorem rl_apply (r : Fin 512) : k0_pay45 (F := Ideal) x (k0_pay39 x) (ix2 r 0) = ((Gate.rl (X r) : ℝ) : EReal) := by
  pointwise [k0_pay45]
  rw [sq_apply x X hx, rsqrt_real (Gate.sq_pos _)]; rfl

theorem drl_apply (r : Fin 512) : k0_pay46 (F := Ideal) x (k0_pay39 x) (ix2 r 0) = ((-1 / 2 * (Gate.rl (X r) / Gate.sq (X r)) : ℝ) : EReal) := by
  pointwise [k0_pay46]
  rw [sq_apply x X hx, rl_apply x X hx, div_real (Gate.sq_pos _).ne', lit_neghalf, ← EReal.coe_mul]

include hd

/-- A head's gradient. -/
def dheadBlk (x d : Vec Ideal S512x128 .f32) : Vec Ideal S512x128 .f32 :=
  k0_pay161 (F := Ideal) x (k0_pay37 x) (k0_pay39 x) (k0_pay42 (k0_pay40 x) k0_pay41) (k0_pay43 x (k0_pay39 x)) (k0_pay45 x (k0_pay39 x))
    (k0_pay46 x (k0_pay39 x)) d

theorem dhead_apply (r : Fin 512) (l : Fin 128) : dheadBlk x d (ix2 r l) = ((Gate.dhead (X r) (D r) l : ℝ) : EReal) := by
  pointwise [dheadBlk, k0_pay161, k0_pay42, k0_pay41, k0_pay40, k0_pay38, k0_pay37]
  simp only [Finset.univ_unique, Finset.sum_singleton, Fin.default_eq_zero]
  simp only [s_apply x X hx, hd, hx, sg_apply x X hx, rl_apply x X hx, drl_apply x X hx, ← EReal.coe_mul, coe_sum, ← EReal.coe_add, zero_sub,
    ← EReal.coe_neg, Ideal.exp_coe, ← EReal.coe_one, div_real (mul_ne_zero (one_add_exp_ne _) (one_add_exp_ne _))]
  exact congrArg _ (Head.dsigm (X r l) _)

end

/-! ## The values -/

section
variable (x d : Vec Ideal S512x512 .f32) (X D : Fin 512 → Fin 512 → ℝ)
  (hx : ∀ r l, x (ix2 r l) = ((X r l : ℝ) : EReal)) (hd : ∀ r l, d (ix2 r l) = ((D r l : ℝ) : EReal))

include hx hd in
theorem dv_apply (r : Fin 512) (l : Fin 512) : k0_pay140 (F := Ideal) d x (k0_pay105 x) (k0_pay107 x) (k0_pay108 x) (ix2 r l)
    = ((Gate.silud (X r l) (D r l) : ℝ) : EReal) := by
  pointwise [k0_pay140, k0_pay108, k0_pay107, k0_pay106, k0_pay105]
  rw [hx, hd, sigm_real', zero_sub, zero_sub, zero_sub, ← EReal.coe_neg, Ideal.exp_coe, ← EReal.coe_one,
    ← EReal.coe_add, ← EReal.coe_mul (1 + _), div_real (mul_ne_zero (one_add_exp_ne _) (one_add_exp_ne _))]
  simp only [← EReal.coe_mul, ← EReal.coe_neg, ← EReal.coe_add]
  exact congrArg _ (Head.dsigm (X r l) _)

end

/-! ## The layernorm and its gate -/

section
variable (b lg lb : Vec Ideal S1x256 .f32) (v d : Vec Ideal S512x256 .f32) (B G L : Fin 256 → ℝ) (U D : Fin 512 → Fin 256 → ℝ)
  (hb : ∀ l, b (ix2 0 l) = ((B l : ℝ) : EReal)) (hg : ∀ l, lg (ix2 0 l) = ((G l : ℝ) : EReal))
  (hl : ∀ l, lb (ix2 0 l) = ((L l : ℝ) : EReal))
  (hv : ∀ r l, v (ix2 r l) = ((U r l : ℝ) : EReal)) (hd : ∀ r l, d (ix2 r l) = ((D r l : ℝ) : EReal))

/-- A row with the convolution's bias added. -/
def biased (u B : Fin 256 → ℝ) (l : Fin 256) : ℝ := u l + B l

include hb hv

theorem uc_apply (r : Fin 512) (l : Fin 256) : k0_pay27 (F := Ideal) b v (ix2 r l) = ((Gate.uc (biased (U r) B) l : ℝ) : EReal) := by
  pointwise [k0_pay27]
  simp only [hb, hv, ← EReal.coe_add, coe_sum, lit_256, div_real (by norm_num : (256 : ℝ) ≠ 0), ← EReal.coe_sub]
  rfl

theorem vr_apply (r : Fin 512) : k0_pay28 (F := Ideal) b v (ix2 r 0) = ((Gate.vr (biased (U r) B) : ℝ) : EReal) := by
  pointwise [k0_pay28]
  simp only [uc_apply b v B U hb hv, ← EReal.coe_mul, coe_sum, lit_256, lit_leps, div_real (by norm_num : (256 : ℝ) ≠ 0), ← EReal.coe_add]
  rfl

theorem rv_apply (r : Fin 512) : k0_pay29 (F := Ideal) b v (ix2 r 0) = ((Gate.rv (biased (U r) B) : ℝ) : EReal) := by
  pointwise [k0_pay29]
  rw [vr_apply b v B U hb hv, rsqrt_real (Gate.vr_pos _)]; rfl

theorem drv_apply (r : Fin 512) : k0_pay30 (F := Ideal) b v (ix2 r 0)
    = ((-1 / 2 * (Gate.rv (biased (U r) B) / Gate.vr (biased (U r) B)) : ℝ) : EReal) := by
  pointwise [k0_pay30]
  rw [vr_apply b v B U hb hv, rv_apply b v B U hb hv, div_real (Gate.vr_pos _).ne', lit_neghalf, ← EReal.coe_mul]

theorem nrm_apply (r : Fin 512) (l : Fin 256) : k0_pay31 (F := Ideal) b v (ix2 r l) = ((Gate.nrm (biased (U r) B) l : ℝ) : EReal) := by
  pointwise [k0_pay31]
  rw [uc_apply b v B U hb hv, rv_apply b v B U hb hv, ← EReal.coe_mul]; rfl

include hg hl

theorem z_apply (r : Fin 512) (l : Fin 256) : k0_pay32 (F := Ideal) b lg lb v (ix2 r l) = ((Gate.z (biased (U r) B) G L l : ℝ) : EReal) := by
  pointwise [k0_pay32]
  rw [nrm_apply b v B U hb hv, hg, hl, ← EReal.coe_mul, ← EReal.coe_add]; rfl

include hd

/-- The gradient past the gate. -/
def eBlk : Vec Ideal S512x256 .f32 :=
  k0_pay162 (F := Ideal) (k0_pay32 b lg lb v) (k0_pay33 b lg lb v) (k0_pay35 b lg lb v) (k0_pay36 b lg lb v) d

theorem e_apply (r : Fin 512) (l : Fin 256) : eBlk b lg lb v d (ix2 r l) = ((Gate.e (biased (U r) B) G L (D r) l : ℝ) : EReal) := by
  pointwise [eBlk, k0_pay162, k0_pay36, k0_pay35, k0_pay34, k0_pay33]
  rw [z_apply b lg lb v B G L U hb hg hl hv, hd, sigm_real', zero_sub, zero_sub, zero_sub, ← EReal.coe_neg, Ideal.exp_coe, ← EReal.coe_one,
    ← EReal.coe_add, ← EReal.coe_mul (1 + _), div_real (mul_ne_zero (one_add_exp_ne _) (one_add_exp_ne _))]
  simp only [← EReal.coe_mul, ← EReal.coe_neg, ← EReal.coe_add]
  exact congrArg _ (Head.dsigm _ _)

theorem eg_apply (r : Fin 512) (l : Fin 256) :
    k0_pay165 (F := Ideal) lg (k0_pay32 b lg lb v) (k0_pay33 b lg lb v) (k0_pay35 b lg lb v) (k0_pay36 b lg lb v) d (ix2 r l)
      = ((Gate.eg (biased (U r) B) G L (D r) l : ℝ) : EReal) := by
  have h0 := e_apply b lg lb v d B G L U D hb hg hl hv hd r l
  unfold eBlk at h0
  unfold k0_pay165
  generalize k0_pay162 (F := Ideal) _ _ _ _ _ = y at h0 ⊢
  pointwise
  rw [h0, hg, ← EReal.coe_mul]; rfl

/-- The gradient at the row before the bias. -/
def duBlk : Vec Ideal S512x256 .f32 :=
  k0_pay167 (F := Ideal) (k0_pay27 b v) (k0_pay29 b v) (k0_pay30 b v)
    (k0_pay165 lg (k0_pay32 b lg lb v) (k0_pay33 b lg lb v) (k0_pay35 b lg lb v) (k0_pay36 b lg lb v) d)
    (k0_pay166 lg (k0_pay27 b v) (k0_pay32 b lg lb v) (k0_pay33 b lg lb v) (k0_pay35 b lg lb v) (k0_pay36 b lg lb v) d)

theorem du_apply (r : Fin 512) (l : Fin 256) : duBlk b lg lb v d (ix2 r l) = ((Gate.du (biased (U r) B) G L (D r) l : ℝ) : EReal) := by
  have h0 := eg_apply b lg lb v d B G L U D hb hg hl hv hd
  unfold duBlk k0_pay166
  generalize k0_pay165 (F := Ideal) _ _ _ _ _ _ = y at h0 ⊢
  pointwise [k0_pay167]
  simp only [Finset.univ_unique, Finset.sum_singleton, Fin.default_eq_zero]
  simp only [h0, uc_apply b v B U hb hv, rv_apply b v B U hb hv, drv_apply b v B U hb hv, lit_256, ← EReal.coe_mul, coe_sum,
    div_real (by norm_num : (256 : ℝ) ≠ 0), ← EReal.coe_add, zero_sub, ← EReal.coe_neg]
  rfl

/-- The gradients of the bias, the gain and the shift, of one block's rows. -/
theorem dbb_apply (xo : Vec Ideal S1x256 .f32) (l : Fin 256) :
    k0_pay175 (F := Ideal) (k0_pay27 b v) (k0_pay29 b v) (k0_pay30 b v)
      (k0_pay165 lg (k0_pay32 b lg lb v) (k0_pay33 b lg lb v) (k0_pay35 b lg lb v) (k0_pay36 b lg lb v) d)
      (k0_pay166 lg (k0_pay27 b v) (k0_pay32 b lg lb v) (k0_pay33 b lg lb v) (k0_pay35 b lg lb v) (k0_pay36 b lg lb v) d) xo (ix2 0 l)
      = xo (ix2 0 l) + ((∑ r, Gate.du (biased (U r) B) G L (D r) l : ℝ) : EReal) := by
  have h0 := du_apply b lg lb v d B G L U D hb hg hl hv hd
  unfold duBlk at h0
  unfold k0_pay175
  generalize k0_pay167 (F := Ideal) _ _ _ _ _ = y at h0 ⊢
  pointwise
  simp only [h0, coe_sum]

theorem dlg_apply (xo : Vec Ideal S1x256 .f32) (l : Fin 256) :
    k0_pay1 (F := Ideal) (k0_pay164 (k0_pay31 b v) (k0_pay32 b lg lb v) (k0_pay33 b lg lb v) (k0_pay35 b lg lb v) (k0_pay36 b lg lb v) d) xo (ix2 0 l)
      = xo (ix2 0 l) + ((∑ r, Gate.nrm (biased (U r) B) l * Gate.e (biased (U r) B) G L (D r) l : ℝ) : EReal) := by
  have h0 := e_apply b lg lb v d B G L U D hb hg hl hv hd
  unfold eBlk at h0
  unfold k0_pay1 k0_pay164
  generalize k0_pay162 (F := Ideal) _ _ _ _ _ = y at h0 ⊢
  pointwise
  simp only [h0, nrm_apply b v B U hb hv, ← EReal.coe_mul, coe_sum]

theorem dlb_apply (xo : Vec Ideal S1x256 .f32) (l : Fin 256) :
    k0_pay2 (F := Ideal) (k0_pay163 (k0_pay32 b lg lb v) (k0_pay33 b lg lb v) (k0_pay35 b lg lb v) (k0_pay36 b lg lb v) d) xo (ix2 0 l)
      = xo (ix2 0 l) + ((∑ r, Gate.e (biased (U r) B) G L (D r) l : ℝ) : EReal) := by
  have h0 := e_apply b lg lb v d B G L U D hb hg hl hv hd
  unfold eBlk at h0
  unfold k0_pay2 k0_pay163
  generalize k0_pay162 (F := Ideal) _ _ _ _ _ = y at h0 ⊢
  pointwise
  simp only [h0, coe_sum]

end

/-! ## The decays and the step sizes -/

section
variable (x g : Vec Ideal S512x128 .f32) (a t : Vec Ideal S1x128 .f32) (X G : Fin 512 → Fin 128 → ℝ) (A T : Fin 128 → ℝ)
  (hx : ∀ r l, x (ix2 r l) = ((X r l : ℝ) : EReal)) (hg : ∀ r l, g (ix2 r l) = ((G r l : ℝ) : EReal))
  (ha : ∀ l, a (ix2 0 l) = ((A l : ℝ) : EReal)) (ht : ∀ l, t (ix2 0 l) = ((T l : ℝ) : EReal))

/-- The lanes' numbers. -/
def lanes : IVec S512x128 32 := iota Kind.tc S512x128 32 [1] iota_S512x128_d1_w32

theorem lane_lt (l : Fin 128) (k : Nat) (hk : k ≤ 128) :
    IntOp.cmpi CmpIPredicate.slt (BitVec.ofNat 32 l.val) (BitVec.ofNat 32 k) = BitVec.ofBool (decide (l.val < k)) :=
  WordCmp.cmpi_slt_ofNat (by have := l.isLt; norm_num; omega) (by norm_num; omega)

/-- A gate's gradient in the decays' lanes. -/
def gm (g : Fin 128 → ℝ) (l : Fin 128) : ℝ := if l.val < 4 then g l else 0

/-- The gradient at the decays' pre-activations. -/
def dt (x g a t : Fin 128 → ℝ) (l : Fin 128) : ℝ := -Real.exp (a l) * gm g l * sigm (x l + t l)

/-- The gradient at the step sizes' pre-activations. -/
def dbeta (x g : Fin 128 → ℝ) (l : Fin 128) : ℝ :=
  if l.val < 8 then (if l.val < 4 then 0 else g l * (sigm (x l) * (1 - sigm (x l)))) else 0

include hg in
theorem gm_apply (r : Fin 512) (l : Fin 128) : k0_pay133 (F := Ideal) g lanes (ix2 r l) = ((gm (G r) l : ℝ) : EReal) := by
  pointwise [k0_pay133, k0_pay132, k0_pay121, lanes]
  rw [lane_lt l 4 (by norm_num), Scalar.select_decide, hg]
  unfold gm; split_ifs <;> rfl

include hx hg in
theorem dsg_apply (r : Fin 512) (l : Fin 128) : k0_pay134 (F := Ideal) x g lanes (ix2 r l) = ((dbeta (X r) (G r) l : ℝ) : EReal) := by
  pointwise [k0_pay134, k0_pay132, k0_pay121, lanes]
  rw [lane_lt l 4 (by norm_num), lane_lt l 8 (by norm_num), Scalar.select_decide, Scalar.select_decide, hg, hx]
  unfold dbeta
  split_ifs
  · simp
  · rw [zero_sub, zero_sub, zero_sub, ← EReal.coe_neg, Ideal.exp_coe, ← EReal.coe_one,
      ← EReal.coe_add, ← EReal.coe_mul (1 + _), div_real (mul_ne_zero (one_add_exp_ne _) (one_add_exp_ne _))]
    simp only [← EReal.coe_mul, ← EReal.coe_neg]
    refine congrArg _ ?_
    unfold sigm
    have := one_add_exp_ne (X r l)
    field_simp; ring
  · simp

/-- The decays' gradient block. -/
def dtBlk : Vec Ideal S512x128 .f32 :=
  k0_pay136 (F := Ideal) (k0_pay116 (k0_pay113 (F := Ideal) x t) (k0_pay114 (F := Ideal)) (k0_pay115 (F := Ideal) x t))
    (k0_pay117 (F := Ideal) (k0_pay111 (F := Ideal) x t))
    (k0_pay118 (F := Ideal) (k0_pay111 (F := Ideal) x t)) (k0_pay119 (F := Ideal) (k0_pay111 (F := Ideal) x t))
    (k0_pay133 (F := Ideal) g lanes) (k0_pay135 (F := Ideal) (k0_pay110 (F := Ideal) a))

section
variable (hne : ∀ r l, l.val < 4 → X r l + T l ≠ 0)
include hx hg ha ht hne

theorem dt_apply (r : Fin 512) (l : Fin 128) : dtBlk x g a t (ix2 r l) = ((dt (X r) (G r) A T l : ℝ) : EReal) := by
  pointwise [dtBlk, k0_pay136, k0_pay116, k0_pay113, k0_pay114, k0_pay115, k0_pay117, k0_pay118, k0_pay119, k0_pay111, k0_pay135, k0_pay110, k0_pay109]
  have hz : X r l + T l ≠ 0 ∨ -Real.exp (A l) * gm (G r) l = 0 := by
    by_cases h : l.val < 4
    · exact .inl (hne r l h)
    · right; unfold gm; rw [if_neg h, mul_zero]
  rw [gm_apply g G hg, hx, ht, ha, ← EReal.coe_add, Gate.absf_real, zero_sub (Ideal.exp (A l : EReal)), Ideal.exp_coe, ← EReal.coe_neg, ← EReal.coe_mul,
    Gate.dsp_real hz]
  rfl

theorem dblk_apply (r : Fin 512) (l : Fin 128) :
    k0_pay138 (F := Ideal) (k0_pay116 (k0_pay113 (F := Ideal) x t) (k0_pay114 (F := Ideal)) (k0_pay115 (F := Ideal) x t))
      (k0_pay117 (F := Ideal) (k0_pay111 (F := Ideal) x t))
      (k0_pay118 (F := Ideal) (k0_pay111 (F := Ideal) x t)) (k0_pay119 (F := Ideal) (k0_pay111 (F := Ideal) x t))
      (k0_pay133 (F := Ideal) g lanes) (k0_pay134 (F := Ideal) x g lanes) (k0_pay135 (F := Ideal) (k0_pay110 (F := Ideal) a)) (ix2 r l)
      = ((dbeta (X r) (G r) l + dt (X r) (G r) A T l : ℝ) : EReal) := by
  have h0 := dt_apply x g a t X G A T hx hg ha ht hne r l
  have h1 := dsg_apply x g X G hx hg r l
  unfold dtBlk at h0
  unfold k0_pay138
  generalize k0_pay136 (F := Ideal) _ _ _ _ _ _ = y at h0 ⊢
  generalize k0_pay134 (F := Ideal) _ _ _ = w at h1 ⊢
  pointwise
  rw [h0, h1, ← EReal.coe_add]

theorem ddtb_apply (xo : Vec Ideal S1x128 .f32) (l : Fin 128) :
    k0_pay4 (F := Ideal) (k0_pay137 (k0_pay116 (k0_pay113 (F := Ideal) x t) (k0_pay114 (F := Ideal)) (k0_pay115 (F := Ideal) x t))
      (k0_pay117 (F := Ideal) (k0_pay111 (F := Ideal) x t))
      (k0_pay118 (F := Ideal) (k0_pay111 (F := Ideal) x t)) (k0_pay119 (F := Ideal) (k0_pay111 (F := Ideal) x t))
      (k0_pay133 (F := Ideal) g lanes) (k0_pay135 (F := Ideal) (k0_pay110 (F := Ideal) a))) xo (ix2 0 l)
      = xo (ix2 0 l) + ((∑ r, dt (X r) (G r) A T l : ℝ) : EReal) := by
  have h0 := dt_apply x g a t X G A T hx hg ha ht hne
  unfold dtBlk at h0
  unfold k0_pay4 k0_pay137
  generalize k0_pay136 (F := Ideal) _ _ _ _ _ _ = y at h0 ⊢
  pointwise
  simp only [h0, coe_sum]

end

include hx hg ha ht in
theorem dalog_apply (xo : Vec Ideal S1x128 .f32) (l : Fin 128) :
    k0_pay3 (F := Ideal) (k0_pay139 (k0_pay109 (F := Ideal) a) (k0_pay120 (F := Ideal) (k0_pay111 (F := Ideal) x t) (k0_pay112 (F := Ideal) x t))
      (k0_pay133 (F := Ideal) g lanes)) xo (ix2 0 l)
      = xo (ix2 0 l) + ((-(∑ r, gm (G r) l * Gate.sp (X r l + T l)) * Real.exp (A l) : ℝ) : EReal) := by
  pointwise [k0_pay3, k0_pay139, k0_pay109, k0_pay120, k0_pay119, k0_pay118, k0_pay111, k0_pay112]
  simp only [gm_apply g G hg, hx, ht, ha, ← EReal.coe_add, Gate.absf_real, zero_sub, ← EReal.coe_neg, Ideal.exp_coe,
    Gate.sp_real, ← EReal.coe_mul, coe_sum]

end

end Cert.Proof.Stage2

end
-- ==== Proof.Stage2.lean ====
/- Hand-written, untrusted: the gradient of the gates before the recurrence. -/
module

public import proofs.«01_k».proof.Proof.Stage2Row
public import proofs.«01_k».proof.Proof.Norm
public import proofs.«01_k».proof.Proof.Index
public import proofs.«01_k».proof.Proof.Gen.Stage2BwdIdeal.Value
public import Idealize.ShloMosaic.Lib.Pipeline.ValueKit

@[expose] public section

set_option maxRecDepth 16384

noncomputable section

namespace Cert.Proof.Stage2

open Idealize.ShloMosaic Idealize.ShloMosaic.TcCoe Idealize.SL.Sem Idealize.ShloMosaic.Pointwise
open Cert.Stage2BwdIdeal Cert.Stage2BwdIdeal.Gen Cert.Proof.Norm

/-- The arguments as real arrays. -/
structure Args where
  pj : Fin 4096 → Fin 3336 → ℝ
  cv : Fin 4096 → Fin 2048 → ℝ
  b : Fin 256 → ℝ
  g : Fin 256 → ℝ
  l : Fin 256 → ℝ
  al : Fin 4 → ℝ
  tb : Fin 4 → ℝ
  dy : Fin 4096 → Fin 512 → ℝ
  dq : Fin 4096 → Fin 512 → ℝ
  dk : Fin 4096 → Fin 512 → ℝ
  dv : Fin 4096 → Fin 512 → ℝ
  dg : Fin 4096 → Fin 4 → ℝ
  db : Fin 4096 → Fin 4 → ℝ

/-- The contents of the arguments. -/
structure Holds (m : (ℓ : Loc nD τ sig) → Buf (Elt Ideal) ℓ) (c : Dev nD) (A : Args) : Prop where
  pj : ∀ r k, m ((c : Thread nD τ).loc main_arg0) (ix2 r k) = ((A.pj r k : ℝ) : EReal)
  cv : ∀ r k, m ((c : Thread nD τ).loc main_arg1) (ix2 r k) = ((A.cv r k : ℝ) : EReal)
  b : ∀ k, m ((c : Thread nD τ).loc main_arg2) (ix1 k) = ((A.b k : ℝ) : EReal)
  g : ∀ k, m ((c : Thread nD τ).loc main_arg3) (ix1 k) = ((A.g k : ℝ) : EReal)
  l : ∀ k, m ((c : Thread nD τ).loc main_arg4) (ix1 k) = ((A.l k : ℝ) : EReal)
  al : ∀ k, m ((c : Thread nD τ).loc main_arg5) (ix1 k) = ((A.al k : ℝ) : EReal)
  tb : ∀ k, m ((c : Thread nD τ).loc main_arg6) (ix1 k) = ((A.tb k : ℝ) : EReal)
  dy : ∀ r k, m ((c : Thread nD τ).loc main_arg7) (ix2 r k) = ((A.dy r k : ℝ) : EReal)
  dq : ∀ r k, m ((c : Thread nD τ).loc main_arg8) (ix2 r k) = ((A.dq r k : ℝ) : EReal)
  dk : ∀ r k, m ((c : Thread nD τ).loc main_arg9) (ix2 r k) = ((A.dk r k : ℝ) : EReal)
  dv : ∀ r k, m ((c : Thread nD τ).loc main_arg10) (ix2 r k) = ((A.dv r k : ℝ) : EReal)
  dg : ∀ r k, m ((c : Thread nD τ).loc main_arg11) (ix2 r k) = ((A.dg r k : ℝ) : EReal)
  db : ∀ r k, m ((c : Thread nD τ).loc main_arg12) (ix2 r k) = ((A.db r k : ℝ) : EReal)

/-- Four numbers and zeros after them. -/
def w4 (f : Fin 4 → ℝ) (l : Fin 128) : ℝ := wide f l

/-- The gates' gradients in their lanes, zeros after them. -/
def gl (dg db : Fin 4 → ℝ) (l : Fin 128) : ℝ :=
  if h : l.val < 4 then dg ⟨l.val, h⟩ else if h : l.val < 8 then db ⟨l.val - 4, by omega⟩ else 0

/-- The gates' columns of the projection, zeros after them. -/
def xl (p : Fin 3336 → ℝ) (l : Fin 128) : ℝ := wide (L := 3456) p ⟨3328 + l.val, by omega⟩

theorem idx0 : ∀ t : Fin cfg0.N, win0_0.index t = ![t.val, 0] := (by decide +kernel : ∀ t : Fin grid0.N, _)
theorem idx1 : ∀ t : Fin cfg0.N, win0_1.index t = ![t.val, 26] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 1] := (by decide +kernel : ∀ t : Fin grid0.N, _)
theorem idx6 : ∀ t : Fin cfg0.N, win0_6.index t = ![t.val, 2] := (by decide +kernel : ∀ t : Fin grid0.N, _)
theorem idx7 : ∀ t : Fin cfg0.N, win0_7.index t = ![t.val, 12] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)

/-- Row `r` of block `t` in the array. -/
def row (t : Fin cfg0.N) (r : Fin 512) : Fin 4096 :=
  ⟨t.val * 512 + r.val, by have := t.isLt; have := r.isLt; have h : cfg0.N = 8 := N_0; omega⟩

variable {m : (ℓ : Loc nD τ sig) → Buf (Elt Ideal) ℓ} {c : Dev nD} {A : Args} (H : Holds m c A)

theorem sitofp_zero : FloatOps.sitofp (F := Ideal) FTy.f32 0#32 = ((0 : ℝ) : EReal) := by
  simp [FloatOps.sitofp]

/-- The projection with columns of zeros after it. -/
theorem v3_eq : V m c main_v3 = fun i : S4096x3456.Idx => pad S4096x3456 ![0, 0] ![0, 120] ![0, 0]
    (m ((c : Thread nD τ).loc main_arg0) : S4096x3336.Idx → EReal) (sitofp (F := Ideal) .f32 (constantI S_ 32 0#32))
    pads_S4096x3336_S4096x3456_000_01200 h_S_ i := by
  entry_read
  simp only [List.flatten_cons, List.flatten_nil, List.append_nil, List.cons_append, List.nil_append]
  after_results_simp <;> rfl

/-- The gates' four numbers with zeros after them. -/
theorem v8_eq : V m c main_v8 = fun i : S1x128.Idx => pad S1x128 ![0, 0] ![0, 124] ![0, 0]
    (shapeCast S1x4 (m ((c : Thread nD τ).loc main_arg5) : S4.Idx → EReal) shapeCasts_S4_S1x4) (sitofp (F := Ideal) .f32 (constantI S_ 32 0#32))
    pads_S1x4_S1x128_000_01240 h_S_ i := by
  entry_read
  simp only [List.flatten_cons, List.flatten_nil, List.append_nil, List.cons_append, List.nil_append]
  after_results_simp <;> rfl

theorem v10_eq : V m c main_v10 = fun i : S1x128.Idx => pad S1x128 ![0, 0] ![0, 124] ![0, 0]
    (shapeCast S1x4 (m ((c : Thread nD τ).loc main_arg6) : S4.Idx → EReal) shapeCasts_S4_S1x4) (sitofp (F := Ideal) .f32 (constantI S_ 32 0#32))
    pads_S1x4_S1x128_000_01240 h_S_ i := by
  entry_read
  simp only [List.flatten_cons, List.flatten_nil, List.append_nil, List.cons_append, List.nil_append]
  after_results_simp <;> rfl

/-- The gradients side by side. -/
theorem v2_eq : V m c main_v2 = concatenate S4096x1664 1 [⟨S4096x512, (m ((c : Thread nD τ).loc main_arg8) : S4096x512.Idx → EReal)⟩,
    ⟨S4096x512, (m ((c : Thread nD τ).loc main_arg9) : S4096x512.Idx → EReal)⟩,
    ⟨S4096x512, (m ((c : Thread nD τ).loc main_arg10) : S4096x512.Idx → EReal)⟩,
    ⟨S4096x128, (fun i : S4096x128.Idx => pad S4096x128 ![0, 0] ![0, 120] ![0, 0]
      (concatenate S4096x8 1 [⟨S4096x4, (m ((c : Thread nD τ).loc main_arg11) : S4096x4.Idx → EReal)⟩,
        ⟨S4096x4, (m ((c : Thread nD τ).loc main_arg12) : S4096x4.Idx → EReal)⟩] concatenates_S4096x4_S4096x4_S4096x8_d1)
      (sitofp (F := Ideal) .f32 (constantI S_ 32 0#32)) pads_S4096x8_S4096x128_000_01200 h_S_ i)⟩]
    concatenates_S4096x512_S4096x512_S4096x512_S4096x128_S4096x1664_d1 := by
  entry_read
  simp only [List.flatten_cons, List.flatten_nil, List.append_nil, List.cons_append, List.nil_append]
  after_results_simp <;> rfl

/-- Reading the gradients side by side where one of them is. -/
theorem side_apply (x0 x1 x2 : S4096x512.Idx → EReal) (x3 : S4096x128.Idx → EReal) (R : Fin 4096) (i n : ℕ)
    (hi : i < ([⟨S4096x512, x0⟩, ⟨S4096x512, x1⟩, ⟨S4096x512, x2⟩, ⟨S4096x128, x3⟩] : List ((s : Shape) × (s.Idx → EReal))).length)
    (x : (⟨2, ![4096, n]⟩ : Shape).Idx → EReal)
    (hx : ([⟨S4096x512, x0⟩, ⟨S4096x512, x1⟩, ⟨S4096x512, x2⟩, ⟨S4096x128, x3⟩] : List ((s : Shape) × (s.Idx → EReal)))[i] = ⟨⟨2, ![4096, n]⟩, x⟩) (pre : ℕ)
    (hp : (((([⟨S4096x512, x0⟩, ⟨S4096x512, x1⟩, ⟨S4096x512, x2⟩, ⟨S4096x128, x3⟩] : List ((s : Shape) × (s.Idx → EReal))).take i).map (·.1)).map
      fun s => if h : s.rank = S4096x1664.rank then s.size ((1 : Fin 2).cast h.symm) else 0).sum = pre)
    (k : Fin n) (j : Fin 1664) (hc : pre + k.val = j.val) :
    concatenate S4096x1664 1 [⟨S4096x512, x0⟩, ⟨S4096x512, x1⟩, ⟨S4096x512, x2⟩, ⟨S4096x128, x3⟩]
      concatenates_S4096x512_S4096x512_S4096x512_S4096x128_S4096x1664_d1 (ix2 R j) = x (ix2 R k) :=
  concatenate_apply_piece (t := S4096x1664) 1 _ _ (ix2 R j) i hi _ x hx rfl pre hp (ix2 R k)
    (by intro a ha; fin_cases a; · rfl
        · exact absurd rfl ha) hc

theorem read0 (t : Fin cfg0.N) (r : Fin 512) (l : Fin 256) :
    X0_0 m c t (ix2 r l) = V m c main_v3 (ix2 (row t r) (⟨0 + l.val, by omega⟩ : Fin 3456)) := by
  unfold X0_0 Pipeline.Window.fill
  rw [dif_pos (moved0_0 t _)]
  blk_simp [iblk]
  refine congrArg _ ?_
  blk_ext [idx0, row]

theorem read4 (t : Fin cfg0.N) (r : Fin 512) (l : Fin 512) :
    X0_4 m c t (ix2 r l) = V m c main_v2 (ix2 (row t r) (⟨0 + l.val, by omega⟩ : Fin 1664)) := by
  unfold X0_4 Pipeline.Window.fill
  rw [dif_pos (moved0_4 t _)]
  blk_simp [iblk]
  refine congrArg _ ?_
  blk_ext [idx4, row]

theorem read5 (t : Fin cfg0.N) (r : Fin 512) (l : Fin 512) :
    X0_5 m c t (ix2 r l) = V m c main_v2 (ix2 (row t r) (⟨512 + l.val, by omega⟩ : Fin 1664)) := by
  unfold X0_5 Pipeline.Window.fill
  rw [dif_pos (moved0_5 t _)]
  blk_simp [iblk]
  refine congrArg _ ?_
  blk_ext [idx5, row]

theorem read6 (t : Fin cfg0.N) (r : Fin 512) (l : Fin 512) :
    X0_6 m c t (ix2 r l) = V m c main_v2 (ix2 (row t r) (⟨1024 + l.val, by omega⟩ : Fin 1664)) := by
  unfold X0_6 Pipeline.Window.fill
  rw [dif_pos (moved0_6 t _)]
  blk_simp [iblk]
  refine congrArg _ ?_
  blk_ext [idx6, row]

include H

theorem blk0 (t : Fin cfg0.N) (r : Fin 512) (l : Fin 256) : X0_0 m c t (ix2 r l) = ((A.pj (row t r) ⟨l.val, by omega⟩ : ℝ) : EReal) := by
  rw [read0, v3_eq]
  pointwise
  rw [dif_pos (by intro a; fin_cases a <;> simp <;> omega)]
  exact H.pj _ _

theorem blk4 (t : Fin cfg0.N) (r : Fin 512) (l : Fin 512) : X0_4 m c t (ix2 r l) = ((A.dq (row t r) l : ℝ) : EReal) := by
  rw [read4, v2_eq]
  exact (side_apply _ _ _ _ (row t r) 0 512 (Nat.lt_of_sub_eq_succ rfl) _ rfl 0 rfl l _ rfl).trans (H.dq _ _)

theorem blk5 (t : Fin cfg0.N) (r : Fin 512) (l : Fin 512) : X0_5 m c t (ix2 r l) = ((A.dk (row t r) l : ℝ) : EReal) := by
  rw [read5, v2_eq]
  exact (side_apply _ _ _ _ (row t r) 1 512 (Nat.lt_of_sub_eq_succ rfl) _ rfl 512 rfl l _ rfl).trans (H.dk _ _)

theorem blk6 (t : Fin cfg0.N) (r : Fin 512) (l : Fin 512) : X0_6 m c t (ix2 r l) = ((A.dv (row t r) l : ℝ) : EReal) := by
  rw [read6, v2_eq]
  exact (side_apply _ _ _ _ (row t r) 2 512 (Nat.lt_of_sub_eq_succ rfl) _ rfl 1024 rfl l _ rfl).trans (H.dv _ _)

theorem blk1 (t : Fin cfg0.N) (r : Fin 512) (l : Fin 128) : iblk m c 1 t (ix2 r l) = ((xl (A.pj (row t r)) l : ℝ) : EReal) := by
  blk_simp [iblk]
  have h0 : ((View.whole main_v3).slice (win0_1.rect t)).emb (ix2 r l) = ix2 (row t r) (⟨3328 + l.val, by omega⟩ : Fin 3456) := by blk_ext [idx1, row]
  rw [h0, v3_eq]
  pointwise
  unfold xl wide
  by_cases hk : 3328 + l.val < 3336
  · rw [dif_pos (by intro a; fin_cases a <;> simp <;> omega), dif_pos hk]
    exact H.pj _ _
  · rw [dif_neg (fun h => hk (by simpa using (h 1).2.2)), dif_neg hk]
    exact sitofp_zero

theorem blk2 (t : Fin cfg0.N) (r : Fin 512) (l : Fin 2048) : iblk m c 2 t (ix2 r l) = ((A.cv (row t r) l : ℝ) : EReal) := by
  rw [← H.cv]
  blk_simp [iblk, V_main_arg1]
  refine congrArg _ ?_
  blk_ext [idx2, row]

theorem blk3 (t : Fin cfg0.N) (r : Fin 512) (l : Fin 512) : iblk m c 3 t (ix2 r l) = ((A.dy (row t r) l : ℝ) : EReal) := by
  rw [← H.dy]
  blk_simp [iblk, V_main_arg7]
  refine congrArg _ ?_
  blk_ext [idx3, row]

theorem blk7 (t : Fin cfg0.N) (r : Fin 512) (l : Fin 128) : iblk m c 7 t (ix2 r l) = ((gl (A.dg (row t r)) (A.db (row t r)) l : ℝ) : EReal) := by
  blk_simp [iblk]
  have h0 : ((View.whole main_v2).slice (win0_7.rect t)).emb (ix2 r l) = ix2 (row t r) (⟨1536 + l.val, by omega⟩ : Fin 1664) := by blk_ext [idx7, row]
  rw [h0, v2_eq]
  refine (side_apply _ _ _ _ (row t r) 3 128 (Nat.lt_of_sub_eq_succ rfl) _ rfl 1536 rfl l _ rfl).trans ?_
  pointwise
  unfold gl
  by_cases h4 : l.val < 4
  · have h8 : l.val < 8 := by omega
    rw [dif_pos h8, dif_pos h4, dif_pos h4]
    exact H.dg _ _
  · by_cases h8 : l.val < 8
    · rw [dif_pos h8, dif_neg h4, dif_neg h4, dif_pos h8]
      exact H.db _ _
    · rw [dif_neg h8, dif_neg h4, dif_neg h8]
      exact sitofp_zero

theorem blk8 (t : Fin cfg0.N) (l : Fin 256) : iblk m c 8 t (ix2 0 l) = ((A.b l : ℝ) : EReal) := by
  rw [← H.b]
  blk_simp [iblk]
  have h0 : ((View.whole main_v4).slice (win0_8.rect t)).emb (ix2 0 l) = ix2 (0 : Fin 1) l := by blk_ext [idx8]
  rw [h0]
  entry_read
  simp only [List.flatten_cons, List.flatten_nil, List.append_nil, List.cons_append, List.nil_append]
  after_results_simp
  pointwise

theorem blk9 (t : Fin cfg0.N) (l : Fin 256) : iblk m c 9 t (ix2 0 l) = ((A.g l : ℝ) : EReal) := by
  rw [← H.g]
  blk_simp [iblk]
  have h0 : ((View.whole main_v5).slice (win0_9.rect t)).emb (ix2 0 l) = ix2 (0 : Fin 1) l := by blk_ext [idx9]
  rw [h0]
  entry_read
  simp only [List.flatten_cons, List.flatten_nil, List.append_nil, List.cons_append, List.nil_append]
  after_results_simp
  pointwise

theorem blk10 (t : Fin cfg0.N) (l : Fin 256) : iblk m c 10 t (ix2 0 l) = ((A.l l : ℝ) : EReal) := by
  rw [← H.l]
  blk_simp [iblk]
  have h0 : ((View.whole main_v6).slice (win0_10.rect t)).emb (ix2 0 l) = ix2 (0 : Fin 1) l := by blk_ext [idx10]
  rw [h0]
  entry_read
  simp only [List.flatten_cons, List.flatten_nil, List.append_nil, List.cons_append, List.nil_append]
  after_results_simp
  pointwise

theorem blk11 (t : Fin cfg0.N) (l : Fin 128) : iblk m c 11 t (ix2 0 l) = ((w4 A.al l : ℝ) : EReal) := by
  blk_simp [iblk]
  have h0 : ((View.whole main_v8).slice (win0_11.rect t)).emb (ix2 0 l) = ix2 (0 : Fin 1) l := by blk_ext [idx11]
  rw [h0, v8_eq]
  pointwise
  unfold w4 wide
  by_cases hk : l.val < 4
  · rw [dif_pos hk, dif_pos hk]
    exact H.al _
  · rw [dif_neg hk, dif_neg hk]
    exact sitofp_zero

theorem blk12 (t : Fin cfg0.N) (l : Fin 128) : iblk m c 12 t (ix2 0 l) = ((w4 A.tb l : ℝ) : EReal) := by
  blk_simp [iblk]
  have h0 : ((View.whole main_v10).slice (win0_12.rect t)).emb (ix2 0 l) = ix2 (0 : Fin 1) l := by blk_ext [idx12]
  rw [h0, v10_eq]
  pointwise
  unfold w4 wide
  by_cases hk : l.val < 4
  · rw [dif_pos hk, dif_pos hk]
    exact H.tb _
  · rw [dif_neg hk, dif_neg hk]
    exact sitofp_zero

/-! ## The results -/

/-- A row of the gradient at the convolutions' outputs. -/
def dcoRow (A : Args) (r : Fin 4096) (k : Fin 2048) : ℝ :=
  if h0 : k.val < 256 then A.pj r ⟨k.val, by omega⟩ * A.dy r ⟨k.val, by omega⟩
  else if h1 : k.val < 512 then
    Gate.du (biased (fun l => A.cv r (cU l)) A.b) A.g A.l (fun l => A.dy r ⟨256 + l.val, by omega⟩) ⟨k.val - 256, by omega⟩
  else if h2 : k.val < 1536 then
    Gate.dhead (fun l => A.cv r (cH ⟨(k.val - 512) / 128, by omega⟩ l)) (heads (A.dq r) (A.dk r) ⟨(k.val - 512) / 128, by omega⟩)
      ⟨(k.val - 512) % 128, by omega⟩
  else Gate.silud (A.cv r k) (A.dv r ⟨k.val - 1536, by omega⟩)

omit H in
theorem dcoRow_A (r : Fin 4096) (k : Fin 256) : dcoRow A r (cA k) = A.pj r ⟨k.val, by omega⟩ * A.dy r ⟨k.val, by omega⟩ := by
  unfold dcoRow
  exact dif_pos k.isLt

omit H in
theorem dcoRow_U (r : Fin 4096) (k : Fin 256) : dcoRow A r (cU k)
    = Gate.du (biased (fun l => A.cv r (cU l)) A.b) A.g A.l (fun l => A.dy r ⟨256 + l.val, by omega⟩) k := by
  unfold dcoRow
  rw [dif_neg (by show ¬ 256 + k.val < 256; omega), dif_pos (by show 256 + k.val < 512; omega)]
  exact congrArg _ (Fin.ext (by show 256 + k.val - 256 = k.val; omega))

omit H in
theorem dcoRow_H (r : Fin 4096) (h : Fin 8) (l : Fin 128) : dcoRow A r (cH h l)
    = Gate.dhead (fun l => A.cv r (cH h l)) (heads (A.dq r) (A.dk r) h) l := by
  unfold dcoRow
  have e : (cH h l).val = 512 + 128 * h.val + l.val := rfl
  have e0 : (⟨((cH h l).val - 512) / 128, by omega⟩ : Fin 8) = h := Fin.ext (by show ((cH h l).val - 512) / 128 = h.val; omega)
  have e1 : (⟨((cH h l).val - 512) % 128, by omega⟩ : Fin 128) = l := Fin.ext (by show ((cH h l).val - 512) % 128 = l.val; omega)
  rw [dif_neg (by omega), dif_neg (by omega), dif_pos (by omega), e0, e1]

omit H in
theorem dcoRow_V (r : Fin 4096) (k : Fin 512) : dcoRow A r (cV k) = Gate.silud (A.cv r (cV k)) (A.dv r k) := by
  unfold dcoRow
  have e : (cV k).val = 1536 + k.val := rfl
  rw [dif_neg (by omega), dif_neg (by omega), dif_neg (by omega)]
  exact congrArg _ (congrArg _ (Fin.ext (by show (cV k).val - 1536 = k.val; omega)))

variable (m c) in
/-- The heads' inputs and gradients in a block. -/
def hx (t : Fin cfg0.N) : Fin 8 → Vec Ideal S512x128 .f32 := ![k0_pay18 (F := Ideal) (iblk m c 2 t), k0_pay19 (F := Ideal) (iblk m c 2 t),
  k0_pay20 (F := Ideal) (iblk m c 2 t), k0_pay21 (F := Ideal) (iblk m c 2 t), k0_pay22 (F := Ideal) (iblk m c 2 t),
  k0_pay23 (F := Ideal) (iblk m c 2 t), k0_pay24 (F := Ideal) (iblk m c 2 t), k0_pay25 (F := Ideal) (iblk m c 2 t)]

variable (m c) in
def hd (t : Fin cfg0.N) : Fin 8 → Vec Ideal S512x128 .f32 := ![k0_pay124 (k0_pay7 (F := Ideal) (X0_4 m c t)), k0_pay125 (k0_pay7 (F := Ideal) (X0_4 m c t)),
  k0_pay126 (k0_pay7 (F := Ideal) (X0_4 m c t)), k0_pay127 (k0_pay7 (F := Ideal) (X0_4 m c t)), k0_pay128 (k0_pay8 (F := Ideal) (X0_5 m c t)),
  k0_pay129 (k0_pay8 (F := Ideal) (X0_5 m c t)), k0_pay130 (k0_pay8 (F := Ideal) (X0_5 m c t)), k0_pay131 (k0_pay8 (F := Ideal) (X0_5 m c t))]

theorem hx_apply (t : Fin cfg0.N) (h : Fin 8) (r : Fin 512) (l : Fin 128) : hx m c t h (ix2 r l) = ((A.cv (row t r) (cH h l) : ℝ) : EReal) := by
  rw [← blk2 H]
  unfold hx
  generalize iblk m c 2 t = v
  rcases h with ⟨h, hh⟩
  interval_cases h
  · exact (show k0_pay18 (F := Ideal) v (ix2 r l) = v (ix2 r (cH 0 l)) by pointwise [k0_pay18]; rfl)
  · exact (show k0_pay19 (F := Ideal) v (ix2 r l) = v (ix2 r (cH 1 l)) by pointwise [k0_pay19]; rfl)
  · exact (show k0_pay20 (F := Ideal) v (ix2 r l) = v (ix2 r (cH 2 l)) by pointwise [k0_pay20]; rfl)
  · exact (show k0_pay21 (F := Ideal) v (ix2 r l) = v (ix2 r (cH 3 l)) by pointwise [k0_pay21]; rfl)
  · exact (show k0_pay22 (F := Ideal) v (ix2 r l) = v (ix2 r (cH 4 l)) by pointwise [k0_pay22]; rfl)
  · exact (show k0_pay23 (F := Ideal) v (ix2 r l) = v (ix2 r (cH 5 l)) by pointwise [k0_pay23]; rfl)
  · exact (show k0_pay24 (F := Ideal) v (ix2 r l) = v (ix2 r (cH 6 l)) by pointwise [k0_pay24]; rfl)
  · exact (show k0_pay25 (F := Ideal) v (ix2 r l) = v (ix2 r (cH 7 l)) by pointwise [k0_pay25]; rfl)

theorem hd_apply (t : Fin cfg0.N) (h : Fin 8) (r : Fin 512) (l : Fin 128) :
    hd m c t h (ix2 r l) = ((heads (A.dq (row t r)) (A.dk (row t r)) h l : ℝ) : EReal) := by
  have h4 := blk4 H t r
  have h5 := blk5 H t r
  unfold hd
  generalize X0_4 m c t = v at h4 ⊢
  generalize X0_5 m c t = w at h5 ⊢
  rcases h with ⟨h, hh⟩
  interval_cases h
  · exact (show k0_pay124 (F := Ideal) (k0_pay7 (F := Ideal) v) (ix2 r l) = v (ix2 r (Head.col 0 l)) by
      pointwise [k0_pay124, k0_pay7]
      exact congrArg v (congrArg (ix2 r) (Fin.ext (by show l.val = 128 * 0 + l.val; omega)))).trans (h4 _)
  · exact (show k0_pay125 (F := Ideal) (k0_pay7 (F := Ideal) v) (ix2 r l) = v (ix2 r (Head.col 1 l)) by pointwise [k0_pay125, k0_pay7]; rfl).trans (h4 _)
  · exact (show k0_pay126 (F := Ideal) (k0_pay7 (F := Ideal) v) (ix2 r l) = v (ix2 r (Head.col 2 l)) by pointwise [k0_pay126, k0_pay7]; rfl).trans (h4 _)
  · exact (show k0_pay127 (F := Ideal) (k0_pay7 (F := Ideal) v) (ix2 r l) = v (ix2 r (Head.col 3 l)) by pointwise [k0_pay127, k0_pay7]; rfl).trans (h4 _)
  · exact (show k0_pay128 (F := Ideal) (k0_pay8 (F := Ideal) w) (ix2 r l) = w (ix2 r (Head.col 0 l)) by
      pointwise [k0_pay128, k0_pay8]
      exact congrArg w (congrArg (ix2 r) (Fin.ext (by show l.val = 128 * 0 + l.val; omega)))).trans (h5 _)
  · exact (show k0_pay129 (F := Ideal) (k0_pay8 (F := Ideal) w) (ix2 r l) = w (ix2 r (Head.col 1 l)) by pointwise [k0_pay129, k0_pay8]; rfl).trans (h5 _)
  · exact (show k0_pay130 (F := Ideal) (k0_pay8 (F := Ideal) w) (ix2 r l) = w (ix2 r (Head.col 2 l)) by pointwise [k0_pay130, k0_pay8]; rfl).trans (h5 _)
  · exact (show k0_pay131 (F := Ideal) (k0_pay8 (F := Ideal) w) (ix2 r l) = w (ix2 r (Head.col 3 l)) by pointwise [k0_pay131, k0_pay8]; rfl).trans (h5 _)

/-- The operands of the layernorm's branch. -/
theorem opB (t : Fin cfg0.N) (l : Fin 256) : k0_pay11 (F := Ideal) (iblk m c 8 t) (ix2 0 l) = ((A.b l : ℝ) : EReal) := by
  rw [← blk8 H t]; generalize iblk m c 8 t = v; pointwise [k0_pay11]

theorem opG (t : Fin cfg0.N) (l : Fin 256) : k0_pay12 (F := Ideal) (iblk m c 9 t) (ix2 0 l) = ((A.g l : ℝ) : EReal) := by
  rw [← blk9 H t]; generalize iblk m c 9 t = v; pointwise [k0_pay12]

theorem opL (t : Fin cfg0.N) (l : Fin 256) : k0_pay13 (F := Ideal) (iblk m c 10 t) (ix2 0 l) = ((A.l l : ℝ) : EReal) := by
  rw [← blk10 H t]; generalize iblk m c 10 t = v; pointwise [k0_pay13]

theorem opU (t : Fin cfg0.N) (r : Fin 512) (l : Fin 256) : k0_pay17 (F := Ideal) (iblk m c 2 t) (ix2 r l) = ((A.cv (row t r) (cU l) : ℝ) : EReal) := by
  rw [← blk2 H t]; generalize iblk m c 2 t = v; pointwise [k0_pay17]; rfl

theorem opD (t : Fin cfg0.N) (r : Fin 512) (l : Fin 256) :
    k0_pay123 (F := Ideal) (iblk m c 3 t) (ix2 r l) = ((A.dy (row t r) ⟨256 + l.val, by omega⟩ : ℝ) : EReal) := by
  rw [← blk3 H t]; generalize iblk m c 3 t = v; pointwise [k0_pay123]

theorem opA (t : Fin cfg0.N) (r : Fin 512) (l : Fin 256) :
    k0_pay122 (F := Ideal) (iblk m c 3 t) (ix2 r l) = ((A.dy (row t r) ⟨l.val, by omega⟩ : ℝ) : EReal) := by
  rw [← blk3 H t]; generalize iblk m c 3 t = v; pointwise [k0_pay122]

theorem opC (t : Fin cfg0.N) (r : Fin 512) (l : Fin 256) : k0_pay16 (F := Ideal) (iblk m c 2 t) (ix2 r l) = ((A.cv (row t r) (cA l) : ℝ) : EReal) := by
  rw [← blk2 H t]; generalize iblk m c 2 t = v; pointwise [k0_pay16]; rfl

theorem opV (t : Fin cfg0.N) (r : Fin 512) (l : Fin 512) : k0_pay26 (F := Ideal) (iblk m c 2 t) (ix2 r l) = ((A.cv (row t r) (cV l) : ℝ) : EReal) := by
  rw [← blk2 H t]; generalize iblk m c 2 t = v; pointwise [k0_pay26]; rfl

theorem opP (t : Fin cfg0.N) (r : Fin 512) (l : Fin 256) : k0_pay5 (F := Ideal) (X0_0 m c t) (ix2 r l) = ((A.pj (row t r) ⟨l.val, by omega⟩ : ℝ) : EReal) := by
  rw [← blk0 H t]; generalize X0_0 m c t = v; pointwise [k0_pay5]

theorem opDV (t : Fin cfg0.N) (r : Fin 512) (l : Fin 512) : k0_pay9 (F := Ideal) (X0_6 m c t) (ix2 r l) = ((A.dv (row t r) l : ℝ) : EReal) := by
  rw [← blk6 H t]; generalize X0_6 m c t = v; pointwise [k0_pay9]

theorem opX (t : Fin cfg0.N) (r : Fin 512) (l : Fin 128) : k0_pay6 (F := Ideal) (iblk m c 1 t) (ix2 r l) = ((xl (A.pj (row t r)) l : ℝ) : EReal) := by
  rw [← blk1 H t]; generalize iblk m c 1 t = v; pointwise [k0_pay6]

theorem opGL (t : Fin cfg0.N) (r : Fin 512) (l : Fin 128) :
    k0_pay10 (F := Ideal) (iblk m c 7 t) (ix2 r l) = ((gl (A.dg (row t r)) (A.db (row t r)) l : ℝ) : EReal) := by
  rw [← blk7 H t]; generalize iblk m c 7 t = v; pointwise [k0_pay10]

theorem opAL (t : Fin cfg0.N) (l : Fin 128) : k0_pay14 (F := Ideal) (iblk m c 11 t) (ix2 0 l) = ((w4 A.al l : ℝ) : EReal) := by
  rw [← blk11 H t]; generalize iblk m c 11 t = v; pointwise [k0_pay14]

theorem opT (t : Fin cfg0.N) (l : Fin 128) : k0_pay15 (F := Ideal) (iblk m c 12 t) (ix2 0 l) = ((w4 A.tb l : ℝ) : EReal) := by
  rw [← blk12 H t]; generalize iblk m c 12 t = v; pointwise [k0_pay15]

variable (m c) in
/-- What the body puts in the first result's block. -/
def dcoBlk (t : Fin cfg0.N) : Vec Ideal S512x2048 .f32 :=
  parts (mulf (k0_pay5 (F := Ideal) (X0_0 m c t)) (k0_pay122 (F := Ideal) (iblk m c 3 t)))
    (duBlk (k0_pay11 (F := Ideal) (iblk m c 8 t)) (k0_pay12 (F := Ideal) (iblk m c 9 t)) (k0_pay13 (F := Ideal) (iblk m c 10 t))
      (k0_pay17 (F := Ideal) (iblk m c 2 t)) (k0_pay123 (F := Ideal) (iblk m c 3 t)))
    (fun h => dheadBlk (hx m c t h) (hd m c t h))
    (k0_pay140 (F := Ideal) (k0_pay9 (F := Ideal) (X0_6 m c t)) (k0_pay26 (F := Ideal) (iblk m c 2 t)) (k0_pay105 (F := Ideal) (k0_pay26 (F := Ideal) (iblk m c 2 t)))
      (k0_pay107 (F := Ideal) (k0_pay26 (F := Ideal) (iblk m c 2 t))) (k0_pay108 (F := Ideal) (k0_pay26 (F := Ideal) (iblk m c 2 t))))

theorem dcoBlk_apply (t : Fin cfg0.N) (r : Fin 512) (k : Fin 2048) : dcoBlk m c t (ix2 r k) = ((dcoRow A (row t r) k : ℝ) : EReal) := by
  unfold dcoBlk
  rcases exists_c k with ⟨a, rfl⟩ | ⟨a, rfl⟩ | ⟨h, l, rfl⟩ | ⟨a, rfl⟩
  · rw [parts_A, dcoRow_A, EReal.coe_mul, ← opP H, ← opA H]; rfl
  · rw [parts_U, dcoRow_U, du_apply _ _ _ _ _ _ _ _ _ _ (opB H t) (opG H t) (opL H t) (opU H t) (opD H t)]
  · rw [parts_H, dcoRow_H, dhead_apply _ _ _ _ (hx_apply H t h) (hd_apply H t h)]
  · rw [parts_V, dcoRow_V, dv_apply _ _ _ _ (opV H t) (opDV H t)]

omit H in
/-- The other heads' gradients are the first one's operations under other names. -/
theorem head1 (x d : Vec Ideal S512x128 .f32) : k0_pay160 (F := Ideal) (k0_pay47 x) (k0_pay158 (k0_pay49 x) (k0_pay51 x) (k0_pay53 x) (k0_pay54 x) d) (k0_pay159 x (k0_pay50 x) (k0_pay51 x) (k0_pay53 x) (k0_pay54 x) d)
    = dheadBlk x d := rfl

omit H in
theorem head2 (x d : Vec Ideal S512x128 .f32) : k0_pay156 (F := Ideal) x (k0_pay55 x) (k0_pay57 x) (k0_pay58 x) (k0_pay59 x) (k0_pay62 (k0_pay60 x)) (k0_pay63 (k0_pay60 x)) d
    = dheadBlk x d := rfl

omit H in
theorem head3 (x d : Vec Ideal S512x128 .f32) : k0_pay155 (F := Ideal) (k0_pay64 x) (k0_pay153 (k0_pay66 x) (k0_pay68 x) (k0_pay70 x) (k0_pay71 x) d) (k0_pay154 x (k0_pay67 x) (k0_pay68 x) (k0_pay70 x) (k0_pay71 x) d) (FloatOps.ofBits FTy.f32 0#32)
    = dheadBlk x d := rfl

omit H in
theorem head4 (x d : Vec Ideal S512x128 .f32) : k0_pay151 (F := Ideal) x (k0_pay72 x) (k0_pay74 x) (k0_pay75 x) (k0_pay76 x) (k0_pay78 x) (k0_pay80 (k0_pay79 x) (FloatOps.ofBits FTy.f32 3204448256#32)) d
    = dheadBlk x d := rfl

omit H in
theorem head5 (x d : Vec Ideal S512x128 .f32) : k0_pay150 (F := Ideal) (k0_pay81 x) (k0_pay147 (k0_pay83 x) (k0_pay85 x) (k0_pay87 x) (k0_pay88 x) d) (k0_pay148 x (k0_pay84 x) (k0_pay85 x) (k0_pay87 x) (k0_pay88 x) d) k0_pay149
    = dheadBlk x d := rfl

omit H in
theorem head6 (x d : Vec Ideal S512x128 .f32) : k0_pay145 (F := Ideal) x (k0_pay89 x) (k0_pay91 x) (k0_pay92 x) (k0_pay93 x) (k0_pay95 x) (k0_pay96 x) d
    = dheadBlk x d := rfl

omit H in
theorem head7 (x d : Vec Ideal S512x128 .f32) : k0_pay144 (F := Ideal) (k0_pay97 x) (k0_pay142 (k0_pay99 (k0_pay97 x)) (k0_pay101 x (k0_pay97 x)) (k0_pay103 x (k0_pay97 x)) (k0_pay104 x (k0_pay97 x)) d) (k0_pay143 x (k0_pay100 (k0_pay97 x)) (k0_pay101 x (k0_pay97 x)) (k0_pay103 x (k0_pay97 x)) (k0_pay104 x (k0_pay97 x)) d)
    = dheadBlk x d := rfl

omit H in
theorem parts_eq (v1 v42 : Vec Ideal S512x256 .f32) (v50 v53 : Vec Ideal S512x1 .f32) (v279 : Vec Ideal S512x256 .f32) (v335 : Vec Ideal S512x512 .f32)
    (v359 v383 v407 v431 v455 v479 v503 v527 : Vec Ideal S512x128 .f32) (v545 : Vec Ideal S512x256 .f32) (v547 : Vec Ideal S512 .f32)
    (b : Fin 8 → Vec Ideal S512x128 .f32) (h0 : v527 = b 0) (h1 : v503 = b 1) (h2 : v479 = b 2) (h3 : v455 = b 3) (h4 : v431 = b 4) (h5 : v407 = b 5)
    (h6 : v383 = b 6) (h7 : v359 = b 7) :
    k0_pay169 (F := Ideal) v1 v42 v50 v53 v279 v335 v359 v383 v407 v431 v455 v479 v503 v527 v545 v547
      = parts (mulf (F := Ideal) (φ := .f32) v1 v279) (k0_pay167 (F := Ideal) v42 v50 v53 v545 v547) b v335 := by
  subst h0 h1 h2 h3 h4 h5 h6 h7; rfl

set_option maxHeartbeats 1600000 in
theorem dco_block (t : Fin cfg0.N) (r : Fin 512) (k : Fin 2048) : (outsAt0 m c t.val t.isLt).1 (ix2 r k) = ((dcoRow A (row t r) k : ℝ) : EReal) := by
  have key := dcoBlk_apply H t r k
  by_cases h : t.val % 8 = 0
  · rw [outsAt0_A m c t h]; frame_out
    exact (congrFun (parts_eq _ _ _ _ _ _ _ _ _ _ _ _ _ _ _ _ (fun h => dheadBlk (hx m c t h) (hd m c t h)) rfl (head1 _ _) (head2 _ _)
      (head3 _ _) (head4 _ _) (head5 _ _) (head6 _ _) (head7 _ _)) (ix2 r k)).trans key
  · rw [outsAt0_B m c t h]; frame_out
    exact (congrFun (parts_eq _ _ _ _ _ _ _ _ _ _ _ _ _ _ _ _ (fun h => dheadBlk (hx m c t h) (hd m c t h)) rfl (head1 _ _) (head2 _ _)
      (head3 _ _) (head4 _ _) (head5 _ _) (head6 _ _) (head7 _ _)) (ix2 r k)).trans key

/-- The first result: the gradient at the convolutions' outputs. -/
theorem dco_final (r : Fin 4096) (k : Fin 2048) : (dats m 0 c).arrAt 13 cfg0.N (ix2 r k) = ((dcoRow A r k : ℝ) : EReal) := by
  refine congrFun ((dats m 0 c).arrAt_eq_of_covers 13
    (fun i => ((dcoRow A (i 0) (i 1) : ℝ) : EReal)) (by decide +kernel) fun t hf y => ?_) (ix2 r k)
  obtain ⟨a, b, rfl⟩ : ∃ (a : Fin 512) (b : Fin 2048), y = ix2 a b := ⟨y 0, y 1, eq_ix2 (n0 := 512) (n1 := 2048) y⟩
  blk_simp
  rw [after0_13]
  have h0 : ((View.whole main_v11_0).slice (win0_13.rect t)).emb (ix2 a b) = ix2 (row t a) b := by blk_ext [idx13, row]
  rw [h0]
  exact dco_block H t a b

/-- A row of the gradient at the factor. -/
def dabRow (A : Args) (r : Fin 4096) (k : Fin 256) : ℝ := A.dy r ⟨k.val, by omega⟩ * A.cv r (cA k)

theorem dab_block (t : Fin cfg0.N) (r : Fin 512) (k : Fin 256) :
    (outsAt0 m c t.val t.isLt).2.1 (ix2 r k) = ((dabRow A (row t r) k : ℝ) : EReal) := by
  have key : k0_pay168 (F := Ideal) (k0_pay16 (F := Ideal) (iblk m c 2 t)) (k0_pay122 (F := Ideal) (iblk m c 3 t)) (ix2 r k)
      = ((dabRow A (row t r) k : ℝ) : EReal) := by
    unfold dabRow
    rw [EReal.coe_mul, ← opA H, ← opC H]; rfl
  by_cases h : t.val % 8 = 0
  · rw [outsAt0_A m c t h]; frame_out; exact key
  · rw [outsAt0_B m c t h]; frame_out; exact key

/-- The second result: the gradient at the factor. -/
theorem dab_final (r : Fin 4096) (k : Fin 256) :
    (dats m 0 c).arrAt 14 cfg0.N (ix2 r k) = ((dabRow A r k : ℝ) : EReal) := by
  refine congrFun ((dats m 0 c).arrAt_eq_of_covers 14
    (fun i => ((dabRow A (i 0) (i 1) : ℝ) : EReal))
    (by decide +kernel) fun t hf y => ?_) (ix2 r k)
  obtain ⟨a, b, rfl⟩ : ∃ (a : Fin 512) (b : Fin 256), y = ix2 a b := ⟨y 0, y 1, eq_ix2 (n0 := 512) (n1 := 256) y⟩
  blk_simp
  rw [after0_14]
  have h0 : ((View.whole main_v11_1).slice (win0_14.rect t)).emb (ix2 a b) = ix2 (row t a) b := by blk_ext [idx14, row]
  rw [h0]
  exact dab_block H t a b

omit H in
/-- The accumulators' blocks start at zero. -/
theorem zero256 (p : Vec Ideal S1x256 .f32) (h : p = broadcast S1x256 (Scalar.ofBits (F := Ideal) .f32 0x00000000#32)) (l : Fin 256) :
    p (ix2 0 l) = 0 := by subst h; pointwise

omit H in
theorem zero128 (p : Vec Ideal S1x128 .f32) (h : p = broadcast S1x128 (Scalar.ofBits (F := Ideal) .f32 0x00000000#32)) (l : Fin 128) :
    p (ix2 0 l) = 0 := by subst h; pointwise

omit H in
/-- The sum over the rows of every block is the sum over the rows of the array. -/
theorem sum_rows (f : Fin 4096 → ℝ) : ∑ t : Fin cfg0.N, ∑ r : Fin 512, f (row t r) = ∑ r, f r :=
  Fin.sum_mul_add_congr (S := cfg0.N) (n := 512) (fun t r _ => rfl) (by rw [show cfg0.N = 8 from N_0])

/-- The layernorm's row and its gradient, of the arguments. -/
def ur (A : Args) (r : Fin 4096) : Fin 256 → ℝ := biased (fun l => A.cv r (cU l)) A.b
def dr (A : Args) (r : Fin 4096) (l : Fin 256) : ℝ := A.dy r ⟨256 + l.val, by omega⟩

/-- The gradient at the bias. -/
theorem dbb_final (l : Fin 256) : (dats m 0 c).arrAt 16 cfg0.N (ix2 0 l) = ((∑ r, Gate.du (ur A (r)) A.g A.l (dr A (r)) (l) : ℝ) : EReal) := by
  have key (t : Fin cfg0.N) (xo) (l : Fin 256) := dbb_apply _ _ _ _ _ _ _ _ _ _ (opB H t) (opG H t) (opL H t) (opU H t) (opD H t) xo l
  refine congrFun ((dats m 0 c).arrAt_eq_of_after_last 16 t0_7 (by decide +kernel)
    (fun i => ((∑ r, Gate.du (ur A (r)) A.g A.l (dr A (r)) (i 1) : ℝ) : EReal)) fun j => ?_) (ix2 0 l)
  blk_simp
  rw [after0_16, Pipeline.eq_sum_fin_of_reset_step_apply_last (fun n h => (outsAt0 m c n h).2.2.2.1) 8 (fun _ => 0)
    (fun t i => ((∑ r, Gate.du (ur A (row t r)) A.g A.l (dr A (row t r)) (i 1) : ℝ) : EReal))
    (fun t h j => ?_) (fun t h j => ?_) (le_of_eq N_0) t0_7 rfl j]
  · rw [coe_sum, zero_add, sum_rows fun r => Gate.du (ur A (r)) A.g A.l (dr A (r)) (j 1)]
  · obtain ⟨b, rfl⟩ : ∃ (b : Fin 256), j = ix2 0 b := one_row j
    rw [outsAt0_A m c t h]; frame_out
    refine (key t _ b).trans ?_
    rw [zero256 (k0_pay170 (F := Ideal)) rfl]; rfl
  · obtain ⟨b, rfl⟩ : ∃ (b : Fin 256), j = ix2 0 b := one_row j
    rw [outsAt0_B m c t h]; frame_out
    exact key t _ b

/-- The gradient at the layernorm's gain. -/
theorem dlg_final (l : Fin 256) : (dats m 0 c).arrAt 17 cfg0.N (ix2 0 l) = ((∑ r, Gate.nrm (ur A (r)) (l) * Gate.e (ur A (r)) A.g A.l (dr A (r)) (l) : ℝ) : EReal) := by
  have key (t : Fin cfg0.N) (xo) (l : Fin 256) := dlg_apply _ _ _ _ _ _ _ _ _ _ (opB H t) (opG H t) (opL H t) (opU H t) (opD H t) xo l
  refine congrFun ((dats m 0 c).arrAt_eq_of_after_last 17 t0_7 (by decide +kernel)
    (fun i => ((∑ r, Gate.nrm (ur A (r)) (i 1) * Gate.e (ur A (r)) A.g A.l (dr A (r)) (i 1) : ℝ) : EReal)) fun j => ?_) (ix2 0 l)
  blk_simp
  rw [after0_17, Pipeline.eq_sum_fin_of_reset_step_apply_last (fun n h => (outsAt0 m c n h).2.2.2.2.1) 8 (fun _ => 0)
    (fun t i => ((∑ r, Gate.nrm (ur A (row t r)) (i 1) * Gate.e (ur A (row t r)) A.g A.l (dr A (row t r)) (i 1) : ℝ) : EReal))
    (fun t h j => ?_) (fun t h j => ?_) (le_of_eq N_0) t0_7 rfl j]
  · rw [coe_sum, zero_add, sum_rows fun r => Gate.nrm (ur A (r)) (j 1) * Gate.e (ur A (r)) A.g A.l (dr A (r)) (j 1)]
  · obtain ⟨b, rfl⟩ : ∃ (b : Fin 256), j = ix2 0 b := one_row j
    rw [outsAt0_A m c t h]; frame_out
    refine (key t _ b).trans ?_
    rw [zero256 (k0_pay171 (F := Ideal)) rfl]; rfl
  · obtain ⟨b, rfl⟩ : ∃ (b : Fin 256), j = ix2 0 b := one_row j
    rw [outsAt0_B m c t h]; frame_out
    exact key t _ b

/-- The gradient at the layernorm's shift. -/
theorem dlb_final (l : Fin 256) : (dats m 0 c).arrAt 18 cfg0.N (ix2 0 l) = ((∑ r, Gate.e (ur A (r)) A.g A.l (dr A (r)) (l) : ℝ) : EReal) := by
  have key (t : Fin cfg0.N) (xo) (l : Fin 256) := dlb_apply _ _ _ _ _ _ _ _ _ _ (opB H t) (opG H t) (opL H t) (opU H t) (opD H t) xo l
  refine congrFun ((dats m 0 c).arrAt_eq_of_after_last 18 t0_7 (by decide +kernel)
    (fun i => ((∑ r, Gate.e (ur A (r)) A.g A.l (dr A (r)) (i 1) : ℝ) : EReal)) fun j => ?_) (ix2 0 l)
  blk_simp
  rw [after0_18, Pipeline.eq_sum_fin_of_reset_step_apply_last (fun n h => (outsAt0 m c n h).2.2.2.2.2.1) 8 (fun _ => 0)
    (fun t i => ((∑ r, Gate.e (ur A (row t r)) A.g A.l (dr A (row t r)) (i 1) : ℝ) : EReal))
    (fun t h j => ?_) (fun t h j => ?_) (le_of_eq N_0) t0_7 rfl j]
  · rw [coe_sum, zero_add, sum_rows fun r => Gate.e (ur A (r)) A.g A.l (dr A (r)) (j 1)]
  · obtain ⟨b, rfl⟩ : ∃ (b : Fin 256), j = ix2 0 b := one_row j
    rw [outsAt0_A m c t h]; frame_out
    refine (key t _ b).trans ?_
    rw [zero256 (k0_pay172 (F := Ideal)) rfl]; rfl
  · obtain ⟨b, rfl⟩ : ∃ (b : Fin 256), j = ix2 0 b := one_row j
    rw [outsAt0_B m c t h]; frame_out
    exact key t _ b

/-- A row of the gradient at the gates' columns: the decays' lanes, the step sizes', zeros. -/
def dblRow (A : Args) (r : Fin 4096) (l : Fin 128) : ℝ :=
  dbeta (xl (A.pj r)) (gl (A.dg r) (A.db r)) l + dt (xl (A.pj r)) (gl (A.dg r) (A.db r)) (w4 A.al) (w4 A.tb) l

omit H in
theorem lanes_ne (hz : ∀ (r : Fin 4096) (k : Fin 4), A.pj r ⟨3328 + k.val, by omega⟩ + A.tb k ≠ 0) (r : Fin 4096) (l : Fin 128) (hl : l.val < 4) :
    xl (A.pj r) l + w4 A.tb l ≠ 0 := by
  have e0 : xl (A.pj r) l = A.pj r ⟨3328 + l.val, by omega⟩ := dif_pos (show 3328 + l.val < 3336 by omega)
  have e1 : w4 A.tb l = A.tb ⟨l.val, hl⟩ := dif_pos hl
  rw [e0, e1]
  exact hz r ⟨l.val, hl⟩

section
variable (hz : ∀ (r : Fin 4096) (k : Fin 4), A.pj r ⟨3328 + k.val, by omega⟩ + A.tb k ≠ 0)
include hz

theorem dbl_block (t : Fin cfg0.N) (r : Fin 512) (l : Fin 128) : (outsAt0 m c t.val t.isLt).2.2.1 (ix2 r l) = ((dblRow A (row t r) l : ℝ) : EReal) := by
  have key := dblk_apply _ _ _ _ _ _ _ _ (opX H t) (opGL H t) (opAL H t) (opT H t) (fun r l hl => lanes_ne hz (row t r) l hl) r l
  by_cases h : t.val % 8 = 0
  · rw [outsAt0_A m c t h]; frame_out; exact key
  · rw [outsAt0_B m c t h]; frame_out; exact key

/-- The third result: the gradient at the gates' columns. -/
theorem dbl_final (r : Fin 4096) (l : Fin 128) : (dats m 0 c).arrAt 15 cfg0.N (ix2 r l) = ((dblRow A r l : ℝ) : EReal) := by
  refine congrFun ((dats m 0 c).arrAt_eq_of_covers 15
    (fun i => ((dblRow A (i 0) (i 1) : ℝ) : EReal)) (by decide +kernel) fun t hf y => ?_) (ix2 r l)
  obtain ⟨a, b, rfl⟩ : ∃ (a : Fin 512) (b : Fin 128), y = ix2 a b := ⟨y 0, y 1, eq_ix2 (n0 := 512) (n1 := 128) y⟩
  blk_simp
  rw [after0_15]
  have h0 : ((View.whole main_v11_2).slice (win0_15.rect t)).emb (ix2 a b) = ix2 (row t a) b := by blk_ext [idx15, row]
  rw [h0]
  exact dbl_block H hz t a b

/-- The gradient at the decays' offsets. -/
theorem ddtb_final (l : Fin 128) : (dats m 0 c).arrAt 20 cfg0.N (ix2 0 l) = ((∑ r, dt (xl (A.pj (r))) (gl (A.dg (r)) (A.db (r))) (w4 A.al) (w4 A.tb) (l) : ℝ) : EReal) := by
  have key (t : Fin cfg0.N) (xo) (l : Fin 128) := ddtb_apply _ _ _ _ _ _ _ _ (opX H t) (opGL H t) (opAL H t) (opT H t) (fun r l hl => lanes_ne hz (row t r) l hl) xo l
  refine congrFun ((dats m 0 c).arrAt_eq_of_after_last 20 t0_7 (by decide +kernel)
    (fun i => ((∑ r, dt (xl (A.pj (r))) (gl (A.dg (r)) (A.db (r))) (w4 A.al) (w4 A.tb) (i 1) : ℝ) : EReal)) fun j => ?_) (ix2 0 l)
  blk_simp
  rw [after0_20, Pipeline.eq_sum_fin_of_reset_step_apply_last (fun n h => (outsAt0 m c n h).2.2.2.2.2.2.2) 8 (fun _ => 0)
    (fun t i => ((∑ r, dt (xl (A.pj (row t r))) (gl (A.dg (row t r)) (A.db (row t r))) (w4 A.al) (w4 A.tb) (i 1) : ℝ) : EReal))
    (fun t h j => ?_) (fun t h j => ?_) (le_of_eq N_0) t0_7 rfl j]
  · rw [coe_sum, zero_add, sum_rows fun r => dt (xl (A.pj (r))) (gl (A.dg (r)) (A.db (r))) (w4 A.al) (w4 A.tb) (j 1)]
  · obtain ⟨b, rfl⟩ : ∃ (b : Fin 128), j = ix2 0 b := one_row j
    rw [outsAt0_A m c t h]; frame_out
    refine (key t _ b).trans ?_
    rw [zero128 (k0_pay174 (F := Ideal)) rfl]; rfl
  · obtain ⟨b, rfl⟩ : ∃ (b : Fin 128), j = ix2 0 b := one_row j
    rw [outsAt0_B m c t h]; frame_out
    exact key t _ b

end

/-- The gradient at the decays' logarithms. -/
theorem dalog_final (l : Fin 128) : (dats m 0 c).arrAt 19 cfg0.N (ix2 0 l) = ((-(∑ r, gm (gl (A.dg (r)) (A.db (r))) (l) * Gate.sp (xl (A.pj (r)) (l) + w4 A.tb (l))) * Real.exp (w4 A.al (l)) : ℝ) : EReal) := by
  have key (t : Fin cfg0.N) (xo) (l : Fin 128) := dalog_apply _ _ _ _ _ _ _ _ (opX H t) (opGL H t) (opAL H t) (opT H t) xo l
  refine congrFun ((dats m 0 c).arrAt_eq_of_after_last 19 t0_7 (by decide +kernel)
    (fun i => ((-(∑ r, gm (gl (A.dg (r)) (A.db (r))) (i 1) * Gate.sp (xl (A.pj (r)) (i 1) + w4 A.tb (i 1))) * Real.exp (w4 A.al (i 1)) : ℝ) : EReal)) fun j => ?_) (ix2 0 l)
  blk_simp
  rw [after0_19, Pipeline.eq_sum_fin_of_reset_step_apply_last (fun n h => (outsAt0 m c n h).2.2.2.2.2.2.1) 8 (fun _ => 0)
    (fun t i => ((-(∑ r, gm (gl (A.dg (row t r)) (A.db (row t r))) (i 1) * Gate.sp (xl (A.pj (row t r)) (i 1) + w4 A.tb (i 1))) * Real.exp (w4 A.al (i 1)) : ℝ) : EReal))
    (fun t h j => ?_) (fun t h j => ?_) (le_of_eq N_0) t0_7 rfl j]
  · rw [coe_sum, zero_add, ← Finset.sum_mul, Finset.sum_neg_distrib, sum_rows fun r => gm (gl (A.dg (r)) (A.db (r))) (j 1) * Gate.sp (xl (A.pj (r)) (j 1) + w4 A.tb (j 1))]
  · obtain ⟨b, rfl⟩ : ∃ (b : Fin 128), j = ix2 0 b := one_row j
    rw [outsAt0_A m c t h]; frame_out
    refine (key t _ b).trans ?_
    rw [zero128 (k0_pay173 (F := Ideal)) rfl]; rfl
  · obtain ⟨b, rfl⟩ : ∃ (b : Fin 128), j = ix2 0 b := one_row j
    rw [outsAt0_B m c t h]; frame_out
    exact key t _ b

end Cert.Proof.Stage2

end
-- ==== Proof.Stage2Ref.lean ====
/- Hand-written, untrusted: the reference of the gates' gradient, at real arrays. -/
module

public import proofs.«01_k».proof.Proof.Index
public import proofs.«01_k».proof.Proof.Stage2
public import proofs.«01_k».proof.Proof.Gen.Stage2RefIdeal.Read

@[expose] public section

set_option maxRecDepth 16384

noncomputable section

namespace Cert.Proof.Stage2

namespace Ref
open Idealize.ShloMosaic Idealize.ShloMosaic.TcCoe Idealize.SL.Sem Idealize.ShloMosaic.Pointwise
open Cert.Stage2RefIdeal Cert.Stage2RefIdeal.Gen Cert.Stage2RefIdeal.Read

variable (x0 : (⟨S4096x3336, .f32⟩ : BufTy).Contents (Elt Ideal)) (x1 : (⟨S4096x2048, .f32⟩ : BufTy).Contents (Elt Ideal))
  (x2 x3 x4 : (⟨S256, .f32⟩ : BufTy).Contents (Elt Ideal)) (x5 x6 : (⟨S4, .f32⟩ : BufTy).Contents (Elt Ideal))
  (x7 x8 x9 x10 : (⟨S4096x512, .f32⟩ : BufTy).Contents (Elt Ideal)) (x11 x12 : (⟨S4096x4, .f32⟩ : BufTy).Contents (Elt Ideal)) (A : Args)
  (h0 : ∀ r k, x0 (ix2 r k) = ((A.pj r k : ℝ) : EReal)) (h1 : ∀ r k, x1 (ix2 r k) = ((A.cv r k : ℝ) : EReal))
  (h2 : ∀ k, x2 (ix1 k) = ((A.b k : ℝ) : EReal)) (h3 : ∀ k, x3 (ix1 k) = ((A.g k : ℝ) : EReal)) (h4 : ∀ k, x4 (ix1 k) = ((A.l k : ℝ) : EReal))
  (h5 : ∀ k, x5 (ix1 k) = ((A.al k : ℝ) : EReal)) (h6 : ∀ k, x6 (ix1 k) = ((A.tb k : ℝ) : EReal))
  (h7 : ∀ r k, x7 (ix2 r k) = ((A.dy r k : ℝ) : EReal)) (h8 : ∀ r k, x8 (ix2 r k) = ((A.dq r k : ℝ) : EReal))
  (h9 : ∀ r k, x9 (ix2 r k) = ((A.dk r k : ℝ) : EReal)) (h10 : ∀ r k, x10 (ix2 r k) = ((A.dv r k : ℝ) : EReal))
  (h11 : ∀ r k, x11 (ix2 r k) = ((A.dg r k : ℝ) : EReal)) (h12 : ∀ r k, x12 (ix2 r k) = ((A.db r k : ℝ) : EReal))

/-! ## The layernorm's row -/

section
include h1 h2

theorem u_apply (r : Fin 4096) (l : Fin 256) : val_main_v9 x1 x2 (ix2 r l) = ((ur A r l : ℝ) : EReal) := by
  pointwise [val_main_v9, val_main_v8, val_main_v7, val_main_v4]
  rw [h1, h2, ← EReal.coe_add]; rfl

theorem mean_apply (r : Fin 4096) : val_main_v13 x1 x2 (ix2 r 0) = (((∑ k, ur A r k) / 256 : ℝ) : EReal) := by
  pointwise [val_main_v13, val_main_v12, val_main_v11, val_main_v10, val_main_cst, val_main_cst_0]
  simp only [u_apply x1 x2 A h1 h2, coe_sum, lit_256, div_real (by norm_num : (256 : ℝ) ≠ 0)]

theorem uc_apply (r : Fin 4096) (l : Fin 256) : val_main_v24 x1 x2 (ix2 r l) = ((Gate.uc (ur A r) l : ℝ) : EReal) := by
  pointwise [val_main_v24, val_main_v23]
  rw [u_apply x1 x2 A h1 h2, mean_apply x1 x2 A h1 h2, ← EReal.coe_sub]; rfl

theorem two_uc_apply (r : Fin 4096) (l : Fin 256) : val_main_v18 x1 x2 (ix2 r l) = ((2 * Gate.uc (ur A r) l : ℝ) : EReal) := by
  have h := uc_apply x1 x2 A h1 h2 r l
  have e : val_main_v15 x1 x2 = val_main_v24 x1 x2 := rfl
  pointwise [val_main_v18, val_main_v17, val_main_cst_1]
  rw [e, h, lit_two, ← EReal.coe_mul]

theorem vr_apply (r : Fin 4096) : val_main_v26 x1 x2 (ix2 r 0) = ((Gate.vr (ur A r) : ℝ) : EReal) := by
  have e : val_main_v15 x1 x2 = val_main_v24 x1 x2 := rfl
  pointwise [val_main_v26, val_main_v25, val_main_v22, val_main_v21, val_main_v20, val_main_v19, val_main_v16, val_main_cst_2, val_main_cst_3,
    val_main_cst_4]
  simp only [e, uc_apply x1 x2 A h1 h2, ← EReal.coe_mul, coe_sum, lit_256, lit_leps, div_real (by norm_num : (256 : ℝ) ≠ 0), ← EReal.coe_add]
  rfl

theorem rv_apply (r : Fin 4096) : val_main_v27 x1 x2 (ix2 r 0) = ((Gate.rv (ur A r) : ℝ) : EReal) := by
  pointwise [val_main_v27]
  rw [vr_apply x1 x2 A h1 h2, rsqrt_real (Gate.vr_pos _)]; rfl

theorem drv_apply (r : Fin 4096) : val_main_v30 x1 x2 (ix2 r 0) = ((-1 / 2 * (Gate.rv (ur A r) / Gate.vr (ur A r)) : ℝ) : EReal) := by
  pointwise [val_main_v30, val_main_v29, val_main_v28, val_main_cst_5]
  rw [rv_apply x1 x2 A h1 h2, vr_apply x1 x2 A h1 h2, div_real (Gate.vr_pos _).ne', lit_neghalf, ← EReal.coe_mul]

theorem nrm_apply (r : Fin 4096) (l : Fin 256) : val_main_v32 x1 x2 (ix2 r l) = ((Gate.nrm (ur A r) l : ℝ) : EReal) := by
  pointwise [val_main_v32, val_main_v31]
  rw [uc_apply x1 x2 A h1 h2, rv_apply x1 x2 A h1 h2, ← EReal.coe_mul]; rfl

include h3 h4

theorem z_apply (r : Fin 4096) (l : Fin 256) : val_main_v38 x1 x2 x3 x4 (ix2 r l) = ((Gate.z (ur A r) A.g A.l l : ℝ) : EReal) := by
  pointwise [val_main_v38, val_main_v37, val_main_v36, val_main_v35, val_main_v34, val_main_v33]
  rw [nrm_apply x1 x2 A h1 h2, h3, h4, ← EReal.coe_mul, ← EReal.coe_add]; rfl

theorem sg_apply (r : Fin 4096) (l : Fin 256) : val_main_v39_2 x1 x2 x3 x4 (ix2 r l) = ((sigm (Gate.z (ur A r) A.g A.l l) : ℝ) : EReal) := by
  pointwise [val_main_v39_2, val_main_call0_v4, val_main_call0_cst_0, val_main_call0_v3, val_main_call0_v2, val_main_call0_cst,
    val_main_call0_v1, val_main_call0_v0]
  rw [z_apply x1 x2 x3 x4 A h1 h2 h3 h4, sigm_real]

include h7

theorem e_apply (r : Fin 4096) (l : Fin 256) : val_main_v132 x1 x2 x3 x4 x7 (ix2 r l) = ((Gate.e (ur A r) A.g A.l (dr A r) l : ℝ) : EReal) := by
  pointwise [val_main_v132, val_main_call5_v2, val_main_call5_v1, val_main_call5_v0, val_main_v90, val_main_v39_1, val_main_call0_v7, val_main_call0_v6,
    val_main_call0_cst_1]
  rw [z_apply x1 x2 x3 x4 A h1 h2 h3 h4, sg_apply x1 x2 x3 x4 A h1 h2 h3 h4, h7, ← EReal.coe_one, ← EReal.coe_sub]
  simp only [← EReal.coe_mul, ← EReal.coe_add]
  rfl

theorem eg_apply (r : Fin 4096) (l : Fin 256) : val_main_v140 x1 x2 x3 x4 x7 (ix2 r l) = ((Gate.eg (ur A r) A.g A.l (dr A r) l : ℝ) : EReal) := by
  pointwise [val_main_v140, val_main_v139, val_main_v33]
  rw [e_apply x1 x2 x3 x4 x7 A h1 h2 h3 h4 h7, h3, ← EReal.coe_mul]; rfl

theorem egr_apply (r : Fin 4096) (l : Fin 256) : val_main_v146 x1 x2 x3 x4 x7 (ix2 r l)
    = ((Gate.eg (ur A r) A.g A.l (dr A r) l * Gate.rv (ur A r) : ℝ) : EReal) := by
  pointwise [val_main_v146, val_main_v145]
  rw [eg_apply x1 x2 x3 x4 x7 A h1 h2 h3 h4 h7, rv_apply x1 x2 A h1 h2, ← EReal.coe_mul]

theorem cv_apply (r : Fin 4096) (l : Fin 256) : val_main_v155 x1 x2 x3 x4 x7 (ix2 r l)
    = ((Gate.cv (ur A r) A.g A.l (dr A r) * (2 * Gate.uc (ur A r) l) : ℝ) : EReal) := by
  pointwise [val_main_v155, val_main_v154, val_main_v153, val_main_v152, val_main_v151, val_main_v147, val_main_v144, val_main_v143, val_main_v142,
    val_main_cst_27, val_main_cst_29, val_main_cst_30]
  simp only [Finset.univ_unique, Finset.sum_singleton, Fin.default_eq_zero]
  simp only [two_uc_apply x1 x2 A h1 h2, uc_apply x1 x2 A h1 h2, drv_apply x1 x2 A h1 h2, eg_apply x1 x2 x3 x4 x7 A h1 h2 h3 h4 h7, ← EReal.coe_mul,
    coe_sum, lit_256, div_real (by norm_num : (256 : ℝ) ≠ 0)]
  rfl

theorem du_apply (r : Fin 4096) (l : Fin 256) : val_main_v165 x1 x2 x3 x4 x7 (ix2 r l) = ((Gate.du (ur A r) A.g A.l (dr A r) l : ℝ) : EReal) := by
  pointwise [val_main_v165, val_main_v164, val_main_v163, val_main_v162, val_main_v161, val_main_v160, val_main_v159, val_main_v158, val_main_v157,
    val_main_v156, val_main_v150, val_main_v149, val_main_v148, val_main_cst_28, val_main_cst_31, val_main_cst_32, val_main_cst_33]
  simp only [Finset.univ_unique, Finset.sum_singleton, Fin.default_eq_zero]
  simp only [egr_apply x1 x2 x3 x4 x7 A h1 h2 h3 h4 h7, cv_apply x1 x2 x3 x4 x7 A h1 h2 h3 h4 h7, ← EReal.coe_neg, coe_sum, ← EReal.coe_add, lit_256,
    div_real (by norm_num : (256 : ℝ) ≠ 0)]
  rw [Gate.du_eq]

theorem dbb_apply (l : Fin 256) : val_main_v174 x1 x2 x3 x4 x7 (ix2 0 l) = ((∑ r, Gate.du (ur A r) A.g A.l (dr A r) l : ℝ) : EReal) := by
  pointwise [val_main_v174, val_main_v168, val_main_v167, val_main_v166, val_main_cst_34, val_main_cst_35]
  simp only [Finset.univ_unique, Finset.sum_singleton, du_apply x1 x2 x3 x4 x7 A h1 h2 h3 h4 h7, coe_sum]

theorem dlg_apply (l : Fin 256) : val_main_v175 x1 x2 x3 x4 x7 (ix2 0 l)
    = ((∑ r, Gate.nrm (ur A r) l * Gate.e (ur A r) A.g A.l (dr A r) l : ℝ) : EReal) := by
  pointwise [val_main_v175, val_main_v141, val_main_v138, val_main_v137, val_main_v136, val_main_cst_25, val_main_cst_26]
  simp only [Finset.univ_unique, Finset.sum_singleton, nrm_apply x1 x2 A h1 h2, e_apply x1 x2 x3 x4 x7 A h1 h2 h3 h4 h7, ← EReal.coe_mul, coe_sum]

theorem dlb_apply (l : Fin 256) : val_main_v176 x1 x2 x3 x4 x7 (ix2 0 l) = ((∑ r, Gate.e (ur A r) A.g A.l (dr A r) l : ℝ) : EReal) := by
  pointwise [val_main_v176, val_main_v135, val_main_v134, val_main_v133, val_main_cst_23, val_main_cst_24]
  simp only [Finset.univ_unique, Finset.sum_singleton, e_apply x1 x2 x3 x4 x7 A h1 h2 h3 h4 h7, coe_sum]

end

/-! ## The heads -/

section
variable (v w : (⟨S4096x4x128, .f32⟩ : BufTy).Contents (Elt Ideal)) (X D : Fin 4096 → Fin 4 → Fin 128 → ℝ)
  (hv : ∀ r h l, v (ix3 r h l) = ((Gate.s (X r h) l : ℝ) : EReal)) (hw : ∀ r h l, w (ix3 r h l) = ((D r h l : ℝ) : EReal))

/-- The heads' sums of squares. -/
def sqs : FVec Ideal S4096x4x1 .f32 :=
  addf (broadcastInDim S4096x4x1 ![0, 1] bcast_S4096x4_S4096x4x1_0_1
    (Host.reduceAdd (mulf v v) (val_main_cst_6 (F := Ideal)) reducesTo_S4096x4x128_S4096x4_d2 h_S_)) (val_main_v48 (F := Ideal))

/-- What a head's root passes on to each of its entries. -/
def cls : FVec Ideal S4096x4 .f32 :=
  Host.reduceAdd (mulf (shapeCast S4096x4x1 (Host.reduceAdd (mulf v w) (val_main_cst_6 (F := Ideal)) reducesTo_S4096x4x128_S4096x4_d2 h_S_)
      shapeCasts_S4096x4_S4096x4x1)
    (mulf (val_main_v52 (F := Ideal)) (Host.divf (Host.rsqrt (sqs v)) (sqs v)))) (val_main_cst_6 (F := Ideal)) reducesTo_S4096x4x1_S4096x4_d2 h_S_

/-- The gradient past the heads' norms. -/
def dss : FVec Ideal S4096x4x128 .f32 :=
  addf (addf (mulf w (broadcastInDim S4096x4x128 ![0, 1, 2] bcast_S4096x4x1_S4096x4x128_0_1_2 (Host.rsqrt (sqs v))))
    (mulf v (broadcastInDim S4096x4x128 ![0, 1] bcast_S4096x4_S4096x4x128_0_1 (cls v w))))
    (mulf (broadcastInDim S4096x4x128 ![0, 1] bcast_S4096x4_S4096x4x128_0_1 (cls v w)) v)

include hv

theorem sqs_apply (r : Fin 4096) (h : Fin 4) : sqs v (ix3 r h 0) = ((Gate.sq (X r h) : ℝ) : EReal) := by
  pointwise [sqs, val_main_v48, val_main_cst_6, val_main_cst_7]
  simp only [hv, ← EReal.coe_mul, coe_sum, lit_eps, ← EReal.coe_add]
  rfl

include hw

theorem cls_apply (r : Fin 4096) (h : Fin 4) : cls v w (ix2 r h) = ((Gate.cl (X r h) (D r h) : ℝ) : EReal) := by
  pointwise [cls, val_main_v52, val_main_cst_6, val_main_cst_8]
  simp only [Finset.univ_unique, Finset.sum_singleton, Fin.default_eq_zero]
  simp only [hv, hw, sqs_apply v X hv, rsqrt_real (Gate.sq_pos _), div_real (Gate.sq_pos _).ne', lit_neghalf, ← EReal.coe_mul, coe_sum]
  rfl

theorem dss_apply (r : Fin 4096) (h : Fin 4) (l : Fin 128) : dss v w (ix3 r h l) = ((Gate.ds (X r h) (D r h) l : ℝ) : EReal) := by
  pointwise [dss]
  rw [hv, hw, sqs_apply v X hv, rsqrt_real (Gate.sq_pos _), cls_apply v w X D hv hw]
  simp only [← EReal.coe_mul, ← EReal.coe_add]
  rfl

end

section
include h1

/-- A column of the part that is gated. -/
def c5 (k : Fin 1536) : Fin 2048 := ⟨512 + k.val, by omega⟩

theorem sg5_apply (r : Fin 4096) (k : Fin 1536) : val_main_v40_2 x1 (ix2 r k) = ((sigm (A.cv r (c5 k)) : ℝ) : EReal) := by
  pointwise [val_main_v40_2, val_main_call1_v4, val_main_call1_cst_0, val_main_call1_v3, val_main_call1_v2, val_main_call1_cst,
    val_main_call1_v1, val_main_call1_v0, val_main_v5]
  rw [h1, sigm_real]; rfl

theorem s5_apply (r : Fin 4096) (k : Fin 1536) : val_main_v40_0 x1 (ix2 r k) = ((A.cv r (c5 k) * sigm (A.cv r (c5 k)) : ℝ) : EReal) := by
  pointwise [val_main_v40_0, val_main_v5]
  rw [h1, sg5_apply x1 A h1, ← EReal.coe_mul]; rfl

/-- The heads of the queries … -/
def hq (r : Fin 4096) (h : Fin 4) (l : Fin 128) : ℝ := A.cv r (cH ⟨h.val, by omega⟩ l)
/-- … and of the keys. -/
def hk (r : Fin 4096) (h : Fin 4) (l : Fin 128) : ℝ := A.cv r (cH ⟨4 + h.val, by omega⟩ l)

theorem q_apply (r : Fin 4096) (h : Fin 4) (l : Fin 128) : val_main_v44 x1 (ix3 r h l) = ((Gate.s (hq A r h) l : ℝ) : EReal) := by
  pointwise [val_main_v44, val_main_v41]
  rw [s5_apply x1 A h1]
  have e (p) : c5 ⟨h.val * 128 + l.val, p⟩ = cH ⟨h.val, by omega⟩ l := Fin.ext (by show 512 + (h.val * 128 + l.val) = 512 + 128 * h.val + l.val; omega)
  rw [e]; rfl

theorem k_apply (r : Fin 4096) (h : Fin 4) (l : Fin 128) : val_main_v56 x1 (ix3 r h l) = ((Gate.s (hk A r h) l : ℝ) : EReal) := by
  pointwise [val_main_v56, val_main_v42]
  rw [s5_apply x1 A h1]
  have e (p) : c5 ⟨512 + (h.val * 128 + l.val), p⟩ = cH ⟨4 + h.val, by omega⟩ l :=
    Fin.ext (by show 512 + (512 + (h.val * 128 + l.val)) = 512 + 128 * (4 + h.val) + l.val; omega)
  rw [e]; rfl

include h8 in
theorem dq_apply (r : Fin 4096) (h : Fin 4) (l : Fin 128) : val_main_v128 x1 x8 (ix3 r h l)
    = ((Gate.ds (hq A r h) (Head.of (A.dq r) h) l : ℝ) : EReal) := by
  refine (congrFun (rfl : val_main_v128 x1 x8 = dss (val_main_v44 x1) (val_main_v87 x8)) _).trans (dss_apply _ _ (hq A) (fun r => Head.of (A.dq r)) (q_apply x1 A h1) (fun r h l => ?_) r h l)
  pointwise [val_main_v87]
  rw [h8]
  exact congrArg _ (congrArg _ (Fin.ext (by show h.val * 128 + l.val = 128 * h.val + l.val; omega)))

include h9 in
theorem dk_apply (r : Fin 4096) (h : Fin 4) (l : Fin 128) : val_main_v115 x1 x9 (ix3 r h l)
    = ((Gate.ds (hk A r h) (Head.of (A.dk r) h) l : ℝ) : EReal) := by
  refine (congrFun (rfl : val_main_v115 x1 x9 = dss (val_main_v56 x1) (val_main_v88 x9)) _).trans (dss_apply _ _ (hk A) (fun r => Head.of (A.dk r)) (k_apply x1 A h1) (fun r h l => ?_) r h l)
  pointwise [val_main_v88]
  rw [h9]
  exact congrArg _ (congrArg _ (Fin.ext (by show h.val * 128 + l.val = 128 * h.val + l.val; omega)))

/-- The gated part's gradient. -/
theorem d5_apply (r : Fin 4096) (k : Fin 1536) (d : ℝ) (hd : val_main_v130 x1 x8 x9 x10 (ix2 r k) = (d : EReal)) :
    val_main_v131 x1 x8 x9 x10 (ix2 r k) = ((Gate.silud (A.cv r (c5 k)) d : ℝ) : EReal) := by
  have e (p) : x1 (ix2 r ⟨512 + k.val, p⟩) = ((A.cv r (c5 k) : ℝ) : EReal) := h1 _ _
  pointwise [val_main_v131, val_main_call4_v2, val_main_call4_v1, val_main_call4_v0, val_main_v40_1, val_main_call1_v7, val_main_call1_v6,
    val_main_call1_cst_1, val_main_v5]
  rw [hd, e, sg5_apply x1 A h1, ← EReal.coe_one, ← EReal.coe_sub]
  simp only [← EReal.coe_mul, ← EReal.coe_add]
  rfl

end

/-! ## The columns put together -/

/-- Three arrays of as many rows. -/
abbrev three {n0 n1 n2 : ℕ} (a : (⟨2, ![4096, n0]⟩ : Shape).Idx → EReal) (b : (⟨2, ![4096, n1]⟩ : Shape).Idx → EReal)
    (c : (⟨2, ![4096, n2]⟩ : Shape).Idx → EReal) : List ((s : Shape) × (s.Idx → EReal)) :=
  [⟨⟨2, ![4096, n0]⟩, a⟩, ⟨⟨2, ![4096, n1]⟩, b⟩, ⟨⟨2, ![4096, n2]⟩, c⟩]

/-- Reading them, put side by side, where one's columns are. -/
theorem three_apply {n0 n1 n2 : ℕ} (N : ℕ) (a : (⟨2, ![4096, n0]⟩ : Shape).Idx → EReal) (b : (⟨2, ![4096, n1]⟩ : Shape).Idx → EReal)
    (c : (⟨2, ![4096, n2]⟩ : Shape).Idx → EReal) (h) (r : Fin 4096) (q : Fin N) (i n : ℕ) (hi : i < (three a b c).length)
    (x : (⟨2, ![4096, n]⟩ : Shape).Idx → EReal) (hx : (three a b c)[i] = ⟨⟨2, ![4096, n]⟩, x⟩) (pre : ℕ)
    (hp : ((((three a b c).take i).map (·.1)).map fun s => if h : s.rank = (⟨2, ![4096, N]⟩ : Shape).rank then s.size ((1 : Fin 2).cast h.symm) else 0).sum = pre)
    (k : Fin n) (hc : pre + k.val = q.val) : concatenate (⟨2, ![4096, N]⟩ : Shape) 1 (three a b c) h (ix2 r q) = x (ix2 r k) :=
  concatenate_apply_piece (t := ⟨2, ![4096, N]⟩) 1 (three a b c) h (ix2 r q) i hi _ x hx rfl pre hp (ix2 r k)
    (by intro a ha; fin_cases a; · rfl
        · exact absurd rfl ha) hc

/-- Column `l` of head `h` of the eight. -/
def hcol (h : Fin 8) (l : Fin 128) : Fin 1536 := ⟨128 * h.val + l.val, by omega⟩

section
include h1 h8 h9

theorem d130_H (r : Fin 4096) (h : Fin 8) (l : Fin 128) : val_main_v130 x1 x8 x9 x10 (ix2 r (hcol h l))
    = ((Gate.ds (fun l => A.cv r (cH h l)) (heads (A.dq r) (A.dk r) h) l : ℝ) : EReal) := by
  have hr (a : Fin 4) (p) : (⟨(128 * a.val + l.val) / 128, p⟩ : Fin 4) = a := Fin.ext (by show (128 * a.val + l.val) / 128 = a.val; omega)
  have hl (a : Fin 4) (p) : (⟨(128 * a.val + l.val) % 128, p⟩ : Fin 128) = l := Fin.ext (by show (128 * a.val + l.val) % 128 = l.val; omega)
  by_cases p : h.val < 4
  · obtain ⟨a, q, rfl⟩ : ∃ (a : Fin 4) (q : a.val < 8), h = ⟨a.val, q⟩ := ⟨⟨h.val, p⟩, h.isLt, rfl⟩
    refine (three_apply 1536 (val_main_v129 x1 x8) (val_main_v116 x1 x9) x10 _ r (hcol _ l) 0 512 (Nat.lt_of_sub_eq_succ rfl) (val_main_v129 x1 x8) rfl 0 rfl (Head.col a l) (Nat.zero_add _)).trans ?_
    have e := dq_apply x1 x8 A h1 h8 r a l
    rw [show heads (A.dq r) (A.dk r) ⟨a.val, q⟩ = Head.of (A.dq r) a from funext fun l => dif_pos p]
    pointwise [val_main_v129]
    simp only [Head.col, hr, hl]
    exact e
  · obtain ⟨a, q, rfl⟩ : ∃ (a : Fin 4) (q : 4 + a.val < 8), h = ⟨4 + a.val, q⟩ :=
      ⟨⟨h.val - 4, by omega⟩, by show 4 + (h.val - 4) < 8; omega, Fin.ext (by show h.val = 4 + (h.val - 4); omega)⟩
    refine (three_apply 1536 (val_main_v129 x1 x8) (val_main_v116 x1 x9) x10 _ r (hcol _ l) 1 512 (Nat.lt_of_sub_eq_succ rfl) (val_main_v116 x1 x9) rfl 512 rfl (Head.col a l) (by simp only [Head.col, hcol]; omega)).trans ?_
    have e := dk_apply x1 x9 A h1 h9 r a l
    have e4 (q) : (⟨4 + a.val - 4, q⟩ : Fin 4) = a := Fin.ext (Nat.add_sub_cancel_left _ _)
    rw [show heads (A.dq r) (A.dk r) ⟨4 + a.val, q⟩ = Head.of (A.dk r) a from
      funext fun l => (dif_neg p).trans (congrArg (fun b => A.dk r (Head.col b l)) (e4 _))]
    pointwise [val_main_v116]
    simp only [Head.col, hr, hl]
    exact e

include h0 h2 h3 h4 h7 h10

/-- The gradient at the convolutions' outputs. -/
theorem dco_apply (r : Fin 4096) (k : Fin 2048) : val_main_v171 x0 x1 x2 x3 x4 x7 x8 x9 x10 (ix2 r k) = ((dcoRow A r k : ℝ) : EReal) := by
  rcases exists_c k with ⟨a, rfl⟩ | ⟨a, rfl⟩ | ⟨h, l, rfl⟩ | ⟨a, rfl⟩
  · refine (three_apply 2048 (val_main_v169 x0 x7) (val_main_v165 x1 x2 x3 x4 x7) (val_main_v131 x1 x8 x9 x10) _ r (cA a) 0 256 (Nat.lt_of_sub_eq_succ rfl) (val_main_v169 x0 x7) rfl 0 rfl a (Nat.zero_add _)).trans ?_
    rw [dcoRow_A]
    pointwise [val_main_v169, val_main_v89, val_main_v0]
    rw [h0, h7, ← EReal.coe_mul]
  · refine (three_apply 2048 (val_main_v169 x0 x7) (val_main_v165 x1 x2 x3 x4 x7) (val_main_v131 x1 x8 x9 x10) _ r (cU a) 1 256 (Nat.lt_of_sub_eq_succ rfl) (val_main_v165 x1 x2 x3 x4 x7) rfl 256 rfl a rfl).trans ?_
    rw [dcoRow_U]
    exact du_apply x1 x2 x3 x4 x7 A h1 h2 h3 h4 h7 r a
  · refine (three_apply 2048 (val_main_v169 x0 x7) (val_main_v165 x1 x2 x3 x4 x7) (val_main_v131 x1 x8 x9 x10) _ r _ 2 1536 (Nat.lt_of_sub_eq_succ rfl) (val_main_v131 x1 x8 x9 x10) rfl 512 rfl (hcol h l) (by simp only [hcol, cH]; omega)).trans ?_
    rw [dcoRow_H, d5_apply x1 x8 x9 x10 A h1 r _ _ (d130_H x1 x8 x9 x10 A h1 h8 h9 r h l)]
    have e : c5 (hcol h l) = cH h l := Fin.ext (by show 512 + (128 * h.val + l.val) = 512 + 128 * h.val + l.val; omega)
    rw [e]; rfl
  · refine (three_apply 2048 (val_main_v169 x0 x7) (val_main_v165 x1 x2 x3 x4 x7) (val_main_v131 x1 x8 x9 x10) _ r _ 2 1536 (Nat.lt_of_sub_eq_succ rfl) (val_main_v131 x1 x8 x9 x10) rfl 512 rfl ⟨1024 + a.val, by omega⟩ (by show 512 + (1024 + a.val) = 1536 + a.val; omega)).trans ?_
    have e0 : val_main_v130 x1 x8 x9 x10 (ix2 r ⟨1024 + a.val, by omega⟩) = ((A.dv r a : ℝ) : EReal) :=
      (three_apply 1536 (val_main_v129 x1 x8) (val_main_v116 x1 x9) x10 _ r _ 2 512 (Nat.lt_of_sub_eq_succ rfl) x10 rfl 1024 rfl a rfl).trans (h10 r a)
    rw [dcoRow_V, d5_apply x1 x8 x9 x10 A h1 r _ _ e0]
    have e : c5 ⟨1024 + a.val, by omega⟩ = cV a := Fin.ext (by show 512 + (1024 + a.val) = 1536 + a.val; omega)
    rw [e]

end

section
include h1 h7

/-- The gradient at the first factor's partner. -/
theorem dab_apply (r : Fin 4096) (k : Fin 256) : val_main_v170 x1 x7 (ix2 r k) = ((dabRow A r k : ℝ) : EReal) := by
  pointwise [val_main_v170, val_main_v89, val_main_v3]
  rw [h1, h7, ← EReal.coe_mul]; rfl

end

/-! ## The gates -/

section
include h0 h6

/-- The decays' pre-activations. -/
def xt (r : Fin 4096) (k : Fin 4) : ℝ := A.pj r ⟨3328 + k.val, by omega⟩ + A.tb k

theorem xt_apply (r : Fin 4096) (k : Fin 4) : val_main_v72 x0 x6 (ix2 r k) = ((xt A r k : ℝ) : EReal) := by
  pointwise [val_main_v72, val_main_v71, val_main_v70, val_main_v1]
  rw [h0, h6, ← EReal.coe_add]; rfl

theorem sp_apply (r : Fin 4096) (k : Fin 4) : val_main_v73_0 x0 x6 (ix2 r k) = ((Gate.sp (xt A r k) : ℝ) : EReal) := by
  pointwise [val_main_v73_0, val_main_call2_v11, val_main_call2_v10, val_main_call2_v9, val_main_call2_v8, val_main_call2_v7, val_main_call2_v6,
    val_main_call2_v5, val_main_call2_v4, val_main_call2_v3, val_main_call2_v2, val_main_call2_v1, val_main_call2_v0, val_main_call2_cst]
  rw [xt_apply x0 x6 A h0 h6, if_neg (not_not_intro rfl), Gate.absf_real, ← EReal.coe_neg, Ideal.exp_coe]
  exact Gate.sp_real _

theorem dsp_apply (r : Fin 4096) (k : Fin 4) : val_main_v73_1 x0 x6 (ix2 r k) = ((sigm (xt A r k) : ℝ) : EReal) := by
  pointwise [val_main_v73_1, val_main_call2_v21, val_main_call2_v20, val_main_call2_v19, val_main_call2_v18, val_main_call2_v17, val_main_call2_v16,
    val_main_call2_v15, val_main_call2_v14, val_main_call2_v13, val_main_call2_cst_0, val_main_call2_cst_1, val_main_call2_cst_2, val_main_call2_cst_3]
  rw [xt_apply x0 x6 A h0 h6, sp_apply x0 x6 A h0 h6, lit_inf, if_neg (EReal.coe_ne_top _), if_neg (EReal.coe_ne_top _), ← EReal.coe_sub,
    Ideal.exp_coe, Gate.exp_sub_sp]

end

/-! In the decays' lanes the padded rows are the arguments', after them zero. -/

theorem xt_lane (r : Fin 4096) (l : Fin 128) (p : l.val < 4) : xl (A.pj r) l + w4 A.tb l = xt A r ⟨l.val, p⟩ :=
  congrArg₂ (· + ·) (dif_pos (show 3328 + l.val < 3336 by omega)) (dif_pos p)

theorem gm_lane (r : Fin 4096) (l : Fin 128) (p : l.val < 4) : gm (gl (A.dg r) (A.db r)) l = A.dg r ⟨l.val, p⟩ := (if_pos p).trans (dif_pos p)

theorem gm_zero (g : Fin 128 → ℝ) (l : Fin 128) (p : ¬ l.val < 4) : gm g l = 0 := if_neg p

theorem al_lane (l : Fin 128) (p : l.val < 4) : w4 A.al l = A.al ⟨l.val, p⟩ := dif_pos p

theorem dt_lane (r : Fin 4096) (l : Fin 128) (p : l.val < 4) : dt (xl (A.pj r)) (gl (A.dg r) (A.db r)) (w4 A.al) (w4 A.tb) l
    = -Real.exp (A.al ⟨l.val, p⟩) * A.dg r ⟨l.val, p⟩ * sigm (xt A r ⟨l.val, p⟩) := by
  unfold dt
  rw [xt_lane A r l p, gm_lane A r l p, al_lane A l p]

theorem dt_zero (x g a t : Fin 128 → ℝ) (l : Fin 128) (p : ¬ l.val < 4) : dt x g a t l = 0 := by
  unfold dt
  rw [gm_zero g l p, mul_zero, zero_mul]

section
include h0 h5 h6 h11

theorem dt_apply (r : Fin 4096) (k : Fin 4) : val_main_v98 x0 x5 x6 x11 (ix2 r k)
    = ((-Real.exp (A.al k) * A.dg r k * sigm (xt A r k) : ℝ) : EReal) := by
  pointwise [val_main_v98, val_main_v93, val_main_v92, val_main_v74, val_main_v69, val_main_v68]
  rw [dsp_apply x0 x6 A h0 h6, h5, h11, Ideal.exp_coe, ← EReal.coe_neg, ← EReal.coe_mul, ← EReal.coe_mul]

/-- The gradient at the decays' biases. -/
theorem ddtb_apply (l : Fin 128) : val_main_v180 x0 x5 x6 x11 (ix2 0 l)
    = ((∑ r, dt (xl (A.pj r)) (gl (A.dg r) (A.db r)) (w4 A.al) (w4 A.tb) l : ℝ) : EReal) := by
  have h (k : Fin 4) : val_main_v101 x0 x5 x6 x11 (ix1 k) = ((∑ r, -Real.exp (A.al k) * A.dg r k * sigm (xt A r k) : ℝ) : EReal) := by
    pointwise [val_main_v101, val_main_v100, val_main_v99, val_main_cst_17, val_main_cst_18]
    simp only [Finset.univ_unique, Finset.sum_singleton, dt_apply x0 x5 x6 x11 A h0 h5 h6 h11, coe_sum]
  pointwise [val_main_v180, val_main_v179, val_main_call8_v0, val_main_c_37]
  by_cases p : l.val < 4
  · rw [dif_pos p, h, EReal.coe_eq_coe_iff]
    exact Finset.sum_congr rfl fun r _ => (dt_lane A r l p).symm
  · rw [dif_neg p, sitofp_zero, EReal.coe_eq_coe_iff]
    exact (Finset.sum_eq_zero fun r _ => dt_zero _ _ _ _ l p).symm

/-- The gradient at the decays' logarithms. -/
theorem dalog_apply (l : Fin 128) : val_main_v178 x0 x5 x6 x11 (ix2 0 l)
    = ((-(∑ r, gm (gl (A.dg r) (A.db r)) l * Gate.sp (xl (A.pj r) l + w4 A.tb l)) * Real.exp (w4 A.al l) : ℝ) : EReal) := by
  have h (k : Fin 4) : val_main_v103 x0 x5 x6 x11 (ix1 k) = ((-(∑ r, A.dg r k * Gate.sp (xt A r k)) * Real.exp (A.al k) : ℝ) : EReal) := by
    pointwise [val_main_v103, val_main_v102, val_main_v97, val_main_v96, val_main_v95, val_main_v94, val_main_v68, val_main_cst_15, val_main_cst_16]
    simp only [Finset.univ_unique, Finset.sum_singleton, sp_apply x0 x6 A h0 h6, h11, ← EReal.coe_mul, coe_sum]
    rw [h5, Ideal.exp_coe, ← EReal.coe_neg, ← EReal.coe_mul]
  pointwise [val_main_v178, val_main_v177, val_main_call7_v0, val_main_c_36]
  by_cases p : l.val < 4
  · rw [dif_pos p, h, al_lane A l p]
    simp only [xt_lane A _ l p, gm_lane A _ l p]
  · rw [dif_neg p, sitofp_zero]
    simp only [gm_zero _ l p, zero_mul, Finset.sum_const_zero, neg_zero]

include h12

/-- The gradient at the gates' columns of the projection. -/
theorem dbl_apply (r : Fin 4096) (l : Fin 128) : val_main_v173 x0 x5 x6 x11 x12 (ix2 r l) = ((dblRow A r l : ℝ) : EReal) := by
  have hb (k : Fin 4) : val_main_v91 x0 x12 (ix2 r k) = ((A.db r k * (sigm (A.pj r ⟨3332 + k.val, by omega⟩)
      * (1 - sigm (A.pj r ⟨3332 + k.val, by omega⟩))) : ℝ) : EReal) := by
    pointwise [val_main_v91, val_main_v85, val_main_v84, val_main_v83, val_main_v82, val_main_v81, val_main_v80, val_main_v79, val_main_v78,
      val_main_v77, val_main_v2, val_main_cst_12, val_main_cst_13, val_main_cst_14]
    rw [h0, h12, sigm_real, ← EReal.coe_one, ← EReal.coe_sub, ← EReal.coe_mul, ← EReal.coe_mul]
  pointwise [val_main_v173, val_main_v172, val_main_call6_v0, val_main_c]
  unfold dblRow dbeta
  by_cases q : l.val < 8
  · by_cases p : l.val < 4
    · rw [dif_pos q, dif_pos p, if_pos q, if_pos p, dt_lane A r l p, zero_add (M := ℝ)]
      exact dt_apply x0 x5 x6 x11 A h0 h5 h6 h11 r ⟨l.val, p⟩
    · have e0 : gl (A.dg r) (A.db r) l = A.db r ⟨l.val - 4, by omega⟩ := (dif_neg p).trans (dif_pos q)
      have e1 : xl (A.pj r) l = A.pj r ⟨3332 + (l.val - 4), by omega⟩ :=
        (dif_pos (show 3328 + l.val < 3336 by omega)).trans (congrArg (A.pj r) (Fin.ext (by show 3328 + l.val = 3332 + (l.val - 4); omega)))
      rw [dif_pos q, dif_neg p, if_pos q, if_neg p, hb, dt_zero _ _ _ _ l p, add_zero, e0, e1]
  · rw [dif_neg q, if_neg q, dt_zero _ _ _ _ l (by omega), add_zero, sitofp_zero]

end

end Ref

end Cert.Proof.Stage2

end
-- ==== Proof.Stage2Claim.lean ====
/- Hand-written, untrusted: the claims about the gates' gradient. -/
module

public import proofs.«01_k».proof.Proof.Stage2
public import proofs.«01_k».proof.Proof.Stage2Ref
public import proofs.«01_k».proof.Defs
public import proofs.«01_k».proof.Proof.Gen.Stage2RefIdeal.Run
public import proofs.«01_k».proof.Proof.Gen.Pre_stage2_finite
public import Idealize.ShloMosaic.Lib.Claim

@[expose] public section

set_option maxRecDepth 16384

noncomputable section

namespace Cert.Proof.Stage2

open Idealize.ShloMosaic Idealize.ShloMosaic.TcCoe Idealize.SL.Sem Idealize.ShloMosaic.Pointwise

/-- Entries of which a comparison says that they are not zero. -/
theorem ne_of_all {s t u : Shape} {axes : List (Fin s.rank)} [Subsingleton t.Idx] (x y : FVec Ideal s .f32) (init : u.Idx → BitVec 1)
    (h : s.ReducesTo axes t) (hu : 0 < u.numel) (j : t.Idx) (e : Host.reduce IntOp.andi (cmpf .une x y) init h hu j = 1#1) (i : s.Idx) : x i ≠ y i := by
  have k : BitVec.ofBool (decide (x i ≠ y i)) = 1#1 := Host.reduce_andi_all _ _ _ _ _ e i
  intro hx
  rw [decide_eq_false (not_not_intro hx)] at k
  exact absurd k (by decide)

/-- What the precondition says of one device's arrays. -/
theorem finite (x0 : FVec Ideal Cert.Pre_stage2_finite.S4096x3336 .f32) (x1 : FVec Ideal Cert.Pre_stage2_finite.S4096x2048 .f32) (x2 x3 x4 : FVec Ideal Cert.Pre_stage2_finite.S256 .f32)
    (x5 x6 : FVec Ideal Cert.Pre_stage2_finite.S4 .f32) (x7 x8 x9 x10 : FVec Ideal Cert.Pre_stage2_finite.S4096x512 .f32) (x11 x12 : FVec Ideal Cert.Pre_stage2_finite.S4096x4 .f32)
    (h : Cert.Pre_stage2_finite.fn (F := Ideal) x0 x1 x2 x3 x4 x5 x6 x7 x8 x9 x10 x11 x12 = fun _ => 1#1) :
    ∃ A : Args, (∀ r k, x0 (ix2 r k) = ((A.pj r k : ℝ) : EReal)) ∧ (∀ r k, x1 (ix2 r k) = ((A.cv r k : ℝ) : EReal)) ∧ (∀ k, x2 (ix1 k) = ((A.b k : ℝ) : EReal))
      ∧ (∀ k, x3 (ix1 k) = ((A.g k : ℝ) : EReal)) ∧ (∀ k, x4 (ix1 k) = ((A.l k : ℝ) : EReal))
      ∧ (∀ k, x5 (ix1 k) = ((A.al k : ℝ) : EReal)) ∧ (∀ k, x6 (ix1 k) = ((A.tb k : ℝ) : EReal))
      ∧ (∀ r k, x7 (ix2 r k) = ((A.dy r k : ℝ) : EReal)) ∧ (∀ r k, x8 (ix2 r k) = ((A.dq r k : ℝ) : EReal))
      ∧ (∀ r k, x9 (ix2 r k) = ((A.dk r k : ℝ) : EReal)) ∧ (∀ r k, x10 (ix2 r k) = ((A.dv r k : ℝ) : EReal))
      ∧ (∀ r k, x11 (ix2 r k) = ((A.dg r k : ℝ) : EReal)) ∧ (∀ r k, x12 (ix2 r k) = ((A.db r k : ℝ) : EReal))
      ∧ ∀ (r : Fin 4096) (k : Fin 4), A.pj r ⟨3328 + k.val, by omega⟩ + A.tb k ≠ 0 := by
  have key := congrFun h ix0
  simp only [Cert.Pre_stage2_finite.fn, Cert.Pre_stage2_finite.fn_part1, Cert.Pre_stage2_finite.fn_part2, Cert.Pre_stage2_finite.fn_part3,
    Cert.Pre_stage2_finite.fn_part4, andi_apply, IntOp.andi_eq_one] at key
  obtain ⟨⟨⟨⟨⟨⟨⟨⟨⟨⟨⟨⟨⟨k0, k1⟩, k2⟩, k3⟩, k4⟩, k5⟩, k6⟩, k7⟩, k8⟩, k9⟩, k10⟩, k11⟩, k12⟩, k13⟩ := key
  refine ⟨⟨fun r k => (x0 (ix2 r k)).toReal, fun r k => (x1 (ix2 r k)).toReal, fun k => (x2 (ix1 k)).toReal, fun k => (x3 (ix1 k)).toReal, fun k => (x4 (ix1 k)).toReal, fun k => (x5 (ix1 k)).toReal, fun k => (x6 (ix1 k)).toReal, fun r k => (x7 (ix2 r k)).toReal, fun r k => (x8 (ix2 r k)).toReal, fun r k => (x9 (ix2 r k)).toReal, fun r k => (x10 (ix2 r k)).toReal, fun r k => (x11 (ix2 r k)).toReal, fun r k => (x12 (ix2 r k)).toReal⟩,
    fun r k => real_of_all _ _ _ _ _ _ k0 _,
    fun r k => real_of_all _ _ _ _ _ _ k1 _,
    fun k => real_of_all _ _ _ _ _ _ k2 _,
    fun k => real_of_all _ _ _ _ _ _ k3 _,
    fun k => real_of_all _ _ _ _ _ _ k4 _,
    fun k => real_of_all _ _ _ _ _ _ k5 _,
    fun k => real_of_all _ _ _ _ _ _ k6 _,
    fun r k => real_of_all _ _ _ _ _ _ k7 _,
    fun r k => real_of_all _ _ _ _ _ _ k8 _,
    fun r k => real_of_all _ _ _ _ _ _ k9 _,
    fun r k => real_of_all _ _ _ _ _ _ k10 _,
    fun r k => real_of_all _ _ _ _ _ _ k11 _,
    fun r k => real_of_all _ _ _ _ _ _ k12 _, fun r k hz => ?_⟩
  have z := ne_of_all _ _ _ _ _ _ k13 (ix2 r k)
  refine z ?_
  pointwise
  exact (congrArg₂ (· + ·) (real_of_all _ _ _ _ _ _ k0 _) (real_of_all _ _ _ _ _ _ k6 _)).trans
    ((EReal.coe_add _ _).symm.trans (congrArg (fun y : ℝ => (y : EReal)) hz))

/-- The reference runs, keeps its arguments and leaves every counter at zero. -/
theorem frame_ref : Cert.quiescent_Stage2RefIdeal :=
  fun m ρ _ => (θ_run _ _ _).mono (fun r h => ⟨fun c => (h c).2.2.2.2.2.2.2.2, sem_eq_zero_of_no_sems rfl _⟩)
    (Cert.Stage2RefIdeal.Value.run (F := Ideal) m ρ)

/-- The two programs return the same arrays. -/
theorem value : Cert.algebraic_Stage2BwdIdeal_Stage2RefIdeal_pre_stage2_finite := by
  intro m ρ m' ρ' hpre hag
  refine ⟨_, _, _, _, _, _, _, _, Cert.Stage2BwdIdeal.Value.run_blocks m ρ,
    (θ_run _ _ _).mono (fun r h c => ?_) (Cert.Stage2RefIdeal.Value.run (F := Ideal) m' ρ')⟩
  obtain ⟨e0, e1, e2, e3, e4, e5, e6, e7, e8, e9, e10, e11, e12⟩ := hag c
  obtain ⟨A, h0, h1, h2, h3, h4, h5, h6, h7, h8, h9, h10, h11, h12, hz⟩ := finite _ _ _ _ _ _ _ _ _ _ _ _ _ (hpre c)
  obtain ⟨r0, r1, r2, r3, r4, r5, r6, r7, k⟩ := h c
  have H : Holds m c A := ⟨h0, h1, h2, h3, h4, h5, h6, h7, h8, h9, h10, h11, h12⟩
  rw [← e0] at h0; rw [← e1] at h1; rw [← e2] at h2; rw [← e3] at h3; rw [← e4] at h4; rw [← e5] at h5; rw [← e6] at h6; rw [← e7] at h7; rw [← e8] at h8; rw [← e9] at h9; rw [← e10] at h10; rw [← e11] at h11; rw [← e12] at h12
  refine ⟨r0.trans ?_, r1.trans ?_, r2.trans ?_, r3.trans ?_, r4.trans ?_, r5.trans ?_, r6.trans ?_, r7.trans ?_, k⟩
  · rw [Cert.Stage2RefIdeal.Read.val_main_v171_eq]
    funext i
    obtain ⟨a, b, rfl⟩ : ∃ (a : Fin 4096) (b : Fin 2048), i = ix2 a b := ⟨i 0, i 1, eq_ix2 (n0 := 4096) (n1 := 2048) i⟩
    rw [Ref.dco_apply _ _ _ _ _ _ _ _ _ A h0 h1 h2 h3 h4 h7 h8 h9 h10, dco_final H]
  · rw [Cert.Stage2RefIdeal.Read.val_main_v170_eq]
    funext i
    obtain ⟨a, b, rfl⟩ : ∃ (a : Fin 4096) (b : Fin 256), i = ix2 a b := ⟨i 0, i 1, eq_ix2 (n0 := 4096) (n1 := 256) i⟩
    rw [Ref.dab_apply _ _ A h1 h7, dab_final H]
  · rw [Cert.Stage2RefIdeal.Read.val_main_v173_eq]
    funext i
    obtain ⟨a, b, rfl⟩ : ∃ (a : Fin 4096) (b : Fin 128), i = ix2 a b := ⟨i 0, i 1, eq_ix2 (n0 := 4096) (n1 := 128) i⟩
    rw [Ref.dbl_apply _ _ _ _ _ A h0 h5 h6 h11 h12, dbl_final H hz]
  · rw [Cert.Stage2RefIdeal.Read.val_main_v174_eq]
    funext i
    obtain ⟨b, rfl⟩ := one_row (n := 256) i
    rw [Ref.dbb_apply _ _ _ _ _ A h1 h2 h3 h4 h7, dbb_final H]
  · rw [Cert.Stage2RefIdeal.Read.val_main_v175_eq]
    funext i
    obtain ⟨b, rfl⟩ := one_row (n := 256) i
    rw [Ref.dlg_apply _ _ _ _ _ A h1 h2 h3 h4 h7, dlg_final H]
  · rw [Cert.Stage2RefIdeal.Read.val_main_v176_eq]
    funext i
    obtain ⟨b, rfl⟩ := one_row (n := 256) i
    rw [Ref.dlb_apply _ _ _ _ _ A h1 h2 h3 h4 h7, dlb_final H]
  · rw [Cert.Stage2RefIdeal.Read.val_main_v178_eq]
    funext i
    obtain ⟨b, rfl⟩ := one_row (n := 128) i
    rw [Ref.dalog_apply _ _ _ _ A h0 h5 h6 h11, dalog_final H]
  · rw [Cert.Stage2RefIdeal.Read.val_main_v180_eq]
    funext i
    obtain ⟨b, rfl⟩ := one_row (n := 128) i
    rw [Ref.ddtb_apply _ _ _ _ A h0 h5 h6 h11, ddtb_final H hz]

end Cert.Proof.Stage2

end
-- ==== Proof.ConvClaim.lean ====
/- Hand-written, untrusted: the run of the reference of the convolutions' gradient. -/
module

public import proofs.«01_k».proof.Defs
public import proofs.«01_k».proof.Proof.Gen.ConvRefIdeal.Run
public import Idealize.ShloMosaic.Lib.Claim

@[expose] public section

noncomputable section

namespace Cert.Proof.Conv

open Idealize.ShloMosaic Idealize.ShloMosaic.TcCoe Idealize.SL.Sem

/-- The reference runs, keeps its arguments and leaves every counter at zero. -/
theorem frame_ref : Cert.quiescent_ConvRefIdeal :=
  fun m ρ _ => (θ_run _ _ _).mono (fun r h => ⟨fun c => (h c).2.2.2.2, sem_eq_zero_of_no_sems rfl _⟩) (Cert.ConvRefIdeal.Value.run (F := Ideal) m ρ)

end Cert.Proof.Conv

end
-- ==== Proof.Fwd.lean ====
/- Hand-written, untrusted: the forward lines' mathematics over the extended reals, as both programs of a forward call compute it.
   Nothing here needs its arguments to be finite. -/
module

public import proofs.«01_k».proof.Proof.Reals
public import proofs.«01_k».proof.Proof.Index

@[expose] public section

noncomputable section

namespace Cert.Proof.Fwd

open Idealize.ShloMosaic

/-- One over the root mean square of a row (plus the programs' `1e-6`), `n` being the literal the programs divide by. -/
def nrm {K : ℕ} (n : BitVec 32) (a : Fin K → EReal) : EReal :=
  Ideal.rsqrt (Ideal.div (∑ k, a k * a k) (Ideal.ofBits .f32 n) + Ideal.ofBits .f32 0x358637BD#32)

/-- A row of the modulated norm: reference.py's `rmsnorm(x, g) * (1 + sc) + sh`. -/
def hid (a sh sc g : Fin 1024 → EReal) (l : Fin 1024) : EReal := a l * nrm 0x44800000#32 a * g l * (1 + sc l) + sh l

/-- A row with zeros after it. -/
def wide {K L : ℕ} (p : Fin K → EReal) (k : Fin L) : EReal := if h : k.val < K then p ⟨k.val, h⟩ else 0

/-- A row's product with a matrix. -/
def dot {K N : ℕ} (h : Fin K → EReal) (w : Fin K → Fin N → EReal) (k : Fin N) : EReal := ∑ l, h l * w l k

/-- The logistic function. -/
def logi (x : EReal) : EReal := Ideal.div 1 (1 + Ideal.exp (-x))

end Cert.Proof.Fwd

end
-- ==== Proof.NormIn.lean ====
/- Hand-written, untrusted: the modulated norm and the input projection. -/
module

public import proofs.«01_k».proof.Proof.Fwd
public import proofs.«01_k».proof.Proof.Gen.NormInIdeal.Value
public import Idealize.ShloMosaic.Lib.Pipeline.ValueKit

@[expose] public section

set_option maxRecDepth 16384

noncomputable section

namespace Cert.Proof.NormIn

open Idealize.ShloMosaic Idealize.ShloMosaic.TcCoe Idealize.SL.Sem Idealize.ShloMosaic.Pointwise
open Cert.NormInIdeal Cert.NormInIdeal.Gen Cert.Proof.Fwd

/-- The body's hidden row, of its blocks. -/
theorem hid_apply (v0 : Vec Ideal S512x1024 .f32) (v1 v3 v5 : Vec Ideal S1x1024 .f32) (r : Fin 512) (l : Fin 1024) :
    k0_pay1 (F := Ideal) v0 v1 v3 v5 (ix2 r l)
      = hid (fun l => v0 (ix2 r l)) (fun l => v1 (ix2 0 l)) (fun l => v3 (ix2 0 l)) (fun l => v5 (ix2 0 l)) l := by
  pointwise [k0_pay1]
  unfold hid nrm
  rw [mul_assoc (_ * _)]

/-- The body's product, of its blocks. -/
theorem prod_apply (v0 : Vec Ideal S512x1024 .f32) (v1 v3 v5 : Vec Ideal S1x1024 .f32) (v7 : Vec Ideal S1024x3456 .bf16)
    (r : Fin 512) (k : Fin 3456) :
    k0_pay2 (F := Ideal) v0 v1 v3 v5 v7 (ix2 r k)
      = dot (hid (fun l => v0 (ix2 r l)) (fun l => v1 (ix2 0 l)) (fun l => v3 (ix2 0 l)) (fun l => v5 (ix2 0 l))) (fun l k => v7 (ix2 l k)) k := by
  pointwise [k0_pay2]
  exact Finset.sum_congr rfl fun l _ => by rw [hid_apply]

/-! ## The kernel's arrays after the run -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Row `r` of block `t` in the array. -/
def row (t : Fin cfg0.N) (r : Fin 512) : Fin 4096 :=
  ⟨t.val * 512 + r.val, by have := t.isLt; have := r.isLt; have h : cfg0.N = 8 := N_0; omega⟩

/-- The arguments, entry by entry. -/
abbrev x (r : Fin 4096) (l : Fin 1024) : EReal := m ((c : Thread nD τ).loc main_arg0) (ix2 r l)
abbrev sh (l : Fin 1024) : EReal := m ((c : Thread nD τ).loc main_arg1) (ix1 l)
abbrev sc (l : Fin 1024) : EReal := m ((c : Thread nD τ).loc main_arg2) (ix1 l)
abbrev g (l : Fin 1024) : EReal := m ((c : Thread nD τ).loc main_arg3) (ix1 l)
abbrev w (l : Fin 1024) (k : Fin 3336) : EReal := m ((c : Thread nD τ).loc main_arg4) (ix2 l k)

theorem blk0 (t : Fin cfg0.N) (r : Fin 512) (l : Fin 1024) : iblk m c 0 t (ix2 r l) = x m c (row t r) l := by
  blk_simp [iblk, V_main_arg0]
  refine congrArg _ ?_
  blk_ext [idx0, row]

theorem blk1 (t : Fin cfg0.N) (l : Fin 1024) : iblk m c 1 t (ix2 0 l) = sh m c l := by
  blk_simp [iblk]
  have h0 : ((View.whole main_v2).slice (win0_1.rect t)).emb (ix2 0 l) = ix2 (0 : Fin 1) l := by blk_ext [idx1]
  rw [h0]
  entry_read
  simp only [List.flatten_cons, List.flatten_nil, List.append_nil, List.cons_append, List.nil_append]
  after_results_simp
  pointwise

theorem blk2 (t : Fin cfg0.N) (l : Fin 1024) : iblk m c 2 t (ix2 0 l) = sc m c l := by
  blk_simp [iblk]
  have h0 : ((View.whole main_v3).slice (win0_2.rect t)).emb (ix2 0 l) = ix2 (0 : Fin 1) l := by blk_ext [idx2]
  rw [h0]
  entry_read
  simp only [List.flatten_cons, List.flatten_nil, List.append_nil, List.cons_append, List.nil_append]
  after_results_simp
  pointwise

theorem blk3 (t : Fin cfg0.N) (l : Fin 1024) : iblk m c 3 t (ix2 0 l) = g m c l := by
  blk_simp [iblk]
  have h0 : ((View.whole main_v4).slice (win0_3.rect t)).emb (ix2 0 l) = ix2 (0 : Fin 1) l := by blk_ext [idx3]
  rw [h0]
  entry_read
  simp only [List.flatten_cons, List.flatten_nil, List.append_nil, List.cons_append, List.nil_append]
  after_results_simp
  pointwise

theorem sitofp_zero : FloatOps.sitofp (F := Ideal) FTy.f32 0#32 = 0 := by
  simp [FloatOps.sitofp]

/-- The weights with columns of zeros after them. -/
theorem v1_eq : V m c main_v1 = fun i : S1024x3456.Idx => pad S1024x3456 ![0, 0] ![0, 120] ![0, 0]
    (m ((c : Thread nD τ).loc main_arg4) : S1024x3336.Idx → EReal) (sitofp (F := Ideal) .f32 (constantI S_ 32 0#32))
    pads_S1024x3336_S1024x3456_000_01200 h_S_ i := by
  entry_read
  simp only [List.flatten_cons, List.flatten_nil, List.append_nil, List.cons_append, List.nil_append]
  after_results_simp <;> rfl

theorem blk4 (t : Fin cfg0.N) (l : Fin 1024) (k : Fin 3456) : iblk m c 4 t (ix2 l k) = wide (w m c l) k := by
  blk_simp [iblk]
  have h0 : ((View.whole main_v1).slice (win0_4.rect t)).emb (ix2 l k) = ix2 l k := by blk_ext [idx4]
  rw [h0, v1_eq]
  pointwise
  unfold wide
  by_cases hk : k.val < 3336
  · rw [dif_pos (by intro a; fin_cases a <;> simp <;> omega), dif_pos hk]
  · rw [dif_neg (fun h => hk (by simpa using (h 1).2.2)), dif_neg hk]
    exact sitofp_zero

/-- The first result: the projection, with columns of zeros after it. -/
theorem prod_final (r : Fin 4096) (k : Fin 3456) :
    (dats m 0 c).arrAt 5 cfg0.N (ix2 r k) = dot (hid (x m c r) (sh m c) (sc m c) (g m c)) (fun l => wide (w m c l)) k := by
  refine congrFun ((dats m 0 c).arrAt_eq_of_covers 5
    (fun i => dot (hid (x m c (i 0)) (sh m c) (sc m c) (g m c)) (fun l => wide (w m c l)) (i 1)) (by decide +kernel) fun t hf y => ?_) (ix2 r k)
  obtain ⟨a, b, rfl⟩ : ∃ (a : Fin 512) (b : Fin 3456), y = ix2 a b := ⟨y 0, y 1, eq_ix2 (n0 := 512) (n1 := 3456) y⟩
  blk_simp
  rw [after0_5]
  have h0 : ((View.whole main_v5_0).slice (win0_5.rect t)).emb (ix2 a b) = ix2 (row t a) b := by
    blk_ext [idx5, row]
  rw [h0]
  frame_out
  rw [prod_apply]
  simp only [blk0, blk1, blk2, blk3, blk4]
  rfl

/-- The second result: the projection's left operand. -/
theorem hid_final (r : Fin 4096) (l : Fin 1024) :
    (dats m 0 c).arrAt 6 cfg0.N (ix2 r l) = hid (x m c r) (sh m c) (sc m c) (g m c) l := by
  refine congrFun ((dats m 0 c).arrAt_eq_of_covers 6
    (fun i => hid (x m c (i 0)) (sh m c) (sc m c) (g m c) (i 1)) (by decide +kernel) fun t hf y => ?_) (ix2 r l)
  obtain ⟨a, b, rfl⟩ : ∃ (a : Fin 512) (b : Fin 1024), y = ix2 a b := ⟨y 0, y 1, eq_ix2 (n0 := 512) (n1 := 1024) y⟩
  blk_simp
  rw [after0_6]
  have h0 : ((View.whole main_v5_1).slice (win0_6.rect t)).emb (ix2 a b) = ix2 (row t a) b := by
    blk_ext [idx6, row]
  rw [h0]
  frame_out
  rw [hid_apply]
  simp only [blk0, blk1, blk2, blk3]
  rfl

end Cert.Proof.NormIn

end
-- ==== Proof.NormInClaim.lean ====
/- Hand-written, untrusted: the claims about the modulated norm and the input projection. -/
module

public import proofs.«01_k».proof.Proof.NormIn
public import proofs.«01_k».proof.Defs
public import proofs.«01_k».proof.Proof.Gen.NormInRefIdeal.Run
public import proofs.«01_k».proof.Proof.Gen.NormInRefIdeal.Read
public import Idealize.ShloMosaic.Lib.Claim

@[expose] public section

set_option maxRecDepth 16384

noncomputable section

namespace Cert.Proof.NormIn

open Idealize.ShloMosaic Idealize.ShloMosaic.TcCoe Idealize.SL.Sem Idealize.ShloMosaic.Pointwise Cert.Proof.Fwd

namespace Ref

open Cert.NormInRefIdeal Cert.NormInRefIdeal.Read

variable (x0 : (⟨S4096x1024, .f32⟩ : BufTy).Contents (Elt Ideal)) (x1 x2 x3 : (⟨S1024, .f32⟩ : BufTy).Contents (Elt Ideal))
  (x4 : (⟨S1024x3336, .f32⟩ : BufTy).Contents (Elt Ideal))

theorem nrm_apply (r : Fin 4096) :
    val_main_v7 (F := Ideal) x0 (ix2 r 0) = nrm 0x44800000#32 fun l : Fin 1024 => x0 (ix2 r l) := by
  pointwise [val_main_v7, val_main_v6, val_main_v5, val_main_v4, val_main_v3, val_main_v2, val_main_v1, val_main_v0,
    val_main_cst, val_main_cst_0, val_main_cst_1]
  rfl

theorem hid_apply (r : Fin 4096) (l : Fin 1024) :
    val_main_v20 (F := Ideal) x0 x1 x2 x3 (ix2 r l)
      = hid (fun l => x0 (ix2 r l)) (fun l => x1 (ix1 l)) (fun l => x2 (ix1 l)) (fun l => x3 (ix1 l)) l := by
  pointwise [val_main_v20, val_main_v19, val_main_v18, val_main_v17, val_main_v16, val_main_v15, val_main_v14, val_main_v13,
    val_main_v12, val_main_v11, val_main_v10, val_main_v9, val_main_v8, val_main_cst_2]
  simp only [nrm_apply]
  rfl

theorem prod_apply (r : Fin 4096) (k : Fin 3456) :
    val_main_v22 (F := Ideal) x0 x1 x2 x3 x4 (ix2 r k)
      = dot (hid (fun l => x0 (ix2 r l)) (fun l => x1 (ix1 l)) (fun l => x2 (ix1 l)) (fun l => x3 (ix1 l)))
          (fun l => wide fun k => x4 (ix2 l k)) k := by
  pointwise [val_main_v22, val_main_call0_v0, val_main_c]
  by_cases hk : k.val < 3336
  · rw [dif_pos hk]
    simp only [dot, wide, dif_pos hk]
    pointwise [val_main_v21]
    exact Finset.sum_congr rfl fun l _ => congrArg (· * x4 (ix2 l ⟨k.val, hk⟩)) (hid_apply x0 x1 x2 x3 r l)
  · rw [dif_neg hk]
    simp only [dot, wide, dif_neg hk, mul_zero, Finset.sum_const_zero]
    exact sitofp_zero

end Ref

open Cert.NormInIdeal Cert.NormInIdeal.Gen

/-- The reference runs, keeps its arguments and leaves every counter at zero. -/
theorem frame_ref : Cert.quiescent_NormInRefIdeal :=
  fun m ρ _ => (θ_run _ _ _).mono (fun r h => ⟨fun c => (h c).2.2, sem_eq_zero_of_no_sems rfl _⟩) (Cert.NormInRefIdeal.Value.run (F := Ideal) m ρ)

/-- The two programs return the same arrays. -/
theorem value : Cert.algebraic_NormInIdeal_NormInRefIdeal := by
  intro m ρ m' ρ' hpre hag
  refine ⟨_, _, Cert.NormInIdeal.Value.run_blocks m ρ, (θ_run _ _ _).mono (fun r h c => ?_) (Cert.NormInRefIdeal.Value.run (F := Ideal) m' ρ')⟩
  obtain ⟨e0, e1, e2, e3, e4⟩ := hag c
  obtain ⟨r0, r1, k⟩ := h c
  refine ⟨r0.trans ?_, r1.trans ?_, k⟩
  · rw [Cert.NormInRefIdeal.Read.val_main_v22_eq]
    funext i
    obtain ⟨a, b, rfl⟩ : ∃ (a : Fin 4096) (b : Fin 3456), i = ix2 a b := ⟨i 0, i 1, eq_ix2 (n0 := 4096) (n1 := 3456) i⟩
    rw [Ref.prod_apply, prod_final, e0, e1, e2, e3, e4]
  · rw [Cert.NormInRefIdeal.Read.val_main_v23_eq]
    funext i
    obtain ⟨a, b, rfl⟩ : ∃ (a : Fin 4096) (b : Fin 1024), i = ix2 a b := ⟨i 0, i 1, eq_ix2 (n0 := 4096) (n1 := 1024) i⟩
    rw [Cert.NormInRefIdeal.Read.val_main_v23_apply]
    refine (Ref.hid_apply _ _ _ _ a b).trans ?_
    rw [hid_final, e0, e1, e2, e3]

end Cert.Proof.NormIn

end
-- ==== Proof.NormFf.lean ====
/- Hand-written, untrusted: the modulated norm and the first half of the feed-forward layer. -/
module

public import proofs.«01_k».proof.Proof.Fwd
public import proofs.«01_k».proof.Proof.Gen.NormFfIdeal.Value
public import Idealize.ShloMosaic.Lib.Pipeline.ValueKit

@[expose] public section

set_option maxRecDepth 16384

noncomputable section

namespace Cert.Proof.NormFf

open Idealize.ShloMosaic Idealize.ShloMosaic.TcCoe Idealize.SL.Sem Idealize.ShloMosaic.Pointwise
open Cert.NormFfIdeal Cert.NormFfIdeal.Gen Cert.Proof.Fwd

/-- The body's hidden row, of its blocks. -/
theorem hid_apply (v0 : Vec Ideal S512x1024 .f32) (v1 v3 v5 : Vec Ideal S1x1024 .f32) (r : Fin 512) (l : Fin 1024) :
    k0_pay1 (F := Ideal) v0 v1 v3 v5 (ix2 r l)
      = hid (fun l => v0 (ix2 r l)) (fun l => v1 (ix2 0 l)) (fun l => v3 (ix2 0 l)) (fun l => v5 (ix2 0 l)) l := by
  pointwise [k0_pay1]
  unfold hid nrm
  rw [mul_assoc (_ * _)]

/-- The body's product, of its blocks. -/
theorem prod_apply (v0 : Vec Ideal S512x1024 .f32) (v1 v3 v5 : Vec Ideal S1x1024 .f32) (v7 : Vec Ideal S5632x1024 .bf16)
    (r : Fin 512) (k : Fin 5632) :
    k0_pay2 (F := Ideal) v0 v1 v3 v5 v7 (ix2 r k)
      = dot (hid (fun l => v0 (ix2 r l)) (fun l => v1 (ix2 0 l)) (fun l => v3 (ix2 0 l)) (fun l => v5 (ix2 0 l))) (fun l k => v7 (ix2 k l)) k := by
  pointwise [k0_pay2]
  exact Finset.sum_congr rfl fun l _ => by rw [hid_apply]

/-! ## The kernel's arrays after the run -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Row `r` of block `t` in the array. -/
def row (t : Fin cfg0.N) (r : Fin 512) : Fin 4096 :=
  ⟨t.val * 512 + r.val, by have := t.isLt; have := r.isLt; have h : cfg0.N = 8 := N_0; omega⟩

/-- The arguments, entry by entry. -/
abbrev x (r : Fin 4096) (l : Fin 1024) : EReal := m ((c : Thread nD τ).loc main_arg0) (ix2 r l)
abbrev sh (l : Fin 1024) : EReal := m ((c : Thread nD τ).loc main_arg1) (ix1 l)
abbrev sc (l : Fin 1024) : EReal := m ((c : Thread nD τ).loc main_arg2) (ix1 l)
abbrev g (l : Fin 1024) : EReal := m ((c : Thread nD τ).loc main_arg3) (ix1 l)
abbrev w (l : Fin 1024) (k : Fin 5632) : EReal := m ((c : Thread nD τ).loc main_arg4) (ix2 l k)

theorem blk0 (t : Fin cfg0.N) (r : Fin 512) (l : Fin 1024) : iblk m c 0 t (ix2 r l) = x m c (row t r) l := by
  blk_simp [iblk, V_main_arg0]
  refine congrArg _ ?_
  blk_ext [idx0, row]

theorem blk1 (t : Fin cfg0.N) (l : Fin 1024) : iblk m c 1 t (ix2 0 l) = sh m c l := by
  blk_simp [iblk]
  have h0 : ((View.whole main_v0).slice (win0_1.rect t)).emb (ix2 0 l) = ix2 (0 : Fin 1) l := by blk_ext [idx1]
  rw [h0]
  entry_read
  pointwise

theorem blk2 (t : Fin cfg0.N) (l : Fin 1024) : iblk m c 2 t (ix2 0 l) = sc m c l := by
  blk_simp [iblk]
  have h0 : ((View.whole main_v1).slice (win0_2.rect t)).emb (ix2 0 l) = ix2 (0 : Fin 1) l := by blk_ext [idx2]
  rw [h0]
  entry_read
  pointwise

theorem blk3 (t : Fin cfg0.N) (l : Fin 1024) : iblk m c 3 t (ix2 0 l) = g m c l := by
  blk_simp [iblk]
  have h0 : ((View.whole main_v2).slice (win0_3.rect t)).emb (ix2 0 l) = ix2 (0 : Fin 1) l := by blk_ext [idx3]
  rw [h0]
  entry_read
  pointwise

theorem blk4 (t : Fin cfg0.N) (l : Fin 1024) (k : Fin 5632) : iblk m c 4 t (ix2 k l) = w m c l k := by
  blk_simp [iblk]
  have h0 : ((View.whole main_v4).slice (win0_4.rect t)).emb (ix2 k l) = ix2 k l := by blk_ext [idx4]
  rw [h0]
  entry_read
  pointwise

/-- The first result: the product. -/
theorem prod_final (r : Fin 4096) (k : Fin 5632) :
    (dats m 0 c).arrAt 5 cfg0.N (ix2 r k) = dot (hid (x m c r) (sh m c) (sc m c) (g m c)) (w m c) k := by
  refine congrFun ((dats m 0 c).arrAt_eq_of_covers 5
    (fun i => dot (hid (x m c (i 0)) (sh m c) (sc m c) (g m c)) (w m c) (i 1)) (by decide +kernel) fun t hf y => ?_) (ix2 r k)
  obtain ⟨a, b, rfl⟩ : ∃ (a : Fin 512) (b : Fin 5632), y = ix2 a b := ⟨y 0, y 1, eq_ix2 (n0 := 512) (n1 := 5632) y⟩
  blk_simp
  rw [after0_5]
  have h0 : ((View.whole main_v5_0).slice (win0_5.rect t)).emb (ix2 a b) = ix2 (row t a) b := by
    blk_ext [idx5, row]
  rw [h0]
  frame_out
  rw [prod_apply]
  simp only [blk0, blk1, blk2, blk3, blk4]
  rfl

/-- The second result: the product's left operand. -/
theorem hid_final (r : Fin 4096) (l : Fin 1024) :
    (dats m 0 c).arrAt 6 cfg0.N (ix2 r l) = hid (x m c r) (sh m c) (sc m c) (g m c) l := by
  refine congrFun ((dats m 0 c).arrAt_eq_of_covers 6
    (fun i => hid (x m c (i 0)) (sh m c) (sc m c) (g m c) (i 1)) (by decide +kernel) fun t hf y => ?_) (ix2 r l)
  obtain ⟨a, b, rfl⟩ : ∃ (a : Fin 512) (b : Fin 1024), y = ix2 a b := ⟨y 0, y 1, eq_ix2 (n0 := 512) (n1 := 1024) y⟩
  blk_simp
  rw [after0_6]
  have h0 : ((View.whole main_v5_1).slice (win0_6.rect t)).emb (ix2 a b) = ix2 (row t a) b := by
    blk_ext [idx6, row]
  rw [h0]
  frame_out
  rw [hid_apply]
  simp only [blk0, blk1, blk2, blk3]
  rfl

end Cert.Proof.NormFf

end
-- ==== Proof.NormFfClaim.lean ====
/- Hand-written, untrusted: the claims about the modulated norm and the first half of the feed-forward layer. -/
module

public import proofs.«01_k».proof.Proof.NormFf
public import proofs.«01_k».proof.Defs
public import proofs.«01_k».proof.Proof.Gen.NormFfRefIdeal.Run
public import proofs.«01_k».proof.Proof.Gen.NormFfRefIdeal.Read
public import Idealize.ShloMosaic.Lib.Claim

@[expose] public section

set_option maxRecDepth 16384

noncomputable section

namespace Cert.Proof.NormFf

open Idealize.ShloMosaic Idealize.ShloMosaic.TcCoe Idealize.SL.Sem Idealize.ShloMosaic.Pointwise Cert.Proof.Fwd

namespace Ref

open Cert.NormFfRefIdeal Cert.NormFfRefIdeal.Read

variable (x0 : (⟨S4096x1024, .f32⟩ : BufTy).Contents (Elt Ideal)) (x1 x2 x3 : (⟨S1024, .f32⟩ : BufTy).Contents (Elt Ideal))
  (x4 : (⟨S1024x5632, .f32⟩ : BufTy).Contents (Elt Ideal))

theorem nrm_apply (r : Fin 4096) :
    val_main_v7 (F := Ideal) x0 (ix2 r 0) = nrm 0x44800000#32 fun l : Fin 1024 => x0 (ix2 r l) := by
  pointwise [val_main_v7, val_main_v6, val_main_v5, val_main_v4, val_main_v3, val_main_v2, val_main_v1, val_main_v0,
    val_main_cst, val_main_cst_0, val_main_cst_1]
  rfl

theorem hid_apply (r : Fin 4096) (l : Fin 1024) :
    val_main_v20 (F := Ideal) x0 x1 x2 x3 (ix2 r l)
      = hid (fun l => x0 (ix2 r l)) (fun l => x1 (ix1 l)) (fun l => x2 (ix1 l)) (fun l => x3 (ix1 l)) l := by
  pointwise [val_main_v20, val_main_v19, val_main_v18, val_main_v17, val_main_v16, val_main_v15, val_main_v14, val_main_v13,
    val_main_v12, val_main_v11, val_main_v10, val_main_v9, val_main_v8, val_main_cst_2]
  simp only [nrm_apply]
  rfl

theorem prod_apply (r : Fin 4096) (k : Fin 5632) :
    val_main_v22 (F := Ideal) x0 x1 x2 x3 x4 (ix2 r k)
      = dot (hid (fun l => x0 (ix2 r l)) (fun l => x1 (ix1 l)) (fun l => x2 (ix1 l)) (fun l => x3 (ix1 l)))
          (fun l k => x4 (ix2 l k)) k := by
  pointwise [val_main_v22, val_main_v21]
  exact Finset.sum_congr rfl fun l _ => congrArg (· * x4 (ix2 l k)) (hid_apply x0 x1 x2 x3 r l)

end Ref

open Cert.NormFfIdeal Cert.NormFfIdeal.Gen

/-- The reference runs, keeps its arguments and leaves every counter at zero. -/
theorem frame_ref : Cert.quiescent_NormFfRefIdeal :=
  fun m ρ _ => (θ_run _ _ _).mono (fun r h => ⟨fun c => (h c).2.2, sem_eq_zero_of_no_sems rfl _⟩) (Cert.NormFfRefIdeal.Value.run (F := Ideal) m ρ)

/-- The two programs return the same arrays. -/
theorem value : Cert.algebraic_NormFfIdeal_NormFfRefIdeal := by
  intro m ρ m' ρ' hpre hag
  refine ⟨_, _, Cert.NormFfIdeal.Value.run_blocks m ρ, (θ_run _ _ _).mono (fun r h c => ?_) (Cert.NormFfRefIdeal.Value.run (F := Ideal) m' ρ')⟩
  obtain ⟨e0, e1, e2, e3, e4⟩ := hag c
  obtain ⟨r0, r1, k⟩ := h c
  refine ⟨r0.trans ?_, r1.trans ?_, k⟩
  · rw [Cert.NormFfRefIdeal.Read.val_main_v22_eq]
    funext i
    obtain ⟨a, b, rfl⟩ : ∃ (a : Fin 4096) (b : Fin 5632), i = ix2 a b := ⟨i 0, i 1, eq_ix2 (n0 := 4096) (n1 := 5632) i⟩
    rw [Ref.prod_apply, prod_final, e0, e1, e2, e3, e4]
  · rw [Cert.NormFfRefIdeal.Read.val_main_v23_eq]
    funext i
    obtain ⟨a, b, rfl⟩ : ∃ (a : Fin 4096) (b : Fin 1024), i = ix2 a b := ⟨i 0, i 1, eq_ix2 (n0 := 4096) (n1 := 1024) i⟩
    rw [Cert.NormFfRefIdeal.Read.val_main_v23_apply]
    refine (Ref.hid_apply _ _ _ _ a b).trans ?_
    rw [hid_final, e0, e1, e2, e3]

end Cert.Proof.NormFf

end
-- ==== Proof.FfnOut.lean ====
/- Hand-written, untrusted: the second half of the feed-forward layer. -/
module

public import proofs.«01_k».proof.Proof.Fwd
public import proofs.«01_k».proof.Proof.Gen.FfnOutIdeal.Value
public import Idealize.ShloMosaic.Lib.Pipeline.ValueKit

@[expose] public section

set_option maxRecDepth 16384

noncomputable section

namespace Cert.Proof.FfnOut

open Idealize.ShloMosaic Idealize.ShloMosaic.TcCoe Idealize.SL.Sem Idealize.ShloMosaic.Pointwise
open Cert.FfnOutIdeal Cert.FfnOutIdeal.Gen Cert.Proof.Fwd

/-- A row's gated activations: `silu(gate) * up`, the gates in the row's first half. -/
def act (u : Fin 5632 → EReal) (j : Fin 2816) : EReal :=
  let a := u ⟨j.val, by have := j.isLt; omega⟩
  a * logi a * u ⟨2816 + j.val, by have := j.isLt; omega⟩

/-- The body's product, of its blocks. -/
theorem prod_apply (v1 : Vec Ideal S256x5632 .bf16) (v5 : Vec Ideal S2816x1024 .bf16) (r : Fin 256) (l : Fin 1024) :
    k0_pay1 (F := Ideal) v1 v5 (ix2 r l) = dot (act fun k => v1 (ix2 r k)) (fun j l => v5 (ix2 j l)) l := by
  pointwise [k0_pay1]
  unfold dot act logi
  simp only [zero_sub]

/-- The body's sum with the residual. -/
theorem sum_apply (v0 : Vec Ideal S256x1024 .f32) (v1 : Vec Ideal S256x5632 .bf16) (v3 : Vec Ideal S1x1024 .f32)
    (v5 : Vec Ideal S2816x1024 .bf16) (r : Fin 256) (l : Fin 1024) :
    k0_pay2 (F := Ideal) v0 v1 v3 v5 (ix2 r l)
      = v0 (ix2 r l) + v3 (ix2 0 l) * dot (act fun k => v1 (ix2 r k)) (fun j l => v5 (ix2 j l)) l := by
  have h := prod_apply v1 v5 r l
  unfold k0_pay2
  generalize k0_pay1 (F := Ideal) v1 v5 = y at h ⊢
  pointwise
  rw [h]

/-! ## The kernel's arrays after the run -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)

/-- Row `r` of block `t` in the array. -/
def row (t : Fin cfg0.N) (r : Fin 256) : Fin 4096 :=
  ⟨t.val * 256 + r.val, by have := t.isLt; have := r.isLt; have h : cfg0.N = 16 := N_0; omega⟩

/-- The arguments, entry by entry. -/
abbrev x (r : Fin 4096) (l : Fin 1024) : EReal := m ((c : Thread nD τ).loc main_arg0) (ix2 r l)
abbrev u (r : Fin 4096) (k : Fin 5632) : EReal := m ((c : Thread nD τ).loc main_arg1) (ix2 r k)
abbrev g (l : Fin 1024) : EReal := m ((c : Thread nD τ).loc main_arg2) (ix1 l)
abbrev w (j : Fin 2816) (l : Fin 1024) : EReal := m ((c : Thread nD τ).loc main_arg3) (ix2 j l)

theorem blk0 (t : Fin cfg0.N) (r : Fin 256) (l : Fin 1024) : iblk m c 0 t (ix2 r l) = x m c (row t r) l := by
  blk_simp [iblk, V_main_arg0]
  refine congrArg _ ?_
  blk_ext [idx0, row]

theorem blk1 (t : Fin cfg0.N) (r : Fin 256) (k : Fin 5632) : iblk m c 1 t (ix2 r k) = u m c (row t r) k := by
  blk_simp [iblk]
  have h0 : ((View.whole main_v0).slice (win0_1.rect t)).emb (ix2 r k) = ix2 (row t r) k := by blk_ext [idx1, row]
  rw [h0]
  entry_read
  pointwise

theorem blk2 (t : Fin cfg0.N) (l : Fin 1024) : iblk m c 2 t (ix2 0 l) = g m c l := by
  blk_simp [iblk]
  have h0 : ((View.whole main_v1).slice (win0_2.rect t)).emb (ix2 0 l) = ix2 (0 : Fin 1) l := by blk_ext [idx2]
  rw [h0]
  entry_read
  pointwise

theorem blk3 (t : Fin cfg0.N) (j : Fin 2816) (l : Fin 1024) : iblk m c 3 t (ix2 j l) = w m c j l := by
  blk_simp [iblk]
  have h0 : ((View.whole main_v2).slice (win0_3.rect t)).emb (ix2 j l) = ix2 j l := by blk_ext [idx3]
  rw [h0]
  entry_read
  pointwise

/-- The first result: the layer's output. -/
theorem sum_final (r : Fin 4096) (l : Fin 1024) :
    (dats m 0 c).arrAt 4 cfg0.N (ix2 r l) = x m c r l + g m c l * dot (act (u m c r)) (w m c) l := by
  refine congrFun ((dats m 0 c).arrAt_eq_of_covers 4
    (fun i => (x m c (i 0) (i 1) + g m c (i 1) * dot (act (u m c (i 0))) (w m c) (i 1) : EReal)) (by decide +kernel) fun t hf y => ?_) (ix2 r l)
  obtain ⟨a, b, rfl⟩ : ∃ (a : Fin 256) (b : Fin 1024), y = ix2 a b := ⟨y 0, y 1, eq_ix2 (n0 := 256) (n1 := 1024) y⟩
  blk_simp
  rw [after0_4]
  have h0 : ((View.whole main_v3_0).slice (win0_4.rect t)).emb (ix2 a b) = ix2 (row t a) b := by
    blk_ext [idx4, row]
  rw [h0]
  frame_out
  rw [sum_apply]
  simp only [blk0, blk1, blk2, blk3]
  rfl

/-- The second result: the product. -/
theorem prod_final (r : Fin 4096) (l : Fin 1024) :
    (dats m 0 c).arrAt 5 cfg0.N (ix2 r l) = dot (act (u m c r)) (w m c) l := by
  refine congrFun ((dats m 0 c).arrAt_eq_of_covers 5
    (fun i => dot (act (u m c (i 0))) (w m c) (i 1)) (by decide +kernel) fun t hf y => ?_) (ix2 r l)
  obtain ⟨a, b, rfl⟩ : ∃ (a : Fin 256) (b : Fin 1024), y = ix2 a b := ⟨y 0, y 1, eq_ix2 (n0 := 256) (n1 := 1024) y⟩
  blk_simp
  rw [after0_5]
  have h0 : ((View.whole main_v3_1).slice (win0_5.rect t)).emb (ix2 a b) = ix2 (row t a) b := by
    blk_ext [idx5, row]
  rw [h0]
  frame_out
  rw [prod_apply]
  simp only [blk1, blk3]
  rfl

end Cert.Proof.FfnOut

end
-- ==== Proof.FfnOutClaim.lean ====
/- Hand-written, untrusted: the claims about the second half of the feed-forward layer. -/
module

public import proofs.«01_k».proof.Proof.FfnOut
public import proofs.«01_k».proof.Defs
public import proofs.«01_k».proof.Proof.Gen.FfnOutRefIdeal.Run
public import proofs.«01_k».proof.Proof.Gen.FfnOutRefIdeal.Read
public import Idealize.ShloMosaic.Lib.Claim

@[expose] public section

set_option maxRecDepth 16384

noncomputable section

namespace Cert.Proof.FfnOut

open Idealize.ShloMosaic Idealize.ShloMosaic.TcCoe Idealize.SL.Sem Idealize.ShloMosaic.Pointwise Cert.Proof.Fwd

namespace Ref

open Cert.FfnOutRefIdeal Cert.FfnOutRefIdeal.Read

variable (x0 : (⟨S4096x1024, .f32⟩ : BufTy).Contents (Elt Ideal)) (x1 : (⟨S4096x5632, .f32⟩ : BufTy).Contents (Elt Ideal))
  (x2 : (⟨S1024, .f32⟩ : BufTy).Contents (Elt Ideal)) (x3 : (⟨S2816x1024, .f32⟩ : BufTy).Contents (Elt Ideal))

theorem act_apply (r : Fin 4096) (j : Fin 2816) : val_main_v3 (F := Ideal) x1 (ix2 r j) = act (fun k => x1 (ix2 r k)) j := by
  pointwise [val_main_v3, val_main_v2, val_main_call0_v5, val_main_call0_v4, val_main_call0_v3, val_main_call0_v2,
    val_main_call0_v1, val_main_call0_v0, val_main_call0_cst, val_main_call0_cst_0, val_main_v1, val_main_v0]
  rfl

theorem prod_apply (r : Fin 4096) (l : Fin 1024) :
    val_main_v4 (F := Ideal) x1 x3 (ix2 r l) = dot (act fun k => x1 (ix2 r k)) (fun j l => x3 (ix2 j l)) l := by
  pointwise [val_main_v4]
  exact Finset.sum_congr rfl fun j _ => congrArg (· * x3 (ix2 j l)) (act_apply x1 r j)

theorem sum_apply (r : Fin 4096) (l : Fin 1024) :
    val_main_v8 (F := Ideal) x0 x1 x2 x3 (ix2 r l)
      = x0 (ix2 r l) + x2 (ix1 l) * dot (act fun k => x1 (ix2 r k)) (fun j l => x3 (ix2 j l)) l := by
  pointwise [val_main_v8, val_main_v7, val_main_v6, val_main_v5]
  rw [prod_apply]

end Ref

open Cert.FfnOutIdeal Cert.FfnOutIdeal.Gen

/-- The reference runs, keeps its arguments and leaves every counter at zero. -/
theorem frame_ref : Cert.quiescent_FfnOutRefIdeal :=
  fun m ρ _ => (θ_run _ _ _).mono (fun r h => ⟨fun c => (h c).2.2, sem_eq_zero_of_no_sems rfl _⟩) (Cert.FfnOutRefIdeal.Value.run (F := Ideal) m ρ)

/-- The two programs return the same arrays. -/
theorem value : Cert.algebraic_FfnOutIdeal_FfnOutRefIdeal := by
  intro m ρ m' ρ' hpre hag
  refine ⟨_, _, Cert.FfnOutIdeal.Value.run_blocks m ρ, (θ_run _ _ _).mono (fun r h c => ?_) (Cert.FfnOutRefIdeal.Value.run (F := Ideal) m' ρ')⟩
  obtain ⟨e0, e1, e2, e3⟩ := hag c
  obtain ⟨r0, r1, k⟩ := h c
  refine ⟨r0.trans ?_, r1.trans ?_, k⟩
  · rw [Cert.FfnOutRefIdeal.Read.val_main_v8_eq]
    funext i
    obtain ⟨a, b, rfl⟩ : ∃ (a : Fin 4096) (b : Fin 1024), i = ix2 a b := ⟨i 0, i 1, eq_ix2 (n0 := 4096) (n1 := 1024) i⟩
    rw [Ref.sum_apply, sum_final, e0, e1, e2, e3]
  · rw [Cert.FfnOutRefIdeal.Read.val_main_v4_eq]
    funext i
    obtain ⟨a, b, rfl⟩ : ∃ (a : Fin 4096) (b : Fin 1024), i = ix2 a b := ⟨i 0, i 1, eq_ix2 (n0 := 4096) (n1 := 1024) i⟩
    rw [Ref.prod_apply, prod_final, e1, e3]

end Cert.Proof.FfnOut

end
-- ==== Proof.Mixer.lean ====
/- Hand-written, untrusted: the gated norm of the recurrence's heads and the output projection. -/
module

public import proofs.«01_k».proof.Proof.Fwd
public import proofs.«01_k».proof.Proof.Head
public import proofs.«01_k».proof.Proof.Gen.MixerIdeal.Value
public import Idealize.ShloMosaic.Lib.Pipeline.ValueKit

@[expose] public section

set_option maxRecDepth 16384

noncomputable section

namespace Cert.Proof.Mixer

open Idealize.ShloMosaic Idealize.ShloMosaic.TcCoe Idealize.SL.Sem Idealize.ShloMosaic.Pointwise
open Cert.MixerIdeal Cert.MixerIdeal.Gen Cert.Proof.Fwd Cert.Proof.Outproj

/-- A gated head: `rmsnorm(o, g) * silu(z)`. -/
def head (o z g : Fin 128 → EReal) (l : Fin 128) : EReal := o l * nrm 0x43000000#32 o * g l * (z l * logi (z l))

/-- The projection's left operand: a half row beside the gated heads. -/
def cat (y o z : Fin 512 → EReal) (g : Fin 128 → EReal) : Fin 1024 → EReal :=
  ycat y fun h => head (Head.of o h) (Head.of z h) g

theorem head_apply (x z : Vec Ideal S512x128 .f32) (g : Vec Ideal S1x128 .f32) (r : Fin 512) (l : Fin 128) :
    k0_pay18 (F := Ideal) z g x (ix2 r l) = head (fun l => x (ix2 r l)) (fun l => z (ix2 r l)) (fun l => g (ix2 0 l)) l := by
  pointwise [k0_pay18]
  unfold head nrm logi
  simp only [zero_sub]

variable (v0 : Vec Ideal S512x1024 .f32) (v1 : Vec Ideal S512x512 .f32) (v2 v4 v6 v8 : Vec Ideal S512x128 .f32)
  (v10 : Vec Ideal S512x512 .bf16) (v12 : Vec Ideal S1x1024 .f32) (v14 : Vec Ideal S1x128 .f32) (v16 : Vec Ideal S1024x1024 .bf16)

/-- The four heads of a block. -/
def ob (h : Fin 4) : Vec Ideal S512x128 .f32 := fun i => v1 (ix2 (i 0) (Head.col h (i 1)))
def zb (h : Fin 4) : Vec Ideal S512x128 .f32 := match h with | 0 => v2 | 1 => v4 | 2 => v6 | 3 => v8

theorem cat_apply (r : Fin 512) (k : Fin 1024) :
    k0_pay1 (k0_pay6 v6) (k0_pay7 v8) (k0_pay8 v10) (k0_pay10 v14) (k0_pay14 v1) (k0_pay17 (k0_pay4 v2) (k0_pay15 v1 v14) (k0_pay16 (F := Ideal)))
      (k0_pay18 (k0_pay5 v4) (k0_pay10 v14) (k0_pay12 v1)) (k0_pay19 (k0_pay10 v14) (k0_pay13 v1)) (k0_pay20 (k0_pay6 v6))
      (Scalar.ofBits .f32 0x3F800000#32) (ix2 r k)
      = ycat (fun l => v10 (ix2 r l)) (fun h => head (fun l => v1 (ix2 r (Head.col h l))) (fun l => zb v2 v4 v6 v8 h (ix2 r l)) (fun l => v14 (ix2 0 l))) k := by
  unfold k0_pay1
  obtain ⟨j, rfl⟩ | ⟨h, l, rfl⟩ := lo_or_col k
  · rw [ycat_lo]
    refine (concat5_lo _ _ _ _ _ _ r j).trans ?_
    pointwise [k0_pay8]
  · rw [ycat_col]
    have o0 (l) : (extractStridedSlice S512x128 ![0, 0] v1 slices_S512x512_o0_0_S512x128) (ix2 r l) = v1 (ix2 r (Head.col 0 l)) := by
      pointwise; exact congrArg v1 (congrArg (ix2 r) (Fin.ext (by simp [Head.col])))
    have o1 (l) : k0_pay12 (F := Ideal) v1 (ix2 r l) = v1 (ix2 r (Head.col 1 l)) := by
      pointwise [k0_pay12]; exact congrArg v1 (congrArg (ix2 r) (Fin.ext (by simp [Head.col])))
    have o2 (l) : k0_pay13 (F := Ideal) v1 (ix2 r l) = v1 (ix2 r (Head.col 2 l)) := by
      pointwise [k0_pay13]; exact congrArg v1 (congrArg (ix2 r) (Fin.ext (by simp [Head.col])))
    have o3 (l) : k0_pay14 (F := Ideal) v1 (ix2 r l) = v1 (ix2 r (Head.col 3 l)) := by
      pointwise [k0_pay14]; exact congrArg v1 (congrArg (ix2 r) (Fin.ext (by simp [Head.col])))
    have z0 (v : Vec Ideal S512x128 .f32) (l) : k0_pay4 (F := Ideal) v (ix2 r l) = v (ix2 r l) := by pointwise [k0_pay4]
    have g0 (l) : k0_pay10 (F := Ideal) v14 (ix2 0 l) = v14 (ix2 0 l) := by pointwise [k0_pay10]
    have key (x z) := head_apply x (k0_pay4 (F := Ideal) z) (k0_pay10 (F := Ideal) v14) r l
    simp only [z0, g0] at key
    refine concat5_col _ _ _ _ _ _ (fun h => head (fun l => v1 (ix2 r (Head.col h l))) (fun l => zb v2 v4 v6 v8 h (ix2 r l)) (fun l => v14 (ix2 0 l)) l) r l ?_ ?_ ?_ ?_ h
    · have := key (extractStridedSlice S512x128 ![0, 0] v1 slices_S512x512_o0_0_S512x128) v2
      simp only [o0] at this
      exact this
    · have := key (k0_pay12 v1) v4
      simp only [o1] at this
      exact this
    · have := key (k0_pay13 v1) v6
      simp only [o2] at this
      exact this
    · have := key (k0_pay14 v1) v8
      simp only [o3] at this
      exact this

/-- The rows of the blocks, as the body's product and sum read them. -/
abbrev bcat (r : Fin 512) : Fin 1024 → EReal :=
  ycat (fun l => v10 (ix2 r l)) (fun h => head (fun l => v1 (ix2 r (Head.col h l))) (fun l => zb v2 v4 v6 v8 h (ix2 r l)) (fun l => v14 (ix2 0 l)))

theorem prod_apply (r : Fin 512) (l : Fin 1024) :
    k0_pay2 (k0_pay6 v6) (k0_pay7 v8) (k0_pay8 v10) (k0_pay10 v14) (k0_pay11 v16) (k0_pay14 v1)
      (k0_pay17 (k0_pay4 v2) (k0_pay15 v1 v14) (k0_pay16 (F := Ideal)))
      (k0_pay18 (k0_pay5 v4) (k0_pay10 v14) (k0_pay12 v1)) (k0_pay19 (k0_pay10 v14) (k0_pay13 v1)) (k0_pay20 (k0_pay6 v6))
      (Scalar.ofBits .f32 0x3F800000#32) (ix2 r l) = dot (bcat v1 v2 v4 v6 v8 v10 v14 r) (fun k l => v16 (ix2 k l)) l := by
  have hk := cat_apply v1 v2 v4 v6 v8 v10 v14 r
  unfold k0_pay2
  generalize k0_pay1 (F := Ideal) _ _ _ _ _ _ _ _ _ _ = y at hk ⊢
  pointwise [k0_pay11]
  simp only [hk]
  rfl

theorem sum_apply (r : Fin 512) (l : Fin 1024) :
    k0_pay3 v0 (k0_pay6 v6) (k0_pay7 v8) (k0_pay8 v10) (k0_pay9 v12) (k0_pay10 v14) (k0_pay11 v16) (k0_pay14 v1)
      (k0_pay17 (k0_pay4 v2) (k0_pay15 v1 v14) (k0_pay16 (F := Ideal)))
      (k0_pay18 (k0_pay5 v4) (k0_pay10 v14) (k0_pay12 v1)) (k0_pay19 (k0_pay10 v14) (k0_pay13 v1)) (k0_pay20 (k0_pay6 v6))
      (Scalar.ofBits .f32 0x3F800000#32) (ix2 r l)
      = v0 (ix2 r l) + v12 (ix2 0 l) * dot (bcat v1 v2 v4 v6 v8 v10 v14 r) (fun k l => v16 (ix2 k l)) l := by
  have hk := prod_apply v1 v2 v4 v6 v8 v10 v14 v16 r l
  unfold k0_pay3
  generalize k0_pay2 (F := Ideal) _ _ _ _ _ _ _ _ _ _ _ = y at hk ⊢
  pointwise [k0_pay9]
  rw [hk]

/-! ## The kernel's arrays after the run -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 22] := (by decide +kernel : ∀ t : Fin grid0.N, _)
theorem idx3 : ∀ t : Fin cfg0.N, win0_3.index t = ![t.val, 23] := (by decide +kernel : ∀ t : Fin grid0.N, _)
theorem idx4 : ∀ t : Fin cfg0.N, win0_4.index t = ![t.val, 24] := (by decide +kernel : ∀ t : Fin grid0.N, _)
theorem idx5 : ∀ t : Fin cfg0.N, win0_5.index t = ![t.val, 25] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)

/-- Row `r` of block `t` in the array. -/
def row (t : Fin cfg0.N) (r : Fin 512) : Fin 4096 :=
  ⟨t.val * 512 + r.val, by have := t.isLt; have := r.isLt; have h : cfg0.N = 8 := N_0; omega⟩

/-- The arguments, entry by entry; of the projection, the gates. -/
abbrev x (r : Fin 4096) (l : Fin 1024) : EReal := m ((c : Thread nD τ).loc main_arg0) (ix2 r l)
abbrev o (r : Fin 4096) (l : Fin 512) : EReal := m ((c : Thread nD τ).loc main_arg1) (ix2 r l)
abbrev z (r : Fin 4096) : Fin 512 → EReal := gates fun k => m ((c : Thread nD τ).loc main_arg2) (ix2 r k)
abbrev y (r : Fin 4096) (l : Fin 512) : EReal := m ((c : Thread nD τ).loc main_arg3) (ix2 r l)
abbrev g1 (l : Fin 1024) : EReal := m ((c : Thread nD τ).loc main_arg4) (ix1 l)
abbrev g (l : Fin 128) : EReal := m ((c : Thread nD τ).loc main_arg5) (ix1 l)
abbrev w (k l : Fin 1024) : EReal := m ((c : Thread nD τ).loc main_arg6) (ix2 k l)

theorem blk0 (t : Fin cfg0.N) (r : Fin 512) (l : Fin 1024) : iblk m c 0 t (ix2 r l) = x m c (row t r) l := by
  blk_simp [iblk, V_main_arg0]
  refine congrArg _ ?_
  blk_ext [idx0, row]

theorem blk1 (t : Fin cfg0.N) (r : Fin 512) (l : Fin 512) : iblk m c 1 t (ix2 r l) = o m c (row t r) l := by
  blk_simp [iblk, V_main_arg1]
  refine congrArg _ ?_
  blk_ext [idx1, row]

theorem v0_eq : V m c main_v0 = fun i : S4096x3456.Idx => pad S4096x3456 ![0, 0] ![0, 120] ![0, 0]
    (m ((c : Thread nD τ).loc main_arg2) : S4096x3336.Idx → EReal) (sitofp (F := Ideal) .f32 (constantI S_ 32 0#32))
    pads_S4096x3336_S4096x3456_000_01200 h_S_ i := by
  entry_read
  simp only [List.flatten_cons, List.flatten_nil, List.append_nil, List.cons_append, List.nil_append]
  after_results_simp <;> rfl

/-- The wide projection, read in its gates. -/
theorem gate_apply (r : Fin 4096) (h : Fin 4) (l : Fin 128) (k : Fin 3456) (hk : k.val = 2816 + (Head.col h l).val) :
    V m c main_v0 (ix2 r k) = z m c r (Head.col h l) := by
  have := (Head.col h l).isLt
  rw [v0_eq]
  pointwise
  rw [dif_pos (by intro a; fin_cases a <;> simp <;> omega)]
  exact congrArg (m ((c : Thread nD τ).loc main_arg2)) (congrArg (ix2 r) (Fin.ext hk))

theorem blk2 (t : Fin cfg0.N) (r : Fin 512) (l : Fin 128) : iblk m c 2 t (ix2 r l) = z m c (row t r) (Head.col 0 l) := by
  blk_simp [iblk]
  have h0 : ((View.whole main_v0).slice (win0_2.rect t)).emb (ix2 r l) = ix2 (row t r) ⟨2816 + l.val, by omega⟩ := by blk_ext [idx2, row]
  rw [h0]
  exact gate_apply m c _ 0 l _ (by show 2816 + l.val = 2816 + (128 * 0 + l.val); omega)

theorem blk3 (t : Fin cfg0.N) (r : Fin 512) (l : Fin 128) : iblk m c 3 t (ix2 r l) = z m c (row t r) (Head.col 1 l) := by
  blk_simp [iblk]
  have h0 : ((View.whole main_v0).slice (win0_3.rect t)).emb (ix2 r l) = ix2 (row t r) ⟨2944 + l.val, by omega⟩ := by blk_ext [idx3, row]
  rw [h0]
  exact gate_apply m c _ 1 l _ (by show 2944 + l.val = 2816 + (128 * 1 + l.val); omega)

theorem blk4 (t : Fin cfg0.N) (r : Fin 512) (l : Fin 128) : iblk m c 4 t (ix2 r l) = z m c (row t r) (Head.col 2 l) := by
  blk_simp [iblk]
  have h0 : ((View.whole main_v0).slice (win0_4.rect t)).emb (ix2 r l) = ix2 (row t r) ⟨3072 + l.val, by omega⟩ := by blk_ext [idx4, row]
  rw [h0]
  exact gate_apply m c _ 2 l _ (by show 3072 + l.val = 2816 + (128 * 2 + l.val); omega)

theorem blk5 (t : Fin cfg0.N) (r : Fin 512) (l : Fin 128) : iblk m c 5 t (ix2 r l) = z m c (row t r) (Head.col 3 l) := by
  blk_simp [iblk]
  have h0 : ((View.whole main_v0).slice (win0_5.rect t)).emb (ix2 r l) = ix2 (row t r) ⟨3200 + l.val, by omega⟩ := by blk_ext [idx5, row]
  rw [h0]
  exact gate_apply m c _ 3 l _ (by show 3200 + l.val = 2816 + (128 * 3 + l.val); omega)

theorem blk6 (t : Fin cfg0.N) (r : Fin 512) (l : Fin 512) : iblk m c 6 t (ix2 r l) = y m c (row t r) l := by
  blk_simp [iblk]
  have h0 : ((View.whole main_v1).slice (win0_6.rect t)).emb (ix2 r l) = ix2 (row t r) l := by blk_ext [idx6, row]
  rw [h0]
  entry_read
  simp only [List.flatten_cons, List.flatten_nil, List.append_nil, List.cons_append, List.nil_append]
  after_results_simp
  pointwise

theorem blk7 (t : Fin cfg0.N) (l : Fin 1024) : iblk m c 7 t (ix2 0 l) = g1 m c l := by
  blk_simp [iblk]
  have h0 : ((View.whole main_v2).slice (win0_7.rect t)).emb (ix2 0 l) = ix2 (0 : Fin 1) l := by blk_ext [idx7]
  rw [h0]
  entry_read
  simp only [List.flatten_cons, List.flatten_nil, List.append_nil, List.cons_append, List.nil_append]
  after_results_simp
  pointwise

theorem blk8 (t : Fin cfg0.N) (l : Fin 128) : iblk m c 8 t (ix2 0 l) = g m c l := by
  blk_simp [iblk]
  have h0 : ((View.whole main_v3).slice (win0_8.rect t)).emb (ix2 0 l) = ix2 (0 : Fin 1) l := by blk_ext [idx8]
  rw [h0]
  entry_read
  simp only [List.flatten_cons, List.flatten_nil, List.append_nil, List.cons_append, List.nil_append]
  after_results_simp
  pointwise

theorem blk9 (t : Fin cfg0.N) (k l : Fin 1024) : iblk m c 9 t (ix2 k l) = w m c k l := by
  blk_simp [iblk]
  have h0 : ((View.whole main_v4).slice (win0_9.rect t)).emb (ix2 k l) = ix2 k l := by blk_ext [idx9]
  rw [h0]
  entry_read
  simp only [List.flatten_cons, List.flatten_nil, List.append_nil, List.cons_append, List.nil_append]
  after_results_simp
  pointwise

/-- The product's operand of a block's row. -/
theorem bcat_eq (t : Fin cfg0.N) (r : Fin 512) :
    bcat (iblk m c 1 t) (iblk m c 2 t) (iblk m c 3 t) (iblk m c 4 t) (iblk m c 5 t) (iblk m c 6 t) (iblk m c 8 t) r
      = cat (y m c (row t r)) (o m c (row t r)) (z m c (row t r)) (g m c) := by
  have hz (h : Fin 4) (l : Fin 128) : zb (iblk m c 2 t) (iblk m c 3 t) (iblk m c 4 t) (iblk m c 5 t) h (ix2 r l) = Head.of (z m c (row t r)) h l := by
    fin_cases h
    · exact blk2 m c t r l
    · exact blk3 m c t r l
    · exact blk4 m c t r l
    · exact blk5 m c t r l
  unfold bcat cat
  simp only [hz, blk1, blk6, blk8]
  rfl

theorem sum_final (r : Fin 4096) (l : Fin 1024) : (dats m 0 c).arrAt 10 cfg0.N (ix2 r l)
    = x m c r l + g1 m c l * dot (cat (y m c r) (o m c r) (z m c r) (g m c)) (w m c) l := by
  refine congrFun ((dats m 0 c).arrAt_eq_of_covers 10
    (fun i => (x m c (i 0) (i 1) + g1 m c (i 1) * dot (cat (y m c (i 0)) (o m c (i 0)) (z m c (i 0)) (g m c)) (w m c) (i 1) : EReal))
    (by decide +kernel) fun t hf y => ?_) (ix2 r l)
  obtain ⟨a, b, rfl⟩ : ∃ (a : Fin 512) (b : Fin 1024), y = ix2 a b := ⟨y 0, y 1, eq_ix2 (n0 := 512) (n1 := 1024) y⟩
  blk_simp
  rw [after0_10]
  have h0 : ((View.whole main_v5_0).slice (win0_10.rect t)).emb (ix2 a b) = ix2 (row t a) b := by blk_ext [idx10, row]
  rw [h0]
  unfold_out out0_10
  frame_out
  refine (sum_apply (iblk m c 0 t) (iblk m c 1 t) (iblk m c 2 t) (iblk m c 3 t) (iblk m c 4 t) (iblk m c 5 t) (iblk m c 6 t) (iblk m c 7 t)
    (iblk m c 8 t) (iblk m c 9 t) a b).trans ?_
  rw [bcat_eq, blk0, blk7]
  simp only [blk9]
  rfl

theorem prod_final (r : Fin 4096) (l : Fin 1024) : (dats m 0 c).arrAt 11 cfg0.N (ix2 r l)
    = dot (cat (y m c r) (o m c r) (z m c r) (g m c)) (w m c) l := by
  refine congrFun ((dats m 0 c).arrAt_eq_of_covers 11
    (fun i => dot (cat (y m c (i 0)) (o m c (i 0)) (z m c (i 0)) (g m c)) (w m c) (i 1)) (by decide +kernel) fun t hf y => ?_) (ix2 r l)
  obtain ⟨a, b, rfl⟩ : ∃ (a : Fin 512) (b : Fin 1024), y = ix2 a b := ⟨y 0, y 1, eq_ix2 (n0 := 512) (n1 := 1024) y⟩
  blk_simp
  rw [after0_11]
  have h0 : ((View.whole main_v5_1).slice (win0_11.rect t)).emb (ix2 a b) = ix2 (row t a) b := by blk_ext [idx11, row]
  rw [h0]
  unfold_out out0_11
  frame_out
  refine (prod_apply (iblk m c 1 t) (iblk m c 2 t) (iblk m c 3 t) (iblk m c 4 t) (iblk m c 5 t) (iblk m c 6 t)
    (iblk m c 8 t) (iblk m c 9 t) a b).trans ?_
  rw [bcat_eq]
  simp only [blk9]
  rfl

theorem cat_final (r : Fin 4096) (k : Fin 1024) : (dats m 0 c).arrAt 12 cfg0.N (ix2 r k)
    = cat (y m c r) (o m c r) (z m c r) (g m c) k := by
  refine congrFun ((dats m 0 c).arrAt_eq_of_covers 12
    (fun i => cat (y m c (i 0)) (o m c (i 0)) (z m c (i 0)) (g m c) (i 1)) (by decide +kernel) fun t hf y => ?_) (ix2 r k)
  obtain ⟨a, b, rfl⟩ : ∃ (a : Fin 512) (b : Fin 1024), y = ix2 a b := ⟨y 0, y 1, eq_ix2 (n0 := 512) (n1 := 1024) y⟩
  blk_simp
  rw [after0_12]
  have h0 : ((View.whole main_v5_2).slice (win0_12.rect t)).emb (ix2 a b) = ix2 (row t a) b := by blk_ext [idx12, row]
  rw [h0]
  unfold_out out0_12
  frame_out
  exact (cat_apply (iblk m c 1 t) (iblk m c 2 t) (iblk m c 3 t) (iblk m c 4 t) (iblk m c 5 t) (iblk m c 6 t)
    (iblk m c 8 t) a b).trans (congrFun (bcat_eq m c t a) b)

end Cert.Proof.Mixer

end
-- ==== Proof.MixerClaim.lean ====
/- Hand-written, untrusted: the claims about the gated norm of the heads and the output projection. -/
module

public import proofs.«01_k».proof.Proof.Mixer
public import proofs.«01_k».proof.Defs
public import proofs.«01_k».proof.Proof.Gen.MixerRefIdeal.Run
public import proofs.«01_k».proof.Proof.Gen.MixerRefIdeal.Read
public import Idealize.ShloMosaic.Lib.Claim

@[expose] public section

set_option maxRecDepth 16384

noncomputable section

namespace Cert.Proof.Mixer

open Idealize.ShloMosaic Idealize.ShloMosaic.TcCoe Idealize.SL.Sem Idealize.ShloMosaic.Pointwise Cert.Proof.Fwd Cert.Proof.Outproj

namespace Ref

open Cert.MixerRefIdeal Cert.MixerRefIdeal.Read

variable (x0 : (⟨S4096x1024, .f32⟩ : BufTy).Contents (Elt Ideal)) (x1 x3 : (⟨S4096x512, .f32⟩ : BufTy).Contents (Elt Ideal))
  (x2 : (⟨S4096x3336, .f32⟩ : BufTy).Contents (Elt Ideal)) (x4 : (⟨S1024, .f32⟩ : BufTy).Contents (Elt Ideal))
  (x5 : (⟨S128, .f32⟩ : BufTy).Contents (Elt Ideal)) (x6 : (⟨S1024x1024, .f32⟩ : BufTy).Contents (Elt Ideal))

theorem o_apply (r : Fin 4096) (h : Fin 4) (l : Fin 128) : val_main_v0 (F := Ideal) x1 (ix3 r h l) = x1 (ix2 r (Head.col h l)) := by
  pointwise [val_main_v0]
  exact congrArg x1 (congrArg (ix2 r) (Fin.ext (by simp [Head.col]; omega)))

theorem z_apply (r : Fin 4096) (h : Fin 4) (l : Fin 128) :
    val_main_v2 (F := Ideal) x2 (ix3 r h l) = gates (fun k => x2 (ix2 r k)) (Head.col h l) := by
  pointwise [val_main_v2, val_main_v1]
  exact congrArg x2 (congrArg (ix2 r) (Fin.ext (by simp [Head.col]; omega)))

theorem nrm_apply (r : Fin 4096) (h : Fin 4) :
    val_main_v10 (F := Ideal) x1 (ix3 r h 0) = nrm 0x43000000#32 (Head.of (fun l => x1 (ix2 r l)) h) := by
  pointwise [val_main_v10, val_main_v9, val_main_v8, val_main_v7, val_main_v6, val_main_v5, val_main_v4, val_main_v3,
    val_main_cst, val_main_cst_0, val_main_cst_1]
  simp only [o_apply]
  rfl

theorem head_apply (r : Fin 4096) (h : Fin 4) (l : Fin 128) : val_main_v17 (F := Ideal) x1 x2 x5 (ix3 r h l)
    = head (Head.of (fun l => x1 (ix2 r l)) h) (Head.of (gates fun k => x2 (ix2 r k)) h) (fun l => x5 (ix1 l)) l := by
  pointwise [val_main_v17, val_main_v16, val_main_call0_v5, val_main_call0_v4, val_main_call0_v3, val_main_call0_v2,
    val_main_call0_v1, val_main_call0_v0, val_main_call0_cst, val_main_call0_cst_0, val_main_v15, val_main_v14, val_main_v13,
    val_main_v12, val_main_v11]
  simp only [o_apply, z_apply, nrm_apply]
  rfl

theorem cat_apply (r : Fin 4096) (k : Fin 1024) : val_main_v19 (F := Ideal) x1 x2 x3 x5 (ix2 r k)
    = cat (fun l => x3 (ix2 r l)) (fun l => x1 (ix2 r l)) (gates fun k => x2 (ix2 r k)) (fun l => x5 (ix1 l)) k := by
  unfold cat ycat
  pointwise [val_main_v19, val_main_v18]
  split_ifs with h
  · rfl
  · exact head_apply x1 x2 x5 _ _ _
  · exact head_apply x1 x2 x5 _ _ _

theorem prod_apply (r : Fin 4096) (l : Fin 1024) : val_main_v20 (F := Ideal) x1 x2 x3 x5 x6 (ix2 r l)
    = dot (cat (fun l => x3 (ix2 r l)) (fun l => x1 (ix2 r l)) (gates fun k => x2 (ix2 r k)) (fun l => x5 (ix1 l))) (fun k l => x6 (ix2 k l)) l := by
  pointwise [val_main_v20]
  exact Finset.sum_congr rfl fun k _ => congrArg (· * x6 (ix2 k l)) (cat_apply x1 x3 x2 x5 r k)

theorem sum_apply (r : Fin 4096) (l : Fin 1024) : val_main_v24 (F := Ideal) x0 x1 x2 x3 x4 x5 x6 (ix2 r l)
    = x0 (ix2 r l) + x4 (ix1 l)
      * dot (cat (fun l => x3 (ix2 r l)) (fun l => x1 (ix2 r l)) (gates fun k => x2 (ix2 r k)) (fun l => x5 (ix1 l))) (fun k l => x6 (ix2 k l)) l := by
  pointwise [val_main_v24, val_main_v23, val_main_v22, val_main_v21]
  rw [prod_apply]

end Ref

open Cert.MixerIdeal Cert.MixerIdeal.Gen

/-- The reference runs, keeps its arguments and leaves every counter at zero. -/
theorem frame_ref : Cert.quiescent_MixerRefIdeal :=
  fun m ρ _ => (θ_run _ _ _).mono (fun r h => ⟨fun c => (h c).2.2.2, sem_eq_zero_of_no_sems rfl _⟩) (Cert.MixerRefIdeal.Value.run (F := Ideal) m ρ)

/-- The two programs return the same arrays. -/
theorem value : Cert.algebraic_MixerIdeal_MixerRefIdeal := by
  intro m ρ m' ρ' hpre hag
  refine ⟨_, _, _, Cert.MixerIdeal.Value.run_blocks m ρ, (θ_run _ _ _).mono (fun r h c => ?_) (Cert.MixerRefIdeal.Value.run (F := Ideal) m' ρ')⟩
  obtain ⟨e0, e1, e2, e3, e4, e5, e6⟩ := hag c
  obtain ⟨r0, r1, r2, k⟩ := h c
  refine ⟨r0.trans ?_, r1.trans ?_, r2.trans ?_, k⟩
  · rw [Cert.MixerRefIdeal.Read.val_main_v24_eq]
    funext i
    obtain ⟨a, b, rfl⟩ : ∃ (a : Fin 4096) (b : Fin 1024), i = ix2 a b := ⟨i 0, i 1, eq_ix2 (n0 := 4096) (n1 := 1024) i⟩
    rw [Ref.sum_apply, sum_final, e0, e1, e2, e3, e4, e5, e6]
  · rw [Cert.MixerRefIdeal.Read.val_main_v20_eq]
    funext i
    obtain ⟨a, b, rfl⟩ : ∃ (a : Fin 4096) (b : Fin 1024), i = ix2 a b := ⟨i 0, i 1, eq_ix2 (n0 := 4096) (n1 := 1024) i⟩
    rw [Ref.prod_apply, prod_final, e1, e2, e3, e5, e6]
  · rw [Cert.MixerRefIdeal.Read.val_main_v25_eq]
    funext i
    obtain ⟨a, b, rfl⟩ : ∃ (a : Fin 4096) (b : Fin 1024), i = ix2 a b := ⟨i 0, i 1, eq_ix2 (n0 := 4096) (n1 := 1024) i⟩
    rw [Cert.MixerRefIdeal.Read.val_main_v25_apply]
    refine (Ref.cat_apply _ _ _ _ a b).trans ?_
    rw [cat_final, e1, e2, e3, e5]

end Cert.Proof.Mixer

end
-- ==== Proof.Gates.lean ====
/- Hand-written, untrusted: the gates, layernorm and heads' norms between the convolutions and the recurrence. -/
module

public import proofs.«01_k».proof.Proof.Fwd
public import proofs.«01_k».proof.Proof.Gen.GatesIdeal.Value
public import Idealize.ShloMosaic.Lib.Pipeline.ValueKit

@[expose] public section

set_option maxRecDepth 16384

noncomputable section

namespace Cert.Proof.Gates

open Idealize.ShloMosaic Idealize.ShloMosaic.TcCoe Idealize.SL.Sem Idealize.ShloMosaic.Pointwise
open Cert.GatesIdeal Cert.GatesIdeal.Gen Cert.Proof.Fwd

/-! ## A row of each result -/

def silu (x : EReal) : EReal := x * logi x

/-- A row less its mean. -/
def ctr (u : Fin 256 → EReal) (l : Fin 256) : EReal := u l - Ideal.div (∑ k, u k) (Ideal.ofBits .f32 0x43800000#32)

/-- The layernorm of a row. -/
def ln (u g b : Fin 256 → EReal) (l : Fin 256) : EReal :=
  ctr u l * Ideal.rsqrt (Ideal.div (∑ k, ctr u k * ctr u k) (Ideal.ofBits .f32 0x43800000#32) + Ideal.ofBits .f32 0x3727C5AC#32) * g l + b l

/-- A head's `silu`, over its length. -/
def unit (x : Fin 128 → EReal) (l : Fin 128) : EReal :=
  silu (x l) * Ideal.rsqrt ((∑ k, silu (x k) * silu (x k)) + Ideal.ofBits .f32 0x358637BD#32)

/-- A decay's logarithm: `-exp(a) * softplus(x)`. -/
def dec (a x : EReal) : EReal := -Ideal.exp a * (max x 0 + Ideal.log (1 + Ideal.exp (-FloatOps.absf (F := Ideal) (φ := .f32) x)))

/-- The product of the first convolution with its gate, beside the second one's layernorm and `silu`. -/
def yrow (p : Fin 256 → EReal) (c : Fin 2048 → EReal) (b g l : Fin 256 → EReal) (k : Fin 512) : EReal :=
  if h : k.val < 256 then p ⟨k.val, h⟩ * c ⟨k.val, by omega⟩
  else silu (ln (fun j => c ⟨256 + j.val, by omega⟩ + b j) g l ⟨k.val - 256, by omega⟩)

/-- Head `h` of the queries and keys in a row of the convolutions' outputs. -/
def hrow (c : Fin 2048 → EReal) (h : Fin 8) (l : Fin 128) : EReal := c ⟨512 + (128 * h.val + l.val), by omega⟩

/-- The queries and keys of unit length, beside the values. -/
def qrow (c : Fin 2048 → EReal) (k : Fin 1536) : EReal :=
  if h : k.val < 1024 then unit (hrow c ⟨k.val / 128, by omega⟩) ⟨k.val % 128, by omega⟩ else silu (c ⟨512 + k.val, by omega⟩)

/-- The decays' lanes, the step sizes', zeros. -/
def grow (x a t : Fin 128 → EReal) (l : Fin 128) : EReal :=
  if l.val < 4 then dec (a l) (x l + t l) else if l.val < 8 then logi (x l) else 0

theorem qrow_head (c : Fin 2048 → EReal) (h : Fin 8) (l : Fin 128) (p) : qrow c ⟨128 * h.val + l.val, p⟩ = unit (hrow c h) l := by
  have a (q) : (⟨(128 * h.val + l.val) / 128, q⟩ : Fin 8) = h := Fin.ext (by show (128 * h.val + l.val) / 128 = h.val; omega)
  have b (q) : (⟨(128 * h.val + l.val) % 128, q⟩ : Fin 128) = l := Fin.ext (by show (128 * h.val + l.val) % 128 = l.val; omega)
  unfold qrow
  rw [dif_pos (show 128 * h.val + l.val < 1024 by omega), a, b]

theorem qrow_value (c : Fin 2048 → EReal) (k : Fin 512) (p) : qrow c ⟨1024 + k.val, p⟩ = silu (c ⟨512 + (1024 + k.val), by omega⟩) :=
  dif_neg (show ¬ 1024 + k.val < 1024 by omega)

theorem cases_q (k : Fin 1536) : (∃ (h : Fin 8) (l : Fin 128), k = ⟨128 * h.val + l.val, by omega⟩) ∨ ∃ j : Fin 512, k = ⟨1024 + j.val, by omega⟩ := by
  obtain ⟨k, hk⟩ := k
  rcases Nat.lt_or_ge k 1024 with h | h
  · exact .inl ⟨⟨k / 128, by omega⟩, ⟨k % 128, by omega⟩, Fin.ext (by show k = 128 * (k / 128) + k % 128; omega)⟩
  · exact .inr ⟨⟨k - 1024, by omega⟩, Fin.ext (by show k = 1024 + (k - 1024); omega)⟩

theorem cases_y (k : Fin 512) : (∃ j : Fin 256, k = ⟨j.val, by omega⟩) ∨ ∃ j : Fin 256, k = ⟨256 + j.val, by omega⟩ := by
  obtain ⟨k, hk⟩ := k
  rcases Nat.lt_or_ge k 256 with h | h
  · exact .inl ⟨⟨k, h⟩, rfl⟩
  · exact .inr ⟨⟨k - 256, by omega⟩, Fin.ext (by show k = 256 + (k - 256); omega)⟩

theorem yrow_lo (p : Fin 256 → EReal) (c : Fin 2048 → EReal) (b g l : Fin 256 → EReal) (j : Fin 256) (q) :
    yrow p c b g l ⟨j.val, q⟩ = p j * c ⟨j.val, by omega⟩ := dif_pos j.isLt

theorem yrow_hi (p : Fin 256 → EReal) (c : Fin 2048 → EReal) (b g l : Fin 256 → EReal) (j : Fin 256) (q) :
    yrow p c b g l ⟨256 + j.val, q⟩ = silu (ln (fun j => c ⟨256 + j.val, by omega⟩ + b j) g l j) := by
  have e (q) : (⟨256 + j.val - 256, q⟩ : Fin 256) = j := Fin.ext (Nat.add_sub_cancel_left _ _)
  unfold yrow
  rw [dif_neg (show ¬ 256 + j.val < 256 by omega), e]

/-- Reading arrays of as many rows, put side by side, where one's columns are. -/
theorem piece {M N : ℕ} (L : List ((s : Shape) × (s.Idx → EReal))) (hc) (r : Fin M) (q : Fin N) (i n : ℕ) (hi : i < L.length)
    (x : (⟨2, ![M, n]⟩ : Shape).Idx → EReal) (hx : L[i] = ⟨⟨2, ![M, n]⟩, x⟩) (pre : ℕ)
    (hp : (((L.take i).map (·.1)).map fun s => if h : s.rank = (⟨2, ![M, N]⟩ : Shape).rank then s.size ((1 : Fin 2).cast h.symm) else 0).sum = pre)
    (k : Fin n) (hk : pre + k.val = q.val) : concatenate (⟨2, ![M, N]⟩ : Shape) 1 L hc (ix2 r q) = x (ix2 r k) :=
  concatenate_apply_piece (t := ⟨2, ![M, N]⟩) 1 L hc (ix2 r q) i hi _ x hx rfl pre hp (ix2 r k)
    (by intro a ha; fin_cases a; · rfl
        · exact absurd rfl ha) hk

/-! ## The body's values, of its blocks -/

section
variable (v0 : Vec Ideal S512x256 .f32) (v2 : Vec Ideal S512x128 .f32) (v4 : Vec Ideal S512x2048 .f32) (v5 v7 v9 : Vec Ideal S1x256 .f32)
  (v11 v13 : Vec Ideal S1x128 .f32) (r : Fin 512)

theorem ctr_apply (l : Fin 256) : k0_pay19 v4 v5 (ix2 r l) = ctr (fun j => v4 (ix2 r ⟨256 + j.val, by omega⟩) + v5 (ix2 0 j)) l := by
  pointwise [k0_pay19]
  rfl

theorem ln_apply (l : Fin 256) : k0_pay22 (k0_pay5 v7) (k0_pay6 v9) (k0_pay19 v4 v5) (k0_pay20 v4 v5) (k0_pay21 (F := Ideal)) (ix2 r l)
    = silu (ln (fun j => v4 (ix2 r ⟨256 + j.val, by omega⟩) + v5 (ix2 0 j)) (fun l => v7 (ix2 0 l)) (fun l => v9 (ix2 0 l)) l) := by
  have h := ctr_apply v4 v5 r
  unfold k0_pay20
  generalize k0_pay19 v4 v5 = y at h ⊢
  pointwise [k0_pay22, k0_pay21, k0_pay5, k0_pay6]
  simp only [h, zero_sub]
  rfl

theorem y_apply (k : Fin 512) : k0_pay3 (k0_pay18 v0 v4) (k0_pay22 (k0_pay5 v7) (k0_pay6 v9) (k0_pay19 v4 v5) (k0_pay20 v4 v5) (k0_pay21 (F := Ideal))) (ix2 r k)
    = yrow (fun l => v0 (ix2 r l)) (fun l => v4 (ix2 r l)) (fun l => v5 (ix2 0 l)) (fun l => v7 (ix2 0 l)) (fun l => v9 (ix2 0 l)) k := by
  have h := ln_apply v4 v5 v7 v9 r
  generalize k0_pay22 (F := Ideal) _ _ _ _ _ = y at h ⊢
  unfold k0_pay3
  refine Eq.trans (b := concatenate S512x512 1 [⟨S512x256, k0_pay18 (F := Ideal) v0 v4⟩, ⟨S512x256, y⟩]
    concatenates_S512x256_S512x256_S512x512_d1 (ix2 r k)) rfl ?_
  rcases cases_y k with ⟨j, rfl⟩ | ⟨j, rfl⟩
  · refine (piece [⟨S512x256, k0_pay18 (F := Ideal) v0 v4⟩, ⟨S512x256, y⟩] _ r (⟨j.val, by omega⟩ : Fin 512) 0 256 (Nat.lt_of_sub_eq_succ rfl) (k0_pay18 v0 v4) rfl 0 rfl j (Nat.zero_add _)).trans ?_
    rw [yrow_lo]
    pointwise [k0_pay18]
  · refine (piece [⟨S512x256, k0_pay18 (F := Ideal) v0 v4⟩, ⟨S512x256, y⟩] _ r _ 1 256 (Nat.lt_of_sub_eq_succ rfl) y rfl 256 rfl j rfl).trans ?_
    rw [yrow_hi, h]

theorem head_apply (x : Vec Ideal S512x128 .f32) (l : Fin 128) : k0_pay23 (F := Ideal) x (ix2 r l) = unit (fun l => x (ix2 r l)) l := by
  pointwise [k0_pay23]
  simp only [zero_sub]
  rfl

/-- The heads of a block of the convolutions' outputs. -/
def hx : Fin 8 → Vec Ideal S512x128 .f32 :=
  ![k0_pay9 v4, k0_pay10 v4, k0_pay11 v4, k0_pay12 v4, k0_pay13 v4, k0_pay14 v4, k0_pay15 v4, k0_pay16 v4]

theorem hx_apply (h : Fin 8) (l : Fin 128) : hx v4 h (ix2 r l) = hrow (fun l => v4 (ix2 r l)) h l := by
  unfold hx
  rcases h with ⟨h, hh⟩
  interval_cases h
  · exact (show k0_pay9 (F := Ideal) v4 (ix2 r l) = hrow (fun l => v4 (ix2 r l)) 0 l by
      pointwise [k0_pay9]; exact congrArg v4 (congrArg (ix2 r) (Fin.ext (by show 512 + l.val = 512 + (128 * 0 + l.val); omega))))
  · exact (show k0_pay10 (F := Ideal) v4 (ix2 r l) = hrow (fun l => v4 (ix2 r l)) 1 l by
      pointwise [k0_pay10]; exact congrArg v4 (congrArg (ix2 r) (Fin.ext (by show 640 + l.val = 512 + (128 * 1 + l.val); omega))))
  · exact (show k0_pay11 (F := Ideal) v4 (ix2 r l) = hrow (fun l => v4 (ix2 r l)) 2 l by
      pointwise [k0_pay11]; exact congrArg v4 (congrArg (ix2 r) (Fin.ext (by show 768 + l.val = 512 + (128 * 2 + l.val); omega))))
  · exact (show k0_pay12 (F := Ideal) v4 (ix2 r l) = hrow (fun l => v4 (ix2 r l)) 3 l by
      pointwise [k0_pay12]; exact congrArg v4 (congrArg (ix2 r) (Fin.ext (by show 896 + l.val = 512 + (128 * 3 + l.val); omega))))
  · exact (show k0_pay13 (F := Ideal) v4 (ix2 r l) = hrow (fun l => v4 (ix2 r l)) 4 l by
      pointwise [k0_pay13]; exact congrArg v4 (congrArg (ix2 r) (Fin.ext (by show 1024 + l.val = 512 + (128 * 4 + l.val); omega))))
  · exact (show k0_pay14 (F := Ideal) v4 (ix2 r l) = hrow (fun l => v4 (ix2 r l)) 5 l by
      pointwise [k0_pay14]; exact congrArg v4 (congrArg (ix2 r) (Fin.ext (by show 1152 + l.val = 512 + (128 * 5 + l.val); omega))))
  · exact (show k0_pay15 (F := Ideal) v4 (ix2 r l) = hrow (fun l => v4 (ix2 r l)) 6 l by
      pointwise [k0_pay15]; exact congrArg v4 (congrArg (ix2 r) (Fin.ext (by show 1280 + l.val = 512 + (128 * 6 + l.val); omega))))
  · exact (show k0_pay16 (F := Ideal) v4 (ix2 r l) = hrow (fun l => v4 (ix2 r l)) 7 l by
      pointwise [k0_pay16]; exact congrArg v4 (congrArg (ix2 r) (Fin.ext (by show 1408 + l.val = 512 + (128 * 7 + l.val); omega))))

theorem value_apply (k : Fin 512) : k0_pay37 (k0_pay17 v4) (ix2 r k) = silu (v4 (ix2 r ⟨512 + (1024 + k.val), by omega⟩)) := by
  have e (p) : v4 (ix2 r ⟨1536 + k.val, p⟩) = v4 (ix2 r ⟨512 + (1024 + k.val), by omega⟩) :=
    congrArg v4 (congrArg (ix2 r) (Fin.ext (by show 1536 + k.val = 512 + (1024 + k.val); omega)))
  pointwise [k0_pay37, k0_pay17]
  simp only [zero_sub, e]
  rfl

/-- The heads and the values side by side. -/
theorem q_apply (b : Fin 8 → Vec Ideal S512x128 .f32) (hb : ∀ h, b h = k0_pay23 (F := Ideal) (hx v4 h)) (k : Fin 1536) :
    k0_pay2 (b 0) (b 1) (b 2) (b 3) (b 4) (b 5) (b 6) (b 7) (k0_pay37 (k0_pay17 v4)) (ix2 r k) = qrow (fun l => v4 (ix2 r l)) k := by
  unfold k0_pay2
  rcases cases_q k with ⟨h, l, rfl⟩ | ⟨j, rfl⟩
  · refine (piece _ _ r _ h.val 128 (by show h.val < 9; omega) (b h) (by fin_cases h <;> rfl) (128 * h.val) (by fin_cases h <;> rfl) l rfl).trans ?_
    rw [qrow_head, hb, head_apply]
    exact congrFun (congrArg unit (funext (hx_apply v4 r h))) l
  · refine (piece _ _ r _ 8 512 (by show 8 < 9; omega) (k0_pay37 (k0_pay17 v4)) rfl 1024 rfl j rfl).trans ?_
    rw [qrow_value, value_apply]

theorem lane_lt (l : Fin 128) (k : Nat) (hk : k ≤ 128) :
    IntOp.cmpi CmpIPredicate.slt (BitVec.ofNat 32 l.val) (BitVec.ofNat 32 k) = BitVec.ofBool (decide (l.val < k)) :=
  WordCmp.cmpi_slt_ofNat (by have := l.isLt; norm_num; omega) (by norm_num; omega)

theorem g_apply (l : Fin 128) : k0_pay1 (k0_pay38 (k0_pay4 v2) (k0_pay7 v11) (k0_pay8 v13)) k0_pay39 k0_pay40 (k0_pay41 (k0_pay4 v2))
      (FloatOps.ofBits (F := Ideal) FTy.f32 0#32) (ix2 r l)
    = grow (fun l => v2 (ix2 r l)) (fun l => v11 (ix2 0 l)) (fun l => v13 (ix2 0 l)) l := by
  pointwise [k0_pay1, k0_pay38, k0_pay39, k0_pay40, k0_pay41, k0_pay4, k0_pay7, k0_pay8]
  rw [lane_lt l 4 (by norm_num), lane_lt l 8 (by norm_num), Scalar.select_decide, Scalar.select_decide]
  simp only [zero_sub]
  rfl

end

/-! ## The kernel's arrays after the run -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 26] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)

/-- Row `r` of block `t` in the array. -/
def row (t : Fin cfg0.N) (r : Fin 512) : Fin 4096 :=
  ⟨t.val * 512 + r.val, by have := t.isLt; have := r.isLt; have h : cfg0.N = 8 := N_0; omega⟩

/-- The arguments, entry by entry. -/
abbrev pj (r : Fin 4096) (k : Fin 3336) : EReal := m ((c : Thread nD τ).loc main_arg0) (ix2 r k)
abbrev cv (r : Fin 4096) (k : Fin 2048) : EReal := m ((c : Thread nD τ).loc main_arg1) (ix2 r k)
abbrev bb (k : Fin 256) : EReal := m ((c : Thread nD τ).loc main_arg2) (ix1 k)
abbrev lg (k : Fin 256) : EReal := m ((c : Thread nD τ).loc main_arg3) (ix1 k)
abbrev lb (k : Fin 256) : EReal := m ((c : Thread nD τ).loc main_arg4) (ix1 k)
abbrev al (k : Fin 4) : EReal := m ((c : Thread nD τ).loc main_arg5) (ix1 k)
abbrev tb (k : Fin 4) : EReal := m ((c : Thread nD τ).loc main_arg6) (ix1 k)

/-- The first factor's columns of a row of the projection, and the gates' with zeros after them. -/
def ab (p : Fin 3336 → EReal) (l : Fin 256) : EReal := p ⟨l.val, by omega⟩
def gates (p : Fin 3336 → EReal) (l : Fin 128) : EReal := wide (L := 3456) p ⟨3328 + l.val, by omega⟩

theorem sitofp_zero : FloatOps.sitofp (F := Ideal) FTy.f32 0#32 = 0 := by
  simp [FloatOps.sitofp]

theorem v0_eq : V m c main_v0 = fun i : S4096x3456.Idx => pad S4096x3456 ![0, 0] ![0, 120] ![0, 0]
    (m ((c : Thread nD τ).loc main_arg0) : S4096x3336.Idx → EReal) (sitofp (F := Ideal) .f32 (constantI S_ 32 0#32))
    pads_S4096x3336_S4096x3456_000_01200 h_S_ i := by
  entry_read
  simp only [List.flatten_cons, List.flatten_nil, List.append_nil, List.cons_append, List.nil_append]
  after_results_simp <;> rfl

theorem blk0 (t : Fin cfg0.N) (r : Fin 512) (l : Fin 256) : X0_0 m c t (ix2 r l) = ab (pj m c (row t r)) l := by
  have h : X0_0 m c t (ix2 r l) = V m c main_v0 (ix2 (row t r) (⟨0 + l.val, by omega⟩ : Fin 3456)) := by
    unfold X0_0 Pipeline.Window.fill
    rw [dif_pos (moved0_0 t _)]
    blk_simp [iblk]
    refine congrArg _ ?_
    blk_ext [idx0, row]
  rw [h, v0_eq]
  pointwise
  rw [dif_pos (by intro a; fin_cases a <;> simp <;> omega)]
  rfl

theorem blk1 (t : Fin cfg0.N) (r : Fin 512) (l : Fin 128) : iblk m c 1 t (ix2 r l) = gates (pj m c (row t r)) l := by
  blk_simp [iblk]
  have h0 : ((View.whole main_v0).slice (win0_1.rect t)).emb (ix2 r l) = ix2 (row t r) (⟨3328 + l.val, by omega⟩ : Fin 3456) := by blk_ext [idx1, row]
  rw [h0, v0_eq]
  pointwise
  unfold gates wide
  by_cases hk : 3328 + l.val < 3336
  · rw [dif_pos (by intro a; fin_cases a <;> simp <;> omega), dif_pos hk]
  · rw [dif_neg (fun h => hk (by simpa using (h 1).2.2)), dif_neg hk]
    exact sitofp_zero

theorem blk2 (t : Fin cfg0.N) (r : Fin 512) (k : Fin 2048) : iblk m c 2 t (ix2 r k) = cv m c (row t r) k := by
  blk_simp [iblk]
  have h0 : ((View.whole main_arg1).slice (win0_2.rect t)).emb (ix2 r k) = ix2 (row t r) k := by blk_ext [idx2, row]
  rw [h0]
  entry_read
  simp only [List.flatten_cons, List.flatten_nil, List.append_nil, List.cons_append, List.nil_append]
  after_results_simp

theorem blk3 (t : Fin cfg0.N) (l : Fin 256) : iblk m c 3 t (ix2 0 l) = bb m c l := by
  blk_simp [iblk]
  have h0 : ((View.whole main_v1).slice (win0_3.rect t)).emb (ix2 0 l) = ix2 (0 : Fin 1) l := by blk_ext [idx3]
  rw [h0]
  entry_read
  simp only [List.flatten_cons, List.flatten_nil, List.append_nil, List.cons_append, List.nil_append]
  after_results_simp
  pointwise

theorem blk4 (t : Fin cfg0.N) (l : Fin 256) : iblk m c 4 t (ix2 0 l) = lg m c l := by
  blk_simp [iblk]
  have h0 : ((View.whole main_v2).slice (win0_4.rect t)).emb (ix2 0 l) = ix2 (0 : Fin 1) l := by blk_ext [idx4]
  rw [h0]
  entry_read
  simp only [List.flatten_cons, List.flatten_nil, List.append_nil, List.cons_append, List.nil_append]
  after_results_simp
  pointwise

theorem blk5 (t : Fin cfg0.N) (l : Fin 256) : iblk m c 5 t (ix2 0 l) = lb m c l := by
  blk_simp [iblk]
  have h0 : ((View.whole main_v3).slice (win0_5.rect t)).emb (ix2 0 l) = ix2 (0 : Fin 1) l := by blk_ext [idx5]
  rw [h0]
  entry_read
  simp only [List.flatten_cons, List.flatten_nil, List.append_nil, List.cons_append, List.nil_append]
  after_results_simp
  pointwise

theorem v5_eq : V m c main_v5 = fun i : S1x128.Idx => pad S1x128 ![0, 0] ![0, 124] ![0, 0]
    (shapeCast S1x4 (m ((c : Thread nD τ).loc main_arg5) : S4.Idx → EReal) shapeCasts_S4_S1x4) (sitofp (F := Ideal) .f32 (constantI S_ 32 0#32))
    pads_S1x4_S1x128_000_01240 h_S_ i := by
  entry_read
  simp only [List.flatten_cons, List.flatten_nil, List.append_nil, List.cons_append, List.nil_append]
  after_results_simp <;> rfl

theorem blk6 (t : Fin cfg0.N) (l : Fin 128) : iblk m c 6 t (ix2 0 l) = wide (al m c) l := by
  blk_simp [iblk]
  have h0 : ((View.whole main_v5).slice (win0_6.rect t)).emb (ix2 0 l) = ix2 (0 : Fin 1) l := by blk_ext [idx6]
  rw [h0, v5_eq]
  pointwise
  unfold wide
  by_cases hk : l.val < 4
  · rw [dif_pos hk, dif_pos hk]
  · rw [dif_neg hk, dif_neg hk]
    exact sitofp_zero

theorem v7_eq : V m c main_v7 = fun i : S1x128.Idx => pad S1x128 ![0, 0] ![0, 124] ![0, 0]
    (shapeCast S1x4 (m ((c : Thread nD τ).loc main_arg6) : S4.Idx → EReal) shapeCasts_S4_S1x4) (sitofp (F := Ideal) .f32 (constantI S_ 32 0#32))
    pads_S1x4_S1x128_000_01240 h_S_ i := by
  entry_read
  simp only [List.flatten_cons, List.flatten_nil, List.append_nil, List.cons_append, List.nil_append]
  after_results_simp <;> rfl

theorem blk7 (t : Fin cfg0.N) (l : Fin 128) : iblk m c 7 t (ix2 0 l) = wide (tb m c) l := by
  blk_simp [iblk]
  have h0 : ((View.whole main_v7).slice (win0_7.rect t)).emb (ix2 0 l) = ix2 (0 : Fin 1) l := by blk_ext [idx7]
  rw [h0, v7_eq]
  pointwise
  unfold wide
  by_cases hk : l.val < 4
  · rw [dif_pos hk, dif_pos hk]
  · rw [dif_neg hk, dif_neg hk]
    exact sitofp_zero

set_option maxHeartbeats 1600000 in
theorem y_final (r : Fin 4096) (k : Fin 512) : (dats m 0 c).arrAt 8 cfg0.N (ix2 r k) = yrow (ab (pj m c r)) (cv m c r) (bb m c) (lg m c) (lb m c) k := by
  refine congrFun ((dats m 0 c).arrAt_eq_of_covers 8 (fun i => yrow (ab (pj m c (i 0))) (cv m c (i 0)) (bb m c) (lg m c) (lb m c) (i 1)) (by decide +kernel) fun t hf y => ?_) (ix2 r k)
  obtain ⟨a, b, rfl⟩ : ∃ (a : Fin 512) (b : Fin 512), y = ix2 a b := ⟨y 0, y 1, eq_ix2 (n0 := 512) (n1 := 512) y⟩
  blk_simp
  rw [after0_8]
  have h0 : ((View.whole main_v8_0).slice (win0_8.rect t)).emb (ix2 a b) = ix2 (row t a) b := by blk_ext [idx8, row]
  rw [h0]
  unfold outsAt0
  frame_out
  refine (y_apply (X0_0 m c t) (iblk m c 2 t) (iblk m c 3 t) (iblk m c 4 t) (iblk m c 5 t) a b).trans ?_
  simp only [blk0, blk2, blk3, blk4, blk5]
  rfl

set_option maxHeartbeats 1600000 in
theorem q_final (r : Fin 4096) (k : Fin 1536) : (dats m 0 c).arrAt 9 cfg0.N (ix2 r k) = qrow (cv m c r) k := by
  refine congrFun ((dats m 0 c).arrAt_eq_of_covers 9 (fun i => qrow (cv m c (i 0)) (i 1)) (by decide +kernel) fun t hf y => ?_) (ix2 r k)
  obtain ⟨a, b, rfl⟩ : ∃ (a : Fin 512) (b : Fin 1536), y = ix2 a b := ⟨y 0, y 1, eq_ix2 (n0 := 512) (n1 := 1536) y⟩
  blk_simp
  rw [after0_9]
  have h0 : ((View.whole main_v8_1).slice (win0_9.rect t)).emb (ix2 a b) = ix2 (row t a) b := by blk_ext [idx9, row]
  rw [h0]
  unfold outsAt0
  frame_out
  refine (q_apply (iblk m c 2 t) a (fun h => k0_pay23 (F := Ideal) (hx (iblk m c 2 t) h)) (fun _ => rfl) b).trans ?_
  simp only [blk2]
  rfl

set_option maxHeartbeats 1600000 in
theorem g_final (r : Fin 4096) (k : Fin 128) : (dats m 0 c).arrAt 10 cfg0.N (ix2 r k) = grow (gates (pj m c r)) (wide (al m c)) (wide (tb m c)) k := by
  refine congrFun ((dats m 0 c).arrAt_eq_of_covers 10 (fun i => grow (gates (pj m c (i 0))) (wide (al m c)) (wide (tb m c)) (i 1)) (by decide +kernel) fun t hf y => ?_) (ix2 r k)
  obtain ⟨a, b, rfl⟩ : ∃ (a : Fin 512) (b : Fin 128), y = ix2 a b := ⟨y 0, y 1, eq_ix2 (n0 := 512) (n1 := 128) y⟩
  blk_simp
  rw [after0_10]
  have h0 : ((View.whole main_v8_2).slice (win0_10.rect t)).emb (ix2 a b) = ix2 (row t a) b := by blk_ext [idx10, row]
  rw [h0]
  unfold outsAt0
  frame_out
  refine (g_apply (iblk m c 1 t) (iblk m c 6 t) (iblk m c 7 t) a b).trans ?_
  simp only [blk1, blk6, blk7]
  rfl

end Cert.Proof.Gates

end
-- ==== Proof.GatesClaim.lean ====
/- Hand-written, untrusted: the claims about the gates between the convolutions and the recurrence. -/
module

public import proofs.«01_k».proof.Proof.Gates
public import proofs.«01_k».proof.Defs
public import proofs.«01_k».proof.Proof.Gen.GatesRefIdeal.Run
public import proofs.«01_k».proof.Proof.Gen.GatesRefIdeal.Read
public import Idealize.ShloMosaic.Lib.Claim

@[expose] public section

set_option maxRecDepth 16384

noncomputable section

namespace Cert.Proof.Gates

open Idealize.ShloMosaic Idealize.ShloMosaic.TcCoe Idealize.SL.Sem Idealize.ShloMosaic.Pointwise Cert.Proof.Fwd

namespace Ref

open Cert.GatesRefIdeal Cert.GatesRefIdeal.Read

variable (x0 : (⟨S4096x3336, .f32⟩ : BufTy).Contents (Elt Ideal)) (x1 : (⟨S4096x2048, .f32⟩ : BufTy).Contents (Elt Ideal))
  (x2 x3 x4 : (⟨S256, .f32⟩ : BufTy).Contents (Elt Ideal)) (x5 x6 : (⟨S4, .f32⟩ : BufTy).Contents (Elt Ideal))

theorem u_apply (r : Fin 4096) (l : Fin 256) :
    val_main_v9 (F := Ideal) x1 x2 (ix2 r l) = x1 (ix2 r ⟨256 + l.val, by omega⟩) + x2 (ix1 l) := by
  pointwise [val_main_v9, val_main_v8, val_main_v7, val_main_v4]

theorem ctr_apply (r : Fin 4096) (l : Fin 256) :
    val_main_v15 (F := Ideal) x1 x2 (ix2 r l) = ctr (fun j => x1 (ix2 r ⟨256 + j.val, by omega⟩) + x2 (ix1 j)) l := by
  pointwise [val_main_v15, val_main_v14, val_main_v13, val_main_v12, val_main_v11, val_main_v10, val_main_cst, val_main_cst_0]
  simp only [u_apply]
  rfl

theorem ln_apply (r : Fin 4096) (l : Fin 256) : val_main_v34 (F := Ideal) x1 x2 x3 x4 (ix2 r l)
    = silu (ln (fun j => x1 (ix2 r ⟨256 + j.val, by omega⟩) + x2 (ix1 j)) (fun l => x3 (ix1 l)) (fun l => x4 (ix1 l)) l) := by
  have e : val_main_v22 (F := Ideal) x1 x2 = val_main_v15 x1 x2 := rfl
  pointwise [val_main_v34, val_main_call0_v5, val_main_call0_v4, val_main_call0_v3, val_main_call0_v2,
    val_main_call0_v1, val_main_call0_v0, val_main_call0_cst, val_main_call0_cst_0, val_main_v33, val_main_v32, val_main_v31, val_main_v30,
    val_main_v29, val_main_v28, val_main_v27, val_main_v26, val_main_v25, val_main_v24, val_main_v23, val_main_cst_3, val_main_v20, val_main_v19,
    val_main_cst_2, val_main_v18, val_main_v17, val_main_v16, val_main_cst_1]
  simp only [e, ctr_apply]
  rfl

theorem y_apply (r : Fin 4096) (k : Fin 512) : val_main_v54 (F := Ideal) x0 x1 x2 x3 x4 (ix2 r k)
    = yrow (ab fun k => x0 (ix2 r k)) (fun k => x1 (ix2 r k)) (fun l => x2 (ix1 l)) (fun l => x3 (ix1 l)) (fun l => x4 (ix1 l)) k := by
  unfold val_main_v54
  rcases cases_y k with ⟨j, rfl⟩ | ⟨j, rfl⟩
  · refine (piece [⟨S4096x256, val_main_v6 (F := Ideal) x0 x1⟩, ⟨S4096x256, val_main_v34 (F := Ideal) x1 x2 x3 x4⟩] _ r (⟨j.val, by omega⟩ : Fin 512) 0 256
      (Nat.lt_of_sub_eq_succ rfl) (val_main_v6 (F := Ideal) x0 x1) rfl 0 rfl j (Nat.zero_add _)).trans ?_
    rw [yrow_lo]
    pointwise [val_main_v6, val_main_v0, val_main_v3]
    rfl
  · refine (piece [⟨S4096x256, val_main_v6 (F := Ideal) x0 x1⟩, ⟨S4096x256, val_main_v34 (F := Ideal) x1 x2 x3 x4⟩] _ r (⟨256 + j.val, by omega⟩ : Fin 512) 1 256
      (Nat.lt_of_sub_eq_succ rfl) (val_main_v34 (F := Ideal) x1 x2 x3 x4) rfl 256 rfl j rfl).trans ?_
    rw [yrow_hi, ln_apply]

theorem silu_apply (r : Fin 4096) (k : Fin 1536) : val_main_v35 (F := Ideal) x1 (ix2 r k) = silu (x1 (ix2 r ⟨512 + k.val, by omega⟩)) := by
  pointwise [val_main_v35, val_main_call1_v5, val_main_call1_v4, val_main_call1_v3, val_main_call1_v2, val_main_call1_v1, val_main_call1_v0,
    val_main_call1_cst, val_main_call1_cst_0, val_main_v5]
  rfl

/-- The queries' heads are the first four, … -/
theorem q_apply (r : Fin 4096) (h : Fin 4) (l : Fin 128) : val_main_v56 (F := Ideal) x1 (ix3 r h l)
    = silu (hrow (fun k => x1 (ix2 r k)) ⟨h.val, by omega⟩ l) := by
  pointwise [val_main_v56, val_main_v36]
  rw [silu_apply]
  exact congrArg silu (congrArg x1 (congrArg (ix2 r) (Fin.ext (by show 512 + (h.val * 128 + l.val) = 512 + (128 * h.val + l.val); omega))))

/-- … the keys' the others. -/
theorem k_apply (r : Fin 4096) (h : Fin 4) (l : Fin 128) : val_main_v66 (F := Ideal) x1 (ix3 r h l)
    = silu (hrow (fun k => x1 (ix2 r k)) ⟨4 + h.val, by omega⟩ l) := by
  pointwise [val_main_v66, val_main_v37]
  rw [silu_apply]
  exact congrArg silu (congrArg x1 (congrArg (ix2 r) (Fin.ext (by show 512 + (512 + (h.val * 128 + l.val)) = 512 + (128 * (4 + h.val) + l.val); omega))))

theorem qu_apply (r : Fin 4096) (h : Fin 4) (l : Fin 128) : val_main_v64 (F := Ideal) x1 (ix3 r h l)
    = unit (hrow (fun k => x1 (ix2 r k)) ⟨h.val, by omega⟩) l := by
  pointwise [val_main_v64, val_main_v63, val_main_v62, val_main_v61, val_main_v60, val_main_v59, val_main_v58, val_main_v57, val_main_cst_6, val_main_cst_7]
  simp only [q_apply]
  rfl

theorem ku_apply (r : Fin 4096) (h : Fin 4) (l : Fin 128) : val_main_v74 (F := Ideal) x1 (ix3 r h l)
    = unit (hrow (fun k => x1 (ix2 r k)) ⟨4 + h.val, by omega⟩) l := by
  pointwise [val_main_v74, val_main_v73, val_main_v72, val_main_v71, val_main_v70, val_main_v69, val_main_v68, val_main_v67, val_main_cst_8, val_main_cst_9]
  simp only [k_apply]
  rfl

theorem qflat_apply (r : Fin 4096) (h : Fin 4) (l : Fin 128) : val_main_v65 (F := Ideal) x1 (ix2 r (⟨128 * h.val + l.val, by omega⟩ : Fin 512))
    = unit (hrow (fun k => x1 (ix2 r k)) ⟨h.val, by omega⟩) l := by
  rw [← qu_apply]
  pointwise [val_main_v65]

theorem kflat_apply (r : Fin 4096) (h : Fin 4) (l : Fin 128) : val_main_v75 (F := Ideal) x1 (ix2 r (⟨128 * h.val + l.val, by omega⟩ : Fin 512))
    = unit (hrow (fun k => x1 (ix2 r k)) ⟨4 + h.val, by omega⟩) l := by
  rw [← ku_apply]
  pointwise [val_main_v75]

theorem qkv_apply (r : Fin 4096) (k : Fin 1536) : val_main_v76 (F := Ideal) x1 (ix2 r k) = qrow (fun k => x1 (ix2 r k)) k := by
  unfold val_main_v76
  rcases cases_q k with ⟨h, l, rfl⟩ | ⟨j, rfl⟩
  · rw [qrow_head]
    by_cases p : h.val < 4
    · obtain ⟨a, q, rfl⟩ : ∃ (a : Fin 4) (q : a.val < 8), h = ⟨a.val, q⟩ := ⟨⟨h.val, p⟩, h.isLt, rfl⟩
      refine (piece [⟨S4096x512, val_main_v65 (F := Ideal) x1⟩, ⟨S4096x512, val_main_v75 (F := Ideal) x1⟩, ⟨S4096x512, val_main_v38 (F := Ideal) x1⟩] _ r
        (⟨128 * a.val + l.val, by omega⟩ : Fin 1536) 0 512 (Nat.lt_of_sub_eq_succ rfl) (val_main_v65 (F := Ideal) x1) rfl 0 rfl
        ⟨128 * a.val + l.val, by omega⟩ (Nat.zero_add _)).trans ?_
      exact qflat_apply x1 r a l
    · obtain ⟨a, q, rfl⟩ : ∃ (a : Fin 4) (q : 4 + a.val < 8), h = ⟨4 + a.val, q⟩ :=
        ⟨⟨h.val - 4, by omega⟩, by show 4 + (h.val - 4) < 8; omega, Fin.ext (by show h.val = 4 + (h.val - 4); omega)⟩
      refine (piece [⟨S4096x512, val_main_v65 (F := Ideal) x1⟩, ⟨S4096x512, val_main_v75 (F := Ideal) x1⟩, ⟨S4096x512, val_main_v38 (F := Ideal) x1⟩] _ r
        (⟨128 * (4 + a.val) + l.val, by omega⟩ : Fin 1536) 1 512 (Nat.lt_of_sub_eq_succ rfl) (val_main_v75 (F := Ideal) x1) rfl 512 rfl
        ⟨128 * a.val + l.val, by omega⟩ (by show 512 + (128 * a.val + l.val) = 128 * (4 + a.val) + l.val; omega)).trans ?_
      exact kflat_apply x1 r a l
  · refine (piece [⟨S4096x512, val_main_v65 (F := Ideal) x1⟩, ⟨S4096x512, val_main_v75 (F := Ideal) x1⟩, ⟨S4096x512, val_main_v38 (F := Ideal) x1⟩] _ r
      (⟨1024 + j.val, by omega⟩ : Fin 1536) 2 512 (Nat.lt_of_sub_eq_succ rfl) (val_main_v38 (F := Ideal) x1) rfl 1024 rfl j rfl).trans ?_
    rw [qrow_value]
    pointwise [val_main_v38]
    rw [silu_apply]

theorem dec_apply (r : Fin 4096) (k : Fin 4) : val_main_v47 (F := Ideal) x0 x5 x6 (ix2 r k)
    = dec (x5 (ix1 k)) (x0 (ix2 r ⟨3328 + k.val, by omega⟩) + x6 (ix1 k)) := by
  pointwise [val_main_v47, val_main_v46, val_main_v45, val_main_v44, val_main_call2_v11, val_main_call2_v10, val_main_call2_v9, val_main_call2_v8, val_main_call2_v7, val_main_call2_v6,
    val_main_call2_v5, val_main_call2_v4, val_main_call2_v3, val_main_call2_v2, val_main_call2_v1, val_main_call2_v0, val_main_call2_cst,
    val_main_v43, val_main_v42, val_main_v41, val_main_v40, val_main_v39, val_main_v1]
  rw [if_neg (not_not_intro rfl)]
  rfl

theorem beta_apply (r : Fin 4096) (k : Fin 4) : val_main_v53 (F := Ideal) x0 (ix2 r k) = logi (x0 (ix2 r ⟨3332 + k.val, by omega⟩)) := by
  pointwise [val_main_v53, val_main_v52, val_main_v51, val_main_v50, val_main_v49, val_main_v48, val_main_v2, val_main_cst_4, val_main_cst_5]
  rfl

theorem g_apply (r : Fin 4096) (l : Fin 128) : val_main_v78 (F := Ideal) x0 x5 x6 (ix2 r l)
    = grow (gates fun k => x0 (ix2 r k)) (wide fun k => x5 (ix1 k)) (wide fun k => x6 (ix1 k)) l := by
  unfold grow gates wide
  have e (k : Fin 8) : val_main_v77 (F := Ideal) x0 x5 x6 (ix2 r k) = if p : k.val < 4 then val_main_v47 (F := Ideal) x0 x5 x6 (ix2 r ⟨k.val, p⟩)
      else val_main_v53 (F := Ideal) x0 (ix2 r ⟨k.val - 4, by omega⟩) := by
    unfold val_main_v77
    split_ifs with p
    · exact piece [⟨S4096x4, val_main_v47 (F := Ideal) x0 x5 x6⟩, ⟨S4096x4, val_main_v53 (F := Ideal) x0⟩] _ r k 0 4
        (Nat.lt_of_sub_eq_succ rfl) (val_main_v47 (F := Ideal) x0 x5 x6) rfl 0 rfl ⟨k.val, p⟩ (Nat.zero_add _)
    · exact piece [⟨S4096x4, val_main_v47 (F := Ideal) x0 x5 x6⟩, ⟨S4096x4, val_main_v53 (F := Ideal) x0⟩] _ r k 1 4
        (Nat.lt_of_sub_eq_succ rfl) (val_main_v53 (F := Ideal) x0) rfl 4 rfl ⟨k.val - 4, by omega⟩ (by show 4 + (k.val - 4) = k.val; omega)
  pointwise [val_main_v78, val_main_call3_v0, val_main_c]
  by_cases p : l.val < 4
  · rw [dif_pos (show l.val < 8 by omega), if_pos p, e, dif_pos p, dec_apply, dif_pos p, dif_pos p, dif_pos (show 3328 + l.val < 3336 by omega)]
  · rw [if_neg p]
    by_cases q : l.val < 8
    · rw [dif_pos q, if_pos q, e, dif_neg p, beta_apply, dif_pos (show 3328 + l.val < 3336 by omega)]
      exact congrArg logi (congrArg x0 (congrArg (ix2 r) (Fin.ext (by show 3332 + (l.val - 4) = 3328 + l.val; omega))))
    · rw [dif_neg q, if_neg q]
      exact sitofp_zero

end Ref

open Cert.GatesIdeal Cert.GatesIdeal.Gen

/-- The reference runs, keeps its arguments and leaves every counter at zero. -/
theorem frame_ref : Cert.quiescent_GatesRefIdeal :=
  fun m ρ _ => (θ_run _ _ _).mono (fun r h => ⟨fun c => (h c).2.2.2, sem_eq_zero_of_no_sems rfl _⟩) (Cert.GatesRefIdeal.Value.run (F := Ideal) m ρ)

/-- The two programs return the same arrays. -/
theorem value : Cert.algebraic_GatesIdeal_GatesRefIdeal := by
  intro m ρ m' ρ' hpre hag
  refine ⟨_, _, _, Cert.GatesIdeal.Value.run_blocks m ρ, (θ_run _ _ _).mono (fun r h c => ?_) (Cert.GatesRefIdeal.Value.run (F := Ideal) m' ρ')⟩
  obtain ⟨e0, e1, e2, e3, e4, e5, e6⟩ := hag c
  obtain ⟨r0, r1, r2, k⟩ := h c
  refine ⟨r0.trans ?_, r1.trans ?_, r2.trans ?_, k⟩
  · rw [Cert.GatesRefIdeal.Read.val_main_v55_eq]
    funext i
    obtain ⟨a, b, rfl⟩ : ∃ (a : Fin 4096) (b : Fin 512), i = ix2 a b := ⟨i 0, i 1, eq_ix2 (n0 := 4096) (n1 := 512) i⟩
    rw [Cert.GatesRefIdeal.Read.val_main_v55_apply]
    refine (Ref.y_apply _ _ _ _ _ a b).trans ?_
    rw [y_final, e0, e1, e2, e3, e4]
  · rw [Cert.GatesRefIdeal.Read.val_main_v76_eq]
    funext i
    obtain ⟨a, b, rfl⟩ : ∃ (a : Fin 4096) (b : Fin 1536), i = ix2 a b := ⟨i 0, i 1, eq_ix2 (n0 := 4096) (n1 := 1536) i⟩
    rw [Ref.qkv_apply, q_final, e1]
  · rw [Cert.GatesRefIdeal.Read.val_main_v78_eq]
    funext i
    obtain ⟨a, b, rfl⟩ : ∃ (a : Fin 4096) (b : Fin 128), i = ix2 a b := ⟨i 0, i 1, eq_ix2 (n0 := 4096) (n1 := 128) i⟩
    rw [Ref.g_apply, g_final, e0, e5, e6]

end Cert.Proof.Gates

end
-- ==== Proof.Adam.lean ====
/- Hand-written, untrusted: the optimiser's step. -/
module

public import proofs.«01_k».proof.Proof.Gen.AdamIdeal.Value
public import Idealize.ShloMosaic.Lib.Pipeline.ValueKit

@[expose] public section

set_option maxRecDepth 16384

noncomputable section

namespace Cert.Proof.Adam

open Idealize.ShloMosaic Idealize.ShloMosaic.TcCoe Idealize.SL.Sem Idealize.ShloMosaic.Pointwise
open Cert.AdamIdeal Cert.AdamIdeal.Gen

/-- The new first moment. -/
def mom (g m : EReal) : EReal := Ideal.ofBits .f32 0x3F666666#32 * m + Ideal.ofBits .f32 0x3DCCCCCD#32 * g

/-- The new second moment. -/
def sec (g v : EReal) : EReal := Ideal.ofBits .f32 0x3F7FBE77#32 * v + Ideal.ofBits .f32 0x3A83126F#32 * (g * g)

/-- The weight's change. -/
def delta (w g m v : EReal) : EReal :=
  Ideal.ofBits .f32 0xBA83126F#32
    * (Ideal.div (Ideal.div (mom g m) (Ideal.ofBits .f32 0x3F26BD02#32))
        (Ideal.sqrt (Ideal.div (sec g v) (Ideal.ofBits .f32 0x3C231ACC#32)) + Ideal.ofBits .f32 0x322BCC77#32)
      + Ideal.ofBits .f32 0x3C23D70A#32 * w)

/-- The body's payloads, of its blocks. -/
theorem mom_apply (g m : Vec Ideal S512x768 .f32) (r : Fin 512) (l : Fin 768) :
    k0_pay2 (F := Ideal) g m (ix2 r l) = mom (g (ix2 r l)) (m (ix2 r l)) := by
  pointwise [k0_pay2, k0_pay1]
  rfl

theorem sec_apply (g v : Vec Ideal S512x768 .f32) (r : Fin 512) (l : Fin 768) :
    k0_pay3 (F := Ideal) g v (ix2 r l) = sec (g (ix2 r l)) (v (ix2 r l)) := by
  pointwise [k0_pay3, k0_pay1]
  rfl

theorem delta_apply (w g m v : Vec Ideal S512x768 .f32) (r : Fin 512) (l : Fin 768) :
    k0_pay4 (F := Ideal) w g m v (ix2 r l) = delta (w (ix2 r l)) (g (ix2 r l)) (m (ix2 r l)) (v (ix2 r l)) := by
  pointwise [k0_pay4, k0_pay3, k0_pay2, k0_pay1]
  rfl

/-! ## The kernel's arrays after the run -/

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Row `r` of block `t` in the array. -/
def row (t : Fin cfg0.N) (r : Fin 512) : Fin 4096 :=
  ⟨t.val * 512 + r.val, by have := t.isLt; have := r.isLt; have h : cfg0.N = 8 := N_0; omega⟩

/-- The layers' rows, one after the other. -/
def flat (r : Fin 4096) (l : Fin 768) : S4x1024x768.Idx :=
  ix3 ⟨r.val / 1024, by have := r.isLt; omega⟩ ⟨r.val % 1024, Nat.mod_lt _ (by decide)⟩ l

/-- The arguments, entry by entry. -/
abbrev wt (r : Fin 4096) (l : Fin 768) : EReal := m ((c : Thread nD τ).loc main_arg0) (flat r l)
abbrev gr (r : Fin 4096) (l : Fin 768) : EReal := m ((c : Thread nD τ).loc main_arg1) (flat r l)
abbrev mo (r : Fin 4096) (l : Fin 768) : EReal := m ((c : Thread nD τ).loc main_arg2) (flat r l)
abbrev se (r : Fin 4096) (l : Fin 768) : EReal := m ((c : Thread nD τ).loc main_arg3) (flat r l)

theorem blk0 (t : Fin cfg0.N) (r : Fin 512) (l : Fin 768) : iblk m c 0 t (ix2 r l) = wt m c (row t r) l := by
  blk_simp [iblk]
  have h0 : ((View.whole main_v0).slice (win0_0.rect t)).emb (ix2 r l) = ix2 (row t r) l := by blk_ext [idx0, row]
  rw [h0]
  entry_read
  pointwise
  rfl

theorem blk1 (t : Fin cfg0.N) (r : Fin 512) (l : Fin 768) : iblk m c 1 t (ix2 r l) = gr m c (row t r) l := by
  blk_simp [iblk]
  have h0 : ((View.whole main_v1).slice (win0_1.rect t)).emb (ix2 r l) = ix2 (row t r) l := by blk_ext [idx1, row]
  rw [h0]
  entry_read
  pointwise
  rfl

theorem blk2 (t : Fin cfg0.N) (r : Fin 512) (l : Fin 768) : iblk m c 2 t (ix2 r l) = mo m c (row t r) l := by
  blk_simp [iblk]
  have h0 : ((View.whole main_v2).slice (win0_2.rect t)).emb (ix2 r l) = ix2 (row t r) l := by blk_ext [idx2, row]
  rw [h0]
  entry_read
  pointwise
  rfl

theorem blk3 (t : Fin cfg0.N) (r : Fin 512) (l : Fin 768) : iblk m c 3 t (ix2 r l) = se m c (row t r) l := by
  blk_simp [iblk]
  have h0 : ((View.whole main_v3).slice (win0_3.rect t)).emb (ix2 r l) = ix2 (row t r) l := by blk_ext [idx3, row]
  rw [h0]
  entry_read
  pointwise
  rfl

theorem delta_final (r : Fin 4096) (l : Fin 768) :
    (dats m 0 c).arrAt 4 cfg0.N (ix2 r l) = delta (wt m c r l) (gr m c r l) (mo m c r l) (se m c r l) := by
  refine congrFun ((dats m 0 c).arrAt_eq_of_covers 4
    (fun i => (delta (wt m c (i 0) (i 1)) (gr m c (i 0) (i 1)) (mo m c (i 0) (i 1)) (se m c (i 0) (i 1)) : EReal)) (by decide +kernel) fun t hf y => ?_) (ix2 r l)
  obtain ⟨a, b, rfl⟩ : ∃ (a : Fin 512) (b : Fin 768), y = ix2 a b := ⟨y 0, y 1, eq_ix2 (n0 := 512) (n1 := 768) y⟩
  blk_simp
  rw [after0_4]
  have h0 : ((View.whole main_v4_0).slice (win0_4.rect t)).emb (ix2 a b) = ix2 (row t a) b := by
    blk_ext [idx4, row]
  rw [h0]
  frame_out
  refine (delta_apply _ _ _ _ a b).trans ?_
  simp only [blk0, blk1, blk2, blk3]
  rfl

theorem mom_final (r : Fin 4096) (l : Fin 768) :
    (dats m 0 c).arrAt 5 cfg0.N (ix2 r l) = mom (gr m c r l) (mo m c r l) := by
  refine congrFun ((dats m 0 c).arrAt_eq_of_covers 5
    (fun i => (mom (gr m c (i 0) (i 1)) (mo m c (i 0) (i 1)) : EReal)) (by decide +kernel) fun t hf y => ?_) (ix2 r l)
  obtain ⟨a, b, rfl⟩ : ∃ (a : Fin 512) (b : Fin 768), y = ix2 a b := ⟨y 0, y 1, eq_ix2 (n0 := 512) (n1 := 768) y⟩
  blk_simp
  rw [after0_5]
  have h0 : ((View.whole main_v4_1).slice (win0_5.rect t)).emb (ix2 a b) = ix2 (row t a) b := by
    blk_ext [idx5, row]
  rw [h0]
  frame_out
  refine (mom_apply _ _ a b).trans ?_
  simp only [blk1, blk2]
  rfl

theorem sec_final (r : Fin 4096) (l : Fin 768) :
    (dats m 0 c).arrAt 6 cfg0.N (ix2 r l) = sec (gr m c r l) (se m c r l) := by
  refine congrFun ((dats m 0 c).arrAt_eq_of_covers 6
    (fun i => (sec (gr m c (i 0) (i 1)) (se m c (i 0) (i 1)) : EReal)) (by decide +kernel) fun t hf y => ?_) (ix2 r l)
  obtain ⟨a, b, rfl⟩ : ∃ (a : Fin 512) (b : Fin 768), y = ix2 a b := ⟨y 0, y 1, eq_ix2 (n0 := 512) (n1 := 768) y⟩
  blk_simp
  rw [after0_6]
  have h0 : ((View.whole main_v4_2).slice (win0_6.rect t)).emb (ix2 a b) = ix2 (row t a) b := by
    blk_ext [idx6, row]
  rw [h0]
  frame_out
  refine (sec_apply _ _ a b).trans ?_
  simp only [blk1, blk3]
  rfl

end Cert.Proof.Adam

end
-- ==== Proof.AdamClaim.lean ====
/- Hand-written, untrusted: the claims about the optimiser's step. -/
module

public import proofs.«01_k».proof.Proof.Adam
public import proofs.«01_k».proof.Defs
public import proofs.«01_k».proof.Proof.Gen.AdamRefIdeal.Run
public import proofs.«01_k».proof.Proof.Gen.AdamRefIdeal.Read
public import Idealize.ShloMosaic.Lib.Claim

@[expose] public section

set_option maxRecDepth 16384

noncomputable section

namespace Cert.Proof.Adam

open Idealize.ShloMosaic Idealize.ShloMosaic.TcCoe Idealize.SL.Sem Idealize.ShloMosaic.Pointwise

namespace Ref

open Cert.AdamRefIdeal Cert.AdamRefIdeal.Read

variable (x0 x1 x2 x3 : (⟨S4x1024x768, .f32⟩ : BufTy).Contents (Elt Ideal))

theorem mom_apply (r : Fin 4096) (l : Fin 768) : val_main_v25 (F := Ideal) x1 x2 (ix2 r l) = mom (x1 (flat r l)) (x2 (flat r l)) := by
  pointwise [val_main_v25, val_main_v4, val_main_v3, val_main_v2, val_main_v1, val_main_v0, val_main_cst, val_main_cst_0]
  rfl

theorem sec_apply (r : Fin 4096) (l : Fin 768) : val_main_v26 (F := Ideal) x1 x3 (ix2 r l) = sec (x1 (flat r l)) (x3 (flat r l)) := by
  pointwise [val_main_v26, val_main_v10, val_main_v9, val_main_v8, val_main_v7, val_main_v6, val_main_v5, val_main_cst_1, val_main_cst_2]
  rfl

theorem delta_apply (r : Fin 4096) (l : Fin 768) : val_main_v24 (F := Ideal) x0 x1 x2 x3 (ix2 r l)
    = delta (x0 (flat r l)) (x1 (flat r l)) (x2 (flat r l)) (x3 (flat r l)) := by
  pointwise [val_main_v24, val_main_v23, val_main_v22, val_main_v21, val_main_v20, val_main_v19, val_main_v18, val_main_v17, val_main_v16,
    val_main_v15, val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, val_main_cst_2,
    val_main_cst_3, val_main_cst_4, val_main_cst_5, val_main_cst_6, val_main_cst_7]
  rfl

end Ref

open Cert.AdamIdeal Cert.AdamIdeal.Gen

/-- The reference runs, keeps its arguments and leaves every counter at zero. -/
theorem frame_ref : Cert.quiescent_AdamRefIdeal :=
  fun m ρ _ => (θ_run _ _ _).mono (fun r h => ⟨fun c => (h c).2.2.2, sem_eq_zero_of_no_sems rfl _⟩) (Cert.AdamRefIdeal.Value.run (F := Ideal) m ρ)

/-- The two programs return the same arrays. -/
theorem value : Cert.algebraic_AdamIdeal_AdamRefIdeal := by
  intro m ρ m' ρ' hpre hag
  refine ⟨_, _, _, Cert.AdamIdeal.Value.run_blocks m ρ, (θ_run _ _ _).mono (fun r h c => ?_) (Cert.AdamRefIdeal.Value.run (F := Ideal) m' ρ')⟩
  obtain ⟨e0, e1, e2, e3⟩ := hag c
  obtain ⟨r0, r1, r2, k⟩ := h c
  refine ⟨r0.trans ?_, r1.trans ?_, r2.trans ?_, k⟩
  · rw [Cert.AdamRefIdeal.Read.val_main_v24_eq]
    funext i
    obtain ⟨a, b, rfl⟩ : ∃ (a : Fin 4096) (b : Fin 768), i = ix2 a b := ⟨i 0, i 1, eq_ix2 (n0 := 4096) (n1 := 768) i⟩
    rw [Ref.delta_apply, delta_final, e0, e1, e2, e3]
  · rw [Cert.AdamRefIdeal.Read.val_main_v25_eq]
    funext i
    obtain ⟨a, b, rfl⟩ : ∃ (a : Fin 4096) (b : Fin 768), i = ix2 a b := ⟨i 0, i 1, eq_ix2 (n0 := 4096) (n1 := 768) i⟩
    rw [Ref.mom_apply, mom_final, e1, e2]
  · rw [Cert.AdamRefIdeal.Read.val_main_v26_eq]
    funext i
    obtain ⟨a, b, rfl⟩ : ∃ (a : Fin 4096) (b : Fin 768), i = ix2 a b := ⟨i 0, i 1, eq_ix2 (n0 := 4096) (n1 := 768) i⟩
    rw [Ref.sec_apply, sec_final, e1, e3]

end Cert.Proof.Adam

end
-- ==== Proof.AdamLayer.lean ====
/- Hand-written, untrusted: the optimiser's step on one layer, written into the stack of all layers. -/
module

public import proofs.«01_k».proof.Proof.Gen.AdamLayerIdeal.Value
public import Idealize.ShloMosaic.Lib.Pipeline.ValueKit
public import Idealize.ShloMosaic.Lib.Claim

@[expose] public section

set_option maxRecDepth 16384

noncomputable section

namespace Cert.Proof.AdamLayer

open Idealize.ShloMosaic Idealize.ShloMosaic.TcCoe Idealize.SL.Sem Idealize.ShloMosaic.Pointwise
open Cert.AdamLayerIdeal Cert.AdamLayerIdeal.Gen

/-- First moment: nine tenths of the old one and one tenth of the gradient. -/
def first (p μ : EReal) : EReal := Ideal.ofBits .f32 0x3F666666#32 * μ + Ideal.ofBits .f32 0x3DCCCCCD#32 * p

/-- Second moment, of the gradient's square. -/
def second (p ν : EReal) : EReal := Ideal.ofBits .f32 0x3F7FBE77#32 * ν + Ideal.ofBits .f32 0x3A83126F#32 * (p * p)

/-- What is added to the weight. -/
def change (ω p μ ν : EReal) : EReal :=
  Ideal.ofBits .f32 0xBA83126F#32
    * (Ideal.div (Ideal.div (first p μ) (Ideal.ofBits .f32 0x3F26BD02#32))
        (Ideal.sqrt (Ideal.div (second p ν) (Ideal.ofBits .f32 0x3C231ACC#32)) + Ideal.ofBits .f32 0x322BCC77#32)
      + Ideal.ofBits .f32 0x3C23D70A#32 * ω)

section
variable (p : Vec Ideal S256x417 .f32) (ω μ ν : Vec Ideal S1x256x417 .f32) (r : Fin 256) (l : Fin 417)

theorem same_payload : k0_pay7 (F := Ideal) p (ix3 0 r l) = p (ix2 r l) := by
  pointwise [k0_pay7]

theorem first_payload : k0_pay4 (F := Ideal) p μ (ix2 r l) = first (p (ix2 r l)) (μ (ix3 0 r l)) := by
  pointwise [k0_pay4]
  rfl

theorem second_payload : k0_pay5 (F := Ideal) p ν (ix2 r l) = second (p (ix2 r l)) (ν (ix3 0 r l)) := by
  pointwise [k0_pay5]
  rfl

theorem change_payload : k0_pay6 (F := Ideal) p ω μ ν (ix2 r l)
    = change (ω (ix3 0 r l)) (p (ix2 r l)) (μ (ix3 0 r l)) (ν (ix3 0 r l)) := by
  pointwise [k0_pay6, k0_pay5, k0_pay4]
  rfl

theorem lift_change (q : FVec Ideal S256x417 .f32) : k0_pay1 (F := Ideal) q (ix3 0 r l) = q (ix2 r l) := by
  pointwise [k0_pay1]

theorem lift_first (q : FVec Ideal S256x417 .f32) : k0_pay2 (F := Ideal) q (ix3 0 r l) = q (ix2 r l) := by
  pointwise [k0_pay2]

theorem lift_second (q : FVec Ideal S256x417 .f32) : k0_pay3 (F := Ideal) q (ix3 0 r l) = q (ix2 r l) := by
  pointwise [k0_pay3]

end

/-! ## The stacks after the run -/

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![1, t.val, 0] := (by decide +kernel : ∀ t : Fin grid0.N, _)
theorem at2 : ∀ t : Fin cfg0.N, win0_2.index t = ![1, t.val, 0] := (by decide +kernel : ∀ t : Fin grid0.N, _)
theorem at3 : ∀ t : Fin cfg0.N, win0_3.index t = ![1, t.val, 0] := (by decide +kernel : ∀ t : Fin grid0.N, _)
theorem at4 : ∀ t : Fin cfg0.N, win0_4.index t = ![1, t.val, 0] := (by decide +kernel : ∀ t : Fin grid0.N, _)
theorem at5 : ∀ t : Fin cfg0.N, win0_5.index t = ![1, t.val, 0] := (by decide +kernel : ∀ t : Fin grid0.N, _)
theorem at6 : ∀ t : Fin cfg0.N, win0_6.index t = ![1, t.val, 0] := (by decide +kernel : ∀ t : Fin grid0.N, _)
theorem at7 : ∀ t : Fin cfg0.N, win0_7.index t = ![1, t.val, 0] := (by decide +kernel : ∀ t : Fin grid0.N, _)

/-- Row `r` of the tile that point `t` takes. -/
def tile (t : Fin cfg0.N) (r : Fin 256) : Fin 1024 :=
  ⟨t.val * 256 + r.val, by have := t.isLt; have := r.isLt; have h : cfg0.N = 4 := N_0; omega⟩

/-- The layer's gradient, and its weight and moments in their stacks. -/
abbrev dw (r : Fin 1024) (l : Fin 417) : EReal := m ((c : Thread nD τ).loc main_arg0) (ix2 r l)
abbrev ww (r : Fin 1024) (l : Fin 417) : EReal := m ((c : Thread nD τ).loc main_arg1) (ix3 1 r l)
abbrev wm (r : Fin 1024) (l : Fin 417) : EReal := m ((c : Thread nD τ).loc main_arg2) (ix3 1 r l)
abbrev wv (r : Fin 1024) (l : Fin 417) : EReal := m ((c : Thread nD τ).loc main_arg3) (ix3 1 r l)

theorem in0 (t : Fin cfg0.N) (r : Fin 256) (l : Fin 417) : iblk m c 0 t (ix2 r l) = dw m c (tile t r) l := by
  blk_simp [iblk]
  have h0 : ((View.whole main_arg0).slice (win0_0.rect t)).emb (ix2 r l) = ix2 (tile t r) l := by blk_ext [at0, tile]
  rw [h0]
  entry_read
  rfl

theorem in1 (t : Fin cfg0.N) (r : Fin 256) (l : Fin 417) : iblk m c 1 t (ix3 0 r l) = ww m c (tile t r) l := by
  blk_simp [iblk]
  have h0 : ((View.whole main_arg1).slice (win0_1.rect t)).emb (ix3 0 r l) = ix3 1 (tile t r) l := by blk_ext [at1, tile]
  rw [h0]
  entry_read
  rfl

theorem in2 (t : Fin cfg0.N) (r : Fin 256) (l : Fin 417) : iblk m c 2 t (ix3 0 r l) = wm m c (tile t r) l := by
  blk_simp [iblk]
  have h0 : ((View.whole main_arg2).slice (win0_2.rect t)).emb (ix3 0 r l) = ix3 1 (tile t r) l := by blk_ext [at2, tile]
  rw [h0]
  entry_read
  rfl

theorem in3 (t : Fin cfg0.N) (r : Fin 256) (l : Fin 417) : iblk m c 3 t (ix3 0 r l) = wv m c (tile t r) l := by
  blk_simp [iblk]
  have h0 : ((View.whole main_arg3).slice (win0_3.rect t)).emb (ix3 0 r l) = ix3 1 (tile t r) l := by blk_ext [at3, tile]
  rw [h0]
  entry_read
  rfl

/-- A stack with layer 1 replaced. -/
def put (old : Fin 4 → Fin 1024 → Fin 417 → EReal) (new : Fin 1024 → Fin 417 → EReal) (d : Fin 4) (r : Fin 1024) (l : Fin 417) : EReal :=
  if d.val = 1 then new r l else old d r l

theorem only (y : S1x256x417.Idx) : ∃ (a : Fin 256) (b : Fin 417), y = ix3 0 a b :=
  ⟨y 1, y 2, (eq_ix3 (n0 := 1) (n1 := 256) (n2 := 417) y).trans (by rw [Subsingleton.elim (α := Fin 1) (y 0) 0])⟩

theorem same_stack (d : Fin 4) (r : Fin 1024) (l : Fin 417) : (dats m 0 c).arrAt 4 cfg0.N (ix3 d r l)
    = put (fun d r l => m ((c : Thread nD τ).loc main_arg4) (ix3 d r l)) (dw m c) d r l := by
  have e := (dats m 0 c).arrAt_apply_of_coversWhere 4 (fun i => (dw m c (i 1) (i 2) : EReal)) (P := fun i => (i 0).val = 1)
    (fun β => β (0 : Fin 3) = 1) (by decide +kernel) (fun t hf y => ?_) (fun j => by blk_simp [Pipeline.Window.cell_apply]; rw [Nat.div_one]) (ix3 d r l)
  · refine e.trans ?_
    show (if d.val = 1 then dw m c r l else V m c main_v0_0 (ix3 d r l)) = _
    unfold put
    exact if_congr Iff.rfl rfl (congrFun (show V m c main_v0_0 = m ((c : Thread nD τ).loc main_arg4) by entry_read; rfl) _)
  · obtain ⟨a, b, rfl⟩ := only y
    blk_simp
    rw [after0_4]
    have h0 : ((View.whole main_v0_0).slice (win0_4.rect t)).emb (ix3 0 a b) = ix3 1 (tile t a) b := by blk_ext [at4, tile]
    rw [h0]
    unfold outsAt0
    dsimp only
    unfold out0_A_4
    frame_out
    refine (same_payload _ a b).trans ?_
    rw [in0]
    rfl

theorem change_stack (d : Fin 4) (r : Fin 1024) (l : Fin 417) : (dats m 0 c).arrAt 5 cfg0.N (ix3 d r l)
    = put (fun d r l => m ((c : Thread nD τ).loc main_arg5) (ix3 d r l)) (fun r l => change (ww m c r l) (dw m c r l) (wm m c r l) (wv m c r l)) d r l := by
  have e := (dats m 0 c).arrAt_apply_of_coversWhere 5
    (fun i => (change (ww m c (i 1) (i 2)) (dw m c (i 1) (i 2)) (wm m c (i 1) (i 2)) (wv m c (i 1) (i 2)) : EReal)) (P := fun i => (i 0).val = 1)
    (fun β => β (0 : Fin 3) = 1) (by decide +kernel) (fun t hf y => ?_) (fun j => by blk_simp [Pipeline.Window.cell_apply]; rw [Nat.div_one]) (ix3 d r l)
  · refine e.trans ?_
    show (if d.val = 1 then _ else V m c main_v0_1 (ix3 d r l)) = _
    unfold put
    congr 1
  · obtain ⟨a, b, rfl⟩ := only y
    blk_simp
    rw [after0_5]
    have h0 : ((View.whole main_v0_1).slice (win0_5.rect t)).emb (ix3 0 a b) = ix3 1 (tile t a) b := by blk_ext [at5, tile]
    rw [h0]
    frame_out
    refine (lift_change a b _).trans ((change_payload _ _ _ _ a b).trans ?_)
    rw [in0, in1, in2, in3]
    rfl

theorem first_stack (d : Fin 4) (r : Fin 1024) (l : Fin 417) : (dats m 0 c).arrAt 6 cfg0.N (ix3 d r l)
    = put (fun d r l => m ((c : Thread nD τ).loc main_arg6) (ix3 d r l)) (fun r l => first (dw m c r l) (wm m c r l)) d r l := by
  have e := (dats m 0 c).arrAt_apply_of_coversWhere 6
    (fun i => (first (dw m c (i 1) (i 2)) (wm m c (i 1) (i 2)) : EReal)) (P := fun i => (i 0).val = 1)
    (fun β => β (0 : Fin 3) = 1) (by decide +kernel) (fun t hf y => ?_) (fun j => by blk_simp [Pipeline.Window.cell_apply]; rw [Nat.div_one]) (ix3 d r l)
  · refine e.trans ?_
    show (if d.val = 1 then _ else V m c main_v0_2 (ix3 d r l)) = _
    unfold put
    congr 1
  · obtain ⟨a, b, rfl⟩ := only y
    blk_simp
    rw [after0_6]
    have h0 : ((View.whole main_v0_2).slice (win0_6.rect t)).emb (ix3 0 a b) = ix3 1 (tile t a) b := by blk_ext [at6, tile]
    rw [h0]
    frame_out
    refine (lift_first a b _).trans ((first_payload _ _ a b).trans ?_)
    rw [in0, in2]
    rfl

theorem second_stack (d : Fin 4) (r : Fin 1024) (l : Fin 417) : (dats m 0 c).arrAt 7 cfg0.N (ix3 d r l)
    = put (fun d r l => m ((c : Thread nD τ).loc main_arg7) (ix3 d r l)) (fun r l => second (dw m c r l) (wv m c r l)) d r l := by
  have e := (dats m 0 c).arrAt_apply_of_coversWhere 7
    (fun i => (second (dw m c (i 1) (i 2)) (wv m c (i 1) (i 2)) : EReal)) (P := fun i => (i 0).val = 1)
    (fun β => β (0 : Fin 3) = 1) (by decide +kernel) (fun t hf y => ?_) (fun j => by blk_simp [Pipeline.Window.cell_apply]; rw [Nat.div_one]) (ix3 d r l)
  · refine e.trans ?_
    show (if d.val = 1 then _ else V m c main_v0_3 (ix3 d r l)) = _
    unfold put
    congr 1
  · obtain ⟨a, b, rfl⟩ := only y
    blk_simp
    rw [after0_7]
    have h0 : ((View.whole main_v0_3).slice (win0_7.rect t)).emb (ix3 0 a b) = ix3 1 (tile t a) b := by blk_ext [at7, tile]
    rw [h0]
    frame_out
    refine (lift_second a b _).trans ((second_payload _ _ a b).trans ?_)
    rw [in0, in3]
    rfl

end Cert.Proof.AdamLayer

end
-- ==== Proof.AdamLayerClaim.lean ====
/- Hand-written, untrusted: the claims about the optimiser's step on one layer. -/
module

public import proofs.«01_k».proof.Proof.AdamLayer
public import proofs.«01_k».proof.Defs
public import proofs.«01_k».proof.Proof.Gen.AdamLayerRefIdeal.Run
public import proofs.«01_k».proof.Proof.Gen.AdamLayerRefIdeal.Read

@[expose] public section

set_option maxRecDepth 16384

noncomputable section

namespace Cert.Proof.AdamLayer

open Idealize.ShloMosaic Idealize.ShloMosaic.TcCoe Idealize.SL.Sem Idealize.ShloMosaic.Pointwise

namespace Ref

open Cert.AdamLayerRefIdeal Cert.AdamLayerRefIdeal.Read

/-- A stack's first layer, a layer, and the stack's last two, one after the other. -/
theorem stacked (old : S4x1024x417.Idx → EReal) (a b : S1x1024x417.Idx → EReal) (e : S2x1024x417.Idx → EReal) (new : Fin 1024 → Fin 417 → EReal) (hc)
    (ha : ∀ r l, a (ix3 0 r l) = old (ix3 0 r l)) (hb : ∀ r l, b (ix3 0 r l) = new r l)
    (he : ∀ (j : Fin 2) r l, e (ix3 j r l) = old (ix3 ⟨2 + j.val, by omega⟩ r l)) (d : Fin 4) (r : Fin 1024) (l : Fin 417) :
    concatenate S4x1024x417 0 [⟨S1x1024x417, a⟩, ⟨S1x1024x417, b⟩, ⟨S2x1024x417, e⟩] hc (ix3 d r l)
      = put (fun d r l => old (ix3 d r l)) new d r l := by
  have key (i n : ℕ) (hi : i < 3) (x : (⟨3, ![n, 1024, 417]⟩ : Shape).Idx → EReal)
      (hx : ([⟨S1x1024x417, a⟩, ⟨S1x1024x417, b⟩, ⟨S2x1024x417, e⟩] : List ((s : Shape) × (s.Idx → EReal)))[i] = ⟨⟨3, ![n, 1024, 417]⟩, x⟩) (pre : ℕ)
      (hp : (((([⟨S1x1024x417, a⟩, ⟨S1x1024x417, b⟩, ⟨S2x1024x417, e⟩] : List ((s : Shape) × (s.Idx → EReal))).take i).map (·.1)).map
        fun s => if h : s.rank = S4x1024x417.rank then s.size ((0 : Fin 3).cast h.symm) else 0).sum = pre)
      (k : Fin n) (hk : pre + k.val = d.val) :
      concatenate S4x1024x417 0 [⟨S1x1024x417, a⟩, ⟨S1x1024x417, b⟩, ⟨S2x1024x417, e⟩] hc (ix3 d r l) = x (ix3 k r l) :=
    concatenate_apply_piece (t := S4x1024x417) 0 _ hc (ix3 d r l) i hi _ x hx rfl pre hp (ix3 k r l)
      (by intro q hq; fin_cases q
          · exact absurd rfl hq
          · rfl
          · rfl) hk
  obtain ⟨d, hd⟩ := d
  rcases Nat.lt_or_ge d 1 with h | h
  · obtain rfl : d = 0 := by omega
    rw [key 0 1 (by decide) a rfl 0 rfl 0 rfl, ha]
    rfl
  rcases Nat.lt_or_ge d 2 with h' | h'
  · obtain rfl : d = 1 := by omega
    rw [key 1 1 (by decide) b rfl 1 rfl 0 rfl, hb]
    rfl
  · rw [key 2 2 (by decide) e rfl 2 rfl ⟨d - 2, by omega⟩ (by show 2 + (d - 2) = d; omega), he]
    unfold put
    rw [if_neg (show ¬ d = 1 by omega)]
    exact congrArg (fun q : Fin 4 => old (ix3 q r l)) (Fin.ext (by show 2 + (d - 2) = d; omega))

variable (x0 : (⟨S1024x417, .f32⟩ : BufTy).Contents (Elt Ideal)) (x1 x2 x3 x4 x5 x6 x7 : (⟨S4x1024x417, .f32⟩ : BufTy).Contents (Elt Ideal))

theorem same_ref (d : Fin 4) (r : Fin 1024) (l : Fin 417) : val_main_v33 (F := Ideal) x0 x4 (ix3 d r l)
    = put (fun d r l => x4 (ix3 d r l)) (fun r l => x0 (ix2 r l)) d r l := by
  unfold val_main_v33
  refine stacked x4 _ _ _ _ _ ?_ ?_ ?_ d r l
  · intro r l; pointwise [val_main_v30]
  · intro r l; pointwise [val_main_v31]
  · intro j r l; pointwise [val_main_v32]

theorem change_ref (d : Fin 4) (r : Fin 1024) (l : Fin 417) : val_main_v37 (F := Ideal) x0 x1 x2 x3 x5 (ix3 d r l)
    = put (fun d r l => x5 (ix3 d r l)) (fun r l => change (x1 (ix3 1 r l)) (x0 (ix2 r l)) (x2 (ix3 1 r l)) (x3 (ix3 1 r l))) d r l := by
  unfold val_main_v37
  refine stacked x5 _ _ _ _ _ ?_ ?_ ?_ d r l
  · intro r l; pointwise [val_main_v34]
  · intro r l
    pointwise [val_main_v35, val_main_v29, val_main_v28, val_main_v27, val_main_v26, val_main_v25, val_main_v24, val_main_v23, val_main_v22,
      val_main_v21, val_main_v20, val_main_v19, val_main_v18, val_main_v17, val_main_v16, val_main_v15, val_main_v14, val_main_v13, val_main_v12,
      val_main_v11, val_main_v10, val_main_v9, val_main_v8, val_main_v7, val_main_v6, val_main_v5, val_main_v4, val_main_v3, val_main_v2,
      val_main_v1, val_main_v0, val_main_cst, val_main_cst_0, val_main_cst_1, val_main_cst_2, val_main_cst_3, val_main_cst_4, val_main_cst_5,
      val_main_cst_6, val_main_cst_7]
    rfl
  · intro j r l; pointwise [val_main_v36]

theorem first_ref (d : Fin 4) (r : Fin 1024) (l : Fin 417) : val_main_v41 (F := Ideal) x0 x2 x6 (ix3 d r l)
    = put (fun d r l => x6 (ix3 d r l)) (fun r l => first (x0 (ix2 r l)) (x2 (ix3 1 r l))) d r l := by
  unfold val_main_v41
  refine stacked x6 _ _ _ _ _ ?_ ?_ ?_ d r l
  · intro r l; pointwise [val_main_v38]
  · intro r l
    pointwise [val_main_v39, val_main_v6, val_main_v5, val_main_v4, val_main_v3, val_main_v2, val_main_v1, val_main_v0, val_main_cst, val_main_cst_0]
    rfl
  · intro j r l; pointwise [val_main_v40]

theorem second_ref (d : Fin 4) (r : Fin 1024) (l : Fin 417) : val_main_v45 (F := Ideal) x0 x3 x7 (ix3 d r l)
    = put (fun d r l => x7 (ix3 d r l)) (fun r l => second (x0 (ix2 r l)) (x3 (ix3 1 r l))) d r l := by
  unfold val_main_v45
  refine stacked x7 _ _ _ _ _ ?_ ?_ ?_ d r l
  · intro r l; pointwise [val_main_v42]
  · intro r l
    pointwise [val_main_v43, val_main_v14, val_main_v13, val_main_v12, val_main_v11, val_main_v10, val_main_v9, val_main_v8, val_main_v7,
      val_main_cst_1, val_main_cst_2]
    rfl
  · intro j r l; pointwise [val_main_v44]

end Ref

open Cert.AdamLayerIdeal Cert.AdamLayerIdeal.Gen

/-- The reference runs, keeps its arguments and leaves every counter at zero. -/
theorem frame_ref : Cert.quiescent_AdamLayerRefIdeal :=
  fun m ρ _ => (θ_run _ _ _).mono (fun r h => ⟨fun c => (h c).2.2.2.2, sem_eq_zero_of_no_sems rfl _⟩) (Cert.AdamLayerRefIdeal.Value.run (F := Ideal) m ρ)

/-- The two programs return the same stacks. -/
theorem value : Cert.algebraic_AdamLayerIdeal_AdamLayerRefIdeal := by
  intro m ρ m' ρ' hpre hag
  refine ⟨_, _, _, _, Cert.AdamLayerIdeal.Value.run_blocks m ρ, (θ_run _ _ _).mono (fun r h c => ?_) (Cert.AdamLayerRefIdeal.Value.run (F := Ideal) m' ρ')⟩
  obtain ⟨e0, e1, e2, e3, e4, e5, e6, e7⟩ := hag c
  obtain ⟨r0, r1, r2, r3, k⟩ := h c
  have all (y : S4x1024x417.Idx) : ∃ (d : Fin 4) (r : Fin 1024) (l : Fin 417), y = ix3 d r l :=
    ⟨y 0, y 1, y 2, eq_ix3 (n0 := 4) (n1 := 1024) (n2 := 417) y⟩
  refine ⟨r0.trans ?_, r1.trans ?_, r2.trans ?_, r3.trans ?_, k⟩
  · rw [Cert.AdamLayerRefIdeal.Read.val_main_v33_eq]
    funext y
    obtain ⟨d, r, l, rfl⟩ := all y
    rw [Ref.same_ref, same_stack, e0, e4]
  · rw [Cert.AdamLayerRefIdeal.Read.val_main_v37_eq]
    funext y
    obtain ⟨d, r, l, rfl⟩ := all y
    rw [Ref.change_ref, change_stack, e0, e1, e2, e3, e5]
  · rw [Cert.AdamLayerRefIdeal.Read.val_main_v41_eq]
    funext y
    obtain ⟨d, r, l, rfl⟩ := all y
    rw [Ref.first_ref, first_stack, e0, e2, e6]
  · rw [Cert.AdamLayerRefIdeal.Read.val_main_v45_eq]
    funext y
    obtain ⟨d, r, l, rfl⟩ := all y
    rw [Ref.second_ref, second_stack, e0, e3, e7]

end Cert.Proof.AdamLayer

end
-- ==== Proof.Wgrad.lean ====
/- Hand-written, untrusted: a weight's product. -/
module

public import proofs.«01_k».proof.Proof.Gen.WgradIdeal.Value
public import Idealize.ShloMosaic.Lib.Pipeline.ValueKit

@[expose] public section

set_option maxRecDepth 16384

noncomputable section

namespace Cert.Proof.Wgrad

open Idealize.ShloMosaic Idealize.ShloMosaic.TcCoe Idealize.SL.Sem Idealize.ShloMosaic.Pointwise
open Cert.WgradIdeal Cert.WgradIdeal.Gen

/-- A step's block: what the step before left, and the product of the two blocks' columns. -/
theorem step_apply (v3 : Vec Ideal S1408x1024 .f32) (v5 : Vec Ideal S1024x1408 .bf16) (v7 : Vec Ideal S1024x1024 .bf16) (r : Fin 1408) (l : Fin 1024) :
    k0_pay2 (F := Ideal) v3 v5 v7 (ix2 r l) = v3 (ix2 r l) + ∑ k : Fin 1024, v5 (ix2 k r) * v7 (ix2 k l) := by
  pointwise [k0_pay2]

theorem zero_apply (i : S1408x1024.Idx) : k0_pay1 (F := Ideal) i = (0 : EReal) := by
  pointwise [k0_pay1]

/-! ## The kernel's array after the run -/

variable (m : (ℓ : Loc nD τ sig) → Buf (Elt Ideal) ℓ) (c : Dev nD)

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)

/-- The arguments, entry by entry. -/
abbrev x (r : Fin 4096) (l : Fin 1024) : EReal := m ((c : Thread nD τ).loc main_arg0) (ix2 r l)
abbrev y (r : Fin 4096) (k : Fin 5632) : EReal := m ((c : Thread nD τ).loc main_arg1) (ix2 r k)

/-- Row `k` of the row block of point `n`, and column `r` of its column block. -/
def row (n : ℕ) (k : Fin 1024) : Fin 4096 := ⟨n % 4 * 1024 + k.val, by have := k.isLt; omega⟩
def col (n : ℕ) (r : Fin 1408) : Fin 5632 := ⟨n / 4 % 4 * 1408 + r.val, by have := r.isLt; omega⟩

theorem blk0 (t : Fin cfg0.N) (k : Fin 1024) (r : Fin 1408) : iblk m c 0 t (ix2 k r) = y m c (row t.val k) (col t.val r) := by
  blk_simp [iblk]
  have h0 : ((View.whole main_v0).slice (win0_0.rect t)).emb (ix2 k r) = ix2 (row t.val k) (col t.val r) := by
    have h : cfg0.N = 16 := N_0
    have ht := t.isLt
    blk_ext [idx0, row, col]
  rw [h0]
  entry_read
  pointwise

theorem blk1 (t : Fin cfg0.N) (k : Fin 1024) (l : Fin 1024) : iblk m c 1 t (ix2 k l) = x m c (row t.val k) l := by
  blk_simp [iblk]
  have h0 : ((View.whole main_v1).slice (win0_1.rect t)).emb (ix2 k l) = ix2 (row t.val k) l := by blk_ext [idx1, row]
  rw [h0]
  entry_read
  pointwise

/-- What point `n` adds. -/
def part (n : ℕ) (i : S1408x1024.Idx) : EReal := ∑ k : Fin 1024, y m c (row n k) (col n (i 0)) * x m c (row n k) (i 1)

/-- The result: a column's product with a column, over all rows. -/
theorem final (a : Fin 5632) (l : Fin 1024) :
    (dats m 0 c).arrAt 2 cfg0.N (ix2 a l) = (∑ r : Fin 4096, y m c r a * x m c r l : EReal) := by
  have ha := a.isLt
  have hl := l.isLt
  have hN : cfg0.N = 16 := N_0
  have hq : Cert.WgradIdeal.Value.run2Of (ix2 a l) = a.val / 1408 := by
    show 1 * (a.val / 1408 - 0) + 1 * (l.val / 1024 - 0) = _
    omega
  rw [Cert.WgradIdeal.Value.final2]
  unfold Cert.WgradIdeal.Value.G2
  rw [dif_pos (by rw [hq]; omega), Pipeline.accAt_add_apply _ _ (fun _ => (0 : EReal)) (part m c) _ 3 (fun h i => ?_) (fun n h acc i _ _ => ?_) 3 le_rfl _ _,
    zero_add, Finset.sum_range]
  · refine Fin.sum_mul_add_congr (S := 4) (n := 1024) (fun s k hl => ?_) rfl
    have hs := s.isLt
    have hk := k.isLt
    have e0 : row (4 * Cert.WgradIdeal.Value.run2Of (ix2 a l) + s.val) k = ⟨s.val * 1024 + k.val, hl⟩ := Fin.ext (by
      show (4 * Cert.WgradIdeal.Value.run2Of (ix2 a l) + s.val) % 4 * 1024 + k.val = s.val * 1024 + k.val
      omega)
    have e1 : col (4 * Cert.WgradIdeal.Value.run2Of (ix2 a l) + s.val) (Cert.WgradIdeal.Value.loc2Of (ix2 a l) 0) = a := Fin.ext (by
      show (4 * Cert.WgradIdeal.Value.run2Of (ix2 a l) + s.val) / 4 % 4 * 1408 + a.val % 1408 = a.val
      rw [hq]
      omega)
    have e2 : Cert.WgradIdeal.Value.loc2Of (ix2 a l) 1 = l := Fin.ext (by
      show l.val % 1024 = l.val
      omega)
    rw [e0, e1, e2]
  · obtain ⟨r, l, rfl⟩ : ∃ (r : Fin 1408) (l : Fin 1024), i = ix2 r l := ⟨i 0, i 1, eq_ix2 (n0 := 1408) (n1 := 1024) i⟩
    unfold Cert.WgradIdeal.Value.reset2
    rw [step_apply, zero_apply]
    simp only [blk0, blk1]
    rfl
  · obtain ⟨r, l, rfl⟩ : ∃ (r : Fin 1408) (l : Fin 1024), i = ix2 r l := ⟨i 0, i 1, eq_ix2 (n0 := 1408) (n1 := 1024) i⟩
    unfold Cert.WgradIdeal.Value.step2
    rw [step_apply]
    simp only [blk0, blk1]
    rfl

end Cert.Proof.Wgrad

end
-- ==== Proof.WgradClaim.lean ====
/- Hand-written, untrusted: the claims about a weight's product. -/
module

public import proofs.«01_k».proof.Proof.Wgrad
public import proofs.«01_k».proof.Defs
public import proofs.«01_k».proof.Proof.Gen.WgradRefIdeal.Run
public import proofs.«01_k».proof.Proof.Gen.WgradRefIdeal.Read
public import Idealize.ShloMosaic.Lib.Claim

@[expose] public section

set_option maxRecDepth 16384

noncomputable section

namespace Cert.Proof.Wgrad

open Idealize.ShloMosaic Idealize.ShloMosaic.TcCoe Idealize.SL.Sem Idealize.ShloMosaic.Pointwise

namespace Ref

open Cert.WgradRefIdeal Cert.WgradRefIdeal.Read

variable (x0 : (⟨S4096x1024, .f32⟩ : BufTy).Contents (Elt Ideal)) (x1 : (⟨S4096x5632, .f32⟩ : BufTy).Contents (Elt Ideal))

theorem prod_apply (a : Fin 5632) (l : Fin 1024) :
    val_main_v4 (F := Ideal) x0 x1 (ix2 a l) = (∑ r : Fin 4096, x1 (ix2 r a) * x0 (ix2 r l) : EReal) := by
  pointwise [val_main_v4, val_main_v3, val_main_v2]

end Ref

open Cert.WgradIdeal Cert.WgradIdeal.Gen

/-- The reference runs, keeps its arguments and leaves every counter at zero. -/
theorem frame_ref : Cert.quiescent_WgradRefIdeal :=
  fun m ρ _ => (θ_run _ _ _).mono (fun r h => ⟨fun c => (h c).2, sem_eq_zero_of_no_sems rfl _⟩) (Cert.WgradRefIdeal.Value.run (F := Ideal) m ρ)

/-- The two programs return the same array. -/
theorem value : Cert.algebraic_WgradIdeal_WgradRefIdeal := by
  intro m ρ m' ρ' hpre hag
  refine ⟨_, Cert.WgradIdeal.Value.run_blocks m ρ, (θ_run _ _ _).mono (fun r h c => ?_) (Cert.WgradRefIdeal.Value.run (F := Ideal) m' ρ')⟩
  obtain ⟨e0, e1⟩ := hag c
  obtain ⟨r0, k⟩ := h c
  refine ⟨r0.trans ?_, k⟩
  rw [Cert.WgradRefIdeal.Read.val_main_v4_eq]
  funext i
  obtain ⟨a, b, rfl⟩ : ∃ (a : Fin 5632) (b : Fin 1024), i = ix2 a b := ⟨i 0, i 1, eq_ix2 (n0 := 5632) (n1 := 1024) i⟩
  rw [Ref.prod_apply, final, e0, e1]

end Cert.Proof.Wgrad

end
-- ==== Proof.Wgin.lean ====
/- Hand-written, untrusted: the input projection's product, cut for the devices. -/
module

public import proofs.«01_k».proof.Proof.Gen.WginIdeal.Value
public import Idealize.ShloMosaic.Lib.Pipeline.ValueKit
public import Idealize.ShloMosaic.Lib.Pipeline.ReadBack

@[expose] public section

set_option maxRecDepth 16384

noncomputable section

namespace Cert.Proof.Wgin

open Idealize.ShloMosaic Idealize.ShloMosaic.TcCoe Idealize.SL.Sem Idealize.ShloMosaic.Pointwise
open Cert.WginIdeal Cert.WginIdeal.Gen

/-- A step's block: what the step before left, and the product of the two blocks' columns. -/
theorem step_apply (v3 : Vec Ideal S512x3456 .f32) (v4 : Vec Ideal S1024x512 .bf16) (v6 : Vec Ideal S1024x3456 .bf16) (r : Fin 512) (l : Fin 3456) :
    k0_pay2 (F := Ideal) v3 v4 v6 (ix2 r l) = v3 (ix2 r l) + ∑ k : Fin 1024, v4 (ix2 k r) * v6 (ix2 k l) := by
  pointwise [k0_pay2]

theorem zero_apply (i : S512x3456.Idx) : k0_pay1 (F := Ideal) i = (0 : EReal) := by
  pointwise [k0_pay1]

/-- A window of 640 columns of the accumulator, as the body reads it back. -/
abbrev win (A : Vec Ideal S512x3456 .f32) (o : ℕ) (h : ∀ a, ![0, o] a + ![512, 640] a ≤ S512x3456.size a) : Vec Ideal S512x640 .f32 :=
  (View.whole cc0_scratch0).readCov (Val := Elt Ideal) [⟨Rect.unit ![0, 0] ![512, 3456] inb_S512x3456_S512x3456_0_0, A⟩]
    (Rect.unit (s := S512x3456) ![0, o] ![512, 640] h).toLoadRect

theorem win_apply (A : Vec Ideal S512x3456 .f32) (o : ℕ) (h : ∀ a, ![0, o] a + ![512, 640] a ≤ S512x3456.size a) (r : Fin 512) (n : ℕ) (hn : n < 640) (j : Fin 3456)
    (hj : j.val = o + n) : win A o h (ix2 r ⟨n, hn⟩) = A (ix2 r j) := by
  unfold win
  rw [View.readCov_eq_canon', View.canon_cons_unit_zero (S := S512x3456) (by decide)]
  refine congrArg A (funext fun a => Fin.ext ?_)
  match a with
  | 0 => show 0 + 1 * r.val = r.val; omega
  | 1 => show o + 1 * n = j.val; omega

/-- What the last step of a column block stores: eight pieces of 512 columns, each a window turned left by 33 columns
more than the one before it: piece `q` begins at column `417 q`. -/
theorem pieces (A : Vec Ideal S512x3456 .f32) (y : S8x512x512.Idx) (j : Fin 3456) (hj : j.val = 417 * (y 0).val + (y 2).val) :
    View.canon (Val := Elt Ideal)
      [⟨Rect.unit ![7, 0, 0] ![1, 512, 512] inb_S8x512x512_S1x512x512_7_0_0, k0_pay6 (F := Ideal) (win A 2816 inb_S512x3456_S512x640_0_2816)⟩,
        ⟨Rect.unit ![6, 0, 0] ![1, 512, 512] inb_S8x512x512_S1x512x512_6_0_0, k0_pay5 (F := Ideal) (win A 2432 inb_S512x3456_S512x640_0_2432)⟩,
        ⟨Rect.unit ![5, 0, 0] ![1, 512, 512] inb_S8x512x512_S1x512x512_5_0_0, k0_pay4 (F := Ideal) (win A 2048 inb_S512x3456_S512x640_0_2048)⟩,
        ⟨Rect.unit ![4, 0, 0] ![1, 512, 512] inb_S8x512x512_S1x512x512_4_0_0, k0_pay3 (F := Ideal) (k0_pay11 (F := Ideal) (win A 1664 inb_S512x3456_S512x640_0_1664))⟩,
        ⟨Rect.unit ![3, 0, 0] ![1, 512, 512] inb_S8x512x512_S1x512x512_3_0_0, k0_pay10 (F := Ideal) (win A 1152 inb_S512x3456_S512x640_0_1152)⟩,
        ⟨Rect.unit ![2, 0, 0] ![1, 512, 512] inb_S8x512x512_S1x512x512_2_0_0, k0_pay9 (F := Ideal) (win A 768 inb_S512x3456_S512x640_0_768)⟩,
        ⟨Rect.unit ![1, 0, 0] ![1, 512, 512] inb_S8x512x512_S1x512x512_1_0_0, k0_pay8 (F := Ideal) (win A 384 inb_S512x3456_S512x640_0_384)⟩,
        ⟨Rect.unit ![0, 0, 0] ![1, 512, 512] inb_S8x512x512_S1x512x512_0_0_0, k0_pay7 (F := Ideal) (win A 0 inb_S512x3456_S512x640_0_0)⟩] y
      = A (ix2 (y 1) j) := by
  canon_tiles x h
  all_goals
    rw [h0, h2] at hj
    rw [show (x 0).val = 0 by omega] at hj
    obtain ⟨r, k, rfl⟩ : ∃ (r k : Fin 512), x = ix3 0 r k := ⟨x 1, x 2, by
      refine (eq_ix3 (n0 := 1) (n1 := 512) (n2 := 512) x).trans ?_
      exact congrArg (fun a => ix3 a (x 1) (x 2)) (Subsingleton.elim _ _)⟩
    replace hj : j.val = _ + k.val := hj
    pointwise [k0_pay3, k0_pay4, k0_pay5, k0_pay6, k0_pay7, k0_pay8, k0_pay9, k0_pay10, k0_pay11]
    rw [win_apply _ _ _ _ _ _ j (by omega), show r = y 1 from Fin.ext h1.symm]

/-! ## The kernel's array after the run -/

variable (m : (ℓ : Loc nD τ sig) → Buf (Elt Ideal) ℓ) (c : Dev nD)

theorem idx0 : ∀ t : Fin cfg0.N, win0_0.index t = ![t.val % 4, t.val / 4] := (by decide +kernel : ∀ t : Fin grid0.N, _)
theorem idx1 : ∀ t : Fin cfg0.N, win0_1.index t = ![t.val % 4, 0] := (by decide +kernel : ∀ t : Fin grid0.N, _)

/-- The arguments, entry by entry; the second with its columns padded by zeros. -/
abbrev h (r : Fin 4096) (k : Fin 1024) : EReal := m ((c : Thread nD τ).loc main_arg0) (ix2 r k)
abbrev y (r : Fin 4096) (l : Fin 3456) : EReal :=
  if p : l.val < 3336 then m ((c : Thread nD τ).loc main_arg1) (ix2 r ⟨l.val, p⟩) else 0

/-- Row `k` of the row block of point `n`, and column `r` of its column block. -/
def row (n : ℕ) (k : Fin 1024) : Fin 4096 := ⟨n % 4 * 1024 + k.val, by have := k.isLt; omega⟩
def col (n : ℕ) (r : Fin 512) : Fin 1024 := ⟨n / 4 % 2 * 512 + r.val, by have := r.isLt; omega⟩

theorem blk0 (t : Fin cfg0.N) (k : Fin 1024) (r : Fin 512) : iblk m c 0 t (ix2 k r) = h m c (row t.val k) (col t.val r) := by
  blk_simp [iblk]
  have h0 : ((View.whole main_v0).slice (win0_0.rect t)).emb (ix2 k r) = ix2 (row t.val k) (col t.val r) := by
    have h : cfg0.N = 8 := N_0
    have ht := t.isLt
    blk_ext [idx0, row, col]
  rw [h0]
  entry_read
  simp only [List.flatten_cons, List.flatten_nil, List.append_nil, List.cons_append, List.nil_append]
  after_results_simp
  pointwise

theorem sitofp_zero : FloatOps.sitofp (F := Ideal) FTy.f32 0#32 = 0 := by
  simp [FloatOps.sitofp]

theorem v2_eq : V m c main_v2 = fun i : S4096x3456.Idx => pad S4096x3456 ![0, 0] ![0, 120] ![0, 0]
    (m ((c : Thread nD τ).loc main_arg1) : S4096x3336.Idx → EReal) (sitofp (F := Ideal) .f32 (constantI S_ 32 0#32))
    pads_S4096x3336_S4096x3456_000_01200 h_S_ i := by
  entry_read
  simp only [List.flatten_cons, List.flatten_nil, List.append_nil, List.cons_append, List.nil_append]
  after_results_simp <;> rfl

theorem blk1 (t : Fin cfg0.N) (k : Fin 1024) (l : Fin 3456) : iblk m c 1 t (ix2 k l) = y m c (row t.val k) l := by
  blk_simp [iblk]
  have h0 : ((View.whole main_v2).slice (win0_1.rect t)).emb (ix2 k l) = ix2 (row t.val k) l := by blk_ext [idx1, row]
  rw [h0, v2_eq]
  pointwise
  unfold y
  by_cases hk : l.val < 3336
  · rw [dif_pos (by intro a; fin_cases a <;> simp <;> omega), dif_pos hk]
  · rw [dif_neg (fun h => hk (by simpa using (h 1).2.2)), dif_neg hk]
    exact sitofp_zero

/-- What point `n` adds. -/
def part (n : ℕ) (i : S512x3456.Idx) : EReal := ∑ k : Fin 1024, h m c (row n k) (col n (i 0)) * y m c (row n k) (i 1)

theorem acc_apply (t : Fin cfg0.N) (r : Fin 512) (l : Fin 3456) (ht : t.val % 4 = 3) :
    (outsAt0 m c t.val t.isLt).2 (ix2 r l) = (∑ k : Fin 4096, h m c k (col t.val r) * y m c k l : EReal) := by
  have hN : cfg0.N = 8 := N_0
  have hl := t.isLt
  rw [Cert.WginIdeal.Value.soutsAt0_0_eq, Pipeline.accAt_add_apply _ _ (fun _ => (0 : EReal)) (part m c) _ 3 (fun h i => ?_) (fun n h acc i _ _ => ?_) _ (by omega) _ _,
    zero_add, Finset.sum_range, ht]
  · refine Fin.sum_mul_add_congr (S := 4) (n := 1024) (fun s k hl => ?_) rfl
    have hs := s.isLt
    have hk := k.isLt
    have e0 : row (4 * (t.val / 4) + s.val) k = ⟨s.val * 1024 + k.val, hl⟩ := Fin.ext (by
      show (4 * (t.val / 4) + s.val) % 4 * 1024 + k.val = s.val * 1024 + k.val
      omega)
    have e1 : col (4 * (t.val / 4) + s.val) r = col t.val r := Fin.ext (by
      show (4 * (t.val / 4) + s.val) / 4 % 2 * 512 + r.val = t.val / 4 % 2 * 512 + r.val
      omega)
    have a : (ix2 r l : S512x3456.Idx) 0 = r := rfl
    have b : (ix2 r l : S512x3456.Idx) 1 = l := rfl
    rw [a, b, e0, e1]
  · obtain ⟨r, l, rfl⟩ : ∃ (r : Fin 512) (l : Fin 3456), i = ix2 r l := ⟨i 0, i 1, eq_ix2 (n0 := 512) (n1 := 3456) i⟩
    unfold Cert.WginIdeal.Value.scAt0_0
    rw [dif_pos (by omega), dif_neg (by omega)]
    frame_out
    rw [step_apply, zero_apply]
    simp only [blk0, blk1]
    rfl
  · obtain ⟨r, l, rfl⟩ : ∃ (r : Fin 512) (l : Fin 3456), i = ix2 r l := ⟨i 0, i 1, eq_ix2 (n0 := 512) (n1 := 3456) i⟩
    unfold Cert.WginIdeal.Value.scAt0_0
    rw [dif_neg (by omega)]
    split_ifs
    all_goals
      frame_out
      rw [step_apply]
      simp only [blk0, blk1]
      rw [read_unread_whole]
      rfl

theorem out_apply (t : Fin cfg0.N) (x : S8x512x512.Idx) (j : Fin 3456) (hj : j.val = 417 * (x 0).val + (x 2).val) (ht : t.val % 4 = 3) :
    (outsAt0 m c t.val t.isLt).1 x = (outsAt0 m c t.val t.isLt).2 (ix2 (x 1) j) := by
  rw [outsAt0_C m c t (by omega) ht]
  frame_out
  exact pieces _ x j hj

theorem flush_mod (t : Fin cfg0.N) (hf : win0_2.flush t = true) : t.val % 4 = 3 := by
  revert hf
  exact (by decide +kernel : ∀ t : Fin grid0.N, win0_2.flush t = true → t.val % 4 = 3) t

theorem idx2 : ∀ t : Fin cfg0.N, win0_2.index t = ![0, t.val / 4, 0] := (by decide +kernel : ∀ t : Fin grid0.N, _)

/-- Piece `q` of the result holds the product's columns from `417 q` on. -/
theorem final : ((dats m 0 c).arrAt 2 cfg0.N : S8x1024x512.Idx → EReal) = fun i =>
    (∑ k : Fin 4096, h m c k (i 1) * y m c k ⟨417 * (i 0).val + (i 2).val, by have h0 := (i 0).isLt; have h2 := (i 2).isLt; change _ < 8 at h0; change _ < 512 at h2; omega⟩ : EReal) := by
  refine (dats m 0 c).arrAt_eq_of_covers 2 (fun i : S8x1024x512.Idx =>
    (∑ k : Fin 4096, h m c k (i 1) * y m c k ⟨417 * (i 0).val + (i 2).val, by have h0 := (i 0).isLt; have h2 := (i 2).isLt; change _ < 8 at h0; change _ < 512 at h2; omega⟩ : EReal)) (by decide +kernel) fun t hf x => ?_
  have hN : cfg0.N = 8 := N_0
  have hl := t.isLt
  have ht := flush_mod t hf
  have hx0 := (x 0).isLt
  have hx1 := (x 1).isLt
  have hx2 := (x 2).isLt
  change _ < 8 at hx0
  change _ < 512 at hx1
  change _ < 512 at hx2
  have he : ((cfg0.win 2).blk t).view.emb x = ix3 (x 0) (col t.val (x 1)) (x 2) := by
    blk_ext [idx2, col]
  rw [he, after0_2]
  exact (out_apply m c t x ⟨417 * (x 0).val + (x 2).val, by omega⟩ rfl ht).trans (acc_apply m c t _ _ ht)

end Cert.Proof.Wgin

end
-- ==== Proof.WginClaim.lean ====
/- Hand-written, untrusted: the claims about the input projection's product. -/
module

public import proofs.«01_k».proof.Proof.Wgin
public import proofs.«01_k».proof.Defs
public import proofs.«01_k».proof.Proof.Gen.WginRefIdeal.Run
public import proofs.«01_k».proof.Proof.Gen.WginRefIdeal.Read
public import Idealize.ShloMosaic.Lib.Claim

@[expose] public section

set_option maxRecDepth 16384

noncomputable section

namespace Cert.Proof.Wgin

open Idealize.ShloMosaic Idealize.ShloMosaic.TcCoe Idealize.SL.Sem Idealize.ShloMosaic.Pointwise

namespace Ref

open Cert.WginRefIdeal Cert.WginRefIdeal.Read

variable (x0 : (⟨S4096x1024, .f32⟩ : BufTy).Contents (Elt Ideal)) (x1 : (⟨S4096x3336, .f32⟩ : BufTy).Contents (Elt Ideal))

theorem padded_apply (a : Fin 1024) (l : Fin 3456) :
    val_main_v4 (F := Ideal) x0 x1 (ix2 a l) = (if p : l.val < 3336 then (∑ r : Fin 4096, x1 (ix2 r ⟨l.val, p⟩) * x0 (ix2 r a) : EReal) else 0) := by
  have z : val_main_call0_v0 (F := Ideal) = fun _ => 0 := by
    funext i
    pointwise [val_main_call0_v0, val_main_c]
    exact sitofp_zero
  pointwise [val_main_v4, val_main_v3, val_main_v2]
  rw [z]

theorem stack_apply (q : Fin 8) (a : Fin 1024) (l : Fin 512) :
    val_main_v21 (F := Ideal) x0 x1 (ix3 q a l) = val_main_v4 (F := Ideal) x0 x1 (ix2 a ⟨417 * q.val + l.val, by omega⟩) := by
  fin_cases q <;>
    pointwise [val_main_v21, val_main_v20, val_main_v19, val_main_v18, val_main_v17, val_main_v16, val_main_v15, val_main_v14, val_main_v13,
      val_main_v12, val_main_v11, val_main_v10, val_main_v9, val_main_v8, val_main_v7, val_main_v6, val_main_v5]

end Ref

open Cert.WginIdeal Cert.WginIdeal.Gen

/-- The reference runs, keeps its arguments and leaves every counter at zero. -/
theorem frame_ref : Cert.quiescent_WginRefIdeal :=
  fun m ρ _ => (θ_run _ _ _).mono (fun r h => ⟨fun c => (h c).2, sem_eq_zero_of_no_sems rfl _⟩) (Cert.WginRefIdeal.Value.run (F := Ideal) m ρ)

/-- The two programs return the same array. -/
theorem value : Cert.algebraic_WginIdeal_WginRefIdeal := by
  intro m ρ m' ρ' hpre hag
  refine ⟨_, Cert.WginIdeal.Value.run_blocks m ρ, (θ_run _ _ _).mono (fun r h c => ?_) (Cert.WginRefIdeal.Value.run (F := Ideal) m' ρ')⟩
  obtain ⟨e0, e1⟩ := hag c
  obtain ⟨r0, k⟩ := h c
  refine ⟨r0.trans ?_, k⟩
  rw [Cert.WginRefIdeal.Read.val_main_v21_eq]
  funext i
  obtain ⟨q, a, b, rfl⟩ : ∃ (q : Fin 8) (a : Fin 1024) (b : Fin 512), i = ix3 q a b := ⟨i 0, i 1, i 2, eq_ix3 (n0 := 8) (n1 := 1024) (n2 := 512) i⟩
  rw [Ref.stack_apply, Ref.padded_apply, final, e0, e1]
  show _ = (∑ k : Fin 4096, Wgin.h m c k a * y m c k ⟨417 * q.val + b.val, _⟩ : EReal)
  unfold Wgin.h y
  split_ifs
  · exact Finset.sum_congr rfl fun k _ => mul_comm _ _
  · exact (Finset.sum_eq_zero fun k _ => mul_zero _).symm

end Cert.Proof.Wgin

end
-- ==== Proof.ReduceSum.lean ====
/- Hand-written, untrusted: the sum of what the devices sent of a weight's gradient. -/
module

public import proofs.«01_k».proof.Proof.Gen.ReduceSumIdeal.Value
public import Idealize.ShloMosaic.Lib.Pipeline.ValueKit
public import Idealize.ShloMosaic.Lib.Claim

@[expose] public section

set_option maxRecDepth 16384

noncomputable section

namespace Cert.Proof.ReduceSum

open Idealize.ShloMosaic Idealize.ShloMosaic.TcCoe Idealize.SL.Sem Idealize.ShloMosaic.Pointwise
open Cert.ReduceSumIdeal Cert.ReduceSumIdeal.Gen

theorem sum_payload (a b : Vec Ideal S256x512 .f32) (p q s : Vec Ideal S256x512 .bf16) (r : Fin 256) (l : Fin 512) :
    k0_pay1 (F := Ideal) a b p q s (ix2 r l) = (a (ix2 r l) + b (ix2 r l) + p (ix2 r l) + q (ix2 r l) + s (ix2 r l) : EReal) := by
  pointwise [k0_pay1]

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![4 + t.val, 0] := (by decide +kernel : ∀ t : Fin grid0.N, _)
theorem at4 : ∀ t : Fin cfg0.N, win0_4.index t = ![8 + t.val, 0] := (by decide +kernel : ∀ t : Fin grid0.N, _)
theorem at5 : ∀ t : Fin cfg0.N, win0_5.index t = ![t.val, 0] := (by decide +kernel : ∀ t : Fin grid0.N, _)

/-- Row `r` of the tile that point `t` takes. -/
def tile (t : Fin cfg0.N) (r : Fin 256) : Fin 1024 :=
  ⟨t.val * 256 + r.val, by have := t.isLt; have := r.isLt; have h : cfg0.N = 4 := N_0; omega⟩

/-- Row `r` of the `k`-th of three blocks, one after the other. -/
def sent (k : Fin 3) (r : Fin 1024) : Fin 3072 := ⟨k.val * 1024 + r.val, by have := k.isLt; have := r.isLt; omega⟩

/-- The operands of the call: the device's own block, its neighbour's, and the three that the other chips sent. -/
abbrev own : S1024x512.Idx → EReal := V m c main_v18
abbrev sib : S1024x512.Idx → EReal := V m c main_v31
abbrev got : S3072x512.Idx → EReal := V m c main_v33

theorem in0 (t : Fin cfg0.N) (r : Fin 256) (l : Fin 512) : iblk m c 0 t (ix2 r l) = own m c (ix2 (tile t r) l) := by
  blk_simp [iblk]
  have h0 : ((View.whole main_v18).slice (win0_0.rect t)).emb (ix2 r l) = ix2 (tile t r) l := by blk_ext [at0, tile, sent]
  rw [h0]

theorem in1 (t : Fin cfg0.N) (r : Fin 256) (l : Fin 512) : iblk m c 1 t (ix2 r l) = sib m c (ix2 (tile t r) l) := by
  blk_simp [iblk]
  have h0 : ((View.whole main_v31).slice (win0_1.rect t)).emb (ix2 r l) = ix2 (tile t r) l := by blk_ext [at1, tile, sent]
  rw [h0]

theorem in2 (t : Fin cfg0.N) (r : Fin 256) (l : Fin 512) : iblk m c 2 t (ix2 r l) = got m c (ix2 (sent 0 (tile t r)) l) := by
  blk_simp [iblk]
  have h0 : ((View.whole main_v33).slice (win0_2.rect t)).emb (ix2 r l) = ix2 (sent 0 (tile t r)) l := by blk_ext [at2, tile, sent]
  rw [h0]

theorem in3 (t : Fin cfg0.N) (r : Fin 256) (l : Fin 512) : iblk m c 3 t (ix2 r l) = got m c (ix2 (sent 1 (tile t r)) l) := by
  blk_simp [iblk]
  have h0 : ((View.whole main_v33).slice (win0_3.rect t)).emb (ix2 r l) = ix2 (sent 1 (tile t r)) l := by blk_ext [at3, tile, sent]
  rw [h0]

theorem in4 (t : Fin cfg0.N) (r : Fin 256) (l : Fin 512) : iblk m c 4 t (ix2 r l) = got m c (ix2 (sent 2 (tile t r)) l) := by
  blk_simp [iblk]
  have h0 : ((View.whole main_v33).slice (win0_4.rect t)).emb (ix2 r l) = ix2 (sent 2 (tile t r)) l := by blk_ext [at4, tile, sent]
  rw [h0]

/-- The sum at row `r`. -/
def total (r : Fin 1024) (l : Fin 512) : EReal :=
  own m c (ix2 r l) + sib m c (ix2 r l) + got m c (ix2 (sent 0 r) l) + got m c (ix2 (sent 1 r) l) + got m c (ix2 (sent 2 r) l)

theorem sum_final (r : Fin 1024) (l : Fin 512) : (dats m 0 c).arrAt 5 cfg0.N (ix2 r l) = total m c r l := by
  refine congrFun ((dats m 0 c).arrAt_eq_of_covers 5 (fun i => (total m c (i 0) (i 1) : EReal)) (by decide +kernel) fun t hf y => ?_) (ix2 r l)
  obtain ⟨a, b, rfl⟩ : ∃ (a : Fin 256) (b : Fin 512), y = ix2 a b := ⟨y 0, y 1, eq_ix2 (n0 := 256) (n1 := 512) y⟩
  blk_simp
  rw [after0_5]
  have h0 : ((View.whole main_v34).slice (win0_5.rect t)).emb (ix2 a b) = ix2 (tile t a) b := by blk_ext [at5, tile]
  rw [h0]
  frame_out
  refine (sum_payload _ _ _ _ _ a b).trans ?_
  rw [in0, in1, in2, in3, in4]
  rfl

end Cert.Proof.ReduceSum

end
-- ==== Proof.ReduceSumClaim.lean ====
/- Hand-written, untrusted: the claims about the sum of what the devices sent. -/
module

public import proofs.«01_k».proof.Proof.ReduceSum
public import proofs.«01_k».proof.Defs
public import proofs.«01_k».proof.Proof.Gen.ReduceSumRefIdeal.Run
public import proofs.«01_k».proof.Proof.Gen.ReduceSumRefIdeal.Read

@[expose] public section

set_option maxRecDepth 16384

noncomputable section

namespace Cert.Proof.ReduceSum

open Idealize.ShloMosaic Idealize.ShloMosaic.TcCoe Idealize.SL.Sem Idealize.ShloMosaic.Pointwise
namespace Ref

open Cert.ReduceSumRefIdeal Cert.ReduceSumRefIdeal.Read

theorem sum_ref (x0 : (⟨S8x1024x512, .f32⟩ : BufTy).Contents (Elt Ideal)) (x1 : (⟨S4x1024x512, .f32⟩ : BufTy).Contents (Elt Ideal))
    (x2 : (⟨S3x1024x512, .f32⟩ : BufTy).Contents (Elt Ideal)) (x3 x4 x5 : (⟨S_, .i32⟩ : BufTy).Contents (Elt Ideal)) (r : Fin 1024) (l : Fin 512) :
    val_main_v41 (F := Ideal) x0 x1 x2 x3 x4 x5 (ix2 r l)
      = (val_main_v18 (F := Ideal) x0 x3 x4 x5 (ix2 r l) + val_main_v31 (F := Ideal) x1 x3 x4 (ix2 r l)
          + x2 (ix3 0 r l) + x2 (ix3 1 r l) + x2 (ix3 2 r l) : EReal) := by
  unfold val_main_v41 val_main_v38 val_main_v35 val_main_v32
  generalize val_main_v18 (F := Ideal) x0 x3 x4 x5 = y
  generalize val_main_v31 (F := Ideal) x1 x3 x4 = z
  pointwise [val_main_v40, val_main_v39, val_main_v37, val_main_v36, val_main_v34, val_main_v33]

end Ref

open Cert.ReduceSumIdeal Cert.ReduceSumIdeal.Gen

variable (m : (ℓ : Loc nD τ sig) → Buf (Elt Ideal) ℓ) (c : Dev nD)

theorem own_eq : own m c = Cert.ReduceSumRefIdeal.Read.val_main_v18 (F := Ideal) (m ((c : Thread nD τ).loc main_arg0))
    (m ((c : Thread nD τ).loc main_arg3)) (m ((c : Thread nD τ).loc main_arg4)) (m ((c : Thread nD τ).loc main_arg5)) := by
  show V m c main_v18 = _
  entry_read
  rfl

theorem sib_eq : sib m c = Cert.ReduceSumRefIdeal.Read.val_main_v31 (F := Ideal) (m ((c : Thread nD τ).loc main_arg1))
    (m ((c : Thread nD τ).loc main_arg3)) (m ((c : Thread nD τ).loc main_arg4)) := by
  show V m c main_v31 = _
  entry_read
  rfl

theorem got_eq (k : Fin 3) (r : Fin 1024) (l : Fin 512) : got m c (ix2 (sent k r) l) = m ((c : Thread nD τ).loc main_arg2) (ix3 k r l) := by
  have h : got m c = shapeCast S3072x512 (m ((c : Thread nD τ).loc main_arg2)) shapeCasts_S3x1024x512_S3072x512 := by
    show V m c main_v33 = _
    entry_read
    rfl
  rw [h]
  exact shapeCast_apply _ shapeCasts_S3x1024x512_S3072x512 (ix2 (sent k r) l) (ix3 k r l)
    (by rw [Shape.rowMajor_val_three, Shape.rowMajor_val_two]; rfl)

/-- The reference runs, keeps its arguments and leaves every counter at zero. -/
theorem frame_ref : Cert.quiescent_ReduceSumRefIdeal :=
  fun m ρ _ => (θ_run _ _ _).mono (fun r h => ⟨fun c => (h c).2, sem_eq_zero_of_no_sems rfl _⟩) (Cert.ReduceSumRefIdeal.Value.run (F := Ideal) m ρ)

/-- The two programs return the same array. -/
theorem value : Cert.algebraic_ReduceSumIdeal_ReduceSumRefIdeal := by
  intro m ρ m' ρ' hpre hag
  refine ⟨_, Cert.ReduceSumIdeal.Value.run_blocks m ρ, (θ_run _ _ _).mono (fun r h c => ?_) (Cert.ReduceSumRefIdeal.Value.run (F := Ideal) m' ρ')⟩
  obtain ⟨e0, e1, e2, e3, e4, e5⟩ := hag c
  obtain ⟨r0, k⟩ := h c
  refine ⟨r0.trans ?_, k⟩
  rw [Cert.ReduceSumRefIdeal.Read.val_main_v41_eq]
  funext i
  obtain ⟨a, b, rfl⟩ : ∃ (a : Fin 1024) (b : Fin 512), i = ix2 a b := ⟨i 0, i 1, eq_ix2 (n0 := 1024) (n1 := 512) i⟩
  rw [Ref.sum_ref, sum_final, e0, e1, e2, e3, e4, e5]
  unfold total
  rw [own_eq, sib_eq, got_eq, got_eq, got_eq]

end Cert.Proof.ReduceSum

end
-- ==== Proof.PairAdd.lean ====
/- Hand-written, untrusted: the sum of two neighbours' gradients. -/
module

public import proofs.«01_k».proof.Proof.Gen.PairAddIdeal.Value
public import Idealize.ShloMosaic.Lib.Pipeline.ValueKit
public import Idealize.ShloMosaic.Lib.Claim

@[expose] public section

set_option maxRecDepth 16384

noncomputable section

namespace Cert.Proof.PairAdd

open Idealize.ShloMosaic Idealize.ShloMosaic.TcCoe Idealize.SL.Sem Idealize.ShloMosaic.Pointwise
open Cert.PairAddIdeal Cert.PairAddIdeal.Gen

theorem sum_payload (a b : Vec Ideal S512x512 .f32) (r : Fin 512) (l : Fin 512) :
    k0_pay1 (F := Ideal) a b (ix2 r l) = (a (ix2 r l) + b (ix2 r l) : EReal) := by
  pointwise [k0_pay1]

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)

/-- Row `r` of the tile that point `t` takes. -/
def tile (t : Fin cfg0.N) (r : Fin 512) : Fin 4096 :=
  ⟨t.val * 512 + r.val, by have := t.isLt; have := r.isLt; have h : cfg0.N = 8 := N_0; omega⟩

/-- The two operands of the call: the device's own blocks, and its neighbour's. -/
abbrev own : S4096x512.Idx → EReal := V m c main_v7
abbrev sib : S4096x512.Idx → EReal := V m c main_v8

theorem in0 (t : Fin cfg0.N) (r : Fin 512) (l : Fin 512) : iblk m c 0 t (ix2 r l) = own m c (ix2 (tile t r) l) := by
  blk_simp [iblk]
  have h0 : ((View.whole main_v7).slice (win0_0.rect t)).emb (ix2 r l) = ix2 (tile t r) l := by blk_ext [at0, tile]
  rw [h0]

theorem in1 (t : Fin cfg0.N) (r : Fin 512) (l : Fin 512) : iblk m c 1 t (ix2 r l) = sib m c (ix2 (tile t r) l) := by
  blk_simp [iblk]
  have h0 : ((View.whole main_v8).slice (win0_1.rect t)).emb (ix2 r l) = ix2 (tile t r) l := by blk_ext [at1, tile]
  rw [h0]

theorem sum_final (r : Fin 4096) (l : Fin 512) :
    (dats m 0 c).arrAt 2 cfg0.N (ix2 r l) = (own m c (ix2 r l) + sib m c (ix2 r l) : EReal) := by
  refine congrFun ((dats m 0 c).arrAt_eq_of_covers 2
    (fun i => (own m c i + sib m c i : EReal)) (by decide +kernel) fun t hf y => ?_) (ix2 r l)
  obtain ⟨a, b, rfl⟩ : ∃ (a : Fin 512) (b : Fin 512), y = ix2 a b := ⟨y 0, y 1, eq_ix2 (n0 := 512) (n1 := 512) y⟩
  blk_simp
  rw [after0_2]
  have h0 : ((View.whole main_v9).slice (win0_2.rect t)).emb (ix2 a b) = ix2 (tile t a) b := by blk_ext [at2, tile]
  rw [h0]
  frame_out
  refine (sum_payload _ _ a b).trans ?_
  rw [in0, in1]

end Cert.Proof.PairAdd

end
-- ==== Proof.PairAddClaim.lean ====
/- Hand-written, untrusted: the claims about the sum of two neighbours' gradients. -/
module

public import proofs.«01_k».proof.Proof.PairAdd
public import proofs.«01_k».proof.Defs
public import proofs.«01_k».proof.Proof.Gen.PairAddRefIdeal.Run
public import proofs.«01_k».proof.Proof.Gen.PairAddRefIdeal.Read

@[expose] public section

set_option maxRecDepth 16384

noncomputable section

namespace Cert.Proof.PairAdd

open Idealize.ShloMosaic Idealize.ShloMosaic.TcCoe Idealize.SL.Sem Idealize.ShloMosaic.Pointwise
/-- Row `r` of four blocks, one after the other. -/
def block (r : Fin 4096) (l : Fin 512) : Cert.PairAddIdeal.S4x1024x512.Idx :=
  ix3 ⟨r.val / 1024, by have := r.isLt; omega⟩ ⟨r.val % 1024, Nat.mod_lt _ (by decide)⟩ l

namespace Ref

open Cert.PairAddRefIdeal Cert.PairAddRefIdeal.Read

theorem sum_ref (x0 : (⟨S8x1024x512, .f32⟩ : BufTy).Contents (Elt Ideal)) (x1 : (⟨S4x1024x512, .f32⟩ : BufTy).Contents (Elt Ideal))
    (x2 : (⟨S_, .i32⟩ : BufTy).Contents (Elt Ideal)) (r : Fin 4096) (l : Fin 512) :
    val_main_v9 (F := Ideal) x0 x1 x2 (ix2 r l) = (val_main_v6 (F := Ideal) x0 x2 (block r l) + x1 (block r l) : EReal) := by
  unfold val_main_v9 val_main_v8 val_main_v7
  generalize val_main_v6 (F := Ideal) x0 x2 = y
  pointwise
  rfl

end Ref

open Cert.PairAddIdeal Cert.PairAddIdeal.Gen

variable (m : (ℓ : Loc nD τ sig) → Buf (Elt Ideal) ℓ) (c : Dev nD)

theorem own_eq (r : Fin 4096) (l : Fin 512) : own m c (ix2 r l)
    = Cert.PairAddRefIdeal.Read.val_main_v6 (F := Ideal) (m ((c : Thread nD τ).loc main_arg0)) (m ((c : Thread nD τ).loc main_arg2)) (block r l) := by
  have h : own m c = shapeCast S4096x512 (Cert.PairAddRefIdeal.Read.val_main_v6 (F := Ideal) (m ((c : Thread nD τ).loc main_arg0)) (m ((c : Thread nD τ).loc main_arg2)))
      shapeCasts_S4x1024x512_S4096x512 := by
    show V m c main_v7 = _
    entry_read
    rfl
  rw [h]
  generalize Cert.PairAddRefIdeal.Read.val_main_v6 (F := Ideal) _ _ = y
  pointwise
  rfl

theorem sib_eq (r : Fin 4096) (l : Fin 512) : sib m c (ix2 r l) = m ((c : Thread nD τ).loc main_arg1) (block r l) := by
  have h : sib m c = shapeCast S4096x512 (m ((c : Thread nD τ).loc main_arg1)) shapeCasts_S4x1024x512_S4096x512 := by
    show V m c main_v8 = _
    entry_read
    rfl
  rw [h]
  refine shapeCast_apply _ shapeCasts_S4x1024x512_S4096x512 (ix2 r l) (block r l) ?_
  rw [Shape.rowMajor_val_three, Shape.rowMajor_val_two]
  show (r.val / 1024 * 1024 + r.val % 1024) * 512 + l.val = r.val * 512 + l.val
  omega

/-- The reference runs, keeps its arguments and leaves every counter at zero. -/
theorem frame_ref : Cert.quiescent_PairAddRefIdeal :=
  fun m ρ _ => (θ_run _ _ _).mono (fun r h => ⟨fun c => (h c).2, sem_eq_zero_of_no_sems rfl _⟩) (Cert.PairAddRefIdeal.Value.run (F := Ideal) m ρ)

/-- The two programs return the same array. -/
theorem value : Cert.algebraic_PairAddIdeal_PairAddRefIdeal := by
  intro m ρ m' ρ' hpre hag
  refine ⟨_, Cert.PairAddIdeal.Value.run_blocks m ρ, (θ_run _ _ _).mono (fun r h c => ?_) (Cert.PairAddRefIdeal.Value.run (F := Ideal) m' ρ')⟩
  obtain ⟨e0, e1, e2⟩ := hag c
  obtain ⟨r0, k⟩ := h c
  refine ⟨r0.trans ?_, k⟩
  rw [Cert.PairAddRefIdeal.Read.val_main_v9_eq]
  funext i
  obtain ⟨a, b, rfl⟩ : ∃ (a : Fin 4096) (b : Fin 512), i = ix2 a b := ⟨i 0, i 1, eq_ix2 (n0 := 4096) (n1 := 512) i⟩
  rw [Ref.sum_ref, sum_final, own_eq, sib_eq, e0, e1, e2]

end Cert.Proof.PairAdd

end
-- ==== Proof.ReduceAdam.lean ====
/- Hand-written, untrusted: the optimiser's step on one layer, behind the sum of what the devices sent, written into the stack of all layers. -/
module

public import proofs.«01_k».proof.Proof.Gen.ReduceAdamIdeal.Value
public import Idealize.ShloMosaic.Lib.Pipeline.ValueKit
public import Idealize.ShloMosaic.Lib.Claim

@[expose] public section

set_option maxRecDepth 16384
set_option maxHeartbeats 2000000

noncomputable section

namespace Cert.Proof.ReduceAdam

open Idealize.ShloMosaic Idealize.ShloMosaic.TcCoe Idealize.SL.Sem Idealize.ShloMosaic.Pointwise
open Cert.ReduceAdamIdeal Cert.ReduceAdamIdeal.Gen

/-- First moment: nine tenths of the old one and one tenth of the gradient. -/
def first (p μ : EReal) : EReal := Ideal.ofBits .f32 0x3F666666#32 * μ + Ideal.ofBits .f32 0x3DCCCCCD#32 * p

/-- Second moment, of the gradient's square. -/
def second (p ν : EReal) : EReal := Ideal.ofBits .f32 0x3F7FBE77#32 * ν + Ideal.ofBits .f32 0x3A83126F#32 * (p * p)

/-- What is added to the weight. -/
def change (ω p μ ν : EReal) : EReal :=
  Ideal.ofBits .f32 0xBA83126F#32
    * (Ideal.div (Ideal.div (first p μ) (Ideal.ofBits .f32 0x3F26BD02#32))
        (Ideal.sqrt (Ideal.div (second p ν) (Ideal.ofBits .f32 0x3C231ACC#32)) + Ideal.ofBits .f32 0x322BCC77#32)
      + Ideal.ofBits .f32 0x3C23D70A#32 * ω)

section
variable (a b : Vec Ideal S176x1024 .f32) (p q s : Vec Ideal S176x1024 .bf16) (ω μ ν : Vec Ideal S1x176x1024 .f32) (r : Fin 176) (l : Fin 1024)

/-- The sum of the five blocks at an entry. -/
abbrev five : EReal := a (ix2 r l) + b (ix2 r l) + p (ix2 r l) + q (ix2 r l) + s (ix2 r l)

theorem sum_payload : k0_pay6 (F := Ideal) a b p q s (ix2 r l) = five a b p q s r l := by
  pointwise [k0_pay6]

theorem first_payload : k0_pay7 (F := Ideal) a b p q s μ (ix2 r l) = first (five a b p q s r l) (μ (ix3 0 r l)) := by
  pointwise [k0_pay7, k0_pay6]
  rfl

theorem second_payload : k0_pay8 (F := Ideal) a b p q s ν (ix2 r l) = second (five a b p q s r l) (ν (ix3 0 r l)) := by
  pointwise [k0_pay8, k0_pay6]
  rfl

theorem change_payload : k0_pay2 (F := Ideal) (k0_pay5 ω) (k0_pay7 a b p q s μ) (k0_pay8 a b p q s ν) k0_pay9 (ix3 0 r l)
    = change (ω (ix3 0 r l)) (five a b p q s r l) (μ (ix3 0 r l)) (ν (ix3 0 r l)) := by
  pointwise [k0_pay2, k0_pay5, k0_pay9, first_payload, second_payload]
  rfl

theorem lift_sum (x : FVec Ideal S176x1024 .f32) : k0_pay1 (F := Ideal) x (ix3 0 r l) = x (ix2 r l) := by
  pointwise [k0_pay1]

theorem lift_first (x : FVec Ideal S176x1024 .f32) : k0_pay3 (F := Ideal) x (ix3 0 r l) = x (ix2 r l) := by
  pointwise [k0_pay3]

theorem lift_second (x : FVec Ideal S176x1024 .f32) : k0_pay4 (F := Ideal) x (ix3 0 r l) = x (ix2 r l) := by
  pointwise [k0_pay4]

end

/-! ## The stacks after the run -/

variable (m : (ℓ : Loc nD τ sig) → Buf (Elt Ideal) ℓ) (c : Dev nD)

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![4 + t.val, 0] := (by decide +kernel : ∀ t : Fin grid0.N, _)
theorem at4 : ∀ t : Fin cfg0.N, win0_4.index t = ![8 + t.val, 0] := (by decide +kernel : ∀ t : Fin grid0.N, _)
theorem at5 : ∀ t : Fin cfg0.N, win0_5.index t = ![1, t.val, 0] := (by decide +kernel : ∀ t : Fin grid0.N, _)
theorem at6 : ∀ t : Fin cfg0.N, win0_6.index t = ![1, t.val, 0] := (by decide +kernel : ∀ t : Fin grid0.N, _)
theorem at7 : ∀ t : Fin cfg0.N, win0_7.index t = ![1, t.val, 0] := (by decide +kernel : ∀ t : Fin grid0.N, _)
theorem at8 : ∀ t : Fin cfg0.N, win0_8.index t = ![1, t.val, 0] := (by decide +kernel : ∀ t : Fin grid0.N, _)
theorem at9 : ∀ t : Fin cfg0.N, win0_9.index t = ![1, t.val, 0] := (by decide +kernel : ∀ t : Fin grid0.N, _)
theorem at10 : ∀ t : Fin cfg0.N, win0_10.index t = ![1, t.val, 0] := (by decide +kernel : ∀ t : Fin grid0.N, _)
theorem at11 : ∀ t : Fin cfg0.N, win0_11.index t = ![1, t.val, 0] := (by decide +kernel : ∀ t : Fin grid0.N, _)

/-- Row `r` of the tile that point `t` takes. -/
def tile (t : Fin cfg0.N) (r : Fin 176) : Fin 704 :=
  ⟨t.val * 176 + r.val, by have := t.isLt; have := r.isLt; have h : cfg0.N = 4 := N_0; omega⟩

/-- Row `r` of the `k`-th of three blocks, one after the other. -/
def sent (k : Fin 3) (r : Fin 704) : Fin 2112 := ⟨k.val * 704 + r.val, by have := k.isLt; have := r.isLt; omega⟩

/-- The operands of the call: the device's own block, its neighbour's, and the three that the other chips sent. -/
abbrev own : S704x1024.Idx → EReal := V m c main_v18
abbrev sib : S704x1024.Idx → EReal := V m c main_v31
abbrev got : S2112x1024.Idx → EReal := V m c main_v33

/-- The layer's weight and moments in their stacks. -/
abbrev ww (r : Fin 704) (l : Fin 1024) : EReal := m ((c : Thread nD τ).loc main_arg6) (ix3 1 r l)
abbrev wm (r : Fin 704) (l : Fin 1024) : EReal := m ((c : Thread nD τ).loc main_arg7) (ix3 1 r l)
abbrev wv (r : Fin 704) (l : Fin 1024) : EReal := m ((c : Thread nD τ).loc main_arg8) (ix3 1 r l)

/-- The gradient: the sum of the five blocks. -/
def total (r : Fin 704) (l : Fin 1024) : EReal :=
  own m c (ix2 r l) + sib m c (ix2 r l) + got m c (ix2 (sent 0 r) l) + got m c (ix2 (sent 1 r) l) + got m c (ix2 (sent 2 r) l)

theorem in0 (t : Fin cfg0.N) (r : Fin 176) (l : Fin 1024) : iblk m c 0 t (ix2 r l) = own m c (ix2 (tile t r) l) := by
  blk_simp [iblk]
  have h0 : ((View.whole main_v18).slice (win0_0.rect t)).emb (ix2 r l) = ix2 (tile t r) l := by blk_ext [at0, tile, sent]
  rw [h0]

theorem in1 (t : Fin cfg0.N) (r : Fin 176) (l : Fin 1024) : iblk m c 1 t (ix2 r l) = sib m c (ix2 (tile t r) l) := by
  blk_simp [iblk]
  have h0 : ((View.whole main_v31).slice (win0_1.rect t)).emb (ix2 r l) = ix2 (tile t r) l := by blk_ext [at1, tile, sent]
  rw [h0]

theorem in2 (t : Fin cfg0.N) (r : Fin 176) (l : Fin 1024) : iblk m c 2 t (ix2 r l) = got m c (ix2 (sent 0 (tile t r)) l) := by
  blk_simp [iblk]
  have h0 : ((View.whole main_v33).slice (win0_2.rect t)).emb (ix2 r l) = ix2 (sent 0 (tile t r)) l := by blk_ext [at2, tile, sent]
  rw [h0]

theorem in3 (t : Fin cfg0.N) (r : Fin 176) (l : Fin 1024) : iblk m c 3 t (ix2 r l) = got m c (ix2 (sent 1 (tile t r)) l) := by
  blk_simp [iblk]
  have h0 : ((View.whole main_v33).slice (win0_3.rect t)).emb (ix2 r l) = ix2 (sent 1 (tile t r)) l := by blk_ext [at3, tile, sent]
  rw [h0]

theorem in4 (t : Fin cfg0.N) (r : Fin 176) (l : Fin 1024) : iblk m c 4 t (ix2 r l) = got m c (ix2 (sent 2 (tile t r)) l) := by
  blk_simp [iblk]
  have h0 : ((View.whole main_v33).slice (win0_4.rect t)).emb (ix2 r l) = ix2 (sent 2 (tile t r)) l := by blk_ext [at4, tile, sent]
  rw [h0]

theorem in5 (t : Fin cfg0.N) (r : Fin 176) (l : Fin 1024) : iblk m c 5 t (ix3 0 r l) = ww m c (tile t r) l := by
  blk_simp [iblk]
  have h0 : ((View.whole main_arg6).slice (win0_5.rect t)).emb (ix3 0 r l) = ix3 1 (tile t r) l := by blk_ext [at5, tile]
  rw [h0]
  exact congrFun (V_main_arg6 m c) _

theorem in6 (t : Fin cfg0.N) (r : Fin 176) (l : Fin 1024) : iblk m c 6 t (ix3 0 r l) = wm m c (tile t r) l := by
  blk_simp [iblk]
  have h0 : ((View.whole main_arg7).slice (win0_6.rect t)).emb (ix3 0 r l) = ix3 1 (tile t r) l := by blk_ext [at6, tile]
  rw [h0]
  exact congrFun (V_main_arg7 m c) _

theorem in7 (t : Fin cfg0.N) (r : Fin 176) (l : Fin 1024) : iblk m c 7 t (ix3 0 r l) = wv m c (tile t r) l := by
  blk_simp [iblk]
  have h0 : ((View.whole main_arg8).slice (win0_7.rect t)).emb (ix3 0 r l) = ix3 1 (tile t r) l := by blk_ext [at7, tile]
  rw [h0]
  exact congrFun (V_main_arg8 m c) _

/-- A stack with layer 1 replaced. -/
def put (old : Fin 4 → Fin 704 → Fin 1024 → EReal) (new : Fin 704 → Fin 1024 → EReal) (d : Fin 4) (r : Fin 704) (l : Fin 1024) : EReal :=
  if d.val = 1 then new r l else old d r l

theorem only (y : S1x176x1024.Idx) : ∃ (a : Fin 176) (b : Fin 1024), y = ix3 0 a b :=
  ⟨y 1, y 2, (eq_ix3 (n0 := 1) (n1 := 176) (n2 := 1024) y).trans (by rw [Subsingleton.elim (α := Fin 1) (y 0) 0])⟩

/-- The operand that a result's buffer starts from. -/
theorem old0 : V m c main_v34_0 = m ((c : Thread nD τ).loc main_arg9) := by entry_read; rfl
theorem old1 : V m c main_v34_1 = m ((c : Thread nD τ).loc main_arg10) := by entry_read; rfl
theorem old2 : V m c main_v34_2 = m ((c : Thread nD τ).loc main_arg11) := by entry_read; rfl
theorem old3 : V m c main_v34_3 = m ((c : Thread nD τ).loc main_arg12) := by entry_read; rfl

theorem sum_stack (d : Fin 4) (r : Fin 704) (l : Fin 1024) : (dats m 0 c).arrAt 8 cfg0.N (ix3 d r l)
    = put (fun d r l => m ((c : Thread nD τ).loc main_arg9) (ix3 d r l)) (fun r l => total m c r l) d r l := by
  have e := (dats m 0 c).arrAt_apply_of_coversWhere 8 (fun i => (total m c (i 1) (i 2) : EReal)) (P := fun i => (i 0).val = 1)
    (fun β => β (0 : Fin 3) = 1) (by decide +kernel) (fun t hf y => ?_) (fun j => by blk_simp [Pipeline.Window.cell_apply]; rw [Nat.div_one]) (ix3 d r l)
  · refine e.trans ?_
    show (if d.val = 1 then _ else V m c main_v34_0 (ix3 d r l)) = _
    unfold put
    exact if_congr Iff.rfl rfl (congrFun (old0 m c) _)
  · obtain ⟨a, b, rfl⟩ := only y
    blk_simp
    rw [after0_8]
    have h0 : ((View.whole main_v34_0).slice (win0_8.rect t)).emb (ix3 0 a b) = ix3 1 (tile t a) b := by blk_ext [at8, tile]
    rw [h0]
    unfold outsAt0
    dsimp only
    unfold out0_A_8
    frame_out
    refine (lift_sum a b _).trans ((sum_payload _ _ _ _ _ a b).trans ?_)
    unfold five
    rw [in0, in1, in2, in3, in4]
    rfl

theorem change_stack (d : Fin 4) (r : Fin 704) (l : Fin 1024) : (dats m 0 c).arrAt 9 cfg0.N (ix3 d r l)
    = put (fun d r l => m ((c : Thread nD τ).loc main_arg10) (ix3 d r l)) (fun r l => change (ww m c r l) (total m c r l) (wm m c r l) (wv m c r l)) d r l := by
  have e := (dats m 0 c).arrAt_apply_of_coversWhere 9 (fun i => (change (ww m c (i 1) (i 2)) (total m c (i 1) (i 2)) (wm m c (i 1) (i 2)) (wv m c (i 1) (i 2)) : EReal)) (P := fun i => (i 0).val = 1)
    (fun β => β (0 : Fin 3) = 1) (by decide +kernel) (fun t hf y => ?_) (fun j => by blk_simp [Pipeline.Window.cell_apply]; rw [Nat.div_one]) (ix3 d r l)
  · refine e.trans ?_
    show (if d.val = 1 then _ else V m c main_v34_1 (ix3 d r l)) = _
    unfold put
    exact if_congr Iff.rfl rfl (congrFun (old1 m c) _)
  · obtain ⟨a, b, rfl⟩ := only y
    blk_simp
    rw [after0_9]
    have h0 : ((View.whole main_v34_1).slice (win0_9.rect t)).emb (ix3 0 a b) = ix3 1 (tile t a) b := by blk_ext [at9, tile]
    rw [h0]
    frame_out
    refine (change_payload _ _ _ _ _ _ _ _ a b).trans ?_
    unfold five
    rw [in0, in1, in2, in3, in4, in5, in6, in7]
    rfl

theorem first_stack (d : Fin 4) (r : Fin 704) (l : Fin 1024) : (dats m 0 c).arrAt 10 cfg0.N (ix3 d r l)
    = put (fun d r l => m ((c : Thread nD τ).loc main_arg11) (ix3 d r l)) (fun r l => first (total m c r l) (wm m c r l)) d r l := by
  have e := (dats m 0 c).arrAt_apply_of_coversWhere 10 (fun i => (first (total m c (i 1) (i 2)) (wm m c (i 1) (i 2)) : EReal)) (P := fun i => (i 0).val = 1)
    (fun β => β (0 : Fin 3) = 1) (by decide +kernel) (fun t hf y => ?_) (fun j => by blk_simp [Pipeline.Window.cell_apply]; rw [Nat.div_one]) (ix3 d r l)
  · refine e.trans ?_
    show (if d.val = 1 then _ else V m c main_v34_2 (ix3 d r l)) = _
    unfold put
    exact if_congr Iff.rfl rfl (congrFun (old2 m c) _)
  · obtain ⟨a, b, rfl⟩ := only y
    blk_simp
    rw [after0_10]
    have h0 : ((View.whole main_v34_2).slice (win0_10.rect t)).emb (ix3 0 a b) = ix3 1 (tile t a) b := by blk_ext [at10, tile]
    rw [h0]
    frame_out
    refine (lift_first a b _).trans ((first_payload _ _ _ _ _ _ a b).trans ?_)
    unfold five
    rw [in0, in1, in2, in3, in4, in6]
    rfl

theorem second_stack (d : Fin 4) (r : Fin 704) (l : Fin 1024) : (dats m 0 c).arrAt 11 cfg0.N (ix3 d r l)
    = put (fun d r l => m ((c : Thread nD τ).loc main_arg12) (ix3 d r l)) (fun r l => second (total m c r l) (wv m c r l)) d r l := by
  have e := (dats m 0 c).arrAt_apply_of_coversWhere 11 (fun i => (second (total m c (i 1) (i 2)) (wv m c (i 1) (i 2)) : EReal)) (P := fun i => (i 0).val = 1)
    (fun β => β (0 : Fin 3) = 1) (by decide +kernel) (fun t hf y => ?_) (fun j => by blk_simp [Pipeline.Window.cell_apply]; rw [Nat.div_one]) (ix3 d r l)
  · refine e.trans ?_
    show (if d.val = 1 then _ else V m c main_v34_3 (ix3 d r l)) = _
    unfold put
    exact if_congr Iff.rfl rfl (congrFun (old3 m c) _)
  · obtain ⟨a, b, rfl⟩ := only y
    blk_simp
    rw [after0_11]
    have h0 : ((View.whole main_v34_3).slice (win0_11.rect t)).emb (ix3 0 a b) = ix3 1 (tile t a) b := by blk_ext [at11, tile]
    rw [h0]
    frame_out
    refine (lift_second a b _).trans ((second_payload _ _ _ _ _ _ a b).trans ?_)
    unfold five
    rw [in0, in1, in2, in3, in4, in7]
    rfl

end Cert.Proof.ReduceAdam

end
-- ==== Proof.ReduceAdamClaim.lean ====
/- Hand-written, untrusted: the claims about the optimiser's step behind the sum of what the devices sent. -/
module

public import proofs.«01_k».proof.Proof.ReduceAdam
public import proofs.«01_k».proof.Defs
public import proofs.«01_k».proof.Proof.Gen.ReduceAdamRefIdeal.Run
public import proofs.«01_k».proof.Proof.Gen.ReduceAdamRefIdeal.Read

@[expose] public section

set_option maxRecDepth 16384

noncomputable section

namespace Cert.Proof.ReduceAdam

open Idealize.ShloMosaic Idealize.ShloMosaic.TcCoe Idealize.SL.Sem Idealize.ShloMosaic.Pointwise

namespace Ref

open Cert.ReduceAdamRefIdeal Cert.ReduceAdamRefIdeal.Read

/-- A stack's first layer, a layer, and the stack's last two, one after the other. -/
theorem stacked (old : S4x704x1024.Idx → EReal) (a b : S1x704x1024.Idx → EReal) (e : S2x704x1024.Idx → EReal) (new : Fin 704 → Fin 1024 → EReal) (hc)
    (ha : ∀ r l, a (ix3 0 r l) = old (ix3 0 r l)) (hb : ∀ r l, b (ix3 0 r l) = new r l)
    (he : ∀ (j : Fin 2) r l, e (ix3 j r l) = old (ix3 ⟨2 + j.val, by omega⟩ r l)) (d : Fin 4) (r : Fin 704) (l : Fin 1024) :
    concatenate S4x704x1024 0 [⟨S1x704x1024, a⟩, ⟨S1x704x1024, b⟩, ⟨S2x704x1024, e⟩] hc (ix3 d r l)
      = put (fun d r l => old (ix3 d r l)) new d r l := by
  have key (i n : ℕ) (hi : i < 3) (x : (⟨3, ![n, 704, 1024]⟩ : Shape).Idx → EReal)
      (hx : ([⟨S1x704x1024, a⟩, ⟨S1x704x1024, b⟩, ⟨S2x704x1024, e⟩] : List ((s : Shape) × (s.Idx → EReal)))[i] = ⟨⟨3, ![n, 704, 1024]⟩, x⟩) (pre : ℕ)
      (hp : (((([⟨S1x704x1024, a⟩, ⟨S1x704x1024, b⟩, ⟨S2x704x1024, e⟩] : List ((s : Shape) × (s.Idx → EReal))).take i).map (·.1)).map
        fun s => if h : s.rank = S4x704x1024.rank then s.size ((0 : Fin 3).cast h.symm) else 0).sum = pre)
      (k : Fin n) (hk : pre + k.val = d.val) :
      concatenate S4x704x1024 0 [⟨S1x704x1024, a⟩, ⟨S1x704x1024, b⟩, ⟨S2x704x1024, e⟩] hc (ix3 d r l) = x (ix3 k r l) :=
    concatenate_apply_piece (t := S4x704x1024) 0 _ hc (ix3 d r l) i hi _ x hx rfl pre hp (ix3 k r l)
      (by intro q hq; fin_cases q
          · exact absurd rfl hq
          · rfl
          · rfl) hk
  obtain ⟨d, hd⟩ := d
  rcases Nat.lt_or_ge d 1 with h | h
  · obtain rfl : d = 0 := by omega
    rw [key 0 1 (by decide) a rfl 0 rfl 0 rfl, ha]
    rfl
  rcases Nat.lt_or_ge d 2 with h' | h'
  · obtain rfl : d = 1 := by omega
    rw [key 1 1 (by decide) b rfl 1 rfl 0 rfl, hb]
    rfl
  · rw [key 2 2 (by decide) e rfl 2 rfl ⟨d - 2, by omega⟩ (by show 2 + (d - 2) = d; omega), he]
    unfold put
    rw [if_neg (show ¬ d = 1 by omega)]
    exact congrArg (fun q : Fin 4 => old (ix3 q r l)) (Fin.ext (by show 2 + (d - 2) = d; omega))

variable (x0 : (⟨S8x704x1024, .f32⟩ : BufTy).Contents (Elt Ideal)) (x1 : (⟨S4x704x1024, .f32⟩ : BufTy).Contents (Elt Ideal))
  (x2 : (⟨S3x704x1024, .f32⟩ : BufTy).Contents (Elt Ideal)) (x3 x4 x5 : (⟨S_, .i32⟩ : BufTy).Contents (Elt Ideal))
  (x6 x7 x8 x9 x10 x11 x12 : (⟨S4x704x1024, .f32⟩ : BufTy).Contents (Elt Ideal))

/-- The gradient: the sum of the five blocks. -/
abbrev grad (r : Fin 704) (l : Fin 1024) : EReal :=
  val_main_v18 (F := Ideal) x0 x3 x4 x5 (ix2 r l) + val_main_v31 (F := Ideal) x1 x3 x4 (ix2 r l)
    + x2 (ix3 0 r l) + x2 (ix3 1 r l) + x2 (ix3 2 r l)

theorem grad_ref (r : Fin 704) (l : Fin 1024) : val_main_v41 (F := Ideal) x0 x1 x2 x3 x4 x5 (ix2 r l) = grad x0 x1 x2 x3 x4 x5 r l := by
  unfold val_main_v41 val_main_v38 val_main_v35 val_main_v32 grad
  generalize val_main_v18 (F := Ideal) x0 x3 x4 x5 = y
  generalize val_main_v31 (F := Ideal) x1 x3 x4 = z
  pointwise [val_main_v40, val_main_v39, val_main_v37, val_main_v36, val_main_v34, val_main_v33]

theorem sum_ref (d : Fin 4) (r : Fin 704) (l : Fin 1024) : val_main_v75 (F := Ideal) x0 x1 x2 x3 x4 x5 x9 (ix3 d r l)
    = put (fun d r l => x9 (ix3 d r l)) (fun r l => grad x0 x1 x2 x3 x4 x5 r l) d r l := by
  unfold val_main_v75
  refine stacked x9 _ _ _ _ _ ?_ ?_ ?_ d r l
  · intro r l; pointwise [val_main_v72]
  · intro r l
    rw [← grad_ref]
    unfold val_main_v73
    pointwise
  · intro j r l; pointwise [val_main_v74]

theorem change_ref (d : Fin 4) (r : Fin 704) (l : Fin 1024) : val_main_v79 (F := Ideal) x0 x1 x2 x3 x4 x5 x6 x7 x8 x10 (ix3 d r l)
    = put (fun d r l => x10 (ix3 d r l)) (fun r l => change (x6 (ix3 1 r l)) (grad x0 x1 x2 x3 x4 x5 r l) (x7 (ix3 1 r l)) (x8 (ix3 1 r l))) d r l := by
  unfold val_main_v79
  refine stacked x10 _ _ _ _ _ ?_ ?_ ?_ d r l
  · intro r l; pointwise [val_main_v76]
  · intro r l
    rw [← grad_ref]
    unfold val_main_v77
    pointwise [val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_cst, val_main_cst_4, val_main_cst_5, val_main_cst_6, val_main_cst_7, val_main_cst_8, val_main_cst_9, val_main_cst_10, val_main_cst_11]
    rfl
  · intro j r l; pointwise [val_main_v78]

theorem first_ref (d : Fin 4) (r : Fin 704) (l : Fin 1024) : val_main_v83 (F := Ideal) x0 x1 x2 x3 x4 x5 x7 x11 (ix3 d r l)
    = put (fun d r l => x11 (ix3 d r l)) (fun r l => first (grad x0 x1 x2 x3 x4 x5 r l) (x7 (ix3 1 r l))) d r l := by
  unfold val_main_v83
  refine stacked x11 _ _ _ _ _ ?_ ?_ ?_ d r l
  · intro r l; pointwise [val_main_v80]
  · intro r l
    rw [← grad_ref]
    unfold val_main_v81
    pointwise [val_main_v48, val_main_v47, val_main_v46, val_main_v45, val_main_v44, val_main_v43, val_main_v42, val_main_cst, val_main_cst_4]
    rfl
  · intro j r l; pointwise [val_main_v82]

theorem second_ref (d : Fin 4) (r : Fin 704) (l : Fin 1024) : val_main_v87 (F := Ideal) x0 x1 x2 x3 x4 x5 x8 x12 (ix3 d r l)
    = put (fun d r l => x12 (ix3 d r l)) (fun r l => second (grad x0 x1 x2 x3 x4 x5 r l) (x8 (ix3 1 r l))) d r l := by
  unfold val_main_v87
  refine stacked x12 _ _ _ _ _ ?_ ?_ ?_ d r l
  · intro r l; pointwise [val_main_v84]
  · intro r l
    rw [← grad_ref]
    unfold val_main_v85
    pointwise [val_main_v56, val_main_v55, val_main_v54, val_main_v53, val_main_v52, val_main_v51, val_main_v50, val_main_v49, val_main_cst_5, val_main_cst_6]
    rfl
  · intro j r l; pointwise [val_main_v86]

end Ref

open Cert.ReduceAdamIdeal Cert.ReduceAdamIdeal.Gen

variable (m : (ℓ : Loc nD τ sig) → Buf (Elt Ideal) ℓ) (c : Dev nD)

theorem own_eq : own m c = Cert.ReduceAdamRefIdeal.Read.val_main_v18 (F := Ideal) (m ((c : Thread nD τ).loc main_arg0))
    (m ((c : Thread nD τ).loc main_arg3)) (m ((c : Thread nD τ).loc main_arg4)) (m ((c : Thread nD τ).loc main_arg5)) := by
  show V m c main_v18 = _
  entry_read
  rfl

theorem sib_eq : sib m c = Cert.ReduceAdamRefIdeal.Read.val_main_v31 (F := Ideal) (m ((c : Thread nD τ).loc main_arg1))
    (m ((c : Thread nD τ).loc main_arg3)) (m ((c : Thread nD τ).loc main_arg4)) := by
  show V m c main_v31 = _
  entry_read
  rfl

theorem got_eq (k : Fin 3) (r : Fin 704) (l : Fin 1024) : got m c (ix2 (sent k r) l) = m ((c : Thread nD τ).loc main_arg2) (ix3 k r l) := by
  have h : got m c = shapeCast S2112x1024 (m ((c : Thread nD τ).loc main_arg2)) shapeCasts_S3x704x1024_S2112x1024 := by
    show V m c main_v33 = _
    entry_read
    rfl
  rw [h]
  exact shapeCast_apply _ shapeCasts_S3x704x1024_S2112x1024 (ix2 (sent k r) l) (ix3 k r l)
    (by rw [Shape.rowMajor_val_three, Shape.rowMajor_val_two]; rfl)

/-- The kernel's gradient is the reference's. -/
theorem total_eq (r : Fin 704) (l : Fin 1024) : total m c r l
    = Ref.grad (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r l := by
  unfold total Ref.grad
  rw [own_eq, sib_eq, got_eq, got_eq, got_eq]

/-- The reference runs, keeps its arguments and leaves every counter at zero. -/
theorem frame_ref : Cert.quiescent_ReduceAdamRefIdeal :=
  fun m ρ _ => (θ_run _ _ _).mono (fun r h => ⟨fun c => (h c).2.2.2.2, sem_eq_zero_of_no_sems rfl _⟩) (Cert.ReduceAdamRefIdeal.Value.run (F := Ideal) m ρ)

/-- The two programs return the same stacks. -/
theorem value : Cert.algebraic_ReduceAdamIdeal_ReduceAdamRefIdeal := by
  intro m ρ m' ρ' hpre hag
  refine ⟨_, _, _, _, Cert.ReduceAdamIdeal.Value.run_blocks m ρ, (θ_run _ _ _).mono (fun r h c => ?_) (Cert.ReduceAdamRefIdeal.Value.run (F := Ideal) m' ρ')⟩
  obtain ⟨e0, e1, e2, e3, e4, e5, e6, e7, e8, e9, e10, e11, e12⟩ := hag c
  obtain ⟨r0, r1, r2, r3, k⟩ := h c
  have all (y : S4x704x1024.Idx) : ∃ (d : Fin 4) (r : Fin 704) (l : Fin 1024), y = ix3 d r l :=
    ⟨y 0, y 1, y 2, eq_ix3 (n0 := 4) (n1 := 704) (n2 := 1024) y⟩
  refine ⟨r0.trans ?_, r1.trans ?_, r2.trans ?_, r3.trans ?_, k⟩
  · rw [Cert.ReduceAdamRefIdeal.Read.val_main_v75_eq]
    funext y
    obtain ⟨d, r, l, rfl⟩ := all y
    rw [Ref.sum_ref, sum_stack, e0, e1, e2, e3, e4, e5, e9]
    simp only [total_eq]
  · rw [Cert.ReduceAdamRefIdeal.Read.val_main_v79_eq]
    funext y
    obtain ⟨d, r, l, rfl⟩ := all y
    rw [Ref.change_ref, change_stack, e0, e1, e2, e3, e4, e5, e6, e7, e8, e10]
    simp only [total_eq]
  · rw [Cert.ReduceAdamRefIdeal.Read.val_main_v83_eq]
    funext y
    obtain ⟨d, r, l, rfl⟩ := all y
    rw [Ref.first_ref, first_stack, e0, e1, e2, e3, e4, e5, e7, e11]
    simp only [total_eq]
  · rw [Cert.ReduceAdamRefIdeal.Read.val_main_v87_eq]
    funext y
    obtain ⟨d, r, l, rfl⟩ := all y
    rw [Ref.second_ref, second_stack, e0, e1, e2, e3, e4, e5, e8, e12]
    simp only [total_eq]

end Cert.Proof.ReduceAdam

end
-- ==== Proof.lean ====
/- Hand-written, untrusted: the certificate's claims, from the modules that prove them call by call. -/
module

public import proofs.«01_k».proof.Defs
public import proofs.«01_k».proof.Proof.Gen.LossBwd.Frame
public import proofs.«01_k».proof.Proof.Gen.LossBwdIdeal.Frame
public import proofs.«01_k».proof.Proof.Gen.LossBwdIdeal.Value
public import proofs.«01_k».proof.Proof.Gen.LossRefIdeal.Run
public import proofs.«01_k».proof.Proof.Gen.LossRefIdeal.Read
public import proofs.«01_k».proof.Proof.Gen.FfnBwd.Frame
public import proofs.«01_k».proof.Proof.Gen.FfnBwdIdeal.Frame
public import proofs.«01_k».proof.Proof.Gen.FfnRefIdeal.Run
public import proofs.«01_k».proof.Proof.Gen.FfnRefIdeal.Read
public import proofs.«01_k».proof.Proof.Gen.InprojBwd.Frame
public import proofs.«01_k».proof.Proof.Gen.InprojBwdIdeal.Frame
public import proofs.«01_k».proof.Proof.Gen.InprojBwdIdeal.Value
public import proofs.«01_k».proof.Proof.Gen.InprojRefIdeal.Run
public import proofs.«01_k».proof.Proof.Gen.InprojRefIdeal.Read
public import proofs.«01_k».proof.Proof.Gen.FfninBwd.Frame
public import proofs.«01_k».proof.Proof.Gen.FfninBwdIdeal.Frame
public import proofs.«01_k».proof.Proof.Gen.FfninBwdIdeal.Value
public import proofs.«01_k».proof.Proof.Gen.FfninRefIdeal.Run
public import proofs.«01_k».proof.Proof.Gen.FfninRefIdeal.Read
public import proofs.«01_k».proof.Proof.Gen.OutprojBwd.Frame
public import proofs.«01_k».proof.Proof.Gen.OutprojBwdIdeal.Frame
public import proofs.«01_k».proof.Proof.Gen.OutprojRefIdeal.Run
public import proofs.«01_k».proof.Proof.Gen.OutprojRefIdeal.Read
public import proofs.«01_k».proof.Proof.Gen.Stage2Bwd.Frame
public import proofs.«01_k».proof.Proof.Gen.Stage2BwdIdeal.Frame
public import proofs.«01_k».proof.Proof.Gen.Stage2BwdIdeal.Value
public import proofs.«01_k».proof.Proof.Gen.Stage2RefIdeal.Run
public import proofs.«01_k».proof.Proof.Gen.Stage2RefIdeal.Read
public import proofs.«01_k».proof.Proof.Gen.ConvBwd.Frame
public import proofs.«01_k».proof.Proof.Gen.ConvBwdIdeal.Frame
public import proofs.«01_k».proof.Proof.Gen.ConvRefIdeal.Run
public import proofs.«01_k».proof.Proof.Gen.ConvRefIdeal.Read
public import proofs.«01_k».proof.Proof.Gen.NormIn.Frame
public import proofs.«01_k».proof.Proof.Gen.NormInIdeal.Frame
public import proofs.«01_k».proof.Proof.Gen.NormInIdeal.Value
public import proofs.«01_k».proof.Proof.Gen.NormInRefIdeal.Run
public import proofs.«01_k».proof.Proof.Gen.NormInRefIdeal.Read
public import proofs.«01_k».proof.Proof.Gen.NormFf.Frame
public import proofs.«01_k».proof.Proof.Gen.NormFfIdeal.Frame
public import proofs.«01_k».proof.Proof.Gen.NormFfIdeal.Value
public import proofs.«01_k».proof.Proof.Gen.NormFfRefIdeal.Run
public import proofs.«01_k».proof.Proof.Gen.NormFfRefIdeal.Read
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.Gen.Mixer.Frame
public import proofs.«01_k».proof.Proof.Gen.MixerIdeal.Frame
public import proofs.«01_k».proof.Proof.Gen.MixerIdeal.Value
public import proofs.«01_k».proof.Proof.Gen.MixerRefIdeal.Run
public import proofs.«01_k».proof.Proof.Gen.MixerRefIdeal.Read
public import proofs.«01_k».proof.Proof.Gen.Gates.Frame
public import proofs.«01_k».proof.Proof.Gen.GatesIdeal.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.AdamLayer.Frame
public import proofs.«01_k».proof.Proof.Gen.AdamLayerIdeal.Frame
public import proofs.«01_k».proof.Proof.Gen.AdamLayerIdeal.Value
public import proofs.«01_k».proof.Proof.Gen.AdamLayerRefIdeal.Run
public import proofs.«01_k».proof.Proof.Gen.AdamLayerRefIdeal.Read
public import proofs.«01_k».proof.Proof.Gen.Wgrad.Frame
public import proofs.«01_k».proof.Proof.Gen.WgradIdeal.Frame
public import proofs.«01_k».proof.Proof.Gen.WgradIdeal.Value
public import proofs.«01_k».proof.Proof.Gen.WgradRefIdeal.Run
public import proofs.«01_k».proof.Proof.Gen.WgradRefIdeal.Read
public import proofs.«01_k».proof.Proof.Gen.Wgin.Frame
public import proofs.«01_k».proof.Proof.Gen.WginIdeal.Frame
public import proofs.«01_k».proof.Proof.Gen.WginIdeal.Value
public import proofs.«01_k».proof.Proof.Gen.WginRefIdeal.Run
public import proofs.«01_k».proof.Proof.Gen.WginRefIdeal.Read
public import proofs.«01_k».proof.Proof.Gen.ReduceSum.Frame
public import proofs.«01_k».proof.Proof.Gen.ReduceSumIdeal.Frame
public import proofs.«01_k».proof.Proof.Gen.ReduceSumIdeal.Value
public import proofs.«01_k».proof.Proof.Gen.ReduceSumRefIdeal.Run
public import proofs.«01_k».proof.Proof.Gen.ReduceSumRefIdeal.Read
public import proofs.«01_k».proof.Proof.Gen.PairAdd.Frame
public import proofs.«01_k».proof.Proof.Gen.PairAddIdeal.Frame
public import proofs.«01_k».proof.Proof.Gen.PairAddIdeal.Value
public import proofs.«01_k».proof.Proof.Gen.PairAddRefIdeal.Run
public import proofs.«01_k».proof.Proof.Gen.PairAddRefIdeal.Read
public import proofs.«01_k».proof.Proof.Gen.ReduceAdam.Frame
public import proofs.«01_k».proof.Proof.Gen.ReduceAdamIdeal.Frame
public import proofs.«01_k».proof.Proof.Gen.ReduceAdamIdeal.Value
public import proofs.«01_k».proof.Proof.Gen.ReduceAdamRefIdeal.Run
public import proofs.«01_k».proof.Proof.Gen.ReduceAdamRefIdeal.Read
public import proofs.«01_k».proof.Proof.Gen.Pre_loss_finite
public import proofs.«01_k».proof.Proof.Gen.Pre_ffn_finite
public import proofs.«01_k».proof.Proof.Gen.Pre_inproj_finite
public import proofs.«01_k».proof.Proof.Gen.Pre_ffnin_finite
public import proofs.«01_k».proof.Proof.Gen.Pre_outproj_finite
public import proofs.«01_k».proof.Proof.Gen.Pre_stage2_finite
public import proofs.«01_k».proof.Proof.LossClaim
public import proofs.«01_k».proof.Proof.FfnClaim
public import proofs.«01_k».proof.Proof.InprojClaim
public import proofs.«01_k».proof.Proof.FfninClaim
public import proofs.«01_k».proof.Proof.OutprojClaim
public import proofs.«01_k».proof.Proof.Stage2Claim
public import proofs.«01_k».proof.Proof.ConvClaim
public import proofs.«01_k».proof.Proof.NormInClaim
public import proofs.«01_k».proof.Proof.NormFfClaim
public import proofs.«01_k».proof.Proof.FfnOutClaim
public import proofs.«01_k».proof.Proof.MixerClaim
public import proofs.«01_k».proof.Proof.GatesClaim
public import proofs.«01_k».proof.Proof.AdamClaim
public import proofs.«01_k».proof.Proof.AdamLayerClaim
public import proofs.«01_k».proof.Proof.WgradClaim
public import proofs.«01_k».proof.Proof.WginClaim
public import proofs.«01_k».proof.Proof.ReduceSumClaim
public import proofs.«01_k».proof.Proof.PairAddClaim
public import proofs.«01_k».proof.Proof.ReduceAdamClaim

@[expose] public section

namespace Cert.Proof

theorem claim : Cert.Claim :=
  ⟨Cert.LossBwd.Gen.facts, Cert.LossBwdIdeal.Gen.facts, Cert.LossRefIdeal.Gen.facts, Cert.FfnBwd.Gen.facts, Cert.FfnBwdIdeal.Gen.facts, Cert.FfnRefIdeal.Gen.facts, Cert.InprojBwd.Gen.facts, Cert.InprojBwdIdeal.Gen.facts, Cert.InprojRefIdeal.Gen.facts, Cert.FfninBwd.Gen.facts, Cert.FfninBwdIdeal.Gen.facts, Cert.FfninRefIdeal.Gen.facts, Cert.OutprojBwd.Gen.facts, Cert.OutprojBwdIdeal.Gen.facts, Cert.OutprojRefIdeal.Gen.facts, Cert.Stage2Bwd.Gen.facts, Cert.Stage2BwdIdeal.Gen.facts, Cert.Stage2RefIdeal.Gen.facts, Cert.ConvBwd.Gen.facts, Cert.ConvBwdIdeal.Gen.facts, Cert.ConvRefIdeal.Gen.facts, Cert.NormIn.Gen.facts, Cert.NormInIdeal.Gen.facts, Cert.NormInRefIdeal.Gen.facts, Cert.NormFf.Gen.facts, Cert.NormFfIdeal.Gen.facts, Cert.NormFfRefIdeal.Gen.facts, Cert.FfnOut.Gen.facts, Cert.FfnOutIdeal.Gen.facts, Cert.FfnOutRefIdeal.Gen.facts, Cert.Mixer.Gen.facts, Cert.MixerIdeal.Gen.facts, Cert.MixerRefIdeal.Gen.facts, Cert.Gates.Gen.facts, Cert.GatesIdeal.Gen.facts, Cert.GatesRefIdeal.Gen.facts, Cert.Adam.Gen.facts, Cert.AdamIdeal.Gen.facts, Cert.AdamRefIdeal.Gen.facts, Cert.AdamLayer.Gen.facts, Cert.AdamLayerIdeal.Gen.facts, Cert.AdamLayerRefIdeal.Gen.facts, Cert.Wgrad.Gen.facts, Cert.WgradIdeal.Gen.facts, Cert.WgradRefIdeal.Gen.facts, Cert.Wgin.Gen.facts, Cert.WginIdeal.Gen.facts, Cert.WginRefIdeal.Gen.facts, Cert.ReduceSum.Gen.facts, Cert.ReduceSumIdeal.Gen.facts, Cert.ReduceSumRefIdeal.Gen.facts, Cert.PairAdd.Gen.facts, Cert.PairAddIdeal.Gen.facts, Cert.PairAddRefIdeal.Gen.facts, Cert.ReduceAdam.Gen.facts, Cert.ReduceAdamIdeal.Gen.facts, Cert.ReduceAdamRefIdeal.Gen.facts, Cert.Pre_loss_finite.Gen.facts, Cert.Pre_ffn_finite.Gen.facts, Cert.Pre_inproj_finite.Gen.facts, Cert.Pre_ffnin_finite.Gen.facts, Cert.Pre_outproj_finite.Gen.facts, Cert.Pre_stage2_finite.Gen.facts,
    fun m ρ _ => Cert.LossBwd.Gen.frame m ρ,
    fun m ρ _ => Cert.LossBwdIdeal.Gen.frame m ρ,
    fun m ρ _ => Cert.LossBwdIdeal.Gen.frame m ρ,
    fun m ρ _ => Loss.frame_ref m ρ trivial,
    fun m ρ _ => Loss.frame_ref m ρ trivial,
    fun m ρ _ => Cert.FfnBwd.Gen.frame m ρ,
    fun m ρ _ => Cert.FfnBwdIdeal.Gen.frame m ρ,
    fun m ρ _ => Cert.FfnBwdIdeal.Gen.frame m ρ,
    fun m ρ _ => Ffn.frame_ref m ρ trivial,
    fun m ρ _ => Ffn.frame_ref m ρ trivial,
    fun m ρ _ => Cert.InprojBwd.Gen.frame m ρ,
    fun m ρ _ => Cert.InprojBwdIdeal.Gen.frame m ρ,
    fun m ρ _ => Cert.InprojBwdIdeal.Gen.frame m ρ,
    fun m ρ _ => Inproj.frame_ref m ρ trivial,
    fun m ρ _ => Inproj.frame_ref m ρ trivial,
    fun m ρ _ => Cert.FfninBwd.Gen.frame m ρ,
    fun m ρ _ => Cert.FfninBwdIdeal.Gen.frame m ρ,
    fun m ρ _ => Cert.FfninBwdIdeal.Gen.frame m ρ,
    fun m ρ _ => Ffnin.frame_ref m ρ trivial,
    fun m ρ _ => Ffnin.frame_ref m ρ trivial,
    fun m ρ _ => Cert.OutprojBwd.Gen.frame m ρ,
    fun m ρ _ => Cert.OutprojBwdIdeal.Gen.frame m ρ,
    fun m ρ _ => Cert.OutprojBwdIdeal.Gen.frame m ρ,
    fun m ρ _ => Outproj.frame_ref m ρ trivial,
    fun m ρ _ => Outproj.frame_ref m ρ trivial,
    fun m ρ _ => Cert.Stage2Bwd.Gen.frame m ρ,
    fun m ρ _ => Cert.Stage2BwdIdeal.Gen.frame m ρ,
    fun m ρ _ => Cert.Stage2BwdIdeal.Gen.frame m ρ,
    fun m ρ _ => Stage2.frame_ref m ρ trivial,
    fun m ρ _ => Stage2.frame_ref m ρ trivial,
    fun m ρ _ => Cert.ConvBwd.Gen.frame m ρ,
    fun m ρ _ => Cert.ConvBwdIdeal.Gen.frame m ρ,
    fun m ρ _ => Conv.frame_ref m ρ trivial,
    fun m ρ _ => Cert.NormIn.Gen.frame m ρ,
    fun m ρ _ => Cert.NormInIdeal.Gen.frame m ρ,
    fun m ρ _ => NormIn.frame_ref m ρ trivial,
    fun m ρ _ => Cert.NormFf.Gen.frame m ρ,
    fun m ρ _ => Cert.NormFfIdeal.Gen.frame m ρ,
    fun m ρ _ => NormFf.frame_ref m ρ trivial,
    fun m ρ _ => Cert.FfnOut.Gen.frame m ρ,
    fun m ρ _ => Cert.FfnOutIdeal.Gen.frame m ρ,
    fun m ρ _ => FfnOut.frame_ref m ρ trivial,
    fun m ρ _ => Cert.Mixer.Gen.frame m ρ,
    fun m ρ _ => Cert.MixerIdeal.Gen.frame m ρ,
    fun m ρ _ => Mixer.frame_ref m ρ trivial,
    fun m ρ _ => Cert.Gates.Gen.frame m ρ,
    fun m ρ _ => Cert.GatesIdeal.Gen.frame m ρ,
    fun m ρ _ => Gates.frame_ref m ρ trivial,
    fun m ρ _ => Cert.Adam.Gen.frame m ρ,
    fun m ρ _ => Cert.AdamIdeal.Gen.frame m ρ,
    fun m ρ _ => Adam.frame_ref m ρ trivial,
    fun m ρ _ => Cert.AdamLayer.Gen.frame m ρ,
    fun m ρ _ => Cert.AdamLayerIdeal.Gen.frame m ρ,
    fun m ρ _ => AdamLayer.frame_ref m ρ trivial,
    fun m ρ _ => Cert.Wgrad.Gen.frame m ρ,
    fun m ρ _ => Cert.WgradIdeal.Gen.frame m ρ,
    fun m ρ _ => Wgrad.frame_ref m ρ trivial,
    fun m ρ _ => Cert.Wgin.Gen.frame m ρ,
    fun m ρ _ => Cert.WginIdeal.Gen.frame m ρ,
    fun m ρ _ => Wgin.frame_ref m ρ trivial,
    fun m ρ _ => Cert.ReduceSum.Gen.frame m ρ,
    fun m ρ _ => Cert.ReduceSumIdeal.Gen.frame m ρ,
    fun m ρ _ => ReduceSum.frame_ref m ρ trivial,
    fun m ρ _ => Cert.PairAdd.Gen.frame m ρ,
    fun m ρ _ => Cert.PairAddIdeal.Gen.frame m ρ,
    fun m ρ _ => PairAdd.frame_ref m ρ trivial,
    fun m ρ _ => Cert.ReduceAdam.Gen.frame m ρ,
    fun m ρ _ => Cert.ReduceAdamIdeal.Gen.frame m ρ,
    fun m ρ _ => ReduceAdam.frame_ref m ρ trivial,
    trivial,
    Loss.value,
    trivial,
    Ffn.value,
    trivial,
    Inproj.value,
    trivial,
    Ffnin.value,
    trivial,
    Outproj.value,
    trivial,
    Stage2.value,
    trivial,
    trivial,
    NormIn.value,
    trivial,
    NormFf.value,
    trivial,
    FfnOut.value,
    trivial,
    Mixer.value,
    trivial,
    Gates.value,
    trivial,
    Adam.value,
    trivial,
    AdamLayer.value,
    trivial,
    Wgrad.value,
    trivial,
    Wgin.value,
    trivial,
    ReduceSum.value,
    trivial,
    PairAdd.value,
    trivial,
    ReduceAdam.value⟩

end Cert.Proof
